-- ==== Defs.lean ====
def Pre_FfnDownKernel (m : (ℓ : Loc Cert.FfnDownKernel.nD Cert.FfnDownKernel.τ Cert.FfnDownKernel.sig) → Buf (Elt Bits) ℓ) : Prop :=
  True

def Pre_FfnDownKernelIdeal (m : (ℓ : Loc Cert.FfnDownKernelIdeal.nD Cert.FfnDownKernelIdeal.τ Cert.FfnDownKernelIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_FlashKernel (m : (ℓ : Loc Cert.FlashKernel.nD Cert.FlashKernel.τ Cert.FlashKernel.sig) → Buf (Elt Bits) ℓ) : Prop :=
  True

def Pre_FlashKernelIdeal (m : (ℓ : Loc Cert.FlashKernelIdeal.nD Cert.FlashKernelIdeal.τ Cert.FlashKernelIdeal.sig) → Buf (Elt Ideal) ℓ) : Prop :=
  True

def Pre_FlashKernelIdeal_finite_flash [hPre_finite_flash : Cert.Pre_finite_flash.Facts] (m : (ℓ : Loc Cert.FlashKernelIdeal.nD Cert.FlashKernelIdeal.τ Cert.FlashKernelIdeal.sig) → Buf (Elt Ideal) ℓ) : Prop :=
  ∀ c : Dev Cert.FlashKernelIdeal.nD,
    (Cert.Pre_finite_flash.fn (F := Ideal) (m ((c.tc : Thread Cert.FlashKernelIdeal.nD Cert.FlashKernelIdeal.τ).loc Cert.FlashKernelIdeal.main_arg0)) (m ((c.tc : Thread Cert.FlashKernelIdeal.nD Cert.FlashKernelIdeal.τ).loc Cert.FlashKernelIdeal.main_arg1)) (m ((c.tc : Thread Cert.FlashKernelIdeal.nD Cert.FlashKernelIdeal.τ).loc Cert.FlashKernelIdeal.main_arg2)) (m ((c.tc : Thread Cert.FlashKernelIdeal.nD Cert.FlashKernelIdeal.τ).loc Cert.FlashKernelIdeal.main_arg3))).1 = (fun _ => 1#1)
    ∧ (Cert.Pre_finite_flash.fn (F := Ideal) (m ((c.tc : Thread Cert.FlashKernelIdeal.nD Cert.FlashKernelIdeal.τ).loc Cert.FlashKernelIdeal.main_arg0)) (m ((c.tc : Thread Cert.FlashKernelIdeal.nD Cert.FlashKernelIdeal.τ).loc Cert.FlashKernelIdeal.main_arg1)) (m ((c.tc : Thread Cert.FlashKernelIdeal.nD Cert.FlashKernelIdeal.τ).loc Cert.FlashKernelIdeal.main_arg2)) (m ((c.tc : Thread Cert.FlashKernelIdeal.nD Cert.FlashKernelIdeal.τ).loc Cert.FlashKernelIdeal.main_arg3))).2.1 = (fun _ => 1#1)
    ∧ (Cert.Pre_finite_flash.fn (F := Ideal) (m ((c.tc : Thread Cert.FlashKernelIdeal.nD Cert.FlashKernelIdeal.τ).loc Cert.FlashKernelIdeal.main_arg0)) (m ((c.tc : Thread Cert.FlashKernelIdeal.nD Cert.FlashKernelIdeal.τ).loc Cert.FlashKernelIdeal.main_arg1)) (m ((c.tc : Thread Cert.FlashKernelIdeal.nD Cert.FlashKernelIdeal.τ).loc Cert.FlashKernelIdeal.main_arg2)) (m ((c.tc : Thread Cert.FlashKernelIdeal.nD Cert.FlashKernelIdeal.τ).loc Cert.FlashKernelIdeal.main_arg3))).2.2.1 = (fun _ => 1#1)
    ∧ (Cert.Pre_finite_flash.fn (F := Ideal) (m ((c.tc : Thread Cert.FlashKernelIdeal.nD Cert.FlashKernelIdeal.τ).loc Cert.FlashKernelIdeal.main_arg0)) (m ((c.tc : Thread Cert.FlashKernelIdeal.nD Cert.FlashKernelIdeal.τ).loc Cert.FlashKernelIdeal.main_arg1)) (m ((c.tc : Thread Cert.FlashKernelIdeal.nD Cert.FlashKernelIdeal.τ).loc Cert.FlashKernelIdeal.main_arg2)) (m ((c.tc : Thread Cert.FlashKernelIdeal.nD Cert.FlashKernelIdeal.τ).loc Cert.FlashKernelIdeal.main_arg3))).2.2.2 = (fun _ => 1#1)

def Pre_FlashReferenceIdeal (m : (ℓ : Loc Cert.FlashReferenceIdeal.nD Cert.FlashReferenceIdeal.τ Cert.FlashReferenceIdeal.sig) → Buf (Elt Ideal) ℓ) : Prop :=
  True

def Pre_FlashReferenceIdeal_finite_flash [hPre_finite_flash : Cert.Pre_finite_flash.Facts] (m : (ℓ : Loc Cert.FlashReferenceIdeal.nD Cert.FlashReferenceIdeal.τ Cert.FlashReferenceIdeal.sig) → Buf (Elt Ideal) ℓ) : Prop :=
  ∀ c : Dev Cert.FlashReferenceIdeal.nD,
    (Cert.Pre_finite_flash.fn (F := Ideal) (m ((c.tc : Thread Cert.FlashReferenceIdeal.nD Cert.FlashReferenceIdeal.τ).loc Cert.FlashReferenceIdeal.main_arg0)) (m ((c.tc : Thread Cert.FlashReferenceIdeal.nD Cert.FlashReferenceIdeal.τ).loc Cert.FlashReferenceIdeal.main_arg1)) (m ((c.tc : Thread Cert.FlashReferenceIdeal.nD Cert.FlashReferenceIdeal.τ).loc Cert.FlashReferenceIdeal.main_arg2)) (m ((c.tc : Thread Cert.FlashReferenceIdeal.nD Cert.FlashReferenceIdeal.τ).loc Cert.FlashReferenceIdeal.main_arg3))).1 = (fun _ => 1#1)
    ∧ (Cert.Pre_finite_flash.fn (F := Ideal) (m ((c.tc : Thread Cert.FlashReferenceIdeal.nD Cert.FlashReferenceIdeal.τ).loc Cert.FlashReferenceIdeal.main_arg0)) (m ((c.tc : Thread Cert.FlashReferenceIdeal.nD Cert.FlashReferenceIdeal.τ).loc Cert.FlashReferenceIdeal.main_arg1)) (m ((c.tc : Thread Cert.FlashReferenceIdeal.nD Cert.FlashReferenceIdeal.τ).loc Cert.FlashReferenceIdeal.main_arg2)) (m ((c.tc : Thread Cert.FlashReferenceIdeal.nD Cert.FlashReferenceIdeal.τ).loc Cert.FlashReferenceIdeal.main_arg3))).2.1 = (fun _ => 1#1)
    ∧ (Cert.Pre_finite_flash.fn (F := Ideal) (m ((c.tc : Thread Cert.FlashReferenceIdeal.nD Cert.FlashReferenceIdeal.τ).loc Cert.FlashReferenceIdeal.main_arg0)) (m ((c.tc : Thread Cert.FlashReferenceIdeal.nD Cert.FlashReferenceIdeal.τ).loc Cert.FlashReferenceIdeal.main_arg1)) (m ((c.tc : Thread Cert.FlashReferenceIdeal.nD Cert.FlashReferenceIdeal.τ).loc Cert.FlashReferenceIdeal.main_arg2)) (m ((c.tc : Thread Cert.FlashReferenceIdeal.nD Cert.FlashReferenceIdeal.τ).loc Cert.FlashReferenceIdeal.main_arg3))).2.2.1 = (fun _ => 1#1)
    ∧ (Cert.Pre_finite_flash.fn (F := Ideal) (m ((c.tc : Thread Cert.FlashReferenceIdeal.nD Cert.FlashReferenceIdeal.τ).loc Cert.FlashReferenceIdeal.main_arg0)) (m ((c.tc : Thread Cert.FlashReferenceIdeal.nD Cert.FlashReferenceIdeal.τ).loc Cert.FlashReferenceIdeal.main_arg1)) (m ((c.tc : Thread Cert.FlashReferenceIdeal.nD Cert.FlashReferenceIdeal.τ).loc Cert.FlashReferenceIdeal.main_arg2)) (m ((c.tc : Thread Cert.FlashReferenceIdeal.nD Cert.FlashReferenceIdeal.τ).loc Cert.FlashReferenceIdeal.main_arg3))).2.2.2 = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_finite_loss [hPre_finite_loss : Cert.Pre_finite_loss.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_finite_loss.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))).1 = (fun _ => 1#1)
    ∧ (Cert.Pre_finite_loss.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))).2.1 = (fun _ => 1#1)
    ∧ (Cert.Pre_finite_loss.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))).2.2 = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_finite_loss [hPre_finite_loss : Cert.Pre_finite_loss.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2))).1 = (fun _ => 1#1)
    ∧ (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2))).2.1 = (fun _ => 1#1)
    ∧ (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2))).2.2 = (fun _ => 1#1)

def Pre_FfnUpKernel (m : (ℓ : Loc Cert.FfnUpKernel.nD Cert.FfnUpKernel.τ Cert.FfnUpKernel.sig) → Buf (Elt Bits) ℓ) : Prop :=
  True

def Pre_FfnUpKernelIdeal (m : (ℓ : Loc Cert.FfnUpKernelIdeal.nD Cert.FfnUpKernelIdeal.τ Cert.FfnUpKernelIdeal.sig) → Buf (Elt Ideal) ℓ) : Prop :=
  True

def Pre_FfnUpKernelIdeal_finite_ffnup [hPre_finite_ffnup : Cert.Pre_finite_ffnup.Facts] (m : (ℓ : Loc Cert.FfnUpKernelIdeal.nD Cert.FfnUpKernelIdeal.τ Cert.FfnUpKernelIdeal.sig) → Buf (Elt Ideal) ℓ) : Prop :=
  ∀ c : Dev Cert.FfnUpKernelIdeal.nD,
    (Cert.Pre_finite_ffnup.fn (F := Ideal) (m ((c.tc : Thread Cert.FfnUpKernelIdeal.nD Cert.FfnUpKernelIdeal.τ).loc Cert.FfnUpKernelIdeal.main_arg0)) (m ((c.tc : Thread Cert.FfnUpKernelIdeal.nD Cert.FfnUpKernelIdeal.τ).loc Cert.FfnUpKernelIdeal.main_arg1)) (m ((c.tc : Thread Cert.FfnUpKernelIdeal.nD Cert.FfnUpKernelIdeal.τ).loc Cert.FfnUpKernelIdeal.main_arg2)) (m ((c.tc : Thread Cert.FfnUpKernelIdeal.nD Cert.FfnUpKernelIdeal.τ).loc Cert.FfnUpKernelIdeal.main_arg3)) (m ((c.tc : Thread Cert.FfnUpKernelIdeal.nD Cert.FfnUpKernelIdeal.τ).loc Cert.FfnUpKernelIdeal.main_arg4))).1 = (fun _ => 1#1)
    ∧ (Cert.Pre_finite_ffnup.fn (F := Ideal) (m ((c.tc : Thread Cert.FfnUpKernelIdeal.nD Cert.FfnUpKernelIdeal.τ).loc Cert.FfnUpKernelIdeal.main_arg0)) (m ((c.tc : Thread Cert.FfnUpKernelIdeal.nD Cert.FfnUpKernelIdeal.τ).loc Cert.FfnUpKernelIdeal.main_arg1)) (m ((c.tc : Thread Cert.FfnUpKernelIdeal.nD Cert.FfnUpKernelIdeal.τ).loc Cert.FfnUpKernelIdeal.main_arg2)) (m ((c.tc : Thread Cert.FfnUpKernelIdeal.nD Cert.FfnUpKernelIdeal.τ).loc Cert.FfnUpKernelIdeal.main_arg3)) (m ((c.tc : Thread Cert.FfnUpKernelIdeal.nD Cert.FfnUpKernelIdeal.τ).loc Cert.FfnUpKernelIdeal.main_arg4))).2.1 = (fun _ => 1#1)
    ∧ (Cert.Pre_finite_ffnup.fn (F := Ideal) (m ((c.tc : Thread Cert.FfnUpKernelIdeal.nD Cert.FfnUpKernelIdeal.τ).loc Cert.FfnUpKernelIdeal.main_arg0)) (m ((c.tc : Thread Cert.FfnUpKernelIdeal.nD Cert.FfnUpKernelIdeal.τ).loc Cert.FfnUpKernelIdeal.main_arg1)) (m ((c.tc : Thread Cert.FfnUpKernelIdeal.nD Cert.FfnUpKernelIdeal.τ).loc Cert.FfnUpKernelIdeal.main_arg2)) (m ((c.tc : Thread Cert.FfnUpKernelIdeal.nD Cert.FfnUpKernelIdeal.τ).loc Cert.FfnUpKernelIdeal.main_arg3)) (m ((c.tc : Thread Cert.FfnUpKernelIdeal.nD Cert.FfnUpKernelIdeal.τ).loc Cert.FfnUpKernelIdeal.main_arg4))).2.2.1 = (fun _ => 1#1)
    ∧ (Cert.Pre_finite_ffnup.fn (F := Ideal) (m ((c.tc : Thread Cert.FfnUpKernelIdeal.nD Cert.FfnUpKernelIdeal.τ).loc Cert.FfnUpKernelIdeal.main_arg0)) (m ((c.tc : Thread Cert.FfnUpKernelIdeal.nD Cert.FfnUpKernelIdeal.τ).loc Cert.FfnUpKernelIdeal.main_arg1)) (m ((c.tc : Thread Cert.FfnUpKernelIdeal.nD Cert.FfnUpKernelIdeal.τ).loc Cert.FfnUpKernelIdeal.main_arg2)) (m ((c.tc : Thread Cert.FfnUpKernelIdeal.nD Cert.FfnUpKernelIdeal.τ).loc Cert.FfnUpKernelIdeal.main_arg3)) (m ((c.tc : Thread Cert.FfnUpKernelIdeal.nD Cert.FfnUpKernelIdeal.τ).loc Cert.FfnUpKernelIdeal.main_arg4))).2.2.2 = (fun _ => 1#1)

def Pre_FfnUpReferenceIdeal (m : (ℓ : Loc Cert.FfnUpReferenceIdeal.nD Cert.FfnUpReferenceIdeal.τ Cert.FfnUpReferenceIdeal.sig) → Buf (Elt Ideal) ℓ) : Prop :=
  True

def Pre_FfnUpReferenceIdeal_finite_ffnup [hPre_finite_ffnup : Cert.Pre_finite_ffnup.Facts] (m : (ℓ : Loc Cert.FfnUpReferenceIdeal.nD Cert.FfnUpReferenceIdeal.τ Cert.FfnUpReferenceIdeal.sig) → Buf (Elt Ideal) ℓ) : Prop :=
  ∀ c : Dev Cert.FfnUpReferenceIdeal.nD,
    (Cert.Pre_finite_ffnup.fn (F := Ideal) (m ((c.tc : Thread Cert.FfnUpReferenceIdeal.nD Cert.FfnUpReferenceIdeal.τ).loc Cert.FfnUpReferenceIdeal.main_arg0)) (m ((c.tc : Thread Cert.FfnUpReferenceIdeal.nD Cert.FfnUpReferenceIdeal.τ).loc Cert.FfnUpReferenceIdeal.main_arg1)) (m ((c.tc : Thread Cert.FfnUpReferenceIdeal.nD Cert.FfnUpReferenceIdeal.τ).loc Cert.FfnUpReferenceIdeal.main_arg2)) (m ((c.tc : Thread Cert.FfnUpReferenceIdeal.nD Cert.FfnUpReferenceIdeal.τ).loc Cert.FfnUpReferenceIdeal.main_arg3)) (m ((c.tc : Thread Cert.FfnUpReferenceIdeal.nD Cert.FfnUpReferenceIdeal.τ).loc Cert.FfnUpReferenceIdeal.main_arg4))).1 = (fun _ => 1#1)
    ∧ (Cert.Pre_finite_ffnup.fn (F := Ideal) (m ((c.tc : Thread Cert.FfnUpReferenceIdeal.nD Cert.FfnUpReferenceIdeal.τ).loc Cert.FfnUpReferenceIdeal.main_arg0)) (m ((c.tc : Thread Cert.FfnUpReferenceIdeal.nD Cert.FfnUpReferenceIdeal.τ).loc Cert.FfnUpReferenceIdeal.main_arg1)) (m ((c.tc : Thread Cert.FfnUpReferenceIdeal.nD Cert.FfnUpReferenceIdeal.τ).loc Cert.FfnUpReferenceIdeal.main_arg2)) (m ((c.tc : Thread Cert.FfnUpReferenceIdeal.nD Cert.FfnUpReferenceIdeal.τ).loc Cert.FfnUpReferenceIdeal.main_arg3)) (m ((c.tc : Thread Cert.FfnUpReferenceIdeal.nD Cert.FfnUpReferenceIdeal.τ).loc Cert.FfnUpReferenceIdeal.main_arg4))).2.1 = (fun _ => 1#1)
    ∧ (Cert.Pre_finite_ffnup.fn (F := Ideal) (m ((c.tc : Thread Cert.FfnUpReferenceIdeal.nD Cert.FfnUpReferenceIdeal.τ).loc Cert.FfnUpReferenceIdeal.main_arg0)) (m ((c.tc : Thread Cert.FfnUpReferenceIdeal.nD Cert.FfnUpReferenceIdeal.τ).loc Cert.FfnUpReferenceIdeal.main_arg1)) (m ((c.tc : Thread Cert.FfnUpReferenceIdeal.nD Cert.FfnUpReferenceIdeal.τ).loc Cert.FfnUpReferenceIdeal.main_arg2)) (m ((c.tc : Thread Cert.FfnUpReferenceIdeal.nD Cert.FfnUpReferenceIdeal.τ).loc Cert.FfnUpReferenceIdeal.main_arg3)) (m ((c.tc : Thread Cert.FfnUpReferenceIdeal.nD Cert.FfnUpReferenceIdeal.τ).loc Cert.FfnUpReferenceIdeal.main_arg4))).2.2.1 = (fun _ => 1#1)
    ∧ (Cert.Pre_finite_ffnup.fn (F := Ideal) (m ((c.tc : Thread Cert.FfnUpReferenceIdeal.nD Cert.FfnUpReferenceIdeal.τ).loc Cert.FfnUpReferenceIdeal.main_arg0)) (m ((c.tc : Thread Cert.FfnUpReferenceIdeal.nD Cert.FfnUpReferenceIdeal.τ).loc Cert.FfnUpReferenceIdeal.main_arg1)) (m ((c.tc : Thread Cert.FfnUpReferenceIdeal.nD Cert.FfnUpReferenceIdeal.τ).loc Cert.FfnUpReferenceIdeal.main_arg2)) (m ((c.tc : Thread Cert.FfnUpReferenceIdeal.nD Cert.FfnUpReferenceIdeal.τ).loc Cert.FfnUpReferenceIdeal.main_arg3)) (m ((c.tc : Thread Cert.FfnUpReferenceIdeal.nD Cert.FfnUpReferenceIdeal.τ).loc Cert.FfnUpReferenceIdeal.main_arg4))).2.2.2 = (fun _ => 1#1)

def Pre_SguKernel (m : (ℓ : Loc Cert.SguKernel.nD Cert.SguKernel.τ Cert.SguKernel.sig) → Buf (Elt Bits) ℓ) : Prop :=
  True

def Pre_SguKernelIdeal (m : (ℓ : Loc Cert.SguKernelIdeal.nD Cert.SguKernelIdeal.τ Cert.SguKernelIdeal.sig) → Buf (Elt Ideal) ℓ) : Prop :=
  True

def Pre_SguKernelIdeal_finite_sgu [hPre_finite_sgu : Cert.Pre_finite_sgu.Facts] (m : (ℓ : Loc Cert.SguKernelIdeal.nD Cert.SguKernelIdeal.τ Cert.SguKernelIdeal.sig) → Buf (Elt Ideal) ℓ) : Prop :=
  ∀ c : Dev Cert.SguKernelIdeal.nD,
    (Cert.Pre_finite_sgu.fn (F := Ideal) (m ((c.tc : Thread Cert.SguKernelIdeal.nD Cert.SguKernelIdeal.τ).loc Cert.SguKernelIdeal.main_arg0)) (m ((c.tc : Thread Cert.SguKernelIdeal.nD Cert.SguKernelIdeal.τ).loc Cert.SguKernelIdeal.main_arg1)) (m ((c.tc : Thread Cert.SguKernelIdeal.nD Cert.SguKernelIdeal.τ).loc Cert.SguKernelIdeal.main_arg2)) (m ((c.tc : Thread Cert.SguKernelIdeal.nD Cert.SguKernelIdeal.τ).loc Cert.SguKernelIdeal.main_arg3)) (m ((c.tc : Thread Cert.SguKernelIdeal.nD Cert.SguKernelIdeal.τ).loc Cert.SguKernelIdeal.main_arg4)) (m ((c.tc : Thread Cert.SguKernelIdeal.nD Cert.SguKernelIdeal.τ).loc Cert.SguKernelIdeal.main_arg5))).1 = (fun _ => 1#1)
    ∧ (Cert.Pre_finite_sgu.fn (F := Ideal) (m ((c.tc : Thread Cert.SguKernelIdeal.nD Cert.SguKernelIdeal.τ).loc Cert.SguKernelIdeal.main_arg0)) (m ((c.tc : Thread Cert.SguKernelIdeal.nD Cert.SguKernelIdeal.τ).loc Cert.SguKernelIdeal.main_arg1)) (m ((c.tc : Thread Cert.SguKernelIdeal.nD Cert.SguKernelIdeal.τ).loc Cert.SguKernelIdeal.main_arg2)) (m ((c.tc : Thread Cert.SguKernelIdeal.nD Cert.SguKernelIdeal.τ).loc Cert.SguKernelIdeal.main_arg3)) (m ((c.tc : Thread Cert.SguKernelIdeal.nD Cert.SguKernelIdeal.τ).loc Cert.SguKernelIdeal.main_arg4)) (m ((c.tc : Thread Cert.SguKernelIdeal.nD Cert.SguKernelIdeal.τ).loc Cert.SguKernelIdeal.main_arg5))).2.1 = (fun _ => 1#1)
    ∧ (Cert.Pre_finite_sgu.fn (F := Ideal) (m ((c.tc : Thread Cert.SguKernelIdeal.nD Cert.SguKernelIdeal.τ).loc Cert.SguKernelIdeal.main_arg0)) (m ((c.tc : Thread Cert.SguKernelIdeal.nD Cert.SguKernelIdeal.τ).loc Cert.SguKernelIdeal.main_arg1)) (m ((c.tc : Thread Cert.SguKernelIdeal.nD Cert.SguKernelIdeal.τ).loc Cert.SguKernelIdeal.main_arg2)) (m ((c.tc : Thread Cert.SguKernelIdeal.nD Cert.SguKernelIdeal.τ).loc Cert.SguKernelIdeal.main_arg3)) (m ((c.tc : Thread Cert.SguKernelIdeal.nD Cert.SguKernelIdeal.τ).loc Cert.SguKernelIdeal.main_arg4)) (m ((c.tc : Thread Cert.SguKernelIdeal.nD Cert.SguKernelIdeal.τ).loc Cert.SguKernelIdeal.main_arg5))).2.2.1 = (fun _ => 1#1)
    ∧ (Cert.Pre_finite_sgu.fn (F := Ideal) (m ((c.tc : Thread Cert.SguKernelIdeal.nD Cert.SguKernelIdeal.τ).loc Cert.SguKernelIdeal.main_arg0)) (m ((c.tc : Thread Cert.SguKernelIdeal.nD Cert.SguKernelIdeal.τ).loc Cert.SguKernelIdeal.main_arg1)) (m ((c.tc : Thread Cert.SguKernelIdeal.nD Cert.SguKernelIdeal.τ).loc Cert.SguKernelIdeal.main_arg2)) (m ((c.tc : Thread Cert.SguKernelIdeal.nD Cert.SguKernelIdeal.τ).loc Cert.SguKernelIdeal.main_arg3)) (m ((c.tc : Thread Cert.SguKernelIdeal.nD Cert.SguKernelIdeal.τ).loc Cert.SguKernelIdeal.main_arg4)) (m ((c.tc : Thread Cert.SguKernelIdeal.nD Cert.SguKernelIdeal.τ).loc Cert.SguKernelIdeal.main_arg5))).2.2.2.1 = (fun _ => 1#1)
    ∧ (Cert.Pre_finite_sgu.fn (F := Ideal) (m ((c.tc : Thread Cert.SguKernelIdeal.nD Cert.SguKernelIdeal.τ).loc Cert.SguKernelIdeal.main_arg0)) (m ((c.tc : Thread Cert.SguKernelIdeal.nD Cert.SguKernelIdeal.τ).loc Cert.SguKernelIdeal.main_arg1)) (m ((c.tc : Thread Cert.SguKernelIdeal.nD Cert.SguKernelIdeal.τ).loc Cert.SguKernelIdeal.main_arg2)) (m ((c.tc : Thread Cert.SguKernelIdeal.nD Cert.SguKernelIdeal.τ).loc Cert.SguKernelIdeal.main_arg3)) (m ((c.tc : Thread Cert.SguKernelIdeal.nD Cert.SguKernelIdeal.τ).loc Cert.SguKernelIdeal.main_arg4)) (m ((c.tc : Thread Cert.SguKernelIdeal.nD Cert.SguKernelIdeal.τ).loc Cert.SguKernelIdeal.main_arg5))).2.2.2.2.1 = (fun _ => 1#1)
    ∧ (Cert.Pre_finite_sgu.fn (F := Ideal) (m ((c.tc : Thread Cert.SguKernelIdeal.nD Cert.SguKernelIdeal.τ).loc Cert.SguKernelIdeal.main_arg0)) (m ((c.tc : Thread Cert.SguKernelIdeal.nD Cert.SguKernelIdeal.τ).loc Cert.SguKernelIdeal.main_arg1)) (m ((c.tc : Thread Cert.SguKernelIdeal.nD Cert.SguKernelIdeal.τ).loc Cert.SguKernelIdeal.main_arg2)) (m ((c.tc : Thread Cert.SguKernelIdeal.nD Cert.SguKernelIdeal.τ).loc Cert.SguKernelIdeal.main_arg3)) (m ((c.tc : Thread Cert.SguKernelIdeal.nD Cert.SguKernelIdeal.τ).loc Cert.SguKernelIdeal.main_arg4)) (m ((c.tc : Thread Cert.SguKernelIdeal.nD Cert.SguKernelIdeal.τ).loc Cert.SguKernelIdeal.main_arg5))).2.2.2.2.2 = (fun _ => 1#1)

def Pre_SguReferenceIdeal (m : (ℓ : Loc Cert.SguReferenceIdeal.nD Cert.SguReferenceIdeal.τ Cert.SguReferenceIdeal.sig) → Buf (Elt Ideal) ℓ) : Prop :=
  True

def Pre_SguReferenceIdeal_finite_sgu [hPre_finite_sgu : Cert.Pre_finite_sgu.Facts] (m : (ℓ : Loc Cert.SguReferenceIdeal.nD Cert.SguReferenceIdeal.τ Cert.SguReferenceIdeal.sig) → Buf (Elt Ideal) ℓ) : Prop :=
  ∀ c : Dev Cert.SguReferenceIdeal.nD,
    (Cert.Pre_finite_sgu.fn (F := Ideal) (m ((c.tc : Thread Cert.SguReferenceIdeal.nD Cert.SguReferenceIdeal.τ).loc Cert.SguReferenceIdeal.main_arg0)) (m ((c.tc : Thread Cert.SguReferenceIdeal.nD Cert.SguReferenceIdeal.τ).loc Cert.SguReferenceIdeal.main_arg1)) (m ((c.tc : Thread Cert.SguReferenceIdeal.nD Cert.SguReferenceIdeal.τ).loc Cert.SguReferenceIdeal.main_arg2)) (m ((c.tc : Thread Cert.SguReferenceIdeal.nD Cert.SguReferenceIdeal.τ).loc Cert.SguReferenceIdeal.main_arg3)) (m ((c.tc : Thread Cert.SguReferenceIdeal.nD Cert.SguReferenceIdeal.τ).loc Cert.SguReferenceIdeal.main_arg4)) (m ((c.tc : Thread Cert.SguReferenceIdeal.nD Cert.SguReferenceIdeal.τ).loc Cert.SguReferenceIdeal.main_arg5))).1 = (fun _ => 1#1)
    ∧ (Cert.Pre_finite_sgu.fn (F := Ideal) (m ((c.tc : Thread Cert.SguReferenceIdeal.nD Cert.SguReferenceIdeal.τ).loc Cert.SguReferenceIdeal.main_arg0)) (m ((c.tc : Thread Cert.SguReferenceIdeal.nD Cert.SguReferenceIdeal.τ).loc Cert.SguReferenceIdeal.main_arg1)) (m ((c.tc : Thread Cert.SguReferenceIdeal.nD Cert.SguReferenceIdeal.τ).loc Cert.SguReferenceIdeal.main_arg2)) (m ((c.tc : Thread Cert.SguReferenceIdeal.nD Cert.SguReferenceIdeal.τ).loc Cert.SguReferenceIdeal.main_arg3)) (m ((c.tc : Thread Cert.SguReferenceIdeal.nD Cert.SguReferenceIdeal.τ).loc Cert.SguReferenceIdeal.main_arg4)) (m ((c.tc : Thread Cert.SguReferenceIdeal.nD Cert.SguReferenceIdeal.τ).loc Cert.SguReferenceIdeal.main_arg5))).2.1 = (fun _ => 1#1)
    ∧ (Cert.Pre_finite_sgu.fn (F := Ideal) (m ((c.tc : Thread Cert.SguReferenceIdeal.nD Cert.SguReferenceIdeal.τ).loc Cert.SguReferenceIdeal.main_arg0)) (m ((c.tc : Thread Cert.SguReferenceIdeal.nD Cert.SguReferenceIdeal.τ).loc Cert.SguReferenceIdeal.main_arg1)) (m ((c.tc : Thread Cert.SguReferenceIdeal.nD Cert.SguReferenceIdeal.τ).loc Cert.SguReferenceIdeal.main_arg2)) (m ((c.tc : Thread Cert.SguReferenceIdeal.nD Cert.SguReferenceIdeal.τ).loc Cert.SguReferenceIdeal.main_arg3)) (m ((c.tc : Thread Cert.SguReferenceIdeal.nD Cert.SguReferenceIdeal.τ).loc Cert.SguReferenceIdeal.main_arg4)) (m ((c.tc : Thread Cert.SguReferenceIdeal.nD Cert.SguReferenceIdeal.τ).loc Cert.SguReferenceIdeal.main_arg5))).2.2.1 = (fun _ => 1#1)
    ∧ (Cert.Pre_finite_sgu.fn (F := Ideal) (m ((c.tc : Thread Cert.SguReferenceIdeal.nD Cert.SguReferenceIdeal.τ).loc Cert.SguReferenceIdeal.main_arg0)) (m ((c.tc : Thread Cert.SguReferenceIdeal.nD Cert.SguReferenceIdeal.τ).loc Cert.SguReferenceIdeal.main_arg1)) (m ((c.tc : Thread Cert.SguReferenceIdeal.nD Cert.SguReferenceIdeal.τ).loc Cert.SguReferenceIdeal.main_arg2)) (m ((c.tc : Thread Cert.SguReferenceIdeal.nD Cert.SguReferenceIdeal.τ).loc Cert.SguReferenceIdeal.main_arg3)) (m ((c.tc : Thread Cert.SguReferenceIdeal.nD Cert.SguReferenceIdeal.τ).loc Cert.SguReferenceIdeal.main_arg4)) (m ((c.tc : Thread Cert.SguReferenceIdeal.nD Cert.SguReferenceIdeal.τ).loc Cert.SguReferenceIdeal.main_arg5))).2.2.2.1 = (fun _ => 1#1)
    ∧ (Cert.Pre_finite_sgu.fn (F := Ideal) (m ((c.tc : Thread Cert.SguReferenceIdeal.nD Cert.SguReferenceIdeal.τ).loc Cert.SguReferenceIdeal.main_arg0)) (m ((c.tc : Thread Cert.SguReferenceIdeal.nD Cert.SguReferenceIdeal.τ).loc Cert.SguReferenceIdeal.main_arg1)) (m ((c.tc : Thread Cert.SguReferenceIdeal.nD Cert.SguReferenceIdeal.τ).loc Cert.SguReferenceIdeal.main_arg2)) (m ((c.tc : Thread Cert.SguReferenceIdeal.nD Cert.SguReferenceIdeal.τ).loc Cert.SguReferenceIdeal.main_arg3)) (m ((c.tc : Thread Cert.SguReferenceIdeal.nD Cert.SguReferenceIdeal.τ).loc Cert.SguReferenceIdeal.main_arg4)) (m ((c.tc : Thread Cert.SguReferenceIdeal.nD Cert.SguReferenceIdeal.τ).loc Cert.SguReferenceIdeal.main_arg5))).2.2.2.2.1 = (fun _ => 1#1)
    ∧ (Cert.Pre_finite_sgu.fn (F := Ideal) (m ((c.tc : Thread Cert.SguReferenceIdeal.nD Cert.SguReferenceIdeal.τ).loc Cert.SguReferenceIdeal.main_arg0)) (m ((c.tc : Thread Cert.SguReferenceIdeal.nD Cert.SguReferenceIdeal.τ).loc Cert.SguReferenceIdeal.main_arg1)) (m ((c.tc : Thread Cert.SguReferenceIdeal.nD Cert.SguReferenceIdeal.τ).loc Cert.SguReferenceIdeal.main_arg2)) (m ((c.tc : Thread Cert.SguReferenceIdeal.nD Cert.SguReferenceIdeal.τ).loc Cert.SguReferenceIdeal.main_arg3)) (m ((c.tc : Thread Cert.SguReferenceIdeal.nD Cert.SguReferenceIdeal.τ).loc Cert.SguReferenceIdeal.main_arg4)) (m ((c.tc : Thread Cert.SguReferenceIdeal.nD Cert.SguReferenceIdeal.τ).loc Cert.SguReferenceIdeal.main_arg5))).2.2.2.2.2 = (fun _ => 1#1)

def Pre_MlaOKernel (m : (ℓ : Loc Cert.MlaOKernel.nD Cert.MlaOKernel.τ Cert.MlaOKernel.sig) → Buf (Elt Bits) ℓ) : Prop :=
  True

def Pre_MlaOKernelIdeal (m : (ℓ : Loc Cert.MlaOKernelIdeal.nD Cert.MlaOKernelIdeal.τ Cert.MlaOKernelIdeal.sig) → Buf (Elt Ideal) ℓ) : Prop :=
  True

def Pre_MlaOReferenceIdeal (m : (ℓ : Loc Cert.MlaOReferenceIdeal.nD Cert.MlaOReferenceIdeal.τ Cert.MlaOReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjKernelIdeal_finite_proj [hPre_finite_proj : Cert.Pre_finite_proj.Facts] (m : (ℓ : Loc Cert.ProjKernelIdeal.nD Cert.ProjKernelIdeal.τ Cert.ProjKernelIdeal.sig) → Buf (Elt Ideal) ℓ) : Prop :=
  ∀ c : Dev Cert.ProjKernelIdeal.nD,
    (Cert.Pre_finite_proj.fn (F := Ideal) (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)) (m ((c.tc : Thread Cert.ProjKernelIdeal.nD Cert.ProjKernelIdeal.τ).loc Cert.ProjKernelIdeal.main_arg2)) (m ((c.tc : Thread Cert.ProjKernelIdeal.nD Cert.ProjKernelIdeal.τ).loc Cert.ProjKernelIdeal.main_arg3)) (m ((c.tc : Thread Cert.ProjKernelIdeal.nD Cert.ProjKernelIdeal.τ).loc Cert.ProjKernelIdeal.main_arg4)) (m ((c.tc : Thread Cert.ProjKernelIdeal.nD Cert.ProjKernelIdeal.τ).loc Cert.ProjKernelIdeal.main_arg5)) (m ((c.tc : Thread Cert.ProjKernelIdeal.nD Cert.ProjKernelIdeal.τ).loc Cert.ProjKernelIdeal.main_arg6)) (m ((c.tc : Thread Cert.ProjKernelIdeal.nD Cert.ProjKernelIdeal.τ).loc Cert.ProjKernelIdeal.main_arg7)) (m ((c.tc : Thread Cert.ProjKernelIdeal.nD Cert.ProjKernelIdeal.τ).loc Cert.ProjKernelIdeal.main_arg8)) (m ((c.tc : Thread Cert.ProjKernelIdeal.nD Cert.ProjKernelIdeal.τ).loc Cert.ProjKernelIdeal.main_arg9)) (m ((c.tc : Thread Cert.ProjKernelIdeal.nD Cert.ProjKernelIdeal.τ).loc Cert.ProjKernelIdeal.main_arg10)) (m ((c.tc : Thread Cert.ProjKernelIdeal.nD Cert.ProjKernelIdeal.τ).loc Cert.ProjKernelIdeal.main_arg11))).1 = (fun _ => 1#1)
    ∧ (Cert.Pre_finite_proj.fn (F := Ideal) (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)) (m ((c.tc : Thread Cert.ProjKernelIdeal.nD Cert.ProjKernelIdeal.τ).loc Cert.ProjKernelIdeal.main_arg2)) (m ((c.tc : Thread Cert.ProjKernelIdeal.nD Cert.ProjKernelIdeal.τ).loc Cert.ProjKernelIdeal.main_arg3)) (m ((c.tc : Thread Cert.ProjKernelIdeal.nD Cert.ProjKernelIdeal.τ).loc Cert.ProjKernelIdeal.main_arg4)) (m ((c.tc : Thread Cert.ProjKernelIdeal.nD Cert.ProjKernelIdeal.τ).loc Cert.ProjKernelIdeal.main_arg5)) (m ((c.tc : Thread Cert.ProjKernelIdeal.nD Cert.ProjKernelIdeal.τ).loc Cert.ProjKernelIdeal.main_arg6)) (m ((c.tc : Thread Cert.ProjKernelIdeal.nD Cert.ProjKernelIdeal.τ).loc Cert.ProjKernelIdeal.main_arg7)) (m ((c.tc : Thread Cert.ProjKernelIdeal.nD Cert.ProjKernelIdeal.τ).loc Cert.ProjKernelIdeal.main_arg8)) (m ((c.tc : Thread Cert.ProjKernelIdeal.nD Cert.ProjKernelIdeal.τ).loc Cert.ProjKernelIdeal.main_arg9)) (m ((c.tc : Thread Cert.ProjKernelIdeal.nD Cert.ProjKernelIdeal.τ).loc Cert.ProjKernelIdeal.main_arg10)) (m ((c.tc : Thread Cert.ProjKernelIdeal.nD Cert.ProjKernelIdeal.τ).loc Cert.ProjKernelIdeal.main_arg11))).2.1 = (fun _ => 1#1)
    ∧ (Cert.Pre_finite_proj.fn (F := Ideal) (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)) (m ((c.tc : Thread Cert.ProjKernelIdeal.nD Cert.ProjKernelIdeal.τ).loc Cert.ProjKernelIdeal.main_arg2)) (m ((c.tc : Thread Cert.ProjKernelIdeal.nD Cert.ProjKernelIdeal.τ).loc Cert.ProjKernelIdeal.main_arg3)) (m ((c.tc : Thread Cert.ProjKernelIdeal.nD Cert.ProjKernelIdeal.τ).loc Cert.ProjKernelIdeal.main_arg4)) (m ((c.tc : Thread Cert.ProjKernelIdeal.nD Cert.ProjKernelIdeal.τ).loc Cert.ProjKernelIdeal.main_arg5)) (m ((c.tc : Thread Cert.ProjKernelIdeal.nD Cert.ProjKernelIdeal.τ).loc Cert.ProjKernelIdeal.main_arg6)) (m ((c.tc : Thread Cert.ProjKernelIdeal.nD Cert.ProjKernelIdeal.τ).loc Cert.ProjKernelIdeal.main_arg7)) (m ((c.tc : Thread Cert.ProjKernelIdeal.nD Cert.ProjKernelIdeal.τ).loc Cert.ProjKernelIdeal.main_arg8)) (m ((c.tc : Thread Cert.ProjKernelIdeal.nD Cert.ProjKernelIdeal.τ).loc Cert.ProjKernelIdeal.main_arg9)) (m ((c.tc : Thread Cert.ProjKernelIdeal.nD Cert.ProjKernelIdeal.τ).loc Cert.ProjKernelIdeal.main_arg10)) (m ((c.tc : Thread Cert.ProjKernelIdeal.nD Cert.ProjKernelIdeal.τ).loc Cert.ProjKernelIdeal.main_arg11))).2.2.1 = (fun _ => 1#1)
    ∧ (Cert.Pre_finite_proj.fn (F := Ideal) (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)) (m ((c.tc : Thread Cert.ProjKernelIdeal.nD Cert.ProjKernelIdeal.τ).loc Cert.ProjKernelIdeal.main_arg2)) (m ((c.tc : Thread Cert.ProjKernelIdeal.nD Cert.ProjKernelIdeal.τ).loc Cert.ProjKernelIdeal.main_arg3)) (m ((c.tc : Thread Cert.ProjKernelIdeal.nD Cert.ProjKernelIdeal.τ).loc Cert.ProjKernelIdeal.main_arg4)) (m ((c.tc : Thread Cert.ProjKernelIdeal.nD Cert.ProjKernelIdeal.τ).loc Cert.ProjKernelIdeal.main_arg5)) (m ((c.tc : Thread Cert.ProjKernelIdeal.nD Cert.ProjKernelIdeal.τ).loc Cert.ProjKernelIdeal.main_arg6)) (m ((c.tc : Thread Cert.ProjKernelIdeal.nD Cert.ProjKernelIdeal.τ).loc Cert.ProjKernelIdeal.main_arg7)) (m ((c.tc : Thread Cert.ProjKernelIdeal.nD Cert.ProjKernelIdeal.τ).loc Cert.ProjKernelIdeal.main_arg8)) (m ((c.tc : Thread Cert.ProjKernelIdeal.nD Cert.ProjKernelIdeal.τ).loc Cert.ProjKernelIdeal.main_arg9)) (m ((c.tc : Thread Cert.ProjKernelIdeal.nD Cert.ProjKernelIdeal.τ).loc Cert.ProjKernelIdeal.main_arg10)) (m ((c.tc : Thread Cert.ProjKernelIdeal.nD Cert.ProjKernelIdeal.τ).loc Cert.ProjKernelIdeal.main_arg11))).2.2.2.1 = (fun _ => 1#1)
    ∧ (Cert.Pre_finite_proj.fn (F := Ideal) (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)) (m ((c.tc : Thread Cert.ProjKernelIdeal.nD Cert.ProjKernelIdeal.τ).loc Cert.ProjKernelIdeal.main_arg2)) (m ((c.tc : Thread Cert.ProjKernelIdeal.nD Cert.ProjKernelIdeal.τ).loc Cert.ProjKernelIdeal.main_arg3)) (m ((c.tc : Thread Cert.ProjKernelIdeal.nD Cert.ProjKernelIdeal.τ).loc Cert.ProjKernelIdeal.main_arg4)) (m ((c.tc : Thread Cert.ProjKernelIdeal.nD Cert.ProjKernelIdeal.τ).loc Cert.ProjKernelIdeal.main_arg5)) (m ((c.tc : Thread Cert.ProjKernelIdeal.nD Cert.ProjKernelIdeal.τ).loc Cert.ProjKernelIdeal.main_arg6)) (m ((c.tc : Thread Cert.ProjKernelIdeal.nD Cert.ProjKernelIdeal.τ).loc Cert.ProjKernelIdeal.main_arg7)) (m ((c.tc : Thread Cert.ProjKernelIdeal.nD Cert.ProjKernelIdeal.τ).loc Cert.ProjKernelIdeal.main_arg8)) (m ((c.tc : Thread Cert.ProjKernelIdeal.nD Cert.ProjKernelIdeal.τ).loc Cert.ProjKernelIdeal.main_arg9)) (m ((c.tc : Thread Cert.ProjKernelIdeal.nD Cert.ProjKernelIdeal.τ).loc Cert.ProjKernelIdeal.main_arg10)) (m ((c.tc : Thread Cert.ProjKernelIdeal.nD Cert.ProjKernelIdeal.τ).loc Cert.ProjKernelIdeal.main_arg11))).2.2.2.2.1 = (fun _ => 1#1)
    ∧ (Cert.Pre_finite_proj.fn (F := Ideal) (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)) (m ((c.tc : Thread Cert.ProjKernelIdeal.nD Cert.ProjKernelIdeal.τ).loc Cert.ProjKernelIdeal.main_arg2)) (m ((c.tc : Thread Cert.ProjKernelIdeal.nD Cert.ProjKernelIdeal.τ).loc Cert.ProjKernelIdeal.main_arg3)) (m ((c.tc : Thread Cert.ProjKernelIdeal.nD Cert.ProjKernelIdeal.τ).loc Cert.ProjKernelIdeal.main_arg4)) (m ((c.tc : Thread Cert.ProjKernelIdeal.nD Cert.ProjKernelIdeal.τ).loc Cert.ProjKernelIdeal.main_arg5)) (m ((c.tc : Thread Cert.ProjKernelIdeal.nD Cert.ProjKernelIdeal.τ).loc Cert.ProjKernelIdeal.main_arg6)) (m ((c.tc : Thread Cert.ProjKernelIdeal.nD Cert.ProjKernelIdeal.τ).loc Cert.ProjKernelIdeal.main_arg7)) (m ((c.tc : Thread Cert.ProjKernelIdeal.nD Cert.ProjKernelIdeal.τ).loc Cert.ProjKernelIdeal.main_arg8)) (m ((c.tc : Thread Cert.ProjKernelIdeal.nD Cert.ProjKernelIdeal.τ).loc Cert.ProjKernelIdeal.main_arg9)) (m ((c.tc : Thread Cert.ProjKernelIdeal.nD Cert.ProjKernelIdeal.τ).loc Cert.ProjKernelIdeal.main_arg10)) (m ((c.tc : Thread Cert.ProjKernelIdeal.nD Cert.ProjKernelIdeal.τ).loc Cert.ProjKernelIdeal.main_arg11))).2.2.2.2.2.1 = (fun _ => 1#1)
    ∧ (Cert.Pre_finite_proj.fn (F := Ideal) (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)) (m ((c.tc : Thread Cert.ProjKernelIdeal.nD Cert.ProjKernelIdeal.τ).loc Cert.ProjKernelIdeal.main_arg2)) (m ((c.tc : Thread Cert.ProjKernelIdeal.nD Cert.ProjKernelIdeal.τ).loc Cert.ProjKernelIdeal.main_arg3)) (m ((c.tc : Thread Cert.ProjKernelIdeal.nD Cert.ProjKernelIdeal.τ).loc Cert.ProjKernelIdeal.main_arg4)) (m ((c.tc : Thread Cert.ProjKernelIdeal.nD Cert.ProjKernelIdeal.τ).loc Cert.ProjKernelIdeal.main_arg5)) (m ((c.tc : Thread Cert.ProjKernelIdeal.nD Cert.ProjKernelIdeal.τ).loc Cert.ProjKernelIdeal.main_arg6)) (m ((c.tc : Thread Cert.ProjKernelIdeal.nD Cert.ProjKernelIdeal.τ).loc Cert.ProjKernelIdeal.main_arg7)) (m ((c.tc : Thread Cert.ProjKernelIdeal.nD Cert.ProjKernelIdeal.τ).loc Cert.ProjKernelIdeal.main_arg8)) (m ((c.tc : Thread Cert.ProjKernelIdeal.nD Cert.ProjKernelIdeal.τ).loc Cert.ProjKernelIdeal.main_arg9)) (m ((c.tc : Thread Cert.ProjKernelIdeal.nD Cert.ProjKernelIdeal.τ).loc Cert.ProjKernelIdeal.main_arg10)) (m ((c.tc : Thread Cert.ProjKernelIdeal.nD Cert.ProjKernelIdeal.τ).loc Cert.ProjKernelIdeal.main_arg11))).2.2.2.2.2.2.1 = (fun _ => 1#1)
    ∧ (Cert.Pre_finite_proj.fn (F := Ideal) (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)) (m ((c.tc : Thread Cert.ProjKernelIdeal.nD Cert.ProjKernelIdeal.τ).loc Cert.ProjKernelIdeal.main_arg2)) (m ((c.tc : Thread Cert.ProjKernelIdeal.nD Cert.ProjKernelIdeal.τ).loc Cert.ProjKernelIdeal.main_arg3)) (m ((c.tc : Thread Cert.ProjKernelIdeal.nD Cert.ProjKernelIdeal.τ).loc Cert.ProjKernelIdeal.main_arg4)) (m ((c.tc : Thread Cert.ProjKernelIdeal.nD Cert.ProjKernelIdeal.τ).loc Cert.ProjKernelIdeal.main_arg5)) (m ((c.tc : Thread Cert.ProjKernelIdeal.nD Cert.ProjKernelIdeal.τ).loc Cert.ProjKernelIdeal.main_arg6)) (m ((c.tc : Thread Cert.ProjKernelIdeal.nD Cert.ProjKernelIdeal.τ).loc Cert.ProjKernelIdeal.main_arg7)) (m ((c.tc : Thread Cert.ProjKernelIdeal.nD Cert.ProjKernelIdeal.τ).loc Cert.ProjKernelIdeal.main_arg8)) (m ((c.tc : Thread Cert.ProjKernelIdeal.nD Cert.ProjKernelIdeal.τ).loc Cert.ProjKernelIdeal.main_arg9)) (m ((c.tc : Thread Cert.ProjKernelIdeal.nD Cert.ProjKernelIdeal.τ).loc Cert.ProjKernelIdeal.main_arg10)) (m ((c.tc : Thread Cert.ProjKernelIdeal.nD Cert.ProjKernelIdeal.τ).loc Cert.ProjKernelIdeal.main_arg11))).2.2.2.2.2.2.2.1 = (fun _ => 1#1)
    ∧ (Cert.Pre_finite_proj.fn (F := Ideal) (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)) (m ((c.tc : Thread Cert.ProjKernelIdeal.nD Cert.ProjKernelIdeal.τ).loc Cert.ProjKernelIdeal.main_arg2)) (m ((c.tc : Thread Cert.ProjKernelIdeal.nD Cert.ProjKernelIdeal.τ).loc Cert.ProjKernelIdeal.main_arg3)) (m ((c.tc : Thread Cert.ProjKernelIdeal.nD Cert.ProjKernelIdeal.τ).loc Cert.ProjKernelIdeal.main_arg4)) (m ((c.tc : Thread Cert.ProjKernelIdeal.nD Cert.ProjKernelIdeal.τ).loc Cert.ProjKernelIdeal.main_arg5)) (m ((c.tc : Thread Cert.ProjKernelIdeal.nD Cert.ProjKernelIdeal.τ).loc Cert.ProjKernelIdeal.main_arg6)) (m ((c.tc : Thread Cert.ProjKernelIdeal.nD Cert.ProjKernelIdeal.τ).loc Cert.ProjKernelIdeal.main_arg7)) (m ((c.tc : Thread Cert.ProjKernelIdeal.nD Cert.ProjKernelIdeal.τ).loc Cert.ProjKernelIdeal.main_arg8)) (m ((c.tc : Thread Cert.ProjKernelIdeal.nD Cert.ProjKernelIdeal.τ).loc Cert.ProjKernelIdeal.main_arg9)) (m ((c.tc : Thread Cert.ProjKernelIdeal.nD Cert.ProjKernelIdeal.τ).loc Cert.ProjKernelIdeal.main_arg10)) (m ((c.tc : Thread Cert.ProjKernelIdeal.nD Cert.ProjKernelIdeal.τ).loc Cert.ProjKernelIdeal.main_arg11))).2.2.2.2.2.2.2.2.1 = (fun _ => 1#1)
    ∧ (Cert.Pre_finite_proj.fn (F := Ideal) (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)) (m ((c.tc : Thread Cert.ProjKernelIdeal.nD Cert.ProjKernelIdeal.τ).loc Cert.ProjKernelIdeal.main_arg2)) (m ((c.tc : Thread Cert.ProjKernelIdeal.nD Cert.ProjKernelIdeal.τ).loc Cert.ProjKernelIdeal.main_arg3)) (m ((c.tc : Thread Cert.ProjKernelIdeal.nD Cert.ProjKernelIdeal.τ).loc Cert.ProjKernelIdeal.main_arg4)) (m ((c.tc : Thread Cert.ProjKernelIdeal.nD Cert.ProjKernelIdeal.τ).loc Cert.ProjKernelIdeal.main_arg5)) (m ((c.tc : Thread Cert.ProjKernelIdeal.nD Cert.ProjKernelIdeal.τ).loc Cert.ProjKernelIdeal.main_arg6)) (m ((c.tc : Thread Cert.ProjKernelIdeal.nD Cert.ProjKernelIdeal.τ).loc Cert.ProjKernelIdeal.main_arg7)) (m ((c.tc : Thread Cert.ProjKernelIdeal.nD Cert.ProjKernelIdeal.τ).loc Cert.ProjKernelIdeal.main_arg8)) (m ((c.tc : Thread Cert.ProjKernelIdeal.nD Cert.ProjKernelIdeal.τ).loc Cert.ProjKernelIdeal.main_arg9)) (m ((c.tc : Thread Cert.ProjKernelIdeal.nD Cert.ProjKernelIdeal.τ).loc Cert.ProjKernelIdeal.main_arg10)) (m ((c.tc : Thread Cert.ProjKernelIdeal.nD Cert.ProjKernelIdeal.τ).loc Cert.ProjKernelIdeal.main_arg11))).2.2.2.2.2.2.2.2.2 = (fun _ => 1#1)

def Pre_ProjReferenceIdeal (m : (ℓ : Loc Cert.ProjReferenceIdeal.nD Cert.ProjReferenceIdeal.τ Cert.ProjReferenceIdeal.sig) → Buf (Elt Ideal) ℓ) : Prop :=
  True

def Pre_ProjReferenceIdeal_finite_proj [hPre_finite_proj : Cert.Pre_finite_proj.Facts] (m : (ℓ : Loc Cert.ProjReferenceIdeal.nD Cert.ProjReferenceIdeal.τ Cert.ProjReferenceIdeal.sig) → Buf (Elt Ideal) ℓ) : Prop :=
  ∀ c : Dev Cert.ProjReferenceIdeal.nD,
    (Cert.Pre_finite_proj.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6)) (m ((c.tc : Thread Cert.ProjReferenceIdeal.nD Cert.ProjReferenceIdeal.τ).loc Cert.ProjReferenceIdeal.main_arg7)) (m ((c.tc : Thread Cert.ProjReferenceIdeal.nD Cert.ProjReferenceIdeal.τ).loc Cert.ProjReferenceIdeal.main_arg8)) (m ((c.tc : Thread Cert.ProjReferenceIdeal.nD Cert.ProjReferenceIdeal.τ).loc Cert.ProjReferenceIdeal.main_arg9)) (m ((c.tc : Thread Cert.ProjReferenceIdeal.nD Cert.ProjReferenceIdeal.τ).loc Cert.ProjReferenceIdeal.main_arg10)) (m ((c.tc : Thread Cert.ProjReferenceIdeal.nD Cert.ProjReferenceIdeal.τ).loc Cert.ProjReferenceIdeal.main_arg11))).1 = (fun _ => 1#1)
    ∧ (Cert.Pre_finite_proj.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6)) (m ((c.tc : Thread Cert.ProjReferenceIdeal.nD Cert.ProjReferenceIdeal.τ).loc Cert.ProjReferenceIdeal.main_arg7)) (m ((c.tc : Thread Cert.ProjReferenceIdeal.nD Cert.ProjReferenceIdeal.τ).loc Cert.ProjReferenceIdeal.main_arg8)) (m ((c.tc : Thread Cert.ProjReferenceIdeal.nD Cert.ProjReferenceIdeal.τ).loc Cert.ProjReferenceIdeal.main_arg9)) (m ((c.tc : Thread Cert.ProjReferenceIdeal.nD Cert.ProjReferenceIdeal.τ).loc Cert.ProjReferenceIdeal.main_arg10)) (m ((c.tc : Thread Cert.ProjReferenceIdeal.nD Cert.ProjReferenceIdeal.τ).loc Cert.ProjReferenceIdeal.main_arg11))).2.1 = (fun _ => 1#1)
    ∧ (Cert.Pre_finite_proj.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6)) (m ((c.tc : Thread Cert.ProjReferenceIdeal.nD Cert.ProjReferenceIdeal.τ).loc Cert.ProjReferenceIdeal.main_arg7)) (m ((c.tc : Thread Cert.ProjReferenceIdeal.nD Cert.ProjReferenceIdeal.τ).loc Cert.ProjReferenceIdeal.main_arg8)) (m ((c.tc : Thread Cert.ProjReferenceIdeal.nD Cert.ProjReferenceIdeal.τ).loc Cert.ProjReferenceIdeal.main_arg9)) (m ((c.tc : Thread Cert.ProjReferenceIdeal.nD Cert.ProjReferenceIdeal.τ).loc Cert.ProjReferenceIdeal.main_arg10)) (m ((c.tc : Thread Cert.ProjReferenceIdeal.nD Cert.ProjReferenceIdeal.τ).loc Cert.ProjReferenceIdeal.main_arg11))).2.2.1 = (fun _ => 1#1)
    ∧ (Cert.Pre_finite_proj.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6)) (m ((c.tc : Thread Cert.ProjReferenceIdeal.nD Cert.ProjReferenceIdeal.τ).loc Cert.ProjReferenceIdeal.main_arg7)) (m ((c.tc : Thread Cert.ProjReferenceIdeal.nD Cert.ProjReferenceIdeal.τ).loc Cert.ProjReferenceIdeal.main_arg8)) (m ((c.tc : Thread Cert.ProjReferenceIdeal.nD Cert.ProjReferenceIdeal.τ).loc Cert.ProjReferenceIdeal.main_arg9)) (m ((c.tc : Thread Cert.ProjReferenceIdeal.nD Cert.ProjReferenceIdeal.τ).loc Cert.ProjReferenceIdeal.main_arg10)) (m ((c.tc : Thread Cert.ProjReferenceIdeal.nD Cert.ProjReferenceIdeal.τ).loc Cert.ProjReferenceIdeal.main_arg11))).2.2.2.1 = (fun _ => 1#1)
    ∧ (Cert.Pre_finite_proj.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6)) (m ((c.tc : Thread Cert.ProjReferenceIdeal.nD Cert.ProjReferenceIdeal.τ).loc Cert.ProjReferenceIdeal.main_arg7)) (m ((c.tc : Thread Cert.ProjReferenceIdeal.nD Cert.ProjReferenceIdeal.τ).loc Cert.ProjReferenceIdeal.main_arg8)) (m ((c.tc : Thread Cert.ProjReferenceIdeal.nD Cert.ProjReferenceIdeal.τ).loc Cert.ProjReferenceIdeal.main_arg9)) (m ((c.tc : Thread Cert.ProjReferenceIdeal.nD Cert.ProjReferenceIdeal.τ).loc Cert.ProjReferenceIdeal.main_arg10)) (m ((c.tc : Thread Cert.ProjReferenceIdeal.nD Cert.ProjReferenceIdeal.τ).loc Cert.ProjReferenceIdeal.main_arg11))).2.2.2.2.1 = (fun _ => 1#1)
    ∧ (Cert.Pre_finite_proj.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6)) (m ((c.tc : Thread Cert.ProjReferenceIdeal.nD Cert.ProjReferenceIdeal.τ).loc Cert.ProjReferenceIdeal.main_arg7)) (m ((c.tc : Thread Cert.ProjReferenceIdeal.nD Cert.ProjReferenceIdeal.τ).loc Cert.ProjReferenceIdeal.main_arg8)) (m ((c.tc : Thread Cert.ProjReferenceIdeal.nD Cert.ProjReferenceIdeal.τ).loc Cert.ProjReferenceIdeal.main_arg9)) (m ((c.tc : Thread Cert.ProjReferenceIdeal.nD Cert.ProjReferenceIdeal.τ).loc Cert.ProjReferenceIdeal.main_arg10)) (m ((c.tc : Thread Cert.ProjReferenceIdeal.nD Cert.ProjReferenceIdeal.τ).loc Cert.ProjReferenceIdeal.main_arg11))).2.2.2.2.2.1 = (fun _ => 1#1)
    ∧ (Cert.Pre_finite_proj.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6)) (m ((c.tc : Thread Cert.ProjReferenceIdeal.nD Cert.ProjReferenceIdeal.τ).loc Cert.ProjReferenceIdeal.main_arg7)) (m ((c.tc : Thread Cert.ProjReferenceIdeal.nD Cert.ProjReferenceIdeal.τ).loc Cert.ProjReferenceIdeal.main_arg8)) (m ((c.tc : Thread Cert.ProjReferenceIdeal.nD Cert.ProjReferenceIdeal.τ).loc Cert.ProjReferenceIdeal.main_arg9)) (m ((c.tc : Thread Cert.ProjReferenceIdeal.nD Cert.ProjReferenceIdeal.τ).loc Cert.ProjReferenceIdeal.main_arg10)) (m ((c.tc : Thread Cert.ProjReferenceIdeal.nD Cert.ProjReferenceIdeal.τ).loc Cert.ProjReferenceIdeal.main_arg11))).2.2.2.2.2.2.1 = (fun _ => 1#1)
    ∧ (Cert.Pre_finite_proj.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6)) (m ((c.tc : Thread Cert.ProjReferenceIdeal.nD Cert.ProjReferenceIdeal.τ).loc Cert.ProjReferenceIdeal.main_arg7)) (m ((c.tc : Thread Cert.ProjReferenceIdeal.nD Cert.ProjReferenceIdeal.τ).loc Cert.ProjReferenceIdeal.main_arg8)) (m ((c.tc : Thread Cert.ProjReferenceIdeal.nD Cert.ProjReferenceIdeal.τ).loc Cert.ProjReferenceIdeal.main_arg9)) (m ((c.tc : Thread Cert.ProjReferenceIdeal.nD Cert.ProjReferenceIdeal.τ).loc Cert.ProjReferenceIdeal.main_arg10)) (m ((c.tc : Thread Cert.ProjReferenceIdeal.nD Cert.ProjReferenceIdeal.τ).loc Cert.ProjReferenceIdeal.main_arg11))).2.2.2.2.2.2.2.1 = (fun _ => 1#1)
    ∧ (Cert.Pre_finite_proj.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6)) (m ((c.tc : Thread Cert.ProjReferenceIdeal.nD Cert.ProjReferenceIdeal.τ).loc Cert.ProjReferenceIdeal.main_arg7)) (m ((c.tc : Thread Cert.ProjReferenceIdeal.nD Cert.ProjReferenceIdeal.τ).loc Cert.ProjReferenceIdeal.main_arg8)) (m ((c.tc : Thread Cert.ProjReferenceIdeal.nD Cert.ProjReferenceIdeal.τ).loc Cert.ProjReferenceIdeal.main_arg9)) (m ((c.tc : Thread Cert.ProjReferenceIdeal.nD Cert.ProjReferenceIdeal.τ).loc Cert.ProjReferenceIdeal.main_arg10)) (m ((c.tc : Thread Cert.ProjReferenceIdeal.nD Cert.ProjReferenceIdeal.τ).loc Cert.ProjReferenceIdeal.main_arg11))).2.2.2.2.2.2.2.2.1 = (fun _ => 1#1)
    ∧ (Cert.Pre_finite_proj.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6)) (m ((c.tc : Thread Cert.ProjReferenceIdeal.nD Cert.ProjReferenceIdeal.τ).loc Cert.ProjReferenceIdeal.main_arg7)) (m ((c.tc : Thread Cert.ProjReferenceIdeal.nD Cert.ProjReferenceIdeal.τ).loc Cert.ProjReferenceIdeal.main_arg8)) (m ((c.tc : Thread Cert.ProjReferenceIdeal.nD Cert.ProjReferenceIdeal.τ).loc Cert.ProjReferenceIdeal.main_arg9)) (m ((c.tc : Thread Cert.ProjReferenceIdeal.nD Cert.ProjReferenceIdeal.τ).loc Cert.ProjReferenceIdeal.main_arg10)) (m ((c.tc : Thread Cert.ProjReferenceIdeal.nD Cert.ProjReferenceIdeal.τ).loc Cert.ProjReferenceIdeal.main_arg11))).2.2.2.2.2.2.2.2.2 = (fun _ => 1#1)

def Pre_MlaKernel (m : (ℓ : Loc Cert.MlaKernel.nD Cert.MlaKernel.τ Cert.MlaKernel.sig) → Buf (Elt Bits) ℓ) : Prop :=
  True

def Pre_MlaKernelIdeal (m : (ℓ : Loc Cert.MlaKernelIdeal.nD Cert.MlaKernelIdeal.τ Cert.MlaKernelIdeal.sig) → Buf (Elt Ideal) ℓ) : Prop :=
  True

def Pre_MlaReferenceIdeal (m : (ℓ : Loc Cert.MlaReferenceIdeal.nD Cert.MlaReferenceIdeal.τ Cert.MlaReferenceIdeal.sig) → Buf (Elt Ideal) ℓ) : Prop :=
  True

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_ReluKernel (m : (ℓ : Loc Cert.ReluKernel.nD Cert.ReluKernel.τ Cert.ReluKernel.sig) → Buf (Elt Bits) ℓ) : Prop :=
  True

def Pre_ReluKernelIdeal (m : (ℓ : Loc Cert.ReluKernelIdeal.nD Cert.ReluKernelIdeal.τ Cert.ReluKernelIdeal.sig) → Buf (Elt Ideal) ℓ) : Prop :=
  True

def Pre_ReluReferenceIdeal (m : (ℓ : Loc Cert.ReluReferenceIdeal.nD Cert.ReluReferenceIdeal.τ Cert.ReluReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_AttnOKernel (m : (ℓ : Loc Cert.AttnOKernel.nD Cert.AttnOKernel.τ Cert.AttnOKernel.sig) → Buf (Elt Bits) ℓ) : Prop :=
  True

def Pre_AttnOKernelIdeal (m : (ℓ : Loc Cert.AttnOKernelIdeal.nD Cert.AttnOKernelIdeal.τ Cert.AttnOKernelIdeal.sig) → Buf (Elt Ideal) ℓ) : Prop :=
  True

def Pre_AttnOReferenceIdeal (m : (ℓ : Loc Cert.AttnOReferenceIdeal.nD Cert.AttnOReferenceIdeal.τ Cert.AttnOReferenceIdeal.sig) → Buf (Elt Ideal) ℓ) : Prop :=
  True

def quiescent_FfnDownKernel [hFfnDownKernel : Cert.FfnDownKernel.Facts] : Prop :=
  ∀ (m : (ℓ : Loc Cert.FfnDownKernel.nD Cert.FfnDownKernel.τ Cert.FfnDownKernel.sig) → Buf (Elt Bits) ℓ) (g : Dev Cert.FfnDownKernel.nD → PrngReg), Pre_FfnDownKernel m →
    θ_run (Cert.FfnDownKernel.defs (F := Bits)) (onTc (τ := Cert.FfnDownKernel.τ) (Cert.FfnDownKernel.main (F := Bits))) ⟨m, fun _ => 0, g⟩ (fun r => (∀ c : Dev Cert.FfnDownKernel.nD,
      r.2.mem ((c.tc : Thread Cert.FfnDownKernel.nD Cert.FfnDownKernel.τ).loc Cert.FfnDownKernel.main_arg0) = m ((c.tc : Thread Cert.FfnDownKernel.nD Cert.FfnDownKernel.τ).loc Cert.FfnDownKernel.main_arg0)
      ∧ r.2.mem ((c.tc : Thread Cert.FfnDownKernel.nD Cert.FfnDownKernel.τ).loc Cert.FfnDownKernel.main_arg1) = m ((c.tc : Thread Cert.FfnDownKernel.nD Cert.FfnDownKernel.τ).loc Cert.FfnDownKernel.main_arg1)
      ∧ r.2.mem ((c.tc : Thread Cert.FfnDownKernel.nD Cert.FfnDownKernel.τ).loc Cert.FfnDownKernel.main_arg2) = m ((c.tc : Thread Cert.FfnDownKernel.nD Cert.FfnDownKernel.τ).loc Cert.FfnDownKernel.main_arg2)
      ∧ r.2.mem ((c.tc : Thread Cert.FfnDownKernel.nD Cert.FfnDownKernel.τ).loc Cert.FfnDownKernel.main_arg3) = m ((c.tc : Thread Cert.FfnDownKernel.nD Cert.FfnDownKernel.τ).loc Cert.FfnDownKernel.main_arg3))
      ∧ r.2.sem = fun _ => 0)

def quiescent_FfnDownKernelIdeal [hFfnDownKernelIdeal : Cert.FfnDownKernelIdeal.Facts] : Prop :=
  ∀ (m : (ℓ : Loc Cert.FfnDownKernelIdeal.nD Cert.FfnDownKernelIdeal.τ Cert.FfnDownKernelIdeal.sig) → Buf (Elt Ideal) ℓ) (g : Dev Cert.FfnDownKernelIdeal.nD → PrngReg), Pre_FfnDownKernelIdeal m →
    θ_run (Cert.FfnDownKernelIdeal.defs (F := Ideal)) (onTc (τ := Cert.FfnDownKernelIdeal.τ) (Cert.FfnDownKernelIdeal.main (F := Ideal))) ⟨m, fun _ => 0, g⟩ (fun r => (∀ c : Dev Cert.FfnDownKernelIdeal.nD,
      r.2.mem ((c.tc : Thread Cert.FfnDownKernelIdeal.nD Cert.FfnDownKernelIdeal.τ).loc Cert.FfnDownKernelIdeal.main_arg0) = m ((c.tc : Thread Cert.FfnDownKernelIdeal.nD Cert.FfnDownKernelIdeal.τ).loc Cert.FfnDownKernelIdeal.main_arg0)
      ∧ r.2.mem ((c.tc : Thread Cert.FfnDownKernelIdeal.nD Cert.FfnDownKernelIdeal.τ).loc Cert.FfnDownKernelIdeal.main_arg1) = m ((c.tc : Thread Cert.FfnDownKernelIdeal.nD Cert.FfnDownKernelIdeal.τ).loc Cert.FfnDownKernelIdeal.main_arg1)
      ∧ r.2.mem ((c.tc : Thread Cert.FfnDownKernelIdeal.nD Cert.FfnDownKernelIdeal.τ).loc Cert.FfnDownKernelIdeal.main_arg2) = m ((c.tc : Thread Cert.FfnDownKernelIdeal.nD Cert.FfnDownKernelIdeal.τ).loc Cert.FfnDownKernelIdeal.main_arg2)
      ∧ r.2.mem ((c.tc : Thread Cert.FfnDownKernelIdeal.nD Cert.FfnDownKernelIdeal.τ).loc Cert.FfnDownKernelIdeal.main_arg3) = m ((c.tc : Thread Cert.FfnDownKernelIdeal.nD Cert.FfnDownKernelIdeal.τ).loc Cert.FfnDownKernelIdeal.main_arg3))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1)
      ∧ r.2.mem ((c.tc : Thread Cert.FfnDownReferenceIdeal.nD Cert.FfnDownReferenceIdeal.τ).loc Cert.FfnDownReferenceIdeal.main_arg2) = m ((c.tc : Thread Cert.FfnDownReferenceIdeal.nD Cert.FfnDownReferenceIdeal.τ).loc Cert.FfnDownReferenceIdeal.main_arg2)
      ∧ r.2.mem ((c.tc : Thread Cert.FfnDownReferenceIdeal.nD Cert.FfnDownReferenceIdeal.τ).loc Cert.FfnDownReferenceIdeal.main_arg3) = m ((c.tc : Thread Cert.FfnDownReferenceIdeal.nD Cert.FfnDownReferenceIdeal.τ).loc Cert.FfnDownReferenceIdeal.main_arg3))
      ∧ r.2.sem = fun _ => 0)

def quiescent_FlashKernel [hFlashKernel : Cert.FlashKernel.Facts] : Prop :=
  ∀ (m : (ℓ : Loc Cert.FlashKernel.nD Cert.FlashKernel.τ Cert.FlashKernel.sig) → Buf (Elt Bits) ℓ) (g : Dev Cert.FlashKernel.nD → PrngReg), Pre_FlashKernel m →
    θ_run (Cert.FlashKernel.defs (F := Bits)) (onTc (τ := Cert.FlashKernel.τ) (Cert.FlashKernel.main (F := Bits))) ⟨m, fun _ => 0, g⟩ (fun r => (∀ c : Dev Cert.FlashKernel.nD,
      r.2.mem ((c.tc : Thread Cert.FlashKernel.nD Cert.FlashKernel.τ).loc Cert.FlashKernel.main_arg0) = m ((c.tc : Thread Cert.FlashKernel.nD Cert.FlashKernel.τ).loc Cert.FlashKernel.main_arg0)
      ∧ r.2.mem ((c.tc : Thread Cert.FlashKernel.nD Cert.FlashKernel.τ).loc Cert.FlashKernel.main_arg1) = m ((c.tc : Thread Cert.FlashKernel.nD Cert.FlashKernel.τ).loc Cert.FlashKernel.main_arg1)
      ∧ r.2.mem ((c.tc : Thread Cert.FlashKernel.nD Cert.FlashKernel.τ).loc Cert.FlashKernel.main_arg2) = m ((c.tc : Thread Cert.FlashKernel.nD Cert.FlashKernel.τ).loc Cert.FlashKernel.main_arg2)
      ∧ r.2.mem ((c.tc : Thread Cert.FlashKernel.nD Cert.FlashKernel.τ).loc Cert.FlashKernel.main_arg3) = m ((c.tc : Thread Cert.FlashKernel.nD Cert.FlashKernel.τ).loc Cert.FlashKernel.main_arg3))
      ∧ r.2.sem = fun _ => 0)

def quiescent_FlashKernelIdeal [hFlashKernelIdeal : Cert.FlashKernelIdeal.Facts] : Prop :=
  ∀ (m : (ℓ : Loc Cert.FlashKernelIdeal.nD Cert.FlashKernelIdeal.τ Cert.FlashKernelIdeal.sig) → Buf (Elt Ideal) ℓ) (g : Dev Cert.FlashKernelIdeal.nD → PrngReg), Pre_FlashKernelIdeal m →
    θ_run (Cert.FlashKernelIdeal.defs (F := Ideal)) (onTc (τ := Cert.FlashKernelIdeal.τ) (Cert.FlashKernelIdeal.main (F := Ideal))) ⟨m, fun _ => 0, g⟩ (fun r => (∀ c : Dev Cert.FlashKernelIdeal.nD,
      r.2.mem ((c.tc : Thread Cert.FlashKernelIdeal.nD Cert.FlashKernelIdeal.τ).loc Cert.FlashKernelIdeal.main_arg0) = m ((c.tc : Thread Cert.FlashKernelIdeal.nD Cert.FlashKernelIdeal.τ).loc Cert.FlashKernelIdeal.main_arg0)
      ∧ r.2.mem ((c.tc : Thread Cert.FlashKernelIdeal.nD Cert.FlashKernelIdeal.τ).loc Cert.FlashKernelIdeal.main_arg1) = m ((c.tc : Thread Cert.FlashKernelIdeal.nD Cert.FlashKernelIdeal.τ).loc Cert.FlashKernelIdeal.main_arg1)
      ∧ r.2.mem ((c.tc : Thread Cert.FlashKernelIdeal.nD Cert.FlashKernelIdeal.τ).loc Cert.FlashKernelIdeal.main_arg2) = m ((c.tc : Thread Cert.FlashKernelIdeal.nD Cert.FlashKernelIdeal.τ).loc Cert.FlashKernelIdeal.main_arg2)
      ∧ r.2.mem ((c.tc : Thread Cert.FlashKernelIdeal.nD Cert.FlashKernelIdeal.τ).loc Cert.FlashKernelIdeal.main_arg3) = m ((c.tc : Thread Cert.FlashKernelIdeal.nD Cert.FlashKernelIdeal.τ).loc Cert.FlashKernelIdeal.main_arg3))
      ∧ r.2.sem = fun _ => 0)

def quiescent_FlashKernelIdeal_pre_finite_flash [hFlashKernelIdeal : Cert.FlashKernelIdeal.Facts] [hPre_finite_flash : Cert.Pre_finite_flash.Facts] : Prop :=
  ∀ (m : (ℓ : Loc Cert.FlashKernelIdeal.nD Cert.FlashKernelIdeal.τ Cert.FlashKernelIdeal.sig) → Buf (Elt Ideal) ℓ) (g : Dev Cert.FlashKernelIdeal.nD → PrngReg), Pre_FlashKernelIdeal_finite_flash m →
    θ_run (Cert.FlashKernelIdeal.defs (F := Ideal)) (onTc (τ := Cert.FlashKernelIdeal.τ) (Cert.FlashKernelIdeal.main (F := Ideal))) ⟨m, fun _ => 0, g⟩ (fun r => (∀ c : Dev Cert.FlashKernelIdeal.nD,
      r.2.mem ((c.tc : Thread Cert.FlashKernelIdeal.nD Cert.FlashKernelIdeal.τ).loc Cert.FlashKernelIdeal.main_arg0) = m ((c.tc : Thread Cert.FlashKernelIdeal.nD Cert.FlashKernelIdeal.τ).loc Cert.FlashKernelIdeal.main_arg0)
      ∧ r.2.mem ((c.tc : Thread Cert.FlashKernelIdeal.nD Cert.FlashKernelIdeal.τ).loc Cert.FlashKernelIdeal.main_arg1) = m ((c.tc : Thread Cert.FlashKernelIdeal.nD Cert.FlashKernelIdeal.τ).loc Cert.FlashKernelIdeal.main_arg1)
      ∧ r.2.mem ((c.tc : Thread Cert.FlashKernelIdeal.nD Cert.FlashKernelIdeal.τ).loc Cert.FlashKernelIdeal.main_arg2) = m ((c.tc : Thread Cert.FlashKernelIdeal.nD Cert.FlashKernelIdeal.τ).loc Cert.FlashKernelIdeal.main_arg2)
      ∧ r.2.mem ((c.tc : Thread Cert.FlashKernelIdeal.nD Cert.FlashKernelIdeal.τ).loc Cert.FlashKernelIdeal.main_arg3) = m ((c.tc : Thread Cert.FlashKernelIdeal.nD Cert.FlashKernelIdeal.τ).loc Cert.FlashKernelIdeal.main_arg3))
      ∧ r.2.sem = fun _ => 0)

def quiescent_FlashReferenceIdeal [hFlashReferenceIdeal : Cert.FlashReferenceIdeal.Facts] : Prop :=
  ∀ (m : (ℓ : Loc Cert.FlashReferenceIdeal.nD Cert.FlashReferenceIdeal.τ Cert.FlashReferenceIdeal.sig) → Buf (Elt Ideal) ℓ) (g : Dev Cert.FlashReferenceIdeal.nD → PrngReg), Pre_FlashReferenceIdeal m →
    θ_run (Cert.FlashReferenceIdeal.defs (F := Ideal)) (onTc (τ := Cert.FlashReferenceIdeal.τ) (Cert.FlashReferenceIdeal.main (F := Ideal))) ⟨m, fun _ => 0, g⟩ (fun r => (∀ c : Dev Cert.FlashReferenceIdeal.nD,
      r.2.mem ((c.tc : Thread Cert.FlashReferenceIdeal.nD Cert.FlashReferenceIdeal.τ).loc Cert.FlashReferenceIdeal.main_arg0) = m ((c.tc : Thread Cert.FlashReferenceIdeal.nD Cert.FlashReferenceIdeal.τ).loc Cert.FlashReferenceIdeal.main_arg0)
      ∧ r.2.mem ((c.tc : Thread Cert.FlashReferenceIdeal.nD Cert.FlashReferenceIdeal.τ).loc Cert.FlashReferenceIdeal.main_arg1) = m ((c.tc : Thread Cert.FlashReferenceIdeal.nD Cert.FlashReferenceIdeal.τ).loc Cert.FlashReferenceIdeal.main_arg1)
      ∧ r.2.mem ((c.tc : Thread Cert.FlashReferenceIdeal.nD Cert.FlashReferenceIdeal.τ).loc Cert.FlashReferenceIdeal.main_arg2) = m ((c.tc : Thread Cert.FlashReferenceIdeal.nD Cert.FlashReferenceIdeal.τ).loc Cert.FlashReferenceIdeal.main_arg2)
      ∧ r.2.mem ((c.tc : Thread Cert.FlashReferenceIdeal.nD Cert.FlashReferenceIdeal.τ).loc Cert.FlashReferenceIdeal.main_arg3) = m ((c.tc : Thread Cert.FlashReferenceIdeal.nD Cert.FlashReferenceIdeal.τ).loc Cert.FlashReferenceIdeal.main_arg3))
      ∧ r.2.sem = fun _ => 0)

def quiescent_FlashReferenceIdeal_pre_finite_flash [hFlashReferenceIdeal : Cert.FlashReferenceIdeal.Facts] [hPre_finite_flash : Cert.Pre_finite_flash.Facts] : Prop :=
  ∀ (m : (ℓ : Loc Cert.FlashReferenceIdeal.nD Cert.FlashReferenceIdeal.τ Cert.FlashReferenceIdeal.sig) → Buf (Elt Ideal) ℓ) (g : Dev Cert.FlashReferenceIdeal.nD → PrngReg), Pre_FlashReferenceIdeal_finite_flash m →
    θ_run (Cert.FlashReferenceIdeal.defs (F := Ideal)) (onTc (τ := Cert.FlashReferenceIdeal.τ) (Cert.FlashReferenceIdeal.main (F := Ideal))) ⟨m, fun _ => 0, g⟩ (fun r => (∀ c : Dev Cert.FlashReferenceIdeal.nD,
      r.2.mem ((c.tc : Thread Cert.FlashReferenceIdeal.nD Cert.FlashReferenceIdeal.τ).loc Cert.FlashReferenceIdeal.main_arg0) = m ((c.tc : Thread Cert.FlashReferenceIdeal.nD Cert.FlashReferenceIdeal.τ).loc Cert.FlashReferenceIdeal.main_arg0)
      ∧ r.2.mem ((c.tc : Thread Cert.FlashReferenceIdeal.nD Cert.FlashReferenceIdeal.τ).loc Cert.FlashReferenceIdeal.main_arg1) = m ((c.tc : Thread Cert.FlashReferenceIdeal.nD Cert.FlashReferenceIdeal.τ).loc Cert.FlashReferenceIdeal.main_arg1)
      ∧ r.2.mem ((c.tc : Thread Cert.FlashReferenceIdeal.nD Cert.FlashReferenceIdeal.τ).loc Cert.FlashReferenceIdeal.main_arg2) = m ((c.tc : Thread Cert.FlashReferenceIdeal.nD Cert.FlashReferenceIdeal.τ).loc Cert.FlashReferenceIdeal.main_arg2)
      ∧ r.2.mem ((c.tc : Thread Cert.FlashReferenceIdeal.nD Cert.FlashReferenceIdeal.τ).loc Cert.FlashReferenceIdeal.main_arg3) = m ((c.tc : Thread Cert.FlashReferenceIdeal.nD Cert.FlashReferenceIdeal.τ).loc Cert.FlashReferenceIdeal.main_arg3))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossKernelIdeal_pre_finite_loss [hLossKernelIdeal : Cert.LossKernelIdeal.Facts] [hPre_finite_loss : Cert.Pre_finite_loss.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_finite_loss m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_LossReferenceIdeal_pre_finite_loss [hLossReferenceIdeal : Cert.LossReferenceIdeal.Facts] [hPre_finite_loss : Cert.Pre_finite_loss.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_finite_loss m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_FfnUpKernel [hFfnUpKernel : Cert.FfnUpKernel.Facts] : Prop :=
  ∀ (m : (ℓ : Loc Cert.FfnUpKernel.nD Cert.FfnUpKernel.τ Cert.FfnUpKernel.sig) → Buf (Elt Bits) ℓ) (g : Dev Cert.FfnUpKernel.nD → PrngReg), Pre_FfnUpKernel m →
    θ_run (Cert.FfnUpKernel.defs (F := Bits)) (onTc (τ := Cert.FfnUpKernel.τ) (Cert.FfnUpKernel.main (F := Bits))) ⟨m, fun _ => 0, g⟩ (fun r => (∀ c : Dev Cert.FfnUpKernel.nD,
      r.2.mem ((c.tc : Thread Cert.FfnUpKernel.nD Cert.FfnUpKernel.τ).loc Cert.FfnUpKernel.main_arg0) = m ((c.tc : Thread Cert.FfnUpKernel.nD Cert.FfnUpKernel.τ).loc Cert.FfnUpKernel.main_arg0)
      ∧ r.2.mem ((c.tc : Thread Cert.FfnUpKernel.nD Cert.FfnUpKernel.τ).loc Cert.FfnUpKernel.main_arg1) = m ((c.tc : Thread Cert.FfnUpKernel.nD Cert.FfnUpKernel.τ).loc Cert.FfnUpKernel.main_arg1)
      ∧ r.2.mem ((c.tc : Thread Cert.FfnUpKernel.nD Cert.FfnUpKernel.τ).loc Cert.FfnUpKernel.main_arg2) = m ((c.tc : Thread Cert.FfnUpKernel.nD Cert.FfnUpKernel.τ).loc Cert.FfnUpKernel.main_arg2)
      ∧ r.2.mem ((c.tc : Thread Cert.FfnUpKernel.nD Cert.FfnUpKernel.τ).loc Cert.FfnUpKernel.main_arg3) = m ((c.tc : Thread Cert.FfnUpKernel.nD Cert.FfnUpKernel.τ).loc Cert.FfnUpKernel.main_arg3)
      ∧ r.2.mem ((c.tc : Thread Cert.FfnUpKernel.nD Cert.FfnUpKernel.τ).loc Cert.FfnUpKernel.main_arg4) = m ((c.tc : Thread Cert.FfnUpKernel.nD Cert.FfnUpKernel.τ).loc Cert.FfnUpKernel.main_arg4))
      ∧ r.2.sem = fun _ => 0)

def quiescent_FfnUpKernelIdeal [hFfnUpKernelIdeal : Cert.FfnUpKernelIdeal.Facts] : Prop :=
  ∀ (m : (ℓ : Loc Cert.FfnUpKernelIdeal.nD Cert.FfnUpKernelIdeal.τ Cert.FfnUpKernelIdeal.sig) → Buf (Elt Ideal) ℓ) (g : Dev Cert.FfnUpKernelIdeal.nD → PrngReg), Pre_FfnUpKernelIdeal m →
    θ_run (Cert.FfnUpKernelIdeal.defs (F := Ideal)) (onTc (τ := Cert.FfnUpKernelIdeal.τ) (Cert.FfnUpKernelIdeal.main (F := Ideal))) ⟨m, fun _ => 0, g⟩ (fun r => (∀ c : Dev Cert.FfnUpKernelIdeal.nD,
      r.2.mem ((c.tc : Thread Cert.FfnUpKernelIdeal.nD Cert.FfnUpKernelIdeal.τ).loc Cert.FfnUpKernelIdeal.main_arg0) = m ((c.tc : Thread Cert.FfnUpKernelIdeal.nD Cert.FfnUpKernelIdeal.τ).loc Cert.FfnUpKernelIdeal.main_arg0)
      ∧ r.2.mem ((c.tc : Thread Cert.FfnUpKernelIdeal.nD Cert.FfnUpKernelIdeal.τ).loc Cert.FfnUpKernelIdeal.main_arg1) = m ((c.tc : Thread Cert.FfnUpKernelIdeal.nD Cert.FfnUpKernelIdeal.τ).loc Cert.FfnUpKernelIdeal.main_arg1)
      ∧ r.2.mem ((c.tc : Thread Cert.FfnUpKernelIdeal.nD Cert.FfnUpKernelIdeal.τ).loc Cert.FfnUpKernelIdeal.main_arg2) = m ((c.tc : Thread Cert.FfnUpKernelIdeal.nD Cert.FfnUpKernelIdeal.τ).loc Cert.FfnUpKernelIdeal.main_arg2)
      ∧ r.2.mem ((c.tc : Thread Cert.FfnUpKernelIdeal.nD Cert.FfnUpKernelIdeal.τ).loc Cert.FfnUpKernelIdeal.main_arg3) = m ((c.tc : Thread Cert.FfnUpKernelIdeal.nD Cert.FfnUpKernelIdeal.τ).loc Cert.FfnUpKernelIdeal.main_arg3)
      ∧ r.2.mem ((c.tc : Thread Cert.FfnUpKernelIdeal.nD Cert.FfnUpKernelIdeal.τ).loc Cert.FfnUpKernelIdeal.main_arg4) = m ((c.tc : Thread Cert.FfnUpKernelIdeal.nD Cert.FfnUpKernelIdeal.τ).loc Cert.FfnUpKernelIdeal.main_arg4))
      ∧ r.2.sem = fun _ => 0)

def quiescent_FfnUpKernelIdeal_pre_finite_ffnup [hFfnUpKernelIdeal : Cert.FfnUpKernelIdeal.Facts] [hPre_finite_ffnup : Cert.Pre_finite_ffnup.Facts] : Prop :=
  ∀ (m : (ℓ : Loc Cert.FfnUpKernelIdeal.nD Cert.FfnUpKernelIdeal.τ Cert.FfnUpKernelIdeal.sig) → Buf (Elt Ideal) ℓ) (g : Dev Cert.FfnUpKernelIdeal.nD → PrngReg), Pre_FfnUpKernelIdeal_finite_ffnup m →
    θ_run (Cert.FfnUpKernelIdeal.defs (F := Ideal)) (onTc (τ := Cert.FfnUpKernelIdeal.τ) (Cert.FfnUpKernelIdeal.main (F := Ideal))) ⟨m, fun _ => 0, g⟩ (fun r => (∀ c : Dev Cert.FfnUpKernelIdeal.nD,
      r.2.mem ((c.tc : Thread Cert.FfnUpKernelIdeal.nD Cert.FfnUpKernelIdeal.τ).loc Cert.FfnUpKernelIdeal.main_arg0) = m ((c.tc : Thread Cert.FfnUpKernelIdeal.nD Cert.FfnUpKernelIdeal.τ).loc Cert.FfnUpKernelIdeal.main_arg0)
      ∧ r.2.mem ((c.tc : Thread Cert.FfnUpKernelIdeal.nD Cert.FfnUpKernelIdeal.τ).loc Cert.FfnUpKernelIdeal.main_arg1) = m ((c.tc : Thread Cert.FfnUpKernelIdeal.nD Cert.FfnUpKernelIdeal.τ).loc Cert.FfnUpKernelIdeal.main_arg1)
      ∧ r.2.mem ((c.tc : Thread Cert.FfnUpKernelIdeal.nD Cert.FfnUpKernelIdeal.τ).loc Cert.FfnUpKernelIdeal.main_arg2) = m ((c.tc : Thread Cert.FfnUpKernelIdeal.nD Cert.FfnUpKernelIdeal.τ).loc Cert.FfnUpKernelIdeal.main_arg2)
      ∧ r.2.mem ((c.tc : Thread Cert.FfnUpKernelIdeal.nD Cert.FfnUpKernelIdeal.τ).loc Cert.FfnUpKernelIdeal.main_arg3) = m ((c.tc : Thread Cert.FfnUpKernelIdeal.nD Cert.FfnUpKernelIdeal.τ).loc Cert.FfnUpKernelIdeal.main_arg3)
      ∧ r.2.mem ((c.tc : Thread Cert.FfnUpKernelIdeal.nD Cert.FfnUpKernelIdeal.τ).loc Cert.FfnUpKernelIdeal.main_arg4) = m ((c.tc : Thread Cert.FfnUpKernelIdeal.nD Cert.FfnUpKernelIdeal.τ).loc Cert.FfnUpKernelIdeal.main_arg4))
      ∧ r.2.sem = fun _ => 0)

def quiescent_FfnUpReferenceIdeal [hFfnUpReferenceIdeal : Cert.FfnUpReferenceIdeal.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1)
      ∧ r.2.mem ((c.tc : Thread Cert.FfnUpReferenceIdeal.nD Cert.FfnUpReferenceIdeal.τ).loc Cert.FfnUpReferenceIdeal.main_arg2) = m ((c.tc : Thread Cert.FfnUpReferenceIdeal.nD Cert.FfnUpReferenceIdeal.τ).loc Cert.FfnUpReferenceIdeal.main_arg2)
      ∧ r.2.mem ((c.tc : Thread Cert.FfnUpReferenceIdeal.nD Cert.FfnUpReferenceIdeal.τ).loc Cert.FfnUpReferenceIdeal.main_arg3) = m ((c.tc : Thread Cert.FfnUpReferenceIdeal.nD Cert.FfnUpReferenceIdeal.τ).loc Cert.FfnUpReferenceIdeal.main_arg3)
      ∧ r.2.mem ((c.tc : Thread Cert.FfnUpReferenceIdeal.nD Cert.FfnUpReferenceIdeal.τ).loc Cert.FfnUpReferenceIdeal.main_arg4) = m ((c.tc : Thread Cert.FfnUpReferenceIdeal.nD Cert.FfnUpReferenceIdeal.τ).loc Cert.FfnUpReferenceIdeal.main_arg4))
      ∧ r.2.sem = fun _ => 0)

def quiescent_FfnUpReferenceIdeal_pre_finite_ffnup [hFfnUpReferenceIdeal : Cert.FfnUpReferenceIdeal.Facts] [hPre_finite_ffnup : Cert.Pre_finite_ffnup.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal_finite_ffnup m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1)
      ∧ r.2.mem ((c.tc : Thread Cert.FfnUpReferenceIdeal.nD Cert.FfnUpReferenceIdeal.τ).loc Cert.FfnUpReferenceIdeal.main_arg2) = m ((c.tc : Thread Cert.FfnUpReferenceIdeal.nD Cert.FfnUpReferenceIdeal.τ).loc Cert.FfnUpReferenceIdeal.main_arg2)
      ∧ r.2.mem ((c.tc : Thread Cert.FfnUpReferenceIdeal.nD Cert.FfnUpReferenceIdeal.τ).loc Cert.FfnUpReferenceIdeal.main_arg3) = m ((c.tc : Thread Cert.FfnUpReferenceIdeal.nD Cert.FfnUpReferenceIdeal.τ).loc Cert.FfnUpReferenceIdeal.main_arg3)
      ∧ r.2.mem ((c.tc : Thread Cert.FfnUpReferenceIdeal.nD Cert.FfnUpReferenceIdeal.τ).loc Cert.FfnUpReferenceIdeal.main_arg4) = m ((c.tc : Thread Cert.FfnUpReferenceIdeal.nD Cert.FfnUpReferenceIdeal.τ).loc Cert.FfnUpReferenceIdeal.main_arg4))
      ∧ r.2.sem = fun _ => 0)

def quiescent_SguKernel [hSguKernel : Cert.SguKernel.Facts] : Prop :=
  ∀ (m : (ℓ : Loc Cert.SguKernel.nD Cert.SguKernel.τ Cert.SguKernel.sig) → Buf (Elt Bits) ℓ) (g : Dev Cert.SguKernel.nD → PrngReg), Pre_SguKernel m →
    θ_run (Cert.SguKernel.defs (F := Bits)) (onTc (τ := Cert.SguKernel.τ) (Cert.SguKernel.main (F := Bits))) ⟨m, fun _ => 0, g⟩ (fun r => (∀ c : Dev Cert.SguKernel.nD,
      r.2.mem ((c.tc : Thread Cert.SguKernel.nD Cert.SguKernel.τ).loc Cert.SguKernel.main_arg0) = m ((c.tc : Thread Cert.SguKernel.nD Cert.SguKernel.τ).loc Cert.SguKernel.main_arg0)
      ∧ r.2.mem ((c.tc : Thread Cert.SguKernel.nD Cert.SguKernel.τ).loc Cert.SguKernel.main_arg1) = m ((c.tc : Thread Cert.SguKernel.nD Cert.SguKernel.τ).loc Cert.SguKernel.main_arg1)
      ∧ r.2.mem ((c.tc : Thread Cert.SguKernel.nD Cert.SguKernel.τ).loc Cert.SguKernel.main_arg2) = m ((c.tc : Thread Cert.SguKernel.nD Cert.SguKernel.τ).loc Cert.SguKernel.main_arg2)
      ∧ r.2.mem ((c.tc : Thread Cert.SguKernel.nD Cert.SguKernel.τ).loc Cert.SguKernel.main_arg3) = m ((c.tc : Thread Cert.SguKernel.nD Cert.SguKernel.τ).loc Cert.SguKernel.main_arg3)
      ∧ r.2.mem ((c.tc : Thread Cert.SguKernel.nD Cert.SguKernel.τ).loc Cert.SguKernel.main_arg4) = m ((c.tc : Thread Cert.SguKernel.nD Cert.SguKernel.τ).loc Cert.SguKernel.main_arg4)
      ∧ r.2.mem ((c.tc : Thread Cert.SguKernel.nD Cert.SguKernel.τ).loc Cert.SguKernel.main_arg5) = m ((c.tc : Thread Cert.SguKernel.nD Cert.SguKernel.τ).loc Cert.SguKernel.main_arg5))
      ∧ r.2.sem = fun _ => 0)

def quiescent_SguKernelIdeal [hSguKernelIdeal : Cert.SguKernelIdeal.Facts] : Prop :=
  ∀ (m : (ℓ : Loc Cert.SguKernelIdeal.nD Cert.SguKernelIdeal.τ Cert.SguKernelIdeal.sig) → Buf (Elt Ideal) ℓ) (g : Dev Cert.SguKernelIdeal.nD → PrngReg), Pre_SguKernelIdeal m →
    θ_run (Cert.SguKernelIdeal.defs (F := Ideal)) (onTc (τ := Cert.SguKernelIdeal.τ) (Cert.SguKernelIdeal.main (F := Ideal))) ⟨m, fun _ => 0, g⟩ (fun r => (∀ c : Dev Cert.SguKernelIdeal.nD,
      r.2.mem ((c.tc : Thread Cert.SguKernelIdeal.nD Cert.SguKernelIdeal.τ).loc Cert.SguKernelIdeal.main_arg0) = m ((c.tc : Thread Cert.SguKernelIdeal.nD Cert.SguKernelIdeal.τ).loc Cert.SguKernelIdeal.main_arg0)
      ∧ r.2.mem ((c.tc : Thread Cert.SguKernelIdeal.nD Cert.SguKernelIdeal.τ).loc Cert.SguKernelIdeal.main_arg1) = m ((c.tc : Thread Cert.SguKernelIdeal.nD Cert.SguKernelIdeal.τ).loc Cert.SguKernelIdeal.main_arg1)
      ∧ r.2.mem ((c.tc : Thread Cert.SguKernelIdeal.nD Cert.SguKernelIdeal.τ).loc Cert.SguKernelIdeal.main_arg2) = m ((c.tc : Thread Cert.SguKernelIdeal.nD Cert.SguKernelIdeal.τ).loc Cert.SguKernelIdeal.main_arg2)
      ∧ r.2.mem ((c.tc : Thread Cert.SguKernelIdeal.nD Cert.SguKernelIdeal.τ).loc Cert.SguKernelIdeal.main_arg3) = m ((c.tc : Thread Cert.SguKernelIdeal.nD Cert.SguKernelIdeal.τ).loc Cert.SguKernelIdeal.main_arg3)
      ∧ r.2.mem ((c.tc : Thread Cert.SguKernelIdeal.nD Cert.SguKernelIdeal.τ).loc Cert.SguKernelIdeal.main_arg4) = m ((c.tc : Thread Cert.SguKernelIdeal.nD Cert.SguKernelIdeal.τ).loc Cert.SguKernelIdeal.main_arg4)
      ∧ r.2.mem ((c.tc : Thread Cert.SguKernelIdeal.nD Cert.SguKernelIdeal.τ).loc Cert.SguKernelIdeal.main_arg5) = m ((c.tc : Thread Cert.SguKernelIdeal.nD Cert.SguKernelIdeal.τ).loc Cert.SguKernelIdeal.main_arg5))
      ∧ r.2.sem = fun _ => 0)

def quiescent_SguKernelIdeal_pre_finite_sgu [hSguKernelIdeal : Cert.SguKernelIdeal.Facts] [hPre_finite_sgu : Cert.Pre_finite_sgu.Facts] : Prop :=
  ∀ (m : (ℓ : Loc Cert.SguKernelIdeal.nD Cert.SguKernelIdeal.τ Cert.SguKernelIdeal.sig) → Buf (Elt Ideal) ℓ) (g : Dev Cert.SguKernelIdeal.nD → PrngReg), Pre_SguKernelIdeal_finite_sgu m →
    θ_run (Cert.SguKernelIdeal.defs (F := Ideal)) (onTc (τ := Cert.SguKernelIdeal.τ) (Cert.SguKernelIdeal.main (F := Ideal))) ⟨m, fun _ => 0, g⟩ (fun r => (∀ c : Dev Cert.SguKernelIdeal.nD,
      r.2.mem ((c.tc : Thread Cert.SguKernelIdeal.nD Cert.SguKernelIdeal.τ).loc Cert.SguKernelIdeal.main_arg0) = m ((c.tc : Thread Cert.SguKernelIdeal.nD Cert.SguKernelIdeal.τ).loc Cert.SguKernelIdeal.main_arg0)
      ∧ r.2.mem ((c.tc : Thread Cert.SguKernelIdeal.nD Cert.SguKernelIdeal.τ).loc Cert.SguKernelIdeal.main_arg1) = m ((c.tc : Thread Cert.SguKernelIdeal.nD Cert.SguKernelIdeal.τ).loc Cert.SguKernelIdeal.main_arg1)
      ∧ r.2.mem ((c.tc : Thread Cert.SguKernelIdeal.nD Cert.SguKernelIdeal.τ).loc Cert.SguKernelIdeal.main_arg2) = m ((c.tc : Thread Cert.SguKernelIdeal.nD Cert.SguKernelIdeal.τ).loc Cert.SguKernelIdeal.main_arg2)
      ∧ r.2.mem ((c.tc : Thread Cert.SguKernelIdeal.nD Cert.SguKernelIdeal.τ).loc Cert.SguKernelIdeal.main_arg3) = m ((c.tc : Thread Cert.SguKernelIdeal.nD Cert.SguKernelIdeal.τ).loc Cert.SguKernelIdeal.main_arg3)
      ∧ r.2.mem ((c.tc : Thread Cert.SguKernelIdeal.nD Cert.SguKernelIdeal.τ).loc Cert.SguKernelIdeal.main_arg4) = m ((c.tc : Thread Cert.SguKernelIdeal.nD Cert.SguKernelIdeal.τ).loc Cert.SguKernelIdeal.main_arg4)
      ∧ r.2.mem ((c.tc : Thread Cert.SguKernelIdeal.nD Cert.SguKernelIdeal.τ).loc Cert.SguKernelIdeal.main_arg5) = m ((c.tc : Thread Cert.SguKernelIdeal.nD Cert.SguKernelIdeal.τ).loc Cert.SguKernelIdeal.main_arg5))
      ∧ r.2.sem = fun _ => 0)

def quiescent_SguReferenceIdeal [hSguReferenceIdeal : Cert.SguReferenceIdeal.Facts] : Prop :=
  ∀ (m : (ℓ : Loc Cert.SguReferenceIdeal.nD Cert.SguReferenceIdeal.τ Cert.SguReferenceIdeal.sig) → Buf (Elt Ideal) ℓ) (g : Dev Cert.SguReferenceIdeal.nD → PrngReg), Pre_SguReferenceIdeal m →
    θ_run (Cert.SguReferenceIdeal.defs (F := Ideal)) (onTc (τ := Cert.SguReferenceIdeal.τ) (Cert.SguReferenceIdeal.main (F := Ideal))) ⟨m, fun _ => 0, g⟩ (fun r => (∀ c : Dev Cert.SguReferenceIdeal.nD,
      r.2.mem ((c.tc : Thread Cert.SguReferenceIdeal.nD Cert.SguReferenceIdeal.τ).loc Cert.SguReferenceIdeal.main_arg0) = m ((c.tc : Thread Cert.SguReferenceIdeal.nD Cert.SguReferenceIdeal.τ).loc Cert.SguReferenceIdeal.main_arg0)
      ∧ r.2.mem ((c.tc : Thread Cert.SguReferenceIdeal.nD Cert.SguReferenceIdeal.τ).loc Cert.SguReferenceIdeal.main_arg1) = m ((c.tc : Thread Cert.SguReferenceIdeal.nD Cert.SguReferenceIdeal.τ).loc Cert.SguReferenceIdeal.main_arg1)
      ∧ r.2.mem ((c.tc : Thread Cert.SguReferenceIdeal.nD Cert.SguReferenceIdeal.τ).loc Cert.SguReferenceIdeal.main_arg2) = m ((c.tc : Thread Cert.SguReferenceIdeal.nD Cert.SguReferenceIdeal.τ).loc Cert.SguReferenceIdeal.main_arg2)
      ∧ r.2.mem ((c.tc : Thread Cert.SguReferenceIdeal.nD Cert.SguReferenceIdeal.τ).loc Cert.SguReferenceIdeal.main_arg3) = m ((c.tc : Thread Cert.SguReferenceIdeal.nD Cert.SguReferenceIdeal.τ).loc Cert.SguReferenceIdeal.main_arg3)
      ∧ r.2.mem ((c.tc : Thread Cert.SguReferenceIdeal.nD Cert.SguReferenceIdeal.τ).loc Cert.SguReferenceIdeal.main_arg4) = m ((c.tc : Thread Cert.SguReferenceIdeal.nD Cert.SguReferenceIdeal.τ).loc Cert.SguReferenceIdeal.main_arg4)
      ∧ r.2.mem ((c.tc : Thread Cert.SguReferenceIdeal.nD Cert.SguReferenceIdeal.τ).loc Cert.SguReferenceIdeal.main_arg5) = m ((c.tc : Thread Cert.SguReferenceIdeal.nD Cert.SguReferenceIdeal.τ).loc Cert.SguReferenceIdeal.main_arg5))
      ∧ r.2.sem = fun _ => 0)

def quiescent_SguReferenceIdeal_pre_finite_sgu [hSguReferenceIdeal : Cert.SguReferenceIdeal.Facts] [hPre_finite_sgu : Cert.Pre_finite_sgu.Facts] : Prop :=
  ∀ (m : (ℓ : Loc Cert.SguReferenceIdeal.nD Cert.SguReferenceIdeal.τ Cert.SguReferenceIdeal.sig) → Buf (Elt Ideal) ℓ) (g : Dev Cert.SguReferenceIdeal.nD → PrngReg), Pre_SguReferenceIdeal_finite_sgu m →
    θ_run (Cert.SguReferenceIdeal.defs (F := Ideal)) (onTc (τ := Cert.SguReferenceIdeal.τ) (Cert.SguReferenceIdeal.main (F := Ideal))) ⟨m, fun _ => 0, g⟩ (fun r => (∀ c : Dev Cert.SguReferenceIdeal.nD,
      r.2.mem ((c.tc : Thread Cert.SguReferenceIdeal.nD Cert.SguReferenceIdeal.τ).loc Cert.SguReferenceIdeal.main_arg0) = m ((c.tc : Thread Cert.SguReferenceIdeal.nD Cert.SguReferenceIdeal.τ).loc Cert.SguReferenceIdeal.main_arg0)
      ∧ r.2.mem ((c.tc : Thread Cert.SguReferenceIdeal.nD Cert.SguReferenceIdeal.τ).loc Cert.SguReferenceIdeal.main_arg1) = m ((c.tc : Thread Cert.SguReferenceIdeal.nD Cert.SguReferenceIdeal.τ).loc Cert.SguReferenceIdeal.main_arg1)
      ∧ r.2.mem ((c.tc : Thread Cert.SguReferenceIdeal.nD Cert.SguReferenceIdeal.τ).loc Cert.SguReferenceIdeal.main_arg2) = m ((c.tc : Thread Cert.SguReferenceIdeal.nD Cert.SguReferenceIdeal.τ).loc Cert.SguReferenceIdeal.main_arg2)
      ∧ r.2.mem ((c.tc : Thread Cert.SguReferenceIdeal.nD Cert.SguReferenceIdeal.τ).loc Cert.SguReferenceIdeal.main_arg3) = m ((c.tc : Thread Cert.SguReferenceIdeal.nD Cert.SguReferenceIdeal.τ).loc Cert.SguReferenceIdeal.main_arg3)
      ∧ r.2.mem ((c.tc : Thread Cert.SguReferenceIdeal.nD Cert.SguReferenceIdeal.τ).loc Cert.SguReferenceIdeal.main_arg4) = m ((c.tc : Thread Cert.SguReferenceIdeal.nD Cert.SguReferenceIdeal.τ).loc Cert.SguReferenceIdeal.main_arg4)
      ∧ r.2.mem ((c.tc : Thread Cert.SguReferenceIdeal.nD Cert.SguReferenceIdeal.τ).loc Cert.SguReferenceIdeal.main_arg5) = m ((c.tc : Thread Cert.SguReferenceIdeal.nD Cert.SguReferenceIdeal.τ).loc Cert.SguReferenceIdeal.main_arg5))
      ∧ r.2.sem = fun _ => 0)

def quiescent_MlaOKernel [hMlaOKernel : Cert.MlaOKernel.Facts] : Prop :=
  ∀ (m : (ℓ : Loc Cert.MlaOKernel.nD Cert.MlaOKernel.τ Cert.MlaOKernel.sig) → Buf (Elt Bits) ℓ) (g : Dev Cert.MlaOKernel.nD → PrngReg), Pre_MlaOKernel m →
    θ_run (Cert.MlaOKernel.defs (F := Bits)) (onTc (τ := Cert.MlaOKernel.τ) (Cert.MlaOKernel.main (F := Bits))) ⟨m, fun _ => 0, g⟩ (fun r => (∀ c : Dev Cert.MlaOKernel.nD,
      r.2.mem ((c.tc : Thread Cert.MlaOKernel.nD Cert.MlaOKernel.τ).loc Cert.MlaOKernel.main_arg0) = m ((c.tc : Thread Cert.MlaOKernel.nD Cert.MlaOKernel.τ).loc Cert.MlaOKernel.main_arg0)
      ∧ r.2.mem ((c.tc : Thread Cert.MlaOKernel.nD Cert.MlaOKernel.τ).loc Cert.MlaOKernel.main_arg1) = m ((c.tc : Thread Cert.MlaOKernel.nD Cert.MlaOKernel.τ).loc Cert.MlaOKernel.main_arg1)
      ∧ r.2.mem ((c.tc : Thread Cert.MlaOKernel.nD Cert.MlaOKernel.τ).loc Cert.MlaOKernel.main_arg2) = m ((c.tc : Thread Cert.MlaOKernel.nD Cert.MlaOKernel.τ).loc Cert.MlaOKernel.main_arg2))
      ∧ r.2.sem = fun _ => 0)

def quiescent_MlaOKernelIdeal [hMlaOKernelIdeal : Cert.MlaOKernelIdeal.Facts] : Prop :=
  ∀ (m : (ℓ : Loc Cert.MlaOKernelIdeal.nD Cert.MlaOKernelIdeal.τ Cert.MlaOKernelIdeal.sig) → Buf (Elt Ideal) ℓ) (g : Dev Cert.MlaOKernelIdeal.nD → PrngReg), Pre_MlaOKernelIdeal m →
    θ_run (Cert.MlaOKernelIdeal.defs (F := Ideal)) (onTc (τ := Cert.MlaOKernelIdeal.τ) (Cert.MlaOKernelIdeal.main (F := Ideal))) ⟨m, fun _ => 0, g⟩ (fun r => (∀ c : Dev Cert.MlaOKernelIdeal.nD,
      r.2.mem ((c.tc : Thread Cert.MlaOKernelIdeal.nD Cert.MlaOKernelIdeal.τ).loc Cert.MlaOKernelIdeal.main_arg0) = m ((c.tc : Thread Cert.MlaOKernelIdeal.nD Cert.MlaOKernelIdeal.τ).loc Cert.MlaOKernelIdeal.main_arg0)
      ∧ r.2.mem ((c.tc : Thread Cert.MlaOKernelIdeal.nD Cert.MlaOKernelIdeal.τ).loc Cert.MlaOKernelIdeal.main_arg1) = m ((c.tc : Thread Cert.MlaOKernelIdeal.nD Cert.MlaOKernelIdeal.τ).loc Cert.MlaOKernelIdeal.main_arg1)
      ∧ r.2.mem ((c.tc : Thread Cert.MlaOKernelIdeal.nD Cert.MlaOKernelIdeal.τ).loc Cert.MlaOKernelIdeal.main_arg2) = m ((c.tc : Thread Cert.MlaOKernelIdeal.nD Cert.MlaOKernelIdeal.τ).loc Cert.MlaOKernelIdeal.main_arg2))
      ∧ r.2.sem = fun _ => 0)

def quiescent_MlaOReferenceIdeal [hMlaOReferenceIdeal : Cert.MlaOReferenceIdeal.Facts] : Prop :=
  ∀ (m : (ℓ : Loc Cert.MlaOReferenceIdeal.nD Cert.MlaOReferenceIdeal.τ Cert.MlaOReferenceIdeal.sig) → Buf (Elt Ideal) ℓ) (g : Dev Cert.MlaOReferenceIdeal.nD → PrngReg), Pre_MlaOReferenceIdeal m →
    θ_run (Cert.MlaOReferenceIdeal.defs (F := Ideal)) (onTc (τ := Cert.MlaOReferenceIdeal.τ) (Cert.MlaOReferenceIdeal.main (F := Ideal))) ⟨m, fun _ => 0, g⟩ (fun r => (∀ c : Dev Cert.MlaOReferenceIdeal.nD,
      r.2.mem ((c.tc : Thread Cert.MlaOReferenceIdeal.nD Cert.MlaOReferenceIdeal.τ).loc Cert.MlaOReferenceIdeal.main_arg0) = m ((c.tc : Thread Cert.MlaOReferenceIdeal.nD Cert.MlaOReferenceIdeal.τ).loc Cert.MlaOReferenceIdeal.main_arg0)
      ∧ r.2.mem ((c.tc : Thread Cert.MlaOReferenceIdeal.nD Cert.MlaOReferenceIdeal.τ).loc Cert.MlaOReferenceIdeal.main_arg1) = m ((c.tc : Thread Cert.MlaOReferenceIdeal.nD Cert.MlaOReferenceIdeal.τ).loc Cert.MlaOReferenceIdeal.main_arg1)
      ∧ r.2.mem ((c.tc : Thread Cert.MlaOReferenceIdeal.nD Cert.MlaOReferenceIdeal.τ).loc Cert.MlaOReferenceIdeal.main_arg2) = m ((c.tc : Thread Cert.MlaOReferenceIdeal.nD Cert.MlaOReferenceIdeal.τ).loc Cert.MlaOReferenceIdeal.main_arg2))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3)
      ∧ r.2.mem ((c.tc : Thread Cert.ProjKernel.nD Cert.ProjKernel.τ).loc Cert.ProjKernel.main_arg4) = m ((c.tc : Thread Cert.ProjKernel.nD Cert.ProjKernel.τ).loc Cert.ProjKernel.main_arg4)
      ∧ r.2.mem ((c.tc : Thread Cert.ProjKernel.nD Cert.ProjKernel.τ).loc Cert.ProjKernel.main_arg5) = m ((c.tc : Thread Cert.ProjKernel.nD Cert.ProjKernel.τ).loc Cert.ProjKernel.main_arg5)
      ∧ r.2.mem ((c.tc : Thread Cert.ProjKernel.nD Cert.ProjKernel.τ).loc Cert.ProjKernel.main_arg6) = m ((c.tc : Thread Cert.ProjKernel.nD Cert.ProjKernel.τ).loc Cert.ProjKernel.main_arg6)
      ∧ r.2.mem ((c.tc : Thread Cert.ProjKernel.nD Cert.ProjKernel.τ).loc Cert.ProjKernel.main_arg7) = m ((c.tc : Thread Cert.ProjKernel.nD Cert.ProjKernel.τ).loc Cert.ProjKernel.main_arg7)
      ∧ r.2.mem ((c.tc : Thread Cert.ProjKernel.nD Cert.ProjKernel.τ).loc Cert.ProjKernel.main_arg8) = m ((c.tc : Thread Cert.ProjKernel.nD Cert.ProjKernel.τ).loc Cert.ProjKernel.main_arg8)
      ∧ r.2.mem ((c.tc : Thread Cert.ProjKernel.nD Cert.ProjKernel.τ).loc Cert.ProjKernel.main_arg9) = m ((c.tc : Thread Cert.ProjKernel.nD Cert.ProjKernel.τ).loc Cert.ProjKernel.main_arg9)
      ∧ r.2.mem ((c.tc : Thread Cert.ProjKernel.nD Cert.ProjKernel.τ).loc Cert.ProjKernel.main_arg10) = m ((c.tc : Thread Cert.ProjKernel.nD Cert.ProjKernel.τ).loc Cert.ProjKernel.main_arg10)
      ∧ r.2.mem ((c.tc : Thread Cert.ProjKernel.nD Cert.ProjKernel.τ).loc Cert.ProjKernel.main_arg11) = m ((c.tc : Thread Cert.ProjKernel.nD Cert.ProjKernel.τ).loc Cert.ProjKernel.main_arg11))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
      ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5)
      ∧ r.2.mem ((c.tc : Thread Cert.ProjKernelIdeal.nD Cert.ProjKernelIdeal.τ).loc Cert.ProjKernelIdeal.main_arg6) = m ((c.tc : Thread Cert.ProjKernelIdeal.nD Cert.ProjKernelIdeal.τ).loc Cert.ProjKernelIdeal.main_arg6)
      ∧ r.2.mem ((c.tc : Thread Cert.ProjKernelIdeal.nD Cert.ProjKernelIdeal.τ).loc Cert.ProjKernelIdeal.main_arg7) = m ((c.tc : Thread Cert.ProjKernelIdeal.nD Cert.ProjKernelIdeal.τ).loc Cert.ProjKernelIdeal.main_arg7)
      ∧ r.2.mem ((c.tc : Thread Cert.ProjKernelIdeal.nD Cert.ProjKernelIdeal.τ).loc Cert.ProjKernelIdeal.main_arg8) = m ((c.tc : Thread Cert.ProjKernelIdeal.nD Cert.ProjKernelIdeal.τ).loc Cert.ProjKernelIdeal.main_arg8)
      ∧ r.2.mem ((c.tc : Thread Cert.ProjKernelIdeal.nD Cert.ProjKernelIdeal.τ).loc Cert.ProjKernelIdeal.main_arg9) = m ((c.tc : Thread Cert.ProjKernelIdeal.nD Cert.ProjKernelIdeal.τ).loc Cert.ProjKernelIdeal.main_arg9)
      ∧ r.2.mem ((c.tc : Thread Cert.ProjKernelIdeal.nD Cert.ProjKernelIdeal.τ).loc Cert.ProjKernelIdeal.main_arg10) = m ((c.tc : Thread Cert.ProjKernelIdeal.nD Cert.ProjKernelIdeal.τ).loc Cert.ProjKernelIdeal.main_arg10)
      ∧ r.2.mem ((c.tc : Thread Cert.ProjKernelIdeal.nD Cert.ProjKernelIdeal.τ).loc Cert.ProjKernelIdeal.main_arg11) = m ((c.tc : Thread Cert.ProjKernelIdeal.nD Cert.ProjKernelIdeal.τ).loc Cert.ProjKernelIdeal.main_arg11))
      ∧ r.2.sem = fun _ => 0)

def quiescent_ProjKernelIdeal_pre_finite_proj [hProjKernelIdeal : Cert.ProjKernelIdeal.Facts] [hPre_finite_proj : Cert.Pre_finite_proj.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal_finite_proj m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
      ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5)
      ∧ r.2.mem ((c.tc : Thread Cert.ProjKernelIdeal.nD Cert.ProjKernelIdeal.τ).loc Cert.ProjKernelIdeal.main_arg6) = m ((c.tc : Thread Cert.ProjKernelIdeal.nD Cert.ProjKernelIdeal.τ).loc Cert.ProjKernelIdeal.main_arg6)
      ∧ r.2.mem ((c.tc : Thread Cert.ProjKernelIdeal.nD Cert.ProjKernelIdeal.τ).loc Cert.ProjKernelIdeal.main_arg7) = m ((c.tc : Thread Cert.ProjKernelIdeal.nD Cert.ProjKernelIdeal.τ).loc Cert.ProjKernelIdeal.main_arg7)
      ∧ r.2.mem ((c.tc : Thread Cert.ProjKernelIdeal.nD Cert.ProjKernelIdeal.τ).loc Cert.ProjKernelIdeal.main_arg8) = m ((c.tc : Thread Cert.ProjKernelIdeal.nD Cert.ProjKernelIdeal.τ).loc Cert.ProjKernelIdeal.main_arg8)
      ∧ r.2.mem ((c.tc : Thread Cert.ProjKernelIdeal.nD Cert.ProjKernelIdeal.τ).loc Cert.ProjKernelIdeal.main_arg9) = m ((c.tc : Thread Cert.ProjKernelIdeal.nD Cert.ProjKernelIdeal.τ).loc Cert.ProjKernelIdeal.main_arg9)
      ∧ r.2.mem ((c.tc : Thread Cert.ProjKernelIdeal.nD Cert.ProjKernelIdeal.τ).loc Cert.ProjKernelIdeal.main_arg10) = m ((c.tc : Thread Cert.ProjKernelIdeal.nD Cert.ProjKernelIdeal.τ).loc Cert.ProjKernelIdeal.main_arg10)
      ∧ r.2.mem ((c.tc : Thread Cert.ProjKernelIdeal.nD Cert.ProjKernelIdeal.τ).loc Cert.ProjKernelIdeal.main_arg11) = m ((c.tc : Thread Cert.ProjKernelIdeal.nD Cert.ProjKernelIdeal.τ).loc Cert.ProjKernelIdeal.main_arg11))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8)
      ∧ r.2.mem ((c.tc : Thread Cert.ProjReferenceIdeal.nD Cert.ProjReferenceIdeal.τ).loc Cert.ProjReferenceIdeal.main_arg9) = m ((c.tc : Thread Cert.ProjReferenceIdeal.nD Cert.ProjReferenceIdeal.τ).loc Cert.ProjReferenceIdeal.main_arg9)
      ∧ r.2.mem ((c.tc : Thread Cert.ProjReferenceIdeal.nD Cert.ProjReferenceIdeal.τ).loc Cert.ProjReferenceIdeal.main_arg10) = m ((c.tc : Thread Cert.ProjReferenceIdeal.nD Cert.ProjReferenceIdeal.τ).loc Cert.ProjReferenceIdeal.main_arg10)
      ∧ r.2.mem ((c.tc : Thread Cert.ProjReferenceIdeal.nD Cert.ProjReferenceIdeal.τ).loc Cert.ProjReferenceIdeal.main_arg11) = m ((c.tc : Thread Cert.ProjReferenceIdeal.nD Cert.ProjReferenceIdeal.τ).loc Cert.ProjReferenceIdeal.main_arg11))
      ∧ r.2.sem = fun _ => 0)

def quiescent_ProjReferenceIdeal_pre_finite_proj [hProjReferenceIdeal : Cert.ProjReferenceIdeal.Facts] [hPre_finite_proj : Cert.Pre_finite_proj.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal_finite_proj m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8)
      ∧ r.2.mem ((c.tc : Thread Cert.ProjReferenceIdeal.nD Cert.ProjReferenceIdeal.τ).loc Cert.ProjReferenceIdeal.main_arg9) = m ((c.tc : Thread Cert.ProjReferenceIdeal.nD Cert.ProjReferenceIdeal.τ).loc Cert.ProjReferenceIdeal.main_arg9)
      ∧ r.2.mem ((c.tc : Thread Cert.ProjReferenceIdeal.nD Cert.ProjReferenceIdeal.τ).loc Cert.ProjReferenceIdeal.main_arg10) = m ((c.tc : Thread Cert.ProjReferenceIdeal.nD Cert.ProjReferenceIdeal.τ).loc Cert.ProjReferenceIdeal.main_arg10)
      ∧ r.2.mem ((c.tc : Thread Cert.ProjReferenceIdeal.nD Cert.ProjReferenceIdeal.τ).loc Cert.ProjReferenceIdeal.main_arg11) = m ((c.tc : Thread Cert.ProjReferenceIdeal.nD Cert.ProjReferenceIdeal.τ).loc Cert.ProjReferenceIdeal.main_arg11))
      ∧ r.2.sem = fun _ => 0)

def quiescent_MlaKernel [hMlaKernel : Cert.MlaKernel.Facts] : Prop :=
  ∀ (m : (ℓ : Loc Cert.MlaKernel.nD Cert.MlaKernel.τ Cert.MlaKernel.sig) → Buf (Elt Bits) ℓ) (g : Dev Cert.MlaKernel.nD → PrngReg), Pre_MlaKernel m →
    θ_run (Cert.MlaKernel.defs (F := Bits)) (onTc (τ := Cert.MlaKernel.τ) (Cert.MlaKernel.main (F := Bits))) ⟨m, fun _ => 0, g⟩ (fun r => (∀ c : Dev Cert.MlaKernel.nD,
      r.2.mem ((c.tc : Thread Cert.MlaKernel.nD Cert.MlaKernel.τ).loc Cert.MlaKernel.main_arg0) = m ((c.tc : Thread Cert.MlaKernel.nD Cert.MlaKernel.τ).loc Cert.MlaKernel.main_arg0)
      ∧ r.2.mem ((c.tc : Thread Cert.MlaKernel.nD Cert.MlaKernel.τ).loc Cert.MlaKernel.main_arg1) = m ((c.tc : Thread Cert.MlaKernel.nD Cert.MlaKernel.τ).loc Cert.MlaKernel.main_arg1)
      ∧ r.2.mem ((c.tc : Thread Cert.MlaKernel.nD Cert.MlaKernel.τ).loc Cert.MlaKernel.main_arg2) = m ((c.tc : Thread Cert.MlaKernel.nD Cert.MlaKernel.τ).loc Cert.MlaKernel.main_arg2)
      ∧ r.2.mem ((c.tc : Thread Cert.MlaKernel.nD Cert.MlaKernel.τ).loc Cert.MlaKernel.main_arg3) = m ((c.tc : Thread Cert.MlaKernel.nD Cert.MlaKernel.τ).loc Cert.MlaKernel.main_arg3)
      ∧ r.2.mem ((c.tc : Thread Cert.MlaKernel.nD Cert.MlaKernel.τ).loc Cert.MlaKernel.main_arg4) = m ((c.tc : Thread Cert.MlaKernel.nD Cert.MlaKernel.τ).loc Cert.MlaKernel.main_arg4)
      ∧ r.2.mem ((c.tc : Thread Cert.MlaKernel.nD Cert.MlaKernel.τ).loc Cert.MlaKernel.main_arg5) = m ((c.tc : Thread Cert.MlaKernel.nD Cert.MlaKernel.τ).loc Cert.MlaKernel.main_arg5)
      ∧ r.2.mem ((c.tc : Thread Cert.MlaKernel.nD Cert.MlaKernel.τ).loc Cert.MlaKernel.main_arg6) = m ((c.tc : Thread Cert.MlaKernel.nD Cert.MlaKernel.τ).loc Cert.MlaKernel.main_arg6)
      ∧ r.2.mem ((c.tc : Thread Cert.MlaKernel.nD Cert.MlaKernel.τ).loc Cert.MlaKernel.main_arg7) = m ((c.tc : Thread Cert.MlaKernel.nD Cert.MlaKernel.τ).loc Cert.MlaKernel.main_arg7))
      ∧ r.2.sem = fun _ => 0)

def quiescent_MlaKernelIdeal [hMlaKernelIdeal : Cert.MlaKernelIdeal.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg), Pre_MlaKernelIdeal m →
    θ_run (Cert.MlaKernelIdeal.defs (F := Ideal)) (onTc (τ := Cert.MlaKernelIdeal.τ) (Cert.MlaKernelIdeal.main (F := Ideal))) ⟨m, fun _ => 0, g⟩ (fun r => (∀ c : Dev Cert.MlaKernelIdeal.nD,
      r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
      ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
      ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
      ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3)
      ∧ r.2.mem ((c.tc : Thread Cert.MlaKernelIdeal.nD Cert.MlaKernelIdeal.τ).loc Cert.MlaKernelIdeal.main_arg4) = m ((c.tc : Thread Cert.MlaKernelIdeal.nD Cert.MlaKernelIdeal.τ).loc Cert.MlaKernelIdeal.main_arg4)
      ∧ r.2.mem ((c.tc : Thread Cert.MlaKernelIdeal.nD Cert.MlaKernelIdeal.τ).loc Cert.MlaKernelIdeal.main_arg5) = m ((c.tc : Thread Cert.MlaKernelIdeal.nD Cert.MlaKernelIdeal.τ).loc Cert.MlaKernelIdeal.main_arg5)
      ∧ r.2.mem ((c.tc : Thread Cert.MlaKernelIdeal.nD Cert.MlaKernelIdeal.τ).loc Cert.MlaKernelIdeal.main_arg6) = m ((c.tc : Thread Cert.MlaKernelIdeal.nD Cert.MlaKernelIdeal.τ).loc Cert.MlaKernelIdeal.main_arg6)
      ∧ r.2.mem ((c.tc : Thread Cert.MlaKernelIdeal.nD Cert.MlaKernelIdeal.τ).loc Cert.MlaKernelIdeal.main_arg7) = m ((c.tc : Thread Cert.MlaKernelIdeal.nD Cert.MlaKernelIdeal.τ).loc Cert.MlaKernelIdeal.main_arg7))
      ∧ r.2.sem = fun _ => 0)

def quiescent_MlaReferenceIdeal [hMlaReferenceIdeal : Cert.MlaReferenceIdeal.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3)
      ∧ r.2.mem ((c.tc : Thread Cert.MlaReferenceIdeal.nD Cert.MlaReferenceIdeal.τ).loc Cert.MlaReferenceIdeal.main_arg4) = m ((c.tc : Thread Cert.MlaReferenceIdeal.nD Cert.MlaReferenceIdeal.τ).loc Cert.MlaReferenceIdeal.main_arg4)
      ∧ r.2.mem ((c.tc : Thread Cert.MlaReferenceIdeal.nD Cert.MlaReferenceIdeal.τ).loc Cert.MlaReferenceIdeal.main_arg5) = m ((c.tc : Thread Cert.MlaReferenceIdeal.nD Cert.MlaReferenceIdeal.τ).loc Cert.MlaReferenceIdeal.main_arg5)
      ∧ r.2.mem ((c.tc : Thread Cert.MlaReferenceIdeal.nD Cert.MlaReferenceIdeal.τ).loc Cert.MlaReferenceIdeal.main_arg6) = m ((c.tc : Thread Cert.MlaReferenceIdeal.nD Cert.MlaReferenceIdeal.τ).loc Cert.MlaReferenceIdeal.main_arg6)
      ∧ r.2.mem ((c.tc : Thread Cert.MlaReferenceIdeal.nD Cert.MlaReferenceIdeal.τ).loc Cert.MlaReferenceIdeal.main_arg7) = m ((c.tc : Thread Cert.MlaReferenceIdeal.nD Cert.MlaReferenceIdeal.τ).loc Cert.MlaReferenceIdeal.main_arg7))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3)
      ∧ r.2.mem ((c.tc : Thread Cert.GateKernel.nD Cert.GateKernel.τ).loc Cert.GateKernel.main_arg4) = m ((c.tc : Thread Cert.GateKernel.nD Cert.GateKernel.τ).loc Cert.GateKernel.main_arg4))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
      ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4))
      ∧ r.2.sem = fun _ => 0)

def quiescent_ReluKernel [hReluKernel : Cert.ReluKernel.Facts] : Prop :=
  ∀ (m : (ℓ : Loc Cert.ReluKernel.nD Cert.ReluKernel.τ Cert.ReluKernel.sig) → Buf (Elt Bits) ℓ) (g : Dev Cert.ReluKernel.nD → PrngReg), Pre_ReluKernel m →
    θ_run (Cert.ReluKernel.defs (F := Bits)) (onTc (τ := Cert.ReluKernel.τ) (Cert.ReluKernel.main (F := Bits))) ⟨m, fun _ => 0, g⟩ (fun r => (∀ c : Dev Cert.ReluKernel.nD,
      r.2.mem ((c.tc : Thread Cert.ReluKernel.nD Cert.ReluKernel.τ).loc Cert.ReluKernel.main_arg0) = m ((c.tc : Thread Cert.ReluKernel.nD Cert.ReluKernel.τ).loc Cert.ReluKernel.main_arg0)
      ∧ r.2.mem ((c.tc : Thread Cert.ReluKernel.nD Cert.ReluKernel.τ).loc Cert.ReluKernel.main_arg1) = m ((c.tc : Thread Cert.ReluKernel.nD Cert.ReluKernel.τ).loc Cert.ReluKernel.main_arg1))
      ∧ r.2.sem = fun _ => 0)

def quiescent_ReluKernelIdeal [hReluKernelIdeal : Cert.ReluKernelIdeal.Facts] : Prop :=
  ∀ (m : (ℓ : Loc Cert.ReluKernelIdeal.nD Cert.ReluKernelIdeal.τ Cert.ReluKernelIdeal.sig) → Buf (Elt Ideal) ℓ) (g : Dev Cert.ReluKernelIdeal.nD → PrngReg), Pre_ReluKernelIdeal m →
    θ_run (Cert.ReluKernelIdeal.defs (F := Ideal)) (onTc (τ := Cert.ReluKernelIdeal.τ) (Cert.ReluKernelIdeal.main (F := Ideal))) ⟨m, fun _ => 0, g⟩ (fun r => (∀ c : Dev Cert.ReluKernelIdeal.nD,
      r.2.mem ((c.tc : Thread Cert.ReluKernelIdeal.nD Cert.ReluKernelIdeal.τ).loc Cert.ReluKernelIdeal.main_arg0) = m ((c.tc : Thread Cert.ReluKernelIdeal.nD Cert.ReluKernelIdeal.τ).loc Cert.ReluKernelIdeal.main_arg0)
      ∧ r.2.mem ((c.tc : Thread Cert.ReluKernelIdeal.nD Cert.ReluKernelIdeal.τ).loc Cert.ReluKernelIdeal.main_arg1) = m ((c.tc : Thread Cert.ReluKernelIdeal.nD Cert.ReluKernelIdeal.τ).loc Cert.ReluKernelIdeal.main_arg1))
      ∧ r.2.sem = fun _ => 0)

def quiescent_ReluReferenceIdeal [hReluReferenceIdeal : Cert.ReluReferenceIdeal.Facts] : Prop :=
  ∀ (m : (ℓ : Loc Cert.ReluReferenceIdeal.nD Cert.ReluReferenceIdeal.τ Cert.ReluReferenceIdeal.sig) → Buf (Elt Ideal) ℓ) (g : Dev Cert.ReluReferenceIdeal.nD → PrngReg), Pre_ReluReferenceIdeal m →
    θ_run (Cert.ReluReferenceIdeal.defs (F := Ideal)) (onTc (τ := Cert.ReluReferenceIdeal.τ) (Cert.ReluReferenceIdeal.main (F := Ideal))) ⟨m, fun _ => 0, g⟩ (fun r => (∀ c : Dev Cert.ReluReferenceIdeal.nD,
      r.2.mem ((c.tc : Thread Cert.ReluReferenceIdeal.nD Cert.ReluReferenceIdeal.τ).loc Cert.ReluReferenceIdeal.main_arg0) = m ((c.tc : Thread Cert.ReluReferenceIdeal.nD Cert.ReluReferenceIdeal.τ).loc Cert.ReluReferenceIdeal.main_arg0)
      ∧ r.2.mem ((c.tc : Thread Cert.ReluReferenceIdeal.nD Cert.ReluReferenceIdeal.τ).loc Cert.ReluReferenceIdeal.main_arg1) = m ((c.tc : Thread Cert.ReluReferenceIdeal.nD Cert.ReluReferenceIdeal.τ).loc Cert.ReluReferenceIdeal.main_arg1))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2)
      ∧ r.2.mem ((c.tc : Thread Cert.DownKernel.nD Cert.DownKernel.τ).loc Cert.DownKernel.main_arg3) = m ((c.tc : Thread Cert.DownKernel.nD Cert.DownKernel.τ).loc Cert.DownKernel.main_arg3)
      ∧ r.2.mem ((c.tc : Thread Cert.DownKernel.nD Cert.DownKernel.τ).loc Cert.DownKernel.main_arg4) = m ((c.tc : Thread Cert.DownKernel.nD Cert.DownKernel.τ).loc Cert.DownKernel.main_arg4))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
      ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3)
      ∧ r.2.mem ((c.tc : Thread Cert.DownKernelIdeal.nD Cert.DownKernelIdeal.τ).loc Cert.DownKernelIdeal.main_arg4) = m ((c.tc : Thread Cert.DownKernelIdeal.nD Cert.DownKernelIdeal.τ).loc Cert.DownKernelIdeal.main_arg4))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def quiescent_AttnOKernel [hAttnOKernel : Cert.AttnOKernel.Facts] : Prop :=
  ∀ (m : (ℓ : Loc Cert.AttnOKernel.nD Cert.AttnOKernel.τ Cert.AttnOKernel.sig) → Buf (Elt Bits) ℓ) (g : Dev Cert.AttnOKernel.nD → PrngReg), Pre_AttnOKernel m →
    θ_run (Cert.AttnOKernel.defs (F := Bits)) (onTc (τ := Cert.AttnOKernel.τ) (Cert.AttnOKernel.main (F := Bits))) ⟨m, fun _ => 0, g⟩ (fun r => (∀ c : Dev Cert.AttnOKernel.nD,
      r.2.mem ((c.tc : Thread Cert.AttnOKernel.nD Cert.AttnOKernel.τ).loc Cert.AttnOKernel.main_arg0) = m ((c.tc : Thread Cert.AttnOKernel.nD Cert.AttnOKernel.τ).loc Cert.AttnOKernel.main_arg0)
      ∧ r.2.mem ((c.tc : Thread Cert.AttnOKernel.nD Cert.AttnOKernel.τ).loc Cert.AttnOKernel.main_arg1) = m ((c.tc : Thread Cert.AttnOKernel.nD Cert.AttnOKernel.τ).loc Cert.AttnOKernel.main_arg1)
      ∧ r.2.mem ((c.tc : Thread Cert.AttnOKernel.nD Cert.AttnOKernel.τ).loc Cert.AttnOKernel.main_arg2) = m ((c.tc : Thread Cert.AttnOKernel.nD Cert.AttnOKernel.τ).loc Cert.AttnOKernel.main_arg2)
      ∧ r.2.mem ((c.tc : Thread Cert.AttnOKernel.nD Cert.AttnOKernel.τ).loc Cert.AttnOKernel.main_arg3) = m ((c.tc : Thread Cert.AttnOKernel.nD Cert.AttnOKernel.τ).loc Cert.AttnOKernel.main_arg3))
      ∧ r.2.sem = fun _ => 0)

def quiescent_AttnOKernelIdeal [hAttnOKernelIdeal : Cert.AttnOKernelIdeal.Facts] : Prop :=
  ∀ (m : (ℓ : Loc Cert.AttnOKernelIdeal.nD Cert.AttnOKernelIdeal.τ Cert.AttnOKernelIdeal.sig) → Buf (Elt Ideal) ℓ) (g : Dev Cert.AttnOKernelIdeal.nD → PrngReg), Pre_AttnOKernelIdeal m →
    θ_run (Cert.AttnOKernelIdeal.defs (F := Ideal)) (onTc (τ := Cert.AttnOKernelIdeal.τ) (Cert.AttnOKernelIdeal.main (F := Ideal))) ⟨m, fun _ => 0, g⟩ (fun r => (∀ c : Dev Cert.AttnOKernelIdeal.nD,
      r.2.mem ((c.tc : Thread Cert.AttnOKernelIdeal.nD Cert.AttnOKernelIdeal.τ).loc Cert.AttnOKernelIdeal.main_arg0) = m ((c.tc : Thread Cert.AttnOKernelIdeal.nD Cert.AttnOKernelIdeal.τ).loc Cert.AttnOKernelIdeal.main_arg0)
      ∧ r.2.mem ((c.tc : Thread Cert.AttnOKernelIdeal.nD Cert.AttnOKernelIdeal.τ).loc Cert.AttnOKernelIdeal.main_arg1) = m ((c.tc : Thread Cert.AttnOKernelIdeal.nD Cert.AttnOKernelIdeal.τ).loc Cert.AttnOKernelIdeal.main_arg1)
      ∧ r.2.mem ((c.tc : Thread Cert.AttnOKernelIdeal.nD Cert.AttnOKernelIdeal.τ).loc Cert.AttnOKernelIdeal.main_arg2) = m ((c.tc : Thread Cert.AttnOKernelIdeal.nD Cert.AttnOKernelIdeal.τ).loc Cert.AttnOKernelIdeal.main_arg2)
      ∧ r.2.mem ((c.tc : Thread Cert.AttnOKernelIdeal.nD Cert.AttnOKernelIdeal.τ).loc Cert.AttnOKernelIdeal.main_arg3) = m ((c.tc : Thread Cert.AttnOKernelIdeal.nD Cert.AttnOKernelIdeal.τ).loc Cert.AttnOKernelIdeal.main_arg3))
      ∧ r.2.sem = fun _ => 0)

def quiescent_AttnOReferenceIdeal [hAttnOReferenceIdeal : Cert.AttnOReferenceIdeal.Facts] : Prop :=
  ∀ (m : (ℓ : Loc Cert.AttnOReferenceIdeal.nD Cert.AttnOReferenceIdeal.τ Cert.AttnOReferenceIdeal.sig) → Buf (Elt Ideal) ℓ) (g : Dev Cert.AttnOReferenceIdeal.nD → PrngReg), Pre_AttnOReferenceIdeal m →
    θ_run (Cert.AttnOReferenceIdeal.defs (F := Ideal)) (onTc (τ := Cert.AttnOReferenceIdeal.τ) (Cert.AttnOReferenceIdeal.main (F := Ideal))) ⟨m, fun _ => 0, g⟩ (fun r => (∀ c : Dev Cert.AttnOReferenceIdeal.nD,
      r.2.mem ((c.tc : Thread Cert.AttnOReferenceIdeal.nD Cert.AttnOReferenceIdeal.τ).loc Cert.AttnOReferenceIdeal.main_arg0) = m ((c.tc : Thread Cert.AttnOReferenceIdeal.nD Cert.AttnOReferenceIdeal.τ).loc Cert.AttnOReferenceIdeal.main_arg0)
      ∧ r.2.mem ((c.tc : Thread Cert.AttnOReferenceIdeal.nD Cert.AttnOReferenceIdeal.τ).loc Cert.AttnOReferenceIdeal.main_arg1) = m ((c.tc : Thread Cert.AttnOReferenceIdeal.nD Cert.AttnOReferenceIdeal.τ).loc Cert.AttnOReferenceIdeal.main_arg1)
      ∧ r.2.mem ((c.tc : Thread Cert.AttnOReferenceIdeal.nD Cert.AttnOReferenceIdeal.τ).loc Cert.AttnOReferenceIdeal.main_arg2) = m ((c.tc : Thread Cert.AttnOReferenceIdeal.nD Cert.AttnOReferenceIdeal.τ).loc Cert.AttnOReferenceIdeal.main_arg2)
      ∧ r.2.mem ((c.tc : Thread Cert.AttnOReferenceIdeal.nD Cert.AttnOReferenceIdeal.τ).loc Cert.AttnOReferenceIdeal.main_arg3) = m ((c.tc : Thread Cert.AttnOReferenceIdeal.nD Cert.AttnOReferenceIdeal.τ).loc Cert.AttnOReferenceIdeal.main_arg3))
      ∧ r.2.sem = fun _ => 0)

def preserves_FfnDownKernel_FfnDownKernelIdeal : Prop :=
  True

def algebraic_FfnDownKernelIdeal_FfnDownReferenceIdeal [hFfnDownKernelIdeal : Cert.FfnDownKernelIdeal.Facts] [hFfnDownReferenceIdeal : Cert.FfnDownReferenceIdeal.Facts] : Prop :=
  ∀ (m : (ℓ : Loc Cert.FfnDownKernelIdeal.nD Cert.FfnDownKernelIdeal.τ Cert.FfnDownKernelIdeal.sig) → Buf (Elt Ideal) ℓ) (g : Dev Cert.FfnDownKernelIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownKernelIdeal m →
    (∀ c : Dev Cert.FfnDownKernelIdeal.nD,
      m' ((c.tc : Thread Cert.FfnDownReferenceIdeal.nD Cert.FfnDownReferenceIdeal.τ).loc Cert.FfnDownReferenceIdeal.main_arg0) = m ((c.tc : Thread Cert.FfnDownKernelIdeal.nD Cert.FfnDownKernelIdeal.τ).loc Cert.FfnDownKernelIdeal.main_arg0)
      ∧ m' ((c.tc : Thread Cert.FfnDownReferenceIdeal.nD Cert.FfnDownReferenceIdeal.τ).loc Cert.FfnDownReferenceIdeal.main_arg1) = m ((c.tc : Thread Cert.FfnDownKernelIdeal.nD Cert.FfnDownKernelIdeal.τ).loc Cert.FfnDownKernelIdeal.main_arg1)
      ∧ m' ((c.tc : Thread Cert.FfnDownReferenceIdeal.nD Cert.FfnDownReferenceIdeal.τ).loc Cert.FfnDownReferenceIdeal.main_arg2) = m ((c.tc : Thread Cert.FfnDownKernelIdeal.nD Cert.FfnDownKernelIdeal.τ).loc Cert.FfnDownKernelIdeal.main_arg2)
      ∧ m' ((c.tc : Thread Cert.FfnDownReferenceIdeal.nD Cert.FfnDownReferenceIdeal.τ).loc Cert.FfnDownReferenceIdeal.main_arg3) = m ((c.tc : Thread Cert.FfnDownKernelIdeal.nD Cert.FfnDownKernelIdeal.τ).loc Cert.FfnDownKernelIdeal.main_arg3)) →
    ∃ (v0 : (c : Dev Cert.FfnDownKernelIdeal.nD) → Buf (Elt Ideal) ((c.tc : Thread Cert.FfnDownKernelIdeal.nD Cert.FfnDownKernelIdeal.τ).loc Cert.FfnDownKernelIdeal.main_v9)),
      θ_run (Cert.FfnDownKernelIdeal.defs (F := Ideal)) (onTc (τ := Cert.FfnDownKernelIdeal.τ) (Cert.FfnDownKernelIdeal.main (F := Ideal))) ⟨m, fun _ => 0, g⟩ (fun r => ∀ c : Dev Cert.FfnDownKernelIdeal.nD,
          r.2.mem ((c.tc : Thread Cert.FfnDownKernelIdeal.nD Cert.FfnDownKernelIdeal.τ).loc Cert.FfnDownKernelIdeal.main_v9) = v0 c
          ∧ r.2.mem ((c.tc : Thread Cert.FfnDownKernelIdeal.nD Cert.FfnDownKernelIdeal.τ).loc Cert.FfnDownKernelIdeal.main_arg0) = m ((c.tc : Thread Cert.FfnDownKernelIdeal.nD Cert.FfnDownKernelIdeal.τ).loc Cert.FfnDownKernelIdeal.main_arg0)
          ∧ r.2.mem ((c.tc : Thread Cert.FfnDownKernelIdeal.nD Cert.FfnDownKernelIdeal.τ).loc Cert.FfnDownKernelIdeal.main_arg1) = m ((c.tc : Thread Cert.FfnDownKernelIdeal.nD Cert.FfnDownKernelIdeal.τ).loc Cert.FfnDownKernelIdeal.main_arg1)
          ∧ r.2.mem ((c.tc : Thread Cert.FfnDownKernelIdeal.nD Cert.FfnDownKernelIdeal.τ).loc Cert.FfnDownKernelIdeal.main_arg2) = m ((c.tc : Thread Cert.FfnDownKernelIdeal.nD Cert.FfnDownKernelIdeal.τ).loc Cert.FfnDownKernelIdeal.main_arg2)
          ∧ r.2.mem ((c.tc : Thread Cert.FfnDownKernelIdeal.nD Cert.FfnDownKernelIdeal.τ).loc Cert.FfnDownKernelIdeal.main_arg3) = m ((c.tc : Thread Cert.FfnDownKernelIdeal.nD Cert.FfnDownKernelIdeal.τ).loc Cert.FfnDownKernelIdeal.main_arg3))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v13) = v0 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1)
          ∧ r.2.mem ((c.tc : Thread Cert.FfnDownReferenceIdeal.nD Cert.FfnDownReferenceIdeal.τ).loc Cert.FfnDownReferenceIdeal.main_arg2) = m' ((c.tc : Thread Cert.FfnDownReferenceIdeal.nD Cert.FfnDownReferenceIdeal.τ).loc Cert.FfnDownReferenceIdeal.main_arg2)
          ∧ r.2.mem ((c.tc : Thread Cert.FfnDownReferenceIdeal.nD Cert.FfnDownReferenceIdeal.τ).loc Cert.FfnDownReferenceIdeal.main_arg3) = m' ((c.tc : Thread Cert.FfnDownReferenceIdeal.nD Cert.FfnDownReferenceIdeal.τ).loc Cert.FfnDownReferenceIdeal.main_arg3))

def preserves_FlashKernel_FlashKernelIdeal : Prop :=
  IdealRules.named_const.Statement Cert.FlashKernelIdeal.κ "inv_log2_scale" .f32 0x4119AC27#32 (((4843165 / 67108864)⁻¹ * (Real.log 2) : ℝ) : EReal)

def algebraic_FlashKernelIdeal_FlashReferenceIdeal_pre_finite_flash [hFlashKernelIdeal : Cert.FlashKernelIdeal.Facts] [hFlashReferenceIdeal : Cert.FlashReferenceIdeal.Facts] [hPre_finite_flash : Cert.Pre_finite_flash.Facts] : Prop :=
  ∀ (m : (ℓ : Loc Cert.FlashKernelIdeal.nD Cert.FlashKernelIdeal.τ Cert.FlashKernelIdeal.sig) → Buf (Elt Ideal) ℓ) (g : Dev Cert.FlashKernelIdeal.nD → PrngReg)
    (m' : (ℓ : Loc Cert.FlashReferenceIdeal.nD Cert.FlashReferenceIdeal.τ Cert.FlashReferenceIdeal.sig) → Buf (Elt Ideal) ℓ) (g' : Dev Cert.FlashReferenceIdeal.nD → PrngReg), Pre_FlashKernelIdeal_finite_flash m →
    (∀ c : Dev Cert.FlashKernelIdeal.nD,
      m' ((c.tc : Thread Cert.FlashReferenceIdeal.nD Cert.FlashReferenceIdeal.τ).loc Cert.FlashReferenceIdeal.main_arg0) = m ((c.tc : Thread Cert.FlashKernelIdeal.nD Cert.FlashKernelIdeal.τ).loc Cert.FlashKernelIdeal.main_arg0)
      ∧ m' ((c.tc : Thread Cert.FlashReferenceIdeal.nD Cert.FlashReferenceIdeal.τ).loc Cert.FlashReferenceIdeal.main_arg1) = m ((c.tc : Thread Cert.FlashKernelIdeal.nD Cert.FlashKernelIdeal.τ).loc Cert.FlashKernelIdeal.main_arg1)
      ∧ m' ((c.tc : Thread Cert.FlashReferenceIdeal.nD Cert.FlashReferenceIdeal.τ).loc Cert.FlashReferenceIdeal.main_arg2) = m ((c.tc : Thread Cert.FlashKernelIdeal.nD Cert.FlashKernelIdeal.τ).loc Cert.FlashKernelIdeal.main_arg2)
      ∧ m' ((c.tc : Thread Cert.FlashReferenceIdeal.nD Cert.FlashReferenceIdeal.τ).loc Cert.FlashReferenceIdeal.main_arg3) = m ((c.tc : Thread Cert.FlashKernelIdeal.nD Cert.FlashKernelIdeal.τ).loc Cert.FlashKernelIdeal.main_arg3)) →
    ∃ (v0 : (c : Dev Cert.FlashKernelIdeal.nD) → Buf (Elt Ideal) ((c.tc : Thread Cert.FlashKernelIdeal.nD Cert.FlashKernelIdeal.τ).loc Cert.FlashKernelIdeal.main_v52_0)) (v1 : (c : Dev Cert.FlashKernelIdeal.nD) → Buf (Elt Ideal) ((c.tc : Thread Cert.FlashKernelIdeal.nD Cert.FlashKernelIdeal.τ).loc Cert.FlashKernelIdeal.main_v52_1)) (v2 : (c : Dev Cert.FlashKernelIdeal.nD) → Buf (Elt Ideal) ((c.tc : Thread Cert.FlashKernelIdeal.nD Cert.FlashKernelIdeal.τ).loc Cert.FlashKernelIdeal.main_v52_2)),
      θ_run (Cert.FlashKernelIdeal.defs (F := Ideal)) (onTc (τ := Cert.FlashKernelIdeal.τ) (Cert.FlashKernelIdeal.main (F := Ideal))) ⟨m, fun _ => 0, g⟩ (fun r => ∀ c : Dev Cert.FlashKernelIdeal.nD,
          r.2.mem ((c.tc : Thread Cert.FlashKernelIdeal.nD Cert.FlashKernelIdeal.τ).loc Cert.FlashKernelIdeal.main_v52_0) = v0 c
          ∧ r.2.mem ((c.tc : Thread Cert.FlashKernelIdeal.nD Cert.FlashKernelIdeal.τ).loc Cert.FlashKernelIdeal.main_v52_1) = v1 c
          ∧ r.2.mem ((c.tc : Thread Cert.FlashKernelIdeal.nD Cert.FlashKernelIdeal.τ).loc Cert.FlashKernelIdeal.main_v52_2) = v2 c
          ∧ r.2.mem ((c.tc : Thread Cert.FlashKernelIdeal.nD Cert.FlashKernelIdeal.τ).loc Cert.FlashKernelIdeal.main_arg0) = m ((c.tc : Thread Cert.FlashKernelIdeal.nD Cert.FlashKernelIdeal.τ).loc Cert.FlashKernelIdeal.main_arg0)
          ∧ r.2.mem ((c.tc : Thread Cert.FlashKernelIdeal.nD Cert.FlashKernelIdeal.τ).loc Cert.FlashKernelIdeal.main_arg1) = m ((c.tc : Thread Cert.FlashKernelIdeal.nD Cert.FlashKernelIdeal.τ).loc Cert.FlashKernelIdeal.main_arg1)
          ∧ r.2.mem ((c.tc : Thread Cert.FlashKernelIdeal.nD Cert.FlashKernelIdeal.τ).loc Cert.FlashKernelIdeal.main_arg2) = m ((c.tc : Thread Cert.FlashKernelIdeal.nD Cert.FlashKernelIdeal.τ).loc Cert.FlashKernelIdeal.main_arg2)
          ∧ r.2.mem ((c.tc : Thread Cert.FlashKernelIdeal.nD Cert.FlashKernelIdeal.τ).loc Cert.FlashKernelIdeal.main_arg3) = m ((c.tc : Thread Cert.FlashKernelIdeal.nD Cert.FlashKernelIdeal.τ).loc Cert.FlashKernelIdeal.main_arg3))
      ∧ θ_run (Cert.FlashReferenceIdeal.defs (F := Ideal)) (onTc (τ := Cert.FlashReferenceIdeal.τ) (Cert.FlashReferenceIdeal.main (F := Ideal))) ⟨m', fun _ => 0, g'⟩ (fun r => ∀ c : Dev Cert.FlashReferenceIdeal.nD,
          r.2.mem ((c.tc : Thread Cert.FlashReferenceIdeal.nD Cert.FlashReferenceIdeal.τ).loc Cert.FlashReferenceIdeal.main_v80) = v0 c
          ∧ r.2.mem ((c.tc : Thread Cert.FlashReferenceIdeal.nD Cert.FlashReferenceIdeal.τ).loc Cert.FlashReferenceIdeal.main_v82) = v1 c
          ∧ r.2.mem ((c.tc : Thread Cert.FlashReferenceIdeal.nD Cert.FlashReferenceIdeal.τ).loc Cert.FlashReferenceIdeal.main_v83) = v2 c
          ∧ r.2.mem ((c.tc : Thread Cert.FlashReferenceIdeal.nD Cert.FlashReferenceIdeal.τ).loc Cert.FlashReferenceIdeal.main_arg0) = m' ((c.tc : Thread Cert.FlashReferenceIdeal.nD Cert.FlashReferenceIdeal.τ).loc Cert.FlashReferenceIdeal.main_arg0)
          ∧ r.2.mem ((c.tc : Thread Cert.FlashReferenceIdeal.nD Cert.FlashReferenceIdeal.τ).loc Cert.FlashReferenceIdeal.main_arg1) = m' ((c.tc : Thread Cert.FlashReferenceIdeal.nD Cert.FlashReferenceIdeal.τ).loc Cert.FlashReferenceIdeal.main_arg1)
          ∧ r.2.mem ((c.tc : Thread Cert.FlashReferenceIdeal.nD Cert.FlashReferenceIdeal.τ).loc Cert.FlashReferenceIdeal.main_arg2) = m' ((c.tc : Thread Cert.FlashReferenceIdeal.nD Cert.FlashReferenceIdeal.τ).loc Cert.FlashReferenceIdeal.main_arg2)
          ∧ r.2.mem ((c.tc : Thread Cert.FlashReferenceIdeal.nD Cert.FlashReferenceIdeal.τ).loc Cert.FlashReferenceIdeal.main_arg3) = m' ((c.tc : Thread Cert.FlashReferenceIdeal.nD Cert.FlashReferenceIdeal.τ).loc Cert.FlashReferenceIdeal.main_arg3))

def preserves_LossKernel_LossKernelIdeal : Prop :=
  True

def algebraic_LossKernelIdeal_LossReferenceIdeal_pre_finite_loss [hLossKernelIdeal : Cert.LossKernelIdeal.Facts] [hLossReferenceIdeal : Cert.LossReferenceIdeal.Facts] [hPre_finite_loss : Cert.Pre_finite_loss.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal_finite_loss m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v1_0)) (v1 : (c : Dev Cert.LossKernelIdeal.nD) → Buf (Elt Ideal) ((c.tc : Thread Cert.LossKernelIdeal.nD Cert.LossKernelIdeal.τ).loc Cert.LossKernelIdeal.main_v1_1)) (v2 : (c : Dev Cert.LossKernelIdeal.nD) → Buf (Elt Ideal) ((c.tc : Thread Cert.LossKernelIdeal.nD Cert.LossKernelIdeal.τ).loc Cert.LossKernelIdeal.main_v1_2)) (v3 : (c : Dev Cert.LossKernelIdeal.nD) → Buf (Elt Ideal) ((c.tc : Thread Cert.LossKernelIdeal.nD Cert.LossKernelIdeal.τ).loc Cert.LossKernelIdeal.main_v1_3)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v1_0) = v0 c
          ∧ r.2.mem ((c.tc : Thread Cert.LossKernelIdeal.nD Cert.LossKernelIdeal.τ).loc Cert.LossKernelIdeal.main_v1_1) = v1 c
          ∧ r.2.mem ((c.tc : Thread Cert.LossKernelIdeal.nD Cert.LossKernelIdeal.τ).loc Cert.LossKernelIdeal.main_v1_2) = v2 c
          ∧ r.2.mem ((c.tc : Thread Cert.LossKernelIdeal.nD Cert.LossKernelIdeal.τ).loc Cert.LossKernelIdeal.main_v1_3) = v3 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v50) = v0 c
          ∧ r.2.mem ((c.tc : Thread Cert.LossReferenceIdeal.nD Cert.LossReferenceIdeal.τ).loc Cert.LossReferenceIdeal.main_v67) = v1 c
          ∧ r.2.mem ((c.tc : Thread Cert.LossReferenceIdeal.nD Cert.LossReferenceIdeal.τ).loc Cert.LossReferenceIdeal.main_v68) = v2 c
          ∧ r.2.mem ((c.tc : Thread Cert.LossReferenceIdeal.nD Cert.LossReferenceIdeal.τ).loc Cert.LossReferenceIdeal.main_v69) = v3 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_FfnUpKernel_FfnUpKernelIdeal : Prop :=
  True

def algebraic_FfnUpKernelIdeal_FfnUpReferenceIdeal_pre_finite_ffnup [hFfnUpKernelIdeal : Cert.FfnUpKernelIdeal.Facts] [hFfnUpReferenceIdeal : Cert.FfnUpReferenceIdeal.Facts] [hPre_finite_ffnup : Cert.Pre_finite_ffnup.Facts] : Prop :=
  ∀ (m : (ℓ : Loc Cert.FfnUpKernelIdeal.nD Cert.FfnUpKernelIdeal.τ Cert.FfnUpKernelIdeal.sig) → Buf (Elt Ideal) ℓ) (g : Dev Cert.FfnUpKernelIdeal.nD → PrngReg)
    (m' : (ℓ : Loc Cert.FfnUpReferenceIdeal.nD Cert.FfnUpReferenceIdeal.τ Cert.FfnUpReferenceIdeal.sig) → Buf (Elt Ideal) ℓ) (g' : Dev Cert.FfnUpReferenceIdeal.nD → PrngReg), Pre_FfnUpKernelIdeal_finite_ffnup m →
    (∀ c : Dev Cert.FfnUpKernelIdeal.nD,
      m' ((c.tc : Thread Cert.FfnUpReferenceIdeal.nD Cert.FfnUpReferenceIdeal.τ).loc Cert.FfnUpReferenceIdeal.main_arg0) = m ((c.tc : Thread Cert.FfnUpKernelIdeal.nD Cert.FfnUpKernelIdeal.τ).loc Cert.FfnUpKernelIdeal.main_arg0)
      ∧ m' ((c.tc : Thread Cert.FfnUpReferenceIdeal.nD Cert.FfnUpReferenceIdeal.τ).loc Cert.FfnUpReferenceIdeal.main_arg1) = m ((c.tc : Thread Cert.FfnUpKernelIdeal.nD Cert.FfnUpKernelIdeal.τ).loc Cert.FfnUpKernelIdeal.main_arg1)
      ∧ m' ((c.tc : Thread Cert.FfnUpReferenceIdeal.nD Cert.FfnUpReferenceIdeal.τ).loc Cert.FfnUpReferenceIdeal.main_arg2) = m ((c.tc : Thread Cert.FfnUpKernelIdeal.nD Cert.FfnUpKernelIdeal.τ).loc Cert.FfnUpKernelIdeal.main_arg2)
      ∧ m' ((c.tc : Thread Cert.FfnUpReferenceIdeal.nD Cert.FfnUpReferenceIdeal.τ).loc Cert.FfnUpReferenceIdeal.main_arg3) = m ((c.tc : Thread Cert.FfnUpKernelIdeal.nD Cert.FfnUpKernelIdeal.τ).loc Cert.FfnUpKernelIdeal.main_arg3)
      ∧ m' ((c.tc : Thread Cert.FfnUpReferenceIdeal.nD Cert.FfnUpReferenceIdeal.τ).loc Cert.FfnUpReferenceIdeal.main_arg4) = m ((c.tc : Thread Cert.FfnUpKernelIdeal.nD Cert.FfnUpKernelIdeal.τ).loc Cert.FfnUpKernelIdeal.main_arg4)) →
    ∃ (v0 : (c : Dev Cert.FfnUpKernelIdeal.nD) → Buf (Elt Ideal) ((c.tc : Thread Cert.FfnUpKernelIdeal.nD Cert.FfnUpKernelIdeal.τ).loc Cert.FfnUpKernelIdeal.main_v5_0)) (v1 : (c : Dev Cert.FfnUpKernelIdeal.nD) → Buf (Elt Ideal) ((c.tc : Thread Cert.FfnUpKernelIdeal.nD Cert.FfnUpKernelIdeal.τ).loc Cert.FfnUpKernelIdeal.main_v5_1)) (v2 : (c : Dev Cert.FfnUpKernelIdeal.nD) → Buf (Elt Ideal) ((c.tc : Thread Cert.FfnUpKernelIdeal.nD Cert.FfnUpKernelIdeal.τ).loc Cert.FfnUpKernelIdeal.main_v5_2)),
      θ_run (Cert.FfnUpKernelIdeal.defs (F := Ideal)) (onTc (τ := Cert.FfnUpKernelIdeal.τ) (Cert.FfnUpKernelIdeal.main (F := Ideal))) ⟨m, fun _ => 0, g⟩ (fun r => ∀ c : Dev Cert.FfnUpKernelIdeal.nD,
          r.2.mem ((c.tc : Thread Cert.FfnUpKernelIdeal.nD Cert.FfnUpKernelIdeal.τ).loc Cert.FfnUpKernelIdeal.main_v5_0) = v0 c
          ∧ r.2.mem ((c.tc : Thread Cert.FfnUpKernelIdeal.nD Cert.FfnUpKernelIdeal.τ).loc Cert.FfnUpKernelIdeal.main_v5_1) = v1 c
          ∧ r.2.mem ((c.tc : Thread Cert.FfnUpKernelIdeal.nD Cert.FfnUpKernelIdeal.τ).loc Cert.FfnUpKernelIdeal.main_v5_2) = v2 c
          ∧ r.2.mem ((c.tc : Thread Cert.FfnUpKernelIdeal.nD Cert.FfnUpKernelIdeal.τ).loc Cert.FfnUpKernelIdeal.main_arg0) = m ((c.tc : Thread Cert.FfnUpKernelIdeal.nD Cert.FfnUpKernelIdeal.τ).loc Cert.FfnUpKernelIdeal.main_arg0)
          ∧ r.2.mem ((c.tc : Thread Cert.FfnUpKernelIdeal.nD Cert.FfnUpKernelIdeal.τ).loc Cert.FfnUpKernelIdeal.main_arg1) = m ((c.tc : Thread Cert.FfnUpKernelIdeal.nD Cert.FfnUpKernelIdeal.τ).loc Cert.FfnUpKernelIdeal.main_arg1)
          ∧ r.2.mem ((c.tc : Thread Cert.FfnUpKernelIdeal.nD Cert.FfnUpKernelIdeal.τ).loc Cert.FfnUpKernelIdeal.main_arg2) = m ((c.tc : Thread Cert.FfnUpKernelIdeal.nD Cert.FfnUpKernelIdeal.τ).loc Cert.FfnUpKernelIdeal.main_arg2)
          ∧ r.2.mem ((c.tc : Thread Cert.FfnUpKernelIdeal.nD Cert.FfnUpKernelIdeal.τ).loc Cert.FfnUpKernelIdeal.main_arg3) = m ((c.tc : Thread Cert.FfnUpKernelIdeal.nD Cert.FfnUpKernelIdeal.τ).loc Cert.FfnUpKernelIdeal.main_arg3)
          ∧ r.2.mem ((c.tc : Thread Cert.FfnUpKernelIdeal.nD Cert.FfnUpKernelIdeal.τ).loc Cert.FfnUpKernelIdeal.main_arg4) = m ((c.tc : Thread Cert.FfnUpKernelIdeal.nD Cert.FfnUpKernelIdeal.τ).loc Cert.FfnUpKernelIdeal.main_arg4))
      ∧ θ_run (Cert.FfnUpReferenceIdeal.defs (F := Ideal)) (onTc (τ := Cert.FfnUpReferenceIdeal.τ) (Cert.FfnUpReferenceIdeal.main (F := Ideal))) ⟨m', fun _ => 0, g'⟩ (fun r => ∀ c : Dev Cert.FfnUpReferenceIdeal.nD,
          r.2.mem ((c.tc : Thread Cert.FfnUpReferenceIdeal.nD Cert.FfnUpReferenceIdeal.τ).loc Cert.FfnUpReferenceIdeal.main_v38) = v0 c
          ∧ r.2.mem ((c.tc : Thread Cert.FfnUpReferenceIdeal.nD Cert.FfnUpReferenceIdeal.τ).loc Cert.FfnUpReferenceIdeal.main_v39) = v1 c
          ∧ r.2.mem ((c.tc : Thread Cert.FfnUpReferenceIdeal.nD Cert.FfnUpReferenceIdeal.τ).loc Cert.FfnUpReferenceIdeal.main_v40) = v2 c
          ∧ r.2.mem ((c.tc : Thread Cert.FfnUpReferenceIdeal.nD Cert.FfnUpReferenceIdeal.τ).loc Cert.FfnUpReferenceIdeal.main_arg0) = m' ((c.tc : Thread Cert.FfnUpReferenceIdeal.nD Cert.FfnUpReferenceIdeal.τ).loc Cert.FfnUpReferenceIdeal.main_arg0)
          ∧ r.2.mem ((c.tc : Thread Cert.FfnUpReferenceIdeal.nD Cert.FfnUpReferenceIdeal.τ).loc Cert.FfnUpReferenceIdeal.main_arg1) = m' ((c.tc : Thread Cert.FfnUpReferenceIdeal.nD Cert.FfnUpReferenceIdeal.τ).loc Cert.FfnUpReferenceIdeal.main_arg1)
          ∧ r.2.mem ((c.tc : Thread Cert.FfnUpReferenceIdeal.nD Cert.FfnUpReferenceIdeal.τ).loc Cert.FfnUpReferenceIdeal.main_arg2) = m' ((c.tc : Thread Cert.FfnUpReferenceIdeal.nD Cert.FfnUpReferenceIdeal.τ).loc Cert.FfnUpReferenceIdeal.main_arg2)
          ∧ r.2.mem ((c.tc : Thread Cert.FfnUpReferenceIdeal.nD Cert.FfnUpReferenceIdeal.τ).loc Cert.FfnUpReferenceIdeal.main_arg3) = m' ((c.tc : Thread Cert.FfnUpReferenceIdeal.nD Cert.FfnUpReferenceIdeal.τ).loc Cert.FfnUpReferenceIdeal.main_arg3)
          ∧ r.2.mem ((c.tc : Thread Cert.FfnUpReferenceIdeal.nD Cert.FfnUpReferenceIdeal.τ).loc Cert.FfnUpReferenceIdeal.main_arg4) = m' ((c.tc : Thread Cert.FfnUpReferenceIdeal.nD Cert.FfnUpReferenceIdeal.τ).loc Cert.FfnUpReferenceIdeal.main_arg4))

def preserves_SguKernel_SguKernelIdeal : Prop :=
  IdealRules.named_const.Statement Cert.SguKernelIdeal.κ "rsqrt2" .f32 0x3F3504F3#32 (((Real.sqrt 2)⁻¹ : ℝ) : EReal)
  ∧ IdealRules.named_const.Statement Cert.SguKernelIdeal.κ "gauss" .f32 0x3ECC422A#32 (((9465531 / 16777216) * (Real.sqrt 2)⁻¹ : ℝ) : EReal)

def algebraic_SguKernelIdeal_SguReferenceIdeal_pre_finite_sgu [hSguKernelIdeal : Cert.SguKernelIdeal.Facts] [hSguReferenceIdeal : Cert.SguReferenceIdeal.Facts] [hPre_finite_sgu : Cert.Pre_finite_sgu.Facts] : Prop :=
  ∀ (m : (ℓ : Loc Cert.SguKernelIdeal.nD Cert.SguKernelIdeal.τ Cert.SguKernelIdeal.sig) → Buf (Elt Ideal) ℓ) (g : Dev Cert.SguKernelIdeal.nD → PrngReg)
    (m' : (ℓ : Loc Cert.SguReferenceIdeal.nD Cert.SguReferenceIdeal.τ Cert.SguReferenceIdeal.sig) → Buf (Elt Ideal) ℓ) (g' : Dev Cert.SguReferenceIdeal.nD → PrngReg), Pre_SguKernelIdeal_finite_sgu m →
    (∀ c : Dev Cert.SguKernelIdeal.nD,
      m' ((c.tc : Thread Cert.SguReferenceIdeal.nD Cert.SguReferenceIdeal.τ).loc Cert.SguReferenceIdeal.main_arg0) = m ((c.tc : Thread Cert.SguKernelIdeal.nD Cert.SguKernelIdeal.τ).loc Cert.SguKernelIdeal.main_arg0)
      ∧ m' ((c.tc : Thread Cert.SguReferenceIdeal.nD Cert.SguReferenceIdeal.τ).loc Cert.SguReferenceIdeal.main_arg1) = m ((c.tc : Thread Cert.SguKernelIdeal.nD Cert.SguKernelIdeal.τ).loc Cert.SguKernelIdeal.main_arg1)
      ∧ m' ((c.tc : Thread Cert.SguReferenceIdeal.nD Cert.SguReferenceIdeal.τ).loc Cert.SguReferenceIdeal.main_arg2) = m ((c.tc : Thread Cert.SguKernelIdeal.nD Cert.SguKernelIdeal.τ).loc Cert.SguKernelIdeal.main_arg2)
      ∧ m' ((c.tc : Thread Cert.SguReferenceIdeal.nD Cert.SguReferenceIdeal.τ).loc Cert.SguReferenceIdeal.main_arg3) = m ((c.tc : Thread Cert.SguKernelIdeal.nD Cert.SguKernelIdeal.τ).loc Cert.SguKernelIdeal.main_arg3)
      ∧ m' ((c.tc : Thread Cert.SguReferenceIdeal.nD Cert.SguReferenceIdeal.τ).loc Cert.SguReferenceIdeal.main_arg4) = m ((c.tc : Thread Cert.SguKernelIdeal.nD Cert.SguKernelIdeal.τ).loc Cert.SguKernelIdeal.main_arg4)
      ∧ m' ((c.tc : Thread Cert.SguReferenceIdeal.nD Cert.SguReferenceIdeal.τ).loc Cert.SguReferenceIdeal.main_arg5) = m ((c.tc : Thread Cert.SguKernelIdeal.nD Cert.SguKernelIdeal.τ).loc Cert.SguKernelIdeal.main_arg5)) →
    ∃ (v0 : (c : Dev Cert.SguKernelIdeal.nD) → Buf (Elt Ideal) ((c.tc : Thread Cert.SguKernelIdeal.nD Cert.SguKernelIdeal.τ).loc Cert.SguKernelIdeal.main_v5_0)) (v1 : (c : Dev Cert.SguKernelIdeal.nD) → Buf (Elt Ideal) ((c.tc : Thread Cert.SguKernelIdeal.nD Cert.SguKernelIdeal.τ).loc Cert.SguKernelIdeal.main_v5_1)) (v2 : (c : Dev Cert.SguKernelIdeal.nD) → Buf (Elt Ideal) ((c.tc : Thread Cert.SguKernelIdeal.nD Cert.SguKernelIdeal.τ).loc Cert.SguKernelIdeal.main_v5_2)) (v3 : (c : Dev Cert.SguKernelIdeal.nD) → Buf (Elt Ideal) ((c.tc : Thread Cert.SguKernelIdeal.nD Cert.SguKernelIdeal.τ).loc Cert.SguKernelIdeal.main_v5_3)) (v4 : (c : Dev Cert.SguKernelIdeal.nD) → Buf (Elt Ideal) ((c.tc : Thread Cert.SguKernelIdeal.nD Cert.SguKernelIdeal.τ).loc Cert.SguKernelIdeal.main_v5_4)),
      θ_run (Cert.SguKernelIdeal.defs (F := Ideal)) (onTc (τ := Cert.SguKernelIdeal.τ) (Cert.SguKernelIdeal.main (F := Ideal))) ⟨m, fun _ => 0, g⟩ (fun r => ∀ c : Dev Cert.SguKernelIdeal.nD,
          r.2.mem ((c.tc : Thread Cert.SguKernelIdeal.nD Cert.SguKernelIdeal.τ).loc Cert.SguKernelIdeal.main_v5_0) = v0 c
          ∧ r.2.mem ((c.tc : Thread Cert.SguKernelIdeal.nD Cert.SguKernelIdeal.τ).loc Cert.SguKernelIdeal.main_v5_1) = v1 c
          ∧ r.2.mem ((c.tc : Thread Cert.SguKernelIdeal.nD Cert.SguKernelIdeal.τ).loc Cert.SguKernelIdeal.main_v5_2) = v2 c
          ∧ r.2.mem ((c.tc : Thread Cert.SguKernelIdeal.nD Cert.SguKernelIdeal.τ).loc Cert.SguKernelIdeal.main_v5_3) = v3 c
          ∧ r.2.mem ((c.tc : Thread Cert.SguKernelIdeal.nD Cert.SguKernelIdeal.τ).loc Cert.SguKernelIdeal.main_v5_4) = v4 c
          ∧ r.2.mem ((c.tc : Thread Cert.SguKernelIdeal.nD Cert.SguKernelIdeal.τ).loc Cert.SguKernelIdeal.main_arg0) = m ((c.tc : Thread Cert.SguKernelIdeal.nD Cert.SguKernelIdeal.τ).loc Cert.SguKernelIdeal.main_arg0)
          ∧ r.2.mem ((c.tc : Thread Cert.SguKernelIdeal.nD Cert.SguKernelIdeal.τ).loc Cert.SguKernelIdeal.main_arg1) = m ((c.tc : Thread Cert.SguKernelIdeal.nD Cert.SguKernelIdeal.τ).loc Cert.SguKernelIdeal.main_arg1)
          ∧ r.2.mem ((c.tc : Thread Cert.SguKernelIdeal.nD Cert.SguKernelIdeal.τ).loc Cert.SguKernelIdeal.main_arg2) = m ((c.tc : Thread Cert.SguKernelIdeal.nD Cert.SguKernelIdeal.τ).loc Cert.SguKernelIdeal.main_arg2)
          ∧ r.2.mem ((c.tc : Thread Cert.SguKernelIdeal.nD Cert.SguKernelIdeal.τ).loc Cert.SguKernelIdeal.main_arg3) = m ((c.tc : Thread Cert.SguKernelIdeal.nD Cert.SguKernelIdeal.τ).loc Cert.SguKernelIdeal.main_arg3)
          ∧ r.2.mem ((c.tc : Thread Cert.SguKernelIdeal.nD Cert.SguKernelIdeal.τ).loc Cert.SguKernelIdeal.main_arg4) = m ((c.tc : Thread Cert.SguKernelIdeal.nD Cert.SguKernelIdeal.τ).loc Cert.SguKernelIdeal.main_arg4)
          ∧ r.2.mem ((c.tc : Thread Cert.SguKernelIdeal.nD Cert.SguKernelIdeal.τ).loc Cert.SguKernelIdeal.main_arg5) = m ((c.tc : Thread Cert.SguKernelIdeal.nD Cert.SguKernelIdeal.τ).loc Cert.SguKernelIdeal.main_arg5))
      ∧ θ_run (Cert.SguReferenceIdeal.defs (F := Ideal)) (onTc (τ := Cert.SguReferenceIdeal.τ) (Cert.SguReferenceIdeal.main (F := Ideal))) ⟨m', fun _ => 0, g'⟩ (fun r => ∀ c : Dev Cert.SguReferenceIdeal.nD,
          r.2.mem ((c.tc : Thread Cert.SguReferenceIdeal.nD Cert.SguReferenceIdeal.τ).loc Cert.SguReferenceIdeal.main_v111) = v0 c
          ∧ r.2.mem ((c.tc : Thread Cert.SguReferenceIdeal.nD Cert.SguReferenceIdeal.τ).loc Cert.SguReferenceIdeal.main_v112) = v1 c
          ∧ r.2.mem ((c.tc : Thread Cert.SguReferenceIdeal.nD Cert.SguReferenceIdeal.τ).loc Cert.SguReferenceIdeal.main_v113) = v2 c
          ∧ r.2.mem ((c.tc : Thread Cert.SguReferenceIdeal.nD Cert.SguReferenceIdeal.τ).loc Cert.SguReferenceIdeal.main_v65) = v3 c
          ∧ r.2.mem ((c.tc : Thread Cert.SguReferenceIdeal.nD Cert.SguReferenceIdeal.τ).loc Cert.SguReferenceIdeal.main_v116) = v4 c
          ∧ r.2.mem ((c.tc : Thread Cert.SguReferenceIdeal.nD Cert.SguReferenceIdeal.τ).loc Cert.SguReferenceIdeal.main_arg0) = m' ((c.tc : Thread Cert.SguReferenceIdeal.nD Cert.SguReferenceIdeal.τ).loc Cert.SguReferenceIdeal.main_arg0)
          ∧ r.2.mem ((c.tc : Thread Cert.SguReferenceIdeal.nD Cert.SguReferenceIdeal.τ).loc Cert.SguReferenceIdeal.main_arg1) = m' ((c.tc : Thread Cert.SguReferenceIdeal.nD Cert.SguReferenceIdeal.τ).loc Cert.SguReferenceIdeal.main_arg1)
          ∧ r.2.mem ((c.tc : Thread Cert.SguReferenceIdeal.nD Cert.SguReferenceIdeal.τ).loc Cert.SguReferenceIdeal.main_arg2) = m' ((c.tc : Thread Cert.SguReferenceIdeal.nD Cert.SguReferenceIdeal.τ).loc Cert.SguReferenceIdeal.main_arg2)
          ∧ r.2.mem ((c.tc : Thread Cert.SguReferenceIdeal.nD Cert.SguReferenceIdeal.τ).loc Cert.SguReferenceIdeal.main_arg3) = m' ((c.tc : Thread Cert.SguReferenceIdeal.nD Cert.SguReferenceIdeal.τ).loc Cert.SguReferenceIdeal.main_arg3)
          ∧ r.2.mem ((c.tc : Thread Cert.SguReferenceIdeal.nD Cert.SguReferenceIdeal.τ).loc Cert.SguReferenceIdeal.main_arg4) = m' ((c.tc : Thread Cert.SguReferenceIdeal.nD Cert.SguReferenceIdeal.τ).loc Cert.SguReferenceIdeal.main_arg4)
          ∧ r.2.mem ((c.tc : Thread Cert.SguReferenceIdeal.nD Cert.SguReferenceIdeal.τ).loc Cert.SguReferenceIdeal.main_arg5) = m' ((c.tc : Thread Cert.SguReferenceIdeal.nD Cert.SguReferenceIdeal.τ).loc Cert.SguReferenceIdeal.main_arg5))

def preserves_MlaOKernel_MlaOKernelIdeal : Prop :=
  True

def algebraic_MlaOKernelIdeal_MlaOReferenceIdeal [hMlaOKernelIdeal : Cert.MlaOKernelIdeal.Facts] [hMlaOReferenceIdeal : Cert.MlaOReferenceIdeal.Facts] : Prop :=
  ∀ (m : (ℓ : Loc Cert.MlaOKernelIdeal.nD Cert.MlaOKernelIdeal.τ Cert.MlaOKernelIdeal.sig) → Buf (Elt Ideal) ℓ) (g : Dev Cert.MlaOKernelIdeal.nD → PrngReg)
    (m' : (ℓ : Loc Cert.MlaOReferenceIdeal.nD Cert.MlaOReferenceIdeal.τ Cert.MlaOReferenceIdeal.sig) → Buf (Elt Ideal) ℓ) (g' : Dev Cert.MlaOReferenceIdeal.nD → PrngReg), Pre_MlaOKernelIdeal m →
    (∀ c : Dev Cert.MlaOKernelIdeal.nD,
      m' ((c.tc : Thread Cert.MlaOReferenceIdeal.nD Cert.MlaOReferenceIdeal.τ).loc Cert.MlaOReferenceIdeal.main_arg0) = m ((c.tc : Thread Cert.MlaOKernelIdeal.nD Cert.MlaOKernelIdeal.τ).loc Cert.MlaOKernelIdeal.main_arg0)
      ∧ m' ((c.tc : Thread Cert.MlaOReferenceIdeal.nD Cert.MlaOReferenceIdeal.τ).loc Cert.MlaOReferenceIdeal.main_arg1) = m ((c.tc : Thread Cert.MlaOKernelIdeal.nD Cert.MlaOKernelIdeal.τ).loc Cert.MlaOKernelIdeal.main_arg1)
      ∧ m' ((c.tc : Thread Cert.MlaOReferenceIdeal.nD Cert.MlaOReferenceIdeal.τ).loc Cert.MlaOReferenceIdeal.main_arg2) = m ((c.tc : Thread Cert.MlaOKernelIdeal.nD Cert.MlaOKernelIdeal.τ).loc Cert.MlaOKernelIdeal.main_arg2)) →
    ∃ (v0 : (c : Dev Cert.MlaOKernelIdeal.nD) → Buf (Elt Ideal) ((c.tc : Thread Cert.MlaOKernelIdeal.nD Cert.MlaOKernelIdeal.τ).loc Cert.MlaOKernelIdeal.main_v3_0)) (v1 : (c : Dev Cert.MlaOKernelIdeal.nD) → Buf (Elt Ideal) ((c.tc : Thread Cert.MlaOKernelIdeal.nD Cert.MlaOKernelIdeal.τ).loc Cert.MlaOKernelIdeal.main_v3_1)),
      θ_run (Cert.MlaOKernelIdeal.defs (F := Ideal)) (onTc (τ := Cert.MlaOKernelIdeal.τ) (Cert.MlaOKernelIdeal.main (F := Ideal))) ⟨m, fun _ => 0, g⟩ (fun r => ∀ c : Dev Cert.MlaOKernelIdeal.nD,
          r.2.mem ((c.tc : Thread Cert.MlaOKernelIdeal.nD Cert.MlaOKernelIdeal.τ).loc Cert.MlaOKernelIdeal.main_v3_0) = v0 c
          ∧ r.2.mem ((c.tc : Thread Cert.MlaOKernelIdeal.nD Cert.MlaOKernelIdeal.τ).loc Cert.MlaOKernelIdeal.main_v3_1) = v1 c
          ∧ r.2.mem ((c.tc : Thread Cert.MlaOKernelIdeal.nD Cert.MlaOKernelIdeal.τ).loc Cert.MlaOKernelIdeal.main_arg0) = m ((c.tc : Thread Cert.MlaOKernelIdeal.nD Cert.MlaOKernelIdeal.τ).loc Cert.MlaOKernelIdeal.main_arg0)
          ∧ r.2.mem ((c.tc : Thread Cert.MlaOKernelIdeal.nD Cert.MlaOKernelIdeal.τ).loc Cert.MlaOKernelIdeal.main_arg1) = m ((c.tc : Thread Cert.MlaOKernelIdeal.nD Cert.MlaOKernelIdeal.τ).loc Cert.MlaOKernelIdeal.main_arg1)
          ∧ r.2.mem ((c.tc : Thread Cert.MlaOKernelIdeal.nD Cert.MlaOKernelIdeal.τ).loc Cert.MlaOKernelIdeal.main_arg2) = m ((c.tc : Thread Cert.MlaOKernelIdeal.nD Cert.MlaOKernelIdeal.τ).loc Cert.MlaOKernelIdeal.main_arg2))
      ∧ θ_run (Cert.MlaOReferenceIdeal.defs (F := Ideal)) (onTc (τ := Cert.MlaOReferenceIdeal.τ) (Cert.MlaOReferenceIdeal.main (F := Ideal))) ⟨m', fun _ => 0, g'⟩ (fun r => ∀ c : Dev Cert.MlaOReferenceIdeal.nD,
          r.2.mem ((c.tc : Thread Cert.MlaOReferenceIdeal.nD Cert.MlaOReferenceIdeal.τ).loc Cert.MlaOReferenceIdeal.main_v5) = v0 c
          ∧ r.2.mem ((c.tc : Thread Cert.MlaOReferenceIdeal.nD Cert.MlaOReferenceIdeal.τ).loc Cert.MlaOReferenceIdeal.main_v6) = v1 c
          ∧ r.2.mem ((c.tc : Thread Cert.MlaOReferenceIdeal.nD Cert.MlaOReferenceIdeal.τ).loc Cert.MlaOReferenceIdeal.main_arg0) = m' ((c.tc : Thread Cert.MlaOReferenceIdeal.nD Cert.MlaOReferenceIdeal.τ).loc Cert.MlaOReferenceIdeal.main_arg0)
          ∧ r.2.mem ((c.tc : Thread Cert.MlaOReferenceIdeal.nD Cert.MlaOReferenceIdeal.τ).loc Cert.MlaOReferenceIdeal.main_arg1) = m' ((c.tc : Thread Cert.MlaOReferenceIdeal.nD Cert.MlaOReferenceIdeal.τ).loc Cert.MlaOReferenceIdeal.main_arg1)
          ∧ r.2.mem ((c.tc : Thread Cert.MlaOReferenceIdeal.nD Cert.MlaOReferenceIdeal.τ).loc Cert.MlaOReferenceIdeal.main_arg2) = m' ((c.tc : Thread Cert.MlaOReferenceIdeal.nD Cert.MlaOReferenceIdeal.τ).loc Cert.MlaOReferenceIdeal.main_arg2))

def preserves_ProjKernel_ProjKernelIdeal : Prop :=
  True

def algebraic_ProjKernelIdeal_ProjReferenceIdeal_pre_finite_proj [hProjKernelIdeal : Cert.ProjKernelIdeal.Facts] [hProjReferenceIdeal : Cert.ProjReferenceIdeal.Facts] [hPre_finite_proj : Cert.Pre_finite_proj.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal_finite_proj m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)
      ∧ m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4)
      ∧ m' ((c.tc : Thread Cert.ProjReferenceIdeal.nD Cert.ProjReferenceIdeal.τ).loc Cert.ProjReferenceIdeal.main_arg5) = m ((c.tc : Thread Cert.ProjKernelIdeal.nD Cert.ProjKernelIdeal.τ).loc Cert.ProjKernelIdeal.main_arg5)
      ∧ m' ((c.tc : Thread Cert.ProjReferenceIdeal.nD Cert.ProjReferenceIdeal.τ).loc Cert.ProjReferenceIdeal.main_arg6) = m ((c.tc : Thread Cert.ProjKernelIdeal.nD Cert.ProjKernelIdeal.τ).loc Cert.ProjKernelIdeal.main_arg6)
      ∧ m' ((c.tc : Thread Cert.ProjReferenceIdeal.nD Cert.ProjReferenceIdeal.τ).loc Cert.ProjReferenceIdeal.main_arg7) = m ((c.tc : Thread Cert.ProjKernelIdeal.nD Cert.ProjKernelIdeal.τ).loc Cert.ProjKernelIdeal.main_arg7)
      ∧ m' ((c.tc : Thread Cert.ProjReferenceIdeal.nD Cert.ProjReferenceIdeal.τ).loc Cert.ProjReferenceIdeal.main_arg8) = m ((c.tc : Thread Cert.ProjKernelIdeal.nD Cert.ProjKernelIdeal.τ).loc Cert.ProjKernelIdeal.main_arg8)
      ∧ m' ((c.tc : Thread Cert.ProjReferenceIdeal.nD Cert.ProjReferenceIdeal.τ).loc Cert.ProjReferenceIdeal.main_arg9) = m ((c.tc : Thread Cert.ProjKernelIdeal.nD Cert.ProjKernelIdeal.τ).loc Cert.ProjKernelIdeal.main_arg9)
      ∧ m' ((c.tc : Thread Cert.ProjReferenceIdeal.nD Cert.ProjReferenceIdeal.τ).loc Cert.ProjReferenceIdeal.main_arg10) = m ((c.tc : Thread Cert.ProjKernelIdeal.nD Cert.ProjKernelIdeal.τ).loc Cert.ProjKernelIdeal.main_arg10)
      ∧ m' ((c.tc : Thread Cert.ProjReferenceIdeal.nD Cert.ProjReferenceIdeal.τ).loc Cert.ProjReferenceIdeal.main_arg11) = m ((c.tc : Thread Cert.ProjKernelIdeal.nD Cert.ProjKernelIdeal.τ).loc Cert.ProjKernelIdeal.main_arg11)) →
    ∃ (v0 : (c : Dev Cert.ProjKernelIdeal.nD) → Buf (Elt Ideal) ((c.tc : Thread Cert.ProjKernelIdeal.nD Cert.ProjKernelIdeal.τ).loc Cert.ProjKernelIdeal.main_v80_0)) (v1 : (c : Dev Cert.ProjKernelIdeal.nD) → Buf (Elt Ideal) ((c.tc : Thread Cert.ProjKernelIdeal.nD Cert.ProjKernelIdeal.τ).loc Cert.ProjKernelIdeal.main_v80_1)) (v2 : (c : Dev Cert.ProjKernelIdeal.nD) → Buf (Elt Ideal) ((c.tc : Thread Cert.ProjKernelIdeal.nD Cert.ProjKernelIdeal.τ).loc Cert.ProjKernelIdeal.main_v80_2)) (v3 : (c : Dev Cert.ProjKernelIdeal.nD) → Buf (Elt Ideal) ((c.tc : Thread Cert.ProjKernelIdeal.nD Cert.ProjKernelIdeal.τ).loc Cert.ProjKernelIdeal.main_v80_3)) (v4 : (c : Dev Cert.ProjKernelIdeal.nD) → Buf (Elt Ideal) ((c.tc : Thread Cert.ProjKernelIdeal.nD Cert.ProjKernelIdeal.τ).loc Cert.ProjKernelIdeal.main_v80_4)) (v5 : (c : Dev Cert.ProjKernelIdeal.nD) → Buf (Elt Ideal) ((c.tc : Thread Cert.ProjKernelIdeal.nD Cert.ProjKernelIdeal.τ).loc Cert.ProjKernelIdeal.main_v80_5)) (v6 : (c : Dev Cert.ProjKernelIdeal.nD) → Buf (Elt Ideal) ((c.tc : Thread Cert.ProjKernelIdeal.nD Cert.ProjKernelIdeal.τ).loc Cert.ProjKernelIdeal.main_v80_6)) (v7 : (c : Dev Cert.ProjKernelIdeal.nD) → Buf (Elt Ideal) ((c.tc : Thread Cert.ProjKernelIdeal.nD Cert.ProjKernelIdeal.τ).loc Cert.ProjKernelIdeal.main_v80_7)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v80_0) = v0 c
          ∧ r.2.mem ((c.tc : Thread Cert.ProjKernelIdeal.nD Cert.ProjKernelIdeal.τ).loc Cert.ProjKernelIdeal.main_v80_1) = v1 c
          ∧ r.2.mem ((c.tc : Thread Cert.ProjKernelIdeal.nD Cert.ProjKernelIdeal.τ).loc Cert.ProjKernelIdeal.main_v80_2) = v2 c
          ∧ r.2.mem ((c.tc : Thread Cert.ProjKernelIdeal.nD Cert.ProjKernelIdeal.τ).loc Cert.ProjKernelIdeal.main_v80_3) = v3 c
          ∧ r.2.mem ((c.tc : Thread Cert.ProjKernelIdeal.nD Cert.ProjKernelIdeal.τ).loc Cert.ProjKernelIdeal.main_v80_4) = v4 c
          ∧ r.2.mem ((c.tc : Thread Cert.ProjKernelIdeal.nD Cert.ProjKernelIdeal.τ).loc Cert.ProjKernelIdeal.main_v80_5) = v5 c
          ∧ r.2.mem ((c.tc : Thread Cert.ProjKernelIdeal.nD Cert.ProjKernelIdeal.τ).loc Cert.ProjKernelIdeal.main_v80_6) = v6 c
          ∧ r.2.mem ((c.tc : Thread Cert.ProjKernelIdeal.nD Cert.ProjKernelIdeal.τ).loc Cert.ProjKernelIdeal.main_v80_7) = v7 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
          ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
          ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5)
          ∧ r.2.mem ((c.tc : Thread Cert.ProjKernelIdeal.nD Cert.ProjKernelIdeal.τ).loc Cert.ProjKernelIdeal.main_arg6) = m ((c.tc : Thread Cert.ProjKernelIdeal.nD Cert.ProjKernelIdeal.τ).loc Cert.ProjKernelIdeal.main_arg6)
          ∧ r.2.mem ((c.tc : Thread Cert.ProjKernelIdeal.nD Cert.ProjKernelIdeal.τ).loc Cert.ProjKernelIdeal.main_arg7) = m ((c.tc : Thread Cert.ProjKernelIdeal.nD Cert.ProjKernelIdeal.τ).loc Cert.ProjKernelIdeal.main_arg7)
          ∧ r.2.mem ((c.tc : Thread Cert.ProjKernelIdeal.nD Cert.ProjKernelIdeal.τ).loc Cert.ProjKernelIdeal.main_arg8) = m ((c.tc : Thread Cert.ProjKernelIdeal.nD Cert.ProjKernelIdeal.τ).loc Cert.ProjKernelIdeal.main_arg8)
          ∧ r.2.mem ((c.tc : Thread Cert.ProjKernelIdeal.nD Cert.ProjKernelIdeal.τ).loc Cert.ProjKernelIdeal.main_arg9) = m ((c.tc : Thread Cert.ProjKernelIdeal.nD Cert.ProjKernelIdeal.τ).loc Cert.ProjKernelIdeal.main_arg9)
          ∧ r.2.mem ((c.tc : Thread Cert.ProjKernelIdeal.nD Cert.ProjKernelIdeal.τ).loc Cert.ProjKernelIdeal.main_arg10) = m ((c.tc : Thread Cert.ProjKernelIdeal.nD Cert.ProjKernelIdeal.τ).loc Cert.ProjKernelIdeal.main_arg10)
          ∧ r.2.mem ((c.tc : Thread Cert.ProjKernelIdeal.nD Cert.ProjKernelIdeal.τ).loc Cert.ProjKernelIdeal.main_arg11) = m ((c.tc : Thread Cert.ProjKernelIdeal.nD Cert.ProjKernelIdeal.τ).loc Cert.ProjKernelIdeal.main_arg11))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v205) = v0 c
          ∧ r.2.mem ((c.tc : Thread Cert.ProjReferenceIdeal.nD Cert.ProjReferenceIdeal.τ).loc Cert.ProjReferenceIdeal.main_v209) = v1 c
          ∧ r.2.mem ((c.tc : Thread Cert.ProjReferenceIdeal.nD Cert.ProjReferenceIdeal.τ).loc Cert.ProjReferenceIdeal.main_v208) = v2 c
          ∧ r.2.mem ((c.tc : Thread Cert.ProjReferenceIdeal.nD Cert.ProjReferenceIdeal.τ).loc Cert.ProjReferenceIdeal.main_v118) = v3 c
          ∧ r.2.mem ((c.tc : Thread Cert.ProjReferenceIdeal.nD Cert.ProjReferenceIdeal.τ).loc Cert.ProjReferenceIdeal.main_v210) = v4 c
          ∧ r.2.mem ((c.tc : Thread Cert.ProjReferenceIdeal.nD Cert.ProjReferenceIdeal.τ).loc Cert.ProjReferenceIdeal.main_v211) = v5 c
          ∧ r.2.mem ((c.tc : Thread Cert.ProjReferenceIdeal.nD Cert.ProjReferenceIdeal.τ).loc Cert.ProjReferenceIdeal.main_v212) = v6 c
          ∧ r.2.mem ((c.tc : Thread Cert.ProjReferenceIdeal.nD Cert.ProjReferenceIdeal.τ).loc Cert.ProjReferenceIdeal.main_v213) = v7 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7)
          ∧ r.2.mem ((c.tc : Thread Cert.ProjReferenceIdeal.nD Cert.ProjReferenceIdeal.τ).loc Cert.ProjReferenceIdeal.main_arg8) = m' ((c.tc : Thread Cert.ProjReferenceIdeal.nD Cert.ProjReferenceIdeal.τ).loc Cert.ProjReferenceIdeal.main_arg8)
          ∧ r.2.mem ((c.tc : Thread Cert.ProjReferenceIdeal.nD Cert.ProjReferenceIdeal.τ).loc Cert.ProjReferenceIdeal.main_arg9) = m' ((c.tc : Thread Cert.ProjReferenceIdeal.nD Cert.ProjReferenceIdeal.τ).loc Cert.ProjReferenceIdeal.main_arg9)
          ∧ r.2.mem ((c.tc : Thread Cert.ProjReferenceIdeal.nD Cert.ProjReferenceIdeal.τ).loc Cert.ProjReferenceIdeal.main_arg10) = m' ((c.tc : Thread Cert.ProjReferenceIdeal.nD Cert.ProjReferenceIdeal.τ).loc Cert.ProjReferenceIdeal.main_arg10)
          ∧ r.2.mem ((c.tc : Thread Cert.ProjReferenceIdeal.nD Cert.ProjReferenceIdeal.τ).loc Cert.ProjReferenceIdeal.main_arg11) = m' ((c.tc : Thread Cert.ProjReferenceIdeal.nD Cert.ProjReferenceIdeal.τ).loc Cert.ProjReferenceIdeal.main_arg11))

def preserves_MlaKernel_MlaKernelIdeal : Prop :=
  True

def algebraic_MlaKernelIdeal_MlaReferenceIdeal [hMlaKernelIdeal : Cert.MlaKernelIdeal.Facts] [hMlaReferenceIdeal : Cert.MlaReferenceIdeal.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg)
    (m' : (ℓ : Loc Cert.MlaReferenceIdeal.nD Cert.MlaReferenceIdeal.τ Cert.MlaReferenceIdeal.sig) → Buf (Elt Ideal) ℓ) (g' : Dev Cert.MlaReferenceIdeal.nD → PrngReg), Pre_MlaKernelIdeal m →
    (∀ c : Dev Cert.MlaKernelIdeal.nD,
      m' ((c.tc : Thread Cert.MlaReferenceIdeal.nD Cert.MlaReferenceIdeal.τ).loc Cert.MlaReferenceIdeal.main_arg0) = m ((c.tc : Thread Cert.MlaKernelIdeal.nD Cert.MlaKernelIdeal.τ).loc Cert.MlaKernelIdeal.main_arg0)
      ∧ m' ((c.tc : Thread Cert.MlaReferenceIdeal.nD Cert.MlaReferenceIdeal.τ).loc Cert.MlaReferenceIdeal.main_arg1) = m ((c.tc : Thread Cert.MlaKernelIdeal.nD Cert.MlaKernelIdeal.τ).loc Cert.MlaKernelIdeal.main_arg1)
      ∧ m' ((c.tc : Thread Cert.MlaReferenceIdeal.nD Cert.MlaReferenceIdeal.τ).loc Cert.MlaReferenceIdeal.main_arg2) = m ((c.tc : Thread Cert.MlaKernelIdeal.nD Cert.MlaKernelIdeal.τ).loc Cert.MlaKernelIdeal.main_arg2)
      ∧ m' ((c.tc : Thread Cert.MlaReferenceIdeal.nD Cert.MlaReferenceIdeal.τ).loc Cert.MlaReferenceIdeal.main_arg3) = m ((c.tc : Thread Cert.MlaKernelIdeal.nD Cert.MlaKernelIdeal.τ).loc Cert.MlaKernelIdeal.main_arg3)
      ∧ m' ((c.tc : Thread Cert.MlaReferenceIdeal.nD Cert.MlaReferenceIdeal.τ).loc Cert.MlaReferenceIdeal.main_arg4) = m ((c.tc : Thread Cert.MlaKernelIdeal.nD Cert.MlaKernelIdeal.τ).loc Cert.MlaKernelIdeal.main_arg4)
      ∧ m' ((c.tc : Thread Cert.MlaReferenceIdeal.nD Cert.MlaReferenceIdeal.τ).loc Cert.MlaReferenceIdeal.main_arg5) = m ((c.tc : Thread Cert.MlaKernelIdeal.nD Cert.MlaKernelIdeal.τ).loc Cert.MlaKernelIdeal.main_arg5)
      ∧ m' ((c.tc : Thread Cert.MlaReferenceIdeal.nD Cert.MlaReferenceIdeal.τ).loc Cert.MlaReferenceIdeal.main_arg6) = m ((c.tc : Thread Cert.MlaKernelIdeal.nD Cert.MlaKernelIdeal.τ).loc Cert.MlaKernelIdeal.main_arg6)
      ∧ m' ((c.tc : Thread Cert.MlaReferenceIdeal.nD Cert.MlaReferenceIdeal.τ).loc Cert.MlaReferenceIdeal.main_arg7) = m ((c.tc : Thread Cert.MlaKernelIdeal.nD Cert.MlaKernelIdeal.τ).loc Cert.MlaKernelIdeal.main_arg7)) →
    ∃ (v0 : (c : Dev Cert.MlaKernelIdeal.nD) → Buf (Elt Ideal) ((c.tc : Thread Cert.MlaKernelIdeal.nD Cert.MlaKernelIdeal.τ).loc Cert.MlaKernelIdeal.main_v31_0)) (v1 : (c : Dev Cert.MlaKernelIdeal.nD) → Buf (Elt Ideal) ((c.tc : Thread Cert.MlaKernelIdeal.nD Cert.MlaKernelIdeal.τ).loc Cert.MlaKernelIdeal.main_v31_1)) (v2 : (c : Dev Cert.MlaKernelIdeal.nD) → Buf (Elt Ideal) ((c.tc : Thread Cert.MlaKernelIdeal.nD Cert.MlaKernelIdeal.τ).loc Cert.MlaKernelIdeal.main_v31_2)) (v3 : (c : Dev Cert.MlaKernelIdeal.nD) → Buf (Elt Ideal) ((c.tc : Thread Cert.MlaKernelIdeal.nD Cert.MlaKernelIdeal.τ).loc Cert.MlaKernelIdeal.main_v31_3)) (v4 : (c : Dev Cert.MlaKernelIdeal.nD) → Buf (Elt Ideal) ((c.tc : Thread Cert.MlaKernelIdeal.nD Cert.MlaKernelIdeal.τ).loc Cert.MlaKernelIdeal.main_v31_4)) (v5 : (c : Dev Cert.MlaKernelIdeal.nD) → Buf (Elt Ideal) ((c.tc : Thread Cert.MlaKernelIdeal.nD Cert.MlaKernelIdeal.τ).loc Cert.MlaKernelIdeal.main_v31_5)) (v6 : (c : Dev Cert.MlaKernelIdeal.nD) → Buf (Elt Ideal) ((c.tc : Thread Cert.MlaKernelIdeal.nD Cert.MlaKernelIdeal.τ).loc Cert.MlaKernelIdeal.main_v31_6)),
      θ_run (Cert.MlaKernelIdeal.defs (F := Ideal)) (onTc (τ := Cert.MlaKernelIdeal.τ) (Cert.MlaKernelIdeal.main (F := Ideal))) ⟨m, fun _ => 0, g⟩ (fun r => ∀ c : Dev Cert.MlaKernelIdeal.nD,
          r.2.mem ((c.tc : Thread Cert.MlaKernelIdeal.nD Cert.MlaKernelIdeal.τ).loc Cert.MlaKernelIdeal.main_v31_0) = v0 c
          ∧ r.2.mem ((c.tc : Thread Cert.MlaKernelIdeal.nD Cert.MlaKernelIdeal.τ).loc Cert.MlaKernelIdeal.main_v31_1) = v1 c
          ∧ r.2.mem ((c.tc : Thread Cert.MlaKernelIdeal.nD Cert.MlaKernelIdeal.τ).loc Cert.MlaKernelIdeal.main_v31_2) = v2 c
          ∧ r.2.mem ((c.tc : Thread Cert.MlaKernelIdeal.nD Cert.MlaKernelIdeal.τ).loc Cert.MlaKernelIdeal.main_v31_3) = v3 c
          ∧ r.2.mem ((c.tc : Thread Cert.MlaKernelIdeal.nD Cert.MlaKernelIdeal.τ).loc Cert.MlaKernelIdeal.main_v31_4) = v4 c
          ∧ r.2.mem ((c.tc : Thread Cert.MlaKernelIdeal.nD Cert.MlaKernelIdeal.τ).loc Cert.MlaKernelIdeal.main_v31_5) = v5 c
          ∧ r.2.mem ((c.tc : Thread Cert.MlaKernelIdeal.nD Cert.MlaKernelIdeal.τ).loc Cert.MlaKernelIdeal.main_v31_6) = v6 c
          ∧ r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
          ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
          ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
          ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3)
          ∧ r.2.mem ((c.tc : Thread Cert.MlaKernelIdeal.nD Cert.MlaKernelIdeal.τ).loc Cert.MlaKernelIdeal.main_arg4) = m ((c.tc : Thread Cert.MlaKernelIdeal.nD Cert.MlaKernelIdeal.τ).loc Cert.MlaKernelIdeal.main_arg4)
          ∧ r.2.mem ((c.tc : Thread Cert.MlaKernelIdeal.nD Cert.MlaKernelIdeal.τ).loc Cert.MlaKernelIdeal.main_arg5) = m ((c.tc : Thread Cert.MlaKernelIdeal.nD Cert.MlaKernelIdeal.τ).loc Cert.MlaKernelIdeal.main_arg5)
          ∧ r.2.mem ((c.tc : Thread Cert.MlaKernelIdeal.nD Cert.MlaKernelIdeal.τ).loc Cert.MlaKernelIdeal.main_arg6) = m ((c.tc : Thread Cert.MlaKernelIdeal.nD Cert.MlaKernelIdeal.τ).loc Cert.MlaKernelIdeal.main_arg6)
          ∧ r.2.mem ((c.tc : Thread Cert.MlaKernelIdeal.nD Cert.MlaKernelIdeal.τ).loc Cert.MlaKernelIdeal.main_arg7) = m ((c.tc : Thread Cert.MlaKernelIdeal.nD Cert.MlaKernelIdeal.τ).loc Cert.MlaKernelIdeal.main_arg7))
      ∧ θ_run (Cert.MlaReferenceIdeal.defs (F := Ideal)) (onTc (τ := Cert.MlaReferenceIdeal.τ) (Cert.MlaReferenceIdeal.main (F := Ideal))) ⟨m', fun _ => 0, g'⟩ (fun r => ∀ c : Dev Cert.MlaReferenceIdeal.nD,
          r.2.mem ((c.tc : Thread Cert.MlaReferenceIdeal.nD Cert.MlaReferenceIdeal.τ).loc Cert.MlaReferenceIdeal.main_v75) = v0 c
          ∧ r.2.mem ((c.tc : Thread Cert.MlaReferenceIdeal.nD Cert.MlaReferenceIdeal.τ).loc Cert.MlaReferenceIdeal.main_v76) = v1 c
          ∧ r.2.mem ((c.tc : Thread Cert.MlaReferenceIdeal.nD Cert.MlaReferenceIdeal.τ).loc Cert.MlaReferenceIdeal.main_v77) = v2 c
          ∧ r.2.mem ((c.tc : Thread Cert.MlaReferenceIdeal.nD Cert.MlaReferenceIdeal.τ).loc Cert.MlaReferenceIdeal.main_v78) = v3 c
          ∧ r.2.mem ((c.tc : Thread Cert.MlaReferenceIdeal.nD Cert.MlaReferenceIdeal.τ).loc Cert.MlaReferenceIdeal.main_v79) = v4 c
          ∧ r.2.mem ((c.tc : Thread Cert.MlaReferenceIdeal.nD Cert.MlaReferenceIdeal.τ).loc Cert.MlaReferenceIdeal.main_v64) = v5 c
          ∧ r.2.mem ((c.tc : Thread Cert.MlaReferenceIdeal.nD Cert.MlaReferenceIdeal.τ).loc Cert.MlaReferenceIdeal.main_v81) = v6 c
          ∧ r.2.mem ((c.tc : Thread Cert.MlaReferenceIdeal.nD Cert.MlaReferenceIdeal.τ).loc Cert.MlaReferenceIdeal.main_arg0) = m' ((c.tc : Thread Cert.MlaReferenceIdeal.nD Cert.MlaReferenceIdeal.τ).loc Cert.MlaReferenceIdeal.main_arg0)
          ∧ r.2.mem ((c.tc : Thread Cert.MlaReferenceIdeal.nD Cert.MlaReferenceIdeal.τ).loc Cert.MlaReferenceIdeal.main_arg1) = m' ((c.tc : Thread Cert.MlaReferenceIdeal.nD Cert.MlaReferenceIdeal.τ).loc Cert.MlaReferenceIdeal.main_arg1)
          ∧ r.2.mem ((c.tc : Thread Cert.MlaReferenceIdeal.nD Cert.MlaReferenceIdeal.τ).loc Cert.MlaReferenceIdeal.main_arg2) = m' ((c.tc : Thread Cert.MlaReferenceIdeal.nD Cert.MlaReferenceIdeal.τ).loc Cert.MlaReferenceIdeal.main_arg2)
          ∧ r.2.mem ((c.tc : Thread Cert.MlaReferenceIdeal.nD Cert.MlaReferenceIdeal.τ).loc Cert.MlaReferenceIdeal.main_arg3) = m' ((c.tc : Thread Cert.MlaReferenceIdeal.nD Cert.MlaReferenceIdeal.τ).loc Cert.MlaReferenceIdeal.main_arg3)
          ∧ r.2.mem ((c.tc : Thread Cert.MlaReferenceIdeal.nD Cert.MlaReferenceIdeal.τ).loc Cert.MlaReferenceIdeal.main_arg4) = m' ((c.tc : Thread Cert.MlaReferenceIdeal.nD Cert.MlaReferenceIdeal.τ).loc Cert.MlaReferenceIdeal.main_arg4)
          ∧ r.2.mem ((c.tc : Thread Cert.MlaReferenceIdeal.nD Cert.MlaReferenceIdeal.τ).loc Cert.MlaReferenceIdeal.main_arg5) = m' ((c.tc : Thread Cert.MlaReferenceIdeal.nD Cert.MlaReferenceIdeal.τ).loc Cert.MlaReferenceIdeal.main_arg5)
          ∧ r.2.mem ((c.tc : Thread Cert.MlaReferenceIdeal.nD Cert.MlaReferenceIdeal.τ).loc Cert.MlaReferenceIdeal.main_arg6) = m' ((c.tc : Thread Cert.MlaReferenceIdeal.nD Cert.MlaReferenceIdeal.τ).loc Cert.MlaReferenceIdeal.main_arg6)
          ∧ r.2.mem ((c.tc : Thread Cert.MlaReferenceIdeal.nD Cert.MlaReferenceIdeal.τ).loc Cert.MlaReferenceIdeal.main_arg7) = m' ((c.tc : Thread Cert.MlaReferenceIdeal.nD Cert.MlaReferenceIdeal.τ).loc Cert.MlaReferenceIdeal.main_arg7))

def preserves_GateKernel_GateKernelIdeal : Prop :=
  IdealRules.named_const.Statement Cert.GateKernelIdeal.κ "rsqrt2" .f32 0x3F3504F3#32 (((Real.sqrt 2)⁻¹ : ℝ) : EReal)

def algebraic_GateKernelIdeal_GateReferenceIdeal [hGateKernelIdeal : Cert.GateKernelIdeal.Facts] [hGateReferenceIdeal : Cert.GateReferenceIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)
      ∧ m' ((c.tc : Thread Cert.GateReferenceIdeal.nD Cert.GateReferenceIdeal.τ).loc Cert.GateReferenceIdeal.main_arg3) = m ((c.tc : Thread Cert.GateKernelIdeal.nD Cert.GateKernelIdeal.τ).loc Cert.GateKernelIdeal.main_arg3)
      ∧ m' ((c.tc : Thread Cert.GateReferenceIdeal.nD Cert.GateReferenceIdeal.τ).loc Cert.GateReferenceIdeal.main_arg4) = m ((c.tc : Thread Cert.GateKernelIdeal.nD Cert.GateKernelIdeal.τ).loc Cert.GateKernelIdeal.main_arg4)) →
    ∃ (v0 : (c : Dev Cert.GateKernelIdeal.nD) → Buf (Elt Ideal) ((c.tc : Thread Cert.GateKernelIdeal.nD Cert.GateKernelIdeal.τ).loc Cert.GateKernelIdeal.main_v5)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v5) = v0 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
          ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v46) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4))

def preserves_ReluKernel_ReluKernelIdeal : Prop :=
  True

def algebraic_ReluKernelIdeal_ReluReferenceIdeal [hReluKernelIdeal : Cert.ReluKernelIdeal.Facts] [hReluReferenceIdeal : Cert.ReluReferenceIdeal.Facts] : Prop :=
  ∀ (m : (ℓ : Loc Cert.ReluKernelIdeal.nD Cert.ReluKernelIdeal.τ Cert.ReluKernelIdeal.sig) → Buf (Elt Ideal) ℓ) (g : Dev Cert.ReluKernelIdeal.nD → PrngReg)
    (m' : (ℓ : Loc Cert.ReluReferenceIdeal.nD Cert.ReluReferenceIdeal.τ Cert.ReluReferenceIdeal.sig) → Buf (Elt Ideal) ℓ) (g' : Dev Cert.ReluReferenceIdeal.nD → PrngReg), Pre_ReluKernelIdeal m →
    (∀ c : Dev Cert.ReluKernelIdeal.nD,
      m' ((c.tc : Thread Cert.ReluReferenceIdeal.nD Cert.ReluReferenceIdeal.τ).loc Cert.ReluReferenceIdeal.main_arg0) = m ((c.tc : Thread Cert.ReluKernelIdeal.nD Cert.ReluKernelIdeal.τ).loc Cert.ReluKernelIdeal.main_arg0)
      ∧ m' ((c.tc : Thread Cert.ReluReferenceIdeal.nD Cert.ReluReferenceIdeal.τ).loc Cert.ReluReferenceIdeal.main_arg1) = m ((c.tc : Thread Cert.ReluKernelIdeal.nD Cert.ReluKernelIdeal.τ).loc Cert.ReluKernelIdeal.main_arg1)) →
    ∃ (v0 : (c : Dev Cert.ReluKernelIdeal.nD) → Buf (Elt Ideal) ((c.tc : Thread Cert.ReluKernelIdeal.nD Cert.ReluKernelIdeal.τ).loc Cert.ReluKernelIdeal.main_v4_0)) (v1 : (c : Dev Cert.ReluKernelIdeal.nD) → Buf (Elt Ideal) ((c.tc : Thread Cert.ReluKernelIdeal.nD Cert.ReluKernelIdeal.τ).loc Cert.ReluKernelIdeal.main_v4_1)),
      θ_run (Cert.ReluKernelIdeal.defs (F := Ideal)) (onTc (τ := Cert.ReluKernelIdeal.τ) (Cert.ReluKernelIdeal.main (F := Ideal))) ⟨m, fun _ => 0, g⟩ (fun r => ∀ c : Dev Cert.ReluKernelIdeal.nD,
          r.2.mem ((c.tc : Thread Cert.ReluKernelIdeal.nD Cert.ReluKernelIdeal.τ).loc Cert.ReluKernelIdeal.main_v4_0) = v0 c
          ∧ r.2.mem ((c.tc : Thread Cert.ReluKernelIdeal.nD Cert.ReluKernelIdeal.τ).loc Cert.ReluKernelIdeal.main_v4_1) = v1 c
          ∧ r.2.mem ((c.tc : Thread Cert.ReluKernelIdeal.nD Cert.ReluKernelIdeal.τ).loc Cert.ReluKernelIdeal.main_arg0) = m ((c.tc : Thread Cert.ReluKernelIdeal.nD Cert.ReluKernelIdeal.τ).loc Cert.ReluKernelIdeal.main_arg0)
          ∧ r.2.mem ((c.tc : Thread Cert.ReluKernelIdeal.nD Cert.ReluKernelIdeal.τ).loc Cert.ReluKernelIdeal.main_arg1) = m ((c.tc : Thread Cert.ReluKernelIdeal.nD Cert.ReluKernelIdeal.τ).loc Cert.ReluKernelIdeal.main_arg1))
      ∧ θ_run (Cert.ReluReferenceIdeal.defs (F := Ideal)) (onTc (τ := Cert.ReluReferenceIdeal.τ) (Cert.ReluReferenceIdeal.main (F := Ideal))) ⟨m', fun _ => 0, g'⟩ (fun r => ∀ c : Dev Cert.ReluReferenceIdeal.nD,
          r.2.mem ((c.tc : Thread Cert.ReluReferenceIdeal.nD Cert.ReluReferenceIdeal.τ).loc Cert.ReluReferenceIdeal.main_v8) = v0 c
          ∧ r.2.mem ((c.tc : Thread Cert.ReluReferenceIdeal.nD Cert.ReluReferenceIdeal.τ).loc Cert.ReluReferenceIdeal.main_v13) = v1 c
          ∧ r.2.mem ((c.tc : Thread Cert.ReluReferenceIdeal.nD Cert.ReluReferenceIdeal.τ).loc Cert.ReluReferenceIdeal.main_arg0) = m' ((c.tc : Thread Cert.ReluReferenceIdeal.nD Cert.ReluReferenceIdeal.τ).loc Cert.ReluReferenceIdeal.main_arg0)
          ∧ r.2.mem ((c.tc : Thread Cert.ReluReferenceIdeal.nD Cert.ReluReferenceIdeal.τ).loc Cert.ReluReferenceIdeal.main_arg1) = m' ((c.tc : Thread Cert.ReluReferenceIdeal.nD Cert.ReluReferenceIdeal.τ).loc Cert.ReluReferenceIdeal.main_arg1))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)
      ∧ m' ((c.tc : Thread Cert.DownReferenceIdeal.nD Cert.DownReferenceIdeal.τ).loc Cert.DownReferenceIdeal.main_arg3) = m ((c.tc : Thread Cert.DownKernelIdeal.nD Cert.DownKernelIdeal.τ).loc Cert.DownKernelIdeal.main_arg3)
      ∧ m' ((c.tc : Thread Cert.DownReferenceIdeal.nD Cert.DownReferenceIdeal.τ).loc Cert.DownReferenceIdeal.main_arg4) = m ((c.tc : Thread Cert.DownKernelIdeal.nD Cert.DownKernelIdeal.τ).loc Cert.DownKernelIdeal.main_arg4)) →
    ∃ (v0 : (c : Dev Cert.DownKernelIdeal.nD) → Buf (Elt Ideal) ((c.tc : Thread Cert.DownKernelIdeal.nD Cert.DownKernelIdeal.τ).loc Cert.DownKernelIdeal.main_v8_0)) (v1 : (c : Dev Cert.DownKernelIdeal.nD) → Buf (Elt Ideal) ((c.tc : Thread Cert.DownKernelIdeal.nD Cert.DownKernelIdeal.τ).loc Cert.DownKernelIdeal.main_v8_1)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v8_0) = v0 c
          ∧ r.2.mem ((c.tc : Thread Cert.DownKernelIdeal.nD Cert.DownKernelIdeal.τ).loc Cert.DownKernelIdeal.main_v8_1) = v1 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
          ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3)
          ∧ r.2.mem ((c.tc : Thread Cert.DownKernelIdeal.nD Cert.DownKernelIdeal.τ).loc Cert.DownKernelIdeal.main_arg4) = m ((c.tc : Thread Cert.DownKernelIdeal.nD Cert.DownKernelIdeal.τ).loc Cert.DownKernelIdeal.main_arg4))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v4) = v0 c
          ∧ r.2.mem ((c.tc : Thread Cert.DownReferenceIdeal.nD Cert.DownReferenceIdeal.τ).loc Cert.DownReferenceIdeal.main_v18) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4))

def preserves_AttnOKernel_AttnOKernelIdeal : Prop :=
  True

def algebraic_AttnOKernelIdeal_AttnOReferenceIdeal [hAttnOKernelIdeal : Cert.AttnOKernelIdeal.Facts] [hAttnOReferenceIdeal : Cert.AttnOReferenceIdeal.Facts] : Prop :=
  ∀ (m : (ℓ : Loc Cert.AttnOKernelIdeal.nD Cert.AttnOKernelIdeal.τ Cert.AttnOKernelIdeal.sig) → Buf (Elt Ideal) ℓ) (g : Dev Cert.AttnOKernelIdeal.nD → PrngReg)
    (m' : (ℓ : Loc Cert.AttnOReferenceIdeal.nD Cert.AttnOReferenceIdeal.τ Cert.AttnOReferenceIdeal.sig) → Buf (Elt Ideal) ℓ) (g' : Dev Cert.AttnOReferenceIdeal.nD → PrngReg), Pre_AttnOKernelIdeal m →
    (∀ c : Dev Cert.AttnOKernelIdeal.nD,
      m' ((c.tc : Thread Cert.AttnOReferenceIdeal.nD Cert.AttnOReferenceIdeal.τ).loc Cert.AttnOReferenceIdeal.main_arg0) = m ((c.tc : Thread Cert.AttnOKernelIdeal.nD Cert.AttnOKernelIdeal.τ).loc Cert.AttnOKernelIdeal.main_arg0)
      ∧ m' ((c.tc : Thread Cert.AttnOReferenceIdeal.nD Cert.AttnOReferenceIdeal.τ).loc Cert.AttnOReferenceIdeal.main_arg1) = m ((c.tc : Thread Cert.AttnOKernelIdeal.nD Cert.AttnOKernelIdeal.τ).loc Cert.AttnOKernelIdeal.main_arg1)
      ∧ m' ((c.tc : Thread Cert.AttnOReferenceIdeal.nD Cert.AttnOReferenceIdeal.τ).loc Cert.AttnOReferenceIdeal.main_arg2) = m ((c.tc : Thread Cert.AttnOKernelIdeal.nD Cert.AttnOKernelIdeal.τ).loc Cert.AttnOKernelIdeal.main_arg2)
      ∧ m' ((c.tc : Thread Cert.AttnOReferenceIdeal.nD Cert.AttnOReferenceIdeal.τ).loc Cert.AttnOReferenceIdeal.main_arg3) = m ((c.tc : Thread Cert.AttnOKernelIdeal.nD Cert.AttnOKernelIdeal.τ).loc Cert.AttnOKernelIdeal.main_arg3)) →
    ∃ (v0 : (c : Dev Cert.AttnOKernelIdeal.nD) → Buf (Elt Ideal) ((c.tc : Thread Cert.AttnOKernelIdeal.nD Cert.AttnOKernelIdeal.τ).loc Cert.AttnOKernelIdeal.main_v3_0)) (v1 : (c : Dev Cert.AttnOKernelIdeal.nD) → Buf (Elt Ideal) ((c.tc : Thread Cert.AttnOKernelIdeal.nD Cert.AttnOKernelIdeal.τ).loc Cert.AttnOKernelIdeal.main_v3_1)),
      θ_run (Cert.AttnOKernelIdeal.defs (F := Ideal)) (onTc (τ := Cert.AttnOKernelIdeal.τ) (Cert.AttnOKernelIdeal.main (F := Ideal))) ⟨m, fun _ => 0, g⟩ (fun r => ∀ c : Dev Cert.AttnOKernelIdeal.nD,
          r.2.mem ((c.tc : Thread Cert.AttnOKernelIdeal.nD Cert.AttnOKernelIdeal.τ).loc Cert.AttnOKernelIdeal.main_v3_0) = v0 c
          ∧ r.2.mem ((c.tc : Thread Cert.AttnOKernelIdeal.nD Cert.AttnOKernelIdeal.τ).loc Cert.AttnOKernelIdeal.main_v3_1) = v1 c
          ∧ r.2.mem ((c.tc : Thread Cert.AttnOKernelIdeal.nD Cert.AttnOKernelIdeal.τ).loc Cert.AttnOKernelIdeal.main_arg0) = m ((c.tc : Thread Cert.AttnOKernelIdeal.nD Cert.AttnOKernelIdeal.τ).loc Cert.AttnOKernelIdeal.main_arg0)
          ∧ r.2.mem ((c.tc : Thread Cert.AttnOKernelIdeal.nD Cert.AttnOKernelIdeal.τ).loc Cert.AttnOKernelIdeal.main_arg1) = m ((c.tc : Thread Cert.AttnOKernelIdeal.nD Cert.AttnOKernelIdeal.τ).loc Cert.AttnOKernelIdeal.main_arg1)
          ∧ r.2.mem ((c.tc : Thread Cert.AttnOKernelIdeal.nD Cert.AttnOKernelIdeal.τ).loc Cert.AttnOKernelIdeal.main_arg2) = m ((c.tc : Thread Cert.AttnOKernelIdeal.nD Cert.AttnOKernelIdeal.τ).loc Cert.AttnOKernelIdeal.main_arg2)
          ∧ r.2.mem ((c.tc : Thread Cert.AttnOKernelIdeal.nD Cert.AttnOKernelIdeal.τ).loc Cert.AttnOKernelIdeal.main_arg3) = m ((c.tc : Thread Cert.AttnOKernelIdeal.nD Cert.AttnOKernelIdeal.τ).loc Cert.AttnOKernelIdeal.main_arg3))
      ∧ θ_run (Cert.AttnOReferenceIdeal.defs (F := Ideal)) (onTc (τ := Cert.AttnOReferenceIdeal.τ) (Cert.AttnOReferenceIdeal.main (F := Ideal))) ⟨m', fun _ => 0, g'⟩ (fun r => ∀ c : Dev Cert.AttnOReferenceIdeal.nD,
          r.2.mem ((c.tc : Thread Cert.AttnOReferenceIdeal.nD Cert.AttnOReferenceIdeal.τ).loc Cert.AttnOReferenceIdeal.main_v1) = v0 c
          ∧ r.2.mem ((c.tc : Thread Cert.AttnOReferenceIdeal.nD Cert.AttnOReferenceIdeal.τ).loc Cert.AttnOReferenceIdeal.main_v15) = v1 c
          ∧ r.2.mem ((c.tc : Thread Cert.AttnOReferenceIdeal.nD Cert.AttnOReferenceIdeal.τ).loc Cert.AttnOReferenceIdeal.main_arg0) = m' ((c.tc : Thread Cert.AttnOReferenceIdeal.nD Cert.AttnOReferenceIdeal.τ).loc Cert.AttnOReferenceIdeal.main_arg0)
          ∧ r.2.mem ((c.tc : Thread Cert.AttnOReferenceIdeal.nD Cert.AttnOReferenceIdeal.τ).loc Cert.AttnOReferenceIdeal.main_arg1) = m' ((c.tc : Thread Cert.AttnOReferenceIdeal.nD Cert.AttnOReferenceIdeal.τ).loc Cert.AttnOReferenceIdeal.main_arg1)
          ∧ r.2.mem ((c.tc : Thread Cert.AttnOReferenceIdeal.nD Cert.AttnOReferenceIdeal.τ).loc Cert.AttnOReferenceIdeal.main_arg2) = m' ((c.tc : Thread Cert.AttnOReferenceIdeal.nD Cert.AttnOReferenceIdeal.τ).loc Cert.AttnOReferenceIdeal.main_arg2)
          ∧ r.2.mem ((c.tc : Thread Cert.AttnOReferenceIdeal.nD Cert.AttnOReferenceIdeal.τ).loc Cert.AttnOReferenceIdeal.main_arg3) = m' ((c.tc : Thread Cert.AttnOReferenceIdeal.nD Cert.AttnOReferenceIdeal.τ).loc Cert.AttnOReferenceIdeal.main_arg3))

def Claim : Prop :=
  ∃ (hFfnDownKernel : Cert.FfnDownKernel.Facts) (hFfnDownKernelIdeal : Cert.FfnDownKernelIdeal.Facts) (hFfnDownReferenceIdeal : Cert.FfnDownReferenceIdeal.Facts) (hFlashKernel : Cert.FlashKernel.Facts) (hFlashKernelIdeal : Cert.FlashKernelIdeal.Facts) (hFlashReferenceIdeal : Cert.FlashReferenceIdeal.Facts) (hLossKernel : Cert.LossKernel.Facts) (hLossKernelIdeal : Cert.LossKernelIdeal.Facts) (hLossReferenceIdeal : Cert.LossReferenceIdeal.Facts) (hFfnUpKernel : Cert.FfnUpKernel.Facts) (hFfnUpKernelIdeal : Cert.FfnUpKernelIdeal.Facts) (hFfnUpReferenceIdeal : Cert.FfnUpReferenceIdeal.Facts) (hSguKernel : Cert.SguKernel.Facts) (hSguKernelIdeal : Cert.SguKernelIdeal.Facts) (hSguReferenceIdeal : Cert.SguReferenceIdeal.Facts) (hMlaOKernel : Cert.MlaOKernel.Facts) (hMlaOKernelIdeal : Cert.MlaOKernelIdeal.Facts) (hMlaOReferenceIdeal : Cert.MlaOReferenceIdeal.Facts) (hProjKernel : Cert.ProjKernel.Facts) (hProjKernelIdeal : Cert.ProjKernelIdeal.Facts) (hProjReferenceIdeal : Cert.ProjReferenceIdeal.Facts) (hMlaKernel : Cert.MlaKernel.Facts) (hMlaKernelIdeal : Cert.MlaKernelIdeal.Facts) (hMlaReferenceIdeal : Cert.MlaReferenceIdeal.Facts) (hGateKernel : Cert.GateKernel.Facts) (hGateKernelIdeal : Cert.GateKernelIdeal.Facts) (hGateReferenceIdeal : Cert.GateReferenceIdeal.Facts) (hReluKernel : Cert.ReluKernel.Facts) (hReluKernelIdeal : Cert.ReluKernelIdeal.Facts) (hReluReferenceIdeal : Cert.ReluReferenceIdeal.Facts) (hDownKernel : Cert.DownKernel.Facts) (hDownKernelIdeal : Cert.DownKernelIdeal.Facts) (hDownReferenceIdeal : Cert.DownReferenceIdeal.Facts) (hAttnOKernel : Cert.AttnOKernel.Facts) (hAttnOKernelIdeal : Cert.AttnOKernelIdeal.Facts) (hAttnOReferenceIdeal : Cert.AttnOReferenceIdeal.Facts) (hPre_finite_flash : Cert.Pre_finite_flash.Facts) (hPre_finite_loss : Cert.Pre_finite_loss.Facts) (hPre_finite_ffnup : Cert.Pre_finite_ffnup.Facts) (hPre_finite_sgu : Cert.Pre_finite_sgu.Facts) (hPre_finite_proj : Cert.Pre_finite_proj.Facts),
    quiescent_FfnDownKernel (hFfnDownKernel := hFfnDownKernel)
    ∧ quiescent_FfnDownKernelIdeal (hFfnDownKernelIdeal := hFfnDownKernelIdeal)
    ∧ quiescent_FfnDownReferenceIdeal (hFfnDownReferenceIdeal := hFfnDownReferenceIdeal)
    ∧ quiescent_FlashKernel (hFlashKernel := hFlashKernel)
    ∧ quiescent_FlashKernelIdeal (hFlashKernelIdeal := hFlashKernelIdeal)
    ∧ quiescent_FlashKernelIdeal_pre_finite_flash (hFlashKernelIdeal := hFlashKernelIdeal) (hPre_finite_flash := hPre_finite_flash)
    ∧ quiescent_FlashReferenceIdeal (hFlashReferenceIdeal := hFlashReferenceIdeal)
    ∧ quiescent_FlashReferenceIdeal_pre_finite_flash (hFlashReferenceIdeal := hFlashReferenceIdeal) (hPre_finite_flash := hPre_finite_flash)
    ∧ quiescent_LossKernel (hLossKernel := hLossKernel)
    ∧ quiescent_LossKernelIdeal (hLossKernelIdeal := hLossKernelIdeal)
    ∧ quiescent_LossKernelIdeal_pre_finite_loss (hLossKernelIdeal := hLossKernelIdeal) (hPre_finite_loss := hPre_finite_loss)
    ∧ quiescent_LossReferenceIdeal (hLossReferenceIdeal := hLossReferenceIdeal)
    ∧ quiescent_LossReferenceIdeal_pre_finite_loss (hLossReferenceIdeal := hLossReferenceIdeal) (hPre_finite_loss := hPre_finite_loss)
    ∧ quiescent_FfnUpKernel (hFfnUpKernel := hFfnUpKernel)
    ∧ quiescent_FfnUpKernelIdeal (hFfnUpKernelIdeal := hFfnUpKernelIdeal)
    ∧ quiescent_FfnUpKernelIdeal_pre_finite_ffnup (hFfnUpKernelIdeal := hFfnUpKernelIdeal) (hPre_finite_ffnup := hPre_finite_ffnup)
    ∧ quiescent_FfnUpReferenceIdeal (hFfnUpReferenceIdeal := hFfnUpReferenceIdeal)
    ∧ quiescent_FfnUpReferenceIdeal_pre_finite_ffnup (hFfnUpReferenceIdeal := hFfnUpReferenceIdeal) (hPre_finite_ffnup := hPre_finite_ffnup)
    ∧ quiescent_SguKernel (hSguKernel := hSguKernel)
    ∧ quiescent_SguKernelIdeal (hSguKernelIdeal := hSguKernelIdeal)
    ∧ quiescent_SguKernelIdeal_pre_finite_sgu (hSguKernelIdeal := hSguKernelIdeal) (hPre_finite_sgu := hPre_finite_sgu)
    ∧ quiescent_SguReferenceIdeal (hSguReferenceIdeal := hSguReferenceIdeal)
    ∧ quiescent_SguReferenceIdeal_pre_finite_sgu (hSguReferenceIdeal := hSguReferenceIdeal) (hPre_finite_sgu := hPre_finite_sgu)
    ∧ quiescent_MlaOKernel (hMlaOKernel := hMlaOKernel)
    ∧ quiescent_MlaOKernelIdeal (hMlaOKernelIdeal := hMlaOKernelIdeal)
    ∧ quiescent_MlaOReferenceIdeal (hMlaOReferenceIdeal := hMlaOReferenceIdeal)
    ∧ quiescent_ProjKernel (hProjKernel := hProjKernel)
    ∧ quiescent_ProjKernelIdeal (hProjKernelIdeal := hProjKernelIdeal)
    ∧ quiescent_ProjKernelIdeal_pre_finite_proj (hProjKernelIdeal := hProjKernelIdeal) (hPre_finite_proj := hPre_finite_proj)
    ∧ quiescent_ProjReferenceIdeal (hProjReferenceIdeal := hProjReferenceIdeal)
    ∧ quiescent_ProjReferenceIdeal_pre_finite_proj (hProjReferenceIdeal := hProjReferenceIdeal) (hPre_finite_proj := hPre_finite_proj)
    ∧ quiescent_MlaKernel (hMlaKernel := hMlaKernel)
    ∧ quiescent_MlaKernelIdeal (hMlaKernelIdeal := hMlaKernelIdeal)
    ∧ quiescent_MlaReferenceIdeal (hMlaReferenceIdeal := hMlaReferenceIdeal)
    ∧ quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_ReluKernel (hReluKernel := hReluKernel)
    ∧ quiescent_ReluKernelIdeal (hReluKernelIdeal := hReluKernelIdeal)
    ∧ quiescent_ReluReferenceIdeal (hReluReferenceIdeal := hReluReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_AttnOKernel (hAttnOKernel := hAttnOKernel)
    ∧ quiescent_AttnOKernelIdeal (hAttnOKernelIdeal := hAttnOKernelIdeal)
    ∧ quiescent_AttnOReferenceIdeal (hAttnOReferenceIdeal := hAttnOReferenceIdeal)
    ∧ preserves_FfnDownKernel_FfnDownKernelIdeal
    ∧ algebraic_FfnDownKernelIdeal_FfnDownReferenceIdeal (hFfnDownKernelIdeal := hFfnDownKernelIdeal) (hFfnDownReferenceIdeal := hFfnDownReferenceIdeal)
    ∧ preserves_FlashKernel_FlashKernelIdeal
    ∧ algebraic_FlashKernelIdeal_FlashReferenceIdeal_pre_finite_flash (hFlashKernelIdeal := hFlashKernelIdeal) (hFlashReferenceIdeal := hFlashReferenceIdeal) (hPre_finite_flash := hPre_finite_flash)
    ∧ preserves_LossKernel_LossKernelIdeal
    ∧ algebraic_LossKernelIdeal_LossReferenceIdeal_pre_finite_loss (hLossKernelIdeal := hLossKernelIdeal) (hLossReferenceIdeal := hLossReferenceIdeal) (hPre_finite_loss := hPre_finite_loss)
    ∧ preserves_FfnUpKernel_FfnUpKernelIdeal
    ∧ algebraic_FfnUpKernelIdeal_FfnUpReferenceIdeal_pre_finite_ffnup (hFfnUpKernelIdeal := hFfnUpKernelIdeal) (hFfnUpReferenceIdeal := hFfnUpReferenceIdeal) (hPre_finite_ffnup := hPre_finite_ffnup)
    ∧ preserves_SguKernel_SguKernelIdeal
    ∧ algebraic_SguKernelIdeal_SguReferenceIdeal_pre_finite_sgu (hSguKernelIdeal := hSguKernelIdeal) (hSguReferenceIdeal := hSguReferenceIdeal) (hPre_finite_sgu := hPre_finite_sgu)
    ∧ preserves_MlaOKernel_MlaOKernelIdeal
    ∧ algebraic_MlaOKernelIdeal_MlaOReferenceIdeal (hMlaOKernelIdeal := hMlaOKernelIdeal) (hMlaOReferenceIdeal := hMlaOReferenceIdeal)
    ∧ preserves_ProjKernel_ProjKernelIdeal
    ∧ algebraic_ProjKernelIdeal_ProjReferenceIdeal_pre_finite_proj (hProjKernelIdeal := hProjKernelIdeal) (hProjReferenceIdeal := hProjReferenceIdeal) (hPre_finite_proj := hPre_finite_proj)
    ∧ preserves_MlaKernel_MlaKernelIdeal
    ∧ algebraic_MlaKernelIdeal_MlaReferenceIdeal (hMlaKernelIdeal := hMlaKernelIdeal) (hMlaReferenceIdeal := hMlaReferenceIdeal)
    ∧ preserves_GateKernel_GateKernelIdeal
    ∧ algebraic_GateKernelIdeal_GateReferenceIdeal (hGateKernelIdeal := hGateKernelIdeal) (hGateReferenceIdeal := hGateReferenceIdeal)
    ∧ preserves_ReluKernel_ReluKernelIdeal
    ∧ algebraic_ReluKernelIdeal_ReluReferenceIdeal (hReluKernelIdeal := hReluKernelIdeal) (hReluReferenceIdeal := hReluReferenceIdeal)
    ∧ preserves_DownKernel_DownKernelIdeal
    ∧ algebraic_DownKernelIdeal_DownReferenceIdeal (hDownKernelIdeal := hDownKernelIdeal) (hDownReferenceIdeal := hDownReferenceIdeal)
    ∧ preserves_AttnOKernel_AttnOKernelIdeal
    ∧ algebraic_AttnOKernelIdeal_AttnOReferenceIdeal (hAttnOKernelIdeal := hAttnOKernelIdeal) (hAttnOReferenceIdeal := hAttnOReferenceIdeal)
-- ==== Pre_finite_ffnup.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S4096x4096 : S_.BroadcastsInDim S4096x4096 (![] : Fin 0 → Fin S4096x4096.rank)

variable [Facts]

def fn {F : FTy → Type} [FloatOps F] (main_arg0 : FVec F S4096x1024 .f32) (main_arg1 : FVec F S1024 .f32) (main_arg2 : FVec F S1024x4096 .f32) (main_arg3 : FVec F S4096x4096 .f32) (main_arg4 : FVec F S4096x1024 .f32) : IVec S4096x1024 1 × IVec S1024 1 × IVec S1024x4096 1 × IVec S4096x4096 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S4096x4096 .f32 := Host.absf main_arg3
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  (main_v2, main_v5, main_v8, main_v11)
-- ==== Pre_finite_flash.lean ====
abbrev S4096x8x192 : Shape := ⟨3, ![4096, 8, 192]⟩
abbrev S4096x8x256 : Shape := ⟨3, ![4096, 8, 256]⟩
abbrev S4096x64 : Shape := ⟨2, ![4096, 64]⟩
abbrev S4096x8x128 : Shape := ⟨3, ![4096, 8, 128]⟩
abbrev S_ : Shape := ⟨0, ![]⟩

class Facts : Prop where
  bcast_S_S4096x8x192 : S_.BroadcastsInDim S4096x8x192 (![] : Fin 0 → Fin S4096x8x192.rank)
  bcast_S_S4096x8x256 : S_.BroadcastsInDim S4096x8x256 (![] : Fin 0 → Fin S4096x8x256.rank)
  bcast_S_S4096x64 : S_.BroadcastsInDim S4096x64 (![] : Fin 0 → Fin S4096x64.rank)
  bcast_S_S4096x8x128 : S_.BroadcastsInDim S4096x8x128 (![] : Fin 0 → Fin S4096x8x128.rank)

variable [Facts]

def fn {F : FTy → Type} [FloatOps F] (main_arg0 : FVec F S4096x8x192 .f32) (main_arg1 : FVec F S4096x8x256 .f32) (main_arg2 : FVec F S4096x64 .f32) (main_arg3 : FVec F S4096x8x128 .f32) : IVec S4096x8x192 1 × IVec S4096x8x256 1 × IVec S4096x64 1 × IVec S4096x8x128 1 :=
  let main_v0 : FVec F S4096x8x192 .f32 := Host.absf main_arg0
  let main_cst : FVec F S_ .f32 := constant S_ .f32 0x7F800000#32
  let main_v1 : FVec F S4096x8x192 .f32 := broadcastInDim S4096x8x192 ![] bcast_S_S4096x8x192 main_cst
  let main_v2 : IVec S4096x8x192 1 := cmpf .olt main_v0 main_v1
  let main_v3 : FVec F S4096x8x256 .f32 := Host.absf main_arg1
  let main_cst_0 : FVec F S_ .f32 := constant S_ .f32 0x7F800000#32
  let main_v4 : FVec F S4096x8x256 .f32 := broadcastInDim S4096x8x256 ![] bcast_S_S4096x8x256 main_cst_0
  let main_v5 : IVec S4096x8x256 1 := cmpf .olt main_v3 main_v4
  let main_v6 : FVec F S4096x64 .f32 := Host.absf main_arg2
  let main_cst_1 : FVec F S_ .f32 := constant S_ .f32 0x7F800000#32
  let main_v7 : FVec F S4096x64 .f32 := broadcastInDim S4096x64 ![] bcast_S_S4096x64 main_cst_1
  let main_v8 : IVec S4096x64 1 := cmpf .olt main_v6 main_v7
  let main_v9 : FVec F S4096x8x128 .f32 := Host.absf main_arg3
  let main_cst_2 : FVec F S_ .f32 := constant S_ .f32 0x7F800000#32
  let main_v10 : FVec F S4096x8x128 .f32 := broadcastInDim S4096x8x128 ![] bcast_S_S4096x8x128 main_cst_2
  let main_v11 : IVec S4096x8x128 1 := cmpf .olt main_v9 main_v10
  (main_v2, main_v5, main_v8, main_v11)
-- ==== Pre_finite_loss.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x1024 .f32) (main_arg1 : FVec F S4096x1024 .f32) (main_arg2 : FVec F S1024 .f32) : IVec S4096x1024 1 × IVec S4096x1024 1 × IVec S1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  (main_v2, main_v5, main_v8)
-- ==== Pre_finite_proj.lean ====
abbrev S4096x1024 : Shape := ⟨2, ![4096, 1024]⟩
abbrev S4096 : Shape := ⟨1, ![4096]⟩
abbrev S1024 : Shape := ⟨1, ![1024]⟩
abbrev S1024x448 : Shape := ⟨2, ![1024, 448]⟩
abbrev S256 : Shape := ⟨1, ![256]⟩
abbrev S128 : Shape := ⟨1, ![128]⟩
abbrev S256x1536 : Shape := ⟨2, ![256, 1536]⟩
abbrev S128x2048 : Shape := ⟨2, ![128, 2048]⟩
abbrev S4096x8x192 : Shape := ⟨3, ![4096, 8, 192]⟩
abbrev S4096x8x256 : Shape := ⟨3, ![4096, 8, 256]⟩
abbrev S4096x8x64 : Shape := ⟨3, ![4096, 8, 64]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x448 : S_.BroadcastsInDim S1024x448 (![] : Fin 0 → Fin S1024x448.rank)
  bcast_S_S256 : S_.BroadcastsInDim S256 (![] : Fin 0 → Fin S256.rank)
  bcast_S_S128 : S_.BroadcastsInDim S128 (![] : Fin 0 → Fin S128.rank)
  bcast_S_S256x1536 : S_.BroadcastsInDim S256x1536 (![] : Fin 0 → Fin S256x1536.rank)
  bcast_S_S128x2048 : S_.BroadcastsInDim S128x2048 (![] : Fin 0 → Fin S128x2048.rank)
  bcast_S_S4096x8x192 : S_.BroadcastsInDim S4096x8x192 (![] : Fin 0 → Fin S4096x8x192.rank)
  bcast_S_S4096x8x256 : S_.BroadcastsInDim S4096x8x256 (![] : Fin 0 → Fin S4096x8x256.rank)
  bcast_S_S4096x8x64 : S_.BroadcastsInDim S4096x8x64 (![] : Fin 0 → Fin S4096x8x64.rank)

variable [Facts]

def fn_part1 {F : FTy → Type} [FloatOps F] (main_arg7 : FVec F S128x2048 .f32) (main_arg8 : FVec F S4096x8x192 .f32) (main_arg9 : FVec F S4096x8x256 .f32) (main_arg10 : FVec F S4096x8x64 .f32) (main_v2 : IVec S4096x1024 1) (main_v5 : IVec S1024 1) (main_v8 : IVec S1024x448 1) (main_v11 : IVec S256 1) (main_v14 : IVec S128 1) (main_v17 : IVec S256x1536 1) : IVec S4096x1024 1 × IVec S1024 1 × IVec S1024x448 1 × IVec S256 1 × IVec S128 1 × IVec S256x1536 1 × IVec S128x2048 1 × IVec S4096x8x192 1 × IVec S4096x8x256 1 × IVec S4096x8x64 1 :=
  let main_v18 : FVec F S128x2048 .f32 := Host.absf main_arg7
  let main_cst_5 : FVec F S_ .f32 := constant S_ .f32 0x7F800000#32
  let main_v19 : FVec F S128x2048 .f32 := broadcastInDim S128x2048 ![] bcast_S_S128x2048 main_cst_5
  let main_v20 : IVec S128x2048 1 := cmpf .olt main_v18 main_v19
  let main_v21 : FVec F S4096x8x192 .f32 := Host.absf main_arg8
  let main_cst_6 : FVec F S_ .f32 := constant S_ .f32 0x7F800000#32
  let main_v22 : FVec F S4096x8x192 .f32 := broadcastInDim S4096x8x192 ![] bcast_S_S4096x8x192 main_cst_6
  let main_v23 : IVec S4096x8x192 1 := cmpf .olt main_v21 main_v22
  let main_v24 : FVec F S4096x8x256 .f32 := Host.absf main_arg9
  let main_cst_7 : FVec F S_ .f32 := constant S_ .f32 0x7F800000#32
  let main_v25 : FVec F S4096x8x256 .f32 := broadcastInDim S4096x8x256 ![] bcast_S_S4096x8x256 main_cst_7
  let main_v26 : IVec S4096x8x256 1 := cmpf .olt main_v24 main_v25
  let main_v27 : FVec F S4096x8x64 .f32 := Host.absf main_arg10
  let main_cst_8 : FVec F S_ .f32 := constant S_ .f32 0x7F800000#32
  let main_v28 : FVec F S4096x8x64 .f32 := broadcastInDim S4096x8x64 ![] bcast_S_S4096x8x64 main_cst_8
  let main_v29 : IVec S4096x8x64 1 := cmpf .olt main_v27 main_v28
  (main_v2, main_v5, main_v8, main_v11, main_v14, main_v17, main_v20, main_v23, main_v26, main_v29)

def fn {F : FTy → Type} [FloatOps F] (main_arg0 : FVec F S4096x1024 .f32) (main_arg1 : IVec S4096 32) (main_arg2 : FVec F S1024 .f32) (main_arg3 : FVec F S1024x448 .f32) (main_arg4 : FVec F S256 .f32) (main_arg5 : FVec F S128 .f32) (main_arg6 : FVec F S256x1536 .f32) (main_arg7 : FVec F S128x2048 .f32) (main_arg8 : FVec F S4096x8x192 .f32) (main_arg9 : FVec F S4096x8x256 .f32) (main_arg10 : FVec F S4096x8x64 .f32) (main_arg11 : FVec F S4096x1024 .f32) : IVec S4096x1024 1 × IVec S1024 1 × IVec S1024x448 1 × IVec S256 1 × IVec S128 1 × IVec S256x1536 1 × IVec S128x2048 1 × IVec S4096x8x192 1 × IVec S4096x8x256 1 × IVec S4096x8x64 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg2
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x448 .f32 := Host.absf main_arg3
  let main_cst_1 : FVec F S_ .f32 := constant S_ .f32 0x7F800000#32
  let main_v7 : FVec F S1024x448 .f32 := broadcastInDim S1024x448 ![] bcast_S_S1024x448 main_cst_1
  let main_v8 : IVec S1024x448 1 := cmpf .olt main_v6 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_v12 : FVec F S128 .f32 := Host.absf main_arg5
  let main_cst_3 : FVec F S_ .f32 := constant S_ .f32 0x7F800000#32
  let main_v13 : FVec F S128 .f32 := broadcastInDim S128 ![] bcast_S_S128 main_cst_3
  let main_v14 : IVec S128 1 := cmpf .olt main_v12 main_v13
  let main_v15 : FVec F S256x1536 .f32 := Host.absf main_arg6
  let main_cst_4 : FVec F S_ .f32 := constant S_ .f32 0x7F800000#32
  let main_v16 : FVec F S256x1536 .f32 := broadcastInDim S256x1536 ![] bcast_S_S256x1536 main_cst_4
  let main_v17 : IVec S256x1536 1 := cmpf .olt main_v15 main_v16
  fn_part1 (F := F) main_arg7 main_arg8 main_arg9 main_arg10 main_v2 main_v5 main_v8 main_v11 main_v14 main_v17
-- ==== Pre_finite_sgu.lean ====
abbrev S4096x4096 : Shape := ⟨2, ![4096, 4096]⟩
abbrev S2048 : Shape := ⟨1, ![2048]⟩
abbrev S8x128x128 : Shape := ⟨3, ![8, 128, 128]⟩
abbrev S8x128 : Shape := ⟨2, ![8, 128]⟩
abbrev S4096x2048 : Shape := ⟨2, ![4096, 2048]⟩
abbrev S_ : Shape := ⟨0, ![]⟩

class Facts : Prop where
  bcast_S_S4096x4096 : S_.BroadcastsInDim S4096x4096 (![] : Fin 0 → Fin S4096x4096.rank)
  bcast_S_S2048 : S_.BroadcastsInDim S2048 (![] : Fin 0 → Fin S2048.rank)
  bcast_S_S8x128x128 : S_.BroadcastsInDim S8x128x128 (![] : Fin 0 → Fin S8x128x128.rank)
  bcast_S_S8x128 : S_.BroadcastsInDim S8x128 (![] : Fin 0 → Fin S8x128.rank)
  bcast_S_S4096x2048 : S_.BroadcastsInDim S4096x2048 (![] : Fin 0 → Fin S4096x2048.rank)

variable [Facts]

def fn {F : FTy → Type} [FloatOps F] (main_arg0 : FVec F S4096x4096 .f32) (main_arg1 : FVec F S2048 .f32) (main_arg2 : FVec F S2048 .f32) (main_arg3 : FVec F S8x128x128 .f32) (main_arg4 : FVec F S8x128 .f32) (main_arg5 : FVec F S4096x2048 .f32) : IVec S4096x4096 1 × IVec S2048 1 × IVec S2048 1 × IVec S8x128x128 1 × IVec S8x128 1 × IVec S4096x2048 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S2048 .f32 := Host.absf main_arg2
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  let main_v9 : FVec F S8x128x128 .f32 := Host.absf main_arg3
  let main_cst_2 : FVec F S_ .f32 := constant S_ .f32 0x7F800000#32
  let main_v10 : FVec F S8x128x128 .f32 := broadcastInDim S8x128x128 ![] bcast_S_S8x128x128 main_cst_2
  let main_v11 : IVec S8x128x128 1 := cmpf .olt main_v9 main_v10
  let main_v12 : FVec F S8x128 .f32 := Host.absf main_arg4
  let main_cst_3 : FVec F S_ .f32 := constant S_ .f32 0x7F800000#32
  let main_v13 : FVec F S8x128 .f32 := broadcastInDim S8x128 ![] bcast_S_S8x128 main_cst_3
  let main_v14 : IVec S8x128 1 := cmpf .olt main_v12 main_v13
  let main_v15 : FVec F S4096x2048 .f32 := Host.absf main_arg5
  let main_cst_4 : FVec F S_ .f32 := constant S_ .f32 0x7F800000#32
  let main_v16 : FVec F S4096x2048 .f32 := broadcastInDim S4096x2048 ![] bcast_S_S4096x2048 main_cst_4
  let main_v17 : IVec S4096x2048 1 := cmpf .olt main_v15 main_v16
  (main_v2, main_v5, main_v8, main_v11, main_v14, main_v17)
-- ==== FfnDownKernel.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 16
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .bf16⟩
  | .hbm, ⟨12, _⟩ => ⟨S4x1024x1024, .f32⟩
  | .hbm, ⟨13, _⟩ => ⟨S4x1024x1024, .bf16⟩
  | .hbm, ⟨14, _⟩ => ⟨S4096x1024, .bf16⟩
  | .hbm, ⟨15, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownReferenceIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== FlashKernel.lean ====
abbrev S4096x8x192 : Shape := ⟨3, ![4096, 8, 192]⟩
abbrev S4096x8x256 : Shape := ⟨3, ![4096, 8, 256]⟩
abbrev S4096x64 : Shape := ⟨2, ![4096, 64]⟩
abbrev S4096x8x128 : Shape := ⟨3, ![4096, 8, 128]⟩
abbrev S8x4096x4096 : Shape := ⟨3, ![8, 4096, 4096]⟩
abbrev S4096x8x64 : Shape := ⟨3, ![4096, 8, 64]⟩
abbrev S4096x4096x8 : Shape := ⟨3, ![4096, 4096, 8]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x1x4096 : Shape := ⟨3, ![8, 1, 4096]⟩
abbrev S4096x8 : Shape := ⟨2, ![4096, 8]⟩
abbrev S4096x2048 : Shape := ⟨2, ![4096, 2048]⟩
abbrev S4096x128 : Shape := ⟨2, ![4096, 128]⟩
abbrev S4096x1024 : Shape := ⟨2, ![4096, 1024]⟩
abbrev S4096x256 : Shape := ⟨2, ![4096, 256]⟩
abbrev S512x256 : Shape := ⟨2, ![512, 256]⟩
abbrev S512x128 : Shape := ⟨2, ![512, 128]⟩
abbrev S1x1x4096 : Shape := ⟨3, ![1, 1, 4096]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 73
  | .vmem => 20
  | .smem => 0
  | _ => 0

abbrev bufTy : (tb : Table) → Fin (tcTables nBuf tb) → BufTy
  | .hbm, ⟨0, _⟩ => ⟨S4096x8x192, .f32⟩
  | .hbm, ⟨1, _⟩ => ⟨S4096x8x256, .f32⟩
  | .hbm, ⟨2, _⟩ => ⟨S4096x64, .f32⟩
  | .hbm, ⟨3, _⟩ => ⟨S4096x8x128, .f32⟩
  | .hbm, ⟨4, _⟩ => ⟨S4096x8x128, .f32⟩
  | .hbm, ⟨5, _⟩ => ⟨S4096x8x128, .f32⟩
  | .hbm, ⟨6, _⟩ => ⟨S4096x8x128, .f32⟩
  | .hbm, ⟨7, _⟩ => ⟨S8x4096x4096, .f32⟩
  | .hbm, ⟨8, _⟩ => ⟨S4096x8x64, .f32⟩
  | .hbm, ⟨9, _⟩ => ⟨S4096x4096x8, .f32⟩
  | .hbm, ⟨10, _⟩ => ⟨S8x4096x4096, .f32⟩
  | .hbm, ⟨11, _⟩ => ⟨S8x4096x4096, .f32⟩
  | .hbm, ⟨12, _⟩ => ⟨S_, .f32⟩
  | .hbm, ⟨13, _⟩ => ⟨S8x4096x4096, .f32⟩
  | .hbm, ⟨14, _⟩ => ⟨S8x4096x4096, .f32⟩
  | .hbm, ⟨15, _⟩ => ⟨S4096, .i32⟩
  | .hbm, ⟨16, _⟩ => ⟨S1x4096, .i32⟩
  | .hbm, ⟨17, _⟩ => ⟨S4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S1x4096x4096, .i1⟩
  | .hbm, ⟨23, _⟩ => ⟨S_, .f32⟩
  | .hbm, ⟨24, _⟩ => ⟨S_, .f32⟩
  | .hbm, ⟨25, _⟩ => ⟨S8x4096x4096, .i1⟩
  | .hbm, ⟨26, _⟩ => ⟨S8x4096x4096, .f32⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S8x4096x1, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S_, .f32⟩
  | .hbm, ⟨35, _⟩ => ⟨S8x4096, .f32⟩
  | .hbm, ⟨36, _⟩ => ⟨S8x4096x1, .f32⟩
  | .hbm, ⟨37, _⟩ => ⟨S8x4096x4096, .f32⟩
  | .hbm, ⟨38, _⟩ => ⟨S8x4096x4096, .f32⟩
  | .hbm, ⟨39, _⟩ => ⟨S8x128x4096, .f32⟩
  | .hbm, ⟨40, _⟩ => ⟨S4096x8x128, .f32⟩
  | .hbm, ⟨41, _⟩ => ⟨S_, .f32⟩
  | .hbm, ⟨42, _⟩ => ⟨S_, .f32⟩
  | .hbm, ⟨43, _⟩ => ⟨S8x4096x1, .f32⟩
  | .hbm, ⟨44, _⟩ => ⟨S8x4096x1, .f32⟩
  | .hbm, ⟨45, _⟩ => ⟨S8x4096x1, .f32⟩
  | .hbm, ⟨46, _⟩ => ⟨S8x4096x1, .f32⟩
  | .hbm, ⟨47, _⟩ => ⟨S8x1x4096, .f32⟩
  | .hbm, ⟨48, _⟩ => ⟨S4096x8x128, .f32⟩
  | .hbm, ⟨49, _⟩ => ⟨S_, .f32⟩
  | .hbm, ⟨50, _⟩ => ⟨S4096x8, .f32⟩
  | .hbm, ⟨51, _⟩ => ⟨S8x4096, .f32⟩
  | .hbm, ⟨52, _⟩ => ⟨S8x1x4096, .f32⟩
  | .hbm, ⟨53, _⟩ => ⟨S_, .f32⟩
  | .hbm, ⟨54, _⟩ => ⟨S_, .f32⟩
  | .hbm, ⟨55, _⟩ => ⟨S4096x8x192, .f32⟩
  | .hbm, ⟨56, _⟩ => ⟨S4096x8x192, .f32⟩
  | .hbm, ⟨57, _⟩ => ⟨S_, .i32⟩
  | .hbm, ⟨58, _⟩ => ⟨S_, .f32⟩
  | .hbm, ⟨59, _⟩ => ⟨S4096x8x256, .f32⟩
  | .hbm, ⟨60, _⟩ => ⟨S4096x2048, .f32⟩
  | .hbm, ⟨61, _⟩ => ⟨S4096x2048, .bf16⟩
  | .hbm, ⟨62, _⟩ => ⟨S4096x2048, .f32⟩
  | .hbm, ⟨63, _⟩ => ⟨S4096x2048, .bf16⟩
  | .hbm, ⟨64, _⟩ => ⟨S_, .i32⟩
  | .hbm, ⟨65, _⟩ => ⟨S_, .f32⟩
  | .hbm, ⟨66, _⟩ => ⟨S4096x128, .f32⟩
  | .hbm, ⟨67, _⟩ => ⟨S4096x128, .bf16⟩
  | .hbm, ⟨68, _⟩ => ⟨S4096x1024, .f32⟩
  | .hbm, ⟨69, _⟩ => ⟨S4096x1024, .bf16⟩
  | .hbm, ⟨70, _⟩ => ⟨S4096x2048, .f32⟩
  | .hbm, ⟨71, _⟩ => ⟨S4096x2048, .bf16⟩
  | .hbm, ⟨72, _⟩ => ⟨S4096x1024, .f32⟩
  | .local _ .vmem, ⟨0, _⟩ => ⟨S4096x256, .bf16⟩
  | .local _ .vmem, ⟨1, _⟩ => ⟨S4096x256, .bf16⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S4096x128, .bf16⟩
  | .local _ .vmem, ⟨7, _⟩ => ⟨S4096x128, .bf16⟩
  | .local _ .vmem, ⟨8, _⟩ => ⟨S1x1x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | .local _ .vmem, ⟨12, _⟩ => ⟨S4096x256, .f32⟩
  | .local _ .vmem, ⟨13, _⟩ => ⟨S4096x256, .f32⟩
  | .local _ .vmem, ⟨14, _⟩ => ⟨S512x256, .bf16⟩
  | .local _ .vmem, ⟨15, _⟩ => ⟨S512x256, .bf16⟩
  | .local _ .vmem, ⟨16, _⟩ => ⟨S512x128, .f32⟩
  | .local _ .vmem, ⟨17, _⟩ => ⟨S512x128, .f32⟩
  | .local _ .vmem, ⟨18, _⟩ => ⟨S512x256, .f32⟩
  | .local _ .vmem, ⟨19, _⟩ => ⟨S512x128, .f32⟩
  | _, _ => ⟨S4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c : Ref sig .tc := ⟨.hbm, 57, rfl⟩
abbrev main_call1_v0 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_6 : Ref sig .tc := ⟨.hbm, 64, rfl⟩
abbrev main_call2_v0 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52_0 : Ref sig .tc := ⟨.hbm, 70, rfl⟩
abbrev main_v52_1 : Ref sig .tc := ⟨.hbm, 71, rfl⟩
abbrev main_v52_2 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_9 : BitVec 32 := 0#32
  let v17 : BitVec 1 := Scalar.cmpi .ne v16 c0_i32_9
  v17

def k0_mult1 (i : grid0.Coords) : BitVec 32 :=
  let arg1 : BitVec 32 := BitVec.ofNat 32 (i 1).val
  let c512_i32 : BitVec 32 := 512#32
  let v31 : BitVec 32 := Scalar.muli arg1 c512_i32
  v31
def k0_off1 (i : grid0.Coords) : Fin 2 → Nat :=
  let arg1 : BitVec 32 := BitVec.ofNat 32 (i 1).val
  let c512_i32 : BitVec 32 := 512#32
  let v31 : BitVec 32 := Scalar.muli arg1 c512_i32
  let v32 : BitVec 32 := v31
  let v33 : Index := Scalar.indexCast v32
  let c0_21 : Index := 0#32
  ![v33.toNat, 0]
def k0_off2 (i : grid0.Coords) : Fin 2 → Nat :=
  let arg1 : BitVec 32 := BitVec.ofNat 32 (i 1).val
  let c512_i32 : BitVec 32 := 512#32
  let v31 : BitVec 32 := Scalar.muli arg1 c512_i32
  let v32 : BitVec 32 := v31
  let v36 : Index := Scalar.indexCast v32
  let c0_22 : Index := 0#32
  ![v36.toNat, 0]
def k0_off3 (i : grid0.Coords) : Fin 3 → Nat :=
  let c0_26 : Index := 0#32
  let c0_27 : Index := 0#32
  let arg1 : BitVec 32 := BitVec.ofNat 32 (i 1).val
  let c512_i32 : BitVec 32 := 512#32
  let v31 : BitVec 32 := Scalar.muli arg1 c512_i32
  let v32 : BitVec 32 := v31
  let v49 : Index := Scalar.indexCast v32
  ![0, 0, v49.toNat]
def k0_cond3 (i : grid0.Coords) : BitVec 1 :=
  let arg1 : BitVec 32 := BitVec.ofNat 32 (i 1).val
  let c7_i32_10 : BitVec 32 := 7#32
  let v18 : BitVec 1 := Scalar.cmpi .slt arg1 c7_i32_10
  let v19 : BitVec 32 := Scalar.extui v18
  let c0_i32_11 : BitVec 32 := 0#32
  let v20 : BitVec 1 := Scalar.cmpi .ne v19 c0_i32_11
  v20

def k0_mult2 (i : grid0.Coords) : BitVec 32 :=
  let arg1 : BitVec 32 := BitVec.ofNat 32 (i 1).val
  let c512_i32 : BitVec 32 := 512#32
  let v32 : BitVec 32 := Scalar.muli arg1 c512_i32
  v32
def k0_off4 (i : grid0.Coords) : Fin 2 → Nat :=
  let arg1 : BitVec 32 := BitVec.ofNat 32 (i 1).val
  let c512_i32 : BitVec 32 := 512#32
  let v32 : BitVec 32 := Scalar.muli arg1 c512_i32
  let v33 : BitVec 32 := v32
  let v34 : Index := Scalar.indexCast v33
  let c0_21 : Index := 0#32
  ![v34.toNat, 0]
def k0_off5 (i : grid0.Coords) : Fin 2 → Nat :=
  let arg1 : BitVec 32 := BitVec.ofNat 32 (i 1).val
  let c512_i32 : BitVec 32 := 512#32
  let v32 : BitVec 32 := Scalar.muli arg1 c512_i32
  let v33 : BitVec 32 := v32
  let v37 : Index := Scalar.indexCast v33
  let c0_22 : Index := 0#32
  ![v37.toNat, 0]
def k0_mult3 (i : grid0.Coords) : BitVec 32 :=
  let arg1 : BitVec 32 := BitVec.ofNat 32 (i 1).val
  let c1_i32 : BitVec 32 := 1#32
  let v31 : BitVec 32 := Scalar.addi arg1 c1_i32
  let c512_i32_26 : BitVec 32 := 512#32
  let v50 : BitVec 32 := Scalar.muli v31 c512_i32_26
  v50
def k0_off6 (i : grid0.Coords) : Fin 2 → Nat :=
  let arg1 : BitVec 32 := BitVec.ofNat 32 (i 1).val
  let c1_i32 : BitVec 32 := 1#32
  let v31 : BitVec 32 := Scalar.addi arg1 c1_i32
  let c512_i32_26 : BitVec 32 := 512#32
  let v50 : BitVec 32 := Scalar.muli v31 c512_i32_26
  let v51 : BitVec 32 := v50
  let v52 : Index := Scalar.indexCast v51
  let c0_27 : Index := 0#32
  ![v52.toNat, 0]
def k0_off7 (i : grid0.Coords) : Fin 2 → Nat :=
  let arg1 : BitVec 32 := BitVec.ofNat 32 (i 1).val
  let c1_i32 : BitVec 32 := 1#32
  let v31 : BitVec 32 := Scalar.addi arg1 c1_i32
  let c512_i32_26 : BitVec 32 := 512#32
  let v50 : BitVec 32 := Scalar.muli v31 c512_i32_26
  let v51 : BitVec 32 := v50
  let v55 : Index := Scalar.indexCast v51
  let c0_28 : Index := 0#32
  ![v55.toNat, 0]
def k0_off8 (i : grid0.Coords) : Fin 3 → Nat :=
  let c0_31 : Index := 0#32
  let c0_32 : Index := 0#32
  let arg1 : BitVec 32 := BitVec.ofNat 32 (i 1).val
  let c512_i32 : BitVec 32 := 512#32
  let v32 : BitVec 32 := Scalar.muli arg1 c512_i32
  let v33 : BitVec 32 := v32
  let v63 : Index := Scalar.indexCast v33
  ![0, 0, v63.toNat]
def k0_off9 (i : grid0.Coords) : Fin 3 → Nat :=
  let c0_49 : Index := 0#32
  let c0_50 : Index := 0#32
  let arg1 : BitVec 32 := BitVec.ofNat 32 (i 1).val
  let c1_i32 : BitVec 32 := 1#32
  let v31 : BitVec 32 := Scalar.addi arg1 c1_i32
  let c512_i32_26 : BitVec 32 := 512#32
  let v50 : BitVec 32 := Scalar.muli v31 c512_i32_26
  let v51 : BitVec 32 := v50
  let v98 : Index := Scalar.indexCast v51
  ![0, 0, v98.toNat]
@[reducible] def k0_t1_loop (i : grid0.Coords) : Scf.Loop 32 :=
  let c0_i32_75 : BitVec 32 := 0#32
  let c8_i32 : BitVec 32 := 8#32
  let arg1 : BitVec 32 := BitVec.ofNat 32 (i 1).val
  let c2_i32 : BitVec 32 := 2#32
  let v133 : BitVec 32 := Scalar.addi arg1 c2_i32
  let v134 : BitVec 32 := Scalar.subi c8_i32 v133
  let c0_i32_68 : BitVec 32 := 0#32
  let v136 : BitVec 1 := Scalar.cmpi .sgt v134 c0_i32_68
  let v137 : BitVec 32 := Scalar.extui v136
  let c0_i32_69 : BitVec 32 := 0#32
  let v138 : BitVec 1 := Scalar.cmpi .slt v134 c0_i32_69
  let v139 : BitVec 32 := Scalar.extui v138
  let v140 : BitVec 32 := Scalar.subi v137 v139
  let c2_i32_67 : BitVec 32 := 2#32
  let c0_i32_70 : BitVec 32 := 0#32
  let v141 : BitVec 1 := Scalar.cmpi .sgt c2_i32_67 c0_i32_70
  let v142 : BitVec 32 := Scalar.extui v141
  let c0_i32_71 : BitVec 32 := 0#32
  let v143 : BitVec 1 := Scalar.cmpi .slt c2_i32_67 c0_i32_71
  let v144 : BitVec 32 := Scalar.extui v143
  let v145 : BitVec 32 := Scalar.subi v142 v144
  let v146 : BitVec 1 := Scalar.cmpi .ne v140 v145
  let v147 : BitVec 32 := Scalar.remsi v134 c2_i32_67
  let c0_i32_72 : BitVec 32 := 0#32
  let v148 : BitVec 1 := Scalar.cmpi .ne v147 c0_i32_72
  let v149 : BitVec 1 := Scalar.andi v146 v148
  let v135 : BitVec 32 := Scalar.divsi v134 c2_i32_67
  let c1_i32_73 : BitVec 32 := 1#32
  let v150 : BitVec 32 := Scalar.subi v135 c1_i32_73
  let v151 : BitVec 32 := Scalar.select v149 v150 v135
  let v152 : BitVec 32 := Scalar.subi v151 c0_i32_75
  let c1_i32_76 : BitVec 32 := 1#32
  let v154 : BitVec 32 := Scalar.divsi v152 c1_i32_76
  let v155 : BitVec 32 := Scalar.muli v154 c1_i32_76
  let v156 : BitVec 32 := Scalar.addi c0_i32_75 v155
  let c1_i32_77 : BitVec 32 := 1#32
  ⟨c0_i32_75, v156, c1_i32_77⟩
def k0_mult4 (i : grid0.Coords) (k0_t1 : Fin (k0_t1_loop i).trips) : BitVec 32 :=
  let arg1 : BitVec 32 := BitVec.ofNat 32 (i 1).val
  let c2_i32 : BitVec 32 := 2#32
  let v133 : BitVec 32 := Scalar.addi arg1 c2_i32
  let c2_i32_87 : BitVec 32 := 2#32
  let c0_i32_75 : BitVec 32 := 0#32
  let c1_i32_77 : BitVec 32 := 1#32
  let arg13 : BitVec 32 := Scf.iv c0_i32_75 c1_i32_77 k0_t1
  let v170 : BitVec 32 := Scalar.muli c2_i32_87 arg13
  let v171 : BitVec 32 := Scalar.addi v133 v170
  let c512_i32_90 : BitVec 32 := 512#32
  let v175 : BitVec 32 := Scalar.muli v171 c512_i32_90
  v175
def k0_off10 (i : grid0.Coords) (k0_t1 : Fin (k0_t1_loop i).trips) : Fin 2 → Nat :=
  let arg1 : BitVec 32 := BitVec.ofNat 32 (i 1).val
  let c2_i32 : BitVec 32 := 2#32
  let v133 : BitVec 32 := Scalar.addi arg1 c2_i32
  let c2_i32_87 : BitVec 32 := 2#32
  let c0_i32_75 : BitVec 32 := 0#32
  let c1_i32_77 : BitVec 32 := 1#32
  let arg13 : BitVec 32 := Scf.iv c0_i32_75 c1_i32_77 k0_t1
  let v170 : BitVec 32 := Scalar.muli c2_i32_87 arg13
  let v171 : BitVec 32 := Scalar.addi v133 v170
  let c512_i32_90 : BitVec 32 := 512#32
  let v175 : BitVec 32 := Scalar.muli v171 c512_i32_90
  let v176 : BitVec 32 := v175
  let v177 : Index := Scalar.indexCast v176
  let c0_91 : Index := 0#32
  ![v177.toNat, 0]
def k0_off11 (i : grid0.Coords) (k0_t1 : Fin (k0_t1_loop i).trips) : Fin 2 → Nat :=
  let arg1 : BitVec 32 := BitVec.ofNat 32 (i 1).val
  let c2_i32 : BitVec 32 := 2#32
  let v133 : BitVec 32 := Scalar.addi arg1 c2_i32
  let c2_i32_87 : BitVec 32 := 2#32
  let c0_i32_75 : BitVec 32 := 0#32
  let c1_i32_77 : BitVec 32 := 1#32
  let arg13 : BitVec 32 := Scf.iv c0_i32_75 c1_i32_77 k0_t1
  let v170 : BitVec 32 := Scalar.muli c2_i32_87 arg13
  let v171 : BitVec 32 := Scalar.addi v133 v170
  let c512_i32_90 : BitVec 32 := 512#32
  let v175 : BitVec 32 := Scalar.muli v171 c512_i32_90
  let v176 : BitVec 32 := v175
  let v180 : Index := Scalar.indexCast v176
  let c0_92 : Index := 0#32
  ![v180.toNat, 0]
def k0_mult5 (i : grid0.Coords) (k0_t1 : Fin (k0_t1_loop i).trips) : BitVec 32 :=
  let arg1 : BitVec 32 := BitVec.ofNat 32 (i 1).val
  let c2_i32 : BitVec 32 := 2#32
  let v133 : BitVec 32 := Scalar.addi arg1 c2_i32
  let c2_i32_88 : BitVec 32 := 2#32
  let c0_i32_75 : BitVec 32 := 0#32
  let c1_i32_77 : BitVec 32 := 1#32
  let arg13 : BitVec 32 := Scf.iv c0_i32_75 c1_i32_77 k0_t1
  let v172 : BitVec 32 := Scalar.muli c2_i32_88 arg13
  let v173 : BitVec 32 := Scalar.addi v133 v172
  let c1_i32_89 : BitVec 32 := 1#32
  let v174 : BitVec 32 := Scalar.addi v173 c1_i32_89
  let c512_i32_95 : BitVec 32 := 512#32
  let v188 : BitVec 32 := Scalar.muli v174 c512_i32_95
  v188
def k0_off12 (i : grid0.Coords) (k0_t1 : Fin (k0_t1_loop i).trips) : Fin 2 → Nat :=
  let arg1 : BitVec 32 := BitVec.ofNat 32 (i 1).val
  let c2_i32 : BitVec 32 := 2#32
  let v133 : BitVec 32 := Scalar.addi arg1 c2_i32
  let c2_i32_88 : BitVec 32 := 2#32
  let c0_i32_75 : BitVec 32 := 0#32
  let c1_i32_77 : BitVec 32 := 1#32
  let arg13 : BitVec 32 := Scf.iv c0_i32_75 c1_i32_77 k0_t1
  let v172 : BitVec 32 := Scalar.muli c2_i32_88 arg13
  let v173 : BitVec 32 := Scalar.addi v133 v172
  let c1_i32_89 : BitVec 32 := 1#32
  let v174 : BitVec 32 := Scalar.addi v173 c1_i32_89
  let c512_i32_95 : BitVec 32 := 512#32
  let v188 : BitVec 32 := Scalar.muli v174 c512_i32_95
  let v189 : BitVec 32 := v188
  let v190 : Index := Scalar.indexCast v189
  let c0_96 : Index := 0#32
  ![v190.toNat, 0]
def k0_off13 (i : grid0.Coords) (k0_t1 : Fin (k0_t1_loop i).trips) : Fin 2 → Nat :=
  let arg1 : BitVec 32 := BitVec.ofNat 32 (i 1).val
  let c2_i32 : BitVec 32 := 2#32
  let v133 : BitVec 32 := Scalar.addi arg1 c2_i32
  let c2_i32_88 : BitVec 32 := 2#32
  let c0_i32_75 : BitVec 32 := 0#32
  let c1_i32_77 : BitVec 32 := 1#32
  let arg13 : BitVec 32 := Scf.iv c0_i32_75 c1_i32_77 k0_t1
  let v172 : BitVec 32 := Scalar.muli c2_i32_88 arg13
  let v173 : BitVec 32 := Scalar.addi v133 v172
  let c1_i32_89 : BitVec 32 := 1#32
  let v174 : BitVec 32 := Scalar.addi v173 c1_i32_89
  let c512_i32_95 : BitVec 32 := 512#32
  let v188 : BitVec 32 := Scalar.muli v174 c512_i32_95
  let v189 : BitVec 32 := v188
  let v193 : Index := Scalar.indexCast v189
  let c0_97 : Index := 0#32
  ![v193.toNat, 0]
def k0_off14 (i : grid0.Coords) (k0_t1 : Fin (k0_t1_loop i).trips) : Fin 3 → Nat :=
  let c0_100 : Index := 0#32
  let c0_101 : Index := 0#32
  let arg1 : BitVec 32 := BitVec.ofNat 32 (i 1).val
  let c2_i32 : BitVec 32 := 2#32
  let v133 : BitVec 32 := Scalar.addi arg1 c2_i32
  let c2_i32_87 : BitVec 32 := 2#32
  let c0_i32_75 : BitVec 32 := 0#32
  let c1_i32_77 : BitVec 32 := 1#32
  let arg13 : BitVec 32 := Scf.iv c0_i32_75 c1_i32_77 k0_t1
  let v170 : BitVec 32 := Scalar.muli c2_i32_87 arg13
  let v171 : BitVec 32 := Scalar.addi v133 v170
  let c512_i32_90 : BitVec 32 := 512#32
  let v175 : BitVec 32 := Scalar.muli v171 c512_i32_90
  let v176 : BitVec 32 := v175
  let v201 : Index := Scalar.indexCast v176
  ![0, 0, v201.toNat]
def k0_off15 (i : grid0.Coords) (k0_t1 : Fin (k0_t1_loop i).trips) : Fin 3 → Nat :=
  let c0_118 : Index := 0#32
  let c0_119 : Index := 0#32
  let arg1 : BitVec 32 := BitVec.ofNat 32 (i 1).val
  let c2_i32 : BitVec 32 := 2#32
  let v133 : BitVec 32 := Scalar.addi arg1 c2_i32
  let c2_i32_88 : BitVec 32 := 2#32
  let c0_i32_75 : BitVec 32 := 0#32
  let c1_i32_77 : BitVec 32 := 1#32
  let arg13 : BitVec 32 := Scf.iv c0_i32_75 c1_i32_77 k0_t1
  let v172 : BitVec 32 := Scalar.muli c2_i32_88 arg13
  let v173 : BitVec 32 := Scalar.addi v133 v172
  let c1_i32_89 : BitVec 32 := 1#32
  let v174 : BitVec 32 := Scalar.addi v173 c1_i32_89
  let c512_i32_95 : BitVec 32 := 512#32
  let v188 : BitVec 32 := Scalar.muli v174 c512_i32_95
  let v189 : BitVec 32 := v188
  let v236 : Index := Scalar.indexCast v189
  ![0, 0, v236.toNat]
@[reducible] def k0_t2_loop (i : grid0.Coords) : Scf.Loop 32 :=
  let c0_i32_75 : BitVec 32 := 0#32
  let c8_i32 : BitVec 32 := 8#32
  let arg1 : BitVec 32 := BitVec.ofNat 32 (i 1).val
  let c2_i32 : BitVec 32 := 2#32
  let v133 : BitVec 32 := Scalar.addi arg1 c2_i32
  let v134 : BitVec 32 := Scalar.subi c8_i32 v133
  let c0_i32_68 : BitVec 32 := 0#32
  let v136 : BitVec 1 := Scalar.cmpi .sgt v134 c0_i32_68
  let v137 : BitVec 32 := Scalar.extui v136
  let c0_i32_69 : BitVec 32 := 0#32
  let v138 : BitVec 1 := Scalar.cmpi .slt v134 c0_i32_69
  let v139 : BitVec 32 := Scalar.extui v138
  let v140 : BitVec 32 := Scalar.subi v137 v139
  let c2_i32_67 : BitVec 32 := 2#32
  let c0_i32_70 : BitVec 32 := 0#32
  let v141 : BitVec 1 := Scalar.cmpi .sgt c2_i32_67 c0_i32_70
  let v142 : BitVec 32 := Scalar.extui v141
  let c0_i32_71 : BitVec 32 := 0#32
  let v143 : BitVec 1 := Scalar.cmpi .slt c2_i32_67 c0_i32_71
  let v144 : BitVec 32 := Scalar.extui v143
  let v145 : BitVec 32 := Scalar.subi v142 v144
  let v146 : BitVec 1 := Scalar.cmpi .ne v140 v145
  let v147 : BitVec 32 := Scalar.remsi v134 c2_i32_67
  let c0_i32_72 : BitVec 32 := 0#32
  let v148 : BitVec 1 := Scalar.cmpi .ne v147 c0_i32_72
  let v149 : BitVec 1 := Scalar.andi v146 v148
  let v135 : BitVec 32 := Scalar.divsi v134 c2_i32_67
  let c1_i32_73 : BitVec 32 := 1#32
  let v150 : BitVec 32 := Scalar.subi v135 c1_i32_73
  let v151 : BitVec 32 := Scalar.select v149 v150 v135
  let v152 : BitVec 32 := Scalar.subi v151 c0_i32_75
  let c1_i32_76 : BitVec 32 := 1#32
  let v154 : BitVec 32 := Scalar.divsi v152 c1_i32_76
  let v155 : BitVec 32 := Scalar.muli v154 c1_i32_76
  let v156 : BitVec 32 := Scalar.addi c0_i32_75 v155
  let v153 : BitVec 32 := Scalar.addi c0_i32_75 v152
  let c1_i32_78 : BitVec 32 := 1#32
  ⟨v156, v153, c1_i32_78⟩
def k0_mult6 (i : grid0.Coords) (k0_t2 : Fin (k0_t2_loop i).trips) : BitVec 32 :=
  let arg1 : BitVec 32 := BitVec.ofNat 32 (i 1).val
  let c2_i32 : BitVec 32 := 2#32
  let v133 : BitVec 32 := Scalar.addi arg1 c2_i32
  let c2_i32_87 : BitVec 32 := 2#32
  let c0_i32_75 : BitVec 32 := 0#32
  let c8_i32 : BitVec 32 := 8#32
  let v134 : BitVec 32 := Scalar.subi c8_i32 v133
  let c0_i32_68 : BitVec 32 := 0#32
  let v136 : BitVec 1 := Scalar.cmpi .sgt v134 c0_i32_68
  let v137 : BitVec 32 := Scalar.extui v136
  let c0_i32_69 : BitVec 32 := 0#32
  let v138 : BitVec 1 := Scalar.cmpi .slt v134 c0_i32_69
  let v139 : BitVec 32 := Scalar.extui v138
  let v140 : BitVec 32 := Scalar.subi v137 v139
  let c2_i32_67 : BitVec 32 := 2#32
  let c0_i32_70 : BitVec 32 := 0#32
  let v141 : BitVec 1 := Scalar.cmpi .sgt c2_i32_67 c0_i32_70
  let v142 : BitVec 32 := Scalar.extui v141
  let c0_i32_71 : BitVec 32 := 0#32
  let v143 : BitVec 1 := Scalar.cmpi .slt c2_i32_67 c0_i32_71
  let v144 : BitVec 32 := Scalar.extui v143
  let v145 : BitVec 32 := Scalar.subi v142 v144
  let v146 : BitVec 1 := Scalar.cmpi .ne v140 v145
  let v147 : BitVec 32 := Scalar.remsi v134 c2_i32_67
  let c0_i32_72 : BitVec 32 := 0#32
  let v148 : BitVec 1 := Scalar.cmpi .ne v147 c0_i32_72
  let v149 : BitVec 1 := Scalar.andi v146 v148
  let v135 : BitVec 32 := Scalar.divsi v134 c2_i32_67
  let c1_i32_73 : BitVec 32 := 1#32
  let v150 : BitVec 32 := Scalar.subi v135 c1_i32_73
  let v151 : BitVec 32 := Scalar.select v149 v150 v135
  let v152 : BitVec 32 := Scalar.subi v151 c0_i32_75
  let c1_i32_76 : BitVec 32 := 1#32
  let v154 : BitVec 32 := Scalar.divsi v152 c1_i32_76
  let v155 : BitVec 32 := Scalar.muli v154 c1_i32_76
  let v156 : BitVec 32 := Scalar.addi c0_i32_75 v155
  let c1_i32_78 : BitVec 32 := 1#32
  let arg13 : BitVec 32 := Scf.iv v156 c1_i32_78 k0_t2
  let v170 : BitVec 32 := Scalar.muli c2_i32_87 arg13
  let v171 : BitVec 32 := Scalar.addi v133 v170
  let c512_i32_90 : BitVec 32 := 512#32
  let v175 : BitVec 32 := Scalar.muli v171 c512_i32_90
  v175
def k0_off16 (i : grid0.Coords) (k0_t2 : Fin (k0_t2_loop i).trips) : Fin 2 → Nat :=
  let arg1 : BitVec 32 := BitVec.ofNat 32 (i 1).val
  let c2_i32 : BitVec 32 := 2#32
  let v133 : BitVec 32 := Scalar.addi arg1 c2_i32
  let c2_i32_87 : BitVec 32 := 2#32
  let c0_i32_75 : BitVec 32 := 0#32
  let c8_i32 : BitVec 32 := 8#32
  let v134 : BitVec 32 := Scalar.subi c8_i32 v133
  let c0_i32_68 : BitVec 32 := 0#32
  let v136 : BitVec 1 := Scalar.cmpi .sgt v134 c0_i32_68
  let v137 : BitVec 32 := Scalar.extui v136
  let c0_i32_69 : BitVec 32 := 0#32
  let v138 : BitVec 1 := Scalar.cmpi .slt v134 c0_i32_69
  let v139 : BitVec 32 := Scalar.extui v138
  let v140 : BitVec 32 := Scalar.subi v137 v139
  let c2_i32_67 : BitVec 32 := 2#32
  let c0_i32_70 : BitVec 32 := 0#32
  let v141 : BitVec 1 := Scalar.cmpi .sgt c2_i32_67 c0_i32_70
  let v142 : BitVec 32 := Scalar.extui v141
  let c0_i32_71 : BitVec 32 := 0#32
  let v143 : BitVec 1 := Scalar.cmpi .slt c2_i32_67 c0_i32_71
  let v144 : BitVec 32 := Scalar.extui v143
  let v145 : BitVec 32 := Scalar.subi v142 v144
  let v146 : BitVec 1 := Scalar.cmpi .ne v140 v145
  let v147 : BitVec 32 := Scalar.remsi v134 c2_i32_67
  let c0_i32_72 : BitVec 32 := 0#32
  let v148 : BitVec 1 := Scalar.cmpi .ne v147 c0_i32_72
  let v149 : BitVec 1 := Scalar.andi v146 v148
  let v135 : BitVec 32 := Scalar.divsi v134 c2_i32_67
  let c1_i32_73 : BitVec 32 := 1#32
  let v150 : BitVec 32 := Scalar.subi v135 c1_i32_73
  let v151 : BitVec 32 := Scalar.select v149 v150 v135
  let v152 : BitVec 32 := Scalar.subi v151 c0_i32_75
  let c1_i32_76 : BitVec 32 := 1#32
  let v154 : BitVec 32 := Scalar.divsi v152 c1_i32_76
  let v155 : BitVec 32 := Scalar.muli v154 c1_i32_76
  let v156 : BitVec 32 := Scalar.addi c0_i32_75 v155
  let c1_i32_78 : BitVec 32 := 1#32
  let arg13 : BitVec 32 := Scf.iv v156 c1_i32_78 k0_t2
  let v170 : BitVec 32 := Scalar.muli c2_i32_87 arg13
  let v171 : BitVec 32 := Scalar.addi v133 v170
  let c512_i32_90 : BitVec 32 := 512#32
  let v175 : BitVec 32 := Scalar.muli v171 c512_i32_90
  let v176 : BitVec 32 := v175
  let v177 : Index := Scalar.indexCast v176
  let c0_91 : Index := 0#32
  ![v177.toNat, 0]
def k0_off17 (i : grid0.Coords) (k0_t2 : Fin (k0_t2_loop i).trips) : Fin 2 → Nat :=
  let arg1 : BitVec 32 := BitVec.ofNat 32 (i 1).val
  let c2_i32 : BitVec 32 := 2#32
  let v133 : BitVec 32 := Scalar.addi arg1 c2_i32
  let c2_i32_87 : BitVec 32 := 2#32
  let c0_i32_75 : BitVec 32 := 0#32
  let c8_i32 : BitVec 32 := 8#32
  let v134 : BitVec 32 := Scalar.subi c8_i32 v133
  let c0_i32_68 : BitVec 32 := 0#32
  let v136 : BitVec 1 := Scalar.cmpi .sgt v134 c0_i32_68
  let v137 : BitVec 32 := Scalar.extui v136
  let c0_i32_69 : BitVec 32 := 0#32
  let v138 : BitVec 1 := Scalar.cmpi .slt v134 c0_i32_69
  let v139 : BitVec 32 := Scalar.extui v138
  let v140 : BitVec 32 := Scalar.subi v137 v139
  let c2_i32_67 : BitVec 32 := 2#32
  let c0_i32_70 : BitVec 32 := 0#32
  let v141 : BitVec 1 := Scalar.cmpi .sgt c2_i32_67 c0_i32_70
  let v142 : BitVec 32 := Scalar.extui v141
  let c0_i32_71 : BitVec 32 := 0#32
  let v143 : BitVec 1 := Scalar.cmpi .slt c2_i32_67 c0_i32_71
  let v144 : BitVec 32 := Scalar.extui v143
  let v145 : BitVec 32 := Scalar.subi v142 v144
  let v146 : BitVec 1 := Scalar.cmpi .ne v140 v145
  let v147 : BitVec 32 := Scalar.remsi v134 c2_i32_67
  let c0_i32_72 : BitVec 32 := 0#32
  let v148 : BitVec 1 := Scalar.cmpi .ne v147 c0_i32_72
  let v149 : BitVec 1 := Scalar.andi v146 v148
  let v135 : BitVec 32 := Scalar.divsi v134 c2_i32_67
  let c1_i32_73 : BitVec 32 := 1#32
  let v150 : BitVec 32 := Scalar.subi v135 c1_i32_73
  let v151 : BitVec 32 := Scalar.select v149 v150 v135
  let v152 : BitVec 32 := Scalar.subi v151 c0_i32_75
  let c1_i32_76 : BitVec 32 := 1#32
  let v154 : BitVec 32 := Scalar.divsi v152 c1_i32_76
  let v155 : BitVec 32 := Scalar.muli v154 c1_i32_76
  let v156 : BitVec 32 := Scalar.addi c0_i32_75 v155
  let c1_i32_78 : BitVec 32 := 1#32
  let arg13 : BitVec 32 := Scf.iv v156 c1_i32_78 k0_t2
  let v170 : BitVec 32 := Scalar.muli c2_i32_87 arg13
  let v171 : BitVec 32 := Scalar.addi v133 v170
  let c512_i32_90 : BitVec 32 := 512#32
  let v175 : BitVec 32 := Scalar.muli v171 c512_i32_90
  let v176 : BitVec 32 := v175
  let v180 : Index := Scalar.indexCast v176
  let c0_92 : Index := 0#32
  ![v180.toNat, 0]
def k0_mult7 (i : grid0.Coords) (k0_t2 : Fin (k0_t2_loop i).trips) : BitVec 32 :=
  let arg1 : BitVec 32 := BitVec.ofNat 32 (i 1).val
  let c2_i32 : BitVec 32 := 2#32
  let v133 : BitVec 32 := Scalar.addi arg1 c2_i32
  let c2_i32_88 : BitVec 32 := 2#32
  let c0_i32_75 : BitVec 32 := 0#32
  let c8_i32 : BitVec 32 := 8#32
  let v134 : BitVec 32 := Scalar.subi c8_i32 v133
  let c0_i32_68 : BitVec 32 := 0#32
  let v136 : BitVec 1 := Scalar.cmpi .sgt v134 c0_i32_68
  let v137 : BitVec 32 := Scalar.extui v136
  let c0_i32_69 : BitVec 32 := 0#32
  let v138 : BitVec 1 := Scalar.cmpi .slt v134 c0_i32_69
  let v139 : BitVec 32 := Scalar.extui v138
  let v140 : BitVec 32 := Scalar.subi v137 v139
  let c2_i32_67 : BitVec 32 := 2#32
  let c0_i32_70 : BitVec 32 := 0#32
  let v141 : BitVec 1 := Scalar.cmpi .sgt c2_i32_67 c0_i32_70
  let v142 : BitVec 32 := Scalar.extui v141
  let c0_i32_71 : BitVec 32 := 0#32
  let v143 : BitVec 1 := Scalar.cmpi .slt c2_i32_67 c0_i32_71
  let v144 : BitVec 32 := Scalar.extui v143
  let v145 : BitVec 32 := Scalar.subi v142 v144
  let v146 : BitVec 1 := Scalar.cmpi .ne v140 v145
  let v147 : BitVec 32 := Scalar.remsi v134 c2_i32_67
  let c0_i32_72 : BitVec 32 := 0#32
  let v148 : BitVec 1 := Scalar.cmpi .ne v147 c0_i32_72
  let v149 : BitVec 1 := Scalar.andi v146 v148
  let v135 : BitVec 32 := Scalar.divsi v134 c2_i32_67
  let c1_i32_73 : BitVec 32 := 1#32
  let v150 : BitVec 32 := Scalar.subi v135 c1_i32_73
  let v151 : BitVec 32 := Scalar.select v149 v150 v135
  let v152 : BitVec 32 := Scalar.subi v151 c0_i32_75
  let c1_i32_76 : BitVec 32 := 1#32
  let v154 : BitVec 32 := Scalar.divsi v152 c1_i32_76
  let v155 : BitVec 32 := Scalar.muli v154 c1_i32_76
  let v156 : BitVec 32 := Scalar.addi c0_i32_75 v155
  let c1_i32_78 : BitVec 32 := 1#32
  let arg13 : BitVec 32 := Scf.iv v156 c1_i32_78 k0_t2
  let v172 : BitVec 32 := Scalar.muli c2_i32_88 arg13
  let v173 : BitVec 32 := Scalar.addi v133 v172
  let c1_i32_89 : BitVec 32 := 1#32
  let v174 : BitVec 32 := Scalar.addi v173 c1_i32_89
  let c512_i32_95 : BitVec 32 := 512#32
  let v188 : BitVec 32 := Scalar.muli v174 c512_i32_95
  v188
def k0_off18 (i : grid0.Coords) (k0_t2 : Fin (k0_t2_loop i).trips) : Fin 2 → Nat :=
  let arg1 : BitVec 32 := BitVec.ofNat 32 (i 1).val
  let c2_i32 : BitVec 32 := 2#32
  let v133 : BitVec 32 := Scalar.addi arg1 c2_i32
  let c2_i32_88 : BitVec 32 := 2#32
  let c0_i32_75 : BitVec 32 := 0#32
  let c8_i32 : BitVec 32 := 8#32
  let v134 : BitVec 32 := Scalar.subi c8_i32 v133
  let c0_i32_68 : BitVec 32 := 0#32
  let v136 : BitVec 1 := Scalar.cmpi .sgt v134 c0_i32_68
  let v137 : BitVec 32 := Scalar.extui v136
  let c0_i32_69 : BitVec 32 := 0#32
  let v138 : BitVec 1 := Scalar.cmpi .slt v134 c0_i32_69
  let v139 : BitVec 32 := Scalar.extui v138
  let v140 : BitVec 32 := Scalar.subi v137 v139
  let c2_i32_67 : BitVec 32 := 2#32
  let c0_i32_70 : BitVec 32 := 0#32
  let v141 : BitVec 1 := Scalar.cmpi .sgt c2_i32_67 c0_i32_70
  let v142 : BitVec 32 := Scalar.extui v141
  let c0_i32_71 : BitVec 32 := 0#32
  let v143 : BitVec 1 := Scalar.cmpi .slt c2_i32_67 c0_i32_71
  let v144 : BitVec 32 := Scalar.extui v143
  let v145 : BitVec 32 := Scalar.subi v142 v144
  let v146 : BitVec 1 := Scalar.cmpi .ne v140 v145
  let v147 : BitVec 32 := Scalar.remsi v134 c2_i32_67
  let c0_i32_72 : BitVec 32 := 0#32
  let v148 : BitVec 1 := Scalar.cmpi .ne v147 c0_i32_72
  let v149 : BitVec 1 := Scalar.andi v146 v148
  let v135 : BitVec 32 := Scalar.divsi v134 c2_i32_67
  let c1_i32_73 : BitVec 32 := 1#32
  let v150 : BitVec 32 := Scalar.subi v135 c1_i32_73
  let v151 : BitVec 32 := Scalar.select v149 v150 v135
  let v152 : BitVec 32 := Scalar.subi v151 c0_i32_75
  let c1_i32_76 : BitVec 32 := 1#32
  let v154 : BitVec 32 := Scalar.divsi v152 c1_i32_76
  let v155 : BitVec 32 := Scalar.muli v154 c1_i32_76
  let v156 : BitVec 32 := Scalar.addi c0_i32_75 v155
  let c1_i32_78 : BitVec 32 := 1#32
  let arg13 : BitVec 32 := Scf.iv v156 c1_i32_78 k0_t2
  let v172 : BitVec 32 := Scalar.muli c2_i32_88 arg13
  let v173 : BitVec 32 := Scalar.addi v133 v172
  let c1_i32_89 : BitVec 32 := 1#32
  let v174 : BitVec 32 := Scalar.addi v173 c1_i32_89
  let c512_i32_95 : BitVec 32 := 512#32
  let v188 : BitVec 32 := Scalar.muli v174 c512_i32_95
  let v189 : BitVec 32 := v188
  let v190 : Index := Scalar.indexCast v189
  let c0_96 : Index := 0#32
  ![v190.toNat, 0]
def k0_off19 (i : grid0.Coords) (k0_t2 : Fin (k0_t2_loop i).trips) : Fin 2 → Nat :=
  let arg1 : BitVec 32 := BitVec.ofNat 32 (i 1).val
  let c2_i32 : BitVec 32 := 2#32
  let v133 : BitVec 32 := Scalar.addi arg1 c2_i32
  let c2_i32_88 : BitVec 32 := 2#32
  let c0_i32_75 : BitVec 32 := 0#32
  let c8_i32 : BitVec 32 := 8#32
  let v134 : BitVec 32 := Scalar.subi c8_i32 v133
  let c0_i32_68 : BitVec 32 := 0#32
  let v136 : BitVec 1 := Scalar.cmpi .sgt v134 c0_i32_68
  let v137 : BitVec 32 := Scalar.extui v136
  let c0_i32_69 : BitVec 32 := 0#32
  let v138 : BitVec 1 := Scalar.cmpi .slt v134 c0_i32_69
  let v139 : BitVec 32 := Scalar.extui v138
  let v140 : BitVec 32 := Scalar.subi v137 v139
  let c2_i32_67 : BitVec 32 := 2#32
  let c0_i32_70 : BitVec 32 := 0#32
  let v141 : BitVec 1 := Scalar.cmpi .sgt c2_i32_67 c0_i32_70
  let v142 : BitVec 32 := Scalar.extui v141
  let c0_i32_71 : BitVec 32 := 0#32
  let v143 : BitVec 1 := Scalar.cmpi .slt c2_i32_67 c0_i32_71
  let v144 : BitVec 32 := Scalar.extui v143
  let v145 : BitVec 32 := Scalar.subi v142 v144
  let v146 : BitVec 1 := Scalar.cmpi .ne v140 v145
  let v147 : BitVec 32 := Scalar.remsi v134 c2_i32_67
  let c0_i32_72 : BitVec 32 := 0#32
  let v148 : BitVec 1 := Scalar.cmpi .ne v147 c0_i32_72
  let v149 : BitVec 1 := Scalar.andi v146 v148
  let v135 : BitVec 32 := Scalar.divsi v134 c2_i32_67
  let c1_i32_73 : BitVec 32 := 1#32
  let v150 : BitVec 32 := Scalar.subi v135 c1_i32_73
  let v151 : BitVec 32 := Scalar.select v149 v150 v135
  let v152 : BitVec 32 := Scalar.subi v151 c0_i32_75
  let c1_i32_76 : BitVec 32 := 1#32
  let v154 : BitVec 32 := Scalar.divsi v152 c1_i32_76
  let v155 : BitVec 32 := Scalar.muli v154 c1_i32_76
  let v156 : BitVec 32 := Scalar.addi c0_i32_75 v155
  let c1_i32_78 : BitVec 32 := 1#32
  let arg13 : BitVec 32 := Scf.iv v156 c1_i32_78 k0_t2
  let v172 : BitVec 32 := Scalar.muli c2_i32_88 arg13
  let v173 : BitVec 32 := Scalar.addi v133 v172
  let c1_i32_89 : BitVec 32 := 1#32
  let v174 : BitVec 32 := Scalar.addi v173 c1_i32_89
  let c512_i32_95 : BitVec 32 := 512#32
  let v188 : BitVec 32 := Scalar.muli v174 c512_i32_95
  let v189 : BitVec 32 := v188
  let v193 : Index := Scalar.indexCast v189
  let c0_97 : Index := 0#32
  ![v193.toNat, 0]
def k0_off20 (i : grid0.Coords) (k0_t2 : Fin (k0_t2_loop i).trips) : Fin 3 → Nat :=
  let c0_100 : Index := 0#32
  let c0_101 : Index := 0#32
  let arg1 : BitVec 32 := BitVec.ofNat 32 (i 1).val
  let c2_i32 : BitVec 32 := 2#32
  let v133 : BitVec 32 := Scalar.addi arg1 c2_i32
  let c2_i32_87 : BitVec 32 := 2#32
  let c0_i32_75 : BitVec 32 := 0#32
  let c8_i32 : BitVec 32 := 8#32
  let v134 : BitVec 32 := Scalar.subi c8_i32 v133
  let c0_i32_68 : BitVec 32 := 0#32
  let v136 : BitVec 1 := Scalar.cmpi .sgt v134 c0_i32_68
  let v137 : BitVec 32 := Scalar.extui v136
  let c0_i32_69 : BitVec 32 := 0#32
  let v138 : BitVec 1 := Scalar.cmpi .slt v134 c0_i32_69
  let v139 : BitVec 32 := Scalar.extui v138
  let v140 : BitVec 32 := Scalar.subi v137 v139
  let c2_i32_67 : BitVec 32 := 2#32
  let c0_i32_70 : BitVec 32 := 0#32
  let v141 : BitVec 1 := Scalar.cmpi .sgt c2_i32_67 c0_i32_70
  let v142 : BitVec 32 := Scalar.extui v141
  let c0_i32_71 : BitVec 32 := 0#32
  let v143 : BitVec 1 := Scalar.cmpi .slt c2_i32_67 c0_i32_71
  let v144 : BitVec 32 := Scalar.extui v143
  let v145 : BitVec 32 := Scalar.subi v142 v144
  let v146 : BitVec 1 := Scalar.cmpi .ne v140 v145
  let v147 : BitVec 32 := Scalar.remsi v134 c2_i32_67
  let c0_i32_72 : BitVec 32 := 0#32
  let v148 : BitVec 1 := Scalar.cmpi .ne v147 c0_i32_72
  let v149 : BitVec 1 := Scalar.andi v146 v148
  let v135 : BitVec 32 := Scalar.divsi v134 c2_i32_67
  let c1_i32_73 : BitVec 32 := 1#32
  let v150 : BitVec 32 := Scalar.subi v135 c1_i32_73
  let v151 : BitVec 32 := Scalar.select v149 v150 v135
  let v152 : BitVec 32 := Scalar.subi v151 c0_i32_75
  let c1_i32_76 : BitVec 32 := 1#32
  let v154 : BitVec 32 := Scalar.divsi v152 c1_i32_76
  let v155 : BitVec 32 := Scalar.muli v154 c1_i32_76
  let v156 : BitVec 32 := Scalar.addi c0_i32_75 v155
  let c1_i32_78 : BitVec 32 := 1#32
  let arg13 : BitVec 32 := Scf.iv v156 c1_i32_78 k0_t2
  let v170 : BitVec 32 := Scalar.muli c2_i32_87 arg13
  let v171 : BitVec 32 := Scalar.addi v133 v170
  let c512_i32_90 : BitVec 32 := 512#32
  let v175 : BitVec 32 := Scalar.muli v171 c512_i32_90
  let v176 : BitVec 32 := v175
  let v201 : Index := Scalar.indexCast v176
  ![0, 0, v201.toNat]
def k0_off21 (i : grid0.Coords) (k0_t2 : Fin (k0_t2_loop i).trips) : Fin 3 → Nat :=
  let c0_118 : Index := 0#32
  let c0_119 : Index := 0#32
  let arg1 : BitVec 32 := BitVec.ofNat 32 (i 1).val
  let c2_i32 : BitVec 32 := 2#32
  let v133 : BitVec 32 := Scalar.addi arg1 c2_i32
  let c2_i32_88 : BitVec 32 := 2#32
  let c0_i32_75 : BitVec 32 := 0#32
  let c8_i32 : BitVec 32 := 8#32
  let v134 : BitVec 32 := Scalar.subi c8_i32 v133
  let c0_i32_68 : BitVec 32 := 0#32
  let v136 : BitVec 1 := Scalar.cmpi .sgt v134 c0_i32_68
  let v137 : BitVec 32 := Scalar.extui v136
  let c0_i32_69 : BitVec 32 := 0#32
  let v138 : BitVec 1 := Scalar.cmpi .slt v134 c0_i32_69
  let v139 : BitVec 32 := Scalar.extui v138
  let v140 : BitVec 32 := Scalar.subi v137 v139
  let c2_i32_67 : BitVec 32 := 2#32
  let c0_i32_70 : BitVec 32 := 0#32
  let v141 : BitVec 1 := Scalar.cmpi .sgt c2_i32_67 c0_i32_70
  let v142 : BitVec 32 := Scalar.extui v141
  let c0_i32_71 : BitVec 32 := 0#32
  let v143 : BitVec 1 := Scalar.cmpi .slt c2_i32_67 c0_i32_71
  let v144 : BitVec 32 := Scalar.extui v143
  let v145 : BitVec 32 := Scalar.subi v142 v144
  let v146 : BitVec 1 := Scalar.cmpi .ne v140 v145
  let v147 : BitVec 32 := Scalar.remsi v134 c2_i32_67
  let c0_i32_72 : BitVec 32 := 0#32
  let v148 : BitVec 1 := Scalar.cmpi .ne v147 c0_i32_72
  let v149 : BitVec 1 := Scalar.andi v146 v148
  let v135 : BitVec 32 := Scalar.divsi v134 c2_i32_67
  let c1_i32_73 : BitVec 32 := 1#32
  let v150 : BitVec 32 := Scalar.subi v135 c1_i32_73
  let v151 : BitVec 32 := Scalar.select v149 v150 v135
  let v152 : BitVec 32 := Scalar.subi v151 c0_i32_75
  let c1_i32_76 : BitVec 32 := 1#32
  let v154 : BitVec 32 := Scalar.divsi v152 c1_i32_76
  let v155 : BitVec 32 := Scalar.muli v154 c1_i32_76
  let v156 : BitVec 32 := Scalar.addi c0_i32_75 v155
  let c1_i32_78 : BitVec 32 := 1#32
  let arg13 : BitVec 32 := Scf.iv v156 c1_i32_78 k0_t2
  let v172 : BitVec 32 := Scalar.muli c2_i32_88 arg13
  let v173 : BitVec 32 := Scalar.addi v133 v172
  let c1_i32_89 : BitVec 32 := 1#32
  let v174 : BitVec 32 := Scalar.addi v173 c1_i32_89
  let c512_i32_95 : BitVec 32 := 512#32
  let v188 : BitVec 32 := Scalar.muli v174 c512_i32_95
  let v189 : BitVec 32 := v188
  let v236 : Index := Scalar.indexCast v189
  ![0, 0, v236.toNat]
def k0_cond4 (i : grid0.Coords) : BitVec 1 :=
  let c8_i32 : BitVec 32 := 8#32
  let arg1 : BitVec 32 := BitVec.ofNat 32 (i 1).val
  let c2_i32 : BitVec 32 := 2#32
  let v133 : BitVec 32 := Scalar.addi arg1 c2_i32
  let v134 : BitVec 32 := Scalar.subi c8_i32 v133
  let c2_i32_79 : BitVec 32 := 2#32
  let c0_i32_80 : BitVec 32 := 0#32
  let v157 : BitVec 1 := Scalar.cmpi .eq c2_i32_79 c0_i32_80
  let c1_i32_81 : BitVec 32 := 1#32
  let v158 : BitVec 32 := Scalar.select v157 c1_i32_81 c2_i32_79
  let v159 : BitVec 32 := Scalar.remsi v134 v158
  let c0_i32_83 : BitVec 32 := 0#32
  let v161 : BitVec 1 := Scalar.cmpi .slt v159 c0_i32_83
  let c0_i32_84 : BitVec 32 := 0#32
  let v162 : BitVec 1 := Scalar.cmpi .slt v158 c0_i32_84
  let v163 : BitVec 1 := Scalar.xori v161 v162
  let c0_i32_82 : BitVec 32 := 0#32
  let v160 : BitVec 1 := Scalar.cmpi .ne v159 c0_i32_82
  let v164 : BitVec 1 := Scalar.andi v163 v160
  let v165 : BitVec 32 := Scalar.addi v159 v158
  let v166 : BitVec 32 := Scalar.select v164 v165 v159
  let c1_i32_85 : BitVec 32 := 1#32
  let v167 : BitVec 1 := Scalar.cmpi .eq v166 c1_i32_85
  let v168 : BitVec 32 := Scalar.extui v167
  let c0_i32_86 : BitVec 32 := 0#32
  let v169 : BitVec 1 := Scalar.cmpi .ne v168 c0_i32_86
  v169

def k0_mult8 : BitVec 32 :=
  let c3584_i32 : BitVec 32 := 3584#32
  c3584_i32
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FlashKernelIdeal.lean ====
variable {F : FTy → Type} [FloatOps F] [Named F]
def κ : String → Option EReal := fun
  | "inv_log2_scale" => some (((4843165 / 67108864)⁻¹ * (Real.log 2) : ℝ) : EReal)
  | _ => none
-- ==== FlashReferenceIdeal.lean ====
abbrev S4096x8x192 : Shape := ⟨3, ![4096, 8, 192]⟩
abbrev S4096x8x256 : Shape := ⟨3, ![4096, 8, 256]⟩
abbrev S4096x64 : Shape := ⟨2, ![4096, 64]⟩
abbrev S4096x8x128 : Shape := ⟨3, ![4096, 8, 128]⟩
abbrev S4096x1x64 : Shape := ⟨3, ![4096, 1, 64]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x4096x64 : Shape := ⟨3, ![8, 4096, 64]⟩
abbrev S8x4096x128 : Shape := ⟨3, ![8, 4096, 128]⟩
abbrev S4096x2048 : Shape := ⟨2, ![4096, 2048]⟩
abbrev S4096x1024 : Shape := ⟨2, ![4096, 1024]⟩

abbrev nBuf : Space → Nat
  | .hbm => 114
  | .vmem => 0
  | .smem => 0
  | _ => 0

abbrev bufTy : (tb : Table) → Fin (tcTables nBuf tb) → BufTy
  | .hbm, ⟨0, _⟩ => ⟨S4096x8x192, .f32⟩
  | .hbm, ⟨1, _⟩ => ⟨S4096x8x256, .f32⟩
  | .hbm, ⟨2, _⟩ => ⟨S4096x64, .f32⟩
  | .hbm, ⟨3, _⟩ => ⟨S4096x8x128, .f32⟩
  | .hbm, ⟨4, _⟩ => ⟨S4096x1x64, .f32⟩
  | .hbm, ⟨5, _⟩ => ⟨S4096x8x64, .f32⟩
  | .hbm, ⟨6, _⟩ => ⟨S4096x8x128, .f32⟩
  | .hbm, ⟨7, _⟩ => ⟨S4096x8x64, .f32⟩
  | .hbm, ⟨8, _⟩ => ⟨S4096x8x128, .f32⟩
  | .hbm, ⟨9, _⟩ => ⟨S4096x8x128, .f32⟩
  | .hbm, ⟨10, _⟩ => ⟨S8x4096x4096, .f32⟩
  | .hbm, ⟨11, _⟩ => ⟨S8x4096x4096, .f32⟩
  | .hbm, ⟨12, _⟩ => ⟨S8x4096x4096, .f32⟩
  | .hbm, ⟨13, _⟩ => ⟨S_, .f32⟩
  | .hbm, ⟨14, _⟩ => ⟨S8x4096x4096, .f32⟩
  | .hbm, ⟨15, _⟩ => ⟨S8x4096x4096, .f32⟩
  | .hbm, ⟨16, _⟩ => ⟨S4096, .i32⟩
  | .hbm, ⟨17, _⟩ => ⟨S1x4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S1x4096x4096, .i1⟩
  | .hbm, ⟨23, _⟩ => ⟨S_, .f32⟩
  | .hbm, ⟨24, _⟩ => ⟨S_, .f32⟩
  | .hbm, ⟨25, _⟩ => ⟨S8x4096x4096, .i1⟩
  | .hbm, ⟨26, _⟩ => ⟨S8x4096x4096, .f32⟩
  | .hbm, ⟨27, _⟩ => ⟨S8x4096x4096, .f32⟩
  | .hbm, ⟨28, _⟩ => ⟨S_, .f32⟩
  | .hbm, ⟨29, _⟩ => ⟨S8x4096x4096, .f32⟩
  | .hbm, ⟨30, _⟩ => ⟨S_, .f32⟩
  | .hbm, ⟨31, _⟩ => ⟨S8x4096, .f32⟩
  | .hbm, ⟨32, _⟩ => ⟨S8x4096x1, .f32⟩
  | .hbm, ⟨33, _⟩ => ⟨S8x4096x4096, .f32⟩
  | .hbm, ⟨34, _⟩ => ⟨S8x4096x4096, .i1⟩
  | .hbm, ⟨35, _⟩ => ⟨S8x4096x4096, .f32⟩
  | .hbm, ⟨36, _⟩ => ⟨S_, .f32⟩
  | .hbm, ⟨37, _⟩ => ⟨S8x4096, .f32⟩
  | .hbm, ⟨38, _⟩ => ⟨S_, .f32⟩
  | .hbm, ⟨39, _⟩ => ⟨S8x4096, .f32⟩
  | .hbm, ⟨40, _⟩ => ⟨S8x4096, .f32⟩
  | .hbm, ⟨41, _⟩ => ⟨S_, .f32⟩
  | .hbm, ⟨42, _⟩ => ⟨S8x4096, .f32⟩
  | .hbm, ⟨43, _⟩ => ⟨S8x4096, .i1⟩
  | .hbm, ⟨44, _⟩ => ⟨S_, .f32⟩
  | .hbm, ⟨45, _⟩ => ⟨S8x4096, .f32⟩
  | .hbm, ⟨46, _⟩ => ⟨S8x4096, .i1⟩
  | .hbm, ⟨47, _⟩ => ⟨S_, .f32⟩
  | .hbm, ⟨48, _⟩ => ⟨S8x4096, .f32⟩
  | .hbm, ⟨49, _⟩ => ⟨S_, .f32⟩
  | .hbm, ⟨50, _⟩ => ⟨S8x4096, .f32⟩
  | .hbm, ⟨51, _⟩ => ⟨S_, .f32⟩
  | .hbm, ⟨52, _⟩ => ⟨S8x4096, .f32⟩
  | .hbm, ⟨53, _⟩ => ⟨S8x4096, .f32⟩
  | .hbm, ⟨54, _⟩ => ⟨S8x4096, .f32⟩
  | .hbm, ⟨55, _⟩ => ⟨S8x4096x1, .f32⟩
  | .hbm, ⟨56, _⟩ => ⟨S8x4096x4096, .f32⟩
  | .hbm, ⟨57, _⟩ => ⟨S8x4096x4096, .f32⟩
  | .hbm, ⟨58, _⟩ => ⟨S8x4096x4096, .f32⟩
  | .hbm, ⟨59, _⟩ => ⟨S_, .f32⟩
  | .hbm, ⟨60, _⟩ => ⟨S8x4096, .f32⟩
  | .hbm, ⟨61, _⟩ => ⟨S8x4096x1, .f32⟩
  | .hbm, ⟨62, _⟩ => ⟨S8x4096x4096, .f32⟩
  | .hbm, ⟨63, _⟩ => ⟨S8x4096x4096, .f32⟩
  | .hbm, ⟨64, _⟩ => ⟨S8x4096x1, .f32⟩
  | .hbm, ⟨65, _⟩ => ⟨S_, .f32⟩
  | .hbm, ⟨66, _⟩ => ⟨S8x4096x1, .f32⟩
  | .hbm, ⟨67, _⟩ => ⟨S8x4096x1, .f32⟩
  | .hbm, ⟨68, _⟩ => ⟨S8x128x4096, .f32⟩
  | .hbm, ⟨69, _⟩ => ⟨S4096x8x128, .f32⟩
  | .hbm, ⟨70, _⟩ => ⟨S8x128x4096, .f32⟩
  | .hbm, ⟨71, _⟩ => ⟨S8x4096x4096, .f32⟩
  | .hbm, ⟨72, _⟩ => ⟨S8x128x4096, .f32⟩
  | .hbm, ⟨73, _⟩ => ⟨S4096x8x128, .f32⟩
  | .hbm, ⟨74, _⟩ => ⟨S8x4096x4096, .f32⟩
  | .hbm, ⟨75, _⟩ => ⟨S8x4096x4096, .f32⟩
  | .hbm, ⟨76, _⟩ => ⟨S8x4096x4096, .f32⟩
  | .hbm, ⟨77, _⟩ => ⟨S_, .f32⟩
  | .hbm, ⟨78, _⟩ => ⟨S8x4096, .f32⟩
  | .hbm, ⟨79, _⟩ => ⟨S8x4096x1, .f32⟩
  | .hbm, ⟨80, _⟩ => ⟨S8x4096x1, .f32⟩
  | .hbm, ⟨81, _⟩ => ⟨S8x4096x4096, .f32⟩
  | .hbm, ⟨82, _⟩ => ⟨S8x4096x4096, .f32⟩
  | .hbm, ⟨83, _⟩ => ⟨S_, .f32⟩
  | .hbm, ⟨84, _⟩ => ⟨S8x4096, .f32⟩
  | .hbm, ⟨85, _⟩ => ⟨S8x4096x4096, .f32⟩
  | .hbm, ⟨86, _⟩ => ⟨S8x4096x4096, .f32⟩
  | .hbm, ⟨87, _⟩ => ⟨S8x4096x4096, .f32⟩
  | .hbm, ⟨88, _⟩ => ⟨S_, .f32⟩
  | .hbm, ⟨89, _⟩ => ⟨S8x4096x4096, .f32⟩
  | .hbm, ⟨90, _⟩ => ⟨S8x4096x4096, .f32⟩
  | .hbm, ⟨91, _⟩ => ⟨S_, .f32⟩
  | .hbm, ⟨92, _⟩ => ⟨S8x4096x4096, .f32⟩
  | .hbm, ⟨93, _⟩ => ⟨S8x4096x4096, .f32⟩
  | .hbm, ⟨94, _⟩ => ⟨S8x4096x64, .f32⟩
  | .hbm, ⟨95, _⟩ => ⟨S4096x8x64, .f32⟩
  | .hbm, ⟨96, _⟩ => ⟨S8x4096x64, .f32⟩
  | .hbm, ⟨97, _⟩ => ⟨S4096x8x64, .f32⟩
  | .hbm, ⟨98, _⟩ => ⟨S8x4096x128, .f32⟩
  | .hbm, ⟨99, _⟩ => ⟨S4096x8x128, .f32⟩
  | .hbm, ⟨100, _⟩ => ⟨S8x4096x128, .f32⟩
  | .hbm, ⟨101, _⟩ => ⟨S4096x8x128, .f32⟩
  | .hbm, ⟨102, _⟩ => ⟨S4096x8x256, .f32⟩
  | .hbm, ⟨103, _⟩ => ⟨S4096x8x192, .f32⟩
  | .hbm, ⟨104, _⟩ => ⟨S_, .i32⟩
  | .hbm, ⟨105, _⟩ => ⟨S_, .f32⟩
  | .hbm, ⟨106, _⟩ => ⟨S4096x8x256, .f32⟩
  | .hbm, ⟨107, _⟩ => ⟨S_, .i32⟩
  | .hbm, ⟨108, _⟩ => ⟨S_, .f32⟩
  | .hbm, ⟨109, _⟩ => ⟨S4096x8x128, .f32⟩
  | .hbm, ⟨110, _⟩ => ⟨S4096x2048, .f32⟩
  | .hbm, ⟨111, _⟩ => ⟨S4096x2048, .f32⟩
  | .hbm, ⟨112, _⟩ => ⟨S4096x2048, .bf16⟩
  | .hbm, ⟨113, _⟩ => ⟨S4096x1024, .f32⟩
  | _, _ => ⟨S4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_call0_v0 : Ref sig .tc := ⟨.hbm, 24, rfl⟩
abbrev main_v18_1 : Ref sig .tc := ⟨.hbm, 25, rfl⟩
abbrev main_call0_v2 : Ref sig .tc := ⟨.hbm, 26, rfl⟩
abbrev main_v18_0 : Ref sig .tc := ⟨.hbm, 27, rfl⟩
abbrev main_call0_cst : Ref sig .tc := ⟨.hbm, 28, rfl⟩
abbrev main_v18_2 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_call1_cst : Ref sig .tc := ⟨.hbm, 88, rfl⟩
abbrev main_call1_v0 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_c : Ref sig .tc := ⟨.hbm, 104, rfl⟩
abbrev main_call2_v0 : Ref sig .tc := ⟨.hbm, 105, rfl⟩
abbrev main_v78 : Ref sig .tc := ⟨.hbm, 106, rfl⟩
abbrev main_c_14 : Ref sig .tc := ⟨.hbm, 107, rfl⟩
abbrev main_call3_v0 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩

abbrev nD : Nat := 1
abbrev τ : Topo := Topo.v7x

variable {F : FTy → Type} [FloatOps F]
-- ==== LossKernel.lean ====
abbrev S4096x1024 : Shape := ⟨2, ![4096, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S1x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v50 : BitVec 1 := Scalar.cmpi .eq arg0 c0_i32
  let v51 : BitVec 32 := Scalar.extui v50
  let c0_i32_19 : BitVec 32 := 0#32
  let v52 : BitVec 1 := Scalar.cmpi .ne v51 c0_i32_19
  v52

def k0_cond2 (i : grid0.Coords) : BitVec 1 :=
  let arg0 : BitVec 32 := BitVec.ofNat 32 (i 0).val
  let c0_i32 : BitVec 32 := 0#32
  let v50 : BitVec 1 := Scalar.cmpi .eq arg0 c0_i32
  let v_true : BitVec 1 := 1#1
  let v53 : BitVec 1 := Scalar.xori v50 v_true
  let v54 : BitVec 32 := Scalar.extui v53
  let c0_i32_20 : BitVec 32 := 0#32
  let v55 : BitVec 1 := Scalar.cmpi .ne v54 c0_i32_20
  v55

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossReferenceIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 94
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S4096x1, .f32⟩
  | .hbm, ⟨82, _⟩ => ⟨S4096x1024, .f32⟩
  | .hbm, ⟨83, _⟩ => ⟨S4096x1024, .f32⟩
  | .hbm, ⟨84, _⟩ => ⟨S1x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S_, .f32⟩
  | .hbm, ⟨90, _⟩ => ⟨S1024, .f32⟩
  | .hbm, ⟨91, _⟩ => ⟨S4096x1024, .bf16⟩
  | .hbm, ⟨92, _⟩ => ⟨S1x1024, .f32⟩
  | .hbm, ⟨93, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_16 : Ref sig .tc := ⟨.hbm, 72, rfl⟩
abbrev main_v52 : Ref sig .tc := ⟨.hbm, 73, rfl⟩
abbrev main_v53 : Ref sig .tc := ⟨.hbm, 74, rfl⟩
abbrev main_cst_17 : Ref sig .tc := ⟨.hbm, 75, rfl⟩
abbrev main_v54 : Ref sig .tc := ⟨.hbm, 76, rfl⟩
abbrev main_v55 : Ref sig .tc := ⟨.hbm, 77, rfl⟩
abbrev main_cst_18 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_19 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩

abbrev nD : Nat := 1
abbrev τ : Topo := Topo.v7x

variable {F : FTy → Type} [FloatOps F]
-- ==== FfnUpKernel.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S1024x4x1024 : Shape := ⟨3, ![1024, 4, 1024]⟩
abbrev S4x1024x1024 : Shape := ⟨3, ![4, 1024, 1024]⟩
abbrev S1x1024 : Shape := ⟨2, ![1, 1024]⟩
abbrev S256x4096 : Shape := ⟨2, ![256, 4096]⟩
abbrev S1x1024x1024 : Shape := ⟨3, ![1, 1024, 1024]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 13
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x4096, .f32⟩
  | .hbm, ⟨4, _⟩ => ⟨S4096x1024, .f32⟩
  | .hbm, ⟨5, _⟩ => ⟨S1024x4x1024, .f32⟩
  | .hbm, ⟨6, _⟩ => ⟨S4x1024x1024, .f32⟩
  | .hbm, ⟨7, _⟩ => ⟨S4x1024x1024, .bf16⟩
  | .hbm, ⟨8, _⟩ => ⟨S4096x4096, .bf16⟩
  | .hbm, ⟨9, _⟩ => ⟨S1x1024, .f32⟩
  | .hbm, ⟨10, _⟩ => ⟨S4096x1024, .f32⟩
  | .hbm, ⟨11, _⟩ => ⟨S4096x1024, .bf16⟩
  | .hbm, ⟨12, _⟩ => ⟨S1x1024, .f32⟩
  | .local _ .vmem, ⟨0, _⟩ => ⟨S256x4096, .bf16⟩
  | .local _ .vmem, ⟨1, _⟩ => ⟨S256x4096, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v57 : BitVec 1 := Scalar.cmpi .eq arg0 c0_i32
  let v58 : BitVec 32 := Scalar.extui v57
  let c0_i32_35 : BitVec 32 := 0#32
  let v59 : BitVec 1 := Scalar.cmpi .ne v58 c0_i32_35
  v59

def k0_cond2 (i : grid0.Coords) : BitVec 1 :=
  let arg0 : BitVec 32 := BitVec.ofNat 32 (i 0).val
  let c0_i32 : BitVec 32 := 0#32
  let v57 : BitVec 1 := Scalar.cmpi .eq arg0 c0_i32
  let v_true : BitVec 1 := 1#1
  let v60 : BitVec 1 := Scalar.xori v57 v_true
  let v61 : BitVec 32 := Scalar.extui v60
  let c0_i32_36 : BitVec 32 := 0#32
  let v62 : BitVec 1 := Scalar.cmpi .ne v61 c0_i32_36
  v62

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]
-- ==== FfnUpReferenceIdeal.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x4096, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== SguKernel.lean ====
abbrev S4096x4096 : Shape := ⟨2, ![4096, 4096]⟩
abbrev S2048 : Shape := ⟨1, ![2048]⟩
abbrev S8x128x128 : Shape := ⟨3, ![8, 128, 128]⟩
abbrev S8x128 : Shape := ⟨2, ![8, 128]⟩
abbrev S4096x2048 : Shape := ⟨2, ![4096, 2048]⟩
abbrev S128x8 : Shape := ⟨2, ![128, 8]⟩
abbrev S128x8x256 : Shape := ⟨3, ![128, 8, 256]⟩
abbrev S128x2048 : Shape := ⟨2, ![128, 2048]⟩
abbrev S1x2048 : Shape := ⟨2, ![1, 2048]⟩
abbrev S128x1024 : Shape := ⟨2, ![128, 1024]⟩
abbrev S128x4096 : Shape := ⟨2, ![128, 4096]⟩
abbrev S128x256 : Shape := ⟨2, ![128, 256]⟩
abbrev S128 : Shape := ⟨1, ![128]⟩
abbrev S128x1 : Shape := ⟨2, ![128, 1]⟩
abbrev S1x256 : Shape := ⟨2, ![1, 256]⟩
abbrev S1x128x128 : Shape := ⟨3, ![1, 128, 128]⟩
abbrev S128x128 : Shape := ⟨2, ![128, 128]⟩
abbrev S256 : Shape := ⟨1, ![256]⟩

abbrev nBuf : Space → Nat
  | .hbm => 16
  | .vmem => 17
  | .smem => 0
  | _ => 0

abbrev bufTy : (tb : Table) → Fin (tcTables nBuf tb) → BufTy
  | .hbm, ⟨0, _⟩ => ⟨S4096x4096, .f32⟩
  | .hbm, ⟨1, _⟩ => ⟨S2048, .f32⟩
  | .hbm, ⟨2, _⟩ => ⟨S2048, .f32⟩
  | .hbm, ⟨3, _⟩ => ⟨S8x128x128, .f32⟩
  | .hbm, ⟨4, _⟩ => ⟨S8x128, .f32⟩
  | .hbm, ⟨5, _⟩ => ⟨S4096x2048, .f32⟩
  | .hbm, ⟨6, _⟩ => ⟨S128x8, .f32⟩
  | .hbm, ⟨7, _⟩ => ⟨S128x8x256, .f32⟩
  | .hbm, ⟨8, _⟩ => ⟨S128x2048, .f32⟩
  | .hbm, ⟨9, _⟩ => ⟨S1x2048, .f32⟩
  | .hbm, ⟨10, _⟩ => ⟨S1x2048, .f32⟩
  | .hbm, ⟨11, _⟩ => ⟨S4096x4096, .bf16⟩
  | .hbm, ⟨12, _⟩ => ⟨S1x2048, .f32⟩
  | .hbm, ⟨13, _⟩ => ⟨S1x2048, .f32⟩
  | .hbm, ⟨14, _⟩ => ⟨S8x128x128, .f32⟩
  | .hbm, ⟨15, _⟩ => ⟨S128x1024, .f32⟩
  | .local _ .vmem, ⟨0, _⟩ => ⟨S128x4096, .f32⟩
  | .local _ .vmem, ⟨1, _⟩ => ⟨S128x4096, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S1x2048, .f32⟩
  | .local _ .vmem, ⟨6, _⟩ => ⟨S8x128x128, .f32⟩
  | .local _ .vmem, ⟨7, _⟩ => ⟨S128x2048, .f32⟩
  | .local _ .vmem, ⟨8, _⟩ => ⟨S128x4096, .bf16⟩
  | .local _ .vmem, ⟨9, _⟩ => ⟨S128x4096, .bf16⟩
  | .local _ .vmem, ⟨10, _⟩ => ⟨S1x2048, .f32⟩
  | .local _ .vmem, ⟨11, _⟩ => ⟨S1x2048, .f32⟩
  | .local _ .vmem, ⟨12, _⟩ => ⟨S8x128x128, .f32⟩
  | .local _ .vmem, ⟨13, _⟩ => ⟨S128x1024, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== SguKernelIdeal.lean ====
variable {F : FTy → Type} [FloatOps F] [Named F]
def κ : String → Option EReal := fun
  | "gauss" => some (((9465531 / 16777216) * (Real.sqrt 2)⁻¹ : ℝ) : EReal)
  | "rsqrt2" => some (((Real.sqrt 2)⁻¹ : ℝ) : EReal)
  | _ => none
-- ==== SguReferenceIdeal.lean ====
abbrev S4096x4096 : Shape := ⟨2, ![4096, 4096]⟩
abbrev S2048 : Shape := ⟨1, ![2048]⟩
abbrev S8x128x128 : Shape := ⟨3, ![8, 128, 128]⟩
abbrev S8x128 : Shape := ⟨2, ![8, 128]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S32x128x8x256 : Shape := ⟨4, ![32, 128, 8, 256]⟩
abbrev S128x128 : Shape := ⟨2, ![128, 128]⟩
abbrev S8x32x256x128 : Shape := ⟨4, ![8, 32, 256, 128]⟩
abbrev S128x8 : Shape := ⟨2, ![128, 8]⟩
abbrev S1x128x8x1 : Shape := ⟨4, ![1, 128, 8, 1]⟩
abbrev S128x8x128 : Shape := ⟨3, ![128, 8, 128]⟩
abbrev S128x1024 : Shape := ⟨2, ![128, 1024]⟩

abbrev nBuf : Space → Nat
  | .hbm => 161
  | .vmem => 0
  | .smem => 0
  | _ => 0

abbrev hbmTy0_0 (i : Nat) : BufTy := match i % 128 with
  | 0 => ⟨S4096x4096, .f32⟩
  | 1 => ⟨S2048, .f32⟩
  | 2 => ⟨S2048, .f32⟩
  | 3 => ⟨S8x128x128, .f32⟩
  | 4 => ⟨S8x128, .f32⟩
  | 5 => ⟨S4096x2048, .f32⟩
  | 6 => ⟨S_, .f32⟩
  | 7 => ⟨S4096x4096, .f32⟩
  | 8 => ⟨S4096x4096, .f32⟩
  | 9 => ⟨S_, .f32⟩
  | 10 => ⟨S_, .f32⟩
  | 11 => ⟨S_, .f32⟩
  | 12 => ⟨S4096x4096, .f32⟩
  | 13 => ⟨S4096x4096, .f32⟩
  | 14 => ⟨S4096x4096, .f32⟩
  | 15 => ⟨S4096x4096, .f32⟩
  | 16 => ⟨S4096x4096, .f32⟩
  | 17 => ⟨S4096x4096, .f32⟩
  | 18 => ⟨S_, .f32⟩
  | 19 => ⟨S4096x4096, .f32⟩
  | 20 => ⟨S4096x4096, .f32⟩
  | 21 => ⟨S4096x4096, .f32⟩
  | 22 => ⟨S4096x2048, .f32⟩
  | 23 => ⟨S4096x2048, .f32⟩
  | 24 => ⟨S_, .f32⟩
  | 25 => ⟨S4096, .f32⟩
  | 26 => ⟨S4096x1, .f32⟩
  | 27 => ⟨S_, .f32⟩
  | 28 => ⟨S4096x1, .f32⟩
  | 29 => ⟨S4096x1, .f32⟩
  | 30 => ⟨S4096x2048, .f32⟩
  | 31 => ⟨S4096x2048, .f32⟩
  | 32 => ⟨S4096x2048, .f32⟩
  | 33 => ⟨S_, .f32⟩
  | 34 => ⟨S4096x2048, .f32⟩
  | 35 => ⟨S4096x2048, .f32⟩
  | 36 => ⟨S_, .f32⟩
  | 37 => ⟨S4096, .f32⟩
  | 38 => ⟨S4096x1, .f32⟩
  | 39 => ⟨S_, .f32⟩
  | 40 => ⟨S4096x1, .f32⟩
  | 41 => ⟨S4096x1, .f32⟩
  | 42 => ⟨S4096x2048, .f32⟩
  | 43 => ⟨S4096x2048, .f32⟩
  | 44 => ⟨S_, .f32⟩
  | 45 => ⟨S4096x1, .f32⟩
  | 46 => ⟨S4096x1, .f32⟩
  | 47 => ⟨S4096x1, .f32⟩
  | 48 => ⟨S4096x1, .f32⟩
  | 49 => ⟨S_, .f32⟩
  | 50 => ⟨S4096x1, .f32⟩
  | 51 => ⟨S4096x1, .f32⟩
  | 52 => ⟨S4096x2048, .f32⟩
  | 53 => ⟨S4096x2048, .f32⟩
  | 54 => ⟨S1x2048, .f32⟩
  | 55 => ⟨S4096x2048, .f32⟩
  | 56 => ⟨S4096x2048, .f32⟩
  | 57 => ⟨S1x2048, .f32⟩
  | 58 => ⟨S4096x2048, .f32⟩
  | 59 => ⟨S4096x2048, .f32⟩
  | 60 => ⟨S32x128x8x256, .f32⟩
  | 61 => ⟨S128x128, .i32⟩
  | 62 => ⟨S_, .i32⟩
  | 63 => ⟨S128x128, .i32⟩
  | 64 => ⟨S128x128, .i32⟩
  | 65 => ⟨S128x128, .i32⟩
  | 66 => ⟨S128x128, .i1⟩
  | 67 => ⟨S8x128x128, .i1⟩
  | 68 => ⟨S_, .f32⟩
  | 69 => ⟨S8x128x128, .f32⟩
  | 70 => ⟨S8x128x128, .f32⟩
  | 71 => ⟨S_, .f32⟩
  | 72 => ⟨S8x128x128, .f32⟩
  | 73 => ⟨S8x32x256x128, .f32⟩
  | 74 => ⟨S32x128x8x256, .f32⟩
  | 75 => ⟨S128x8, .f32⟩
  | 76 => ⟨S1x128x8x1, .f32⟩
  | 77 => ⟨S32x128x8x256, .f32⟩
  | 78 => ⟨S32x128x8x256, .f32⟩
  | 79 => ⟨S4096x2048, .f32⟩
  | 80 => ⟨S4096x2048, .f32⟩
  | 81 => ⟨S4096x2048, .f32⟩
  | 82 => ⟨S4096x2048, .f32⟩
  | 83 => ⟨S32x128x8x256, .f32⟩
  | 84 => ⟨S_, .f32⟩
  | 85 => ⟨S128x8, .f32⟩
  | 86 => ⟨S1x128x8x1, .f32⟩
  | 87 => ⟨S_, .f32⟩
  | 88 => ⟨S128x8, .f32⟩
  | 89 => ⟨S8x128, .f32⟩
  | 90 => ⟨S8x32x256x128, .f32⟩
  | 91 => ⟨S8x128x128, .f32⟩
  | 92 => ⟨S8x32x256x128, .f32⟩
  | 93 => ⟨S32x128x8x256, .f32⟩
  | 94 => ⟨S_, .f32⟩
  | 95 => ⟨S8x128x128, .f32⟩
  | 96 => ⟨S8x128x128, .f32⟩
  | 97 => ⟨S4096x2048, .f32⟩
  | 98 => ⟨S_, .f32⟩
  | 99 => ⟨S2048, .f32⟩
  | 100 => ⟨S1x2048, .f32⟩
  | 101 => ⟨S_, .f32⟩
  | 102 => ⟨S2048, .f32⟩
  | 103 => ⟨S4096x2048, .f32⟩
  | 104 => ⟨S_, .f32⟩
  | 105 => ⟨S2048, .f32⟩
  | 106 => ⟨S1x2048, .f32⟩
  | 107 => ⟨S4096x2048, .f32⟩
  | 108 => ⟨S4096x2048, .f32⟩
  | 109 => ⟨S_, .f32⟩
  | 110 => ⟨S2048, .f32⟩
  | 111 => ⟨S4096x2048, .f32⟩
  | 112 => ⟨S_, .f32⟩
  | 113 => ⟨S4096, .f32⟩
  | 114 => ⟨S4096x1, .f32⟩
  | 115 => ⟨S4096x2048, .f32⟩
  | 116 => ⟨S4096x2048, .f32⟩
  | 117 => ⟨S4096x1, .f32⟩
  | 118 => ⟨S4096x2048, .f32⟩
  | 119 => ⟨S_, .f32⟩
  | 120 => ⟨S4096, .f32⟩
  | 121 => ⟨S4096x1, .f32⟩
  | 122 => ⟨S_, .f32⟩
  | 123 => ⟨S4096x1, .f32⟩
  | 124 => ⟨S4096x1, .f32⟩
  | 125 => ⟨S_, .f32⟩
  | 126 => ⟨S4096, .f32⟩
  | 127 => ⟨S4096x2048, .f32⟩
  | _ => ⟨S4096x4096, .f32⟩

abbrev hbmTy0_1 (i : Nat) : BufTy := match i % 128 with
  | 0 => ⟨S4096x2048, .f32⟩
  | 1 => ⟨S4096x2048, .f32⟩
  | 2 => ⟨S_, .f32⟩
  | 3 => ⟨S4096, .f32⟩
  | 4 => ⟨S4096x1, .f32⟩
  | 5 => ⟨S4096x2048, .f32⟩
  | 6 => ⟨S4096x1, .f32⟩
  | 7 => ⟨S_, .f32⟩
  | 8 => ⟨S4096x1, .f32⟩
  | 9 => ⟨S4096x1, .f32⟩
  | 10 => ⟨S_, .f32⟩
  | 11 => ⟨S4096, .f32⟩
  | 12 => ⟨S4096x2048, .f32⟩
  | 13 => ⟨S4096x2048, .f32⟩
  | 14 => ⟨S4096x4096, .f32⟩
  | 15 => ⟨S4096x4096, .f32⟩
  | 16 => ⟨S4096x4096, .f32⟩
  | 17 => ⟨S_, .f32⟩
  | 18 => ⟨S4096x4096, .f32⟩
  | 19 => ⟨S4096x4096, .f32⟩
  | 20 => ⟨S4096x4096, .f32⟩
  | 21 => ⟨S4096x4096, .f32⟩
  | 22 => ⟨S4096x4096, .f32⟩
  | 23 => ⟨S_, .f32⟩
  | 24 => ⟨S4096x4096, .f32⟩
  | 25 => ⟨S4096x4096, .f32⟩
  | 26 => ⟨S4096x4096, .f32⟩
  | 27 => ⟨S4096x4096, .bf16⟩
  | 28 => ⟨S1x2048, .f32⟩
  | 29 => ⟨S1x2048, .f32⟩
  | 30 => ⟨S128x8, .f32⟩
  | 31 => ⟨S128x8x128, .f32⟩
  | 32 => ⟨S128x1024, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_call0_v0 : Ref sig .tc := ⟨.hbm, 61, rfl⟩
abbrev main_call0_c : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_v45_1 : Ref sig .tc := ⟨.hbm, 67, rfl⟩
abbrev main_call0_cst : Ref sig .tc := ⟨.hbm, 68, rfl⟩
abbrev main_call0_v6 : Ref sig .tc := ⟨.hbm, 69, rfl⟩
abbrev main_v45_0 : Ref sig .tc := ⟨.hbm, 70, rfl⟩
abbrev main_call0_cst_0 : Ref sig .tc := ⟨.hbm, 71, rfl⟩
abbrev main_v45_2 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_9 : Ref sig .tc := ⟨.hbm, 84, rfl⟩
abbrev main_v57 : Ref sig .tc := ⟨.hbm, 85, rfl⟩
abbrev main_v58 : Ref sig .tc := ⟨.hbm, 86, rfl⟩
abbrev main_cst_10 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call1_cst : Ref sig .tc := ⟨.hbm, 94, rfl⟩
abbrev main_call1_v0 : Ref sig .tc := ⟨.hbm, 95, rfl⟩
abbrev main_v65 : Ref sig .tc := ⟨.hbm, 96, rfl⟩
abbrev main_v66 : Ref sig .tc := ⟨.hbm, 97, rfl⟩
abbrev main_cst_11 : Ref sig .tc := ⟨.hbm, 98, rfl⟩
abbrev main_v67 : Ref sig .tc := ⟨.hbm, 99, rfl⟩
abbrev main_v68 : Ref sig .tc := ⟨.hbm, 100, rfl⟩
abbrev main_cst_12 : Ref sig .tc := ⟨.hbm, 101, rfl⟩
abbrev main_v69 : Ref sig .tc := ⟨.hbm, 102, rfl⟩
abbrev main_v70 : Ref sig .tc := ⟨.hbm, 103, rfl⟩
abbrev main_cst_13 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_14 : Ref sig .tc := ⟨.hbm, 109, rfl⟩
abbrev main_v75 : Ref sig .tc := ⟨.hbm, 110, rfl⟩
abbrev main_v76 : Ref sig .tc := ⟨.hbm, 111, rfl⟩
abbrev main_cst_15 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_16 : Ref sig .tc := ⟨.hbm, 119, rfl⟩
abbrev main_v83 : Ref sig .tc := ⟨.hbm, 120, rfl⟩
abbrev main_v84 : Ref sig .tc := ⟨.hbm, 121, rfl⟩
abbrev main_cst_17 : Ref sig .tc := ⟨.hbm, 122, rfl⟩
abbrev main_v85 : Ref sig .tc := ⟨.hbm, 123, rfl⟩
abbrev main_v86 : Ref sig .tc := ⟨.hbm, 124, rfl⟩
abbrev main_cst_18 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_19 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_20 : Ref sig .tc := ⟨.hbm, 135, rfl⟩
abbrev main_v95 : Ref sig .tc := ⟨.hbm, 136, rfl⟩
abbrev main_v96 : Ref sig .tc := ⟨.hbm, 137, rfl⟩
abbrev main_cst_21 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_22 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_23 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩

abbrev nD : Nat := 1
abbrev τ : Topo := Topo.v7x

variable {F : FTy → Type} [FloatOps F]
-- ==== MlaOKernel.lean ====
abbrev S4096x1024 : Shape := ⟨2, ![4096, 1024]⟩
abbrev S1024x1024 : Shape := ⟨2, ![1024, 1024]⟩
abbrev S4096x128 : Shape := ⟨2, ![4096, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .bf16⟩
  | .hbm, ⟨6, _⟩ => ⟨S4096x1024, .bf16⟩
  | .hbm, ⟨7, _⟩ => ⟨S4096x128, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x128, .f32⟩
  | .local _ .vmem, ⟨8, _⟩ => ⟨S512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== MlaOReferenceIdeal.lean ====
abbrev S4096x1024 : Shape := ⟨2, ![4096, 1024]⟩
abbrev S1024x1024 : Shape := ⟨2, ![1024, 1024]⟩
abbrev S4096x8x128 : Shape := ⟨3, ![4096, 8, 128]⟩
abbrev S_ : Shape := ⟨0, ![]⟩
abbrev S4096x8 : Shape := ⟨2, ![4096, 8]⟩
abbrev S4096x128 : Shape := ⟨2, ![4096, 128]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x8x128, .f32⟩
  | .hbm, ⟨7, _⟩ => ⟨S_, .f32⟩
  | .hbm, ⟨8, _⟩ => ⟨S4096x8, .f32⟩
  | .hbm, ⟨9, _⟩ => ⟨S4096x1024, .bf16⟩
  | .hbm, ⟨10, _⟩ => ⟨S_, .i32⟩
  | .hbm, ⟨11, _⟩ => ⟨S_, .f32⟩
  | .hbm, ⟨12, _⟩ => ⟨S4096x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== ProjKernel.lean ====
abbrev S4096x1024 : Shape := ⟨2, ![4096, 1024]⟩
abbrev S4096 : Shape := ⟨1, ![4096]⟩
abbrev S1024 : Shape := ⟨1, ![1024]⟩
abbrev S1024x448 : Shape := ⟨2, ![1024, 448]⟩
abbrev S256 : Shape := ⟨1, ![256]⟩
abbrev S128 : Shape := ⟨1, ![128]⟩
abbrev S256x1536 : Shape := ⟨2, ![256, 1536]⟩
abbrev S128x2048 : Shape := ⟨2, ![128, 2048]⟩
abbrev S4096x8x192 : Shape := ⟨3, ![4096, 8, 192]⟩
abbrev S4096x8x256 : Shape := ⟨3, ![4096, 8, 256]⟩
abbrev S4096x8x64 : Shape := ⟨3, ![4096, 8, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S1x1024 : Shape := ⟨2, ![1, 1024]⟩
abbrev S1x256 : Shape := ⟨2, ![1, 256]⟩
abbrev S1x128 : Shape := ⟨2, ![1, 128]⟩
abbrev S1024x512 : Shape := ⟨2, ![1024, 512]⟩
abbrev S256x8x192 : Shape := ⟨3, ![256, 8, 192]⟩
abbrev S256x8x256 : Shape := ⟨3, ![256, 8, 256]⟩
abbrev S256x2048 : Shape := ⟨2, ![256, 2048]⟩
abbrev S4096x512 : Shape := ⟨2, ![4096, 512]⟩
abbrev S4096x256 : Shape := ⟨2, ![4096, 256]⟩
abbrev S4096x2048 : Shape := ⟨2, ![4096, 2048]⟩
abbrev S4096x8x128 : Shape := ⟨3, ![4096, 8, 128]⟩
abbrev S256x1024 : Shape := ⟨2, ![256, 1024]⟩
abbrev S256x512 : Shape := ⟨2, ![256, 512]⟩
abbrev S256x256 : Shape := ⟨2, ![256, 256]⟩
abbrev S256x128 : Shape := ⟨2, ![256, 128]⟩
abbrev S256x1 : Shape := ⟨2, ![256, 1]⟩

abbrev nBuf : Space → Nat
  | .hbm => 123
  | .vmem => 40
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S1024, .f32⟩
  | .hbm, ⟨3, _⟩ => ⟨S1024x448, .f32⟩
  | .hbm, ⟨4, _⟩ => ⟨S256, .f32⟩
  | .hbm, ⟨5, _⟩ => ⟨S128, .f32⟩
  | .hbm, ⟨6, _⟩ => ⟨S256x1536, .f32⟩
  | .hbm, ⟨7, _⟩ => ⟨S128x2048, .f32⟩
  | .hbm, ⟨8, _⟩ => ⟨S4096x8x192, .f32⟩
  | .hbm, ⟨9, _⟩ => ⟨S4096x8x256, .f32⟩
  | .hbm, ⟨10, _⟩ => ⟨S4096x8x64, .f32⟩
  | .hbm, ⟨11, _⟩ => ⟨S4096x1024, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S4096, .f32⟩
  | .hbm, ⟨27, _⟩ => ⟨S4096x1, .f32⟩
  | .hbm, ⟨28, _⟩ => ⟨S1x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S4096x32, .f32⟩
  | .hbm, ⟨33, _⟩ => ⟨S4096x32, .f32⟩
  | .hbm, ⟨34, _⟩ => ⟨S_, .f32⟩
  | .hbm, ⟨35, _⟩ => ⟨S4096x32, .f32⟩
  | .hbm, ⟨36, _⟩ => ⟨S_, .f32⟩
  | .hbm, ⟨37, _⟩ => ⟨S4096x64, .f32⟩
  | .hbm, ⟨38, _⟩ => ⟨S4096x128, .f32⟩
  | .hbm, ⟨39, _⟩ => ⟨S4096x128, .f32⟩
  | .hbm, ⟨40, _⟩ => ⟨S4096x32, .f32⟩
  | .hbm, ⟨41, _⟩ => ⟨S4096x128, .f32⟩
  | .hbm, ⟨42, _⟩ => ⟨S1x1024, .f32⟩
  | .hbm, ⟨43, _⟩ => ⟨S1x256, .f32⟩
  | .hbm, ⟨44, _⟩ => ⟨S1x128, .f32⟩
  | .hbm, ⟨45, _⟩ => ⟨S_, .i32⟩
  | .hbm, ⟨46, _⟩ => ⟨S_, .f32⟩
  | .hbm, ⟨47, _⟩ => ⟨S1024x512, .f32⟩
  | .hbm, ⟨48, _⟩ => ⟨S256x8x192, .f32⟩
  | .hbm, ⟨49, _⟩ => ⟨S_, .i32⟩
  | .hbm, ⟨50, _⟩ => ⟨S_, .f32⟩
  | .hbm, ⟨51, _⟩ => ⟨S256x8x256, .f32⟩
  | .hbm, ⟨52, _⟩ => ⟨S256x2048, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .bf16⟩
  | .hbm, ⟨69, _⟩ => ⟨S1024x512, .bf16⟩
  | .hbm, ⟨70, _⟩ => ⟨S4096x512, .f32⟩
  | .hbm, ⟨71, _⟩ => ⟨S4096x256, .f32⟩
  | .hbm, ⟨72, _⟩ => ⟨S4096x256, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S_, .f32⟩
  | .hbm, ⟨77, _⟩ => ⟨S4096x1, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S4096x1, .f32⟩
  | .hbm, ⟨83, _⟩ => ⟨S4096x256, .f32⟩
  | .hbm, ⟨84, _⟩ => ⟨S4096x256, .f32⟩
  | .hbm, ⟨85, _⟩ => ⟨S4096x256, .f32⟩
  | .hbm, ⟨86, _⟩ => ⟨S4096x256, .f32⟩
  | .hbm, ⟨87, _⟩ => ⟨S4096x256, .bf16⟩
  | .hbm, ⟨88, _⟩ => ⟨S4096x128, .f32⟩
  | .hbm, ⟨89, _⟩ => ⟨S4096x128, .f32⟩
  | .hbm, ⟨90, _⟩ => ⟨S_, .f32⟩
  | .hbm, ⟨91, _⟩ => ⟨S4096, .f32⟩
  | .hbm, ⟨92, _⟩ => ⟨S4096x1, .f32⟩
  | .hbm, ⟨93, _⟩ => ⟨S_, .f32⟩
  | .hbm, ⟨94, _⟩ => ⟨S4096x1, .f32⟩
  | .hbm, ⟨95, _⟩ => ⟨S4096x1, .f32⟩
  | .hbm, ⟨96, _⟩ => ⟨S_, .f32⟩
  | .hbm, ⟨97, _⟩ => ⟨S4096x1, .f32⟩
  | .hbm, ⟨98, _⟩ => ⟨S4096x1, .f32⟩
  | .hbm, ⟨99, _⟩ => ⟨S4096x1, .f32⟩
  | .hbm, ⟨100, _⟩ => ⟨S4096x128, .f32⟩
  | .hbm, ⟨101, _⟩ => ⟨S4096x128, .f32⟩
  | .hbm, ⟨102, _⟩ => ⟨S4096x128, .f32⟩
  | .hbm, ⟨103, _⟩ => ⟨S4096x128, .f32⟩
  | .hbm, ⟨104, _⟩ => ⟨S4096x128, .bf16⟩
  | .hbm, ⟨105, _⟩ => ⟨S_, .i32⟩
  | .hbm, ⟨106, _⟩ => ⟨S_, .f32⟩
  | .hbm, ⟨107, _⟩ => ⟨S4096x8x256, .f32⟩
  | .hbm, ⟨108, _⟩ => ⟨S4096x2048, .f32⟩
  | .hbm, ⟨109, _⟩ => ⟨S_, .i32⟩
  | .hbm, ⟨110, _⟩ => ⟨S_, .f32⟩
  | .hbm, ⟨111, _⟩ => ⟨S4096x8x128, .f32⟩
  | .hbm, ⟨112, _⟩ => ⟨S4096x1024, .f32⟩
  | .hbm, ⟨113, _⟩ => ⟨S4096x2048, .f32⟩
  | .hbm, ⟨114, _⟩ => ⟨S4096x2048, .bf16⟩
  | .hbm, ⟨115, _⟩ => ⟨S4096x1024, .f32⟩
  | .hbm, ⟨116, _⟩ => ⟨S4096x1024, .bf16⟩
  | .hbm, ⟨117, _⟩ => ⟨S256x2048, .f32⟩
  | .hbm, ⟨118, _⟩ => ⟨S128x2048, .f32⟩
  | .hbm, ⟨119, _⟩ => ⟨S1024x512, .f32⟩
  | .hbm, ⟨120, _⟩ => ⟨S1x256, .f32⟩
  | .hbm, ⟨121, _⟩ => ⟨S1x128, .f32⟩
  | .hbm, ⟨122, _⟩ => ⟨S1x1024, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x1024, .f32⟩
  | .local _ .vmem, ⟨5, _⟩ => ⟨S256x1024, .f32⟩
  | .local _ .vmem, ⟨6, _⟩ => ⟨S256x512, .f32⟩
  | .local _ .vmem, ⟨7, _⟩ => ⟨S256x512, .f32⟩
  | .local _ .vmem, ⟨8, _⟩ => ⟨S256x256, .bf16⟩
  | .local _ .vmem, ⟨9, _⟩ => ⟨S256x256, .bf16⟩
  | .local _ .vmem, ⟨10, _⟩ => ⟨S256x128, .bf16⟩
  | .local _ .vmem, ⟨11, _⟩ => ⟨S256x128, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S1x1024, .f32⟩
  | .local _ .vmem, ⟨25, _⟩ => ⟨S1x256, .f32⟩
  | .local _ .vmem, ⟨26, _⟩ => ⟨S1x128, .f32⟩
  | .local _ .vmem, ⟨27, _⟩ => ⟨S256x2048, .f32⟩
  | .local _ .vmem, ⟨28, _⟩ => ⟨S128x2048, .f32⟩
  | .local _ .vmem, ⟨29, _⟩ => ⟨S1024x512, .f32⟩
  | .local _ .vmem, ⟨30, _⟩ => ⟨S256x1024, .f32⟩
  | .local _ .vmem, ⟨31, _⟩ => ⟨S256x1024, .f32⟩
  | .local _ .vmem, ⟨32, _⟩ => ⟨S256x1024, .bf16⟩
  | .local _ .vmem, ⟨33, _⟩ => ⟨S256x1024, .bf16⟩
  | .local _ .vmem, ⟨34, _⟩ => ⟨S256x2048, .f32⟩
  | .local _ .vmem, ⟨35, _⟩ => ⟨S128x2048, .f32⟩
  | .local _ .vmem, ⟨36, _⟩ => ⟨S1024x512, .f32⟩
  | .local _ .vmem, ⟨37, _⟩ => ⟨S1x256, .f32⟩
  | .local _ .vmem, ⟨38, _⟩ => ⟨S1x128, .f32⟩
  | .local _ .vmem, ⟨39, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c : Ref sig .tc := ⟨.hbm, 45, rfl⟩
abbrev main_call0_v0 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_call1_v0 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_v33 : Ref sig .tc := ⟨.hbm, 56, rfl⟩
abbrev main_cst_7 : Ref sig .tc := ⟨.hbm, 57, rfl⟩
abbrev main_v34 : Ref sig .tc := ⟨.hbm, 58, rfl⟩
abbrev main_v35 : Ref sig .tc := ⟨.hbm, 59, rfl⟩
abbrev main_cst_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_cst_11 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_12 : Ref sig .tc := ⟨.hbm, 90, rfl⟩
abbrev main_v62 : Ref sig .tc := ⟨.hbm, 91, rfl⟩
abbrev main_v63 : Ref sig .tc := ⟨.hbm, 92, rfl⟩
abbrev main_cst_13 : Ref sig .tc := ⟨.hbm, 93, rfl⟩
abbrev main_v64 : Ref sig .tc := ⟨.hbm, 94, rfl⟩
abbrev main_v65 : Ref sig .tc := ⟨.hbm, 95, rfl⟩
abbrev main_cst_14 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_15 : Ref sig .tc := ⟨.hbm, 105, rfl⟩
abbrev main_call2_v0 : Ref sig .tc := ⟨.hbm, 106, rfl⟩
abbrev main_v74 : Ref sig .tc := ⟨.hbm, 107, rfl⟩
abbrev main_v75 : Ref sig .tc := ⟨.hbm, 108, rfl⟩
abbrev main_c_16 : Ref sig .tc := ⟨.hbm, 109, rfl⟩
abbrev main_call3_v0 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80_0 : Ref sig .tc := ⟨.hbm, 115, rfl⟩
abbrev main_v80_1 : Ref sig .tc := ⟨.hbm, 116, rfl⟩
abbrev main_v80_2 : Ref sig .tc := ⟨.hbm, 117, rfl⟩
abbrev main_v80_3 : Ref sig .tc := ⟨.hbm, 118, rfl⟩
abbrev main_v80_4 : Ref sig .tc := ⟨.hbm, 119, rfl⟩
abbrev main_v80_5 : Ref sig .tc := ⟨.hbm, 120, rfl⟩
abbrev main_v80_6 : Ref sig .tc := ⟨.hbm, 121, rfl⟩
abbrev main_v80_7 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg21_0 : Ref sig .tc := ⟨.vmem, 35, rfl⟩
abbrev cc0_stg22_0 : Ref sig .tc := ⟨.vmem, 36, rfl⟩
abbrev cc0_stg23_0 : Ref sig .tc := ⟨.vmem, 37, rfl⟩
abbrev cc0_stg24_0 : Ref sig .tc := ⟨.vmem, 38, rfl⟩
abbrev cc0_stg25_0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem21_0 : DmaSem sig := 35
abbrev cc0_sem22_0 : DmaSem sig := 36
abbrev cc0_sem23_0 : DmaSem sig := 37
abbrev cc0_sem24_0 : DmaSem sig := 38
abbrev cc0_sem25_0 : DmaSem sig := 39

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v222 : BitVec 1 := Scalar.cmpi .eq arg0 c0_i32
  let v223 : BitVec 32 := Scalar.extui v222
  let c0_i32_78 : BitVec 32 := 0#32
  let v224 : BitVec 1 := Scalar.cmpi .ne v223 c0_i32_78
  v224

def k0_cond2 (i : grid0.Coords) : BitVec 1 :=
  let arg0 : BitVec 32 := BitVec.ofNat 32 (i 0).val
  let c0_i32 : BitVec 32 := 0#32
  let v222 : BitVec 1 := Scalar.cmpi .eq arg0 c0_i32
  let v_true : BitVec 1 := 1#1
  let v225 : BitVec 1 := Scalar.xori v222 v_true
  let v226 : BitVec 32 := Scalar.extui v225
  let c0_i32_79 : BitVec 32 := 0#32
  let v227 : BitVec 1 := Scalar.cmpi .ne v226 c0_i32_79
  v227

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S256x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x2048 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1024x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]
-- ==== ProjReferenceIdeal.lean ====
abbrev S4096x1024 : Shape := ⟨2, ![4096, 1024]⟩
abbrev S4096 : Shape := ⟨1, ![4096]⟩
abbrev S1024 : Shape := ⟨1, ![1024]⟩
abbrev S1024x448 : Shape := ⟨2, ![1024, 448]⟩
abbrev S256 : Shape := ⟨1, ![256]⟩
abbrev S128 : Shape := ⟨1, ![128]⟩
abbrev S256x1536 : Shape := ⟨2, ![256, 1536]⟩
abbrev S128x2048 : Shape := ⟨2, ![128, 2048]⟩
abbrev S4096x8x192 : Shape := ⟨3, ![4096, 8, 192]⟩
abbrev S4096x8x256 : Shape := ⟨3, ![4096, 8, 256]⟩
abbrev S4096x8x64 : Shape := ⟨3, ![4096, 8, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x1024 : Shape := ⟨2, ![1, 1024]⟩
abbrev S4096x448 : Shape := ⟨2, ![4096, 448]⟩
abbrev S4096x256 : Shape := ⟨2, ![4096, 256]⟩
abbrev S4096x128 : Shape := ⟨2, ![4096, 128]⟩
abbrev S4096x64 : Shape := ⟨2, ![4096, 64]⟩
abbrev S1x256 : Shape := ⟨2, ![1, 256]⟩
abbrev S4096x1536 : Shape := ⟨2, ![4096, 1536]⟩
abbrev S4096x8x128 : Shape := ⟨3, ![4096, 8, 128]⟩
abbrev S4096x1x32 : Shape := ⟨3, ![4096, 1, 32]⟩
abbrev S4096x8x32 : Shape := ⟨3, ![4096, 8, 32]⟩
abbrev S1x128 : Shape := ⟨2, ![1, 128]⟩
abbrev S4096x2048 : Shape := ⟨2, ![4096, 2048]⟩
abbrev S4096x1x64 : Shape := ⟨3, ![4096, 1, 64]⟩
abbrev S2048x128 : Shape := ⟨2, ![2048, 128]⟩
abbrev S1536x256 : Shape := ⟨2, ![1536, 256]⟩
abbrev S448x1024 : Shape := ⟨2, ![448, 1024]⟩
abbrev S256x8x192 : Shape := ⟨3, ![256, 8, 192]⟩
abbrev S256x8x256 : Shape := ⟨3, ![256, 8, 256]⟩
abbrev S256x2048 : Shape := ⟨2, ![256, 2048]⟩
abbrev S1024x512 : Shape := ⟨2, ![1024, 512]⟩

abbrev nBuf : Space → Nat
  | .hbm => 263
  | .vmem => 0
  | .smem => 0
  | _ => 0

abbrev hbmTy0_0 (i : Nat) : BufTy := match i % 128 with
  | 0 => ⟨S4096x1024, .f32⟩
  | 1 => ⟨S4096, .i32⟩
  | 2 => ⟨S1024, .f32⟩
  | 3 => ⟨S1024x448, .f32⟩
  | 4 => ⟨S256, .f32⟩
  | 5 => ⟨S128, .f32⟩
  | 6 => ⟨S256x1536, .f32⟩
  | 7 => ⟨S128x2048, .f32⟩
  | 8 => ⟨S4096x8x192, .f32⟩
  | 9 => ⟨S4096x8x256, .f32⟩
  | 10 => ⟨S4096x8x64, .f32⟩
  | 11 => ⟨S4096x1024, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S32, .f32⟩
  | 26 => ⟨S4096, .f32⟩
  | 27 => ⟨S4096x1, .f32⟩
  | 28 => ⟨S1x32, .f32⟩
  | 29 => ⟨S4096x32, .f32⟩
  | 30 => ⟨S4096x32, .f32⟩
  | 31 => ⟨S4096x32, .f32⟩
  | 32 => ⟨S4096x32, .f32⟩
  | 33 => ⟨S4096x32, .f32⟩
  | 34 => ⟨S4096x1024, .f32⟩
  | 35 => ⟨S_, .f32⟩
  | 36 => ⟨S4096, .f32⟩
  | 37 => ⟨S4096x1, .f32⟩
  | 38 => ⟨S_, .f32⟩
  | 39 => ⟨S4096x1, .f32⟩
  | 40 => ⟨S4096x1, .f32⟩
  | 41 => ⟨S_, .f32⟩
  | 42 => ⟨S4096x1, .f32⟩
  | 43 => ⟨S4096x1, .f32⟩
  | 44 => ⟨S4096x1, .f32⟩
  | 45 => ⟨S4096x1, .f32⟩
  | 46 => ⟨S_, .f32⟩
  | 47 => ⟨S4096x1, .f32⟩
  | 48 => ⟨S4096x1, .f32⟩
  | 49 => ⟨S4096x1024, .f32⟩
  | 50 => ⟨S4096x1024, .f32⟩
  | 51 => ⟨S1x1024, .f32⟩
  | 52 => ⟨S4096x1024, .f32⟩
  | 53 => ⟨S4096x1024, .f32⟩
  | 54 => ⟨S4096x448, .f32⟩
  | 55 => ⟨S4096x256, .f32⟩
  | 56 => ⟨S4096x128, .f32⟩
  | 57 => ⟨S4096x64, .f32⟩
  | 58 => ⟨S4096x256, .f32⟩
  | 59 => ⟨S_, .f32⟩
  | 60 => ⟨S4096, .f32⟩
  | 61 => ⟨S4096x1, .f32⟩
  | 62 => ⟨S_, .f32⟩
  | 63 => ⟨S4096x1, .f32⟩
  | 64 => ⟨S4096x1, .f32⟩
  | 65 => ⟨S_, .f32⟩
  | 66 => ⟨S4096x1, .f32⟩
  | 67 => ⟨S4096x1, .f32⟩
  | 68 => ⟨S4096x1, .f32⟩
  | 69 => ⟨S4096x1, .f32⟩
  | 70 => ⟨S_, .f32⟩
  | 71 => ⟨S4096x1, .f32⟩
  | 72 => ⟨S4096x1, .f32⟩
  | 73 => ⟨S4096x256, .f32⟩
  | 74 => ⟨S4096x256, .f32⟩
  | 75 => ⟨S1x256, .f32⟩
  | 76 => ⟨S4096x256, .f32⟩
  | 77 => ⟨S4096x256, .f32⟩
  | 78 => ⟨S4096x1536, .f32⟩
  | 79 => ⟨S4096x8x192, .f32⟩
  | 80 => ⟨S4096x8x128, .f32⟩
  | 81 => ⟨S4096x8x64, .f32⟩
  | 82 => ⟨S4096x1x32, .f32⟩
  | 83 => ⟨S4096x1x32, .f32⟩
  | 84 => ⟨S4096x8x32, .f32⟩
  | 85 => ⟨S4096x8x32, .f32⟩
  | 86 => ⟨S4096x8x32, .f32⟩
  | 87 => ⟨S4096x8x32, .f32⟩
  | 88 => ⟨S4096x8x32, .f32⟩
  | 89 => ⟨S4096x8x32, .f32⟩
  | 90 => ⟨S4096x8x32, .f32⟩
  | 91 => ⟨S4096x8x32, .f32⟩
  | 92 => ⟨S4096x8x32, .f32⟩
  | 93 => ⟨S4096x8x32, .f32⟩
  | 94 => ⟨S4096x8x32, .f32⟩
  | 95 => ⟨S4096x8x32, .f32⟩
  | 96 => ⟨S4096x8x64, .f32⟩
  | 97 => ⟨S4096x8x192, .f32⟩
  | 98 => ⟨S4096x128, .f32⟩
  | 99 => ⟨S_, .f32⟩
  | 100 => ⟨S4096, .f32⟩
  | 101 => ⟨S4096x1, .f32⟩
  | 102 => ⟨S_, .f32⟩
  | 103 => ⟨S4096x1, .f32⟩
  | 104 => ⟨S4096x1, .f32⟩
  | 105 => ⟨S_, .f32⟩
  | 106 => ⟨S4096x1, .f32⟩
  | 107 => ⟨S4096x1, .f32⟩
  | 108 => ⟨S4096x1, .f32⟩
  | 109 => ⟨S4096x1, .f32⟩
  | 110 => ⟨S_, .f32⟩
  | 111 => ⟨S4096x1, .f32⟩
  | 112 => ⟨S4096x1, .f32⟩
  | 113 => ⟨S4096x128, .f32⟩
  | 114 => ⟨S4096x128, .f32⟩
  | 115 => ⟨S1x128, .f32⟩
  | 116 => ⟨S4096x128, .f32⟩
  | 117 => ⟨S4096x128, .f32⟩
  | 118 => ⟨S4096x2048, .f32⟩
  | 119 => ⟨S4096x8x256, .f32⟩
  | 120 => ⟨S4096x32, .f32⟩
  | 121 => ⟨S4096x32, .f32⟩
  | 122 => ⟨S4096x32, .f32⟩
  | 123 => ⟨S4096x32, .f32⟩
  | 124 => ⟨S4096x32, .f32⟩
  | 125 => ⟨S4096x32, .f32⟩
  | 126 => ⟨S4096x32, .f32⟩
  | 127 => ⟨S4096x32, .f32⟩
  | _ => ⟨S4096x1024, .f32⟩

abbrev hbmTy0_1 (i : Nat) : BufTy := match i % 128 with
  | 0 => ⟨S4096x64, .f32⟩
  | 1 => ⟨S4096x1x64, .f32⟩
  | 2 => ⟨S4096x8x64, .f32⟩
  | 3 => ⟨S_, .f32⟩
  | 4 => ⟨S4096x64, .f32⟩
  | 5 => ⟨S4096x1x64, .f32⟩
  | 6 => ⟨S_, .f32⟩
  | 7 => ⟨S4096x64, .f32⟩
  | 8 => ⟨S4096x32, .f32⟩
  | 9 => ⟨S4096x32, .f32⟩
  | 10 => ⟨S4096x32, .f32⟩
  | 11 => ⟨S4096x32, .f32⟩
  | 12 => ⟨S4096x32, .f32⟩
  | 13 => ⟨S4096x32, .f32⟩
  | 14 => ⟨S4096x32, .f32⟩
  | 15 => ⟨S4096x32, .f32⟩
  | 16 => ⟨S4096x32, .f32⟩
  | 17 => ⟨S4096x64, .f32⟩
  | 18 => ⟨S4096x2048, .f32⟩
  | 19 => ⟨S2048x128, .f32⟩
  | 20 => ⟨S128x2048, .f32⟩
  | 21 => ⟨S4096x128, .f32⟩
  | 22 => ⟨S4096x128, .f32⟩
  | 23 => ⟨S_, .f32⟩
  | 24 => ⟨S128, .f32⟩
  | 25 => ⟨S1x128, .f32⟩
  | 26 => ⟨S4096x128, .f32⟩
  | 27 => ⟨S4096x128, .f32⟩
  | 28 => ⟨S_, .f32⟩
  | 29 => ⟨S128, .f32⟩
  | 30 => ⟨S4096x128, .f32⟩
  | 31 => ⟨S_, .f32⟩
  | 32 => ⟨S4096, .f32⟩
  | 33 => ⟨S4096x1, .f32⟩
  | 34 => ⟨S4096x128, .f32⟩
  | 35 => ⟨S4096x128, .f32⟩
  | 36 => ⟨S4096x1, .f32⟩
  | 37 => ⟨S_, .f32⟩
  | 38 => ⟨S4096x1, .f32⟩
  | 39 => ⟨S4096x1, .f32⟩
  | 40 => ⟨S_, .f32⟩
  | 41 => ⟨S4096, .f32⟩
  | 42 => ⟨S4096x128, .f32⟩
  | 43 => ⟨S4096x128, .f32⟩
  | 44 => ⟨S4096x128, .f32⟩
  | 45 => ⟨S4096x128, .f32⟩
  | 46 => ⟨S4096x128, .f32⟩
  | 47 => ⟨S4096x8x128, .f32⟩
  | 48 => ⟨S4096x8x64, .f32⟩
  | 49 => ⟨S4096x8x32, .f32⟩
  | 50 => ⟨S4096x8x32, .f32⟩
  | 51 => ⟨S4096x8x32, .f32⟩
  | 52 => ⟨S4096x8x32, .f32⟩
  | 53 => ⟨S4096x8x32, .f32⟩
  | 54 => ⟨S4096x8x32, .f32⟩
  | 55 => ⟨S4096x8x32, .f32⟩
  | 56 => ⟨S4096x8x32, .f32⟩
  | 57 => ⟨S4096x8x32, .f32⟩
  | 58 => ⟨S4096x8x32, .f32⟩
  | 59 => ⟨S4096x8x32, .f32⟩
  | 60 => ⟨S4096x8x32, .f32⟩
  | 61 => ⟨S4096x8x32, .f32⟩
  | 62 => ⟨S4096x8x64, .f32⟩
  | 63 => ⟨S4096x8x192, .f32⟩
  | 64 => ⟨S4096x1536, .f32⟩
  | 65 => ⟨S1536x256, .f32⟩
  | 66 => ⟨S256x1536, .f32⟩
  | 67 => ⟨S4096x256, .f32⟩
  | 68 => ⟨S4096x256, .f32⟩
  | 69 => ⟨S_, .f32⟩
  | 70 => ⟨S256, .f32⟩
  | 71 => ⟨S1x256, .f32⟩
  | 72 => ⟨S4096x256, .f32⟩
  | 73 => ⟨S4096x256, .f32⟩
  | 74 => ⟨S_, .f32⟩
  | 75 => ⟨S256, .f32⟩
  | 76 => ⟨S4096x256, .f32⟩
  | 77 => ⟨S_, .f32⟩
  | 78 => ⟨S4096, .f32⟩
  | 79 => ⟨S4096x1, .f32⟩
  | 80 => ⟨S4096x256, .f32⟩
  | 81 => ⟨S4096x256, .f32⟩
  | 82 => ⟨S4096x1, .f32⟩
  | 83 => ⟨S_, .f32⟩
  | 84 => ⟨S4096x1, .f32⟩
  | 85 => ⟨S4096x1, .f32⟩
  | 86 => ⟨S_, .f32⟩
  | 87 => ⟨S4096, .f32⟩
  | 88 => ⟨S4096x256, .f32⟩
  | 89 => ⟨S4096x256, .f32⟩
  | 90 => ⟨S4096x256, .f32⟩
  | 91 => ⟨S4096x256, .f32⟩
  | 92 => ⟨S4096x256, .f32⟩
  | 93 => ⟨S4096x448, .f32⟩
  | 94 => ⟨S448x1024, .f32⟩
  | 95 => ⟨S1024x448, .f32⟩
  | 96 => ⟨S4096x1024, .f32⟩
  | 97 => ⟨S4096x1024, .f32⟩
  | 98 => ⟨S_, .f32⟩
  | 99 => ⟨S1024, .f32⟩
  | 100 => ⟨S1x1024, .f32⟩
  | 101 => ⟨S4096x1024, .f32⟩
  | 102 => ⟨S4096x1024, .f32⟩
  | 103 => ⟨S_, .f32⟩
  | 104 => ⟨S1024, .f32⟩
  | 105 => ⟨S4096x1024, .f32⟩
  | 106 => ⟨S_, .f32⟩
  | 107 => ⟨S4096, .f32⟩
  | 108 => ⟨S4096x1, .f32⟩
  | 109 => ⟨S4096x1024, .f32⟩
  | 110 => ⟨S4096x1024, .f32⟩
  | 111 => ⟨S4096x1024, .f32⟩
  | 112 => ⟨S4096x1, .f32⟩
  | 113 => ⟨S_, .f32⟩
  | 114 => ⟨S4096x1, .f32⟩
  | 115 => ⟨S4096x1, .f32⟩
  | 116 => ⟨S_, .f32⟩
  | 117 => ⟨S4096, .f32⟩
  | 118 => ⟨S4096x1024, .f32⟩
  | 119 => ⟨S4096x1024, .f32⟩
  | 120 => ⟨S4096x1024, .f32⟩
  | 121 => ⟨S4096x1024, .f32⟩
  | 122 => ⟨S4096x1024, .f32⟩
  | 123 => ⟨S256x8x192, .f32⟩
  | 124 => ⟨S_, .i32⟩
  | 125 => ⟨S_, .f32⟩
  | 126 => ⟨S256x8x256, .f32⟩
  | 127 => ⟨S256x2048, .f32⟩
  | _ => ⟨S4096x1024, .f32⟩

abbrev hbmTy0_2 (i : Nat) : BufTy := match i % 128 with
  | 0 => ⟨S4096x1024, .bf16⟩
  | 1 => ⟨S_, .i32⟩
  | 2 => ⟨S_, .f32⟩
  | 3 => ⟨S1024x512, .f32⟩
  | 4 => ⟨S1x256, .f32⟩
  | 5 => ⟨S1x128, .f32⟩
  | 6 => ⟨S1x1024, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_11 : Ref sig .tc := ⟨.hbm, 99, rfl⟩
abbrev main_v75 : Ref sig .tc := ⟨.hbm, 100, rfl⟩
abbrev main_v76 : Ref sig .tc := ⟨.hbm, 101, rfl⟩
abbrev main_cst_12 : Ref sig .tc := ⟨.hbm, 102, rfl⟩
abbrev main_v77 : Ref sig .tc := ⟨.hbm, 103, rfl⟩
abbrev main_v78 : Ref sig .tc := ⟨.hbm, 104, rfl⟩
abbrev main_cst_13 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_14 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_cst_15 : Ref sig .tc := ⟨.hbm, 131, rfl⟩
abbrev main_v103 : Ref sig .tc := ⟨.hbm, 132, rfl⟩
abbrev main_v104 : Ref sig .tc := ⟨.hbm, 133, rfl⟩
abbrev main_cst_16 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_cst_17 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_cst_18 : Ref sig .tc := ⟨.hbm, 156, rfl⟩
abbrev main_v125 : Ref sig .tc := ⟨.hbm, 157, rfl⟩
abbrev main_v126 : Ref sig .tc := ⟨.hbm, 158, rfl⟩
abbrev main_cst_19 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_cst_20 : Ref sig .tc := ⟨.hbm, 165, rfl⟩
abbrev main_v132 : Ref sig .tc := ⟨.hbm, 166, rfl⟩
abbrev main_v133 : Ref sig .tc := ⟨.hbm, 167, rfl⟩
abbrev main_cst_21 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_cst_22 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_cst_23 : Ref sig .tc := ⟨.hbm, 202, rfl⟩
abbrev main_v166 : Ref sig .tc := ⟨.hbm, 203, rfl⟩
abbrev main_v167 : Ref sig .tc := ⟨.hbm, 204, rfl⟩
abbrev main_cst_24 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_cst_25 : Ref sig .tc := ⟨.hbm, 211, rfl⟩
abbrev main_v173 : Ref sig .tc := ⟨.hbm, 212, rfl⟩
abbrev main_v174 : Ref sig .tc := ⟨.hbm, 213, rfl⟩
abbrev main_cst_26 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_cst_27 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_cst_28 : Ref sig .tc := ⟨.hbm, 231, rfl⟩
abbrev main_v190 : Ref sig .tc := ⟨.hbm, 232, rfl⟩
abbrev main_v191 : Ref sig .tc := ⟨.hbm, 233, rfl⟩
abbrev main_cst_29 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_cst_30 : Ref sig .tc := ⟨.hbm, 241, rfl⟩
abbrev main_v198 : Ref sig .tc := ⟨.hbm, 242, rfl⟩
abbrev main_v199 : Ref sig .tc := ⟨.hbm, 243, rfl⟩
abbrev main_cst_31 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_c : Ref sig .tc := ⟨.hbm, 252, rfl⟩
abbrev main_call0_v0 : Ref sig .tc := ⟨.hbm, 253, rfl⟩
abbrev main_v207 : Ref sig .tc := ⟨.hbm, 254, rfl⟩
abbrev main_v208 : Ref sig .tc := ⟨.hbm, 255, rfl⟩
abbrev main_v209 : Ref sig .tc := ⟨.hbm, 256, rfl⟩
abbrev main_c_32 : Ref sig .tc := ⟨.hbm, 257, rfl⟩
abbrev main_call1_v0 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩

abbrev nD : Nat := 1
abbrev τ : Topo := Topo.v7x

variable {F : FTy → Type} [FloatOps F]
-- ==== MlaKernel.lean ====
abbrev S4096x1024 : Shape := ⟨2, ![4096, 1024]⟩
abbrev S4096 : Shape := ⟨1, ![4096]⟩
abbrev S1024 : Shape := ⟨1, ![1024]⟩
abbrev S1024x448 : Shape := ⟨2, ![1024, 448]⟩
abbrev S256 : Shape := ⟨1, ![256]⟩
abbrev S128 : Shape := ⟨1, ![128]⟩
abbrev S256x1536 : Shape := ⟨2, ![256, 1536]⟩
abbrev S128x2048 : Shape := ⟨2, ![128, 2048]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S1x1024 : Shape := ⟨2, ![1, 1024]⟩
abbrev S1x256 : Shape := ⟨2, ![1, 256]⟩
abbrev S1x128 : Shape := ⟨2, ![1, 128]⟩
abbrev S1024x512 : Shape := ⟨2, ![1024, 512]⟩
abbrev S256x8x192 : Shape := ⟨3, ![256, 8, 192]⟩
abbrev S256x8x256 : Shape := ⟨3, ![256, 8, 256]⟩
abbrev S256x2048 : Shape := ⟨2, ![256, 2048]⟩
abbrev S4096x512 : Shape := ⟨2, ![4096, 512]⟩
abbrev S4096x256 : Shape := ⟨2, ![4096, 256]⟩
abbrev S4096x2048 : Shape := ⟨2, ![4096, 2048]⟩
abbrev S512x1024 : Shape := ⟨2, ![512, 1024]⟩
abbrev S512x128 : Shape := ⟨2, ![512, 128]⟩
abbrev S512x512 : Shape := ⟨2, ![512, 512]⟩
abbrev S512x256 : Shape := ⟨2, ![512, 256]⟩
abbrev S512x2048 : Shape := ⟨2, ![512, 2048]⟩
abbrev S512 : Shape := ⟨1, ![512]⟩
abbrev S512x1 : Shape := ⟨2, ![512, 1]⟩

abbrev nBuf : Space → Nat
  | .hbm => 56
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S1024, .f32⟩
  | .hbm, ⟨3, _⟩ => ⟨S1024x448, .f32⟩
  | .hbm, ⟨4, _⟩ => ⟨S256, .f32⟩
  | .hbm, ⟨5, _⟩ => ⟨S128, .f32⟩
  | .hbm, ⟨6, _⟩ => ⟨S256x1536, .f32⟩
  | .hbm, ⟨7, _⟩ => ⟨S128x2048, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S4096, .f32⟩
  | .hbm, ⟨23, _⟩ => ⟨S4096x1, .f32⟩
  | .hbm, ⟨24, _⟩ => ⟨S1x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S_, .f32⟩
  | .hbm, ⟨31, _⟩ => ⟨S4096x32, .f32⟩
  | .hbm, ⟨32, _⟩ => ⟨S_, .f32⟩
  | .hbm, ⟨33, _⟩ => ⟨S4096x64, .f32⟩
  | .hbm, ⟨34, _⟩ => ⟨S4096x128, .f32⟩
  | .hbm, ⟨35, _⟩ => ⟨S4096x128, .f32⟩
  | .hbm, ⟨36, _⟩ => ⟨S4096x32, .f32⟩
  | .hbm, ⟨37, _⟩ => ⟨S4096x128, .f32⟩
  | .hbm, ⟨38, _⟩ => ⟨S1x1024, .f32⟩
  | .hbm, ⟨39, _⟩ => ⟨S1x256, .f32⟩
  | .hbm, ⟨40, _⟩ => ⟨S1x128, .f32⟩
  | .hbm, ⟨41, _⟩ => ⟨S_, .i32⟩
  | .hbm, ⟨42, _⟩ => ⟨S_, .f32⟩
  | .hbm, ⟨43, _⟩ => ⟨S1024x512, .f32⟩
  | .hbm, ⟨44, _⟩ => ⟨S256x8x192, .f32⟩
  | .hbm, ⟨45, _⟩ => ⟨S_, .i32⟩
  | .hbm, ⟨46, _⟩ => ⟨S_, .f32⟩
  | .hbm, ⟨47, _⟩ => ⟨S256x8x256, .f32⟩
  | .hbm, ⟨48, _⟩ => ⟨S256x2048, .f32⟩
  | .hbm, ⟨49, _⟩ => ⟨S4096x1024, .bf16⟩
  | .hbm, ⟨50, _⟩ => ⟨S4096x512, .f32⟩
  | .hbm, ⟨51, _⟩ => ⟨S4096x256, .bf16⟩
  | .hbm, ⟨52, _⟩ => ⟨S4096x128, .bf16⟩
  | .hbm, ⟨53, _⟩ => ⟨S4096x128, .bf16⟩
  | .hbm, ⟨54, _⟩ => ⟨S4096x2048, .f32⟩
  | .hbm, ⟨55, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x1024, .f32⟩
  | .local _ .vmem, ⟨9, _⟩ => ⟨S1024x512, .f32⟩
  | .local _ .vmem, ⟨10, _⟩ => ⟨S1x256, .f32⟩
  | .local _ .vmem, ⟨11, _⟩ => ⟨S1x128, .f32⟩
  | .local _ .vmem, ⟨12, _⟩ => ⟨S256x2048, .f32⟩
  | .local _ .vmem, ⟨13, _⟩ => ⟨S128x2048, .f32⟩
  | .local _ .vmem, ⟨14, _⟩ => ⟨S512x1024, .bf16⟩
  | .local _ .vmem, ⟨15, _⟩ => ⟨S512x1024, .bf16⟩
  | .local _ .vmem, ⟨16, _⟩ => ⟨S512x512, .f32⟩
  | .local _ .vmem, ⟨17, _⟩ => ⟨S512x512, .f32⟩
  | .local _ .vmem, ⟨18, _⟩ => ⟨S512x256, .bf16⟩
  | .local _ .vmem, ⟨19, _⟩ => ⟨S512x256, .bf16⟩
  | .local _ .vmem, ⟨20, _⟩ => ⟨S512x128, .bf16⟩
  | .local _ .vmem, ⟨21, _⟩ => ⟨S512x128, .bf16⟩
  | .local _ .vmem, ⟨22, _⟩ => ⟨S512x128, .bf16⟩
  | .local _ .vmem, ⟨23, _⟩ => ⟨S512x128, .bf16⟩
  | .local _ .vmem, ⟨24, _⟩ => ⟨S512x2048, .f32⟩
  | .local _ .vmem, ⟨25, _⟩ => ⟨S512x2048, .f32⟩
  | .local _ .vmem, ⟨26, _⟩ => ⟨S512x2048, .bf16⟩
  | .local _ .vmem, ⟨27, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c : Ref sig .tc := ⟨.hbm, 41, rfl⟩
abbrev main_call0_v0 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_call1_v0 : Ref sig .tc := ⟨.hbm, 46, rfl⟩
abbrev main_v29 : Ref sig .tc := ⟨.hbm, 47, rfl⟩
abbrev main_v30 : Ref sig .tc := ⟨.hbm, 48, rfl⟩
abbrev main_v31_0 : Ref sig .tc := ⟨.hbm, 49, rfl⟩
abbrev main_v31_1 : Ref sig .tc := ⟨.hbm, 50, rfl⟩
abbrev main_v31_2 : Ref sig .tc := ⟨.hbm, 51, rfl⟩
abbrev main_v31_3 : Ref sig .tc := ⟨.hbm, 52, rfl⟩
abbrev main_v31_4 : Ref sig .tc := ⟨.hbm, 53, rfl⟩
abbrev main_v31_5 : Ref sig .tc := ⟨.hbm, 54, rfl⟩
abbrev main_v31_6 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MlaReferenceIdeal.lean ====
abbrev S4096x1024 : Shape := ⟨2, ![4096, 1024]⟩
abbrev S4096 : Shape := ⟨1, ![4096]⟩
abbrev S1024 : Shape := ⟨1, ![1024]⟩
abbrev S1024x448 : Shape := ⟨2, ![1024, 448]⟩
abbrev S256 : Shape := ⟨1, ![256]⟩
abbrev S128 : Shape := ⟨1, ![128]⟩
abbrev S256x1536 : Shape := ⟨2, ![256, 1536]⟩
abbrev S128x2048 : Shape := ⟨2, ![128, 2048]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x1024 : Shape := ⟨2, ![1, 1024]⟩
abbrev S4096x448 : Shape := ⟨2, ![4096, 448]⟩
abbrev S4096x256 : Shape := ⟨2, ![4096, 256]⟩
abbrev S4096x128 : Shape := ⟨2, ![4096, 128]⟩
abbrev S4096x64 : Shape := ⟨2, ![4096, 64]⟩
abbrev S1x256 : Shape := ⟨2, ![1, 256]⟩
abbrev S1x128 : Shape := ⟨2, ![1, 128]⟩
abbrev S4096x1536 : Shape := ⟨2, ![4096, 1536]⟩
abbrev S4096x8x192 : Shape := ⟨3, ![4096, 8, 192]⟩
abbrev S4096x8x256 : Shape := ⟨3, ![4096, 8, 256]⟩
abbrev S4096x2048 : Shape := ⟨2, ![4096, 2048]⟩
abbrev S4096x512 : Shape := ⟨2, ![4096, 512]⟩

abbrev nBuf : Space → Nat
  | .hbm => 109
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S1024, .f32⟩
  | .hbm, ⟨3, _⟩ => ⟨S1024x448, .f32⟩
  | .hbm, ⟨4, _⟩ => ⟨S256, .f32⟩
  | .hbm, ⟨5, _⟩ => ⟨S128, .f32⟩
  | .hbm, ⟨6, _⟩ => ⟨S256x1536, .f32⟩
  | .hbm, ⟨7, _⟩ => ⟨S128x2048, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S4096, .f32⟩
  | .hbm, ⟨23, _⟩ => ⟨S4096x1, .f32⟩
  | .hbm, ⟨24, _⟩ => ⟨S1x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x448, .f32⟩
  | .hbm, ⟨47, _⟩ => ⟨S4096x256, .f32⟩
  | .hbm, ⟨48, _⟩ => ⟨S4096x128, .f32⟩
  | .hbm, ⟨49, _⟩ => ⟨S4096x64, .f32⟩
  | .hbm, ⟨50, _⟩ => ⟨S4096x256, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S4096x1, .f32⟩
  | .hbm, ⟨61, _⟩ => ⟨S4096x256, .f32⟩
  | .hbm, ⟨62, _⟩ => ⟨S4096x256, .f32⟩
  | .hbm, ⟨63, _⟩ => ⟨S1x256, .f32⟩
  | .hbm, ⟨64, _⟩ => ⟨S4096x256, .f32⟩
  | .hbm, ⟨65, _⟩ => ⟨S4096x256, .f32⟩
  | .hbm, ⟨66, _⟩ => ⟨S4096x128, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S4096x1, .f32⟩
  | .hbm, ⟨77, _⟩ => ⟨S4096x128, .f32⟩
  | .hbm, ⟨78, _⟩ => ⟨S4096x128, .f32⟩
  | .hbm, ⟨79, _⟩ => ⟨S1x128, .f32⟩
  | .hbm, ⟨80, _⟩ => ⟨S4096x128, .f32⟩
  | .hbm, ⟨81, _⟩ => ⟨S4096x128, .f32⟩
  | .hbm, ⟨82, _⟩ => ⟨S4096x1536, .f32⟩
  | .hbm, ⟨83, _⟩ => ⟨S4096x8x192, .f32⟩
  | .hbm, ⟨84, _⟩ => ⟨S_, .i32⟩
  | .hbm, ⟨85, _⟩ => ⟨S_, .f32⟩
  | .hbm, ⟨86, _⟩ => ⟨S4096x8x256, .f32⟩
  | .hbm, ⟨87, _⟩ => ⟨S4096x2048, .f32⟩
  | .hbm, ⟨88, _⟩ => ⟨S4096x32, .f32⟩
  | .hbm, ⟨89, _⟩ => ⟨S4096x32, .f32⟩
  | .hbm, ⟨90, _⟩ => ⟨S4096x32, .f32⟩
  | .hbm, ⟨91, _⟩ => ⟨S4096x32, .f32⟩
  | .hbm, ⟨92, _⟩ => ⟨S4096x32, .f32⟩
  | .hbm, ⟨93, _⟩ => ⟨S4096x32, .f32⟩
  | .hbm, ⟨94, _⟩ => ⟨S4096x32, .f32⟩
  | .hbm, ⟨95, _⟩ => ⟨S4096x32, .f32⟩
  | .hbm, ⟨96, _⟩ => ⟨S4096x64, .f32⟩
  | .hbm, ⟨97, _⟩ => ⟨S_, .i32⟩
  | .hbm, ⟨98, _⟩ => ⟨S_, .f32⟩
  | .hbm, ⟨99, _⟩ => ⟨S4096x128, .f32⟩
  | .hbm, ⟨100, _⟩ => ⟨S4096x1024, .bf16⟩
  | .hbm, ⟨101, _⟩ => ⟨S_, .i32⟩
  | .hbm, ⟨102, _⟩ => ⟨S_, .f32⟩
  | .hbm, ⟨103, _⟩ => ⟨S4096x512, .f32⟩
  | .hbm, ⟨104, _⟩ => ⟨S4096x256, .bf16⟩
  | .hbm, ⟨105, _⟩ => ⟨S4096x128, .bf16⟩
  | .hbm, ⟨106, _⟩ => ⟨S4096x128, .bf16⟩
  | .hbm, ⟨107, _⟩ => ⟨S4096x2048, .f32⟩
  | .hbm, ⟨108, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c : Ref sig .tc := ⟨.hbm, 84, rfl⟩
abbrev main_call0_v0 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_c_12 : Ref sig .tc := ⟨.hbm, 97, rfl⟩
abbrev main_call1_v0 : Ref sig .tc := ⟨.hbm, 98, rfl⟩
abbrev main_v74 : Ref sig .tc := ⟨.hbm, 99, rfl⟩
abbrev main_v75 : Ref sig .tc := ⟨.hbm, 100, rfl⟩
abbrev main_c_13 : Ref sig .tc := ⟨.hbm, 101, rfl⟩
abbrev main_call2_v0 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩

abbrev nD : Nat := 1
abbrev τ : Topo := Topo.v7x

variable {F : FTy → Type} [FloatOps F]
-- ==== GateKernel.lean ====
abbrev S4096x4096 : Shape := ⟨2, ![4096, 4096]⟩
abbrev S2048 : Shape := ⟨1, ![2048]⟩
abbrev S8x128x128 : Shape := ⟨3, ![8, 128, 128]⟩
abbrev S8x128 : Shape := ⟨2, ![8, 128]⟩
abbrev S128x8 : Shape := ⟨2, ![128, 8]⟩
abbrev S128x8x256 : Shape := ⟨3, ![128, 8, 256]⟩
abbrev S128x2048 : Shape := ⟨2, ![128, 2048]⟩
abbrev S1x2048 : Shape := ⟨2, ![1, 2048]⟩
abbrev S4096x2048 : Shape := ⟨2, ![4096, 2048]⟩
abbrev S256x4096 : Shape := ⟨2, ![256, 4096]⟩
abbrev S256x2048 : Shape := ⟨2, ![256, 2048]⟩
abbrev S128x4096 : Shape := ⟨2, ![128, 4096]⟩
abbrev S128x256 : Shape := ⟨2, ![128, 256]⟩
abbrev S128 : Shape := ⟨1, ![128]⟩
abbrev S128x1 : Shape := ⟨2, ![128, 1]⟩
abbrev S1x256 : Shape := ⟨2, ![1, 256]⟩
abbrev S1x128x128 : Shape := ⟨3, ![1, 128, 128]⟩
abbrev S128x128 : Shape := ⟨2, ![128, 128]⟩

abbrev nBuf : Space → Nat
  | .hbm => 11
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S2048, .f32⟩
  | .hbm, ⟨2, _⟩ => ⟨S2048, .f32⟩
  | .hbm, ⟨3, _⟩ => ⟨S8x128x128, .f32⟩
  | .hbm, ⟨4, _⟩ => ⟨S8x128, .f32⟩
  | .hbm, ⟨5, _⟩ => ⟨S128x8, .f32⟩
  | .hbm, ⟨6, _⟩ => ⟨S128x8x256, .f32⟩
  | .hbm, ⟨7, _⟩ => ⟨S128x2048, .f32⟩
  | .hbm, ⟨8, _⟩ => ⟨S1x2048, .f32⟩
  | .hbm, ⟨9, _⟩ => ⟨S1x2048, .f32⟩
  | .hbm, ⟨10, _⟩ => ⟨S4096x2048, .bf16⟩
  | .local _ .vmem, ⟨0, _⟩ => ⟨S256x4096, .f32⟩
  | .local _ .vmem, ⟨1, _⟩ => ⟨S256x4096, .f32⟩
  | .local _ .vmem, ⟨2, _⟩ => ⟨S1x2048, .f32⟩
  | .local _ .vmem, ⟨3, _⟩ => ⟨S1x2048, .f32⟩
  | .local _ .vmem, ⟨4, _⟩ => ⟨S8x128x128, .f32⟩
  | .local _ .vmem, ⟨5, _⟩ => ⟨S128x2048, .f32⟩
  | .local _ .vmem, ⟨6, _⟩ => ⟨S256x2048, .bf16⟩
  | .local _ .vmem, ⟨7, _⟩ => ⟨S256x2048, .bf16⟩
  | .local _ .vmem, ⟨8, _⟩ => ⟨S128x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateKernelIdeal.lean ====
variable {F : FTy → Type} [FloatOps F] [Named F]
def κ : String → Option EReal := fun
  | "rsqrt2" => some (((Real.sqrt 2)⁻¹ : ℝ) : EReal)
  | _ => none
-- ==== GateReferenceIdeal.lean ====
abbrev S4096x4096 : Shape := ⟨2, ![4096, 4096]⟩
abbrev S2048 : Shape := ⟨1, ![2048]⟩
abbrev S8x128x128 : Shape := ⟨3, ![8, 128, 128]⟩
abbrev S8x128 : Shape := ⟨2, ![8, 128]⟩
abbrev S_ : Shape := ⟨0, ![]⟩
abbrev S4096x2048 : Shape := ⟨2, ![4096, 2048]⟩
abbrev S4096 : Shape := ⟨1, ![4096]⟩
abbrev S4096x1 : Shape := ⟨2, ![4096, 1]⟩
abbrev S1x2048 : Shape := ⟨2, ![1, 2048]⟩
abbrev S32x128x8x256 : Shape := ⟨4, ![32, 128, 8, 256]⟩
abbrev S128x128 : Shape := ⟨2, ![128, 128]⟩
abbrev S8x32x256x128 : Shape := ⟨4, ![8, 32, 256, 128]⟩
abbrev S128x8 : Shape := ⟨2, ![128, 8]⟩
abbrev S1x128x8x1 : Shape := ⟨4, ![1, 128, 8, 1]⟩

abbrev nBuf : Space → Nat
  | .hbm => 69
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S2048, .f32⟩
  | .hbm, ⟨2, _⟩ => ⟨S2048, .f32⟩
  | .hbm, ⟨3, _⟩ => ⟨S8x128x128, .f32⟩
  | .hbm, ⟨4, _⟩ => ⟨S8x128, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x2048, .f32⟩
  | .hbm, ⟨42, _⟩ => ⟨S4096x2048, .f32⟩
  | .hbm, ⟨43, _⟩ => ⟨S1x2048, .f32⟩
  | .hbm, ⟨44, _⟩ => ⟨S4096x2048, .f32⟩
  | .hbm, ⟨45, _⟩ => ⟨S4096x2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S32x128x8x256, .f32⟩
  | .hbm, ⟨50, _⟩ => ⟨S128x128, .i32⟩
  | .hbm, ⟨51, _⟩ => ⟨S_, .i32⟩
  | .hbm, ⟨52, _⟩ => ⟨S128x128, .i32⟩
  | .hbm, ⟨53, _⟩ => ⟨S128x128, .i32⟩
  | .hbm, ⟨54, _⟩ => ⟨S128x128, .i32⟩
  | .hbm, ⟨55, _⟩ => ⟨S128x128, .i1⟩
  | .hbm, ⟨56, _⟩ => ⟨S8x128x128, .i1⟩
  | .hbm, ⟨57, _⟩ => ⟨S_, .f32⟩
  | .hbm, ⟨58, _⟩ => ⟨S8x128x128, .f32⟩
  | .hbm, ⟨59, _⟩ => ⟨S8x128x128, .f32⟩
  | .hbm, ⟨60, _⟩ => ⟨S8x32x256x128, .f32⟩
  | .hbm, ⟨61, _⟩ => ⟨S32x128x8x256, .f32⟩
  | .hbm, ⟨62, _⟩ => ⟨S128x8, .f32⟩
  | .hbm, ⟨63, _⟩ => ⟨S1x128x8x1, .f32⟩
  | .hbm, ⟨64, _⟩ => ⟨S32x128x8x256, .f32⟩
  | .hbm, ⟨65, _⟩ => ⟨S32x128x8x256, .f32⟩
  | .hbm, ⟨66, _⟩ => ⟨S4096x2048, .f32⟩
  | .hbm, ⟨67, _⟩ => ⟨S4096x2048, .f32⟩
  | .hbm, ⟨68, _⟩ => ⟨S4096x2048, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_call0_v0 : Ref sig .tc := ⟨.hbm, 50, rfl⟩
abbrev main_call0_c : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_cst : Ref sig .tc := ⟨.hbm, 57, rfl⟩
abbrev main_call0_v6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩

abbrev nD : Nat := 1
abbrev τ : Topo := Topo.v7x

variable {F : FTy → Type} [FloatOps F]
-- ==== ReluKernel.lean ====
abbrev S4096x1024 : Shape := ⟨2, ![4096, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S1024x1024 : Shape := ⟨2, ![1024, 1024]⟩
abbrev S1x1024x1024 : Shape := ⟨3, ![1, 1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S1024x4x1024, .f32⟩
  | .hbm, ⟨3, _⟩ => ⟨S4x1024x1024, .f32⟩
  | .hbm, ⟨4, _⟩ => ⟨S4x1024x1024, .bf16⟩
  | .hbm, ⟨5, _⟩ => ⟨S4096x1024, .bf16⟩
  | .hbm, ⟨6, _⟩ => ⟨S4096x4096, .bf16⟩
  | .hbm, ⟨7, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReluReferenceIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .bf16⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== DownKernel.lean ====
abbrev S4096x1024 : Shape := ⟨2, ![4096, 1024]⟩
abbrev S1024x4096 : Shape := ⟨2, ![1024, 4096]⟩
abbrev S1024 : Shape := ⟨1, ![1024]⟩
abbrev S4096x4096 : Shape := ⟨2, ![4096, 4096]⟩
abbrev S_ : Shape := ⟨0, ![]⟩
abbrev S4x1024x1024 : Shape := ⟨3, ![4, 1024, 1024]⟩
abbrev S1x1024 : Shape := ⟨2, ![1, 1024]⟩
abbrev S512x4096 : Shape := ⟨2, ![512, 4096]⟩
abbrev S1x1024x1024 : Shape := ⟨3, ![1, 1024, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 16
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .bf16⟩
  | .hbm, ⟨11, _⟩ => ⟨S4x1024x1024, .f32⟩
  | .hbm, ⟨12, _⟩ => ⟨S4x1024x1024, .bf16⟩
  | .hbm, ⟨13, _⟩ => ⟨S1x1024, .f32⟩
  | .hbm, ⟨14, _⟩ => ⟨S4096x1024, .f32⟩
  | .hbm, ⟨15, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== DownReferenceIdeal.lean ====
abbrev S4096x1024 : Shape := ⟨2, ![4096, 1024]⟩
abbrev S1024x4096 : Shape := ⟨2, ![1024, 4096]⟩
abbrev S1024 : Shape := ⟨1, ![1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== AttnOKernel.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024, .f32⟩
  | .hbm, ⟨4, _⟩ => ⟨S4096x1024, .bf16⟩
  | .hbm, ⟨5, _⟩ => ⟨S1024x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== AttnOReferenceIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.FfnDown.lean ====
/-
  The gradient that the ffn's down projection hands to its squared ReLU.

  The backward call takes the cotangent `ct` of the layer's output, the down weight cut in four slabs, and the factor
  `2 · max(a, 0)` of the squared ReLU, and writes `(ct · w_downᵀ) ⊙ 2·max(a, 0)` block by block, over a grid of two
  row blocks by four slabs. The reference is the derivative of `a ↦ square(relu a) · w_down` at `a = h · w_up`.

  * `block_apply`: what one grid point computes, at an index.
  * `grad`: the whole array as one function of the arguments; `final_eq`: the result array is `grad`.
  * `ref_eq`: the derivative is `grad` too, at every extended real: where `a ≤ 0` the kernel's factor is zero, and zero
    times anything is zero.
-/
module

public import proofs.«01_k».proof.Proof.Gen.FfnDownKernelIdeal.Value
public import proofs.«01_k».proof.Proof.Gen.FfnDownReferenceIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem Idealize.ShloMosaic.Pointwise

namespace Cert.FfnDownKernelIdeal.Hand

open Cert.FfnDownKernelIdeal Cert.FfnDownKernelIdeal.Gen
open Idealize.ShloMosaic.Pipeline (Dat)

variable (m : (ℓ : Loc nD τ sig) → Buf (Elt Ideal) ℓ)

theorem zeros2 : (![0, 0] : Fin 2 → Nat) = fun _ => 0 := funext fun a => by fin_cases a <;> rfl
theorem zeros3 : (![0, 0, 0] : Fin 3 → Nat) = fun _ => 0 := funext fun a => by fin_cases a <;> rfl

/-- What one grid point leaves in its output block: its payload of the three whole input blocks. -/
theorem out_eq (x0 : Vec Ideal S2048x1024 .bf16) (x1 : Vec Ideal S1x1024x1024 .bf16) (x2 : Vec Ideal S2048x1024 .bf16) :
    out0_3 x0 x1 x2 = k0_pay1 x0 x1 x2 := by
  unfold out0_3
  rw [View.canon_unit_zero zeros2, View.ld_unit_zero (S := S2048x1024) zeros2, View.ld_unit_zero (S := S1x1024x1024) zeros3,
    View.ld_unit_zero (S := S2048x1024) zeros2]

/-- The payload at an index: a row of `ct` against a row of the slab, times the saved factor. -/
theorem block_apply (x0 : Vec Ideal S2048x1024 .bf16) (x1 : Vec Ideal S1x1024x1024 .bf16) (x2 : Vec Ideal S2048x1024 .bf16)
    (r : Fin 2048) (l : Fin 1024) :
    k0_pay1 x0 x1 x2 (ix2 r l) = (∑ k : Fin 1024, x0 (ix2 r k) * x1 (ix3 0 l k)) * x2 (ix2 r l) := by
  pointwise [k0_pay1]

/-! ## The arrays that the region reads -/

/-- The arguments on device `c`: the layer's input, the two weights and the cotangent. -/
abbrev aH (c : Dev nD) : Vec Ideal S4096x1024 .f32 := m ((c : Thread nD τ).loc main_arg0)
abbrev aUp (c : Dev nD) : Vec Ideal S1024x4096 .f32 := m ((c : Thread nD τ).loc main_arg1)
abbrev aDown (c : Dev nD) : Vec Ideal S4096x1024 .f32 := m ((c : Thread nD τ).loc main_arg2)
abbrev aCt (c : Dev nD) : Vec Ideal S4096x1024 .f32 := m ((c : Thread nD τ).loc main_arg3)

/-- The cotangent as the region finds it: the argument, its change of format the identity. -/
theorem V_ct (c : Dev nD) (r : Fin 4096) (k : Fin 1024) :
    V m c main_v8 (ix2 r k) = aCt m c (ix2 r k) := by
  unfold V
  after_results
  rfl

/-- The down weight as the region finds it: slab `s`, row `l` is row `1024 s + l` of the argument. -/
theorem V_w (c : Dev nD) (s : Fin 4) (l k : Fin 1024) :
    V m c main_v7 (ix3 s l k) = aDown m c (ix2 ⟨s.val * 1024 + l.val, by omega⟩ k) := by
  unfold V
  after_results
  pointwise

/-- The saved factor as the region finds it: `2 · max(a, 0)` at `a = h · w_up`. -/
theorem V_r (c : Dev nD) (r l : Fin 4096) :
    V m c main_v5 (ix2 r l) = Ideal.ofBits .f32 0x40000000#32 *
      max (∑ k : Fin 1024, aH m c (ix2 r k) * aUp m c (ix2 k l)) 0 := by
  unfold V
  after_results
  pointwise

/-! ## The result array -/

/-- The gradient as one function of the arguments. -/
def grad (h : Vec Ideal S4096x1024 .f32) (wu : Vec Ideal S1024x4096 .f32) (wd ct : Vec Ideal S4096x1024 .f32)
    (i : S4096x4096.Idx) : EReal :=
  (∑ k : Fin 1024, ct (ix2 (i 0) k) * wd (ix2 (i 1) k)) *
    (Ideal.ofBits .f32 0x40000000#32 * max (∑ k : Fin 1024, h (ix2 (i 0) k) * wu (ix2 k (i 1))) 0)

/-- The grid's point `t` is row block `t / 4` and slab `t % 4`: where each window's block lies. -/
theorem index0 : ∀ t : Fin grid0.N, win0_0.index t = ![t.val / 4, 0] := by decide +kernel
theorem index1 : ∀ t : Fin grid0.N, win0_1.index t = ![t.val % 4, 0, 0] := by decide +kernel
theorem index2 : ∀ t : Fin grid0.N, win0_2.index t = ![t.val / 4, t.val % 4] := by decide +kernel
theorem index3 : ∀ t : Fin grid0.N, win0_3.index t = ![t.val / 4, t.val % 4] := by decide +kernel

/-- Where an element of point `t`'s row block, and of its slab's columns, lies in the whole array. -/
abbrev row (t : Fin cfg0.N) (r : Fin 2048) : Fin 4096 :=
  ⟨t.val / 4 * 2048 + r.val, by have := t.isLt; have : cfg0.N = 8 := rfl; omega⟩
abbrev col (t : Fin cfg0.N) (l : Fin 1024) : Fin 4096 := ⟨t.val % 4 * 1024 + l.val, by omega⟩

theorem ct_block (c : Dev nD) (t : Fin cfg0.N) (r : Fin 2048) (k : Fin 1024) :
    iblk m c 0 t (ix2 r k) = aCt m c (ix2 (row t r) k) := by
  unfold iblk
  rw [View.read_apply, ← V_ct m c]
  show V m c main_v8 _ = V m c main_v8 _
  congr 1
  funext a
  apply Fin.ext
  match a with
  | ⟨0, _⟩ => show win0_0.index t 0 * 2048 + 1 * r.val = t.val / 4 * 2048 + r.val; rw [index0]; show t.val / 4 * 2048 + 1 * r.val = _; omega
  | ⟨1, _⟩ => show win0_0.index t 1 * 1024 + 1 * k.val = k.val; rw [index0]; show 0 * 1024 + 1 * k.val = _; omega

theorem w_block (c : Dev nD) (t : Fin cfg0.N) (l k : Fin 1024) :
    iblk m c 1 t (ix3 0 l k) = aDown m c (ix2 (col t l) k) := by
  unfold iblk
  rw [View.read_apply, ← V_w m c ⟨t.val % 4, by omega⟩ l k]
  show V m c main_v7 _ = V m c main_v7 _
  congr 1
  funext a
  apply Fin.ext
  match a with
  | ⟨0, _⟩ => show win0_1.index t 0 * 1 + 1 * 0 = t.val % 4; rw [index1]; show t.val % 4 * 1 + 1 * 0 = _; omega
  | ⟨1, _⟩ => show win0_1.index t 1 * 1024 + 1 * l.val = l.val; rw [index1]; show 0 * 1024 + 1 * l.val = _; omega
  | ⟨2, _⟩ => show win0_1.index t 2 * 1024 + 1 * k.val = k.val; rw [index1]; show 0 * 1024 + 1 * k.val = _; omega

theorem r_block (c : Dev nD) (t : Fin cfg0.N) (r : Fin 2048) (l : Fin 1024) :
    iblk m c 2 t (ix2 r l) = V m c main_v5 (ix2 (row t r) (col t l)) := by
  unfold iblk
  rw [View.read_apply]
  show V m c main_v5 _ = V m c main_v5 _
  congr 1
  funext a
  apply Fin.ext
  match a with
  | ⟨0, _⟩ => show win0_2.index t 0 * 2048 + 1 * r.val = t.val / 4 * 2048 + r.val; rw [index2]; show t.val / 4 * 2048 + 1 * r.val = _; omega
  | ⟨1, _⟩ => show win0_2.index t 1 * 1024 + 1 * l.val = t.val % 4 * 1024 + l.val; rw [index2]; show t.val % 4 * 1024 + 1 * l.val = _; omega

theorem out_index (t : Fin cfg0.N) (r : Fin 2048) (l : Fin 1024) :
    ((cfg0.win 3).blk t).view.emb (ix2 r l) = ix2 (row t r) (col t l) := by
  funext a
  apply Fin.ext
  match a with
  | ⟨0, _⟩ => show win0_3.index t 0 * 2048 + 1 * r.val = t.val / 4 * 2048 + r.val; rw [index3]; show t.val / 4 * 2048 + 1 * r.val = _; omega
  | ⟨1, _⟩ => show win0_3.index t 1 * 1024 + 1 * l.val = t.val % 4 * 1024 + l.val; rw [index3]; show t.val % 4 * 1024 + 1 * l.val = _; omega

/-- Point `t` writes its block of the gradient. -/
theorem flushed_eq (c : Dev nD) (t : Fin cfg0.N) :
    (dats m 0 c).flushed 3 t = ((cfg0.win 3).blk t).view.read (Elt Ideal) (grad (aH m c) (aUp m c) (aDown m c) (aCt m c)) := by
  rw [Value.flushed3, out_eq]
  funext y
  obtain ⟨r, l, rfl⟩ : ∃ (r : Fin 2048) (l : Fin 1024), y = ix2 r l := ⟨y 0, y 1, (ix2_eta y).symm⟩
  rw [Pipeline.Window.cut_apply, View.read_apply, out_index]
  show k0_pay1 (iblk m c 0 t) (iblk m c 1 t) (iblk m c 2 t) (ix2 r l) = grad (aH m c) (aUp m c) (aDown m c) (aCt m c) (ix2 (row t r) (col t l))
  rw [block_apply, r_block, V_r]
  simp only [ct_block, w_block]
  rfl

/-- The blocks fill the array: index `i` lies in the block of point `4 (i₀ / 2048) + i₁ / 1024`. -/
theorem covered (i : S4096x4096.Idx) : ∃ t : Fin cfg0.N, (cfg0.win 3).flush t = true ∧ i ∈ ((cfg0.win 3).blk t).view.set := by
  have h0 : (i 0).val < 4096 := (i 0).isLt
  have h1 : (i 1).val < 4096 := (i 1).isLt
  have hN : (i 0).val / 2048 * 4 + (i 1).val / 1024 < cfg0.N := by have : cfg0.N = 8 := rfl; omega
  refine ⟨⟨_, hN⟩, flush0_3 _, ?_⟩
  show i ∈ ((View.whole main_v9).slice (win0_3.rect ⟨_, hN⟩)).set
  rw [View.set_slice_whole, Rect.mem_set_unit]
  have e := index3 ⟨_, hN⟩
  intro a
  match a with
  | ⟨0, _⟩ =>
    show win0_3.index ⟨_, hN⟩ 0 * 2048 ≤ (i 0).val ∧ (i 0).val < win0_3.index ⟨_, hN⟩ 0 * 2048 + 2048
    rw [e]; show ((i 0).val / 2048 * 4 + (i 1).val / 1024) / 4 * 2048 ≤ (i 0).val ∧ (i 0).val < ((i 0).val / 2048 * 4 + (i 1).val / 1024) / 4 * 2048 + 2048
    omega
  | ⟨1, _⟩ =>
    show win0_3.index ⟨_, hN⟩ 1 * 1024 ≤ (i 1).val ∧ (i 1).val < win0_3.index ⟨_, hN⟩ 1 * 1024 + 1024
    rw [e]; show ((i 0).val / 2048 * 4 + (i 1).val / 1024) % 4 * 1024 ≤ (i 1).val ∧ (i 1).val < ((i 0).val / 2048 * 4 + (i 1).val / 1024) % 4 * 1024 + 1024
    omega

/-- After the run the result array is the gradient. -/
theorem final_eq (c : Dev nD) : (dats m 0 c).arrAt 3 cfg0.N = grad (aH m c) (aUp m c) (aDown m c) (aCt m c) :=
  Dat.arrAt_eq_of_cover (dats m 0 c) 3 _ (fun t _ => flushed_eq m c t) covered

end Cert.FfnDownKernelIdeal.Hand

/-! ## The reference -/

namespace Cert.FfnDownReferenceIdeal.Hand

open Cert.FfnDownReferenceIdeal

/-- Zero where the product is not positive, `g · (2 · max(a, 0))` elsewhere: the same as `g · (2 · max(a, 0))` throughout. -/
theorem select_relu (a g : EReal) :
    (if (0 : EReal) < a then g * (Ideal.ofBits .f32 0x40000000#32 * max a 0) else 0) = g * (Ideal.ofBits .f32 0x40000000#32 * max a 0) := by
  split
  · rfl
  · next h => rw [max_eq_right (not_lt.mp h), mul_zero, mul_zero]

/-- The derivative, read at an index. -/
theorem ref_eq (h : Vec Ideal S4096x1024 .f32) (wu : Vec Ideal S1024x4096 .f32) (wd ct : Vec Ideal S4096x1024 .f32) :
    Read.val_main_v13 (F := Ideal) h wu wd ct = Cert.FfnDownKernelIdeal.Hand.grad h wu wd ct := by
  funext i
  obtain ⟨r, l, rfl⟩ : ∃ (r l : Fin 4096), i = ix2 r l := ⟨i 0, i 1, (ix2_eta i).symm⟩
  rw [← Read.val_main_v13_eq]
  pointwise [Cert.FfnDownKernelIdeal.Hand.grad]
  exact select_relu _ _

end Cert.FfnDownReferenceIdeal.Hand

end
-- ==== Proof.FlashRun.lean ====
module

public import proofs.«01_k».proof.Proof.Gen.FlashKernelIdeal.Frame
public import proofs.«01_k».proof.Proof.Gen.FlashKernelIdeal.Points
public import proofs.«01_k».proof.Proof.Gen.FlashKernelIdeal.Loops
public import Idealize.ShloMosaic.Lib.VecWindow
public import Idealize.ShloMosaic.Init

/-! # The attention's backward call: what one block of rows adds

The kernel goes over the blocks of 512 rows of one head's queries.  `stepU` and `stepM` say what one block adds
to the three accumulators (the queries' gradient `D`, the keys' `K`, the values' `W`), as functions of the
contents; `loopInv` takes the loop over pairs of blocks through them. -/

@[expose] public section

set_option maxRecDepth 16384

noncomputable section

namespace Cert.FlashKernelIdeal.Hand

open Cert.FlashKernelIdeal Cert.FlashKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F] [Named F]

local notation "𝕄" => MT nD τ sig Unit (Elt F) ℕ (UR sig nD τ) ℕ

/-! ## The offsets in closed form -/

theorem trips2 : ∀ i : grid0.Coords, (k0_t2_loop i).trips = 0 := by decide +kernel
theorem trips1 : ∀ i : grid0.Coords, (k0_t1_loop i).trips = (6 - (i 1).val) / 2 := by decide +kernel
theorem off10 : ∀ (i : grid0.Coords) (k : Fin (k0_t1_loop i).trips), k0_off10 i k = ![512 * ((i 1).val + 2 + 2 * k.val), 0] := by decide +kernel
theorem off11 : ∀ (i : grid0.Coords) (k : Fin (k0_t1_loop i).trips), k0_off11 i k = ![512 * ((i 1).val + 2 + 2 * k.val), 0] := by decide +kernel
theorem off12 : ∀ (i : grid0.Coords) (k : Fin (k0_t1_loop i).trips), k0_off12 i k = ![512 * ((i 1).val + 2 + 2 * k.val) + 512, 0] := by decide +kernel
theorem off13 : ∀ (i : grid0.Coords) (k : Fin (k0_t1_loop i).trips), k0_off13 i k = ![512 * ((i 1).val + 2 + 2 * k.val) + 512, 0] := by decide +kernel
theorem off14 : ∀ (i : grid0.Coords) (k : Fin (k0_t1_loop i).trips), k0_off14 i k = ![0, 0, 512 * ((i 1).val + 2 + 2 * k.val)] := by decide +kernel
theorem off15 : ∀ (i : grid0.Coords) (k : Fin (k0_t1_loop i).trips), k0_off15 i k = ![0, 0, 512 * ((i 1).val + 2 + 2 * k.val) + 512] := by decide +kernel
instance (i : grid0.Coords) (k : Fin (k0_t1_loop i).trips) : ClosedOff (k0_off10 i k) := ⟨_, off10 i k⟩
instance (i : grid0.Coords) (k : Fin (k0_t1_loop i).trips) : ClosedOff (k0_off11 i k) := ⟨_, off11 i k⟩
instance (i : grid0.Coords) (k : Fin (k0_t1_loop i).trips) : ClosedOff (k0_off12 i k) := ⟨_, off12 i k⟩
instance (i : grid0.Coords) (k : Fin (k0_t1_loop i).trips) : ClosedOff (k0_off13 i k) := ⟨_, off13 i k⟩
instance (i : grid0.Coords) (k : Fin (k0_t1_loop i).trips) : ClosedOff (k0_off14 i k) := ⟨_, off14 i k⟩
instance (i : grid0.Coords) (k : Fin (k0_t1_loop i).trips) : ClosedOff (k0_off15 i k) := ⟨_, off15 i k⟩

/-! ## One block of rows -/

/-- The three accumulators: the queries' gradient, the keys' and the values'. -/
abbrev St (F : FTy → Type) := Vec F S4096x256 .f32 × Vec F S512x256 .f32 × Vec F S512x128 .f32

/-- What one grid point reads: a head's queries, the cotangent, the rows' log-sums and the rows' sums, and one
    block of keys and values with its rotated keys. -/
structure Ops (F : FTy → Type) where
  q : Vec F S4096x256 .bf16
  dO : Vec F S4096x128 .bf16
  lse : Vec F S1x1x4096 .f32
  dl : Vec F S1x1x4096 .f32
  kv : FVec F S512x256 .bf16
  kr : FVec F S512x128 .bf16

theorem inb2 (b : ℕ) {n : ℕ} : ∀ a : Fin 2, (![512 * (b % 8), 0] : Fin 2 → ℕ) a + (![512, n] : Fin 2 → ℕ) a ≤ (![4096, n] : Fin 2 → ℕ) a := by
  intro a; match a with
  | ⟨0, _⟩ => show 512 * (b % 8) + 512 ≤ 4096; omega
  | ⟨1, _⟩ => show 0 + n ≤ n; omega

theorem inb3 (b : ℕ) : ∀ a : Fin 3, (![0, 0, 512 * (b % 8)] : Fin 3 → ℕ) a + (![1, 1, 512] : Fin 3 → ℕ) a ≤ (![1, 1, 4096] : Fin 3 → ℕ) a := by
  intro a; match a with
  | ⟨0, _⟩ => show 0 + 1 ≤ 1; omega
  | ⟨1, _⟩ => show 0 + 1 ≤ 1; omega
  | ⟨2, _⟩ => show 512 * (b % 8) + 512 ≤ 4096; omega

namespace Ops
variable (o : Ops F) (b : ℕ)
def qb : Vec F S512x256 .bf16 := window o.q ![512 * (b % 8), 0] S512x256.size (inb2 b)
def dob : Vec F S512x128 .bf16 := window o.dO ![512 * (b % 8), 0] S512x128.size (inb2 b)
def lseb : Vec F S1x1x512 .f32 := window o.lse ![0, 0, 512 * (b % 8)] S1x1x512.size (inb3 b)
def dlb : Vec F S1x1x512 .f32 := window o.dl ![0, 0, 512 * (b % 8)] S1x1x512.size (inb3 b)
end Ops

/-- A block of rows below the diagonal: every row of queries sees every key of the block. -/
def stepU (o : Ops F) (b : ℕ) (s : St F) : St F :=
  (put s.1 ![512 * (b % 8), 0] S512x256.size
    (k0_pay22 (k0_pay10 o.kv o.kr) (k0_pay11 o.kv (o.dob b)) (k0_pay17 o.kv o.kr (o.qb b) (o.lseb b)) (o.dlb b)
      (window s.1 ![512 * (b % 8), 0] S512x256.size (inb2 b))),
   k0_pay21 (k0_pay8 (o.qb b)) (k0_pay11 o.kv (o.dob b)) (k0_pay17 o.kv o.kr (o.qb b) (o.lseb b)) (o.dlb b) s.2.1,
   k0_pay19 (k0_pay18 o.kv o.kr (o.qb b) (o.dob b) (o.lseb b) s.2.2))

/-- The loop over pairs of blocks from block `lo` on: the accumulators after `n` trips. -/
def loopSt (o : Ops F) (lo : ℕ) : ℕ → St F → St F
  | 0, s => s
  | n + 1, s => stepU o (lo + 2 * n + 1) (stepU o (lo + 2 * n) (loopSt o lo n s))

/-- A whole load after a whole store reads what was stored. -/
theorem whole256 (m : Memref sig .tc .vmem S512x256 .f32) (inb inb' w L) :
    m.view.readCov (Val := Elt F) (⟨Rect.unit ![0, 0] ![512, 256] inb', w⟩ :: L) (Rect.unit ![0, 0] ![512, 256] inb).toLoadRect = w :=
  View.readCov_full m.view inb inb' w L
theorem whole128 (m : Memref sig .tc .vmem S512x128 .f32) (inb inb' w L) :
    m.view.readCov (Val := Elt F) (⟨Rect.unit ![0, 0] ![512, 128] inb', w⟩ :: L) (Rect.unit ![0, 0] ![512, 128] inb).toLoadRect = w :=
  View.readCov_full m.view inb inb' w L
theorem load256 {e : EltTy} (m : Memref sig .tc .vmem S512x256 e) (inb f) :
    m.view.readAt (Elt F) (Rect.unit ![0, 0] ![512, 256] inb).toLoadRect f = m.view.read (Elt F) f :=
  View.readAt_full m.view f inb
theorem load128 {e : EltTy} (m : Memref sig .tc .vmem S512x128 e) (inb f) :
    m.view.readAt (Elt F) (Rect.unit ![0, 0] ![512, 128] inb).toLoadRect f = m.view.read (Elt F) f :=
  View.readAt_full m.view f inb

section
variable (c : Dev nD) (i : grid0.Coords) (arg2 : Memref sig .tc .vmem S4096x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S4096x256 .f32) (harg8 : arg8.IsWhole) (arg9 : Memref sig .tc .vmem S512x256 .bf16) (harg9 : arg9.IsWhole) (arg10 : Memref sig .tc .vmem S512x128 .f32) (harg10 : arg10.IsWhole) (arg11 : Memref sig .tc .vmem S512x256 .f32) (harg11 : arg11.IsWhole) (arg12 : Memref sig .tc .vmem S512x128 .f32) (harg12 : arg12.IsWhole)
  (v11 : Vec F S512x256 .bf16) (v13 : Vec F S512x128 .bf16) (k0_h3 : k0_cond3 i = 1#1) (v133 : BitVec 32)
  (f2 : arg2.view.ty.Contents (Elt F)) (f5 : arg5.view.ty.Contents (Elt F)) (f6 : arg6.view.ty.Contents (Elt F)) (f7 : arg7.view.ty.Contents (Elt F))
  (D0 : Vec F S4096x256 .f32) (K0 : Vec F S512x256 .f32) (W0 : Vec F S512x128 .f32)

/-- What the loop reads, off the buffers' contents. -/
abbrev opsOf : Ops F := ⟨arg2.view.read (Elt F) f2, arg5.view.read (Elt F) f5, arg6.view.read (Elt F) f6, arg7.view.read (Elt F) f7, k0_pay72 v11, k0_pay73 v13⟩

/-- Before trip `k`: the inputs as they were, the accumulators after `k` trips. -/
abbrev inv (k : ℕ) (_ : Unit) : sProp 𝕄 :=
  iprop((arg2.view.loc (c : Thread nD τ) ↦[arg2.view.set]{fullShare} f2)
    ∗ (arg5.view.loc (c : Thread nD τ) ↦[arg5.view.set]{fullShare} f5)
    ∗ (arg6.view.loc (c : Thread nD τ) ↦[arg6.view.set]{fullShare} f6)
    ∗ (arg7.view.loc (c : Thread nD τ) ↦[arg7.view.set]{fullShare} f7)
    ∗ (∃ f, (arg8.view.loc (c : Thread nD τ) ↦[arg8.view.set]{fullShare} f)
        ∗ ⌜arg8.view.read (Elt F) f = (loopSt (opsOf arg2 arg5 arg6 arg7 v11 v13 f2 f5 f6 f7) ((i 1).val + 2) k (D0, K0, W0)).1⌝)
    ∗ (∃ f, (arg11.view.loc (c : Thread nD τ) ↦[arg11.view.set]{fullShare} f)
        ∗ ⌜arg11.view.read (Elt F) f = (loopSt (opsOf arg2 arg5 arg6 arg7 v11 v13 f2 f5 f6 f7) ((i 1).val + 2) k (D0, K0, W0)).2.1⌝)
    ∗ (∃ f, (arg12.view.loc (c : Thread nD τ) ↦[arg12.view.set]{fullShare} f)
        ∗ ⌜arg12.view.read (Elt F) f = (loopSt (opsOf arg2 arg5 arg6 arg7 v11 v13 f2 f5 f6 f7) ((i 1).val + 2) k (D0, K0, W0)).2.2⌝))

theorem trip (k : Fin (k0_t1_loop i).trips) (acc : Unit) :
    inv c i arg2 arg5 arg6 arg7 arg8 arg11 arg12 v11 v13 f2 f5 f6 f7 D0 K0 W0 k.val acc
      ⊢ wp frame (wpE (defs₀ (F := F)) Variants.none (c : Thread nD τ) none) Set.univ
          (k0_t1_body i arg2 harg2 arg3 harg3 arg4 harg4 arg5 harg5 arg6 harg6 arg7 harg7 arg8 harg8 arg9 harg9 arg10 harg10 arg11 harg11 arg12 harg12 v11 v13 k0_h3 v133 k acc)
          (inv c i arg2 arg5 arg6 arg7 arg8 arg11 arg12 v11 v13 f2 f5 f6 f7 D0 K0 W0 (k.val + 1)) := by
  unfold k0_t1_body
  simp only [k0_part2_eq_skeleton, k0_part3_eq_skeleton]
  iintro ⟨H2, H5, H6, H7, ⟨%f8, H8, %h8⟩, ⟨%f11, H11, %h11⟩, ⟨%f12, H12, %h12⟩⟩
  sl_exec_parts
  sl_step
  have hk : (i 1).val + 2 + 2 * k.val + 1 < 8 := by have h := lt_of_lt_of_eq k.isLt (trips1 i); omega
  have m0 : 512 * ((i 1).val + 2 + 2 * k.val) = 512 * (((i 1).val + 2 + 2 * k.val) % 8) := by omega
  have m1 : 512 * ((i 1).val + 2 + 2 * k.val) + 512 = 512 * (((i 1).val + 2 + 2 * k.val + 1) % 8) := by omega
  have e10 := (off10 i k).trans (by rw [m0])
  have e11 := (off11 i k).trans (by rw [m0])
  have e14 := (off14 i k).trans (by rw [m0])
  have e12 := (off12 i k).trans (by rw [m1])
  have e13 := (off13 i k).trans (by rw [m1])
  have e15 := (off15 i k).trans (by rw [m1])
  have q0 : ∀ inb, View.readAt (Elt F) arg2.view (Rect.unit (k0_off10 i k) ![512, 256] inb).toLoadRect f2 = (opsOf arg2 arg5 arg6 arg7 v11 v13 f2 f5 f6 f7).qb ((i 1).val + 2 + 2 * k.val) := fun inb => View.readAt_unit _ _ inb e10 _
  have q1 : ∀ inb, View.readAt (Elt F) arg2.view (Rect.unit (k0_off12 i k) ![512, 256] inb).toLoadRect f2 = (opsOf arg2 arg5 arg6 arg7 v11 v13 f2 f5 f6 f7).qb ((i 1).val + 2 + 2 * k.val + 1) := fun inb => View.readAt_unit _ _ inb e12 _
  have d0 : ∀ inb, View.readAt (Elt F) arg5.view (Rect.unit (k0_off11 i k) ![512, 128] inb).toLoadRect f5 = (opsOf arg2 arg5 arg6 arg7 v11 v13 f2 f5 f6 f7).dob ((i 1).val + 2 + 2 * k.val) := fun inb => View.readAt_unit _ _ inb e11 _
  have d1 : ∀ inb, View.readAt (Elt F) arg5.view (Rect.unit (k0_off13 i k) ![512, 128] inb).toLoadRect f5 = (opsOf arg2 arg5 arg6 arg7 v11 v13 f2 f5 f6 f7).dob ((i 1).val + 2 + 2 * k.val + 1) := fun inb => View.readAt_unit _ _ inb e13 _
  have l0 : ∀ inb, View.readAt (Elt F) arg6.view (Rect.unit (k0_off14 i k) ![1, 1, 512] inb).toLoadRect f6 = (opsOf arg2 arg5 arg6 arg7 v11 v13 f2 f5 f6 f7).lseb ((i 1).val + 2 + 2 * k.val) := fun inb => View.readAt_unit _ _ inb e14 _
  have l1 : ∀ inb, View.readAt (Elt F) arg6.view (Rect.unit (k0_off15 i k) ![1, 1, 512] inb).toLoadRect f6 = (opsOf arg2 arg5 arg6 arg7 v11 v13 f2 f5 f6 f7).lseb ((i 1).val + 2 + 2 * k.val + 1) := fun inb => View.readAt_unit _ _ inb e15 _
  have t0 : ∀ inb, View.readAt (Elt F) arg7.view (Rect.unit (k0_off14 i k) ![1, 1, 512] inb).toLoadRect f7 = (opsOf arg2 arg5 arg6 arg7 v11 v13 f2 f5 f6 f7).dlb ((i 1).val + 2 + 2 * k.val) := fun inb => View.readAt_unit _ _ inb e14 _
  have t1 : ∀ inb, View.readAt (Elt F) arg7.view (Rect.unit (k0_off15 i k) ![1, 1, 512] inb).toLoadRect f7 = (opsOf arg2 arg5 arg6 arg7 v11 v13 f2 f5 f6 f7).dlb ((i 1).val + 2 + 2 * k.val + 1) := fun inb => View.readAt_unit _ _ inb e15 _
  isplitl [H2]; · iexact H2
  isplitl [H5]; · iexact H5
  isplitl [H6]; · iexact H6
  isplitl [H7]; · iexact H7
  isplitl [H8]
  · iexists _; isplitl [H8]; · iexact H8
    ipureintro
    rw [View.read_writes_cons_put _ _ _ _ _ e12, View.read_writes_cons_put _ _ _ _ _ e10, View.writes_nil, h8]
    sl_unfold_run_names
    have w0 : ∀ inb, View.readAt (Elt F) arg8.view (Rect.unit (k0_off10 i k) ![512, 256] inb).toLoadRect f8 = window (loopSt (opsOf arg2 arg5 arg6 arg7 v11 v13 f2 f5 f6 f7) ((i 1).val + 2) k.val (D0, K0, W0)).1 ![512 * (((i 1).val + 2 + 2 * k.val) % 8), 0] ![512, 256] (inb2 _) := fun inb => (View.readAt_unit _ _ inb e10 (inb2 _)).trans (by rw [h8])
    have w1 : ∀ inb w, View.readAt (Elt F) arg8.view (Rect.unit (k0_off12 i k) ![512, 256] inb).toLoadRect f8 = window (put (loopSt (opsOf arg2 arg5 arg6 arg7 v11 v13 f2 f5 f6 f7) ((i 1).val + 2) k.val (D0, K0, W0)).1 ![512 * (((i 1).val + 2 + 2 * k.val) % 8), 0] ![512, 256] w) ![512 * (((i 1).val + 2 + 2 * k.val + 1) % 8), 0] ![512, 256] (inb2 _) := fun inb w => (View.readAt_unit _ _ inb e12 (inb2 _)).trans (by
      rw [h8]
      exact (VecWindow.window_put_of_disjoint _ _ _ _ _ _ _ 0 (Or.inr (by
        show 512 * (((i 1).val + 2 + 2 * k.val) % 8) + 512 ≤ 512 * (((i 1).val + 2 + 2 * k.val + 1) % 8)
        omega))).symm)
    simp only [q0, q1, d0, d1, l0, l1, t0, t1, w0]
    rw [w1]
    rfl
  isplitl [H11]
  · iexists _; isplitl [H11]; · iexact H11
    ipureintro
    rw [View.read_writes_full]
    sl_unfold_run_names
    simp only [q0, q1, d0, d1, l0, l1, t0, t1]
    rw [whole256, load256, h11]
    rfl
  · iexists _; isplitl [H12]; · iexact H12
    ipureintro
    rw [View.read_writes_full]
    sl_unfold_run_names
    simp only [q0, q1, d0, d1, l0, l1, t0, t1]
    rw [whole128, load128, h12]
    rfl

/-- A buffer's contents before trip `k`: what the loop found, then the values the trips before left. -/
def cont {s : Shape} {e : EltTy} (m : Memref sig .tc .vmem s e) (g : m.view.ty.Contents (Elt F)) (x : ℕ → Vec F s e) : ℕ → m.view.ty.Contents (Elt F)
  | 0 => g
  | k + 1 => m.view.rep (x (k + 1))

theorem read_cont {s : Shape} {e : EltTy} (m : Memref sig .tc .vmem s e) (g : m.view.ty.Contents (Elt F)) (x : ℕ → Vec F s e)
    (h : m.view.read (Elt F) g = x 0) (k : ℕ) : m.view.read (Elt F) (cont m g x k) = x k := by
  cases k with
  | zero => exact h
  | succ k => exact View.read_rep _ _

variable (g8 : arg8.view.ty.Contents (Elt F)) (g11 : arg11.view.ty.Contents (Elt F)) (g12 : arg12.view.ty.Contents (Elt F))

/-- The accumulators after `k` trips, from what the buffers hold at the loop's entry. -/
abbrev stAt (k : ℕ) : St F :=
  loopSt (opsOf arg2 arg5 arg6 arg7 v11 v13 f2 f5 f6 f7) ((i 1).val + 2) k (arg8.view.read (Elt F) g8, arg11.view.read (Elt F) g11, arg12.view.read (Elt F) g12)

set_option warn.classDefReducibility false in
/-- The loop over pairs of blocks. -/
@[sl_loop] def loopInv1 :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 v11 v13 k0_h3 v133 where
  inv k _ := iprop((arg2.view.loc (c : Thread nD τ) ↦[arg2.view.set]{fullShare} f2)
    ∗ (arg5.view.loc (c : Thread nD τ) ↦[arg5.view.set]{fullShare} f5)
    ∗ (arg6.view.loc (c : Thread nD τ) ↦[arg6.view.set]{fullShare} f6)
    ∗ (arg7.view.loc (c : Thread nD τ) ↦[arg7.view.set]{fullShare} f7)
    ∗ (arg8.view.loc (c : Thread nD τ) ↦[arg8.view.set]{fullShare} cont arg8 g8 (fun k => (stAt i arg2 arg5 arg6 arg7 arg8 arg11 arg12 v11 v13 f2 f5 f6 f7 g8 g11 g12 k).1) k)
    ∗ (arg11.view.loc (c : Thread nD τ) ↦[arg11.view.set]{fullShare} cont arg11 g11 (fun k => (stAt i arg2 arg5 arg6 arg7 arg8 arg11 arg12 v11 v13 f2 f5 f6 f7 g8 g11 g12 k).2.1) k)
    ∗ (arg12.view.loc (c : Thread nD τ) ↦[arg12.view.set]{fullShare} cont arg12 g12 (fun k => (stAt i arg2 arg5 arg6 arg7 arg8 arg11 arg12 v11 v13 f2 f5 f6 f7 g8 g11 g12 k).2.2) k))
  step k acc := by
    iintro ⟨H2, H5, H6, H7, H8, H11, H12⟩
    iapply (wp_wand_r Idealize.ShloMosaic.frame (wpE (defs₀ (F := F)) Variants.none (c : Thread nD τ) none) Set.univ)
    isplitl [H2 H5 H6 H7 H8 H11 H12]
    · iapply (trip c i arg2 harg2 arg3 harg3 arg4 harg4 arg5 harg5 arg6 harg6 arg7 harg7 arg8 harg8 arg9 harg9 arg10 harg10 arg11 harg11 arg12 harg12 v11 v13 k0_h3 v133 f2 f5 f6 f7 (arg8.view.read (Elt F) g8) (arg11.view.read (Elt F) g11) (arg12.view.read (Elt F) g12) k acc)
      isplitl [H2]; · iexact H2
      isplitl [H5]; · iexact H5
      isplitl [H6]; · iexact H6
      isplitl [H7]; · iexact H7
      isplitl [H8]
      · iexists _; isplitl [H8]; · iexact H8
        ipureintro; exact read_cont arg8 g8 _ rfl k.val
      isplitl [H11]
      · iexists _; isplitl [H11]; · iexact H11
        ipureintro; exact read_cont arg11 g11 _ rfl k.val
      · iexists _; isplitl [H12]; · iexact H12
        ipureintro; exact read_cont arg12 g12 _ rfl k.val
    · iintro %_ ⟨H2, H5, H6, H7, ⟨%f8, H8, %h8⟩, ⟨%f11, H11, %h11⟩, ⟨%f12, H12, %h12⟩⟩
      isplitl [H2]; · iexact H2
      isplitl [H5]; · iexact H5
      isplitl [H6]; · iexact H6
      isplitl [H7]; · iexact H7
      isplitl [H8]
      · iapply (pointsTo_rep_of_read (c : Thread nD τ) arg8 f8 fullShare _ h8); iexact H8
      isplitl [H11]
      · iapply (pointsTo_rep_of_read (c : Thread nD τ) arg11 f11 fullShare _ h11); iexact H11
      · iapply (pointsTo_rep_of_read (c : Thread nD τ) arg12 f12 fullShare _ h12); iexact H12
end

end Cert.FlashKernelIdeal.Hand
-- ==== Proof.FlashBody.lean ====
module

public import proofs.«01_k».proof.Proof.FlashRun

/-! # The attention's backward call: what one grid point leaves

A point takes one block of keys and goes over the blocks of queries from its own on: the first under the causal
mask, the others whole. -/

@[expose] public section

set_option maxRecDepth 16384

noncomputable section

namespace Cert.FlashKernelIdeal.Hand

open Cert.FlashKernelIdeal Cert.FlashKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F] [Named F]

local notation "𝕄" => MT nD τ sig Unit (Elt F) ℕ (UR sig nD τ) ℕ

theorem cond1_iff : ∀ i : grid0.Coords, k0_cond1 i = 1#1 ↔ (i 1).val = 0 := by decide +kernel
theorem cond2_iff : ∀ i : grid0.Coords, k0_cond2 i = 1#1 ↔ (i 1).val = 7 := by decide +kernel
theorem cond3_iff : ∀ i : grid0.Coords, k0_cond3 i = 1#1 ↔ (i 1).val < 7 := by decide +kernel
theorem cond4_iff : ∀ i : grid0.Coords, k0_cond4 i = 1#1 ↔ (i 1).val % 2 = 1 := by decide +kernel

theorem off1 : ∀ i : grid0.Coords, (i 1).val = 7 → k0_off1 i = ![512 * ((i 1).val % 8), 0] := by decide +kernel
theorem off2 : ∀ i : grid0.Coords, (i 1).val = 7 → k0_off2 i = ![512 * ((i 1).val % 8), 0] := by decide +kernel
theorem off3 : ∀ i : grid0.Coords, (i 1).val = 7 → k0_off3 i = ![0, 0, 512 * ((i 1).val % 8)] := by decide +kernel
theorem off4 : ∀ i : grid0.Coords, k0_off4 i = ![512 * ((i 1).val % 8), 0] := by decide +kernel
theorem off5 : ∀ i : grid0.Coords, k0_off5 i = ![512 * ((i 1).val % 8), 0] := by decide +kernel
theorem off6 : ∀ i : grid0.Coords, (i 1).val < 7 → k0_off6 i = ![512 * (((i 1).val + 1) % 8), 0] := by decide +kernel
theorem off7 : ∀ i : grid0.Coords, (i 1).val < 7 → k0_off7 i = ![512 * (((i 1).val + 1) % 8), 0] := by decide +kernel
theorem off8 : ∀ i : grid0.Coords, k0_off8 i = ![0, 0, 512 * ((i 1).val % 8)] := by decide +kernel
theorem off9 : ∀ i : grid0.Coords, (i 1).val < 7 → k0_off9 i = ![0, 0, 512 * (((i 1).val + 1) % 8)] := by decide +kernel

/-- The block of rows on the diagonal: a row of queries sees the keys up to its own. -/
def stepM (o : Ops F) (b : ℕ) (s : St F) : St F :=
  (put s.1 ![512 * (b % 8), 0] S512x256.size
    (k0_pay22 (k0_pay10 o.kv o.kr) (k0_pay11 o.kv (o.dob b)) (k0_pay5 o.kv o.kr (o.qb b) (o.lseb b)) (o.dlb b)
      (window s.1 ![512 * (b % 8), 0] S512x256.size (inb2 b))),
   k0_pay21 (k0_pay8 (o.qb b)) (k0_pay11 o.kv (o.dob b)) (k0_pay5 o.kv o.kr (o.qb b) (o.lseb b)) (o.dlb b) s.2.1,
   k0_pay6 o.kv o.kr (o.qb b) (o.dob b) (o.lseb b) s.2.2)

/-- The blocks from `lo` on, `n` of them. -/
def stepsU (o : Ops F) (lo : ℕ) : ℕ → St F → St F
  | 0, s => s
  | n + 1, s => stepU o (lo + n) (stepsU o lo n s)

theorem loopSt_eq (o : Ops F) (lo : ℕ) (n : ℕ) (s : St F) : loopSt o lo n s = stepsU o lo (2 * n) s := by
  induction n with
  | zero => rfl
  | succ n ih =>
    show stepU o (lo + 2 * n + 1) (stepU o (lo + 2 * n) (loopSt o lo n s)) = stepU o (lo + (2 * n + 1)) (stepU o (lo + 2 * n) (stepsU o lo (2 * n) s))
    rw [ih, Nat.add_assoc]

theorem stepsU_succ (o : Ops F) (lo n : ℕ) (s : St F) : stepsU o lo (n + 1) s = stepsU o (lo + 1) n (stepU o lo s) := by
  induction n with
  | zero => rfl
  | succ n ih =>
    show stepU o (lo + (n + 1)) (stepsU o lo (n + 1) s) = stepU o (lo + 1 + n) (stepsU o (lo + 1) n (stepU o lo s))
    rw [ih, show lo + (n + 1) = lo + 1 + n by omega]

/-- What the point of keys' block `b` leaves: the accumulators of keys and values start from nothing, the block on
    the diagonal comes first, then all the blocks of queries after it. -/
def pointSt (o : Ops F) (b : ℕ) (D : Vec F S4096x256 .f32) : St F :=
  stepsU o (b + 1) (7 - b) (stepM o b (D, k0_pay70, k0_pay71))

theorem loop_even (o : Ops F) (b : ℕ) (hb : b < 7) (h : b % 2 = 0) (s : St F) :
    loopSt o (b + 2) ((6 - b) / 2) (stepU o (b + 1) s) = stepsU o (b + 1) (7 - b) s := by
  rw [loopSt_eq, show 7 - b = 2 * ((6 - b) / 2) + 1 by omega, stepsU_succ]

theorem loop_odd (o : Ops F) (b : ℕ) (hb : b < 7) (h : b % 2 = 1) (s : St F) :
    stepU o 7 (loopSt o (b + 2) ((6 - b) / 2) (stepU o (b + 1) s)) = stepsU o (b + 1) (7 - b) s := by
  rw [loopSt_eq, show 7 - b = (2 * ((6 - b) / 2) + 1) + 1 by omega, ← stepsU_succ]
  show _ = stepU o _ _
  rw [show b + 1 + (2 * ((6 - b) / 2) + 1) = 7 by omega]

section
variable (c : Dev nD) (i : grid0.Coords) (arg2 : Memref sig .tc .vmem S4096x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S4096x256 .f32) (harg8 : arg8.IsWhole) (arg9 : Memref sig .tc .vmem S512x256 .bf16) (harg9 : arg9.IsWhole) (arg10 : Memref sig .tc .vmem S512x128 .f32) (harg10 : arg10.IsWhole) (arg11 : Memref sig .tc .vmem S512x256 .f32) (harg11 : arg11.IsWhole) (arg12 : Memref sig .tc .vmem S512x128 .f32) (harg12 : arg12.IsWhole)
  (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F))
  (f8 : arg8.view.ty.Contents (Elt F)) (f9 : arg9.view.ty.Contents (Elt F)) (f10 : arg10.view.ty.Contents (Elt F)) (f11 : arg11.view.ty.Contents (Elt F)) (f12 : arg12.view.ty.Contents (Elt F))

/-- What a point reads, off its buffers. -/
abbrev ptOps : Ops F := ⟨arg2.view.read (Elt F) f2, arg5.view.read (Elt F) f5, arg6.view.read (Elt F) f6, arg7.view.read (Elt F) f7, k0_pay72 (arg3.view.read (Elt F) f3), k0_pay73 (arg4.view.read (Elt F) f4)⟩

theorem opsOf_load (inb3 inb4) : opsOf arg2 arg5 arg6 arg7 (arg3.view.readAt (Elt F) (Rect.unit ![0, 0] ![512, 256] inb3).toLoadRect f3) (arg4.view.readAt (Elt F) (Rect.unit ![0, 0] ![512, 128] inb4).toLoadRect f4) f2 f5 f6 f7
    = ptOps arg2 arg3 arg4 arg5 arg6 arg7 f2 f3 f4 f5 f6 f7 := by rw [load256, load128]

/-- The queries' gradient as the point takes it up: from nothing at a head's first block of keys. -/
def dq0 (D : Vec F S4096x256 .f32) : Vec F S4096x256 .f32 := if (i 1).val = 0 then k0_pay69 else D

/-- What a buffer holds after the point. -/
abbrev leaves {s : Shape} {e : EltTy} (m : Memref sig .tc .vmem s e) (x : Vec F s e) : sProp 𝕄 :=
  iprop(∃ f, (m.view.loc (c : Thread nD τ) ↦[m.view.set]{fullShare} f) ∗ ⌜m.view.read (Elt F) f = x⌝)

abbrev pSt : St F := pointSt (ptOps arg2 arg3 arg4 arg5 arg6 arg7 f2 f3 f4 f5 f6 f7) (i 1).val (dq0 i (arg8.view.read (Elt F) f8))

abbrev before : sProp 𝕄 :=
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12))

abbrev after (s : St F) : sProp 𝕄 :=
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7)
      ∗ leaves c arg8 s.1 ∗ leaves c arg9 (k0_pay87 s.2.1 s.2.2) ∗ leaves c arg10 (k0_pay1 (k0_pay86 s.2.1)) ∗ (∃ f, (arg11.view.loc (c : Thread nD τ) ↦[arg11.view.set]{fullShare} f)) ∗ (∃ f, (arg12.view.loc (c : Thread nD τ) ↦[arg12.view.set]{fullShare} f)))

theorem cut {P Q : sProp 𝕄} : iprop(P ∗ (P -∗ Q)) ⊢ Q := wand_elim_right

set_option maxHeartbeats 2000000 in
theorem point :
    before c arg2 arg3 arg4 arg5 arg6 arg7 arg8 arg9 arg10 arg11 arg12 f2 f3 f4 f5 f6 f7 f8 f9 f10 f11 f12
      ⊢ wp frame (wpE (defs₀ (F := F)) Variants.none (c : Thread nD τ) none) Set.univ (cc0_flash_bwd i arg2 harg2 arg3 harg3 arg4 harg4 arg5 harg5 arg6 harg6 arg7 harg7 arg8 harg8 arg9 harg9 arg10 harg10 arg11 harg11 arg12 harg12)
          (fun _ => after c arg2 arg3 arg4 arg5 arg6 arg7 arg8 arg9 arg10 arg11 arg12 f2 f3 f4 f5 f6 f7 (pSt i arg2 arg3 arg4 arg5 arg6 arg7 arg8 f2 f3 f4 f5 f6 f7 f8)) := by
  have htr := trips2 i
  simp only [cc0_flash_bwd_eq_skeleton]; unfold cc0_flash_bwd_skel
  simp only [k0_part10_eq_skeleton]; unfold k0_part10_skel
  simp only [k0_part1_eq_skeleton, k0_part6_eq_skeleton, k0_part7_eq_skeleton, k0_part8_eq_skeleton, k0_part9_eq_skeleton]
  iintro ⟨H2, H3, H4, H5, H6, H7, H8, H9, H10, H11, H12⟩
  obtain ⟨D, hD⟩ : ∃ D, D = dq0 i (arg8.view.read (Elt F) f8) := ⟨_, rfl⟩
  simp only [pSt]
  rw [← hD]
  by_cases hc1 : k0_cond1 i = 1#1
  on_goal 1 =>
    sl_exec (disch := sl_exact hc1)
    iapply (cut (P := leaves c arg8 D))
    isplitl [H8]
    · iexists _; isplitl [H8]; · iexact H8
      ipureintro
      rw [View.read_writes_full, hD, dq0, if_pos ((cond1_iff i).mp hc1)]
  on_goal 2 =>
    sl_exec (disch := sl_exact hc1)
    iapply (cut (P := leaves c arg8 D))
    isplitl [H8]
    · iexists _; isplitl [H8]; · iexact H8
      ipureintro
      rw [hD, dq0, if_neg (fun h => hc1 ((cond1_iff i).mpr h))]
  all_goals
    iintro ⟨%g8, H8, %h8⟩
    by_cases hb : (i 1).val < 7
    · have hc3 := (cond3_iff i).mpr hb
      have hc2 : ¬ k0_cond2 i = 1#1 := fun h => by have := (cond2_iff i).mp h; omega
      sl_exec (disch := first | sl_exact hc2 | sl_exact hc3)
      have e4 := off4 i
      have e5 := off5 i
      have e6 := off6 i hb
      have e7 := off7 i hb
      have e8 := off8 i
      have e9 := off9 i hb
      have q0 : ∀ inb, View.readAt (Elt F) arg2.view (Rect.unit (k0_off4 i) ![512, 256] inb).toLoadRect f2 = (ptOps arg2 arg3 arg4 arg5 arg6 arg7 f2 f3 f4 f5 f6 f7).qb (i 1).val := fun inb => View.readAt_unit _ _ inb e4 _
      have q1 : ∀ inb, View.readAt (Elt F) arg2.view (Rect.unit (k0_off6 i) ![512, 256] inb).toLoadRect f2 = (ptOps arg2 arg3 arg4 arg5 arg6 arg7 f2 f3 f4 f5 f6 f7).qb ((i 1).val + 1) := fun inb => View.readAt_unit _ _ inb e6 _
      have d0 : ∀ inb, View.readAt (Elt F) arg5.view (Rect.unit (k0_off5 i) ![512, 128] inb).toLoadRect f5 = (ptOps arg2 arg3 arg4 arg5 arg6 arg7 f2 f3 f4 f5 f6 f7).dob (i 1).val := fun inb => View.readAt_unit _ _ inb e5 _
      have d1 : ∀ inb, View.readAt (Elt F) arg5.view (Rect.unit (k0_off7 i) ![512, 128] inb).toLoadRect f5 = (ptOps arg2 arg3 arg4 arg5 arg6 arg7 f2 f3 f4 f5 f6 f7).dob ((i 1).val + 1) := fun inb => View.readAt_unit _ _ inb e7 _
      have l0 : ∀ inb, View.readAt (Elt F) arg6.view (Rect.unit (k0_off8 i) ![1, 1, 512] inb).toLoadRect f6 = (ptOps arg2 arg3 arg4 arg5 arg6 arg7 f2 f3 f4 f5 f6 f7).lseb (i 1).val := fun inb => View.readAt_unit _ _ inb e8 _
      have l1 : ∀ inb, View.readAt (Elt F) arg6.view (Rect.unit (k0_off9 i) ![1, 1, 512] inb).toLoadRect f6 = (ptOps arg2 arg3 arg4 arg5 arg6 arg7 f2 f3 f4 f5 f6 f7).lseb ((i 1).val + 1) := fun inb => View.readAt_unit _ _ inb e9 _
      have t0 : ∀ inb, View.readAt (Elt F) arg7.view (Rect.unit (k0_off8 i) ![1, 1, 512] inb).toLoadRect f7 = (ptOps arg2 arg3 arg4 arg5 arg6 arg7 f2 f3 f4 f5 f6 f7).dlb (i 1).val := fun inb => View.readAt_unit _ _ inb e8 _
      have t1 : ∀ inb, View.readAt (Elt F) arg7.view (Rect.unit (k0_off9 i) ![1, 1, 512] inb).toLoadRect f7 = (ptOps arg2 arg3 arg4 arg5 arg6 arg7 f2 f3 f4 f5 f6 f7).dlb ((i 1).val + 1) := fun inb => View.readAt_unit _ _ inb e9 _
      obtain ⟨S, hS⟩ : ∃ S, S = stepU (ptOps arg2 arg3 arg4 arg5 arg6 arg7 f2 f3 f4 f5 f6 f7) ((i 1).val + 1) (stepM (ptOps arg2 arg3 arg4 arg5 arg6 arg7 f2 f3 f4 f5 f6 f7) (i 1).val (D, k0_pay70, k0_pay71)) := ⟨_, rfl⟩
      iapply (cut (P := iprop(leaves c arg8 S.1 ∗ leaves c arg11 S.2.1 ∗ leaves c arg12 S.2.2)))
      isplitl [H8 H11 H12]
      · isplitl [H8]
        · iexists _; isplitl [H8]; · iexact H8
          ipureintro
          rw [View.read_writes_cons_put _ _ _ _ _ e6, View.read_writes_cons_put _ _ _ _ _ e4, View.writes_nil, h8]
          sl_unfold_run_names
          have w0 : ∀ inb, View.readAt (Elt F) arg8.view (Rect.unit (k0_off4 i) ![512, 256] inb).toLoadRect g8 = window D ![512 * ((i 1).val % 8), 0] ![512, 256] (inb2 _) := fun inb => (View.readAt_unit _ _ inb e4 (inb2 _)).trans (by rw [h8])
          have w1 : ∀ inb w, View.readAt (Elt F) arg8.view (Rect.unit (k0_off6 i) ![512, 256] inb).toLoadRect g8 = window (put D ![512 * ((i 1).val % 8), 0] ![512, 256] w) ![512 * (((i 1).val + 1) % 8), 0] ![512, 256] (inb2 _) := fun inb w => (View.readAt_unit _ _ inb e6 (inb2 _)).trans (by
            rw [h8]
            exact (VecWindow.window_put_of_disjoint _ _ _ _ _ _ _ 0 (Or.inr (by
              show 512 * ((i 1).val % 8) + 512 ≤ 512 * (((i 1).val + 1) % 8)
              omega))).symm)
          simp only [q0, q1, d0, d1, l0, l1, t0, t1, w0, load256, load128]
          rw [w1, hS]
          rfl
        isplitl [H11]
        · iexists _; isplitl [H11]; · iexact H11
          ipureintro
          rw [View.read_writes_full]
          sl_unfold_run_names
          simp only [q0, q1, d0, d1, l0, l1, t0, t1, load256, load128, whole256]
          rw [hS]
          rfl
        · iexists _; isplitl [H12]; · iexact H12
          ipureintro
          rw [View.read_writes_full]
          sl_unfold_run_names
          simp only [q0, q1, d0, d1, l0, l1, t0, t1, load256, load128, whole128]
          rw [hS]
          rfl
      iintro ⟨⟨%y8, H8, %h8'⟩, ⟨%y11, H11, %h11⟩, ⟨%y12, H12, %h12⟩⟩
      rw [Prog.bind_assoc]
      sl_exec
      have hL : ∀ inb3 inb4, stAt i arg2 arg5 arg6 arg7 arg8 arg11 arg12 (arg3.view.readAt (Elt F) (Rect.unit ![0, 0] ![512, 256] inb3).toLoadRect f3) (arg4.view.readAt (Elt F) (Rect.unit ![0, 0] ![512, 128] inb4).toLoadRect f4) f2 f5 f6 f7 y8 y11 y12 (k0_t1_loop i).trips
          = loopSt (ptOps arg2 arg3 arg4 arg5 arg6 arg7 f2 f3 f4 f5 f6 f7) ((i 1).val + 2) ((6 - (i 1).val) / 2) S := fun inb3 inb4 => by
        show loopSt (opsOf arg2 arg5 arg6 arg7 _ _ f2 f5 f6 f7) _ _ (_, _, _) = _
        rw [opsOf_load, h8', h11, h12, trips1 i]
      obtain ⟨L, hL'⟩ : ∃ L, L = loopSt (ptOps arg2 arg3 arg4 arg5 arg6 arg7 f2 f3 f4 f5 f6 f7) ((i 1).val + 2) ((6 - (i 1).val) / 2) S := ⟨_, rfl⟩
      iapply (cut (P := iprop(leaves c arg8 L.1 ∗ leaves c arg11 L.2.1 ∗ leaves c arg12 L.2.2)))
      isplitl [H8 H11 H12]
      · isplitl [H8]
        · iexists _; isplitl [H8]; · iexact H8
          ipureintro
          refine (read_cont arg8 y8 _ ?_ _).trans ?_
          · rfl
          rw [hL']
          exact congrArg (fun s : St F => s.1) (hL _ _)
        isplitl [H11]
        · iexists _; isplitl [H11]; · iexact H11
          ipureintro
          refine (read_cont arg11 y11 _ ?_ _).trans ?_
          · rfl
          rw [hL']
          exact congrArg (fun s : St F => s.2.1) (hL _ _)
        · iexists _; isplitl [H12]; · iexact H12
          ipureintro
          refine (read_cont arg12 y12 _ ?_ _).trans ?_
          · rfl
          rw [hL']
          exact congrArg (fun s : St F => s.2.2) (hL _ _)
      iintro ⟨⟨%z8, H8, %h8''⟩, ⟨%z11, H11, %h11'⟩, ⟨%z12, H12, %h12'⟩⟩
      rw [Prog.bind_assoc]
      by_cases hc4 : k0_cond4 i = 1#1
      · have hE : stepU (ptOps arg2 arg3 arg4 arg5 arg6 arg7 f2 f3 f4 f5 f6 f7) 7 L = pointSt (ptOps arg2 arg3 arg4 arg5 arg6 arg7 f2 f3 f4 f5 f6 f7) (i 1).val D := by
          rw [hL', hS]
          exact loop_odd _ _ hb ((cond4_iff i).mp hc4) _
        have u2 : (![3584, 0] : Fin 2 → ℕ) = ![512 * (7 % 8), 0] := rfl
        have u3 : (![0, 0, 3584] : Fin 3 → ℕ) = ![0, 0, 512 * (7 % 8)] := rfl
        have q7 : ∀ inb, View.readAt (Elt F) arg2.view (Rect.unit ![3584, 0] ![512, 256] inb).toLoadRect f2 = (ptOps arg2 arg3 arg4 arg5 arg6 arg7 f2 f3 f4 f5 f6 f7).qb 7 := fun inb => View.readAt_unit _ _ inb u2 _
        have d7 : ∀ inb, View.readAt (Elt F) arg5.view (Rect.unit ![3584, 0] ![512, 128] inb).toLoadRect f5 = (ptOps arg2 arg3 arg4 arg5 arg6 arg7 f2 f3 f4 f5 f6 f7).dob 7 := fun inb => View.readAt_unit _ _ inb u2 _
        have l7 : ∀ inb, View.readAt (Elt F) arg6.view (Rect.unit ![0, 0, 3584] ![1, 1, 512] inb).toLoadRect f6 = (ptOps arg2 arg3 arg4 arg5 arg6 arg7 f2 f3 f4 f5 f6 f7).lseb 7 := fun inb => View.readAt_unit _ _ inb u3 _
        have t7 : ∀ inb, View.readAt (Elt F) arg7.view (Rect.unit ![0, 0, 3584] ![1, 1, 512] inb).toLoadRect f7 = (ptOps arg2 arg3 arg4 arg5 arg6 arg7 f2 f3 f4 f5 f6 f7).dlb 7 := fun inb => View.readAt_unit _ _ inb u3 _
        have w7 : ∀ inb, View.readAt (Elt F) arg8.view (Rect.unit ![3584, 0] ![512, 256] inb).toLoadRect z8 = window L.1 ![512 * (7 % 8), 0] ![512, 256] (inb2 7) := fun inb => (View.readAt_unit _ _ inb u2 (inb2 7)).trans (by rw [h8''])
        sl_exec (disch := sl_exact hc4)
        sl_step
        rw [← hE]
        isplitl [H2]; · iexact H2
        isplitl [H3]; · iexact H3
        isplitl [H4]; · iexact H4
        isplitl [H5]; · iexact H5
        isplitl [H6]; · iexact H6
        isplitl [H7]; · iexact H7
        isplitl [H8]
        · iexists _; isplitl [H8]; · iexact H8
          ipureintro
          rw [View.read_writes_cons_put _ _ _ _ _ u2, View.writes_nil, h8'']
          sl_unfold_run_names
          simp only [q7, d7, l7, t7, w7, load256, load128]
          rfl
        isplitl [H9]
        · iexists _; isplitl [H9]; · iexact H9
          ipureintro
          rw [View.read_writes_full]
          sl_unfold_run_names
          simp only [q7, d7, l7, t7, w7, load256, load128, whole256, whole128, h11', h12']
          rfl
        isplitl [H10]
        · iexists _; isplitl [H10]; · iexact H10
          ipureintro
          rw [View.read_writes_full]
          sl_unfold_run_names
          simp only [q7, d7, l7, t7, w7, load256, load128, whole256, whole128, h11', h12']
          rfl
        isplitl [H11]
        · iexists _; iexact H11
        · iexists _; iexact H12
      · have hE : L = pointSt (ptOps arg2 arg3 arg4 arg5 arg6 arg7 f2 f3 f4 f5 f6 f7) (i 1).val D := by
          rw [hL', hS]
          exact loop_even _ _ hb (by have : ¬ (i 1).val % 2 = 1 := fun h => hc4 ((cond4_iff i).mpr h); omega) _
        sl_exec (disch := sl_exact hc4)
        sl_step
        rw [← hE]
        isplitl [H2]; · iexact H2
        isplitl [H3]; · iexact H3
        isplitl [H4]; · iexact H4
        isplitl [H5]; · iexact H5
        isplitl [H6]; · iexact H6
        isplitl [H7]; · iexact H7
        isplitl [H8]
        · iexists _; isplitl [H8]; · iexact H8
          ipureintro
          exact h8''
        isplitl [H9]
        · iexists _; isplitl [H9]; · iexact H9
          ipureintro
          rw [View.read_writes_full]
          sl_unfold_run_names
          simp only [load256, load128, h11', h12']
        isplitl [H10]
        · iexists _; isplitl [H10]; · iexact H10
          ipureintro
          rw [View.read_writes_full]
          sl_unfold_run_names
          simp only [load256, load128, h11', h12']
        isplitl [H11]
        · iexists _; iexact H11
        · iexists _; iexact H12
    · have h7 : (i 1).val = 7 := by have h8 : (i 1).val < 8 := (i 1).isLt; omega
      have hc3 : ¬ k0_cond3 i = 1#1 := fun h => hb ((cond3_iff i).mp h)
      have hc2 := (cond2_iff i).mpr h7
      have e1 := off1 i h7
      have e2 := off2 i h7
      have e3 := off3 i h7
      have q0 : ∀ inb, View.readAt (Elt F) arg2.view (Rect.unit (k0_off1 i) ![512, 256] inb).toLoadRect f2 = (ptOps arg2 arg3 arg4 arg5 arg6 arg7 f2 f3 f4 f5 f6 f7).qb (i 1).val := fun inb => View.readAt_unit _ _ inb e1 _
      have d0 : ∀ inb, View.readAt (Elt F) arg5.view (Rect.unit (k0_off2 i) ![512, 128] inb).toLoadRect f5 = (ptOps arg2 arg3 arg4 arg5 arg6 arg7 f2 f3 f4 f5 f6 f7).dob (i 1).val := fun inb => View.readAt_unit _ _ inb e2 _
      have l0 : ∀ inb, View.readAt (Elt F) arg6.view (Rect.unit (k0_off3 i) ![1, 1, 512] inb).toLoadRect f6 = (ptOps arg2 arg3 arg4 arg5 arg6 arg7 f2 f3 f4 f5 f6 f7).lseb (i 1).val := fun inb => View.readAt_unit _ _ inb e3 _
      have t0 : ∀ inb, View.readAt (Elt F) arg7.view (Rect.unit (k0_off3 i) ![1, 1, 512] inb).toLoadRect f7 = (ptOps arg2 arg3 arg4 arg5 arg6 arg7 f2 f3 f4 f5 f6 f7).dlb (i 1).val := fun inb => View.readAt_unit _ _ inb e3 _
      have w0 : ∀ inb, View.readAt (Elt F) arg8.view (Rect.unit (k0_off1 i) ![512, 256] inb).toLoadRect g8 = window D ![512 * ((i 1).val % 8), 0] ![512, 256] (inb2 _) := fun inb => (View.readAt_unit _ _ inb e1 (inb2 _)).trans (by rw [h8])
      have hE : stepM (ptOps arg2 arg3 arg4 arg5 arg6 arg7 f2 f3 f4 f5 f6 f7) (i 1).val (D, k0_pay70, k0_pay71) = pointSt (ptOps arg2 arg3 arg4 arg5 arg6 arg7 f2 f3 f4 f5 f6 f7) (i 1).val D := by
        rw [pointSt, show 7 - (i 1).val = 0 by omega]; rfl
      sl_exec (disch := first | sl_exact hc2 | sl_exact hc3)
      sl_step
      rw [← hE]
      isplitl [H2]; · iexact H2
      isplitl [H3]; · iexact H3
      isplitl [H4]; · iexact H4
      isplitl [H5]; · iexact H5
      isplitl [H6]; · iexact H6
      isplitl [H7]; · iexact H7
      isplitl [H8]
      · iexists _; isplitl [H8]; · iexact H8
        ipureintro
        rw [View.read_writes_cons_put _ _ _ _ _ e1, View.writes_nil, h8]
        sl_unfold_run_names
        simp only [q0, d0, l0, t0, w0, load256, load128]
        rfl
      isplitl [H9]
      · iexists _; isplitl [H9]; · iexact H9
        ipureintro
        rw [View.read_writes_full]
        sl_unfold_run_names
        simp only [q0, d0, l0, t0, load256, load128, whole256, whole128]
        rfl
      isplitl [H10]
      · iexists _; isplitl [H10]; · iexact H10
        ipureintro
        rw [View.read_writes_full]
        sl_unfold_run_names
        simp only [q0, d0, l0, t0, load256, load128, whole256, whole128]
        rfl
      isplitl [H11]
      · iexists _; iexact H11
      · iexists _; iexact H12
end

end Cert.FlashKernelIdeal.Hand
-- ==== Proof.FlashFrame.lean ====
module

public import proofs.«01_k».proof.Proof.FlashBody
public import proofs.«01_k».proof.Proof.Gen.FlashKernelIdeal.Frame
public import Idealize.ShloMosaic.Lib.Claim

/-! # The attention's backward call: the launch

The queries' gradient stays in its buffer while the point goes over a head's blocks of keys; every point leaves its own
block of keys and values. With the body's triple the pipeline's launch gives the frame, and what the arrays hold. -/

@[expose] public section

set_option maxRecDepth 16384

noncomputable section

namespace Cert.FlashKernelIdeal.Hand

open Cert.FlashKernelIdeal Cert.FlashKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]
variable (m : (ℓ : Loc nD τ sig) → Buf (Elt F) ℓ) (ρ : Dev nD → PrngReg)

local notation "𝕄" => MT nD τ sig Unit (Elt F) ℕ (UR sig nD τ) ℕ

/-! ## Point by point -/

/-- What point `t` reads: its windows' blocks. -/
def pt (c : Dev nD) (t : Fin cfg0.N) : Ops F :=
  ⟨iblk m c 0 t, iblk m c 3 t, iblk m c 4 t, iblk m c 5 t, k0_pay72 (iblk m c 1 t), k0_pay73 (iblk m c 2 t)⟩

theorem key : ∀ t : Fin cfg0.N, (grid0.coords t 1).val = t.val % 8 := by decide +kernel

/-- The accumulators after point `n`. -/
def stN (c : Dev nD) : (n : ℕ) → n < cfg0.N → St F
  | 0, hn => pointSt (pt m c ⟨0, hn⟩) (grid0.coords ⟨0, hn⟩ 1).val k0_pay69
  | n + 1, hn => pointSt (pt m c ⟨n + 1, hn⟩) (grid0.coords ⟨n + 1, hn⟩ 1).val
      (dq0 (grid0.coords ⟨n + 1, hn⟩) (stN c n (Nat.lt_of_succ_lt hn)).1)

theorem stN_eq (c : Dev nD) (t : Fin cfg0.N) (D : Vec F S4096x256 .f32)
    (h : ∀ h0 : ¬ t.val % 8 = 0, D = (stN m c (t.val - 1) (Nat.lt_of_le_of_lt (Nat.sub_le _ _) t.isLt)).1) :
    stN m c t.val t.isLt = pointSt (pt m c t) (grid0.coords t 1).val (dq0 (grid0.coords t) D) := by
  have hk := key t
  obtain ⟨n, hn⟩ := t
  cases n with
  | zero =>
    have e : dq0 (grid0.coords ⟨0, hn⟩) D = k0_pay69 := if_pos (by rw [hk]; rfl)
    rw [e]; rfl
  | succ n =>
    by_cases h0 : (n + 1) % 8 = 0
    · have e : ∀ X : Vec F S4096x256 .f32, dq0 (grid0.coords ⟨n + 1, hn⟩) X = k0_pay69 := fun X => if_pos (by rw [hk]; exact h0)
      show pointSt _ _ (dq0 _ _) = _
      rw [e, e]
    · rw [h h0]; rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (stN m c t.val t.isLt).1
    | ⟨7, _⟩ => k0_pay87 (stN m c t.val t.isLt).2.1 (stN m c t.val t.isLt).2.2
    | ⟨8, _⟩ => k0_pay1 (k0_pay86 (stN m c t.val t.isLt).2.1)
  Φ _ := Pipeline.ΦA spec0 c
  q _ := fullShare
  owed _ := 0

theorem A_eq (c : Dev nD) (w : Fin cfg0.W) : (dats m 0 c).A w = V m c (Pipeline.arrRef spec0 w) := by
  dsimp only [dats]

section
variable (c : Dev nD) (t : Fin cfg0.N)
theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = iblk m c 5 t := by dsimp only [dats]
theorem after_6 : (dats m 0 c).after 6 t = (stN m c t.val t.isLt).1 := by dsimp only [dats]
theorem after_7 : (dats m 0 c).after 7 t = k0_pay87 (stN m c t.val t.isLt).2.1 (stN m c t.val t.isLt).2.2 := by dsimp only [dats]
theorem after_8 : (dats m 0 c).after 8 t = k0_pay1 (k0_pay86 (stN m c t.val t.isLt).2.1) := by dsimp only [dats]
theorem before_0 (d) : (dats m 0 c).before 0 t d = iblk m c 0 t := before0_0_of m (dats m 0 c) (A_eq m c 0) (after_0 m c) t d
theorem before_1 (d) : (dats m 0 c).before 1 t d = iblk m c 1 t := before0_1_of m (dats m 0 c) (A_eq m c 1) (after_1 m c) t d
theorem before_2 (d) : (dats m 0 c).before 2 t d = iblk m c 2 t := before0_2_of m (dats m 0 c) (A_eq m c 2) (after_2 m c) t d
theorem before_3 (d) : (dats m 0 c).before 3 t d = iblk m c 3 t := before0_3_of m (dats m 0 c) (A_eq m c 3) (after_3 m c) t d
theorem before_4 (d) : (dats m 0 c).before 4 t d = iblk m c 4 t := before0_4_of m (dats m 0 c) (A_eq m c 4) (after_4 m c) t d
theorem before_5 (d) : (dats m 0 c).before 5 t d = iblk m c 5 t := before0_5_of m (dats m 0 c) (A_eq m c 5) (after_5 m c) t d

theorem live6 : ∀ i : grid0.Coords, idle0 6 i = false := by decide +kernel

/-- Inside a head the buffer holds the queries' gradient as the point before left it. -/
theorem before_6 (h0 : ¬ t.val % 8 = 0) (d) :
    (dats m 0 c).before 6 t d = (stN m c (t.val - 1) (Nat.lt_of_le_of_lt (Nat.sub_le _ _) t.isLt)).1 := by
  have hN : t.val < 64 := lt_of_lt_of_eq t.isLt (show cfg0.N = 64 from N_0)
  rw [Dat.before_out_kept (dats m 0 c) 6 rfl t (by omega) (Bool.eq_false_iff.mpr fun h => by have := (flush0_6 _).mp h; dsimp only at this; omega)
    (fun j => live6 j) (fun _ _ => rfl)]
  dsimp only [dats]
end

/-! ## The body obligation -/

abbrev ms_0 (t : Fin cfg0.N) := win0_0.stage (cfg0.slots t 0)
abbrev ms_1 (t : Fin cfg0.N) := win0_1.stage (cfg0.slots t 1)
abbrev ms_2 (t : Fin cfg0.N) := win0_2.stage (cfg0.slots t 2)
abbrev ms_3 (t : Fin cfg0.N) := win0_3.stage (cfg0.slots t 3)
abbrev ms_4 (t : Fin cfg0.N) := win0_4.stage (cfg0.slots t 4)
abbrev ms_5 (t : Fin cfg0.N) := win0_5.stage (cfg0.slots t 5)
abbrev ms_6 (t : Fin cfg0.N) := win0_6.stage (cfg0.slots t 6)
abbrev ms_7 (t : Fin cfg0.N) := win0_7.stage (cfg0.slots t 7)
abbrev ms_8 (t : Fin cfg0.N) := win0_8.stage (cfg0.slots t 8)
abbrev scr0 : Memref sig .tc .vmem S512x256 .f32 := Memref.whole cc0_scratch0
abbrev scr1 : Memref sig .tc .vmem S512x128 .f32 := Memref.whole cc0_scratch1

theorem Phi_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ owns (c : Thread nD τ) (ms_7 t) fullShare ((dats m 0 c).after 7 t)
    ∗ owns (c : Thread nD τ) (ms_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  rw [show (dats m 0 c).Φ t.castSucc = Pipeline.ΦA spec0 c from rfl, Phi_eq]
  unfold owns
  iintro ⟨⟨⟨⟨%s0, %f11, %hf11, HS0⟩, ⟨%s1, %f12, %hf12, HS1⟩⟩, Hg⟩, Ho, ⟨%d0, %f2, %h2, H0⟩, ⟨%d1, %f3, %h3, H1⟩, ⟨%d2, %f4, %h4, H2⟩, ⟨%d3, %f5, %h5, H3⟩, ⟨%d4, %f6, %h6, H4⟩, ⟨%d5, %f7, %h7, H5⟩, ⟨%d6, %f8, %h8, H6⟩, ⟨%d7, %f9, %h9, H7⟩, ⟨%d8, %f10, %h10, H8⟩⟩
  have hst : stN m c t.val t.isLt = pSt (grid0.coords t) (ms_0 t) (ms_1 t) (ms_2 t) (ms_3 t) (ms_4 t) (ms_5 t) (ms_6 t) f2 f3 f4 f5 f6 f7 f8 := by
    rw [stN_eq m c t ((ms_6 t).view.read (Elt F) f8) (fun h0 => h8.trans (before_6 m c t h0 d6))]
    show pointSt _ _ _ = pointSt ⟨_, _, _, _, k0_pay72 _, k0_pay73 _⟩ _ _
    rw [h2, h3, h4, h5, h6, h7]
    rfl
  iapply (wp_wand_r frame (wpE (defs₀ (F := F)) Variants.none (c : Thread nD τ) none) Set.univ)
  isplitl [H0 H1 H2 H3 H4 H5 H6 H7 H8 HS0 HS1]
  · iapply (point c (grid0.coords t) _ _ _ _ _ _ _ _ _ _ _ _ _ _ _ _ _ _ _ _ _ _ f2 f3 f4 f5 f6 f7 f8 f9 f10 f11 f12)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    iexact HS1
  iintro %_ ⟨H0, H1, H2, H3, H4, H5, ⟨%e6, H6, %he6⟩, ⟨%e7, H7, %he7⟩, ⟨%e8, H8, %he8⟩, ⟨%g0, HS0⟩, ⟨%g1, HS1⟩⟩
  isplitl [HS0 HS1 Hg]
  · isplitl [HS0 HS1]
    · isplitl [HS0]
      · iexists _; iexists _; isplitr
        swap; · iexact HS0
        ipureintro; rfl
      iexists _; iexists _; isplitr
      swap; · iexact HS1
      ipureintro; rfl
    iexact Hg
  isplitl [Ho]; · iexact Ho
  isplitl [H0]
  · iexists _; isplitr
    swap; · iexact H0
    ipureintro; exact h2
  isplitl [H1]
  · iexists _; isplitr
    swap; · iexact H1
    ipureintro; exact h3
  isplitl [H2]
  · iexists _; isplitr
    swap; · iexact H2
    ipureintro; exact h4
  isplitl [H3]
  · iexists _; isplitr
    swap; · iexact H3
    ipureintro; exact h5
  isplitl [H4]
  · iexists _; isplitr
    swap; · iexact H4
    ipureintro; exact h6
  isplitl [H5]
  · iexists _; isplitr
    swap; · iexact H5
    ipureintro; exact h7
  isplitl [H6]
  · iexists _; isplitr
    swap; · iexact H6
    ipureintro; rw [hst]; exact he6
  isplitl [H7]
  · iexists _; isplitr
    swap; · iexact H7
    ipureintro; rw [hst]; exact he7
  iexists _; isplitr
  swap; · iexact H8
  ipureintro; rw [hst]; exact he8

theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row, show cfg0.idle 6 (cfg0.grid.coords t) = false from live6 _]
  exact triple_restated (sound_body m c t) rfl .rfl fun _ => .rfl

/-! ## The run and the frame -/

set_option backward.isDefEq.respectTransparency.types false in
/-- Every execution ends, with every array of the pipeline at what the points leave, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.FlashKernelIdeal.Hand
-- ==== Proof.FlashBits.lean ====
module

public import proofs.«01_k».proof.Proof.FlashFrame
public import proofs.«01_k».proof.Proof.Gen.FlashKernel.Frame
public import Idealize.ShloMosaic.PureOps.BitExact

/-! # The attention's backward call at the machine's words

The printed kernel and its ideal text differ in one constant, which the ideal text gives by name. With that name read as
the printed word, they are one program, and the run over any float values is its run too. -/

@[expose] public section

set_option maxRecDepth 16384

noncomputable section

namespace Cert.FlashKernel.Hand

open Idealize.ShloMosaic

/-- Every named constant read as the word that stands beside its name. -/
abbrev words : Named Bits := ⟨fun _ _ _ b => FloatOps.ofBits _ b⟩

/-- The kernel as printed leaves its arguments and its semaphores as it found them. -/
theorem frame (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (by sl_kernel_rfl : θ_run (@Cert.FlashKernelIdeal.defs Bits _ words _)
    (onTc (τ := Cert.FlashKernelIdeal.τ) (@Cert.FlashKernelIdeal.main Bits _ _)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) = _).mp (@Cert.FlashKernelIdeal.Hand.frame Bits _ words m ρ)

end Cert.FlashKernel.Hand
-- ==== Proof.FlashPoint.lean ====
module

public import proofs.«01_k».proof.Proof.FlashFrame
public import Idealize.ShloMosaic.Lib.Pointwise
public import Idealize.ShloMosaic.Lib.ValueIdx
public import Idealize.ShloMosaic.Lib.WordCmp

/-! # The attention's backward call: one grid point, entry by entry

A point of block `b` of keys has, for each of its keys and each row of queries, a weight (a power of two of the score
minus the row's log-sum, the score being −∞ where the row comes before the key) and a gradient of the score. What the
point leaves in its three buffers are sums of these over the rows, or over the keys of the block. -/

@[expose] public section

set_option maxRecDepth 16384

noncomputable section

namespace Cert.FlashKernelIdeal.Hand

open Cert.FlashKernelIdeal Cert.FlashKernelIdeal.Gen
open Idealize.ShloMosaic Idealize.ShloMosaic.TcCoe Idealize.ShloMosaic.Tactic Idealize.ShloMosaic.VecWindow

section Payloads
variable (kv : FVec Ideal S512x256 .bf16) (kr : FVec Ideal S512x128 .bf16) (q : Vec Ideal S512x256 .bf16) (dO : Vec Ideal S512x128 .bf16)
  (l dl : Vec Ideal S1x1x512 .f32) (A B : FVec Ideal S512x512 .f32)

theorem keys_apply (k : Fin 512) (d : Fin 256) :
    k0_pay10 kv kr (ix2 k d) = if h : d.val < 128 then kv (ix2 k d) else kr (ix2 k ⟨d.val - 128, by omega⟩) := by
  pointwise [k0_pay10]
theorem keys_eq : k0_pay4 kv kr = k0_pay10 kv kr := rfl
theorem values_apply (k r : Fin 512) : k0_pay11 kv dO (ix2 k r) = ∑ x : Fin 128, kv (ix2 k ⟨128 + x.val, by omega⟩) * dO (ix2 r x) := by
  pointwise [k0_pay11, k0_pay9]
theorem weight_apply (k r : Fin 512) :
    k0_pay17 kv kr q l (ix2 k r) = Ideal.exp2 ((∑ x : Fin 256, k0_pay10 kv kr (ix2 k x) * q (ix2 r x)) - l (ix3 0 0 r)) := by
  pointwise [k0_pay17, k0_pay8]; rfl
theorem masked_apply (k r : Fin 512) :
    k0_pay5 kv kr q l (ix2 k r) = Ideal.exp2 ((if k.val ≤ r.val then ∑ x : Fin 256, k0_pay10 kv kr (ix2 k x) * q (ix2 r x) else ⊥) - l (ix3 0 0 r)) := by
  pointwise [k0_pay5, k0_pay2, keys_eq]
  rw [WordCmp.cmpi_sle_ofNat (by omega) (by omega)]
  by_cases h : k.val ≤ r.val
  · rw [if_pos h, decide_eq_true h]; rfl
  · rw [if_neg h, decide_eq_false h]
    show Ideal.exp2 (Ideal.ofBits .f32 0xFF800000#32 - _) = _
    rw [show Ideal.ofBits .f32 0xFF800000#32 = ⊥ by simp [Ideal.ofBits, Ideal.ieee]]
theorem slope_apply (k r : Fin 512) :
    k0_pay20 A B dl (ix2 k r) = B (ix2 k r) * (A (ix2 k r) - dl (ix3 0 0 r)) * Ideal.ofBits .f32 0x3D93CD3A#32 := by
  pointwise [k0_pay20]
theorem keySum_apply (S : Vec Ideal S512x256 .f32) (k : Fin 512) (d : Fin 256) :
    k0_pay21 q A B dl S (ix2 k d) = S (ix2 k d) + ∑ x : Fin 512, k0_pay20 A B dl (ix2 k x) * q (ix2 x d) := by
  pointwise [k0_pay21]
theorem querySum_apply (S : Vec Ideal S512x256 .f32) (k : Fin 512) (d : Fin 256) :
    k0_pay22 q A B dl S (ix2 k d) = S (ix2 k d) + ∑ x : Fin 512, k0_pay20 A B dl (ix2 x k) * q (ix2 x d) := by
  pointwise [k0_pay22]
theorem valueSum_apply (S : Vec Ideal S512x128 .f32) (k : Fin 512) (d : Fin 128) :
    k0_pay19 (k0_pay18 kv kr q dO l S) (ix2 k d) = S (ix2 k d) + ∑ x : Fin 512, k0_pay17 kv kr q l (ix2 k x) * dO (ix2 x d) := by
  pointwise [k0_pay19, k0_pay18, k0_pay9]
theorem maskedSum_apply (S : Vec Ideal S512x128 .f32) (k : Fin 512) (d : Fin 128) :
    k0_pay6 kv kr q dO l S (ix2 k d) = S (ix2 k d) + ∑ x : Fin 512, k0_pay5 kv kr q l (ix2 k x) * dO (ix2 x d) := by
  pointwise [k0_pay6, k0_pay3]
theorem rows_apply (r : Fin 512) (d : Fin 256) : k0_pay8 q (ix2 r d) = q (ix2 r d) := by pointwise [k0_pay8]
theorem zero70 (k : Fin 512) (d : Fin 256) : k0_pay70 (F := Ideal) (ix2 k d) = 0 := by pointwise [k0_pay70]
theorem zero71 (k : Fin 512) (d : Fin 128) : k0_pay71 (F := Ideal) (ix2 k d) = 0 := by pointwise [k0_pay71]
theorem zero69 (k : Fin 4096) (d : Fin 256) : k0_pay69 (F := Ideal) (ix2 k d) = 0 := by pointwise [k0_pay69]

end Payloads

/-! ## Weights and gradients of the scores -/

/-- Row `r` of block `b` of the queries. -/
def row4 (b : ℕ) (r : Fin 512) : Fin 4096 := ⟨512 * (b % 8) + r.val, by omega⟩

namespace Ops
variable (o : Ops Ideal) (b : ℕ)

/-- A key of the block with its rotated part. -/
def key (k : Fin 512) (d : Fin 256) : EReal := k0_pay10 o.kv o.kr (ix2 k d)
/-- How much row `q` attends to key `k` of block `b`. -/
def wt (k : Fin 512) (q : Fin 4096) : EReal :=
  Ideal.exp2 ((if 512 * b + k.val ≤ q.val then ∑ x : Fin 256, o.key k x * o.q (ix2 q x) else ⊥) - o.lse (ix3 0 0 q))
/-- The gradient of the score of row `q` and key `k`. -/
def gr (k : Fin 512) (q : Fin 4096) : EReal :=
  o.wt b k q * ((∑ x : Fin 128, o.kv (ix2 k ⟨128 + x.val, by omega⟩) * o.dO (ix2 q x)) - o.dl (ix3 0 0 q)) * Ideal.ofBits .f32 0x3D93CD3A#32

theorem qb_apply (r : Fin 512) (x : Fin 256) : o.qb b (ix2 r x) = o.q (ix2 (row4 b r) x) := by
  unfold qb window; congr 1; funext a; refine Fin.ext ?_
  match a with
  | ⟨0, _⟩ => show 512 * (b % 8) + 1 * r.val = 512 * (b % 8) + r.val; omega
  | ⟨1, _⟩ => show 0 + 1 * x.val = x.val; omega
theorem dob_apply (r : Fin 512) (x : Fin 128) : o.dob b (ix2 r x) = o.dO (ix2 (row4 b r) x) := by
  unfold dob window; congr 1; funext a; refine Fin.ext ?_
  match a with
  | ⟨0, _⟩ => show 512 * (b % 8) + 1 * r.val = 512 * (b % 8) + r.val; omega
  | ⟨1, _⟩ => show 0 + 1 * x.val = x.val; omega
theorem lseb_apply (r : Fin 512) : o.lseb b (ix3 0 0 r) = o.lse (ix3 0 0 (row4 b r)) := by
  unfold lseb window; congr 1; funext a; refine Fin.ext ?_
  match a with
  | ⟨0, _⟩ => rfl
  | ⟨1, _⟩ => rfl
  | ⟨2, _⟩ => show 512 * (b % 8) + 1 * r.val = 512 * (b % 8) + r.val; omega
theorem dlb_apply (r : Fin 512) : o.dlb b (ix3 0 0 r) = o.dl (ix3 0 0 (row4 b r)) := by
  unfold dlb window; congr 1; funext a; refine Fin.ext ?_
  match a with
  | ⟨0, _⟩ => rfl
  | ⟨1, _⟩ => rfl
  | ⟨2, _⟩ => show 512 * (b % 8) + 1 * r.val = 512 * (b % 8) + r.val; omega

/-- Below the diagonal the block's weights are the weights: every row sees every key. -/
theorem weight_row (b' : ℕ) (h : b < b') (h' : b' < 8) (k r : Fin 512) :
    k0_pay17 o.kv o.kr (o.qb b') (o.lseb b') (ix2 k r) = o.wt b k (row4 b' r) := by
  rw [weight_apply, lseb_apply]
  unfold wt
  rw [if_pos (by show 512 * b + k.val ≤ 512 * (b' % 8) + r.val; omega)]
  simp only [qb_apply]; rfl

/-- On the diagonal the mask of the block is the mask of the rows. -/
theorem masked_row (h' : b < 8) (k r : Fin 512) :
    k0_pay5 o.kv o.kr (o.qb b) (o.lseb b) (ix2 k r) = o.wt b k (row4 b r) := by
  rw [masked_apply, lseb_apply]
  unfold wt
  have e : (512 * b + k.val ≤ (row4 b r).val) = (k.val ≤ r.val) := by
    show (512 * b + k.val ≤ 512 * (b % 8) + r.val) = _
    rw [Nat.mod_eq_of_lt h', Nat.add_le_add_iff_left]
  simp only [qb_apply, e]; rfl

theorem slope_row (b' : ℕ) (B : FVec Ideal S512x512 .f32) (k r : Fin 512) (hB : B (ix2 k r) = o.wt b k (row4 b' r)) :
    k0_pay20 (k0_pay11 o.kv (o.dob b')) B (o.dlb b') (ix2 k r) = o.gr b k (row4 b' r) := by
  rw [slope_apply, values_apply, hB, dlb_apply]
  simp only [dob_apply]; rfl

end Ops

theorem window_row (x : Vec Ideal S4096x256 .f32) (b : ℕ) (r : Fin 512) (d : Fin 256) :
    window x ![512 * (b % 8), 0] S512x256.size (inb2 b) (ix2 r d) = x (ix2 (row4 b r) d) := by
  unfold window; congr 1; funext a; refine Fin.ext ?_
  match a with
  | ⟨0, _⟩ => show 512 * (b % 8) + 1 * r.val = 512 * (b % 8) + r.val; omega
  | ⟨1, _⟩ => show 0 + 1 * d.val = d.val; omega

theorem put_row (x : Vec Ideal S4096x256 .f32) (w : Vec Ideal S512x256 .f32) (b : ℕ) (h : b < 8) (q : Fin 4096) (d : Fin 256) :
    put x ![512 * (b % 8), 0] S512x256.size w (ix2 q d) = if q.val / 512 = b then w (ix2 ⟨q.val % 512, by omega⟩ d) else x (ix2 q d) := by
  unfold put
  by_cases e : q.val / 512 = b
  · have hall : ∀ a, (![512 * (b % 8), 0] : Fin 2 → ℕ) a ≤ ((ix2 q d : S4096x256.Idx) a).val ∧ ((ix2 q d : S4096x256.Idx) a).val < (![512 * (b % 8), 0] : Fin 2 → ℕ) a + S512x256.size a := by
      intro a
      match a with
      | ⟨0, _⟩ => show 512 * (b % 8) ≤ q.val ∧ q.val < 512 * (b % 8) + 512; omega
      | ⟨1, _⟩ => show 0 ≤ d.val ∧ d.val < 0 + 256; omega
    rw [dif_pos hall, if_pos e]
    congr 1; funext a; refine Fin.ext ?_
    match a with
    | ⟨0, _⟩ => show q.val - 512 * (b % 8) = q.val % 512; omega
    | ⟨1, _⟩ => show d.val - 0 = d.val; omega
  · rw [if_neg e, dif_neg]
    intro hall
    have h0 : 512 * (b % 8) ≤ q.val ∧ q.val < 512 * (b % 8) + 512 := hall 0
    omega

/-! ## One block of rows, and all blocks -/

/-- What one block of rows `b'` does to the accumulators of the keys' block `b`. -/
structure Did (o : Ops Ideal) (b b' : ℕ) (s s' : St Ideal) : Prop where
  D : ∀ q d, s'.1 (ix2 q d) = if q.val / 512 = b' then s.1 (ix2 q d) + ∑ k : Fin 512, o.gr b k q * o.key k d else s.1 (ix2 q d)
  K : ∀ k d, s'.2.1 (ix2 k d) = s.2.1 (ix2 k d) + ∑ r : Fin 512, o.gr b k (row4 b' r) * o.q (ix2 (row4 b' r) d)
  W : ∀ k d, s'.2.2 (ix2 k d) = s.2.2 (ix2 k d) + ∑ r : Fin 512, o.wt b k (row4 b' r) * o.dO (ix2 (row4 b' r) d)

theorem row4_div (q : Fin 4096) (b : ℕ) (h : q.val / 512 = b) : row4 b ⟨q.val % 512, by omega⟩ = q :=
  Fin.ext (by show 512 * (b % 8) + q.val % 512 = q.val; omega)

theorem stepU_did (o : Ops Ideal) (b b' : ℕ) (h : b < b') (h' : b' < 8) (s : St Ideal) : Did o b b' s (stepU o b' s) where
  D q d := by
    unfold stepU
    refine (put_row s.1 _ _ h' q d).trans ?_
    by_cases e : q.val / 512 = b'
    · rw [if_pos e, if_pos e, querySum_apply, window_row, row4_div q b' e]
      congr 1
      refine Finset.sum_congr rfl fun k _ => ?_
      rw [o.slope_row b b' _ k _ (o.weight_row b b' h h' k _), row4_div q b' e]; rfl
    · rw [if_neg e, if_neg e]
  K k d := by
    unfold stepU
    refine (keySum_apply _ _ _ _ _ k d).trans ?_
    congr 1
    refine Finset.sum_congr rfl fun r _ => ?_
    rw [o.slope_row b b' _ k r (o.weight_row b b' h h' k r)]
    rw [rows_apply, o.qb_apply b' r d]
  W k d := by
    unfold stepU
    refine (valueSum_apply _ _ _ _ _ _ k d).trans ?_
    simp only [o.weight_row b b' h h', o.dob_apply]

theorem stepM_did (o : Ops Ideal) (b : ℕ) (h' : b < 8) (s : St Ideal) : Did o b b s (stepM o b s) where
  D q d := by
    unfold stepM
    refine (put_row s.1 _ _ h' q d).trans ?_
    by_cases e : q.val / 512 = b
    · rw [if_pos e, if_pos e, querySum_apply, window_row, row4_div q b e]
      congr 1
      refine Finset.sum_congr rfl fun k _ => ?_
      rw [o.slope_row b b _ k _ (o.masked_row b h' k _), row4_div q b e]; rfl
    · rw [if_neg e, if_neg e]
  K k d := by
    unfold stepM
    refine (keySum_apply _ _ _ _ _ k d).trans ?_
    congr 1
    refine Finset.sum_congr rfl fun r _ => ?_
    rw [o.slope_row b b _ k r (o.masked_row b h' k r)]
    rw [rows_apply, o.qb_apply b r d]
  W k d := by
    unfold stepM
    refine (maskedSum_apply _ _ _ _ _ _ k d).trans ?_
    simp only [o.masked_row b h', o.dob_apply]

/-- The blocks from `b` on, `n + 1` of them, the first one masked. -/
theorem steps_did (o : Ops Ideal) (b n : ℕ) (h : b + n < 8) (s : St Ideal) :
    (∀ q d, (stepsU o (b + 1) n (stepM o b s)).1 (ix2 q d)
      = if b ≤ q.val / 512 ∧ q.val / 512 ≤ b + n then s.1 (ix2 q d) + ∑ k : Fin 512, o.gr b k q * o.key k d else s.1 (ix2 q d))
    ∧ (∀ k d, (stepsU o (b + 1) n (stepM o b s)).2.1 (ix2 k d)
      = s.2.1 (ix2 k d) + ∑ j ∈ Finset.range (n + 1), ∑ r : Fin 512, o.gr b k (row4 (b + j) r) * o.q (ix2 (row4 (b + j) r) d))
    ∧ (∀ k d, (stepsU o (b + 1) n (stepM o b s)).2.2 (ix2 k d)
      = s.2.2 (ix2 k d) + ∑ j ∈ Finset.range (n + 1), ∑ r : Fin 512, o.wt b k (row4 (b + j) r) * o.dO (ix2 (row4 (b + j) r) d)) := by
  induction n with
  | zero =>
    have := stepM_did o b (by omega) s
    refine ⟨fun q d => ?_, fun k d => ?_, fun k d => ?_⟩
    · rw [show stepsU o (b + 1) 0 (stepM o b s) = stepM o b s from rfl, this.D]
      by_cases e : q.val / 512 = b
      · rw [if_pos e, if_pos (by omega)]
      · rw [if_neg e, if_neg (by omega)]
    · rw [Finset.sum_range_one]; exact this.K k d
    · rw [Finset.sum_range_one]; exact this.W k d
  | succ n ih =>
    obtain ⟨hD, hK, hW⟩ := ih (by omega)
    have := stepU_did o b (b + 1 + n) (by omega) (by omega) (stepsU o (b + 1) n (stepM o b s))
    refine ⟨fun q d => ?_, fun k d => ?_, fun k d => ?_⟩
    · refine (this.D q d).trans ?_
      rw [hD]
      by_cases e : q.val / 512 = b + 1 + n
      · rw [if_pos e, if_neg (by omega), if_pos (by omega)]
      · rw [if_neg e]
        by_cases e' : b ≤ q.val / 512 ∧ q.val / 512 ≤ b + n
        · rw [if_pos e', if_pos (by omega)]
        · rw [if_neg e', if_neg (by omega)]
    · refine (this.K k d).trans ?_
      rw [hK, Finset.sum_range_succ _ (n + 1), add_assoc, show b + 1 + n = b + (n + 1) by omega]
    · refine (this.W k d).trans ?_
      rw [hW, Finset.sum_range_succ _ (n + 1), add_assoc, show b + 1 + n = b + (n + 1) by omega]

/-! ## A whole point -/

/-- A sum over all rows of queries, block by block. -/
theorem sum_rows (f : Fin 4096 → EReal) : ∑ q, f q = ∑ j ∈ Finset.range 8, ∑ r : Fin 512, f (row4 j r) := by
  rw [← Fin.sum_univ_eq_sum_range (fun j => ∑ r : Fin 512, f (row4 j r)) 8, ← Fintype.sum_prod_type']
  symm
  refine Fintype.sum_equiv (finProdFinEquiv (m := 8) (n := 512)) _ _ fun x => ?_
  congr 1
  refine Fin.ext ?_
  show 512 * (x.1.val % 8) + x.2.val = x.2.val + 512 * x.1.val
  have := x.1.isLt
  omega

/-- Where the rows before the block add nothing, the sum over the blocks from `b` on is the sum over all rows. -/
theorem sum_rows_from (f : Fin 4096 → EReal) (b : ℕ) (hb : b < 8) (h : ∀ q, q.val / 512 < b → f q = 0) :
    ∑ j ∈ Finset.range (7 - b + 1), ∑ r : Fin 512, f (row4 (b + j) r) = ∑ q, f q := by
  rw [sum_rows, ← Finset.sum_range_add_sum_Ico _ (show b ≤ 8 by omega), Finset.sum_Ico_eq_sum_range, show 8 - b = 7 - b + 1 by omega,
    Finset.sum_eq_zero (s := Finset.range b), zero_add]
  intro j hj
  refine Finset.sum_eq_zero fun r _ => h _ ?_
  have := Finset.mem_range.mp hj
  show (512 * (j % 8) + r.val) / 512 < b
  omega

namespace Ops
variable (o : Ops Ideal) (b : ℕ)

/-- A row before the block gives its keys no weight. -/
theorem wt_before (h : ∀ q, o.lse (ix3 0 0 q) ≠ ⊥) (k : Fin 512) (q : Fin 4096) (hq : q.val / 512 < b) : o.wt b k q = 0 := by
  unfold wt
  rw [if_neg (by omega), sub_eq_add_neg, EReal.bot_add]; rfl
theorem gr_before (h : ∀ q, o.lse (ix3 0 0 q) ≠ ⊥) (k : Fin 512) (q : Fin 4096) (hq : q.val / 512 < b) : o.gr b k q = 0 := by
  unfold gr
  rw [o.wt_before b h k q hq, zero_mul, zero_mul]
end Ops

/-- What a point leaves: the queries' gradient with the block's keys added, and the gradients of the block's keys and values. -/
theorem point_apply (o : Ops Ideal) (b : ℕ) (hb : b < 8) (h : ∀ q, o.lse (ix3 0 0 q) ≠ ⊥) (D : Vec Ideal S4096x256 .f32) :
    (∀ q d, (pointSt o b D).1 (ix2 q d) = D (ix2 q d) + ∑ k : Fin 512, o.gr b k q * o.key k d)
    ∧ (∀ k d, (pointSt o b D).2.1 (ix2 k d) = ∑ q : Fin 4096, o.gr b k q * o.q (ix2 q d))
    ∧ (∀ k d, (pointSt o b D).2.2 (ix2 k d) = ∑ q : Fin 4096, o.wt b k q * o.dO (ix2 q d)) := by
  obtain ⟨hD, hK, hW⟩ := steps_did o b (7 - b) (by omega) (D, k0_pay70 (F := Ideal), k0_pay71 (F := Ideal))
  refine ⟨fun q d => (hD q d).trans ?_, fun k d => (hK k d).trans ?_, fun k d => (hW k d).trans ?_⟩
  · by_cases e : b ≤ q.val / 512
    · rw [if_pos ⟨e, by omega⟩]
    · rw [if_neg (by omega), Finset.sum_eq_zero, add_zero]
      intro k _
      rw [o.gr_before b h k q (by omega), zero_mul]
  · rw [sum_rows_from (fun q => o.gr b k q * o.q (ix2 q d)) b hb fun q hq => by rw [o.gr_before b h k q hq, zero_mul]]
    show k0_pay70 (F := Ideal) (ix2 k d) + _ = _
    rw [zero70, zero_add]
  · rw [sum_rows_from (fun q => o.wt b k q * o.dO (ix2 q d)) b hb fun q hq => by rw [o.wt_before b h k q hq, zero_mul]]
    show k0_pay71 (F := Ideal) (ix2 k d) + _ = _
    rw [zero71, zero_add]

end Cert.FlashKernelIdeal.Hand
-- ==== Proof.FlashArrays.lean ====
module

public import proofs.«01_k».proof.Proof.FlashPoint
public import Idealize.ShloMosaic.Lib.Pipeline.ValueKit.Geometry

/-! # The attention's backward call: its three result arrays

Point `t` is head `t / 8` and block `t % 8` of keys. Each of the result arrays, entry by entry, is a sum over all keys
or all rows of queries of the products of the staged arrays. -/

@[expose] public section

set_option maxRecDepth 16384

noncomputable section

namespace Cert.FlashKernelIdeal.Hand

open Cert.FlashKernelIdeal Cert.FlashKernelIdeal.Gen
open Idealize.ShloMosaic Idealize.ShloMosaic.TcCoe Idealize.ShloMosaic.Tactic
open Idealize.ShloMosaic.Pipeline (Dat)

/-- The arrays that the call stages: queries, keys and values, rotated keys, cotangent, the rows' log-sums and sums. -/
structure Arrs where
  q : Vec Ideal S4096x2048 .bf16
  kv : Vec Ideal S4096x2048 .bf16
  kr : Vec Ideal S4096x128 .bf16
  dO : Vec Ideal S4096x1024 .bf16
  lse : Vec Ideal S8x1x4096 .f32
  dl : Vec Ideal S8x1x4096 .f32

/-- Column `x` of head `h`, in heads of 256 and of 128 columns. -/
abbrev col256 (h : Fin 8) (x : Fin 256) : Fin 2048 := ⟨256 * h.val + x.val, by omega⟩
abbrev col128 (h : Fin 8) (x : Fin 128) : Fin 1024 := ⟨128 * h.val + x.val, by omega⟩

namespace Arrs
variable (a : Arrs) (h : Fin 8)

/-- Key `κ` of head `h`: its own part, then the rotated part that the heads share. -/
def key (κ : Fin 4096) (x : Fin 256) : EReal :=
  if hx : x.val < 128 then a.kv (ix2 κ (col256 h x)) else a.kr (ix2 κ ⟨x.val - 128, by omega⟩)
/-- How much row `q` attends to key `κ`. -/
def wt (κ q : Fin 4096) : EReal :=
  Ideal.exp2 ((if κ.val ≤ q.val then ∑ x : Fin 256, a.key h κ x * a.q (ix2 q (col256 h x)) else ⊥) - a.lse (ix3 h 0 q))
/-- The gradient of their score. -/
def gr (κ q : Fin 4096) : EReal :=
  a.wt h κ q * ((∑ x : Fin 128, a.kv (ix2 κ (col256 h ⟨128 + x.val, by omega⟩)) * a.dO (ix2 q (col128 h x))) - a.dl (ix3 h 0 q))
    * Ideal.ofBits .f32 0x3D93CD3A#32

/-- The queries' gradient. -/
def dq (q : Fin 4096) (x : Fin 256) : EReal := ∑ κ : Fin 4096, a.gr h κ q * a.key h κ x
/-- The keys' gradient. -/
def dk (κ : Fin 4096) (x : Fin 256) : EReal :=
  (∑ q : Fin 4096, a.gr h κ q * a.q (ix2 q (col256 h x))) * ((((4843165 / 67108864)⁻¹ * Real.log 2 : ℝ)) : EReal)
/-- The values' gradient. -/
def dv (κ : Fin 4096) (x : Fin 128) : EReal := ∑ q : Fin 4096, a.wt h κ q * a.dO (ix2 q (col128 h x))

/-- The three result arrays. -/
def out6 : S4096x2048.Idx → EReal := fun i => a.dq ⟨(i 1).val / 256, Nat.div_lt_of_lt_mul (i 1).isLt⟩ (i 0) ⟨(i 1).val % 256, Nat.mod_lt _ (by norm_num)⟩
def out7 : S4096x2048.Idx → EReal := fun i =>
  if hx : (i 1).val % 256 < 128 then a.dk ⟨(i 1).val / 256, Nat.div_lt_of_lt_mul (i 1).isLt⟩ (i 0) ⟨(i 1).val % 256, by omega⟩
  else a.dv ⟨(i 1).val / 256, Nat.div_lt_of_lt_mul (i 1).isLt⟩ (i 0) ⟨(i 1).val % 256 - 128, by omega⟩
def out8 : S4096x1024.Idx → EReal := fun i => a.dk ⟨(i 1).val / 128, Nat.div_lt_of_lt_mul (i 1).isLt⟩ (i 0) ⟨128 + (i 1).val % 128, by omega⟩
end Arrs

variable (m : (ℓ : Loc nD τ sig) → Buf (Elt Ideal) ℓ) (c : Dev nD)

/-- The staged arrays as the region finds them. -/
def arrs : Arrs := ⟨V m c main_v45, V m c main_v47, V m c main_v49, V m c main_v51, V m c main_v35, V m c main_v39⟩

theorem arrs_q : (arrs m c).q = V m c main_v45 := rfl
theorem arrs_kv : (arrs m c).kv = V m c main_v47 := rfl
theorem arrs_kr : (arrs m c).kr = V m c main_v49 := rfl
theorem arrs_dO : (arrs m c).dO = V m c main_v51 := rfl
theorem arrs_lse : (arrs m c).lse = V m c main_v35 := rfl
theorem arrs_dl : (arrs m c).dl = V m c main_v39 := rfl

/-- The head of a point. -/
def head (t : Fin cfg0.N) : Fin 8 := ⟨t.val / 8, by have := t.isLt; have : cfg0.N = 64 := N_0; omega⟩

theorem index0 : ∀ t : Fin grid0.N, win0_0.index t = ![0, t.val / 8] := by decide +kernel
theorem index1 : ∀ t : Fin grid0.N, win0_1.index t = ![t.val % 8, t.val / 8] := by decide +kernel
theorem index2 : ∀ t : Fin grid0.N, win0_2.index t = ![t.val % 8, 0] := by decide +kernel
theorem index3 : ∀ t : Fin grid0.N, win0_3.index t = ![0, t.val / 8] := by decide +kernel
theorem index4 : ∀ t : Fin grid0.N, win0_4.index t = ![t.val / 8, 0, 0] := by decide +kernel
theorem index5 : ∀ t : Fin grid0.N, win0_5.index t = ![t.val / 8, 0, 0] := by decide +kernel
theorem index6 : ∀ t : Fin grid0.N, win0_6.index t = ![0, t.val / 8] := by decide +kernel
theorem index7 : ∀ t : Fin grid0.N, win0_7.index t = ![t.val % 8, t.val / 8] := by decide +kernel
theorem index8 : ∀ t : Fin grid0.N, win0_8.index t = ![t.val % 8, t.val / 8] := by decide +kernel

variable (t : Fin cfg0.N)

theorem blk0 (q : Fin 4096) (x : Fin 256) : iblk m c 0 t (ix2 q x) = (arrs m c).q (ix2 q (col256 (head t) x)) := by
  rw [arrs_q]
  blk_simp [iblk]
  refine congrArg (V m c main_v45) ?_
  blk_ext [index0, head]
theorem blk1 (k : Fin 512) (x : Fin 256) : iblk m c 1 t (ix2 k x) = (arrs m c).kv (ix2 (row4 t.val k) (col256 (head t) x)) := by
  rw [arrs_kv]
  blk_simp [iblk]
  refine congrArg (V m c main_v47) ?_
  blk_ext [index1, head, row4]
theorem blk2 (k : Fin 512) (x : Fin 128) : iblk m c 2 t (ix2 k x) = (arrs m c).kr (ix2 (row4 t.val k) x) := by
  rw [arrs_kr]
  blk_simp [iblk]
  refine congrArg (V m c main_v49) ?_
  blk_ext [index2, row4]
theorem blk3 (q : Fin 4096) (x : Fin 128) : iblk m c 3 t (ix2 q x) = (arrs m c).dO (ix2 q (col128 (head t) x)) := by
  rw [arrs_dO]
  blk_simp [iblk]
  refine congrArg (V m c main_v51) ?_
  blk_ext [index3, head]
theorem blk4 (q : Fin 4096) : iblk m c 4 t (ix3 0 0 q) = (arrs m c).lse (ix3 (head t) 0 q) := by
  rw [arrs_lse]
  blk_simp [iblk]
  refine congrArg (V m c main_v35) ?_
  blk_ext [index4, head]
theorem blk5 (q : Fin 4096) : iblk m c 5 t (ix3 0 0 q) = (arrs m c).dl (ix3 (head t) 0 q) := by
  rw [arrs_dl]
  blk_simp [iblk]
  refine congrArg (V m c main_v39) ?_
  blk_ext [index5, head]

theorem pay72_apply (v : Vec Ideal S512x256 .bf16) (k : Fin 512) (x : Fin 256) : k0_pay72 v (ix2 k x) = v (ix2 k x) := by pointwise [k0_pay72]
theorem pay73_apply (v : Vec Ideal S512x128 .bf16) (k : Fin 512) (x : Fin 128) : k0_pay73 v (ix2 k x) = v (ix2 k x) := by pointwise [k0_pay73]
theorem kv_apply (k : Fin 512) (x : Fin 256) : (pt m c t).kv (ix2 k x) = (arrs m c).kv (ix2 (row4 t.val k) (col256 (head t) x)) := by
  refine (pay72_apply (iblk m c 1 t) k x).trans (blk1 m c t k x)
theorem kr_apply (k : Fin 512) (x : Fin 128) : (pt m c t).kr (ix2 k x) = (arrs m c).kr (ix2 (row4 t.val k) x) := by
  refine (pay73_apply (iblk m c 2 t) k x).trans (blk2 m c t k x)

theorem key_apply (k : Fin 512) (x : Fin 256) : (pt m c t).key k x = (arrs m c).key (head t) (row4 t.val k) x := by
  unfold Ops.key Arrs.key
  rw [keys_apply]
  simp only [kv_apply, kr_apply]

theorem wt_apply (k : Fin 512) (q : Fin 4096) : (pt m c t).wt (t.val % 8) k q = (arrs m c).wt (head t) (row4 t.val k) q := by
  unfold Ops.wt Arrs.wt
  simp only [key_apply]
  have e0 : ∀ x, (pt m c t).q (ix2 q x) = _ := fun x => blk0 m c t q x
  have e4 : (pt m c t).lse (ix3 0 0 q) = _ := blk4 m c t q
  simp only [e0, e4]
  rfl

theorem gr_apply (k : Fin 512) (q : Fin 4096) : (pt m c t).gr (t.val % 8) k q = (arrs m c).gr (head t) (row4 t.val k) q := by
  unfold Ops.gr Arrs.gr
  have e3 : ∀ x, (pt m c t).dO (ix2 q x) = _ := fun x => blk3 m c t q x
  have e5 : (pt m c t).dl (ix3 0 0 q) = _ := blk5 m c t q
  simp only [wt_apply, kv_apply, e3, e5]

/-- What a point leaves, given what the queries' gradient was before it. -/
structure Left (D : Fin 4096 → Fin 256 → EReal) : Prop where
  D : ∀ q x, (stN m c t.val t.isLt).1 (ix2 q x) = D q x + ∑ k : Fin 512, (arrs m c).gr (head t) (row4 t.val k) q * (arrs m c).key (head t) (row4 t.val k) x
  K : ∀ k x, (stN m c t.val t.isLt).2.1 (ix2 k x)
    = ∑ q : Fin 4096, (arrs m c).gr (head t) (row4 t.val k) q * (arrs m c).q (ix2 q (col256 (head t) x))
  W : ∀ k x, (stN m c t.val t.isLt).2.2 (ix2 k x) = (arrs m c).dv (head t) (row4 t.val k) x

theorem scaled_apply (S : Vec Ideal S512x256 .f32) (k : Fin 512) (x : Fin 256) :
    k0_pay86 S (ix2 k x) = S (ix2 k x) * ((((4843165 / 67108864)⁻¹ * Real.log 2 : ℝ)) : EReal) := by
  pointwise [k0_pay86]
  rfl

theorem keysValues_apply (S : Vec Ideal S512x256 .f32) (W : Vec Ideal S512x128 .f32) (k : Fin 512) (x : Fin 256) :
    k0_pay87 S W (ix2 k x) = if hx : x.val < 128 then k0_pay86 S (ix2 k x) else W (ix2 k ⟨x.val - 128, by omega⟩) := by
  pointwise [k0_pay87]

theorem rotated_apply (S : Vec Ideal S512x256 .f32) (k : Fin 512) (x : Fin 128) :
    k0_pay1 (k0_pay86 S) (ix2 k x) = k0_pay86 S (ix2 k ⟨128 + x.val, by omega⟩) := by
  pointwise [k0_pay1]

variable (hl : ∀ h q, (arrs m c).lse (ix3 h 0 q) ≠ ⊥)
include hl

set_option maxHeartbeats 1000000 in
theorem left_eq (D : Vec Ideal S4096x256 .f32)
    (h : ∀ h0 : ¬ t.val % 8 = 0, D = (stN m c (t.val - 1) (Nat.lt_of_le_of_lt (Nat.sub_le _ _) t.isLt)).1) :
    Left m c t (fun q x => if t.val % 8 = 0 then 0 else D (ix2 q x)) := by
  have hp := point_apply (pt m c t) (t.val % 8) (Nat.mod_lt _ (by norm_num))
    (fun q => by rw [show (pt m c t).lse (ix3 0 0 q) = _ from blk4 m c t q]; exact hl _ _) (dq0 (grid0.coords t) D)
  have e := stN_eq m c t D h
  rw [key t] at e
  rw [← e] at hp
  obtain ⟨hD, hK, hW⟩ := hp
  refine ⟨fun q x => (hD q x).trans ?_, fun k x => (hK k x).trans ?_, fun k x => (hW k x).trans ?_⟩
  · simp only [gr_apply, key_apply]
    refine congrArg (· + _) ?_
    unfold dq0
    rw [key t]
    show (if t.val % 8 = 0 then k0_pay69 (F := Ideal) else D) (ix2 q x) = if t.val % 8 = 0 then 0 else D (ix2 q x)
    by_cases h0 : t.val % 8 = 0
    · rw [if_pos h0, if_pos h0]; exact zero69 q x
    · rw [if_neg h0, if_neg h0]
  · have e0 : ∀ q : Fin 4096, (pt m c t).q (ix2 q x) = _ := fun q => blk0 m c t q x
    simp only [gr_apply, e0]
  · have e3 : ∀ q : Fin 4096, (pt m c t).dO (ix2 q x) = _ := fun q => blk3 m c t q x
    simp only [wt_apply, e3]
    rfl

theorem left_prev : Left m c t (fun q x => if t.val % 8 = 0 then 0
    else (stN m c (t.val - 1) (Nat.lt_of_le_of_lt (Nat.sub_le _ _) t.isLt)).1 (ix2 q x)) :=
  left_eq m c t hl (stN m c (t.val - 1) (Nat.lt_of_le_of_lt (Nat.sub_le _ _) t.isLt)).1 (fun _ => rfl)

/-- Within a head the queries' gradient collects the blocks of keys one after the other. -/
theorem stN_D (q : Fin 4096) (x : Fin 256) :
    (stN m c t.val t.isLt).1 (ix2 q x) = ∑ j ∈ Finset.range (t.val % 8 + 1), ∑ k : Fin 512,
      (arrs m c).gr (head t) (row4 j k) q * (arrs m c).key (head t) (row4 j k) x := by
  obtain ⟨n, hn⟩ := t
  have hN : cfg0.N = 64 := N_0
  have hrow : ∀ k, row4 n k = row4 (n % 8) k := fun k => Fin.ext (by show 512 * (n % 8) + k.val = 512 * (n % 8 % 8) + k.val; omega)
  induction n with
  | zero =>
    refine ((left_eq m c ⟨0, hn⟩ hl (k0_pay69 (F := Ideal)) (fun h => absurd rfl h)).D q x).trans ?_
    rw [if_pos (show (⟨0, hn⟩ : Fin cfg0.N).val % 8 = 0 from rfl), zero_add]
    rw [show (⟨0, hn⟩ : Fin cfg0.N).val % 8 + 1 = 1 from rfl, Finset.sum_range_one]
  | succ n ih =>
    have hn' : n < cfg0.N := by omega
    refine ((left_eq m c ⟨n + 1, hn⟩ hl (stN m c n hn').1 (fun _ => rfl)).D q x).trans ?_
    rw [Finset.sum_range_succ]
    simp only [hrow]
    congr 1
    show (if (n + 1) % 8 = 0 then 0 else _) = _
    split
    · next h => rw [show (⟨n + 1, hn⟩ : Fin cfg0.N).val % 8 = 0 from h]; rfl
    · next h =>
      rw [ih hn' (fun k => Fin.ext (by show 512 * (n % 8) + k.val = 512 * (n % 8 % 8) + k.val; omega))]
      have e1 : (n + 1) % 8 = n % 8 + 1 := by omega
      have e2 : head ⟨n + 1, hn⟩ = head ⟨n, hn'⟩ := Fin.ext (by show (n + 1) / 8 = n / 8; omega)
      show _ = ∑ j ∈ Finset.range ((n + 1) % 8), _
      rw [e1, e2]

theorem final6 : (dats m 0 c).arrAt 6 cfg0.N = (arrs m c).out6 := by
  refine (dats m 0 c).arrAt_eq_of_covers 6 _ (by decide +kernel) fun t hf y => ?_
  obtain ⟨q, x, rfl⟩ : ∃ (q : Fin 4096) (x : Fin 256), y = ix2 q x := ⟨y 0, y 1, (ix2_eta y).symm⟩
  blk_simp
  rw [after_6]
  refine (stN_D m c t hl q x).trans ?_
  have h7 : t.val % 8 = 7 := by
    have := (flush0_6 t).mp hf; omega
  rw [h7, ← sum_rows fun κ => (arrs m c).gr (head t) κ q * (arrs m c).key (head t) κ x]
  have e : ((cfg0.win 6).blk t).view.emb (ix2 q x) = ix2 q (col256 (head t) x) := by blk_ext [index6, head]
  refine Eq.trans ?_ (congrArg (arrs m c).out6 e).symm
  show (arrs m c).dq (head t) q x = (arrs m c).dq ⟨(256 * (head t).val + x.val) / 256, _⟩ q ⟨(256 * (head t).val + x.val) % 256, _⟩
  congr 1
  · exact Fin.ext (by show _ = (256 * (head t).val + x.val) / 256; omega)
  · exact Fin.ext (by show _ = (256 * (head t).val + x.val) % 256; omega)

/-- The keys' block of a point, scaled, is its block of the keys' gradient. -/
theorem dk_apply (k : Fin 512) (x : Fin 256) :
    k0_pay86 (stN m c t.val t.isLt).2.1 (ix2 k x) = (arrs m c).dk (head t) (row4 t.val k) x := by
  rw [scaled_apply, (left_prev m c t hl).K]
  rfl

theorem final7 : (dats m 0 c).arrAt 7 cfg0.N = (arrs m c).out7 := by
  refine (dats m 0 c).arrAt_eq_of_covers 7 _ (by decide +kernel) fun t hf y => ?_
  obtain ⟨k, x, rfl⟩ : ∃ (k : Fin 512) (x : Fin 256), y = ix2 k x := ⟨y 0, y 1, (ix2_eta y).symm⟩
  blk_simp
  rw [after_7]
  have e : ((cfg0.win 7).blk t).view.emb (ix2 k x) = ix2 (row4 t.val k) (col256 (head t) x) := by blk_ext [index7, head, row4]
  refine Eq.trans ?_ (congrArg (arrs m c).out7 e).symm
  refine (keysValues_apply _ _ k x).trans ?_
  have e1 : (256 * (head t).val + x.val) / 256 = (head t).val := by omega
  have e2 : (256 * (head t).val + x.val) % 256 = x.val := by omega
  show _ = if hx : (256 * (head t).val + x.val) % 256 < 128 then (arrs m c).dk ⟨(256 * (head t).val + x.val) / 256, _⟩ (row4 t.val k) ⟨(256 * (head t).val + x.val) % 256, _⟩
    else (arrs m c).dv ⟨(256 * (head t).val + x.val) / 256, _⟩ (row4 t.val k) ⟨(256 * (head t).val + x.val) % 256 - 128, _⟩
  simp only [e1, e2, dk_apply m c t hl, (left_prev m c t hl).W]

theorem final8 : (dats m 0 c).arrAt 8 cfg0.N = (arrs m c).out8 := by
  refine (dats m 0 c).arrAt_eq_of_covers 8 _ (by decide +kernel) fun t hf y => ?_
  obtain ⟨k, x, rfl⟩ : ∃ (k : Fin 512) (x : Fin 128), y = ix2 k x := ⟨y 0, y 1, (ix2_eta y).symm⟩
  blk_simp
  rw [after_8]
  have e : ((cfg0.win 8).blk t).view.emb (ix2 k x) = ix2 (row4 t.val k) (col128 (head t) x) := by blk_ext [index8, head, row4]
  refine Eq.trans ?_ (congrArg (arrs m c).out8 e).symm
  rw [rotated_apply, dk_apply m c t hl]
  have e1 : (128 * (head t).val + x.val) / 128 = (head t).val := by omega
  have e2 : (128 * (head t).val + x.val) % 128 = x.val := by omega
  show _ = (arrs m c).dk ⟨(128 * (head t).val + x.val) / 128, _⟩ (row4 t.val k) ⟨128 + (128 * (head t).val + x.val) % 128, _⟩
  simp only [e1, e2]

end Cert.FlashKernelIdeal.Hand
-- ==== Proof.Reals.lean ====
module

public import Idealize.ShloMosaic.PureOps.Ideal.Laws

/-!
# Real numbers among the extended reals

A sum, a quotient, an exponential of finite values is finite, and is the real one.
-/

@[expose] public section

namespace Cert.Reals

open Idealize.ShloMosaic

/-- A finite sum of real numbers, taken over the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A quotient of real numbers, taken over the extended reals. -/
theorem coe_div (x : ℝ) {y : ℝ} (hy : y ≠ 0) : Ideal.div (x : EReal) (y : EReal) = ((x / y : ℝ) : EReal) := by
  rw [Ideal.div_coe hy, ← EReal.coe_mul, mul_one_div]

/-- An extended real whose absolute value is below +∞ is a real number. -/
theorem exists_real {x : EReal} (h : max x (-x) < ⊤) : ∃ r : ℝ, x = (r : EReal) := by
  induction x with
  | bot => exact absurd h (by simp)
  | coe r => exact ⟨r, rfl⟩
  | top => exact absurd h (by simp)

/-- The word 0x7F800000 is +∞. -/
theorem inf_word : (Ideal.ofBits .f32 0x7F800000#32 : EReal) = ⊤ := by simp [Ideal.ofBits, Ideal.ieee]

/-- An element whose absolute value the predicate's comparison finds below +∞ is a real number. -/
theorem real_of_word {x : EReal} (h : BitVec.ofBool (decide (FloatOps.absf (F := Ideal) (φ := .f32) x < Ideal.ofBits .f32 0x7F800000#32)) = 1#1) :
    ∃ r : ℝ, x = (r : EReal) := by
  refine exists_real ?_
  have h' : FloatOps.absf (F := Ideal) (φ := .f32) x < (⊤ : EReal) := by
    rw [← inf_word]
    by_contra hn
    rw [decide_eq_false hn] at h
    exact absurd h (by decide)
  exact h'

end Cert.Reals
-- ==== Proof.FlashReal.lean ====
module

public import proofs.«01_k».proof.Proof.Reals
public import Idealize.ShloMosaic.PureOps.Ideal

/-!
# The attention's gradient over the real numbers

With `q`, `kv`, `kr` and the cotangent `do` real, the scores, their causal softmax, and the three gradients, as real formulas;
and what a row of scores, −∞ above the diagonal, gives under maximum, exponential and sum.
-/

@[expose] public section

noncomputable section

namespace Cert.Flash

open Idealize.ShloMosaic Cert.Reals

/-! ## One row of scores -/

section Row

variable {n : ℕ} (s : Fin n → ℝ) (r : Fin n)

/-- The row `r` of the scores with the causal mask: −∞ at every key after the query. -/
def masked (k : Fin n) : EReal := if k ≤ r then (s k : EReal) else ⊥

/-- The row's largest score that the mask leaves. -/
def top : ℝ := (Finset.univ.filter (· ≤ r)).sup' ⟨r, by simp⟩ s

/-- The row's exponentials, zero where it is masked. -/
def expo (k : Fin n) : ℝ := if k ≤ r then Real.exp (s k - top s r) else 0

/-- Their sum. -/
def total : ℝ := ∑ k, expo s r k

theorem total_pos : 0 < total s r :=
  Finset.sum_pos' (fun k _ => by unfold expo; split <;> positivity) ⟨r, Finset.mem_univ r, by simp [expo, Real.exp_pos]⟩

theorem fold_masked : Finset.fold max ⊥ (fun k => masked s r k) Finset.univ = (top s r : EReal) := by
  apply le_antisymm
  · rw [Finset.fold_max_le]
    refine ⟨bot_le, fun k _ => ?_⟩
    unfold masked
    split
    next h => exact EReal.coe_le_coe_iff.mpr (Finset.le_sup' s (by simpa using h))
    next => exact bot_le
  · rw [Finset.le_fold_max]
    obtain ⟨k, hk, e⟩ := Finset.exists_mem_eq_sup' (s := Finset.univ.filter (· ≤ r)) ⟨r, by simp⟩ s
    refine .inr ⟨k, Finset.mem_univ k, ?_⟩
    rw [top, e, masked, if_pos (by simpa using hk)]

theorem exp_masked (k : Fin n) : Ideal.exp (masked s r k - (top s r : EReal)) = (expo s r k : EReal) := by
  unfold masked expo
  split
  next => rw [← EReal.coe_sub, Ideal.exp_coe]
  next => rw [EReal.bot_sub, Ideal.exp_bot, EReal.coe_zero]

theorem sum_exp_masked : ∑ k, Ideal.exp (masked s r k - (top s r : EReal)) = (total s r : EReal) := by
  simp only [exp_masked, coe_sum, total]

/-- The same weight from the base-2 logarithm of the sum, as a difference of base-2 scores. -/
theorem exp2_masked (k : Fin n) :
    Ideal.exp2 ((if k ≤ r then ((s k / Real.log 2 : ℝ) : EReal) else ⊥) - (((top s r + Real.log (total s r)) / Real.log 2 : ℝ) : EReal))
      = ((expo s r k / total s r : ℝ) : EReal) := by
  have h2 : (0 : ℝ) < Real.log 2 := Real.log_pos (by norm_num)
  unfold expo
  split
  next =>
    rw [← EReal.coe_sub, Ideal.exp2_coe]
    refine congrArg _ ?_
    rw [show Real.rpow 2 _ = (2 : ℝ) ^ (s k / Real.log 2 - (top s r + Real.log (total s r)) / Real.log 2) from rfl,
      Real.rpow_def_of_pos (by norm_num), ← sub_div, mul_div_cancel₀ _ h2.ne',
      show s k - (top s r + Real.log (total s r)) = (s k - top s r) - Real.log (total s r) by ring, Real.exp_sub, Real.exp_log (total_pos s r)]
  next => rw [EReal.bot_sub, Ideal.exp2_bot, zero_div, EReal.coe_zero]

end Row

/-! ## The gradients -/

/-- The attention's arguments and the cotangent of its output, as real numbers. -/
structure Args where
  q : Fin 4096 → Fin 8 → Fin 192 → ℝ
  kv : Fin 4096 → Fin 8 → Fin 256 → ℝ
  kr : Fin 4096 → Fin 64 → ℝ
  dO : Fin 4096 → Fin 8 → Fin 128 → ℝ

namespace Args

variable (A : Args) (h : Fin 8)

/-- The scale of the scores, 1/√192 in single precision. -/
def scale : ℝ := 4843165 / 67108864

/-- Score of the query `r` at the key `k`. -/
def score (r k : Fin 4096) : ℝ :=
  ((∑ x : Fin 128, A.q r h ⟨x, by omega⟩ * A.kv k h ⟨x, by omega⟩) + ∑ x : Fin 64, A.q r h ⟨128 + x, by omega⟩ * A.kr k x) * scale

/-- The exponentials of the query's scores. -/
def ex (r k : Fin 4096) : ℝ := expo (A.score h r) r k

/-- The sum of the query's exponentials. -/
def tot (r : Fin 4096) : ℝ := total (A.score h r) r

theorem tot_ne (r : Fin 4096) : A.tot h r ≠ 0 := (total_pos _ _).ne'

/-- The softmax weight of the key `k` for the query `r`. -/
def pr (r k : Fin 4096) : ℝ := A.ex h r k / A.tot h r

/-- The weight's cotangent: the output's cotangent against the key's value. -/
def dp (r k : Fin 4096) : ℝ := ∑ x : Fin 128, A.dO r h x * A.kv k h ⟨128 + x, by omega⟩

/-- The score's cotangent, with the scale. -/
def slope (r k : Fin 4096) : ℝ := A.pr h r k * (A.dp h r k - ∑ j, A.pr h r j * A.dp h r j) * scale

/-- The cotangent of the query, column by column: against the key's own columns, then against the rotated ones. -/
def dq (r : Fin 4096) (x : Fin 192) : ℝ :=
  ∑ k, A.slope h r k * if hx : x.val < 128 then A.kv k h ⟨x, by omega⟩ else A.kr k ⟨x - 128, by omega⟩

/-- The cotangent of the key, column by column. -/
def dk (k : Fin 4096) (x : Fin 192) : ℝ := ∑ r, A.slope h r k * A.q r h x

/-- The cotangent of the value, column by column. -/
def dv (k : Fin 4096) (x : Fin 128) : ℝ := ∑ r, A.pr h r k * A.dO r h x

/-- The logarithm of the query's sum of exponentials of the scores, to the base 2. -/
def lse (r : Fin 4096) : ℝ := (top (A.score h r) r + Real.log (A.tot h r)) / Real.log 2

/-- The query's mean of the weights' cotangents. -/
def delta (r : Fin 4096) : ℝ := ∑ j, A.pr h r j * A.dp h r j

/-- The key's columns: its own 128, then the rotated 64, then zeros up to 256. -/
def key (k : Fin 4096) (x : Fin 256) : ℝ :=
  if hx : x.val < 128 then A.kv k h x else if hy : x.val - 128 < 64 then A.kr k ⟨x - 128, hy⟩ else 0

/-- The query's columns, then zeros up to 256. -/
def query (r : Fin 4096) (x : Fin 256) : ℝ := if hx : x.val < 192 then A.q r h ⟨x, hx⟩ else 0

/-- The cotangents of query and key, then zeros up to 256 columns. -/
def dq256 (r : Fin 4096) (x : Fin 256) : ℝ := if hx : x.val < 192 then A.dq h r ⟨x, hx⟩ else 0
def dk256 (k : Fin 4096) (x : Fin 256) : ℝ := if hx : x.val < 192 then A.dk h k ⟨x, hx⟩ else 0

theorem sum_key_query (r k : Fin 4096) : (∑ x : Fin 256, A.key h k x * A.query h r x) * scale = A.score h r k := by
  unfold score
  congr 1
  rw [show (∑ x : Fin 256, A.key h k x * A.query h r x) = ∑ x : Fin (128 + (64 + 64)), A.key h k x * A.query h r x from rfl,
    Fin.sum_univ_add, Fin.sum_univ_add]
  have e1 : ∀ x : Fin 128, A.key h k (Fin.castAdd (64 + 64) x : Fin (128 + (64 + 64))) * A.query h r (Fin.castAdd (64 + 64) x : Fin (128 + (64 + 64)))
      = A.q r h ⟨x, by omega⟩ * A.kv k h ⟨x, by omega⟩ := fun x => by
    have hx := x.isLt
    rw [key, query, dif_pos (by simp), dif_pos (by simp; omega), mul_comm]
    rfl
  have e2 : ∀ x : Fin 64, A.key h k (Fin.natAdd 128 (Fin.castAdd 64 x) : Fin (128 + (64 + 64))) * A.query h r (Fin.natAdd 128 (Fin.castAdd 64 x) : Fin (128 + (64 + 64)))
      = A.q r h ⟨128 + x, by omega⟩ * A.kr k x := fun x => by
    have hx := x.isLt
    rw [key, query, dif_neg (by simp), dif_pos (by simp), dif_pos (by simp; omega), mul_comm]
    congr 2
    simp
  have e3 : ∀ x : Fin 64, A.key h k (Fin.natAdd 128 (Fin.natAdd 64 x) : Fin (128 + (64 + 64))) * A.query h r (Fin.natAdd 128 (Fin.natAdd 64 x) : Fin (128 + (64 + 64)))
      = 0 := fun x => by
    rw [query, dif_neg (by simp), mul_zero]
  simp only [e1, e2, e3, Finset.sum_const_zero, add_zero]

theorem sum_slope_key (r : Fin 4096) (x : Fin 256) : ∑ k, A.slope h r k * A.key h k x = A.dq256 h r x := by
  unfold dq256 dq
  split
  next hx =>
    refine Finset.sum_congr rfl fun k _ => congrArg _ ?_
    unfold key
    split
    · rfl
    · rw [dif_pos (by omega)]
  next hx =>
    refine Finset.sum_eq_zero fun k _ => ?_
    rw [key, dif_neg (by omega), dif_neg (by omega), mul_zero]

theorem sum_slope_query (k : Fin 4096) (x : Fin 256) : ∑ r, A.slope h r k * A.query h r x = A.dk256 h k x := by
  unfold dk256 dk query
  split
  · rfl
  · simp

/-- The cotangent of the output against the output is the mean of the weights' cotangents. -/
theorem sum_out (r : Fin 4096) :
    ∑ x : Fin 128, A.dO r h x * ∑ k, A.kv k h ⟨128 + x, by omega⟩ * (expo (A.score h r) r k / total (A.score h r) r) = A.delta h r := by
  unfold delta dp
  simp only [Finset.mul_sum]
  rw [Finset.sum_comm]
  refine Finset.sum_congr rfl fun k _ => Finset.sum_congr rfl fun x _ => ?_
  rw [show A.pr h r k = expo (A.score h r) r k / total (A.score h r) r from rfl]
  ring

/-- The score's cotangent as the derivative of a quotient spells it. -/
theorem slope_quot (r k : Fin 4096) :
    (A.dp h r k / A.tot h r + -∑ j, A.dp h r j * (1 / (A.tot h r * A.tot h r)) * A.ex h r j) * A.ex h r k * scale = A.slope h r k := by
  have ht := A.tot_ne h r
  have e : ∑ j, A.dp h r j * (1 / (A.tot h r * A.tot h r)) * A.ex h r j = (∑ j, A.pr h r j * A.dp h r j) / A.tot h r := by
    rw [Finset.sum_div]
    refine Finset.sum_congr rfl fun j _ => ?_
    unfold pr
    field_simp
  rw [e, slope]
  unfold pr
  field_simp
  ring

end Args

end Cert.Flash
-- ==== Proof.FlashHost.lean ====
module

public import proofs.«01_k».proof.Proof.FlashArrays
public import proofs.«01_k».proof.Proof.FlashReal
public import Idealize.ShloMosaic.Lib.WordCmp
public import Idealize.ShloMosaic.Lib.Pointwise
public import Idealize.ShloMosaic.Lib.Claim
public import Idealize.ShloMosaic.Lib.StableHlo.RunRead
public import Idealize.ShloMosaic.Lib.StableHlo.ReadAt

@[expose] public section

set_option maxRecDepth 16384

noncomputable section

namespace Cert.FlashKernelIdeal.Hand

open Cert.FlashKernelIdeal Cert.FlashKernelIdeal.Gen
open Idealize.ShloMosaic Idealize.ShloMosaic.TcCoe Idealize.ShloMosaic.Tactic

variable (m : (ℓ : Loc nD τ sig) → Buf (Elt Ideal) ℓ) (c : Dev nD)

/-- The host's lines, one stretch after the other. -/
theorem V_split (b : Ref sig .tc) : V m c b = StableHlo.after hostOps0_6 (StableHlo.after hostOps0_5 (StableHlo.after hostOps0_4
    (StableHlo.after hostOps0_3 (StableHlo.after hostOps0_2 (StableHlo.after hostOps0_1 (StableHlo.after hostOps0
      fun b => m (c, b))))))) b := by
  unfold V
  simp only [List.flatten_cons, List.flatten_nil, List.append_nil, StableHlo.after_append]

theorem ofBits_two : Ideal.ofBits .f32 0x40000000#32 = ((2 : ℝ) : EReal) := by
  simp [Ideal.ofBits, Ideal.ieee, ← EReal.coe_mul]
  norm_num

theorem ofBits_scale : Ideal.ofBits .f32 0x3D93CD3A#32 = ((Flash.Args.scale : ℝ) : EReal) := by
  simp [Ideal.ofBits, Ideal.ieee, Flash.Args.scale, ← EReal.coe_mul]
  norm_num

theorem ofBits_neg : Ideal.ofBits .f32 0xFF800000#32 = ⊥ := by
  simp [Ideal.ofBits, Ideal.ieee]

theorem sitofp_zero : (FloatOps.sitofp (F := Ideal) .f32 (0#32) : EReal) = 0 := by
  simp [FloatOps.sitofp]

section Lines

variable (W : Valuation τ sig (Elt Ideal)) (a0 : S4096x8x192.Idx → EReal) (a1 : S4096x8x256.Idx → EReal) (a2 : S4096x64.Idx → EReal)
  (a3 : S4096x8x128.Idx → EReal)

/-- The buffers after the lines that follow the masked scores. -/
abbrev rest : Valuation τ sig (Elt Ideal) :=
  StableHlo.after hostOps0_6 (StableHlo.after hostOps0_5 (StableHlo.after hostOps0_4 (StableHlo.after hostOps0_3 (StableHlo.after hostOps0_2 W))))

/-- The buffers after the lines up to the masked scores. -/
abbrev first : Valuation τ sig (Elt Ideal) := StableHlo.after hostOps0_1 (StableHlo.after hostOps0 W)

theorem masked_at (e0 : W main_arg0 = a0) (e1 : W main_arg1 = a1) (e2 : W main_arg2 = a2) (h : Fin 8) (r k : Fin 4096) :
    (first W main_v18 : FVec Ideal S8x4096x4096 .f32) (ix3 h r k)
    = Scalar.select (IntOp.cmpi .sle (BitVec.ofNat 32 k) (BitVec.ofNat 32 r)) (((∑ x : Fin 128, a0 (ix3 r h ⟨x, by omega⟩) * a1 (ix3 k h ⟨x, by omega⟩))
      + ∑ x : Fin 64, a2 (ix2 k x) * a0 (ix3 r h ⟨128 + x, by omega⟩)) * Ideal.ofBits .f32 0x3D93CD3A#32 : EReal) (Ideal.ofBits .f32 0xFF800000#32) := by
  subst e0 e1 e2
  unfold first
  after_reads_at
  rfl

theorem val_at (e1 : W main_arg1 = a1) (h : Fin 8) (r : Fin 4096) (x : Fin 128) : (first W main_v1 : FVec Ideal S4096x8x128 .f32) (ix3 r h x)
    = a1 (ix3 r h ⟨128 + x, by omega⟩) := by
  subst e1
  unfold first
  after_reads_at

theorem arg3_at : first W main_arg3 = W main_arg3 := by
  unfold first
  after_reads_simp

/-- What the lines make of a row's maximum and of its sum of exponentials. -/
theorem lse_of (M S : FVec Ideal S8x4096 .f32) (h : Fin 8) (r : Fin 4096) :
    (shapeCast S8x1x4096 (Host.divf (addf (broadcastInDim S8x4096x1 ![0, 1] bcast_S8x4096_S8x4096x1_0_1 M)
        (Host.log (broadcastInDim S8x4096x1 ![0, 1] bcast_S8x4096_S8x4096x1_0_1 S)))
      (broadcastInDim S8x4096x1 ![] bcast_S_S8x4096x1 (Host.log (constant S_ FTy.f32 0x40000000#32)))) shapeCasts_S8x4096x1_S8x1x4096 : FVec Ideal S8x1x4096 .f32) (ix3 h 0 r)
      = (Ideal.div (M (ix2 h r) + Ideal.log (S (ix2 h r))) (Ideal.log (Ideal.ofBits .f32 0x40000000#32)) : EReal) := by
  pointwise

theorem max_at (s : FVec Ideal S8x4096x4096 .f32) (h : Fin 8) (r : Fin 4096) :
    (Host.reduce FloatOps.maximumf s (constant S_ FTy.f32 0xFF800000#32) reducesTo_S8x4096x4096_S8x4096_d2 h_S_ : FVec Ideal S8x4096 .f32) (ix2 h r)
      = (Finset.fold max (Ideal.ofBits FTy.f32 0xFF800000#32) (fun x => s (ix3 h r x)) Finset.univ : EReal) := by
  pointwise

theorem tot_at (s : FVec Ideal S8x4096x4096 .f32) (M : FVec Ideal S8x4096 .f32) (h : Fin 8) (r : Fin 4096) :
    (Host.reduceAdd (Host.exp (subf s (broadcastInDim S8x4096x4096 ![0, 1, 2] bcast_S8x4096x1_S8x4096x4096_0_1_2
      (broadcastInDim S8x4096x1 ![0, 1] bcast_S8x4096_S8x4096x1_0_1 M)))) (constant S_ FTy.f32 0x00000000#32) reducesTo_S8x4096x4096_S8x4096_d2 h_S_ : FVec Ideal S8x4096 .f32) (ix2 h r)
      = (∑ x, Ideal.exp (s (ix3 h r x) - M (ix2 h r)) : EReal) := by
  pointwise

theorem lse_at (s : S8x4096x4096.Idx → EReal) (es : W main_v18 = s) (h : Fin 8) (r : Fin 4096) : (rest W main_v35 : FVec Ideal S8x1x4096 .f32) (ix3 h 0 r)
    = (Ideal.div
      (Finset.fold max (Ideal.ofBits FTy.f32 0xFF800000#32) (fun x => s (ix3 h r x)) Finset.univ
        + Ideal.log (∑ x, Ideal.exp (s (ix3 h r x) - Finset.fold max (Ideal.ofBits FTy.f32 0xFF800000#32) (fun x => s (ix3 h r x)) Finset.univ)))
      (Ideal.log (Ideal.ofBits FTy.f32 0x40000000#32)) : EReal) := by
  subst es
  unfold rest
  after_reads_simp
  refine (lse_of _ _ h r).trans ?_
  rw [tot_at, max_at]

theorem dl_at (s : S8x4096x4096.Idx → EReal) (es : W main_v18 = s) (v : S4096x8x128.Idx → EReal) (ev : W main_v1 = v) (e3 : W main_arg3 = a3)
    (h : Fin 8) (r : Fin 4096) : (rest W main_v39 : FVec Ideal S8x1x4096 .f32) (ix3 h 0 r)
    = (∑ x, a3 (ix3 r h x) * ∑ k, v (ix3 k h x) * Ideal.div
      (Ideal.exp (s (ix3 h r k) - Finset.fold max (Ideal.ofBits FTy.f32 0xFF800000#32) (fun x => s (ix3 h r x)) Finset.univ))
      (∑ x, Ideal.exp (s (ix3 h r x) - Finset.fold max (Ideal.ofBits FTy.f32 0xFF800000#32) (fun x => s (ix3 h r x)) Finset.univ)) : EReal) := by
  subst es ev e3
  unfold rest
  after_reads_at

theorem q_at (e0 : W main_arg0 = a0) (h : Fin 8) (r : Fin 4096) (x : Fin 256) : (rest (first W) main_v45 : FVec Ideal S4096x2048 .bf16) (ix2 r (col256 h x))
    = if hx : x.val < 192 then (a0 (ix3 r h ⟨x, hx⟩) * Ideal.div (Ideal.ofBits .f32 0x3D93CD3A#32) (Ideal.log (Ideal.ofBits .f32 0x40000000#32)) : EReal) else 0 := by
  subst e0
  have e1 : (256 * h.val + x.val) / 256 = h.val := by omega
  have e2 : (256 * h.val + x.val) % 256 = x.val := by omega
  unfold rest first
  after_reads_at
  simp only [e1, e2, sitofp_zero, h.isLt, true_and]

theorem kv_at (e1 : W main_arg1 = a1) (h : Fin 8) (r : Fin 4096) (x : Fin 256) : (rest (first W) main_v47 : FVec Ideal S4096x2048 .bf16) (ix2 r (col256 h x))
    = a1 (ix3 r h x) := by
  subst e1
  have e1 : (256 * h.val + x.val) / 256 = h.val := by omega
  have e2 : (256 * h.val + x.val) % 256 = x.val := by omega
  unfold rest first
  after_reads_at
  simp only [e1, e2]

theorem kr_at (e2 : W main_arg2 = a2) (r : Fin 4096) (x : Fin 128) : (rest (first W) main_v49 : FVec Ideal S4096x128 .bf16) (ix2 r x)
    = if hx : x.val < 64 then a2 (ix2 r ⟨x, hx⟩) else (0 : EReal) := by
  subst e2
  unfold rest first
  after_reads_at
  simp only [sitofp_zero]

theorem do_at (e3 : W main_arg3 = a3) (h : Fin 8) (r : Fin 4096) (x : Fin 128) : (rest (first W) main_v51 : FVec Ideal S4096x1024 .bf16) (ix2 r (col128 h x))
    = a3 (ix3 r h x) := by
  subst e3
  have e1 : (128 * h.val + x.val) / 128 = h.val := by omega
  have e2 : (128 * h.val + x.val) % 128 = x.val := by omega
  unfold rest first
  after_reads_at
  simp only [e1, e2]

end Lines

end Cert.FlashKernelIdeal.Hand
-- ==== Proof.FlashValue.lean ====
module

public import proofs.«01_k».proof.Proof.FlashHost

/-!
# The kernel's three results, as real numbers

Where the arguments are real numbers `A`, the staged arrays are the real ones of `A`, and the kernel's sums are its gradients.
-/

@[expose] public section

set_option maxRecDepth 16384

noncomputable section

namespace Cert.FlashKernelIdeal.Hand

open Cert.FlashKernelIdeal Cert.FlashKernelIdeal.Gen Cert.Reals
open Idealize.ShloMosaic Idealize.ShloMosaic.TcCoe Idealize.ShloMosaic.Tactic

variable (A : Flash.Args) (h : Fin 8)

theorem log_two : Ideal.log (Ideal.ofBits .f32 0x40000000#32) = ((Real.log 2 : ℝ) : EReal) := by
  rw [ofBits_two, Ideal.log_coe, if_neg (by norm_num)]

theorem log_two_ne : Real.log 2 ≠ 0 := (Real.log_pos (by norm_num)).ne'

/-- The staged arrays hold what the real numbers `A` give. -/
structure Holds (a : Arrs) : Prop where
  q : ∀ h r x, a.q (ix2 r (col256 h x)) = ((A.query h r x * (Flash.Args.scale / Real.log 2) : ℝ) : EReal)
  kv : ∀ h k x, a.kv (ix2 k (col256 h x)) = (A.kv k h x : EReal)
  kr : ∀ k (x : Fin 128), a.kr (ix2 k x) = ((if hx : x.val < 64 then A.kr k ⟨x, hx⟩ else 0 : ℝ) : EReal)
  dO : ∀ h r x, a.dO (ix2 r (col128 h x)) = (A.dO r h x : EReal)
  lse : ∀ h r, a.lse (ix3 h 0 r) = (A.lse h r : EReal)
  dl : ∀ h r, a.dl (ix3 h 0 r) = (A.delta h r : EReal)

section Sums

variable {A} {a : Arrs} (H : Holds A a)
include H

theorem key_eq (k : Fin 4096) (x : Fin 256) : a.key h k x = (A.key h k x : EReal) := by
  unfold Arrs.key Flash.Args.key
  split
  · exact H.kv h k x
  · rw [H.kr]

theorem wt_eq (k r : Fin 4096) : a.wt h k r = (A.pr h r k : EReal) := by
  have e : ∀ x : Fin 256, a.key h k x * a.q (ix2 r (col256 h x)) = ((A.key h k x * A.query h r x * (Flash.Args.scale / Real.log 2) : ℝ) : EReal) := fun x => by
    rw [key_eq h H, H.q, ← EReal.coe_mul, mul_assoc]
  unfold Arrs.wt
  simp only [e, coe_sum, H.lse]
  rw [← Finset.sum_mul, ← mul_div_assoc, A.sum_key_query]
  exact Flash.exp2_masked (A.score h r) r k

theorem gr_eq (k r : Fin 4096) : a.gr h k r = (A.slope h r k : EReal) := by
  have e : ∀ x : Fin 128, a.kv (ix2 k (col256 h ⟨128 + x.val, by omega⟩)) * a.dO (ix2 r (col128 h x)) = ((A.dO r h x * A.kv k h ⟨128 + x, by omega⟩ : ℝ) : EReal) := fun x => by
    rw [H.kv, H.dO, ← EReal.coe_mul, mul_comm]
  unfold Arrs.gr
  simp only [e, coe_sum, H.dl, wt_eq h H, ofBits_scale, ← EReal.coe_sub, ← EReal.coe_mul]
  rfl

theorem dq_eq (r : Fin 4096) (x : Fin 256) : a.dq h r x = (A.dq256 h r x : EReal) := by
  unfold Arrs.dq
  simp only [gr_eq h H, key_eq h H, ← EReal.coe_mul, coe_sum, A.sum_slope_key]

theorem dk_eq (k : Fin 4096) (x : Fin 256) : a.dk h k x = (A.dk256 h k x : EReal) := by
  have hs : (4843165 / 67108864 : ℝ) = Flash.Args.scale := rfl
  have hn : Flash.Args.scale ≠ 0 := by unfold Flash.Args.scale; norm_num
  unfold Arrs.dk
  simp only [gr_eq h H, H.q, ← EReal.coe_mul, coe_sum, ← mul_assoc]
  rw [← Finset.sum_mul, A.sum_slope_query, hs]
  congr 1
  have := log_two_ne
  field_simp

theorem dv_eq (k : Fin 4096) (x : Fin 128) : a.dv h k x = (A.dv h k x : EReal) := by
  unfold Arrs.dv
  simp only [wt_eq h H, H.dO, ← EReal.coe_mul, coe_sum]
  rfl

theorem lse_ne (q : Fin 4096) : a.lse (ix3 h 0 q) ≠ ⊥ := by
  rw [H.lse]
  exact EReal.coe_ne_bot _

end Sums

section Staged

variable (W : Valuation τ sig (Elt Ideal)) (m : (ℓ : Loc nD τ sig) → Buf (Elt Ideal) ℓ) (c : Dev nD)
variable {A}
variable (a0 : S4096x8x192.Idx → EReal) (a1 : S4096x8x256.Idx → EReal) (a2 : S4096x64.Idx → EReal) (a3 : S4096x8x128.Idx → EReal)
  (E0 : m (c, Proc.tc.devRef main_arg0) = a0) (E1 : m (c, Proc.tc.devRef main_arg1) = a1) (E2 : m (c, Proc.tc.devRef main_arg2) = a2)
  (E3 : m (c, Proc.tc.devRef main_arg3) = a3)
  (H0 : ∀ r h x, a0 (ix3 r h x) = (A.q r h x : EReal)) (H1 : ∀ r h x, a1 (ix3 r h x) = (A.kv r h x : EReal))
  (H2 : ∀ r x, a2 (ix2 r x) = (A.kr r x : EReal)) (H3 : ∀ r h x, a3 (ix3 r h x) = (A.dO r h x : EReal))

theorem V_rest (b : Ref sig .tc) : V m c b = rest (first fun b => m (c, b)) b := V_split m c b

include E0 E1 E2 H0 H1 H2 in
theorem masked_eq (h : Fin 8) (r k : Fin 4096) :
    (first (fun b => m (c, b)) main_v18 : FVec Ideal S8x4096x4096 .f32) (ix3 h r k) = Flash.masked (A.score h r) r k := by
  have hr := r.isLt
  have hk := k.isLt
  refine (masked_at _ a0 a1 a2 E0 E1 E2 h r k).trans ?_
  rw [WordCmp.cmpi_sle_ofNat (by omega) (by omega), ofBits_neg, ofBits_scale]
  have e1 : ∀ x : Fin 128, a0 (ix3 r h ⟨x, by omega⟩) * a1 (ix3 k h ⟨x, by omega⟩)
      = ((A.q r h ⟨x, by omega⟩ * A.kv k h ⟨x, by omega⟩ : ℝ) : EReal) := fun x => by rw [H0, H1, EReal.coe_mul]
  have e2 : ∀ x : Fin 64, a2 (ix2 k x) * a0 (ix3 r h ⟨128 + x, by omega⟩)
      = ((A.q r h ⟨128 + x, by omega⟩ * A.kr k x : ℝ) : EReal) := fun x => by rw [H0, H2, mul_comm, EReal.coe_mul]
  unfold Flash.masked
  by_cases hle : k ≤ r
  · rw [if_pos hle]
    refine Eq.trans (b := (((∑ x : Fin 128, ((A.q r h ⟨x, by omega⟩ * A.kv k h ⟨x, by omega⟩ : ℝ) : EReal)) + ∑ x : Fin 64, ((A.q r h ⟨128 + x, by omega⟩ * A.kr k x : ℝ) : EReal)) * ((Flash.Args.scale : ℝ) : EReal))) ?_ ?_
    · rw [← Finset.sum_congr rfl fun x _ => e1 x, ← Finset.sum_congr rfl fun x _ => e2 x]
      simp [Scalar.select, show k.val ≤ r.val from hle]
    · simp only [coe_sum, ← EReal.coe_add, ← EReal.coe_mul]
      rfl
  · rw [if_neg hle]
    simp [Scalar.select, show ¬ k.val ≤ r.val from hle]

include E0 E1 E2 E3 H0 H1 H2 H3 in
theorem holds : Holds A (arrs m c) where
  q h r x := by
    rw [arrs_q, V_rest]
    refine (q_at _ a0 E0 h r x).trans ?_
    unfold Flash.Args.query
    rw [ofBits_scale, log_two, coe_div _ log_two_ne]
    split
    · rw [H0, EReal.coe_mul]
    · simp
  kv h k x := by
    rw [arrs_kv, V_rest]
    exact (kv_at _ a1 E1 h k x).trans (H1 k h x)
  kr k x := by
    rw [arrs_kr, V_rest]
    refine (kr_at _ a2 E2 k x).trans ?_
    split
    · exact H2 _ _
    · simp
  dO h r x := by
    rw [arrs_dO, V_rest]
    exact (do_at _ a3 E3 h r x).trans (H3 r h x)
  lse h r := by
    rw [arrs_lse, V_rest]
    refine (lse_at _ _ rfl h r).trans ?_
    simp only [masked_eq m c a0 a1 a2 E0 E1 E2 H0 H1 H2]
    rw [ofBits_neg, Flash.fold_masked, Flash.sum_exp_masked, Ideal.log_coe, if_neg (not_le.mpr (Flash.total_pos _ _)), log_two, ← EReal.coe_add,
      coe_div _ log_two_ne]
    rfl
  dl h r := by
    rw [arrs_dl, V_rest]
    refine (dl_at _ a3 _ rfl _ rfl ((arg3_at _).trans E3) h r).trans ?_
    simp only [masked_eq m c a0 a1 a2 E0 E1 E2 H0 H1 H2, H3, val_at (fun b => m (c, b)) a1 E1, H1]
    rw [ofBits_neg]
    simp only [Flash.fold_masked, Flash.sum_exp_masked]
    simp only [Flash.exp_masked, coe_div _ (Flash.total_pos _ _).ne', ← EReal.coe_mul, coe_sum]
    rw [A.sum_out]

end Staged

end Cert.FlashKernelIdeal.Hand
-- ==== Proof.FlashRef.lean ====
module

public import proofs.«01_k».proof.Proof.FlashReal
public import proofs.«01_k».proof.Proof.Gen.FlashReferenceIdeal.Read
public import Idealize.ShloMosaic.Lib.WordCmp
public import Idealize.ShloMosaic.Lib.Pointwise

/-!
# The reference's three results, as real numbers

Where the arguments are real numbers `A`, the derivative of the attention that the reference takes is the gradient of `A`.
-/

@[expose] public section

set_option maxRecDepth 16384

noncomputable section

namespace Cert.FlashReferenceIdeal.Hand

open Cert.FlashReferenceIdeal Cert.FlashReferenceIdeal.Gen Cert.FlashReferenceIdeal.Read Cert.Reals
open Idealize.ShloMosaic Idealize.ShloMosaic.TcCoe Idealize.ShloMosaic.Tactic

variable (x0 : FVec Ideal S4096x8x192 .f32) (x1 : FVec Ideal S4096x8x256 .f32) (x2 : FVec Ideal S4096x64 .f32) (x3 : FVec Ideal S4096x8x128 .f32)

/-! ## Each array at an index, from the ones before it -/

theorem score_at (h : Fin 8) (r k : Fin 4096) : val_main_v10 (F := Ideal) x0 x1 x2 (ix3 h r k)
    = ((∑ x : Fin 128, x0 (ix3 r h ⟨x, by omega⟩) * x1 (ix3 k h ⟨x, by omega⟩) + ∑ x : Fin 64, x0 (ix3 r h ⟨128 + x, by omega⟩) * x2 (ix2 k x))
      * Ideal.ofBits FTy.f32 0x3D93CD3A#32 : EReal) := by
  unfold val_main_v10 val_main_v8 val_main_v6 val_main_v7 val_main_v2 val_main_v4 val_main_v3 val_main_v1 val_main_v0 val_main_v9 val_main_cst
  pointwise

theorem mask_at (h : Fin 8) (r k : Fin 4096) :
    val_main_v18_1 (F := Ideal) (ix3 h r k) = IntOp.cmpi CmpIPredicate.sle (BitVec.ofNat 32 k) (BitVec.ofNat 32 r) := by
  unfold val_main_v18_1 val_main_v17 val_main_v16 val_main_v15 val_main_v14 val_main_v13 val_main_v12 val_main_v11
  pointwise

theorem masked_at (h : Fin 8) (r k : Fin 4096) : val_main_v18_0 (F := Ideal) x0 x1 x2 (ix3 h r k)
    = (Scalar.select (val_main_v18_1 (F := Ideal) (ix3 h r k)) (val_main_v10 (F := Ideal) x0 x1 x2 (ix3 h r k)) (Ideal.ofBits FTy.f32 0xFF800000#32) : EReal) := by
  unfold val_main_v18_0 val_main_call0_v2 val_main_call0_v0 val_main_cst_0
  pointwise
  rfl

theorem fold_at (s : FVec Ideal S8x4096x4096 .f32) (h : Fin 8) (r : Fin 4096) :
    (Host.reduce FloatOps.maximumf s (constant S_ FTy.f32 0xFF800000#32) reducesTo_S8x4096x4096_S8x4096_d2 h_S_ : FVec Ideal S8x4096 .f32) (ix2 h r)
      = (Finset.fold max (Ideal.ofBits FTy.f32 0xFF800000#32) (fun x => s (ix3 h r x)) Finset.univ : EReal) := by
  pointwise

theorem top_at (M : FVec Ideal S8x4096 .f32) (h : Fin 8) (r : Fin 4096) :
    maximumf (broadcastInDim S8x4096 ![] bcast_S_S8x4096 (constant S_ FTy.f32 0xFF800000#32)) M (ix2 h r)
      = (max (Ideal.ofBits FTy.f32 0xFF800000#32) (M (ix2 h r)) : EReal) := by
  pointwise

theorem max_at (h : Fin 8) (r : Fin 4096) : val_main_v26 (F := Ideal) x0 x1 x2 (ix2 h r)
    = (max (Ideal.ofBits FTy.f32 0xFF800000#32)
      (Finset.fold max (Ideal.ofBits FTy.f32 0xFF800000#32) (fun x => val_main_v18_0 (F := Ideal) x0 x1 x2 (ix3 h r x)) Finset.univ) : EReal) := by
  refine (top_at _ h r).trans ?_
  unfold val_main_v19 val_main_cst_1
  rw [fold_at]

theorem exp_at (h : Fin 8) (r k : Fin 4096) : val_main_v39 (F := Ideal) x0 x1 x2 (ix3 h r k)
    = Ideal.exp (val_main_v18_0 (F := Ideal) x0 x1 x2 (ix3 h r k) - val_main_v26 (F := Ideal) x0 x1 x2 (ix2 h r)) := by
  unfold val_main_v39 val_main_v38 val_main_v37 val_main_v36
  pointwise

theorem tot_at (h : Fin 8) (r : Fin 4096) : val_main_v40 (F := Ideal) x0 x1 x2 (ix2 h r) = (∑ k, val_main_v39 (F := Ideal) x0 x1 x2 (ix3 h r k) : EReal) := by
  unfold val_main_v40 val_main_cst_9
  pointwise

theorem pr_at (h : Fin 8) (r k : Fin 4096) : val_main_v43 (F := Ideal) x0 x1 x2 (ix3 h r k)
    = Ideal.div (val_main_v39 (F := Ideal) x0 x1 x2 (ix3 h r k)) (val_main_v40 (F := Ideal) x0 x1 x2 (ix2 h r)) := by
  unfold val_main_v43 val_main_v42 val_main_v41
  pointwise

theorem dp_at (h : Fin 8) (r k : Fin 4096) : val_main_v50 (F := Ideal) x1 x3 (ix3 h r k)
    = (∑ x : Fin 128, x3 (ix3 r h x) * x1 (ix3 k h ⟨128 + x, by omega⟩) : EReal) := by
  unfold val_main_v50 val_main_v49 val_main_v5
  pointwise

theorem slope_at (h : Fin 8) (r k : Fin 4096) : val_main_v67 (F := Ideal) x0 x1 x2 x3 (ix3 h r k)
    = (Scalar.select (val_main_v18_1 (F := Ideal) (ix3 h r k))
      ((Ideal.div (val_main_v50 (F := Ideal) x1 x3 (ix3 h r k)) (val_main_v40 (F := Ideal) x0 x1 x2 (ix2 h r)) +
            ∑ x : Fin 1, -∑ x, val_main_v50 (F := Ideal) x1 x3 (ix3 h r x) *
                      Ideal.div 1 (val_main_v40 (F := Ideal) x0 x1 x2 (ix2 h r) * val_main_v40 (F := Ideal) x0 x1 x2 (ix2 h r)) *
                    val_main_v39 (F := Ideal) x0 x1 x2 (ix3 h r x)) *
          val_main_v39 (F := Ideal) x0 x1 x2 (ix3 h r k) *
        Ideal.ofBits FTy.f32 0x3D93CD3A#32)
      0 : EReal) := by
  unfold val_main_v67 val_main_v66 val_main_cst_13 val_main_v65 val_main_call1_v0 val_main_call1_cst val_main_v64 val_main_v63 val_main_v62 val_main_v61
    val_main_cst_12 val_main_v60 val_main_v59 val_main_v58 val_main_v57 val_main_v56 val_main_cst_11 val_main_v55 val_main_v54 val_main_v53 val_main_v46
    val_main_v45 val_main_cst_10 val_main_v44 val_main_v41
  pointwise

theorem sitofp_zero : (FloatOps.sitofp (F := Ideal) .f32 (0#32) : EReal) = 0 := by
  simp [FloatOps.sitofp]

theorem dq_at (h : Fin 8) (r : Fin 4096) (x : Fin 256) : val_main_v80 (F := Ideal) x0 x1 x2 x3 (ix2 r ⟨256 * h.val + x.val, by omega⟩)
    = (if h1 : x.val < 192 then
        if h2 : x.val < 128 then ∑ k, val_main_v67 (F := Ideal) x0 x1 x2 x3 (ix3 h r k) * x1 (ix3 k h x)
        else ∑ k, val_main_v67 (F := Ideal) x0 x1 x2 x3 (ix3 h r k) * x2 (ix2 k ⟨x - 128, by omega⟩)
      else 0 : EReal) := by
  have e1 : (256 * h.val + x.val) / 256 = h.val := by omega
  have e2 : (256 * h.val + x.val) % 256 = x.val := by omega
  unfold val_main_v80 val_main_v78 val_main_call2_v0 val_main_c val_main_v77 val_main_v75 val_main_v74 val_main_v71 val_main_v70 val_main_v1 val_main_v0 val_main_v4
  pointwise
  simp only [e1, e2, sitofp_zero, h.isLt, true_and]

theorem dkv_at (h : Fin 8) (k : Fin 4096) (x : Fin 256) : val_main_v82 (F := Ideal) x0 x1 x2 x3 (ix2 k ⟨256 * h.val + x.val, by omega⟩)
    = (if h1 : x.val < 128 then ∑ r, val_main_v67 (F := Ideal) x0 x1 x2 x3 (ix3 h r k) * x0 (ix3 r h ⟨x, by omega⟩)
      else ∑ r, x3 (ix3 r h ⟨x - 128, by omega⟩) * val_main_v43 (F := Ideal) x0 x1 x2 (ix3 h r k) : EReal) := by
  have e1 : (256 * h.val + x.val) / 256 = h.val := by omega
  have e2 : (256 * h.val + x.val) % 256 = x.val := by omega
  unfold val_main_v82 val_main_v81 val_main_v76 val_main_v73 val_main_v72 val_main_v52 val_main_v51 val_main_v49 val_main_v2
  pointwise

theorem dkr_at (h : Fin 8) (k : Fin 4096) (x : Fin 128) : val_main_v83 (F := Ideal) x0 x1 x2 x3 (ix2 k ⟨128 * h.val + x.val, by omega⟩)
    = (if h1 : x.val < 64 then ∑ r, val_main_v67 (F := Ideal) x0 x1 x2 x3 (ix3 h r k) * x0 (ix3 r h ⟨128 + x, by omega⟩) else 0 : EReal) := by
  have e1 : (128 * h.val + x.val) / 128 = h.val := by omega
  have e2 : (128 * h.val + x.val) % 128 = x.val := by omega
  unfold val_main_v83 val_main_v79 val_main_call3_v0 val_main_c_14 val_main_v69 val_main_v68 val_main_v3
  pointwise
  simp only [e1, e2, sitofp_zero, h.isLt, true_and]

/-! ## Over the real numbers -/

theorem ofBits_scale : Ideal.ofBits .f32 0x3D93CD3A#32 = ((Flash.Args.scale : ℝ) : EReal) := by
  simp [Ideal.ofBits, Ideal.ieee, Flash.Args.scale, ← EReal.coe_mul]
  norm_num

theorem ofBits_neg : Ideal.ofBits .f32 0xFF800000#32 = ⊥ := by
  simp [Ideal.ofBits, Ideal.ieee]

variable {x0 x1 x2 x3} {A : Flash.Args} (h : Fin 8)
  (H0 : ∀ r h x, x0 (ix3 r h x) = (A.q r h x : EReal)) (H1 : ∀ r h x, x1 (ix3 r h x) = (A.kv r h x : EReal))
  (H2 : ∀ r x, x2 (ix2 r x) = (A.kr r x : EReal)) (H3 : ∀ r h x, x3 (ix3 r h x) = (A.dO r h x : EReal))

theorem mask_eq (r k : Fin 4096) (a b : EReal) : Scalar.select (val_main_v18_1 (F := Ideal) (ix3 h r k)) a b = if k ≤ r then a else b := by
  have hr := r.isLt
  have hk := k.isLt
  rw [mask_at, WordCmp.cmpi_sle_ofNat (by omega) (by omega)]
  by_cases hle : k ≤ r
  · simp [Scalar.select, hle, show k.val ≤ r.val from hle]
  · simp [Scalar.select, hle, show ¬ k.val ≤ r.val from hle]

section
include H0 H1 H2

theorem masked_eq (r k : Fin 4096) : val_main_v18_0 (F := Ideal) x0 x1 x2 (ix3 h r k) = Flash.masked (A.score h r) r k := by
  rw [masked_at, mask_eq, score_at, ofBits_neg, ofBits_scale]
  simp only [H0, H1, H2, ← EReal.coe_mul, coe_sum, ← EReal.coe_add]
  rfl

theorem max_eq (r : Fin 4096) : val_main_v26 (F := Ideal) x0 x1 x2 (ix2 h r) = (Flash.top (A.score h r) r : EReal) := by
  rw [max_at, ofBits_neg]
  simp only [masked_eq h H0 H1 H2, Flash.fold_masked]
  exact max_eq_right bot_le

theorem exp_eq (r k : Fin 4096) : val_main_v39 (F := Ideal) x0 x1 x2 (ix3 h r k) = (A.ex h r k : EReal) := by
  rw [exp_at, masked_eq h H0 H1 H2, max_eq h H0 H1 H2]
  exact Flash.exp_masked _ _ _

theorem tot_eq (r : Fin 4096) : val_main_v40 (F := Ideal) x0 x1 x2 (ix2 h r) = (A.tot h r : EReal) := by
  rw [tot_at]
  simp only [exp_eq h H0 H1 H2, coe_sum]
  rfl

theorem pr_eq (r k : Fin 4096) : val_main_v43 (F := Ideal) x0 x1 x2 (ix3 h r k) = (A.pr h r k : EReal) := by
  rw [pr_at, exp_eq h H0 H1 H2, tot_eq h H0 H1 H2, coe_div _ (A.tot_ne h r)]
  rfl

include H3

omit H0 H2 in
theorem dp_eq (r k : Fin 4096) : val_main_v50 (F := Ideal) x1 x3 (ix3 h r k) = (A.dp h r k : EReal) := by
  rw [dp_at]
  simp only [H1, H3, ← EReal.coe_mul, coe_sum]
  rfl

theorem slope_eq (r k : Fin 4096) : val_main_v67 (F := Ideal) x0 x1 x2 x3 (ix3 h r k) = (A.slope h r k : EReal) := by
  have ht := A.tot_ne h r
  rw [slope_at, mask_eq]
  simp only [exp_eq h H0 H1 H2, tot_eq h H0 H1 H2, dp_eq h H1 H3, ofBits_scale, ← EReal.coe_mul, ← EReal.coe_one, coe_div _ ht,
    coe_div _ (mul_ne_zero ht ht), coe_sum, ← EReal.coe_neg, ← EReal.coe_add, Finset.sum_const, Finset.card_univ, Fintype.card_fin, one_smul, A.slope_quot]
  split
  · rfl
  next hn => simp [Flash.Args.slope, Flash.Args.pr, Flash.Args.ex, Flash.expo, hn]

theorem dq_eq (r : Fin 4096) (x : Fin 256) :
    val_main_v80 (F := Ideal) x0 x1 x2 x3 (ix2 r ⟨256 * h.val + x.val, by omega⟩) = (A.dq256 h r x : EReal) := by
  rw [dq_at]
  simp only [slope_eq h H0 H1 H2 H3, H1, H2, ← EReal.coe_mul, coe_sum]
  unfold Flash.Args.dq256 Flash.Args.dq
  split
  · split <;> simp_all
  · simp

theorem dkv_eq (k : Fin 4096) (x : Fin 256) :
    val_main_v82 (F := Ideal) x0 x1 x2 x3 (ix2 k ⟨256 * h.val + x.val, by omega⟩)
      = if hx : x.val < 128 then (A.dk256 h k x : EReal) else (A.dv h k ⟨x - 128, by omega⟩ : EReal) := by
  rw [dkv_at]
  simp only [slope_eq h H0 H1 H2 H3, pr_eq h H0 H1 H2, H0, H3, ← EReal.coe_mul, coe_sum]
  split
  next hx =>
    rw [Flash.Args.dk256, dif_pos (by omega)]
    rfl
  next hx =>
    unfold Flash.Args.dv
    simp only [mul_comm]

theorem dkr_eq (k : Fin 4096) (x : Fin 128) :
    val_main_v83 (F := Ideal) x0 x1 x2 x3 (ix2 k ⟨128 * h.val + x.val, by omega⟩) = (A.dk256 h k ⟨128 + x, by omega⟩ : EReal) := by
  rw [dkr_at]
  simp only [slope_eq h H0 H1 H2 H3, H0, ← EReal.coe_mul, coe_sum]
  unfold Flash.Args.dk256
  split
  next hx =>
    rw [dif_pos (show 128 + x.val < 192 by omega)]
    rfl
  next hx =>
    rw [dif_neg (show ¬ 128 + x.val < 192 by omega), EReal.coe_zero]

end

end Cert.FlashReferenceIdeal.Hand
-- ==== Proof.FlashEq.lean ====
module

public import proofs.«01_k».proof.Proof.FlashValue
public import proofs.«01_k».proof.Proof.FlashRef

/-!
# The attention's gradient: kernel and reference agree

Where all four arguments are finite, the three arrays that the kernel leaves are the reference's.
-/

@[expose] public section

set_option maxRecDepth 16384

noncomputable section

namespace Cert.FlashKernelIdeal.Hand

open Cert.FlashKernelIdeal Cert.FlashKernelIdeal.Gen Cert.FlashReferenceIdeal.Read Cert.Reals
open Idealize.ShloMosaic Idealize.ShloMosaic.TcCoe Idealize.ShloMosaic.Tactic

variable (m : (ℓ : Loc nD τ sig) → Buf (Elt Ideal) ℓ) (c : Dev nD)

theorem agree (a0 : S4096x8x192.Idx → EReal) (a1 : S4096x8x256.Idx → EReal) (a2 : S4096x64.Idx → EReal) (a3 : S4096x8x128.Idx → EReal)
    (E0 : m (c, Proc.tc.devRef main_arg0) = a0) (E1 : m (c, Proc.tc.devRef main_arg1) = a1) (E2 : m (c, Proc.tc.devRef main_arg2) = a2)
    (E3 : m (c, Proc.tc.devRef main_arg3) = a3)
    (R0 : ∀ i, ∃ r : ℝ, a0 i = (r : EReal)) (R1 : ∀ i, ∃ r : ℝ, a1 i = (r : EReal)) (R2 : ∀ i, ∃ r : ℝ, a2 i = (r : EReal))
    (R3 : ∀ i, ∃ r : ℝ, a3 i = (r : EReal)) :
    (dats m 0 c).arrAt 6 cfg0.N = val_main_v80 (F := Ideal) a0 a1 a2 a3 ∧ (dats m 0 c).arrAt 7 cfg0.N = val_main_v82 (F := Ideal) a0 a1 a2 a3
      ∧ (dats m 0 c).arrAt 8 cfg0.N = val_main_v83 (F := Ideal) a0 a1 a2 a3 := by
  choose r0 h0 using R0
  choose r1 h1 using R1
  choose r2 h2 using R2
  choose r3 h3 using R3
  let A : Flash.Args := ⟨fun r h x => r0 (ix3 r h x), fun r h x => r1 (ix3 r h x), fun r x => r2 (ix2 r x), fun r h x => r3 (ix3 r h x)⟩
  have H0 : ∀ r h x, a0 (ix3 r h x) = (A.q r h x : EReal) := fun r h x => h0 _
  have H1 : ∀ r h x, a1 (ix3 r h x) = (A.kv r h x : EReal) := fun r h x => h1 _
  have H2 : ∀ r x, a2 (ix2 r x) = (A.kr r x : EReal) := fun r x => h2 _
  have H3 : ∀ r h x, a3 (ix3 r h x) = (A.dO r h x : EReal) := fun r h x => h3 _
  have H : Holds A (arrs m c) := holds m c a0 a1 a2 a3 E0 E1 E2 E3 H0 H1 H2 H3
  have hl : ∀ h q, (arrs m c).lse (ix3 h 0 q) ≠ ⊥ := fun h q => lse_ne h H q
  refine ⟨(final6 m c hl).trans ?_, (final7 m c hl).trans ?_, (final8 m c hl).trans ?_⟩
  · refine funext fun i => ?_
    obtain ⟨r, y, rfl⟩ : ∃ (r : Fin 4096) (y : Fin 2048), i = ix2 r y := ⟨i 0, i 1, (ix2_eta i).symm⟩
    have e : y = ⟨256 * (y.val / 256) + y.val % 256, by omega⟩ := Fin.ext (by simp only; omega)
    refine Eq.trans (b := ((A.dq256 ⟨y.val / 256, by omega⟩ r ⟨y.val % 256, by omega⟩ : ℝ) : EReal)) (dq_eq _ H _ _) ?_
    conv_rhs => rw [e]
    exact (Cert.FlashReferenceIdeal.Hand.dq_eq ⟨y.val / 256, by omega⟩ H0 H1 H2 H3 r ⟨y.val % 256, by omega⟩).symm
  · refine funext fun i => ?_
    obtain ⟨r, y, rfl⟩ : ∃ (r : Fin 4096) (y : Fin 2048), i = ix2 r y := ⟨i 0, i 1, (ix2_eta i).symm⟩
    have e : y = ⟨256 * (y.val / 256) + y.val % 256, by omega⟩ := Fin.ext (by simp only; omega)
    refine Eq.trans ?_ (Eq.trans (Cert.FlashReferenceIdeal.Hand.dkv_eq ⟨y.val / 256, by omega⟩ H0 H1 H2 H3 r ⟨y.val % 256, by omega⟩).symm
      (by conv_rhs => rw [e]))
    unfold Arrs.out7
    simp only [ix2_0, ix2_1]
    split
    next hx => exact (dif_pos hx).trans (dk_eq _ H _ _)
    next hx => exact (dif_neg hx).trans (dv_eq _ H _ _)
  · refine funext fun i => ?_
    obtain ⟨r, y, rfl⟩ : ∃ (r : Fin 4096) (y : Fin 1024), i = ix2 r y := ⟨i 0, i 1, (ix2_eta i).symm⟩
    have e : y = ⟨128 * (y.val / 128) + y.val % 128, by omega⟩ := Fin.ext (by simp only; omega)
    refine Eq.trans (b := ((A.dk256 ⟨y.val / 128, by omega⟩ r ⟨128 + y.val % 128, by omega⟩ : ℝ) : EReal)) (dk_eq _ H _ _) ?_
    conv_rhs => rw [e]
    exact (Cert.FlashReferenceIdeal.Hand.dkr_eq ⟨y.val / 128, by omega⟩ H0 H1 H2 H3 r ⟨y.val % 128, by omega⟩).symm

end Cert.FlashKernelIdeal.Hand
-- ==== Proof.Rms.lean ====
module

public import proofs.«01_k».proof.Proof.Reals

/-!
# The gradient of a root-mean-square norm, over real numbers

Of a row `x` of `n` numbers the norm is `x · rstd x`, with `rstd x` one over the root of the mean square plus `eps`. For
the cotangent `c` of that row, `grad x c` is the gradient as the kernels write it, and `slope x c` the factor by which the
derivative of the mean square enters in the reference; the two agree since `rstd x ^ 2 · var x = 1`.
-/

@[expose] public section

noncomputable section

namespace Cert.Rms

open Idealize.ShloMosaic Cert.Reals

/-- The norm's epsilon: the single-precision number next to 1e-6. -/
def eps : ℝ := 8796093 / 8796093022208

theorem eps_word : (Ideal.ofBits .f32 0x358637BD#32 : EReal) = (eps : EReal) := by
  unfold eps
  simp [Ideal.ofBits, Ideal.ieee, ← EReal.coe_mul]
  norm_num

theorem half_word : (Ideal.ofBits .f32 0xBF000000#32 : EReal) = ((-(1 / 2) : ℝ) : EReal) := by
  simp [Ideal.ofBits, Ideal.ieee, ← EReal.coe_mul]
  norm_num

theorem word_1024 : (Ideal.ofBits .f32 0x44800000#32 : EReal) = (((1024 : ℕ) : ℝ) : EReal) := by
  simp [Ideal.ofBits, Ideal.ieee, ← EReal.coe_mul]
  norm_num

variable {n : ℕ}

/-- The mean square of a row, plus epsilon. -/
def var (x : Fin n → ℝ) : ℝ := (∑ j, x j * x j) / n + eps

/-- One over its root. -/
def rstd (x : Fin n → ℝ) : ℝ := (√(var x))⁻¹

theorem var_pos (x : Fin n → ℝ) : 0 < var x := by
  have h : 0 ≤ (∑ j, x j * x j) / n := div_nonneg (Finset.sum_nonneg fun j _ => mul_self_nonneg _) (Nat.cast_nonneg n)
  have : 0 < eps := by unfold eps; norm_num
  unfold var
  linarith

theorem rstd_sq (x : Fin n → ℝ) : rstd x * rstd x * var x = 1 := by
  have h := Real.mul_self_sqrt (var_pos x).le
  have h0 : √(var x) ≠ 0 := (Real.sqrt_pos.mpr (var_pos x)).ne'
  unfold rstd
  field_simp
  nlinarith

/-- The gradient as the kernels write it. -/
def grad (x c : Fin n → ℝ) (i : Fin n) : ℝ := rstd x * (c i - x i * rstd x * ((∑ j, c j * (x j * rstd x)) / n))

/-- What the derivative of the mean square contributes, by the row's entry. -/
def slope (x c : Fin n → ℝ) : ℝ := (∑ j, x j * c j) * (-(1 / 2) * (rstd x / var x)) / n

/-- The reference's three summands are the kernel's gradient. -/
theorem slope_grad (x c : Fin n → ℝ) (i : Fin n) : c i * rstd x + x i * slope x c + slope x c * x i = grad x c i := by
  have e : ∑ j, c j * (x j * rstd x) = (∑ j, x j * c j) * rstd x := by
    rw [Finset.sum_mul]
    exact Finset.sum_congr rfl fun j _ => by ring
  have hv : rstd x / var x = rstd x * (rstd x * rstd x) := by
    rw [div_eq_iff (var_pos x).ne']
    linear_combination -(rstd x) * rstd_sq x
  unfold grad slope
  rw [e, hv]
  ring

section
variable (hn : n ≠ 0) {w : BitVec 32} (hw : (Ideal.ofBits .f32 w : EReal) = ((n : ℝ) : EReal)) (x c : Fin n → ℝ)
include hn hw

theorem ideal_var : (Ideal.div (∑ j, (x j : EReal) * (x j : EReal)) (Ideal.ofBits .f32 w) + Ideal.ofBits .f32 0x358637BD#32 : EReal) = (var x : EReal) := by
  have hn' : (n : ℝ) ≠ 0 := Nat.cast_ne_zero.mpr hn
  simp only [hw, eps_word, ← EReal.coe_mul, coe_sum]
  rw [coe_div _ hn', ← EReal.coe_add]
  rfl

omit hn hw in
theorem ideal_rsqrt : Ideal.rsqrt (var x : EReal) = (rstd x : EReal) := by
  rw [Ideal.rsqrt_coe, if_neg (not_lt.mpr (var_pos x).le), if_neg (var_pos x).ne']
  rfl

theorem ideal_rstd : Ideal.rsqrt (Ideal.div (∑ j, (x j : EReal) * (x j : EReal)) (Ideal.ofBits .f32 w) + Ideal.ofBits .f32 0x358637BD#32)
    = (rstd x : EReal) := by
  rw [ideal_var hn hw, ideal_rsqrt]

theorem ideal_grad (i : Fin n) : ((rstd x : EReal) * ((c i : EReal)
      - (x i : EReal) * (rstd x : EReal) * Ideal.div (∑ j, (c j : EReal) * ((x j : EReal) * (rstd x : EReal))) (Ideal.ofBits .f32 w)) : EReal)
    = (grad x c i : EReal) := by
  have hn' : (n : ℝ) ≠ 0 := Nat.cast_ne_zero.mpr hn
  simp only [hw, ← EReal.coe_mul, coe_sum]
  rw [coe_div _ hn']
  simp only [← EReal.coe_mul, ← EReal.coe_sub]
  rfl

theorem ideal_slope : (Ideal.div ((∑ j, (x j : EReal) * (c j : EReal)) * (Ideal.ofBits .f32 0xBF000000#32 * Ideal.div (rstd x : EReal) (var x : EReal)))
      (Ideal.ofBits .f32 w) : EReal) = (slope x c : EReal) := by
  have hn' : (n : ℝ) ≠ 0 := Nat.cast_ne_zero.mpr hn
  rw [half_word, hw, coe_div _ (var_pos x).ne']
  simp only [← EReal.coe_mul, coe_sum]
  rw [coe_div _ hn']
  rfl

end

end Cert.Rms
-- ==== Proof.LossReal.lean ====
module

public import proofs.«01_k».proof.Proof.Rms

/-!
# The loss head over real numbers

The loss is half the mean square of `err`, the normed row times the gain less the target. `cot` is the cotangent of the
normed row, `gain` the gradient of the gain and `sq` the column sums of the squared errors.
-/

@[expose] public section

noncomputable section

namespace Cert.Loss

open Idealize.ShloMosaic Cert.Reals

/-- The arguments: rows, targets, gain. -/
structure Args where
  x : Fin 4096 → Fin 1024 → ℝ
  t : Fin 4096 → Fin 1024 → ℝ
  g : Fin 1024 → ℝ

namespace Args

variable (A : Args)

def err (r : Fin 4096) (l : Fin 1024) : ℝ := A.x r l * Rms.rstd (A.x r) * A.g l - A.t r l
def dy (r : Fin 4096) (l : Fin 1024) : ℝ := A.err r l * (1 / 1024)
def cot (r : Fin 4096) (l : Fin 1024) : ℝ := A.dy r l * A.g l
def dx (r : Fin 4096) (l : Fin 1024) : ℝ := Rms.grad (A.x r) (A.cot r) l
def gain (l : Fin 1024) : ℝ := ∑ r, A.dy r l * (A.x r l * Rms.rstd (A.x r))
def sq (l : Fin 1024) : ℝ := ∑ r, A.err r l * A.err r l

end Args

theorem inv_word : (Ideal.ofBits .f32 0x3A800000#32 : EReal) = ((1 / 1024 : ℝ) : EReal) := by
  simp [Ideal.ofBits, Ideal.ieee, ← EReal.coe_mul]
  norm_num

theorem two_word : (Ideal.ofBits .f32 0x40000000#32 : EReal) = ((2 : ℝ) : EReal) := by
  simp [Ideal.ofBits, Ideal.ieee, ← EReal.coe_mul]
  norm_num

theorem half_word : (Ideal.ofBits .f32 0x3F000000#32 : EReal) = ((1 / 2 : ℝ) : EReal) := by
  simp [Ideal.ofBits, Ideal.ieee, ← EReal.coe_mul]
  norm_num

/-- Half, over the row's length, as the reference divides it. -/
theorem half_mean : Ideal.div (Ideal.ofBits .f32 0x3F000000#32) (Ideal.ofBits .f32 0x44800000#32) = ((1 / 2048 : ℝ) : EReal) := by
  rw [half_word, Rms.word_1024, coe_div _ (by norm_num)]
  norm_num

end Cert.Loss
-- ==== Proof.LossKernelValue.lean ====
module

public import proofs.«01_k».proof.Proof.LossReal
public import proofs.«01_k».proof.Proof.Gen.LossKernelIdeal.Value
public import Idealize.ShloMosaic.Lib.Pointwise
public import Idealize.ShloMosaic.Lib.Pipeline.ValueKit

/-!
# The loss head's kernel: its four arrays, where the arguments are real numbers

A point takes 256 rows. The rows' gradients are its own; the gain's gradient and the squared errors' column sums gather
over the points in one block, which the last one writes back.
-/

@[expose] public section

set_option maxRecDepth 16384

noncomputable section

open Idealize.ShloMosaic Idealize.ShloMosaic.TcCoe Idealize.SL.Sem Idealize.ShloMosaic.Pointwise

namespace Cert.LossKernelIdeal.Hand

open Cert.LossKernelIdeal Cert.LossKernelIdeal.Gen Cert.Reals
open Idealize.ShloMosaic.Pipeline (Dat)

section
variable (x0 x1 : Vec Ideal S256x1024 .f32) (x2 a : Vec Ideal S1x1024 .f32)

theorem gain_row (l : Fin 1024) : k0_pay6 x2 (ix2 0 l) = x2 (ix2 0 l) := by pointwise [k0_pay6]

theorem rstd_at (r : Fin 256) : k0_pay9 x0 (ix2 r 0)
    = (Ideal.rsqrt (Ideal.div (∑ x, x0 (ix2 r x) * x0 (ix2 r x)) (Ideal.ofBits .f32 0x44800000#32) + Ideal.ofBits .f32 0x358637BD#32) : EReal) := by
  pointwise [k0_pay9]

theorem err_at (r : Fin 256) (l : Fin 1024) : k0_pay7 x0 x1 x2 (ix2 r l)
    = (x0 (ix2 r l) * Ideal.rsqrt (Ideal.div (∑ x, x0 (ix2 r x) * x0 (ix2 r x)) (Ideal.ofBits .f32 0x44800000#32) + Ideal.ofBits .f32 0x358637BD#32)
      * x2 (ix2 0 l) - x1 (ix2 r l) : EReal) := by
  pointwise [k0_pay7, k0_pay6]

theorem dx_at (r : Fin 256) (l : Fin 1024) : k0_pay11 x0 x1 x2 (ix2 r l)
    = (k0_pay9 x0 (ix2 r 0) * (k0_pay7 x0 x1 x2 (ix2 r l) * Ideal.ofBits .f32 0x3A800000#32 * k0_pay6 x2 (ix2 0 l)
      - x0 (ix2 r l) * k0_pay9 x0 (ix2 r 0) * Ideal.div (∑ x, k0_pay7 x0 x1 x2 (ix2 r x) * Ideal.ofBits .f32 0x3A800000#32 * k0_pay6 x2 (ix2 0 x)
        * (x0 (ix2 r x) * k0_pay9 x0 (ix2 r 0))) (Ideal.ofBits .f32 0x44800000#32)) : EReal) := by
  pointwise [k0_pay11, k0_pay10, k0_pay8]

theorem dxb_at (r : Fin 256) (l : Fin 1024) : k0_pay3 (k0_pay11 x0 x1 x2) (ix2 r l) = k0_pay11 x0 x1 x2 (ix2 r l) := by
  pointwise [k0_pay3]

theorem dg_at (l : Fin 1024) : k0_pay12 x0 x1 x2 (ix1 l)
    = (∑ r, k0_pay7 x0 x1 x2 (ix2 r l) * Ideal.ofBits .f32 0x3A800000#32 * (x0 (ix2 r l) * k0_pay9 x0 (ix2 r 0)) : EReal) := by
  pointwise [k0_pay12, k0_pay8, k0_pay10]

theorem first_dg (d : FVec Ideal S1024 .f32) (l : Fin 1024) : k0_pay1 d (ix2 0 l) = d (ix1 l) := by pointwise [k0_pay1]
theorem add_dg (d : FVec Ideal S1024 .f32) (l : Fin 1024) : k0_pay4 d a (ix2 0 l) = (a (ix2 0 l) + d (ix1 l) : EReal) := by
  pointwise [k0_pay4, k0_pay1]
theorem first_sq (e : FVec Ideal S256x1024 .f32) (l : Fin 1024) : k0_pay2 e (ix2 0 l) = (∑ r, e (ix2 r l) * e (ix2 r l) : EReal) := by
  pointwise [k0_pay2]
theorem add_sq (e : FVec Ideal S256x1024 .f32) (l : Fin 1024) : k0_pay5 e a (ix2 0 l) = (a (ix2 0 l) + ∑ r, e (ix2 r l) * e (ix2 r l) : EReal) := by
  pointwise [k0_pay5, k0_pay2]

end

/-! ## One point's rows, as real numbers -/

section
variable (A : Loss.Args) (row : Fin 256 → Fin 4096) {x0 x1 : Vec Ideal S256x1024 .f32} {x2 : Vec Ideal S1x1024 .f32}
  (h0 : ∀ r l, x0 (ix2 r l) = (A.x (row r) l : EReal)) (h1 : ∀ r l, x1 (ix2 r l) = (A.t (row r) l : EReal)) (h2 : ∀ l, x2 (ix2 0 l) = (A.g l : EReal))
include h0

theorem rstd_eq (r : Fin 256) : k0_pay9 x0 (ix2 r 0) = (Rms.rstd (A.x (row r)) : EReal) := by
  rw [rstd_at]
  simp only [h0]
  exact Rms.ideal_rstd (by norm_num) Rms.word_1024 _

include h1 h2

theorem err_eq (r : Fin 256) (l : Fin 1024) : k0_pay7 x0 x1 x2 (ix2 r l) = (A.err (row r) l : EReal) := by
  rw [err_at]
  simp only [h0, h1, h2]
  rw [Rms.ideal_rstd (by norm_num) Rms.word_1024]
  simp only [← EReal.coe_mul, ← EReal.coe_sub]
  rfl

theorem dy_eq (r : Fin 256) (l : Fin 1024) : (k0_pay7 x0 x1 x2 (ix2 r l) * Ideal.ofBits .f32 0x3A800000#32 : EReal) = (A.dy (row r) l : EReal) := by
  rw [err_eq A row h0 h1 h2, Loss.inv_word, ← EReal.coe_mul]
  rfl

theorem cot_eq (r : Fin 256) (l : Fin 1024) : (k0_pay7 x0 x1 x2 (ix2 r l) * Ideal.ofBits .f32 0x3A800000#32 * k0_pay6 x2 (ix2 0 l) : EReal)
    = (A.cot (row r) l : EReal) := by
  rw [dy_eq A row h0 h1 h2, gain_row, h2, ← EReal.coe_mul]
  rfl

theorem dx_eq (r : Fin 256) (l : Fin 1024) : k0_pay11 x0 x1 x2 (ix2 r l) = (A.dx (row r) l : EReal) := by
  rw [dx_at]
  simp only [cot_eq A row h0 h1 h2, rstd_eq A row h0, h0]
  exact Rms.ideal_grad (by norm_num) Rms.word_1024 _ _ _

theorem dg_eq (l : Fin 1024) : k0_pay12 x0 x1 x2 (ix1 l) = ((∑ r, A.dy (row r) l * (A.x (row r) l * Rms.rstd (A.x (row r))) : ℝ) : EReal) := by
  rw [dg_at]
  simp only [dy_eq A row h0 h1 h2, rstd_eq A row h0, h0, ← EReal.coe_mul, coe_sum]

theorem sq_eq (l : Fin 1024) : (∑ r, k0_pay7 x0 x1 x2 (ix2 r l) * k0_pay7 x0 x1 x2 (ix2 r l) : EReal)
    = ((∑ r, A.err (row r) l * A.err (row r) l : ℝ) : EReal) := by
  simp only [err_eq A row h0 h1 h2, ← EReal.coe_mul, coe_sum]

end

/-! ## What the points leave -/

variable (m : (ℓ : Loc nD τ sig) → Buf (Elt Ideal) ℓ) (c : Dev nD)

/-- The point's blocks of rows and targets, and the gain. -/
abbrev rows (t : Fin cfg0.N) : Vec Ideal S256x1024 .f32 := iblk m c 0 t
abbrev tgts (t : Fin cfg0.N) : Vec Ideal S256x1024 .f32 := iblk m c 1 t
abbrev gainRow (t : Fin cfg0.N) : Vec Ideal S1x1024 .f32 := iblk m c 2 t

theorem lt16 (t : Fin cfg0.N) : t.val < 16 := lt_of_lt_of_eq t.isLt N_0

theorem left_dx (t : Fin cfg0.N) : (outsAt0 m c t.val t.isLt).1 = k0_pay11 (rows m c t) (tgts m c t) (gainRow m c t) := by
  have := lt16 t
  by_cases h : t.val % 16 = 0
  · rw [outsAt0_A m c t h (by omega)]; frame_out
  · rw [outsAt0_B m c t h (by omega)]; frame_out

theorem left_dxb (t : Fin cfg0.N) : (outsAt0 m c t.val t.isLt).2.1 = k0_pay3 (k0_pay11 (rows m c t) (tgts m c t) (gainRow m c t)) := by
  have := lt16 t
  by_cases h : t.val % 16 = 0
  · rw [outsAt0_A m c t h (by omega)]; frame_out
  · rw [outsAt0_B m c t h (by omega)]; frame_out

theorem left_dg (t : Fin cfg0.N) (ht : t.val + 1 = cfg0.N) (l : Fin 1024) : (outsAt0 m c t.val t.isLt).2.2.1 (ix2 0 l)
    = (∑ p : Fin cfg0.N, k0_pay12 (rows m c p) (tgts m c p) (gainRow m c p) (ix1 l) : EReal) := by
  refine (Pipeline.eq_sum_fin_of_reset_step_apply_last (M := EReal) (fun n h (l : Fin 1024) => (outsAt0 m c n h).2.2.1 (ix2 0 l)) 16 (fun _ => 0)
    (fun p l => k0_pay12 (rows m c p) (tgts m c p) (gainRow m c p) (ix1 l)) (fun t h l => ?_) (fun t h l => ?_) (le_of_eq N_0) t ht l).trans (zero_add _)
  · have := lt16 t
    rw [outsAt0_A m c t h (by omega)]
    frame_out
    exact (first_dg _ l).trans (zero_add _).symm
  · have := lt16 t
    rw [outsAt0_B m c t h (by omega)]
    frame_out
    exact add_dg _ _ l

theorem left_sq (t : Fin cfg0.N) (ht : t.val + 1 = cfg0.N) (l : Fin 1024) : (outsAt0 m c t.val t.isLt).2.2.2 (ix2 0 l)
    = (∑ p : Fin cfg0.N, ∑ r, k0_pay7 (rows m c p) (tgts m c p) (gainRow m c p) (ix2 r l) * k0_pay7 (rows m c p) (tgts m c p) (gainRow m c p) (ix2 r l) : EReal) := by
  refine (Pipeline.eq_sum_fin_of_reset_step_apply_last (M := EReal) (fun n h (l : Fin 1024) => (outsAt0 m c n h).2.2.2 (ix2 0 l)) 16 (fun _ => 0)
    (fun p l => ∑ r, k0_pay7 (rows m c p) (tgts m c p) (gainRow m c p) (ix2 r l) * k0_pay7 (rows m c p) (tgts m c p) (gainRow m c p) (ix2 r l))
    (fun t h l => ?_) (fun t h l => ?_) (le_of_eq N_0) t ht l).trans (zero_add _)
  · have := lt16 t
    rw [outsAt0_A m c t h (by omega)]
    frame_out
    exact (first_sq _ l).trans (zero_add _).symm
  · have := lt16 t
    rw [outsAt0_B m c t h (by omega)]
    frame_out
    exact add_sq _ _ l

/-! ## The four arrays -/

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![0, 0] := by decide +kernel
theorem index3 : ∀ t : Fin grid0.N, win0_3.index t = ![t.val, 0] := by decide +kernel
theorem index4 : ∀ t : Fin grid0.N, win0_4.index t = ![t.val, 0] := by decide +kernel
theorem index5 : ∀ t : Fin grid0.N, win0_5.index t = ![0, 0] := by decide +kernel
theorem index6 : ∀ t : Fin grid0.N, win0_6.index t = ![0, 0] := by decide +kernel

/-- The row of the whole array at which row `r` of point `t`'s block lies. -/
abbrev row (t : Fin cfg0.N) (r : Fin 256) : Fin 4096 := ⟨t.val * 256 + r.val, by have := lt16 t; omega⟩

theorem V_g (l : Fin 1024) : V m c main_v0 (ix2 0 l) = m ((c : Thread nD τ).loc main_arg2) (ix1 l) := by
  unfold V
  after_results
  pointwise

variable (A : Loss.Args)
  (H0 : ∀ r l, m ((c : Thread nD τ).loc main_arg0) (ix2 r l) = (A.x r l : EReal))
  (H1 : ∀ r l, m ((c : Thread nD τ).loc main_arg1) (ix2 r l) = (A.t r l : EReal))
  (H2 : ∀ l, m ((c : Thread nD τ).loc main_arg2) (ix1 l) = (A.g l : EReal))

include H0 in
theorem rows_eq (t : Fin cfg0.N) (r : Fin 256) (l : Fin 1024) : rows m c t (ix2 r l) = (A.x (row t r) l : EReal) := by
  refine Eq.trans ?_ (H0 (row t r) l)
  blk_ext [rows, iblk, V, index0, row]

include H1 in
theorem tgts_eq (t : Fin cfg0.N) (r : Fin 256) (l : Fin 1024) : tgts m c t (ix2 r l) = (A.t (row t r) l : EReal) := by
  refine Eq.trans ?_ (H1 (row t r) l)
  blk_ext [tgts, iblk, V, index1, row]

include H2 in
theorem gain_eq (t : Fin cfg0.N) (l : Fin 1024) : gainRow m c t (ix2 0 l) = (A.g l : EReal) := by
  refine Eq.trans ?_ ((V_g m c l).trans (H2 l))
  show iblk m c 2 t (ix2 0 l) = _
  blk_ext [iblk, index2]

include H0 H1 H2

theorem final3 : (dats m 0 c).arrAt 3 cfg0.N = fun i : S4096x1024.Idx => (A.dx (i 0) (i 1) : EReal) := by
  refine (dats m 0 c).arrAt_eq_of_covers 3 _ (by decide +kernel) fun t hf y => ?_
  obtain ⟨r, l, rfl⟩ : ∃ (r : Fin 256) (l : Fin 1024), y = ix2 r l := ⟨y 0, y 1, (ix2_eta y).symm⟩
  have e : ((cfg0.win 3).blk t).view.emb (ix2 r l) = ix2 (row t r) l := by blk_ext [index3, row]
  refine Eq.trans ?_ (congrArg (fun i : S4096x1024.Idx => (A.dx (i 0) (i 1) : EReal)) e).symm
  blk_simp
  rw [after0_3, left_dx]
  exact dx_eq A (row t) (rows_eq m c A H0 t) (tgts_eq m c A H1 t) (gain_eq m c A H2 t) r l

theorem final4 : (dats m 0 c).arrAt 4 cfg0.N = fun i : S4096x1024.Idx => (A.dx (i 0) (i 1) : EReal) := by
  refine (dats m 0 c).arrAt_eq_of_covers 4 _ (by decide +kernel) fun t hf y => ?_
  obtain ⟨r, l, rfl⟩ : ∃ (r : Fin 256) (l : Fin 1024), y = ix2 r l := ⟨y 0, y 1, (ix2_eta y).symm⟩
  have e : ((cfg0.win 4).blk t).view.emb (ix2 r l) = ix2 (row t r) l := by blk_ext [index4, row]
  refine Eq.trans ?_ (congrArg (fun i : S4096x1024.Idx => (A.dx (i 0) (i 1) : EReal)) e).symm
  blk_simp
  rw [after0_4, left_dxb, dxb_at]
  exact dx_eq A (row t) (rows_eq m c A H0 t) (tgts_eq m c A H1 t) (gain_eq m c A H2 t) r l

theorem final5 : (dats m 0 c).arrAt 5 cfg0.N = fun i : S1x1024.Idx => (A.gain (i 1) : EReal) := by
  refine (dats m 0 c).arrAt_eq_of_after_last 5 t0_15 (by decide +kernel) _ fun y => ?_
  obtain ⟨r, l, rfl⟩ : ∃ (r : Fin 1) (l : Fin 1024), y = ix2 r l := ⟨y 0, y 1, (ix2_eta y).symm⟩
  obtain rfl : r = 0 := Subsingleton.elim _ _
  blk_simp
  rw [after0_5]
  refine (left_dg m c t0_15 (by decide) l).trans ?_
  refine (Finset.sum_congr rfl fun p _ => dg_eq A (row p) (rows_eq m c A H0 p) (tgts_eq m c A H1 p) (gain_eq m c A H2 p) l).trans ?_
  rw [coe_sum]
  refine congrArg _ ?_
  exact Fin.sum_mul_add_congr (fun p r hl => rfl) (hL := by rfl)

theorem final6 : (dats m 0 c).arrAt 6 cfg0.N = fun i : S1x1024.Idx => (A.sq (i 1) : EReal) := by
  refine (dats m 0 c).arrAt_eq_of_after_last 6 t0_15 (by decide +kernel) _ fun y => ?_
  obtain ⟨r, l, rfl⟩ : ∃ (r : Fin 1) (l : Fin 1024), y = ix2 r l := ⟨y 0, y 1, (ix2_eta y).symm⟩
  obtain rfl : r = 0 := Subsingleton.elim _ _
  blk_simp
  rw [after0_6]
  refine (left_sq m c t0_15 (by decide) l).trans ?_
  refine (Finset.sum_congr rfl fun p _ => sq_eq A (row p) (rows_eq m c A H0 p) (tgts_eq m c A H1 p) (gain_eq m c A H2 p) l).trans ?_
  rw [coe_sum]
  refine congrArg _ ?_
  exact Fin.sum_mul_add_congr (fun p r hl => rfl) (hL := by rfl)

end Cert.LossKernelIdeal.Hand
-- ==== Proof.LossRef.lean ====
module

public import proofs.«01_k».proof.Proof.LossReal
public import proofs.«01_k».proof.Proof.Gen.LossReferenceIdeal.Read
public import Idealize.ShloMosaic.Lib.Pointwise

/-!
# The loss's derivative, as real numbers

Where the arguments are real numbers `A`, the gradients that the reference takes, and its squared errors, are those of `A`.
-/

@[expose] public section

set_option maxRecDepth 16384

noncomputable section

open Idealize.ShloMosaic Idealize.ShloMosaic.TcCoe Idealize.ShloMosaic.Pointwise

namespace Cert.LossReferenceIdeal.Hand

open Cert.LossReferenceIdeal Cert.LossReferenceIdeal.Gen Cert.LossReferenceIdeal.Read Cert.Reals

variable (x0 x1 : FVec Ideal S4096x1024 .f32) (x2 : FVec Ideal S1024 .f32)

/-! ## Each array at an index, from the ones before it -/

theorem var_at (r : Fin 4096) : val_main_v6 (F := Ideal) x0 (ix2 r 0)
    = (Ideal.div (∑ x, x0 (ix2 r x) * x0 (ix2 r x)) (Ideal.ofBits .f32 0x44800000#32) + Ideal.ofBits .f32 0x358637BD#32 : EReal) := by
  unfold val_main_v6 val_main_v5 val_main_v4 val_main_v3 val_main_v2 val_main_v1 val_main_v0 val_main_cst val_main_cst_0 val_main_cst_1
  pointwise

theorem rstd_at (r : Fin 4096) : val_main_v7 (F := Ideal) x0 (ix2 r 0) = Ideal.rsqrt (val_main_v6 (F := Ideal) x0 (ix2 r 0)) := by
  unfold val_main_v7
  pointwise

theorem half_at (r : Fin 4096) : val_main_v10 (F := Ideal) x0 (ix2 r 0)
    = (Ideal.ofBits .f32 0xBF000000#32 * Ideal.div (val_main_v7 (F := Ideal) x0 (ix2 r 0)) (val_main_v6 (F := Ideal) x0 (ix2 r 0)) : EReal) := by
  unfold val_main_v10 val_main_v9 val_main_v8 val_main_cst_2
  pointwise

theorem dy_at (r : Fin 4096) (l : Fin 1024) : val_main_v30 (F := Ideal) x0 x1 x2 (ix2 r l)
    = (Ideal.div (Ideal.ofBits .f32 0x3F000000#32) (Ideal.ofBits .f32 0x44800000#32)
      * (Ideal.ofBits .f32 0x40000000#32 * (x0 (ix2 r l) * val_main_v7 (F := Ideal) x0 (ix2 r 0) * x2 (ix1 l) - x1 (ix2 r l))) : EReal) := by
  unfold val_main_v30 val_main_v29 val_main_v28 val_main_v27 val_main_v26 val_main_v25 val_main_v19 val_main_v18 val_main_v16 val_main_v15
    val_main_v14 val_main_v13 val_main_v12 val_main_v11 val_main_cst_10 val_main_cst_8 val_main_cst_9 val_main_cst_3
  pointwise

theorem cot_at (r : Fin 4096) (l : Fin 1024) : val_main_v35 (F := Ideal) x0 x1 x2 (ix2 r l) = (val_main_v30 (F := Ideal) x0 x1 x2 (ix2 r l) * x2 (ix1 l) : EReal) := by
  unfold val_main_v35 val_main_v34 val_main_v13
  pointwise

theorem slope_at (r : Fin 4096) (l : Fin 1024) : val_main_v46 (F := Ideal) x0 x1 x2 (ix2 r l)
    = (∑ _ : Fin 1, Ideal.div ((∑ x, x0 (ix2 r x) * val_main_v35 (F := Ideal) x0 x1 x2 (ix2 r x)) * val_main_v10 (F := Ideal) x0 (ix2 r 0))
      (Ideal.ofBits .f32 0x44800000#32) : EReal) := by
  unfold val_main_v46 val_main_v45 val_main_v44 val_main_v43 val_main_v42 val_main_v39 val_main_v38 val_main_v37 val_main_cst_13 val_main_cst_14 val_main_cst_15
  pointwise
  simp only [Finset.univ_unique, Finset.sum_singleton, Fin.default_eq_zero]

theorem dx_at (r : Fin 4096) (l : Fin 1024) : val_main_v50 (F := Ideal) x0 x1 x2 (ix2 r l)
    = (val_main_v35 (F := Ideal) x0 x1 x2 (ix2 r l) * val_main_v7 (F := Ideal) x0 (ix2 r 0) + x0 (ix2 r l) * val_main_v46 (F := Ideal) x0 x1 x2 (ix2 r l)
      + val_main_v46 (F := Ideal) x0 x1 x2 (ix2 r l) * x0 (ix2 r l) : EReal) := by
  unfold val_main_v50 val_main_v49 val_main_v48 val_main_v47 val_main_v41 val_main_v40
  pointwise

theorem dxb_at (r : Fin 4096) (l : Fin 1024) : val_main_v67 (F := Ideal) x0 x1 x2 (ix2 r l) = val_main_v50 (F := Ideal) x0 x1 x2 (ix2 r l) := by
  unfold val_main_v67
  pointwise

theorem dg_at (l : Fin 1024) : val_main_v68 (F := Ideal) x0 x1 x2 (ix2 0 l)
    = (∑ _ : Fin 1, ∑ r, x0 (ix2 r l) * val_main_v7 (F := Ideal) x0 (ix2 r 0) * val_main_v30 (F := Ideal) x0 x1 x2 (ix2 r l) : EReal) := by
  unfold val_main_v68 val_main_v36 val_main_v33 val_main_v32 val_main_v31 val_main_v12 val_main_v11 val_main_cst_11 val_main_cst_12
  pointwise

theorem sq_at (l : Fin 1024) : val_main_v69 (F := Ideal) x0 x1 x2 (ix2 0 l)
    = (∑ r, (x0 (ix2 r l) * val_main_v58 (F := Ideal) x0 (ix2 r 0) * x2 (ix1 l) - x1 (ix2 r l))
      * (x0 (ix2 r l) * val_main_v58 (F := Ideal) x0 (ix2 r 0) * x2 (ix1 l) - x1 (ix2 r l)) : EReal) := by
  unfold val_main_v69 val_main_v66 val_main_v65 val_main_v64 val_main_v63 val_main_v62 val_main_v61 val_main_v60 val_main_v59 val_main_cst_19
  pointwise

theorem rstd2_at (r : Fin 4096) : val_main_v58 (F := Ideal) x0 (ix2 r 0)
    = (Ideal.rsqrt (Ideal.div (∑ x, x0 (ix2 r x) * x0 (ix2 r x)) (Ideal.ofBits .f32 0x44800000#32) + Ideal.ofBits .f32 0x358637BD#32) : EReal) := by
  unfold val_main_v58 val_main_v57 val_main_v56 val_main_v55 val_main_v54 val_main_v53 val_main_v52 val_main_v51 val_main_cst_16 val_main_cst_17 val_main_cst_18
  pointwise

/-! ## Real arguments -/

variable (A : Loss.Args) {x0 x1 x2} (h0 : ∀ r l, x0 (ix2 r l) = (A.x r l : EReal)) (h1 : ∀ r l, x1 (ix2 r l) = (A.t r l : EReal))
  (h2 : ∀ l, x2 (ix1 l) = (A.g l : EReal))
include h0

theorem var_eq (r : Fin 4096) : val_main_v6 (F := Ideal) x0 (ix2 r 0) = (Rms.var (A.x r) : EReal) := by
  rw [var_at]
  simp only [h0]
  exact Rms.ideal_var (by norm_num) Rms.word_1024 _

theorem rstd_eq (r : Fin 4096) : val_main_v7 (F := Ideal) x0 (ix2 r 0) = (Rms.rstd (A.x r) : EReal) := by
  rw [rstd_at, var_eq A h0, Rms.ideal_rsqrt]

theorem rstd2_eq (r : Fin 4096) : val_main_v58 (F := Ideal) x0 (ix2 r 0) = (Rms.rstd (A.x r) : EReal) := by
  rw [rstd2_at]
  simp only [h0]
  exact Rms.ideal_rstd (by norm_num) Rms.word_1024 _

include h1 h2

theorem dy_eq (r : Fin 4096) (l : Fin 1024) : val_main_v30 (F := Ideal) x0 x1 x2 (ix2 r l) = (A.dy r l : EReal) := by
  rw [dy_at, Loss.half_mean, Loss.two_word, rstd_eq A h0, h0, h1, h2]
  simp only [← EReal.coe_mul, ← EReal.coe_sub]
  refine congrArg _ ?_
  unfold Loss.Args.dy Loss.Args.err
  ring

theorem cot_eq (r : Fin 4096) (l : Fin 1024) : val_main_v35 (F := Ideal) x0 x1 x2 (ix2 r l) = (A.cot r l : EReal) := by
  rw [cot_at, dy_eq A h0 h1 h2, h2, ← EReal.coe_mul]
  rfl

theorem slope_eq (r : Fin 4096) (l : Fin 1024) : val_main_v46 (F := Ideal) x0 x1 x2 (ix2 r l) = (Rms.slope (A.x r) (A.cot r) : EReal) := by
  rw [slope_at, half_at]
  simp only [rstd_eq A h0, var_eq A h0, cot_eq A h0 h1 h2, h0, Finset.univ_unique, Finset.sum_singleton]
  exact Rms.ideal_slope (by norm_num) Rms.word_1024 _ _

theorem dx_eq (r : Fin 4096) (l : Fin 1024) : val_main_v50 (F := Ideal) x0 x1 x2 (ix2 r l) = (A.dx r l : EReal) := by
  rw [dx_at]
  simp only [cot_eq A h0 h1 h2, rstd_eq A h0, slope_eq A h0 h1 h2, h0, ← EReal.coe_mul, ← EReal.coe_add]
  exact congrArg _ (Rms.slope_grad _ _ _)

theorem gain_eq (l : Fin 1024) : val_main_v68 (F := Ideal) x0 x1 x2 (ix2 0 l) = (A.gain l : EReal) := by
  rw [dg_at]
  simp only [rstd_eq A h0, dy_eq A h0 h1 h2, h0, Finset.univ_unique, Finset.sum_singleton, ← EReal.coe_mul, coe_sum]
  exact congrArg _ (Finset.sum_congr rfl fun r _ => mul_comm _ _)

theorem sq_eq (l : Fin 1024) : val_main_v69 (F := Ideal) x0 x1 x2 (ix2 0 l) = (A.sq l : EReal) := by
  rw [sq_at]
  simp only [rstd2_eq A h0, h0, h1, h2, ← EReal.coe_mul, ← EReal.coe_sub, coe_sum]
  rfl

end Cert.LossReferenceIdeal.Hand
-- ==== Proof.LossEq.lean ====
module

public import proofs.«01_k».proof.Proof.LossKernelValue
public import proofs.«01_k».proof.Proof.LossRef

/-!
# The loss head: kernel and reference agree

Where all three arguments are finite, the four arrays that the kernel leaves are the reference's.
-/

@[expose] public section

set_option maxRecDepth 16384

noncomputable section

namespace Cert.LossKernelIdeal.Hand

open Cert.LossKernelIdeal Cert.LossKernelIdeal.Gen Cert.LossReferenceIdeal.Read Cert.Reals
open Idealize.ShloMosaic Idealize.ShloMosaic.TcCoe

variable (m : (ℓ : Loc nD τ sig) → Buf (Elt Ideal) ℓ) (c : Dev nD)

theorem agree (a0 a1 : S4096x1024.Idx → EReal) (a2 : S1024.Idx → EReal)
    (E0 : m (c, Proc.tc.devRef main_arg0) = a0) (E1 : m (c, Proc.tc.devRef main_arg1) = a1) (E2 : m (c, Proc.tc.devRef main_arg2) = a2)
    (R0 : ∀ i, ∃ r : ℝ, a0 i = (r : EReal)) (R1 : ∀ i, ∃ r : ℝ, a1 i = (r : EReal)) (R2 : ∀ i, ∃ r : ℝ, a2 i = (r : EReal)) :
    (dats m 0 c).arrAt 3 cfg0.N = val_main_v50 (F := Ideal) a0 a1 a2 ∧ (dats m 0 c).arrAt 4 cfg0.N = val_main_v67 (F := Ideal) a0 a1 a2
      ∧ (dats m 0 c).arrAt 5 cfg0.N = val_main_v68 (F := Ideal) a0 a1 a2 ∧ (dats m 0 c).arrAt 6 cfg0.N = val_main_v69 (F := Ideal) a0 a1 a2 := by
  choose r0 h0 using R0
  choose r1 h1 using R1
  choose r2 h2 using R2
  let A : Loss.Args := ⟨fun r l => r0 (ix2 r l), fun r l => r1 (ix2 r l), fun l => r2 (ix1 l)⟩
  have H0 : ∀ r l, a0 (ix2 r l) = (A.x r l : EReal) := fun r l => h0 _
  have H1 : ∀ r l, a1 (ix2 r l) = (A.t r l : EReal) := fun r l => h1 _
  have H2 : ∀ l, a2 (ix1 l) = (A.g l : EReal) := fun l => h2 _
  have K0 := fun r l => (congrFun E0 (ix2 r l)).trans (H0 r l)
  have K1 := fun r l => (congrFun E1 (ix2 r l)).trans (H1 r l)
  have K2 := fun l => (congrFun E2 (ix1 l)).trans (H2 l)
  refine ⟨(final3 m c A K0 K1 K2).trans (funext fun i => ?_), (final4 m c A K0 K1 K2).trans (funext fun i => ?_),
    (final5 m c A K0 K1 K2).trans (funext fun i => ?_), (final6 m c A K0 K1 K2).trans (funext fun i => ?_)⟩
  · obtain ⟨r, l, rfl⟩ : ∃ (r : Fin 4096) (l : Fin 1024), i = ix2 r l := ⟨i 0, i 1, (ix2_eta i).symm⟩
    exact (Cert.LossReferenceIdeal.Hand.dx_eq A H0 H1 H2 r l).symm
  · obtain ⟨r, l, rfl⟩ : ∃ (r : Fin 4096) (l : Fin 1024), i = ix2 r l := ⟨i 0, i 1, (ix2_eta i).symm⟩
    exact ((Cert.LossReferenceIdeal.Hand.dxb_at a0 a1 a2 r l).trans (Cert.LossReferenceIdeal.Hand.dx_eq A H0 H1 H2 r l)).symm
  all_goals obtain ⟨r, l, rfl⟩ : ∃ (r : Fin 1) (l : Fin 1024), i = ix2 r l := ⟨i 0, i 1, (ix2_eta i).symm⟩
  all_goals obtain rfl : r = 0 := Subsingleton.elim _ _
  · exact (Cert.LossReferenceIdeal.Hand.gain_eq A H0 H1 H2 l).symm
  · exact (Cert.LossReferenceIdeal.Hand.sq_eq A H0 H1 H2 l).symm

end Cert.LossKernelIdeal.Hand
-- ==== Proof.FfnUpReal.lean ====
module

public import proofs.«01_k».proof.Proof.Rms
public import Idealize.ShloMosaic.Lib.Pipeline.ValueKit.Acc

/-!
# The up projection's backward over real numbers

The cotangent of the normed row is the product `dh`; through the norm it becomes the gradient of the row, to which the
residual's cotangent is added.
-/

@[expose] public section

noncomputable section

namespace Cert.FfnUp

open Idealize.ShloMosaic Cert.Reals

/-- The arguments: rows, gain, weight, cotangent of the product. -/
structure Args where
  x : Fin 4096 → Fin 1024 → ℝ
  g : Fin 1024 → ℝ
  w : Fin 1024 → Fin 4096 → ℝ
  da : Fin 4096 → Fin 4096 → ℝ

namespace Args

variable (A : Args)

def dh (r : Fin 4096) (l : Fin 1024) : ℝ := ∑ j, A.da r j * A.w l j
def cot (r : Fin 4096) (l : Fin 1024) : ℝ := A.dh r l * A.g l
def dx (r : Fin 4096) (l : Fin 1024) : ℝ := Rms.grad (A.x r) (A.cot r) l
def gain (l : Fin 1024) : ℝ := ∑ r, A.dh r l * (A.x r l * Rms.rstd (A.x r))

/-- The product in four parts of 1024. -/
theorem dh_parts (r : Fin 4096) (l : Fin 1024) :
    (∑ k : Fin 1024, A.da r ⟨k.val, by omega⟩ * A.w l ⟨k.val, by omega⟩) + (∑ k : Fin 1024, A.da r ⟨1024 + k.val, by omega⟩ * A.w l ⟨1024 + k.val, by omega⟩)
      + (∑ k : Fin 1024, A.da r ⟨2048 + k.val, by omega⟩ * A.w l ⟨2048 + k.val, by omega⟩)
      + (∑ k : Fin 1024, A.da r ⟨3072 + k.val, by omega⟩ * A.w l ⟨3072 + k.val, by omega⟩) = A.dh r l := by
  have h : (∑ s : Fin 4, ∑ k : Fin 1024, A.da r ⟨s.val * 1024 + k.val, by omega⟩ * A.w l ⟨s.val * 1024 + k.val, by omega⟩) = A.dh r l :=
    Fin.sum_mul_add_congr (fun s k hl => rfl) (hL := by rfl)
  rw [← h, Fin.sum_univ_four]
  simp only [Fin.val_zero, Fin.val_one, Fin.val_two, zero_mul, one_mul, zero_add]
  rfl

end Args

end Cert.FfnUp
-- ==== Proof.FfnUpKernelValue.lean ====
module

public import proofs.«01_k».proof.Proof.FfnUpReal
public import proofs.«01_k».proof.Proof.Gen.FfnUpKernelIdeal.Value
public import Idealize.ShloMosaic.Lib.Pointwise
public import Idealize.ShloMosaic.Lib.Pipeline.ValueKit

/-!
# The up projection's backward, kernel: its three arrays, where the arguments are real numbers

A point takes 256 rows: the product of their cotangent with the weight's four slabs, and the norm's gradient of it. The
gain's gradient gathers over the points in one block, which the last one writes back.
-/

@[expose] public section

set_option maxRecDepth 16384

noncomputable section

open Idealize.ShloMosaic Idealize.ShloMosaic.TcCoe Idealize.SL.Sem Idealize.ShloMosaic.Pointwise

namespace Cert.FfnUpKernelIdeal.Hand

open Cert.FfnUpKernelIdeal Cert.FfnUpKernelIdeal.Gen Cert.Reals
open Idealize.ShloMosaic.Pipeline (Dat)

section
variable (d x s : Vec Ideal S256x1024 .f32) (g a : Vec Ideal S1x1024 .f32)

theorem rstd_at (r : Fin 256) : k0_pay1 x (ix2 r 0)
    = (Ideal.rsqrt (Ideal.div (∑ j, x (ix2 r j) * x (ix2 r j)) (Ideal.ofBits .f32 0x44800000#32) + Ideal.ofBits .f32 0x358637BD#32) : EReal) := by
  pointwise [k0_pay1]

theorem normed_at (r : Fin 256) (l : Fin 1024) : k0_pay2 x (ix2 r l) = (x (ix2 r l) * k0_pay1 x (ix2 r 0) : EReal) := by pointwise [k0_pay2]

theorem grad_at (r : Fin 256) (l : Fin 1024) : k0_pay3 d x g (ix2 r l) = (k0_pay1 x (ix2 r 0) * (d (ix2 r l) * g (ix2 0 l)
    - k0_pay2 x (ix2 r l) * Ideal.div (∑ j, d (ix2 r j) * g (ix2 0 j) * k0_pay2 x (ix2 r j)) (Ideal.ofBits .f32 0x44800000#32)) : EReal) := by
  pointwise [k0_pay3]

theorem gain_at (l : Fin 1024) : k0_pay4 d x (ix2 0 l) = (∑ r, d (ix2 r l) * k0_pay2 x (ix2 r l) : EReal) := by pointwise [k0_pay4]

theorem dx_at (r : Fin 256) (l : Fin 1024) : k0_pay5 d x s g (ix2 r l) = (k0_pay3 d x g (ix2 r l) + s (ix2 r l) : EReal) := by pointwise [k0_pay5]

theorem dxb_at (r : Fin 256) (l : Fin 1024) : k0_pay6 d x s g (ix2 r l) = (k0_pay3 d x g (ix2 r l) + s (ix2 r l) : EReal) := by pointwise [k0_pay6]

theorem add_gain (l : Fin 1024) : k0_pay7 d x a (ix2 0 l) = (a (ix2 0 l) + k0_pay4 d x (ix2 0 l) : EReal) := by pointwise [k0_pay7]

theorem gain_row (l : Fin 1024) : k0_pay9 a (ix2 0 l) = a (ix2 0 l) := by pointwise [k0_pay9]

variable (a0 a1 a2 a3 : Vec Ideal S256x1024 .bf16) (w0 w1 w2 w3 : Vec Ideal S1x1024x1024 .bf16)

theorem product_at (r : Fin 256) (l : Fin 1024) : k0_pay8 a0 w0 a1 w1 a2 w2 a3 w3 (ix2 r l)
    = ((∑ k, a0 (ix2 r k) * w0 (ix3 0 l k)) + (∑ k, a1 (ix2 r k) * w1 (ix3 0 l k)) + (∑ k, a2 (ix2 r k) * w2 (ix3 0 l k))
      + (∑ k, a3 (ix2 r k) * w3 (ix3 0 l k)) : EReal) := by
  pointwise [k0_pay8]

end

/-! ## One point's rows, as real numbers -/

section
variable (A : FfnUp.Args) (row : Fin 256 → Fin 4096) {d x : Vec Ideal S256x1024 .f32} {g : Vec Ideal S1x1024 .f32}
  (hx : ∀ r l, x (ix2 r l) = (A.x (row r) l : EReal))
include hx

theorem rstd_eq (r : Fin 256) : k0_pay1 x (ix2 r 0) = (Rms.rstd (A.x (row r)) : EReal) := by
  rw [rstd_at]
  simp only [hx]
  exact Rms.ideal_rstd (by norm_num) Rms.word_1024 _

variable (hd : ∀ r l, d (ix2 r l) = (A.dh (row r) l : EReal))
include hd

theorem gain_eq (l : Fin 1024) : k0_pay4 d x (ix2 0 l) = ((∑ r, A.dh (row r) l * (A.x (row r) l * Rms.rstd (A.x (row r))) : ℝ) : EReal) := by
  rw [gain_at]
  simp only [normed_at, hd, rstd_eq A row hx, hx, ← EReal.coe_mul, coe_sum]

variable (hg : ∀ l, g (ix2 0 l) = (A.g l : EReal))
include hg

theorem dx_eq (r : Fin 256) (l : Fin 1024) : k0_pay3 d x g (ix2 r l) = (A.dx (row r) l : EReal) := by
  have hc : ∀ j, (d (ix2 r j) * g (ix2 0 j) : EReal) = (A.cot (row r) j : EReal) := fun j => by rw [hd, hg, ← EReal.coe_mul]; rfl
  rw [grad_at]
  simp only [hc, normed_at, rstd_eq A row hx, hx]
  exact Rms.ideal_grad (by norm_num) Rms.word_1024 _ _ _

end

/-! ## What the points leave -/

variable (m : (ℓ : Loc nD τ sig) → Buf (Elt Ideal) ℓ) (c : Dev nD)

/-- The point's rows, their residual's cotangent, and the gain. -/
abbrev rows (t : Fin cfg0.N) : Vec Ideal S256x1024 .f32 := iblk m c 5 t
abbrev ress (t : Fin cfg0.N) : Vec Ideal S256x1024 .f32 := iblk m c 6 t
abbrev gainRow (t : Fin cfg0.N) : Vec Ideal S1x1024 .f32 := iblk m c 7 t

/-- The point's rows' product with the weight. -/
abbrev prod (t : Fin cfg0.N) : FVec Ideal S256x1024 .f32 :=
  k0_pay8 (View.ld (iblk m c 0 t) (Rect.unit ![0, 0] ![256, 1024] inb_S256x4096_S256x1024_0_0)) (iblk m c 1 t)
    (View.ld (iblk m c 0 t) (Rect.unit ![0, 1024] ![256, 1024] inb_S256x4096_S256x1024_0_1024)) (iblk m c 2 t)
    (View.ld (iblk m c 0 t) (Rect.unit ![0, 2048] ![256, 1024] inb_S256x4096_S256x1024_0_2048)) (iblk m c 3 t)
    (View.ld (iblk m c 0 t) (Rect.unit ![0, 3072] ![256, 1024] inb_S256x4096_S256x1024_0_3072)) (iblk m c 4 t)

theorem lt16 (t : Fin cfg0.N) : t.val < 16 := lt_of_lt_of_eq t.isLt N_0

theorem left_dx (t : Fin cfg0.N) : (outsAt0 m c t.val t.isLt).1 = k0_pay5 (prod m c t) (rows m c t) (ress m c t) (k0_pay9 (gainRow m c t)) := by
  have := lt16 t
  by_cases h : t.val % 16 = 0
  · rw [outsAt0_A m c t h (by omega)]; frame_out; rfl
  · rw [outsAt0_B m c t h (by omega)]; frame_out; rfl

theorem left_dxb (t : Fin cfg0.N) : (outsAt0 m c t.val t.isLt).2.1 = k0_pay6 (prod m c t) (rows m c t) (ress m c t) (k0_pay9 (gainRow m c t)) := by
  have := lt16 t
  by_cases h : t.val % 16 = 0
  · rw [outsAt0_A m c t h (by omega)]; frame_out; rfl
  · rw [outsAt0_B m c t h (by omega)]; frame_out; rfl

theorem left_gain (t : Fin cfg0.N) (ht : t.val + 1 = cfg0.N) (l : Fin 1024) : (outsAt0 m c t.val t.isLt).2.2 (ix2 0 l)
    = (∑ p : Fin cfg0.N, k0_pay4 (prod m c p) (rows m c p) (ix2 0 l) : EReal) := by
  refine (Pipeline.eq_sum_fin_of_reset_step_apply_last (M := EReal) (fun n h (l : Fin 1024) => (outsAt0 m c n h).2.2 (ix2 0 l)) 16 (fun _ => 0)
    (fun p l => k0_pay4 (prod m c p) (rows m c p) (ix2 0 l)) (fun t h l => ?_) (fun t h l => ?_) (le_of_eq N_0) t ht l).trans (zero_add _)
  · have := lt16 t
    rw [outsAt0_A m c t h (by omega)]
    frame_out
    exact (zero_add _).symm
  · have := lt16 t
    rw [outsAt0_B m c t h (by omega)]
    frame_out
    exact add_gain _ _ _ l

/-! ## The blocks -/

theorem index0 : ∀ t : Fin grid0.N, win0_0.index t = ![t.val, 0] := by decide +kernel
theorem index1 : ∀ t : Fin grid0.N, win0_1.index t = ![0, 0, 0] := by decide +kernel
theorem index2 : ∀ t : Fin grid0.N, win0_2.index t = ![1, 0, 0] := by decide +kernel
theorem index3 : ∀ t : Fin grid0.N, win0_3.index t = ![2, 0, 0] := by decide +kernel
theorem index4 : ∀ t : Fin grid0.N, win0_4.index t = ![3, 0, 0] := by decide +kernel
theorem index5 : ∀ t : Fin grid0.N, win0_5.index t = ![t.val, 0] := by decide +kernel
theorem index6 : ∀ t : Fin grid0.N, win0_6.index t = ![t.val, 0] := by decide +kernel
theorem index7 : ∀ t : Fin grid0.N, win0_7.index t = ![0, 0] := by decide +kernel
theorem index8 : ∀ t : Fin grid0.N, win0_8.index t = ![t.val, 0] := by decide +kernel
theorem index9 : ∀ t : Fin grid0.N, win0_9.index t = ![t.val, 0] := by decide +kernel
theorem index10 : ∀ t : Fin grid0.N, win0_10.index t = ![0, 0] := by decide +kernel

/-- The row of the whole array at which row `r` of point `t`'s block lies. -/
abbrev row (t : Fin cfg0.N) (r : Fin 256) : Fin 4096 := ⟨t.val * 256 + r.val, by have := lt16 t; omega⟩

theorem V_g (l : Fin 1024) : V m c main_v4 (ix2 0 l) = m ((c : Thread nD τ).loc main_arg1) (ix1 l) := by
  unfold V
  after_results
  pointwise

theorem V_da (r j : Fin 4096) : V m c main_v3 (ix2 r j) = m ((c : Thread nD τ).loc main_arg3) (ix2 r j) := by
  unfold V
  after_results
  rfl

theorem V_w (s : Fin 4) (l k : Fin 1024) : V m c main_v2 (ix3 s l k) = m ((c : Thread nD τ).loc main_arg2) (ix2 l ⟨s.val * 1024 + k.val, by omega⟩) := by
  unfold V
  after_results
  pointwise

variable (A : FfnUp.Args) (res : Fin 4096 → Fin 1024 → EReal)
  (H0 : ∀ r l, m ((c : Thread nD τ).loc main_arg0) (ix2 r l) = (A.x r l : EReal))
  (H1 : ∀ l, m ((c : Thread nD τ).loc main_arg1) (ix1 l) = (A.g l : EReal))
  (H2 : ∀ l j, m ((c : Thread nD τ).loc main_arg2) (ix2 l j) = (A.w l j : EReal))
  (H3 : ∀ r j, m ((c : Thread nD τ).loc main_arg3) (ix2 r j) = (A.da r j : EReal))
  (H4 : ∀ r l, m ((c : Thread nD τ).loc main_arg4) (ix2 r l) = res r l)

include H0 in
theorem rows_eq (t : Fin cfg0.N) (r : Fin 256) (l : Fin 1024) : rows m c t (ix2 r l) = (A.x (row t r) l : EReal) := by
  refine Eq.trans ?_ (H0 (row t r) l)
  blk_ext [rows, iblk, V, index5, row]

include H4 in
theorem ress_eq (t : Fin cfg0.N) (r : Fin 256) (l : Fin 1024) : ress m c t (ix2 r l) = res (row t r) l := by
  refine Eq.trans ?_ (H4 (row t r) l)
  blk_ext [ress, iblk, V, index6, row]

include H1 in
theorem gainRow_eq (t : Fin cfg0.N) (l : Fin 1024) : k0_pay9 (gainRow m c t) (ix2 0 l) = (A.g l : EReal) := by
  rw [gain_row]
  refine Eq.trans ?_ ((V_g m c l).trans (H1 l))
  show iblk m c 7 t (ix2 0 l) = _
  blk_ext [iblk, index7]

include H3 in
theorem da_eq (t : Fin cfg0.N) (r : Fin 256) (j : Fin 4096) : iblk m c 0 t (ix2 r j) = (A.da (row t r) j : EReal) := by
  refine Eq.trans ?_ ((V_da m c (row t r) j).trans (H3 (row t r) j))
  blk_ext [iblk, index0, row]

section
include H2

theorem w0_eq (t : Fin cfg0.N) (l k : Fin 1024) : iblk m c 1 t (ix3 0 l k) = (A.w l ⟨k.val, by omega⟩ : EReal) := by
  refine Eq.trans ?_ ((V_w m c 0 l k).trans ((H2 l _).trans
    (congrArg (fun j => (A.w l j : EReal)) (Fin.ext (by show 0 * 1024 + k.val = k.val; omega)))))
  blk_ext [iblk, index1]

theorem w1_eq (t : Fin cfg0.N) (l k : Fin 1024) : iblk m c 2 t (ix3 0 l k) = (A.w l ⟨1024 + k.val, by omega⟩ : EReal) := by
  refine Eq.trans ?_ ((V_w m c 1 l k).trans (H2 l ⟨1024 + k.val, by omega⟩))
  blk_ext [iblk, index2]

theorem w2_eq (t : Fin cfg0.N) (l k : Fin 1024) : iblk m c 3 t (ix3 0 l k) = (A.w l ⟨2048 + k.val, by omega⟩ : EReal) := by
  refine Eq.trans ?_ ((V_w m c 2 l k).trans (H2 l ⟨2048 + k.val, by omega⟩))
  blk_ext [iblk, index3]

theorem w3_eq (t : Fin cfg0.N) (l k : Fin 1024) : iblk m c 4 t (ix3 0 l k) = (A.w l ⟨3072 + k.val, by omega⟩ : EReal) := by
  refine Eq.trans ?_ ((V_w m c 3 l k).trans (H2 l ⟨3072 + k.val, by omega⟩))
  blk_ext [iblk, index4]

end

/-- Part of a point's rows of the cotangent, read at an index. -/
theorem part (t : Fin cfg0.N) (o : Nat) (inb) (r : Fin 256) (k : Fin 1024) (ho : o + k.val < 4096) :
    View.ld (iblk m c 0 t) (Rect.unit ![0, o] ![256, 1024] inb) (ix2 r k) = iblk m c 0 t (ix2 r ⟨o + k.val, ho⟩) :=
  View.ld_unit_apply_of _ _ _ _ _ _ fun a => by
    match a with
    | ⟨0, _⟩ => exact (Nat.zero_add _).symm
    | ⟨1, _⟩ => rfl

include H2 H3 in
theorem prod_eq (t : Fin cfg0.N) (r : Fin 256) (l : Fin 1024) : prod m c t (ix2 r l) = (A.dh (row t r) l : EReal) := by
  have e0 : ∀ k : Fin 1024, View.ld (iblk m c 0 t) (Rect.unit ![0, 0] ![256, 1024] inb_S256x4096_S256x1024_0_0) (ix2 r k)
      = (A.da (row t r) ⟨k.val, by omega⟩ : EReal) := fun k => (part m c t 0 _ r k (by omega)).trans ((congrArg (fun j => iblk m c 0 t (ix2 r j))
        (Fin.ext (Nat.zero_add _))).trans (da_eq m c A H3 t r ⟨k.val, by omega⟩))
  have e1 : ∀ k : Fin 1024, View.ld (iblk m c 0 t) (Rect.unit ![0, 1024] ![256, 1024] inb_S256x4096_S256x1024_0_1024) (ix2 r k)
      = (A.da (row t r) ⟨1024 + k.val, by omega⟩ : EReal) := fun k => (part m c t 1024 _ r k (by omega)).trans (da_eq m c A H3 t r ⟨1024 + k.val, by omega⟩)
  have e2 : ∀ k : Fin 1024, View.ld (iblk m c 0 t) (Rect.unit ![0, 2048] ![256, 1024] inb_S256x4096_S256x1024_0_2048) (ix2 r k)
      = (A.da (row t r) ⟨2048 + k.val, by omega⟩ : EReal) := fun k => (part m c t 2048 _ r k (by omega)).trans (da_eq m c A H3 t r ⟨2048 + k.val, by omega⟩)
  have e3 : ∀ k : Fin 1024, View.ld (iblk m c 0 t) (Rect.unit ![0, 3072] ![256, 1024] inb_S256x4096_S256x1024_0_3072) (ix2 r k)
      = (A.da (row t r) ⟨3072 + k.val, by omega⟩ : EReal) := fun k => (part m c t 3072 _ r k (by omega)).trans (da_eq m c A H3 t r ⟨3072 + k.val, by omega⟩)
  refine (product_at _ _ _ _ _ _ _ _ r l).trans ?_
  simp only [e0, e1, e2, e3, w0_eq m c A H2, w1_eq m c A H2, w2_eq m c A H2, w3_eq m c A H2, ← EReal.coe_mul, coe_sum, ← EReal.coe_add]
  exact congrArg _ (A.dh_parts _ _)

/-! ## The three arrays -/

include H0 H1 H2 H3

theorem final10 : (dats m 0 c).arrAt 10 cfg0.N = fun i : S1x1024.Idx => (A.gain (i 1) : EReal) := by
  refine (dats m 0 c).arrAt_eq_of_after_last 10 t0_15 (by decide +kernel) _ fun y => ?_
  obtain ⟨r, l, rfl⟩ : ∃ (r : Fin 1) (l : Fin 1024), y = ix2 r l := ⟨y 0, y 1, (ix2_eta y).symm⟩
  obtain rfl : r = 0 := Subsingleton.elim _ _
  blk_simp
  rw [after0_10]
  refine (left_gain m c t0_15 (by decide) l).trans ?_
  refine (Finset.sum_congr rfl fun p _ => gain_eq A (row p) (rows_eq m c A H0 p) (prod_eq m c A H2 H3 p) l).trans ?_
  rw [coe_sum]
  refine congrArg _ ?_
  exact Fin.sum_mul_add_congr (fun p r hl => rfl) (hL := by rfl)

include H4

theorem final8 : (dats m 0 c).arrAt 8 cfg0.N = fun i : S4096x1024.Idx => ((A.dx (i 0) (i 1) : EReal) + res (i 0) (i 1) : EReal) := by
  refine (dats m 0 c).arrAt_eq_of_covers 8 _ (by decide +kernel) fun t hf y => ?_
  obtain ⟨r, l, rfl⟩ : ∃ (r : Fin 256) (l : Fin 1024), y = ix2 r l := ⟨y 0, y 1, (ix2_eta y).symm⟩
  have e : ((cfg0.win 8).blk t).view.emb (ix2 r l) = ix2 (row t r) l := by blk_ext [index8, row]
  refine Eq.trans ?_ (congrArg (fun i : S4096x1024.Idx => ((A.dx (i 0) (i 1) : EReal) + res (i 0) (i 1) : EReal)) e).symm
  blk_simp
  rw [after0_8, left_dx, dx_at, dx_eq A (row t) (rows_eq m c A H0 t) (prod_eq m c A H2 H3 t) (gainRow_eq m c A H1 t), ress_eq m c res H4]
  rfl

theorem final9 : (dats m 0 c).arrAt 9 cfg0.N = fun i : S4096x1024.Idx => ((A.dx (i 0) (i 1) : EReal) + res (i 0) (i 1) : EReal) := by
  refine (dats m 0 c).arrAt_eq_of_covers 9 _ (by decide +kernel) fun t hf y => ?_
  obtain ⟨r, l, rfl⟩ : ∃ (r : Fin 256) (l : Fin 1024), y = ix2 r l := ⟨y 0, y 1, (ix2_eta y).symm⟩
  have e : ((cfg0.win 9).blk t).view.emb (ix2 r l) = ix2 (row t r) l := by blk_ext [index9, row]
  refine Eq.trans ?_ (congrArg (fun i : S4096x1024.Idx => ((A.dx (i 0) (i 1) : EReal) + res (i 0) (i 1) : EReal)) e).symm
  blk_simp
  rw [after0_9, left_dxb, dxb_at, dx_eq A (row t) (rows_eq m c A H0 t) (prod_eq m c A H2 H3 t) (gainRow_eq m c A H1 t), ress_eq m c res H4]
  rfl

end Cert.FfnUpKernelIdeal.Hand
-- ==== Proof.FfnUpRef.lean ====
module

public import proofs.«01_k».proof.Proof.FfnUpReal
public import proofs.«01_k».proof.Proof.Gen.FfnUpReferenceIdeal.Read
public import Idealize.ShloMosaic.Lib.Pointwise

/-!
# The derivative of norm and product, as real numbers

Where rows, gain, weight and the product's cotangent are real numbers `A`, the gradients that the reference takes are
those of `A`; the residual's cotangent is any.
-/

@[expose] public section

set_option maxRecDepth 16384

noncomputable section

open Idealize.ShloMosaic Idealize.ShloMosaic.TcCoe Idealize.ShloMosaic.Pointwise

namespace Cert.FfnUpReferenceIdeal.Hand

open Cert.FfnUpReferenceIdeal Cert.FfnUpReferenceIdeal.Gen Cert.FfnUpReferenceIdeal.Read Cert.Reals

variable (x0 : FVec Ideal S4096x1024 .f32) (x1 : FVec Ideal S1024 .f32) (x2 : FVec Ideal S1024x4096 .f32) (x3 : FVec Ideal S4096x4096 .f32)
  (x4 : FVec Ideal S4096x1024 .f32)

/-! ## Each array at an index, from the ones before it -/

theorem var_at (r : Fin 4096) : val_main_v6 (F := Ideal) x0 (ix2 r 0)
    = (Ideal.div (∑ x, x0 (ix2 r x) * x0 (ix2 r x)) (Ideal.ofBits .f32 0x44800000#32) + Ideal.ofBits .f32 0x358637BD#32 : EReal) := by
  unfold val_main_v6 val_main_v5 val_main_v4 val_main_v3 val_main_v2 val_main_v1 val_main_v0 val_main_cst val_main_cst_0 val_main_cst_1
  pointwise

theorem rstd_at (r : Fin 4096) : val_main_v7 (F := Ideal) x0 (ix2 r 0) = Ideal.rsqrt (val_main_v6 (F := Ideal) x0 (ix2 r 0)) := by
  unfold val_main_v7
  pointwise

theorem half_at (r : Fin 4096) : val_main_v10 (F := Ideal) x0 (ix2 r 0)
    = (Ideal.ofBits .f32 0xBF000000#32 * Ideal.div (val_main_v7 (F := Ideal) x0 (ix2 r 0)) (val_main_v6 (F := Ideal) x0 (ix2 r 0)) : EReal) := by
  unfold val_main_v10 val_main_v9 val_main_v8 val_main_cst_2
  pointwise

theorem dh_at (r : Fin 4096) (l : Fin 1024) : val_main_v17 (F := Ideal) x2 x3 (ix2 r l) = (∑ j, x3 (ix2 r j) * x2 (ix2 l j) : EReal) := by
  unfold val_main_v17
  pointwise

theorem cot_at (r : Fin 4096) (l : Fin 1024) : val_main_v22 (F := Ideal) x1 x2 x3 (ix2 r l) = (val_main_v17 (F := Ideal) x2 x3 (ix2 r l) * x1 (ix1 l) : EReal) := by
  unfold val_main_v22 val_main_v21 val_main_v13
  pointwise

theorem slope_at (r : Fin 4096) (l : Fin 1024) : val_main_v34 (F := Ideal) x0 x1 x2 x3 (ix2 r l)
    = (∑ _ : Fin 1, Ideal.div ((∑ x, x0 (ix2 r x) * val_main_v22 (F := Ideal) x1 x2 x3 (ix2 r x)) * val_main_v10 (F := Ideal) x0 (ix2 r 0))
      (Ideal.ofBits .f32 0x44800000#32) : EReal) := by
  unfold val_main_v34 val_main_v33 val_main_v32 val_main_v31 val_main_v30 val_main_v26 val_main_v25 val_main_v24 val_main_cst_5 val_main_cst_6 val_main_cst_7
  pointwise
  simp only [Finset.univ_unique, Finset.sum_singleton, Fin.default_eq_zero]

theorem dx_at (r : Fin 4096) (l : Fin 1024) : val_main_v38 (F := Ideal) x0 x1 x2 x3 x4 (ix2 r l)
    = (x4 (ix2 r l) + val_main_v22 (F := Ideal) x1 x2 x3 (ix2 r l) * val_main_v7 (F := Ideal) x0 (ix2 r 0)
      + x0 (ix2 r l) * val_main_v34 (F := Ideal) x0 x1 x2 x3 (ix2 r l) + val_main_v34 (F := Ideal) x0 x1 x2 x3 (ix2 r l) * x0 (ix2 r l) : EReal) := by
  unfold val_main_v38 val_main_v37 val_main_v36 val_main_v35 val_main_v29 val_main_v28 val_main_v27
  pointwise

theorem dxb_at (r : Fin 4096) (l : Fin 1024) : val_main_v39 (F := Ideal) x0 x1 x2 x3 x4 (ix2 r l) = val_main_v38 (F := Ideal) x0 x1 x2 x3 x4 (ix2 r l) := by
  unfold val_main_v39
  pointwise

theorem gain_at (l : Fin 1024) : val_main_v40 (F := Ideal) x0 x2 x3 (ix2 0 l)
    = (∑ _ : Fin 1, ∑ r, x0 (ix2 r l) * val_main_v7 (F := Ideal) x0 (ix2 r 0) * val_main_v17 (F := Ideal) x2 x3 (ix2 r l) : EReal) := by
  unfold val_main_v40 val_main_v23 val_main_v20 val_main_v19 val_main_v18 val_main_v12 val_main_v11 val_main_cst_3 val_main_cst_4
  pointwise

/-! ## Real arguments -/

variable (A : FfnUp.Args) {x0 x1 x2 x3 x4} (h0 : ∀ r l, x0 (ix2 r l) = (A.x r l : EReal)) (h1 : ∀ l, x1 (ix1 l) = (A.g l : EReal))
  (h2 : ∀ l j, x2 (ix2 l j) = (A.w l j : EReal)) (h3 : ∀ r j, x3 (ix2 r j) = (A.da r j : EReal))

section
include h0

theorem var_eq (r : Fin 4096) : val_main_v6 (F := Ideal) x0 (ix2 r 0) = (Rms.var (A.x r) : EReal) := by
  rw [var_at]
  simp only [h0]
  exact Rms.ideal_var (by norm_num) Rms.word_1024 _

theorem rstd_eq (r : Fin 4096) : val_main_v7 (F := Ideal) x0 (ix2 r 0) = (Rms.rstd (A.x r) : EReal) := by
  rw [rstd_at, var_eq A h0, Rms.ideal_rsqrt]

end

section
include h2 h3

theorem dh_eq (r : Fin 4096) (l : Fin 1024) : val_main_v17 (F := Ideal) x2 x3 (ix2 r l) = (A.dh r l : EReal) := by
  rw [dh_at]
  simp only [h2, h3, ← EReal.coe_mul, coe_sum]
  rfl

end

include h0 h2 h3

theorem gain_eq (l : Fin 1024) : val_main_v40 (F := Ideal) x0 x2 x3 (ix2 0 l) = (A.gain l : EReal) := by
  rw [gain_at]
  simp only [rstd_eq A h0, dh_eq A h2 h3, h0, Finset.univ_unique, Finset.sum_singleton, ← EReal.coe_mul, coe_sum]
  exact congrArg _ (Finset.sum_congr rfl fun r _ => mul_comm _ _)

include h1

theorem cot_eq (r : Fin 4096) (l : Fin 1024) : val_main_v22 (F := Ideal) x1 x2 x3 (ix2 r l) = (A.cot r l : EReal) := by
  rw [cot_at, dh_eq A h2 h3, h1, ← EReal.coe_mul]
  rfl

theorem slope_eq (r : Fin 4096) (l : Fin 1024) : val_main_v34 (F := Ideal) x0 x1 x2 x3 (ix2 r l) = (Rms.slope (A.x r) (A.cot r) : EReal) := by
  rw [slope_at, half_at]
  simp only [rstd_eq A h0, var_eq A h0, cot_eq A h0 h1 h2 h3, h0, Finset.univ_unique, Finset.sum_singleton]
  exact Rms.ideal_slope (by norm_num) Rms.word_1024 _ _

theorem dx_eq (r : Fin 4096) (l : Fin 1024) : val_main_v38 (F := Ideal) x0 x1 x2 x3 x4 (ix2 r l) = ((A.dx r l : EReal) + x4 (ix2 r l) : EReal) := by
  rw [dx_at]
  simp only [cot_eq A h0 h1 h2 h3, rstd_eq A h0, slope_eq A h0 h1 h2 h3, h0, ← EReal.coe_mul]
  rw [add_assoc, add_assoc, ← EReal.coe_add, ← EReal.coe_add, add_comm, ← add_assoc]
  exact congrArg (fun y : ℝ => ((y : EReal) + x4 (ix2 r l) : EReal)) (Rms.slope_grad _ _ _)

end Cert.FfnUpReferenceIdeal.Hand
-- ==== Proof.FfnUpEq.lean ====
module

public import proofs.«01_k».proof.Proof.FfnUpKernelValue
public import proofs.«01_k».proof.Proof.FfnUpRef

/-!
# The up projection's backward: kernel and reference agree

Where rows, gain, weight and the product's cotangent are finite, the three arrays that the kernel leaves are the reference's.
-/

@[expose] public section

set_option maxRecDepth 16384

noncomputable section

namespace Cert.FfnUpKernelIdeal.Hand

open Cert.FfnUpKernelIdeal Cert.FfnUpKernelIdeal.Gen Cert.FfnUpReferenceIdeal.Read Cert.Reals
open Idealize.ShloMosaic Idealize.ShloMosaic.TcCoe

variable (m : (ℓ : Loc nD τ sig) → Buf (Elt Ideal) ℓ) (c : Dev nD)

theorem agree (a0 : S4096x1024.Idx → EReal) (a1 : S1024.Idx → EReal) (a2 : S1024x4096.Idx → EReal) (a3 : S4096x4096.Idx → EReal)
    (a4 : S4096x1024.Idx → EReal) (E0 : m (c, Proc.tc.devRef main_arg0) = a0) (E1 : m (c, Proc.tc.devRef main_arg1) = a1)
    (E2 : m (c, Proc.tc.devRef main_arg2) = a2) (E3 : m (c, Proc.tc.devRef main_arg3) = a3) (E4 : m (c, Proc.tc.devRef main_arg4) = a4)
    (R0 : ∀ i, ∃ r : ℝ, a0 i = (r : EReal)) (R1 : ∀ i, ∃ r : ℝ, a1 i = (r : EReal)) (R2 : ∀ i, ∃ r : ℝ, a2 i = (r : EReal))
    (R3 : ∀ i, ∃ r : ℝ, a3 i = (r : EReal)) :
    (dats m 0 c).arrAt 8 cfg0.N = val_main_v38 (F := Ideal) a0 a1 a2 a3 a4 ∧ (dats m 0 c).arrAt 9 cfg0.N = val_main_v39 (F := Ideal) a0 a1 a2 a3 a4
      ∧ (dats m 0 c).arrAt 10 cfg0.N = val_main_v40 (F := Ideal) a0 a2 a3 := by
  choose r0 h0 using R0
  choose r1 h1 using R1
  choose r2 h2 using R2
  choose r3 h3 using R3
  let A : FfnUp.Args := ⟨fun r l => r0 (ix2 r l), fun l => r1 (ix1 l), fun l j => r2 (ix2 l j), fun r j => r3 (ix2 r j)⟩
  have H0 : ∀ r l, a0 (ix2 r l) = (A.x r l : EReal) := fun r l => h0 _
  have H1 : ∀ l, a1 (ix1 l) = (A.g l : EReal) := fun l => h1 _
  have H2 : ∀ l j, a2 (ix2 l j) = (A.w l j : EReal) := fun l j => h2 _
  have H3 : ∀ r j, a3 (ix2 r j) = (A.da r j : EReal) := fun r j => h3 _
  have K0 := fun r l => (congrFun E0 (ix2 r l)).trans (H0 r l)
  have K1 := fun l => (congrFun E1 (ix1 l)).trans (H1 l)
  have K2 := fun l j => (congrFun E2 (ix2 l j)).trans (H2 l j)
  have K3 := fun r j => (congrFun E3 (ix2 r j)).trans (H3 r j)
  have K4 := fun r l => congrFun E4 (ix2 r l)
  refine ⟨(final8 m c A (fun r l => a4 (ix2 r l)) K0 K1 K2 K3 K4).trans (funext fun i => ?_),
    (final9 m c A (fun r l => a4 (ix2 r l)) K0 K1 K2 K3 K4).trans (funext fun i => ?_), (final10 m c A K0 K1 K2 K3).trans (funext fun i => ?_)⟩
  · obtain ⟨r, l, rfl⟩ : ∃ (r : Fin 4096) (l : Fin 1024), i = ix2 r l := ⟨i 0, i 1, (ix2_eta i).symm⟩
    exact (Cert.FfnUpReferenceIdeal.Hand.dx_eq A H0 H1 H2 H3 r l).symm
  · obtain ⟨r, l, rfl⟩ : ∃ (r : Fin 4096) (l : Fin 1024), i = ix2 r l := ⟨i 0, i 1, (ix2_eta i).symm⟩
    exact ((Cert.FfnUpReferenceIdeal.Hand.dxb_at a0 a1 a2 a3 a4 r l).trans (Cert.FfnUpReferenceIdeal.Hand.dx_eq A H0 H1 H2 H3 r l)).symm
  · obtain ⟨r, l, rfl⟩ : ∃ (r : Fin 1) (l : Fin 1024), i = ix2 r l := ⟨i 0, i 1, (ix2_eta i).symm⟩
    obtain rfl : r = 0 := Subsingleton.elim _ _
    exact (Cert.FfnUpReferenceIdeal.Hand.gain_eq A H0 H2 H3 l).symm

end Cert.FfnUpKernelIdeal.Hand
-- ==== Proof.SguReal.lean ====
module

public import proofs.«01_k».proof.Proof.Reals
public import Idealize.ShloMosaic.Lib.Pointwise

/-!
# The spatial gate over real numbers

`Chunk` is what one chunk of 128 rows reads: the two halves of the gelu's argument, the cotangent, the layer norm's gain and
offset, the mixing's weights and offset, by row, group and column of the group. Its functions are the gate's stages and their
gradients, which both programs compute; `Chunk.slope_grad` is the layer norm's derivative, three summands in the derivative
and one projection in the kernel.
-/

@[expose] public section

noncomputable section

namespace Cert.Sgu

open Idealize.ShloMosaic Cert.Reals

theorem inv_word : (Ideal.ofBits .f32 0x3A000000#32 : EReal) = ((1 / 2048 : ℝ) : EReal) := by
  simp [Ideal.ofBits, Ideal.ieee, ← EReal.coe_mul]
  norm_num

theorem word_2048 : (Ideal.ofBits .f32 0x45000000#32 : EReal) = ((2048 : ℝ) : EReal) := by
  simp [Ideal.ofBits, Ideal.ieee, ← EReal.coe_mul]
  norm_num

theorem half_word : (Ideal.ofBits .f32 0x3F000000#32 : EReal) = ((1 / 2 : ℝ) : EReal) := by
  simp [Ideal.ofBits, Ideal.ieee, ← EReal.coe_mul]
  norm_num

theorem neg_half_word : (Ideal.ofBits .f32 0xBF000000#32 : EReal) = ((-(1 / 2) : ℝ) : EReal) := by
  simp [Ideal.ofBits, Ideal.ieee, ← EReal.coe_mul, ← EReal.coe_neg]
  norm_num

theorem two_word : (Ideal.ofBits .f32 0x40000000#32 : EReal) = ((2 : ℝ) : EReal) := by
  simp [Ideal.ofBits, Ideal.ieee, ← EReal.coe_mul]
  norm_num

def eps : ℝ := 10995116 / 2 ^ 40

theorem eps_word : (Ideal.ofBits .f32 0x3727C5AC#32 : EReal) = (eps : EReal) := by
  unfold eps
  simp [Ideal.ofBits, Ideal.ieee, ← EReal.coe_mul]
  norm_num

theorem slope_word : (Ideal.ofBits .f32 0x3F906EBB#32 : EReal) = ((9465531 / 2 ^ 23 : ℝ) : EReal) := by
  simp [Ideal.ofBits, Ideal.ieee, ← EReal.coe_mul]
  norm_num

/-- The error function of a real number is real. -/
def erf (x : ℝ) : ℝ := (Ideal.erf (x : EReal)).toReal

theorem ideal_erf (x : ℝ) : Ideal.erf (x : EReal) = (erf x : EReal) := by
  unfold erf
  rw [Ideal.erf_coe, EReal.toReal_coe]

def cdf (x : ℝ) : ℝ := 1 / 2 * (1 + erf (x * (Real.sqrt 2)⁻¹))
def gelu (x : ℝ) : ℝ := x * cdf x
/-- The gelu's derivative, with the rounded slope of the error function that both programs carry. -/
def slope (x : ℝ) : ℝ := cdf x + x * Real.exp (-(1 / 2) * x * x) * (9465531 / 16777216 * (Real.sqrt 2)⁻¹)

structure Chunk where
  u : Fin 128 → Fin 8 → Fin 256 → ℝ
  v : Fin 128 → Fin 8 → Fin 256 → ℝ
  d : Fin 128 → Fin 8 → Fin 256 → ℝ
  g : Fin 8 → Fin 256 → ℝ
  b : Fin 8 → Fin 256 → ℝ
  w : Fin 8 → Fin 128 → Fin 128 → ℝ
  o : Fin 8 → Fin 128 → ℝ

namespace Chunk

variable (A : Chunk)

def mean (r : Fin 128) : ℝ := (∑ g, ∑ l, gelu (A.v r g l)) * (1 / 2048)
def cent (r : Fin 128) (g : Fin 8) (l : Fin 256) : ℝ := gelu (A.v r g l) - A.mean r
def var (r : Fin 128) : ℝ := (∑ g, ∑ l, A.cent r g l * A.cent r g l) * (1 / 2048) + eps
def rstd (r : Fin 128) : ℝ := (Real.sqrt (A.var r))⁻¹
def hat (r : Fin 128) (g : Fin 8) (l : Fin 256) : ℝ := A.cent r g l * A.rstd r
def ln (r : Fin 128) (g : Fin 8) (l : Fin 256) : ℝ := A.hat r g l * A.g g l + A.b g l
def low (g : Fin 8) (r s : Fin 128) : ℝ := if s.val ≤ r.val then A.w g r s else 0
def mix (r : Fin 128) (g : Fin 8) (l : Fin 256) : ℝ := (∑ s, A.low g r s * A.ln s g l) + A.o g r
def dmix (r : Fin 128) (g : Fin 8) (l : Fin 256) : ℝ := A.d r g l * gelu (A.u r g l)
def dln (r : Fin 128) (g : Fin 8) (l : Fin 256) : ℝ := ∑ s, A.low g s r * A.dmix s g l
def dhat (r : Fin 128) (g : Fin 8) (l : Fin 256) : ℝ := A.dln r g l * A.g g l
def m1 (r : Fin 128) : ℝ := (∑ g, ∑ l, A.dhat r g l) * (1 / 2048)
def m2 (r : Fin 128) : ℝ := (∑ g, ∑ l, A.dhat r g l * A.hat r g l) * (1 / 2048)
def dv (r : Fin 128) (g : Fin 8) (l : Fin 256) : ℝ := A.rstd r * (A.dhat r g l - A.m1 r - A.hat r g l * A.m2 r)
def du (r : Fin 128) (g : Fin 8) (l : Fin 256) : ℝ := A.d r g l * A.mix r g l
def gain (g : Fin 8) (l : Fin 256) : ℝ := ∑ r, A.dln r g l * A.hat r g l
def offset (g : Fin 8) (l : Fin 256) : ℝ := ∑ r, A.dln r g l
def weight (g : Fin 8) (r s : Fin 128) : ℝ := if s.val ≤ r.val then ∑ l, A.dmix r g l * A.ln s g l else 0
def lane (g : Fin 8) (r : Fin 128) : ℝ := ∑ l, A.dmix r g l

theorem var_pos (r : Fin 128) : 0 < A.var r := by
  unfold var
  have h : 0 ≤ ∑ g, ∑ l, A.cent r g l * A.cent r g l := Finset.sum_nonneg fun g _ => Finset.sum_nonneg fun l _ => mul_self_nonneg _
  have : 0 < eps := by unfold eps; norm_num
  positivity

theorem rstd_sq (r : Fin 128) : A.rstd r * A.rstd r * A.var r = 1 := by
  unfold rstd
  have h := Real.mul_self_sqrt (A.var_pos r).le
  have h0 : Real.sqrt (A.var r) ≠ 0 := (Real.sqrt_pos.mpr (A.var_pos r)).ne'
  field_simp
  nlinarith [h]

theorem ideal_rstd (r : Fin 128) : Ideal.rsqrt (A.var r : EReal) = (A.rstd r : EReal) := by
  rw [Ideal.rsqrt_coe, if_neg (not_lt.mpr (A.var_pos r).le), if_neg (A.var_pos r).ne']
  rfl

theorem sum_cent (r : Fin 128) : ∑ g, ∑ l, A.cent r g l = 0 := by
  unfold cent mean
  simp only [Finset.sum_sub_distrib, Finset.sum_const, Finset.card_univ, Fintype.card_fin, nsmul_eq_mul]
  push_cast
  ring

/-- The derivative of the mean square's root, as the reference multiplies it. -/
def pull (r : Fin 128) : ℝ := (∑ g, ∑ l, A.cent r g l * A.dhat r g l) * (-(1 / 2) * (A.rstd r / A.var r)) / 2048

theorem slope_grad (r : Fin 128) (g : Fin 8) (l : Fin 256) :
    A.dhat r g l * A.rstd r + A.pull r * (2 * A.cent r g l)
      + ((∑ g, ∑ l, -(A.dhat r g l * A.rstd r)) + ∑ g, ∑ l, -(A.pull r * (2 * A.cent r g l))) / 2048 = A.dv r g l := by
  have hv := (A.var_pos r).ne'
  have h3 : A.rstd r / A.var r = A.rstd r * A.rstd r * A.rstd r := by
    rw [div_eq_iff hv]
    linear_combination (-A.rstd r) * A.rstd_sq r
  have e2 : (∑ g, ∑ l, -(A.pull r * (2 * A.cent r g l))) = 0 := by
    have : ∀ g l, -(A.pull r * (2 * A.cent r g l)) = (-2 * A.pull r) * A.cent r g l := fun g l => by ring
    simp only [this, ← Finset.mul_sum, A.sum_cent, mul_zero]
  have e1 : (∑ g, ∑ l, -(A.dhat r g l * A.rstd r)) = -(A.rstd r * 2048 * A.m1 r) := by
    have : ∀ g l, -(A.dhat r g l * A.rstd r) = (-A.rstd r) * A.dhat r g l := fun g l => by ring
    simp only [this, ← Finset.mul_sum]
    unfold m1
    ring
  have e3 : (∑ g, ∑ l, A.dhat r g l * A.hat r g l) = A.rstd r * ∑ g, ∑ l, A.cent r g l * A.dhat r g l := by
    have : ∀ g l, A.dhat r g l * A.hat r g l = A.rstd r * (A.cent r g l * A.dhat r g l) := fun g l => by unfold hat; ring
    simp only [this, ← Finset.mul_sum]
  rw [e1, e2]
  unfold dv pull m2
  rw [e3, h3]
  unfold hat
  ring

end Chunk

/-- The whole arguments: 32 chunks of 128 rows. -/
structure Args where
  z : Fin 4096 → Fin 4096 → ℝ
  g : Fin 2048 → ℝ
  b : Fin 2048 → ℝ
  w : Fin 8 → Fin 128 → Fin 128 → ℝ
  o : Fin 8 → Fin 128 → ℝ
  d : Fin 4096 → Fin 2048 → ℝ

def row (t : Fin 32) (r : Fin 128) : Fin 4096 := ⟨t.val * 128 + r.val, by omega⟩
def col (g : Fin 8) (l : Fin 256) : Fin 2048 := ⟨256 * g.val + l.val, by omega⟩
/-- The chunk of a row, and the row in it; the group of a column, and the column in it. -/
def pointOf (r : Fin 4096) : Fin 32 := ⟨r.val / 128, by omega⟩
def rowOf (r : Fin 4096) : Fin 128 := ⟨r.val % 128, by omega⟩
def groupOf (k : Fin 2048) : Fin 8 := ⟨k.val / 256, by omega⟩
def colOf (k : Fin 2048) : Fin 256 := ⟨k.val % 256, by omega⟩

theorem pointOf_row (t : Fin 32) (r : Fin 128) : pointOf (row t r) = t := Fin.ext (by show (t.val * 128 + r.val) / 128 = t.val; omega)
theorem rowOf_row (t : Fin 32) (r : Fin 128) : rowOf (row t r) = r := Fin.ext (by show (t.val * 128 + r.val) % 128 = r.val; omega)
theorem groupOf_col (g : Fin 8) (l : Fin 256) : groupOf (col g l) = g := Fin.ext (by show (256 * g.val + l.val) / 256 = g.val; omega)
theorem colOf_col (g : Fin 8) (l : Fin 256) : colOf (col g l) = l := Fin.ext (by show (256 * g.val + l.val) % 256 = l.val; omega)
theorem row_eta (r : Fin 4096) : row (pointOf r) (rowOf r) = r := Fin.ext (by show r.val / 128 * 128 + r.val % 128 = r.val; omega)
theorem col_eta (k : Fin 2048) : col (groupOf k) (colOf k) = k := Fin.ext (by show 256 * (k.val / 256) + k.val % 256 = k.val; omega)

def left (k : Fin 2048) : Fin 4096 := ⟨k.val, by omega⟩
def right (k : Fin 2048) : Fin 4096 := ⟨2048 + k.val, by omega⟩

def lane (g : Fin 8) (k : Fin 128) : Fin 1024 := ⟨128 * g.val + k.val, by omega⟩
def lanes (k : Fin 1024) : Fin 8 := ⟨k.val / 128, by omega⟩

theorem lanes_lane (g : Fin 8) (k : Fin 128) : lanes (lane g k) = g := Fin.ext (by show (128 * g.val + k.val) / 128 = g.val; omega)

/-- A function of group and column, by the column of the row. -/
def flat (f : Fin 8 → Fin 256 → ℝ) (k : Fin 2048) : ℝ := f ⟨k.val / 256, by omega⟩ ⟨k.val % 256, by omega⟩

theorem flat_col (f : Fin 8 → Fin 256 → ℝ) (g : Fin 8) (l : Fin 256) : flat f (col g l) = f g l :=
  congrArg₂ f (Fin.ext (by show (256 * g.val + l.val) / 256 = g.val; omega)) (Fin.ext (by show (256 * g.val + l.val) % 256 = l.val; omega))

namespace Chunk

variable (A : Chunk)

/-- The gradient of the gelu's argument, both halves. -/
def dz (r : Fin 128) (k : Fin 4096) : ℝ :=
  if h : k.val < 2048 then flat (fun g l => A.du r g l * slope (A.u r g l)) ⟨k.val, h⟩
  else flat (fun g l => A.dv r g l * slope (A.v r g l)) ⟨k.val - 2048, by omega⟩

theorem dz_left (r : Fin 128) (g : Fin 8) (l : Fin 256) : A.dz r (left (col g l)) = A.du r g l * slope (A.u r g l) := by
  unfold dz
  rw [dif_pos (show (left (col g l)).val < 2048 from (col g l).isLt)]
  exact flat_col _ g l

theorem dz_right (r : Fin 128) (g : Fin 8) (l : Fin 256) : A.dz r (right (col g l)) = A.dv r g l * slope (A.v r g l) := by
  unfold dz
  rw [dif_neg (show ¬ (right (col g l)).val < 2048 from by show ¬ 2048 + _ < 2048; omega)]
  refine Eq.trans (congrArg _ (Fin.ext ?_)) (flat_col _ g l)
  show 2048 + (col g l).val - 2048 = (col g l).val
  omega

end Chunk

namespace Args

variable (A : Args)

def chunk (t : Fin 32) : Chunk where
  u r g l := A.z (row t r) (left (col g l))
  v r g l := A.z (row t r) (right (col g l))
  d r g l := A.d (row t r) (col g l)
  g g l := A.g (col g l)
  b g l := A.b (col g l)
  w := A.w
  o := A.o

end Args

end Cert.Sgu
-- ==== Proof.SguKernelBlock.lean ====
module

public import proofs.«01_k».proof.Proof.Gen.SguKernelIdeal.Value
public import proofs.«01_k».proof.Proof.SguReal
public import Idealize.ShloMosaic.Lib.Pointwise
public import Idealize.ShloMosaic.Lib.Pipeline.ValueKit

/-!
# The spatial gate's backward: what one point computes

The kernel writes its eight groups out one after the other. Each stage is stated once here, at group `g`, from the point's
blocks `x0 … x5`, and with real blocks it is the real stage of `Sgu.Chunk`.
-/

@[expose] public section

set_option maxRecDepth 16384

noncomputable section

namespace Cert.SguKernelIdeal.Hand

open Cert.SguKernelIdeal Cert.SguKernelIdeal.Gen Cert.Reals
open Idealize.ShloMosaic Idealize.ShloMosaic.TcCoe Idealize.ShloMosaic.Pointwise
open Sgu (Chunk row col left right)

/-- The named constants' values. -/
theorem root_named : (Named.named (F := Ideal) κ "rsqrt2" (φ := .f32) 0x3F3504F3#32 : EReal) = (((Real.sqrt 2)⁻¹ : ℝ) : EReal) := rfl
theorem gauss_named : (Named.named (F := Ideal) κ "gauss" (φ := .f32) 0x3ECC422A#32 : EReal)
    = ((9465531 / 16777216 * (Real.sqrt 2)⁻¹ : ℝ) : EReal) := rfl

section Stages

variable (x0 : Vec Ideal S128x4096 .f32) (x1 : Vec Ideal S128x2048 .f32) (x2 x3 : Vec Ideal S1x2048 .f32)
  (x4 : Vec Ideal S8x128x128 .f32) (x5 : Vec Ideal S128x2048 .f32)

theorem inb_u (g : Fin 8) (a : Fin 2) : (![0, 256 * g.val] : Fin 2 → ℕ) a + (![128, 256] : Fin 2 → ℕ) a ≤ S128x4096.size a := by
  match a with
  | ⟨0, _⟩ => exact Nat.le_refl 128
  | ⟨1, _⟩ => show 256 * g.val + 256 ≤ 4096; omega

theorem inb_v (g : Fin 8) (a : Fin 2) : (![0, 2048 + 256 * g.val] : Fin 2 → ℕ) a + (![128, 256] : Fin 2 → ℕ) a ≤ S128x4096.size a := by
  match a with
  | ⟨0, _⟩ => exact Nat.le_refl 128
  | ⟨1, _⟩ => show 2048 + 256 * g.val + 256 ≤ 4096; omega

theorem inb_t (g : Fin 8) (a : Fin 2) : (![0, 256 * g.val] : Fin 2 → ℕ) a + (![128, 256] : Fin 2 → ℕ) a ≤ S128x2048.size a := by
  match a with
  | ⟨0, _⟩ => exact Nat.le_refl 128
  | ⟨1, _⟩ => show 256 * g.val + 256 ≤ 2048; omega

theorem inb_r (g : Fin 8) (a : Fin 2) : (![0, 256 * g.val] : Fin 2 → ℕ) a + (![1, 256] : Fin 2 → ℕ) a ≤ S1x2048.size a := by
  match a with
  | ⟨0, _⟩ => exact Nat.le_refl 1
  | ⟨1, _⟩ => show 256 * g.val + 256 ≤ 2048; omega

theorem inb_w (g : Fin 8) (a : Fin 3) : (![g.val, 0, 0] : Fin 3 → ℕ) a + (![1, 128, 128] : Fin 3 → ℕ) a ≤ S8x128x128.size a := by
  match a with
  | ⟨0, _⟩ => show g.val + 1 ≤ 8; omega
  | ⟨1, _⟩ => exact Nat.le_refl 128
  | ⟨2, _⟩ => exact Nat.le_refl 128

theorem inb_l (g : Fin 8) (a : Fin 2) : (![0, 128 * g.val] : Fin 2 → ℕ) a + (![128, 128] : Fin 2 → ℕ) a ≤ S128x1024.size a := by
  match a with
  | ⟨0, _⟩ => exact Nat.le_refl 128
  | ⟨1, _⟩ => show 128 * g.val + 128 ≤ 1024; omega

def zu (g : Fin 8) : Vec Ideal S128x256 .f32 := View.ld x0 (Rect.unit ![0, 256 * g.val] ![128, 256] (inb_u g))
def zv (g : Fin 8) : Vec Ideal S128x256 .f32 := View.ld x0 (Rect.unit ![0, 2048 + 256 * g.val] ![128, 256] (inb_v g))
def tile (g : Fin 8) : Vec Ideal S128x256 .f32 := View.ld x1 (Rect.unit ![0, 256 * g.val] ![128, 256] (inb_t g))
def vec (g : Fin 8) : Vec Ideal S1x256 .f32 := View.ld x2 (Rect.unit ![0, 256 * g.val] ![1, 256] (inb_r g))
def mat (g : Fin 8) : Vec Ideal S1x128x128 .f32 := View.ld x4 (Rect.unit ![g.val, 0, 0] ![1, 128, 128] (inb_w g))

/-- Eight columns, added from the left. -/
def run (f : Fin 8 → FVec Ideal S128x1 .f32) : FVec Ideal S128x1 .f32 :=
  addf (addf (addf (addf (addf (addf (addf (f 0) (f 1)) (f 2)) (f 3)) (f 4)) (f 5)) (f 6)) (f 7)

def sumRow (v : FVec Ideal S128x256 .f32) : FVec Ideal S128x1 .f32 :=
  shapeCast S128x1 (multiReduction .add [1] S128 v 0x00000000#32 reduces_S128x256_S128 (.inl rfl) rfl) shapeCasts_S128_S128x1

def mean : FVec Ideal S128x1 .f32 :=
  mulf (run fun g => sumRow (k0_pay6 (zv x0 g))) (broadcast S128x1 (Scalar.ofBits .f32 0x3A000000#32))
def cent (g : Fin 8) : FVec Ideal S128x256 .f32 := k0_pay45 (mean x0) (k0_pay8 (zv x0 g))
def rstd : FVec Ideal S128x1 .f32 :=
  rsqrt (addf (mulf (run fun g => sumRow (mulf (cent x0 g) (cent x0 g))) (broadcast S128x1 (Scalar.ofBits .f32 0x3A000000#32)))
    (broadcast S128x1 (Scalar.ofBits .f32 0x3727C5AC#32)))
def hat (g : Fin 8) : FVec Ideal S128x256 .f32 := k0_pay46 (rstd x0) (cent x0 g)
def ln (g : Fin 8) : FVec Ideal S128x256 .bf16 := k0_pay47 (rstd x0) (cent x0 g) (vec x2 g) (vec x3 g)
def low (g : Fin 8) : FVec Ideal S128x128 .bf16 := k0_pay48 (mat x4 g)
def mix (g : Fin 8) : FVec Ideal S128x256 .f32 := k0_pay49 (rstd x0) (cent x0 g) (vec x2 g) (vec x3 g) (mat x4 g) (tile x5 g)
def du (g : Fin 8) : FVec Ideal S128x256 .bf16 := k0_pay53 (mix x0 x2 x3 x4 x5 g) (k0_pay52 (zu x0 g)) (tile x1 g)
def dln (g : Fin 8) : FVec Ideal S128x256 .f32 := k0_pay56 (low x4 g) (k0_pay51 (zu x0 g)) (tile x1 g)
def dhat (g : Fin 8) : FVec Ideal S128x256 .f32 := k0_pay61 (dln x0 x1 x4 g) (vec x2 g)
def m1 : FVec Ideal S128x1 .f32 :=
  mulf (run fun g => sumRow (dhat x0 x1 x2 x4 g)) (broadcast S128x1 (Scalar.ofBits .f32 0x3A000000#32))
def s2 : FVec Ideal S128x1 .f32 := run fun g => sumRow (mulf (dhat x0 x1 x2 x4 g) (hat x0 g))
def dv (g : Fin 8) : FVec Ideal S128x256 .bf16 :=
  k0_pay198 (mean x0) (rstd x0) (s2 x0 x1 x2 x4) (m1 x0 x1 x2 x4) (k0_pay8 (zv x0 g)) (k0_pay62 (dln x0 x1 x4 g) (vec x2 g))
    (k0_pay7 (zv x0 g))
def gain (g : Fin 8) (acc : Vec Ideal S1x256 .f32) : FVec Ideal S1x256 .f32 :=
  k0_pay59 (hat x0 g) (low x4 g) (k0_pay51 (zu x0 g)) (tile x1 g) acc
def offset (g : Fin 8) (acc : Vec Ideal S1x256 .f32) : FVec Ideal S1x256 .f32 := k0_pay60 (dln x0 x1 x4 g) acc
def weight (g : Fin 8) (acc : Vec Ideal S1x128x128 .f32) : FVec Ideal S1x128x128 .f32 :=
  k0_pay57 (ln x0 x2 x3 g) (k0_pay51 (zu x0 g)) (tile x1 g) acc
def lane (g : Fin 8) (acc : Vec Ideal S128x128 .f32) : FVec Ideal S128x128 .f32 := k0_pay58 (k0_pay51 (zu x0 g)) (tile x1 g) acc

/-! ## Loads -/

theorem zu_apply (g : Fin 8) (r : Fin 128) (l : Fin 256) : zu x0 g (ix2 r l) = x0 (ix2 r (left (col g l))) :=
  View.ld_unit_apply_of _ _ _ _ _ _ fun a => by match a with | ⟨0, _⟩ => exact (Nat.zero_add _).symm | ⟨1, _⟩ => rfl

theorem zv_apply (g : Fin 8) (r : Fin 128) (l : Fin 256) : zv x0 g (ix2 r l) = x0 (ix2 r (right (col g l))) :=
  View.ld_unit_apply_of _ _ _ _ _ _ fun a => by
    match a with | ⟨0, _⟩ => exact (Nat.zero_add _).symm | ⟨1, _⟩ => exact (Nat.add_assoc _ _ _).symm

theorem tile_apply (g : Fin 8) (r : Fin 128) (l : Fin 256) : tile x1 g (ix2 r l) = x1 (ix2 r (col g l)) :=
  View.ld_unit_apply_of _ _ _ _ _ _ fun a => by match a with | ⟨0, _⟩ => exact (Nat.zero_add _).symm | ⟨1, _⟩ => rfl

theorem vec_apply (g : Fin 8) (l : Fin 256) : vec x2 g (ix2 0 l) = x2 (ix2 0 (col g l)) :=
  View.ld_unit_apply_of _ _ _ _ _ _ fun a => by match a with | ⟨0, _⟩ => exact (Nat.zero_add _).symm | ⟨1, _⟩ => rfl

theorem mat_apply (g : Fin 8) (r s : Fin 128) : mat x4 g (ix3 0 r s) = x4 (ix3 g r s) :=
  View.ld_unit_apply_of _ _ _ _ _ _ fun a => by
    match a with | ⟨0, _⟩ => rfl | ⟨1, _⟩ => exact (Nat.zero_add _).symm | ⟨2, _⟩ => exact (Nat.zero_add _).symm

/-! ## Stages at an index -/

theorem run_apply (f : Fin 8 → FVec Ideal S128x1 .f32) (r : Fin 128) : run f (ix2 r 0) = ∑ g : Fin 8, (f g (ix2 r 0) : EReal) := by
  rw [Fin.sum_univ_eight]
  pointwise [run]

theorem sumRow_apply (v : FVec Ideal S128x256 .f32) (r : Fin 128) : sumRow v (ix2 r 0) = ∑ l : Fin 256, (v (ix2 r l) : EReal) := by
  pointwise [sumRow]

/-- A row of eight groups, summed by the kernel, over real entries. -/
theorem run_sum (v : Fin 8 → FVec Ideal S128x256 .f32) (f : Fin 8 → Fin 256 → ℝ) (r : Fin 128)
    (h : ∀ g l, v g (ix2 r l) = (f g l : EReal)) : run (fun g => sumRow (v g)) (ix2 r 0) = ((∑ g, ∑ l, f g l : ℝ) : EReal) := by
  rw [run_apply]
  simp only [sumRow_apply, h, coe_sum]

theorem low_le (r s : Fin 128) : IntOp.cmpi CmpIPredicate.sle (BitVec.ofNat 32 s.val) (BitVec.ofNat 32 r.val) = if s.val ≤ r.val then 1#1 else 0#1 := by
  have h : ∀ r : Fin 128, (BitVec.ofNat 32 r.val).toInt = r.val := by decide
  have hr := h r
  have hs := h s
  by_cases h : s.val ≤ r.val <;> simp [IntOp.cmpi, BitVec.sle, hr, hs, h]

theorem pick (r s : Fin 128) (x : EReal) :
    Scalar.select (IntOp.cmpi CmpIPredicate.sle (BitVec.ofNat 32 s.val) (BitVec.ofNat 32 r.val)) x 0 = if s.val ≤ r.val then x else 0 := by
  rw [low_le]
  by_cases h : s.val ≤ r.val <;> simp [h, Scalar.select]

theorem low_apply (g : Fin 8) (r s : Fin 128) : low x4 g (ix2 r s) = (if s.val ≤ r.val then x4 (ix3 g r s) else 0 : EReal) := by
  pointwise [low, k0_pay48]
  rw [pick, mat_apply]

theorem cdf_apply (z : FVec Ideal S128x256 .f32) (r : Fin 128) (l : Fin 256) (a : ℝ) (h : z (ix2 r l) = (a : EReal)) :
    k0_pay5 (F := Ideal) z (ix2 r l) = (Sgu.cdf a : EReal) := by
  pointwise [k0_pay5]
  rw [h]
  have e : Ideal.erf ((a : EReal) * Named.named (F := Ideal) κ "rsqrt2" (φ := .f32) 0x3F3504F3#32) = (Sgu.erf (a * (Real.sqrt 2)⁻¹) : EReal) := by
    rw [← Sgu.ideal_erf, EReal.coe_mul]
    exact congrArg (fun x : EReal => Ideal.erf ((a : EReal) * x)) root_named
  refine (congrArg (fun x : EReal => Ideal.ofBits .f32 0x3F000000#32 * (1 + x)) e).trans ?_
  rw [Sgu.half_word, ← EReal.coe_one, ← EReal.coe_add, ← EReal.coe_mul]
  rfl

theorem gelu_apply (z : FVec Ideal S128x256 .f32) (r : Fin 128) (l : Fin 256) (a : ℝ) (h : z (ix2 r l) = (a : EReal)) :
    k0_pay6 (F := Ideal) z (ix2 r l) = (Sgu.gelu a : EReal) := by
  pointwise [k0_pay6]
  rw [h, cdf_apply z r l a h, ← EReal.coe_mul]
  rfl

theorem gelu_store (z : FVec Ideal S128x256 .f32) (r : Fin 128) (l : Fin 256) (a : ℝ) (h : z (ix2 r l) = (a : EReal)) :
    k0_pay8 (F := Ideal) z (ix2 r l) = (Sgu.gelu a : EReal) := by
  pointwise [k0_pay8]
  exact gelu_apply z r l a h

theorem slope_apply (z : FVec Ideal S128x256 .f32) (r : Fin 128) (l : Fin 256) (a : ℝ) (h : z (ix2 r l) = (a : EReal)) :
    k0_pay7 (F := Ideal) z (ix2 r l) = (Sgu.slope a : EReal) := by
  pointwise [k0_pay7]
  rw [cdf_apply z r l a h, h]
  refine (congrArg (fun x : EReal => (Sgu.cdf a : EReal) + (a : EReal) * Ideal.exp (Ideal.ofBits .f32 0xBF000000#32 * (a : EReal) * (a : EReal)) * x)
    gauss_named).trans ?_
  rw [Sgu.neg_half_word, ← EReal.coe_mul, ← EReal.coe_mul, Ideal.exp_coe, ← EReal.coe_mul, ← EReal.coe_mul, ← EReal.coe_add]
  rfl

end Stages

/-! ## With real blocks -/

variable {x0 : Vec Ideal S128x4096 .f32} {x1 : Vec Ideal S128x2048 .f32} {x2 x3 : Vec Ideal S1x2048 .f32}
  {x4 : Vec Ideal S8x128x128 .f32} {x5 : Vec Ideal S128x2048 .f32}

/-- The point's blocks hold the chunk's numbers. -/
structure Holds (A : Chunk) (x0 : Vec Ideal S128x4096 .f32) (x1 : Vec Ideal S128x2048 .f32) (x2 x3 : Vec Ideal S1x2048 .f32)
    (x4 : Vec Ideal S8x128x128 .f32) (x5 : Vec Ideal S128x2048 .f32) : Prop where
  u : ∀ r g l, x0 (ix2 r (left (col g l))) = (A.u r g l : EReal)
  v : ∀ r g l, x0 (ix2 r (right (col g l))) = (A.v r g l : EReal)
  d : ∀ r g l, x1 (ix2 r (col g l)) = (A.d r g l : EReal)
  g : ∀ g l, x2 (ix2 0 (col g l)) = (A.g g l : EReal)
  b : ∀ g l, x3 (ix2 0 (col g l)) = (A.b g l : EReal)
  w : ∀ g r s, x4 (ix3 g r s) = (A.w g r s : EReal)
  o : ∀ r g l, x5 (ix2 r (col g l)) = (A.o g r : EReal)

variable {A : Chunk} (H : Holds A x0 x1 x2 x3 x4 x5)
include H

theorem zu_eq (r : Fin 128) (g : Fin 8) (l : Fin 256) : zu x0 g (ix2 r l) = (A.u r g l : EReal) := (zu_apply x0 g r l).trans (H.u r g l)
theorem zv_eq (r : Fin 128) (g : Fin 8) (l : Fin 256) : zv x0 g (ix2 r l) = (A.v r g l : EReal) := (zv_apply x0 g r l).trans (H.v r g l)
theorem d_eq (r : Fin 128) (g : Fin 8) (l : Fin 256) : tile x1 g (ix2 r l) = (A.d r g l : EReal) := (tile_apply x1 g r l).trans (H.d r g l)
theorem g_eq (g : Fin 8) (l : Fin 256) : vec x2 g (ix2 0 l) = (A.g g l : EReal) := (vec_apply x2 g l).trans (H.g g l)
theorem b_eq (g : Fin 8) (l : Fin 256) : vec x3 g (ix2 0 l) = (A.b g l : EReal) := (vec_apply x3 g l).trans (H.b g l)
theorem o_eq (r : Fin 128) (g : Fin 8) (l : Fin 256) : tile x5 g (ix2 r l) = (A.o g r : EReal) := (tile_apply x5 g r l).trans (H.o r g l)

theorem low_eq (g : Fin 8) (r s : Fin 128) : low x4 g (ix2 r s) = (A.low g r s : EReal) := by
  rw [low_apply, H.w]
  unfold Chunk.low
  split <;> simp

theorem mean_eq (r : Fin 128) : mean x0 (ix2 r 0) = (A.mean r : EReal) := by
  pointwise [mean]
  rw [run_sum (fun g => k0_pay6 (zv x0 g)) (fun g l => Sgu.gelu (A.v r g l)) r fun g l => gelu_apply _ r l _ (zv_eq H r g l),
    Sgu.inv_word, ← EReal.coe_mul]
  rfl

theorem cent_eq (r : Fin 128) (g : Fin 8) (l : Fin 256) : cent x0 g (ix2 r l) = (A.cent r g l : EReal) := by
  pointwise [cent, k0_pay45]
  rw [gelu_store _ r l _ (zv_eq H r g l), mean_eq H r, ← EReal.coe_sub]
  rfl

theorem rstd_eq (r : Fin 128) : rstd x0 (ix2 r 0) = (A.rstd r : EReal) := by
  pointwise [rstd]
  rw [run_sum (fun g => mulf (cent x0 g) (cent x0 g)) (fun g l => A.cent r g l * A.cent r g l) r fun g l => by
      pointwise; rw [cent_eq H r g l, EReal.coe_mul],
    Sgu.inv_word, Sgu.eps_word, ← EReal.coe_mul, ← EReal.coe_add]
  exact A.ideal_rstd r

theorem hat_eq (r : Fin 128) (g : Fin 8) (l : Fin 256) : hat x0 g (ix2 r l) = (A.hat r g l : EReal) := by
  pointwise [hat, k0_pay46]
  rw [cent_eq H r g l, rstd_eq H r, ← EReal.coe_mul]
  rfl

theorem ln_eq (r : Fin 128) (g : Fin 8) (l : Fin 256) : ln x0 x2 x3 g (ix2 r l) = (A.ln r g l : EReal) := by
  pointwise [ln, k0_pay47, k0_pay46]
  rw [cent_eq H r g l, rstd_eq H r, g_eq H g l, b_eq H g l, ← EReal.coe_mul, ← EReal.coe_mul, ← EReal.coe_add]
  rfl

theorem mix_eq (r : Fin 128) (g : Fin 8) (l : Fin 256) : mix x0 x2 x3 x4 x5 g (ix2 r l) = (A.mix r g l : EReal) := by
  have e : mix x0 x2 x3 x4 x5 g (ix2 r l) = (∑ s, low x4 g (ix2 r s) * ln x0 x2 x3 g (ix2 s l)) + (tile x5 g (ix2 r l) : EReal) := by
    pointwise [mix, k0_pay49, low, ln]
  rw [e, o_eq H r g l]
  simp only [low_eq H, ln_eq H, ← EReal.coe_mul, coe_sum, ← EReal.coe_add]
  rfl

theorem du_eq (r : Fin 128) (g : Fin 8) (l : Fin 256) :
    du x0 x1 x2 x3 x4 x5 g (ix2 r l) = (A.du r g l * Sgu.slope (A.u r g l) : ℝ) := by
  have e : k0_pay52 (F := Ideal) (zu x0 g) (ix2 r l) = (Sgu.slope (A.u r g l) : EReal) := by
    refine Eq.trans ?_ (slope_apply _ r l _ (zu_eq H r g l))
    pointwise [k0_pay52, k0_pay7]
    rfl
  pointwise [du, k0_pay53]
  rw [d_eq H r g l, mix_eq H r g l, e, ← EReal.coe_mul, ← EReal.coe_mul]
  rfl

theorem u_eq (r : Fin 128) (g : Fin 8) (l : Fin 256) : k0_pay51 (F := Ideal) (zu x0 g) (ix2 r l) = (Sgu.gelu (A.u r g l) : EReal) :=
  gelu_apply _ r l _ (zu_eq H r g l)

theorem dln_eq (r : Fin 128) (g : Fin 8) (l : Fin 256) : dln x0 x1 x4 g (ix2 r l) = (A.dln r g l : EReal) := by
  pointwise [dln, k0_pay56, k0_pay55, k0_pay54]
  simp only [low_eq H, d_eq H, u_eq H, ← EReal.coe_mul, coe_sum]
  rfl

theorem dhat_eq (r : Fin 128) (g : Fin 8) (l : Fin 256) : dhat x0 x1 x2 x4 g (ix2 r l) = (A.dhat r g l : EReal) := by
  pointwise [dhat, k0_pay61]
  rw [dln_eq H r g l, g_eq H g l, ← EReal.coe_mul]
  rfl

theorem m1_eq (r : Fin 128) : m1 x0 x1 x2 x4 (ix2 r 0) = (A.m1 r : EReal) := by
  pointwise [m1]
  rw [run_sum (fun g => dhat x0 x1 x2 x4 g) (fun g l => A.dhat r g l) r fun g l => dhat_eq H r g l, Sgu.inv_word, ← EReal.coe_mul]
  rfl

theorem s2_eq (r : Fin 128) : s2 x0 x1 x2 x4 (ix2 r 0) = ((∑ g, ∑ l, A.dhat r g l * A.hat r g l : ℝ) : EReal) :=
  run_sum (fun g => mulf (dhat x0 x1 x2 x4 g) (hat x0 g)) (fun g l => A.dhat r g l * A.hat r g l) r fun g l => by
    pointwise
    rw [dhat_eq H r g l, hat_eq H r g l, EReal.coe_mul]

theorem dv_eq (r : Fin 128) (g : Fin 8) (l : Fin 256) :
    dv x0 x1 x2 x4 g (ix2 r l) = (A.dv r g l * Sgu.slope (A.v r g l) : ℝ) := by
  have e : k0_pay62 (dln x0 x1 x4 g) (vec x2 g) (ix2 r l) = (A.dhat r g l : EReal) := by
    pointwise [k0_pay62]
    exact dhat_eq H r g l
  pointwise [dv, k0_pay198, k0_pay197]
  rw [gelu_store _ r l _ (zv_eq H r g l), slope_apply _ r l _ (zv_eq H r g l), e, mean_eq H r, rstd_eq H r, s2_eq H r, m1_eq H r,
    Sgu.inv_word]
  simp only [← EReal.coe_mul, ← EReal.coe_sub]
  rfl

theorem gain_eq (g : Fin 8) (l : Fin 256) (acc : Vec Ideal S1x256 .f32) :
    gain x0 x1 x4 g acc (ix2 0 l) = acc (ix2 0 l) + (A.gain g l : EReal) := by
  have e : gain x0 x1 x4 g acc (ix2 0 l) = acc (ix2 0 l) + ∑ r, dln x0 x1 x4 g (ix2 r l) * hat x0 g (ix2 r l) := by
    pointwise [gain, k0_pay59, dln]
  rw [e]
  simp only [dln_eq H, hat_eq H, ← EReal.coe_mul, coe_sum]
  rfl

theorem offset_eq (g : Fin 8) (l : Fin 256) (acc : Vec Ideal S1x256 .f32) :
    offset x0 x1 x4 g acc (ix2 0 l) = acc (ix2 0 l) + (A.offset g l : EReal) := by
  have e : offset x0 x1 x4 g acc (ix2 0 l) = acc (ix2 0 l) + ∑ r, dln x0 x1 x4 g (ix2 r l) := by
    pointwise [offset, k0_pay60]
  rw [e]
  simp only [dln_eq H, coe_sum]
  rfl

theorem weight_eq (g : Fin 8) (r s : Fin 128) (acc : Vec Ideal S1x128x128 .f32) :
    weight x0 x1 x2 x3 g acc (ix3 0 r s) = acc (ix3 0 r s) + (A.weight g r s : EReal) := by
  pointwise [weight, k0_pay57, k0_pay55, k0_pay54]
  rw [pick]
  simp only [d_eq H, u_eq H, ln_eq H, ← EReal.coe_mul, coe_sum]
  congr 1
  unfold Chunk.weight Chunk.dmix
  split <;> simp

theorem lane_eq (g : Fin 8) (r k : Fin 128) (acc : Vec Ideal S128x128 .f32) :
    lane x0 x1 g acc (ix2 r k) = acc (ix2 r k) + (A.lane g r : EReal) := by
  pointwise [lane, k0_pay58, k0_pay54]
  simp only [d_eq H, u_eq H, ← EReal.coe_mul, coe_sum]
  rfl

end Cert.SguKernelIdeal.Hand
-- ==== Proof.SguKernelPieces.lean ====
module

public import proofs.«01_k».proof.Proof.SguKernelBlock
public import Idealize.ShloMosaic.Lib.Pipeline.ReadBack

/-!
# The spatial gate's backward: what one point leaves

Every store of a point is a block of one function of the whole window, so that what the point leaves is that function; the
four results that gather add it to what they held.
-/

@[expose] public section

set_option maxRecDepth 16384

noncomputable section

namespace Cert.SguKernelIdeal.Hand

open Cert.SguKernelIdeal Cert.SguKernelIdeal.Gen Cert.Reals
open Idealize.ShloMosaic Idealize.ShloMosaic.TcCoe Idealize.ShloMosaic.Pointwise
open Sgu (Chunk row col left right)

section Piece

variable {x0 : Vec Ideal S128x4096 .f32} {x1 : Vec Ideal S128x2048 .f32} {x2 x3 : Vec Ideal S1x2048 .f32}
  {x4 : Vec Ideal S8x128x128 .f32} {x5 : Vec Ideal S128x2048 .f32}
variable {A : Chunk} (H : Holds A x0 x1 x2 x3 x4 x5)

/-- What the point leaves, by window index. -/
def leavesZ (A : Chunk) : Vec Ideal S128x4096 .bf16 := fun y => ((A.dz (y 0) (y 1) : ℝ) : EReal)
def leavesRow (f : Fin 8 → Fin 256 → ℝ) (acc : Vec Ideal S1x2048 .f32) : Vec Ideal S1x2048 .f32 :=
  fun y => acc y + ((Sgu.flat f (y 1) : ℝ) : EReal)
def leavesW (A : Chunk) (acc : Vec Ideal S8x128x128 .f32) : Vec Ideal S8x128x128 .f32 :=
  fun y => acc y + ((A.weight (y 0) (y 1) (y 2) : ℝ) : EReal)
def leavesL (A : Chunk) (acc : Vec Ideal S128x1024 .f32) : Vec Ideal S128x1024 .f32 :=
  fun y => acc y + ((A.lane (Sgu.lanes (y 1)) (y 0) : ℝ) : EReal)

theorem emb_u (g : Fin 8) (r : Fin 128) (l : Fin 256) :
    (Rect.unit (s := S128x4096) ![0, 256 * g.val] ![128, 256] (inb_u g)).emb (ix2 r l) = ix2 r (left (col g l)) := by
  funext a
  match a with
  | ⟨0, _⟩ => exact Fin.ext (by show 0 + 1 * r.val = r.val; omega)
  | ⟨1, _⟩ => exact Fin.ext (by show 256 * g.val + 1 * l.val = 256 * g.val + l.val; omega)

theorem emb_v (g : Fin 8) (r : Fin 128) (l : Fin 256) :
    (Rect.unit (s := S128x4096) ![0, 2048 + 256 * g.val] ![128, 256] (inb_v g)).emb (ix2 r l) = ix2 r (right (col g l)) := by
  funext a
  match a with
  | ⟨0, _⟩ => exact Fin.ext (by show 0 + 1 * r.val = r.val; omega)
  | ⟨1, _⟩ => exact Fin.ext (by show 2048 + 256 * g.val + 1 * l.val = 2048 + (256 * g.val + l.val); omega)

theorem emb_r (g : Fin 8) (l : Fin 256) :
    (Rect.unit (s := S1x2048) ![0, 256 * g.val] ![1, 256] (inb_r g)).emb (ix2 0 l) = ix2 0 (col g l) := by
  funext a
  match a with
  | ⟨0, _⟩ => rfl
  | ⟨1, _⟩ => exact Fin.ext (by show 256 * g.val + 1 * l.val = 256 * g.val + l.val; omega)

theorem emb_w (g : Fin 8) (r s : Fin 128) :
    (Rect.unit (s := S8x128x128) ![g.val, 0, 0] ![1, 128, 128] (inb_w g)).emb (ix3 0 r s) = ix3 g r s := by
  funext a
  match a with
  | ⟨0, _⟩ => exact Fin.ext (by show g.val + 1 * 0 = g.val; omega)
  | ⟨1, _⟩ => exact Fin.ext (by show 0 + 1 * r.val = r.val; omega)
  | ⟨2, _⟩ => exact Fin.ext (by show 0 + 1 * s.val = s.val; omega)

theorem emb_l (g : Fin 8) (r k : Fin 128) :
    (Rect.unit (s := S128x1024) ![0, 128 * g.val] ![128, 128] (inb_l g)).emb (ix2 r k) = ix2 r (Sgu.lane g k) := by
  funext a
  match a with
  | ⟨0, _⟩ => exact Fin.ext (by show 0 + 1 * r.val = r.val; omega)
  | ⟨1, _⟩ => exact Fin.ext (by show 128 * g.val + 1 * k.val = 128 * g.val + k.val; omega)

include H

theorem du_piece (g : Fin 8) (x : S128x256.Idx) : du x0 x1 x2 x3 x4 x5 g x
    = leavesZ A ((Rect.unit (s := S128x4096) ![0, 256 * g.val] ![128, 256] (inb_u g)).emb x) := by
  obtain ⟨r, l, rfl⟩ : ∃ (r : Fin 128) (l : Fin 256), x = ix2 r l := ⟨x 0, x 1, (ix2_eta x).symm⟩
  exact (du_eq H r g l).trans ((congrArg (fun x : ℝ => (x : EReal)) (A.dz_left r g l)).symm.trans (congrArg (leavesZ A) (emb_u g r l)).symm)

theorem dv_piece (g : Fin 8) (x : S128x256.Idx) : dv x0 x1 x2 x4 g x
    = leavesZ A ((Rect.unit (s := S128x4096) ![0, 2048 + 256 * g.val] ![128, 256] (inb_v g)).emb x) := by
  obtain ⟨r, l, rfl⟩ : ∃ (r : Fin 128) (l : Fin 256), x = ix2 r l := ⟨x 0, x 1, (ix2_eta x).symm⟩
  exact (dv_eq H r g l).trans ((congrArg (fun x : ℝ => (x : EReal)) (A.dz_right r g l)).symm.trans (congrArg (leavesZ A) (emb_v g r l)).symm)

theorem gain_piece (acc : Vec Ideal S1x2048 .f32) (g : Fin 8) (x : S1x256.Idx) :
    gain x0 x1 x4 g (View.ld acc (Rect.unit (s := S1x2048) ![0, 256 * g.val] ![1, 256] (inb_r g))) x
      = leavesRow A.gain acc ((Rect.unit (s := S1x2048) ![0, 256 * g.val] ![1, 256] (inb_r g)).emb x) := by
  obtain ⟨r, l, rfl⟩ : ∃ (r : Fin 1) (l : Fin 256), x = ix2 r l := ⟨x 0, x 1, (ix2_eta x).symm⟩
  obtain rfl : r = 0 := Subsingleton.elim _ _
  refine (gain_eq H g l _).trans ?_
  unfold leavesRow
  rw [emb_r]
  exact congrArg₂ (fun (x : EReal) (y : ℝ) => x + (y : EReal)) (vec_apply acc g l) (Sgu.flat_col A.gain g l).symm

theorem offset_piece (acc : Vec Ideal S1x2048 .f32) (g : Fin 8) (x : S1x256.Idx) :
    offset x0 x1 x4 g (View.ld acc (Rect.unit (s := S1x2048) ![0, 256 * g.val] ![1, 256] (inb_r g))) x
      = leavesRow A.offset acc ((Rect.unit (s := S1x2048) ![0, 256 * g.val] ![1, 256] (inb_r g)).emb x) := by
  obtain ⟨r, l, rfl⟩ : ∃ (r : Fin 1) (l : Fin 256), x = ix2 r l := ⟨x 0, x 1, (ix2_eta x).symm⟩
  obtain rfl : r = 0 := Subsingleton.elim _ _
  refine (offset_eq H g l _).trans ?_
  unfold leavesRow
  rw [emb_r]
  exact congrArg₂ (fun (x : EReal) (y : ℝ) => x + (y : EReal)) (vec_apply acc g l) (Sgu.flat_col A.offset g l).symm

theorem weight_piece (acc : Vec Ideal S8x128x128 .f32) (g : Fin 8) (x : S1x128x128.Idx) :
    weight x0 x1 x2 x3 g (View.ld acc (Rect.unit (s := S8x128x128) ![g.val, 0, 0] ![1, 128, 128] (inb_w g))) x
      = leavesW A acc ((Rect.unit (s := S8x128x128) ![g.val, 0, 0] ![1, 128, 128] (inb_w g)).emb x) := by
  obtain ⟨q, r, s, rfl⟩ : ∃ (q : Fin 1) (r s : Fin 128), x = ix3 q r s := ⟨x 0, x 1, x 2, (ix3_eta x).symm⟩
  obtain rfl : q = 0 := Subsingleton.elim _ _
  refine (weight_eq H g r s _).trans ?_
  unfold leavesW
  rw [emb_w]
  exact congrArg (fun x : EReal => x + ((A.weight g r s : ℝ) : EReal)) (mat_apply acc g r s)

theorem lane_piece (acc : Vec Ideal S128x1024 .f32) (g : Fin 8) (x : S128x128.Idx) :
    lane x0 x1 g (View.ld acc (Rect.unit (s := S128x1024) ![0, 128 * g.val] ![128, 128] (inb_l g))) x
      = leavesL A acc ((Rect.unit (s := S128x1024) ![0, 128 * g.val] ![128, 128] (inb_l g)).emb x) := by
  obtain ⟨r, k, rfl⟩ : ∃ (r k : Fin 128), x = ix2 r k := ⟨x 0, x 1, (ix2_eta x).symm⟩
  refine (lane_eq H g r k _).trans ?_
  unfold leavesL
  rw [emb_l]
  refine congrArg₂ (fun (x : EReal) (y : ℝ) => x + (y : EReal)) ?_ (congrArg (fun g => A.lane g r) (Sgu.lanes_lane g k)).symm
  exact View.ld_unit_apply_of _ _ _ _ _ _ fun a => by match a with | ⟨0, _⟩ => exact (Nat.zero_add _).symm | ⟨1, _⟩ => rfl

end Piece

/-! ## A point -/

variable (m : (ℓ : Loc nD τ sig) → Buf (Elt Ideal) ℓ) (c : Dev nD) (t : Fin cfg0.N) {A : Chunk}
  (H : Holds A (iblk m c 0 t) (iblk m c 1 t) (iblk m c 2 t) (iblk m c 3 t) (iblk m c 4 t) (iblk m c 5 t))
include H

set_option maxHeartbeats 4000000 in
theorem leaves_first_z (h0 : t.val % 32 = 0) : (outsAt0 m c t.val t.isLt).1 = leavesZ A := by
  funext y
  rw [outsAt0_A m c t h0]
  frame_out
  simp (discharger := decide) only [↓View.readCov_skip, View.readCov_cons_toLoadRect, View.readCov_fill]
  refine View.canon_append_of_piecesOf (leavesZ A) [] [_, _, _, _, _, _, _, _, _, _, _, _, _, _, _, _] ?_ y (View.cover_of_tiled _ ![128, 256] (by rfl) y)
  exact ⟨dv_piece H 7, dv_piece H 6, dv_piece H 5, dv_piece H 4, dv_piece H 3, dv_piece H 2, dv_piece H 1, dv_piece H 0,
    du_piece H 7, du_piece H 6, du_piece H 5, du_piece H 4, du_piece H 3, du_piece H 2, du_piece H 1, du_piece H 0, trivial⟩

set_option maxHeartbeats 4000000 in
theorem leaves_next_z (h0 : ¬t.val % 32 = 0) : (outsAt0 m c t.val t.isLt).1 = leavesZ A := by
  funext y
  rw [outsAt0_B m c t h0]
  frame_out
  simp (discharger := decide) only [↓View.readCov_skip, View.readCov_cons_toLoadRect, View.readCov_fill]
  refine View.canon_append_of_piecesOf (leavesZ A) [] [_, _, _, _, _, _, _, _, _, _, _, _, _, _, _, _] ?_ y (View.cover_of_tiled _ ![128, 256] (by rfl) y)
  exact ⟨dv_piece H 7, dv_piece H 6, dv_piece H 5, dv_piece H 4, dv_piece H 3, dv_piece H 2, dv_piece H 1, dv_piece H 0,
    du_piece H 7, du_piece H 6, du_piece H 5, du_piece H 4, du_piece H 3, du_piece H 2, du_piece H 1, du_piece H 0, trivial⟩

theorem leaves_first_gain (h0 : t.val % 32 = 0) : (outsAt0 m c t.val t.isLt).2.1 = leavesRow A.gain (k0_pay1 (F := Ideal)) := by
  funext y
  rw [outsAt0_A m c t h0]
  frame_out
  simp (discharger := decide) only [↓View.readCov_skip, View.readCov_cons_toLoadRect, View.readCov_fill]
  refine View.canon_append_of_piecesOf (leavesRow A.gain (k0_pay1 (F := Ideal))) [_] [_, _, _, _, _, _, _, _] ?_ y (View.cover_of_tiled _ ![1, 256] (by rfl) y)
  exact ⟨gain_piece H _ 7, gain_piece H _ 6, gain_piece H _ 5, gain_piece H _ 4, gain_piece H _ 3, gain_piece H _ 2, gain_piece H _ 1, gain_piece H _ 0, trivial⟩

theorem leaves_next_gain (h0 : ¬t.val % 32 = 0) : (outsAt0 m c t.val t.isLt).2.1 = leavesRow A.gain ((outsAt0 m c (t.val - 1) (by omega)).2.1) := by
  funext y
  rw [outsAt0_B m c t h0]
  frame_out
  simp (discharger := decide) only [↓View.readCov_skip, View.readCov_cons_toLoadRect, View.readCov_fill]
  refine View.canon_append_of_piecesOf (leavesRow A.gain ((outsAt0 m c (t.val - 1) (by omega)).2.1)) [] [_, _, _, _, _, _, _, _] ?_ y (View.cover_of_tiled _ ![1, 256] (by rfl) y)
  exact ⟨gain_piece H _ 7, gain_piece H _ 6, gain_piece H _ 5, gain_piece H _ 4, gain_piece H _ 3, gain_piece H _ 2, gain_piece H _ 1, gain_piece H _ 0, trivial⟩

theorem leaves_first_offset (h0 : t.val % 32 = 0) : (outsAt0 m c t.val t.isLt).2.2.1 = leavesRow A.offset (k0_pay2 (F := Ideal)) := by
  funext y
  rw [outsAt0_A m c t h0]
  frame_out
  simp (discharger := decide) only [↓View.readCov_skip, View.readCov_cons_toLoadRect, View.readCov_fill]
  refine View.canon_append_of_piecesOf (leavesRow A.offset (k0_pay2 (F := Ideal))) [_] [_, _, _, _, _, _, _, _] ?_ y (View.cover_of_tiled _ ![1, 256] (by rfl) y)
  exact ⟨offset_piece H _ 7, offset_piece H _ 6, offset_piece H _ 5, offset_piece H _ 4, offset_piece H _ 3, offset_piece H _ 2, offset_piece H _ 1, offset_piece H _ 0, trivial⟩

theorem leaves_next_offset (h0 : ¬t.val % 32 = 0) : (outsAt0 m c t.val t.isLt).2.2.1 = leavesRow A.offset ((outsAt0 m c (t.val - 1) (by omega)).2.2.1) := by
  funext y
  rw [outsAt0_B m c t h0]
  frame_out
  refine View.canon_append_of_piecesOf (leavesRow A.offset ((outsAt0 m c (t.val - 1) (by omega)).2.2.1)) [] [_, _, _, _, _, _, _, _] ?_ y (View.cover_of_tiled _ ![1, 256] (by rfl) y)
  exact ⟨offset_piece H _ 7, offset_piece H _ 6, offset_piece H _ 5, offset_piece H _ 4, offset_piece H _ 3, offset_piece H _ 2, offset_piece H _ 1, offset_piece H _ 0, trivial⟩

theorem leaves_first_weight (h0 : t.val % 32 = 0) : (outsAt0 m c t.val t.isLt).2.2.2.1 = leavesW A (k0_pay3 (F := Ideal)) := by
  funext y
  rw [outsAt0_A m c t h0]
  frame_out
  simp (discharger := decide) only [↓View.readCov_skip, View.readCov_cons_toLoadRect, View.readCov_fill]
  refine View.canon_append_of_piecesOf (leavesW A (k0_pay3 (F := Ideal))) [_] [_, _, _, _, _, _, _, _] ?_ y (View.cover_of_tiled _ ![1, 128, 128] (by rfl) y)
  exact ⟨weight_piece H _ 7, weight_piece H _ 6, weight_piece H _ 5, weight_piece H _ 4, weight_piece H _ 3, weight_piece H _ 2, weight_piece H _ 1, weight_piece H _ 0, trivial⟩

theorem leaves_next_weight (h0 : ¬t.val % 32 = 0) : (outsAt0 m c t.val t.isLt).2.2.2.1 = leavesW A ((outsAt0 m c (t.val - 1) (by omega)).2.2.2.1) := by
  funext y
  rw [outsAt0_B m c t h0]
  frame_out
  simp (discharger := decide) only [↓View.readCov_skip, View.readCov_cons_toLoadRect, View.readCov_fill]
  refine View.canon_append_of_piecesOf (leavesW A ((outsAt0 m c (t.val - 1) (by omega)).2.2.2.1)) [] [_, _, _, _, _, _, _, _] ?_ y (View.cover_of_tiled _ ![1, 128, 128] (by rfl) y)
  exact ⟨weight_piece H _ 7, weight_piece H _ 6, weight_piece H _ 5, weight_piece H _ 4, weight_piece H _ 3, weight_piece H _ 2, weight_piece H _ 1, weight_piece H _ 0, trivial⟩

theorem leaves_first_lane (h0 : t.val % 32 = 0) : (outsAt0 m c t.val t.isLt).2.2.2.2 = leavesL A (k0_pay4 (F := Ideal)) := by
  funext y
  rw [outsAt0_A m c t h0]
  frame_out
  simp (discharger := decide) only [↓View.readCov_skip, View.readCov_cons_toLoadRect, View.readCov_fill]
  refine View.canon_append_of_piecesOf (leavesL A (k0_pay4 (F := Ideal))) [_] [_, _, _, _, _, _, _, _] ?_ y (View.cover_of_tiled _ ![128, 128] (by rfl) y)
  exact ⟨lane_piece H _ 7, lane_piece H _ 6, lane_piece H _ 5, lane_piece H _ 4, lane_piece H _ 3, lane_piece H _ 2, lane_piece H _ 1, lane_piece H _ 0, trivial⟩

theorem leaves_next_lane (h0 : ¬t.val % 32 = 0) : (outsAt0 m c t.val t.isLt).2.2.2.2 = leavesL A ((outsAt0 m c (t.val - 1) (by omega)).2.2.2.2) := by
  funext y
  rw [outsAt0_B m c t h0]
  frame_out
  refine View.canon_append_of_piecesOf (leavesL A ((outsAt0 m c (t.val - 1) (by omega)).2.2.2.2)) [] [_, _, _, _, _, _, _, _] ?_ y (View.cover_of_tiled _ ![128, 128] (by rfl) y)
  exact ⟨lane_piece H _ 7, lane_piece H _ 6, lane_piece H _ 5, lane_piece H _ 4, lane_piece H _ 3, lane_piece H _ 2, lane_piece H _ 1, lane_piece H _ 0, trivial⟩

end Cert.SguKernelIdeal.Hand
-- ==== Proof.SguKernelValue.lean ====
module

public import proofs.«01_k».proof.Proof.SguKernelPieces
public import Idealize.ShloMosaic.Lib.Pipeline.ValueKit.Acc

/-!
# The spatial gate's backward: the five arrays

Point `t` reads chunk `t`. The gradient of the gelu's argument is tiled over the points; the other four gather over them.
-/

@[expose] public section

set_option maxRecDepth 16384

noncomputable section

namespace Cert.SguKernelIdeal.Hand

open Cert.SguKernelIdeal Cert.SguKernelIdeal.Gen Cert.Reals
open Idealize.ShloMosaic Idealize.ShloMosaic.TcCoe Idealize.ShloMosaic.Pointwise
open Idealize.ShloMosaic.Pipeline (Dat)
open Sgu (Chunk row col left right pointOf rowOf pointOf_row rowOf_row)

variable (m : (ℓ : Loc nD τ sig) → Buf (Elt Ideal) ℓ) (c : Dev nD)

theorem lt32 (t : Fin cfg0.N) : t.val < 32 := lt_of_lt_of_eq t.isLt N_0
abbrev pt (t : Fin cfg0.N) : Fin 32 := ⟨t.val, lt32 t⟩

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![0, 0, 0] := by decide +kernel
theorem index5 : ∀ t : Fin grid0.N, win0_5.index t = ![0, 0] := by decide +kernel
theorem index6 : ∀ t : Fin grid0.N, win0_6.index t = ![t.val, 0] := by decide +kernel
theorem index7 : ∀ t : Fin grid0.N, win0_7.index t = ![0, 0] := by decide +kernel
theorem index8 : ∀ t : Fin grid0.N, win0_8.index t = ![0, 0] := by decide +kernel
theorem index9 : ∀ t : Fin grid0.N, win0_9.index t = ![0, 0, 0] := by decide +kernel
theorem index10 : ∀ t : Fin grid0.N, win0_10.index t = ![0, 0] := by decide +kernel

theorem V_g (l : Fin 2048) : V m c main_v3 (ix2 0 l) = m ((c : Thread nD τ).loc main_arg1) (ix1 l) := by
  unfold V
  after_results
  pointwise

theorem V_b (l : Fin 2048) : V m c main_v4 (ix2 0 l) = m ((c : Thread nD τ).loc main_arg2) (ix1 l) := by
  unfold V
  after_results
  pointwise

theorem V_o (r : Fin 128) (g : Fin 8) (l : Fin 256) : V m c main_v2 (ix2 r (col g l)) = m ((c : Thread nD τ).loc main_arg4) (ix2 g r) := by
  unfold V
  after_results
  pointwise
  refine congrArg (fun q : Fin 8 => m ((c : Thread nD τ).loc main_arg4) (ix2 q r)) (Fin.ext ?_)
  show (256 * g.val + l.val) / 256 = g.val
  omega

/-- The last point. -/
def t0_31 : Fin grid0.N := ⟨31, by rw [N_0]; decide⟩

variable (A : Sgu.Args)

structure Inputs : Prop where
  z : ∀ r k, m ((c : Thread nD τ).loc main_arg0) (ix2 r k) = (A.z r k : EReal)
  g : ∀ k, m ((c : Thread nD τ).loc main_arg1) (ix1 k) = (A.g k : EReal)
  b : ∀ k, m ((c : Thread nD τ).loc main_arg2) (ix1 k) = (A.b k : EReal)
  w : ∀ g r s, m ((c : Thread nD τ).loc main_arg3) (ix3 g r s) = (A.w g r s : EReal)
  o : ∀ g r, m ((c : Thread nD τ).loc main_arg4) (ix2 g r) = (A.o g r : EReal)
  d : ∀ r k, m ((c : Thread nD τ).loc main_arg5) (ix2 r k) = (A.d r k : EReal)

variable {A} (H : Inputs m c A)
include H

theorem z_eq (t : Fin cfg0.N) (r : Fin 128) (k : Fin 4096) : (iblk m c 0 t : Vec Ideal S128x4096 .f32) (ix2 r k) = (A.z (row (pt t) r) k : EReal) := by
  refine Eq.trans ?_ (H.z (row (pt t) r) k)
  blk_ext [iblk, V, index0, row]

theorem d_at (t : Fin cfg0.N) (r : Fin 128) (k : Fin 2048) : (iblk m c 1 t : Vec Ideal S128x2048 .f32) (ix2 r k) = (A.d (row (pt t) r) k : EReal) := by
  refine Eq.trans ?_ (H.d (row (pt t) r) k)
  blk_ext [iblk, V, index1, row]

theorem holds (t : Fin cfg0.N) :
    Holds (A.chunk (pt t)) (iblk m c 0 t) (iblk m c 1 t) (iblk m c 2 t) (iblk m c 3 t) (iblk m c 4 t) (iblk m c 5 t) where
  u r g l := z_eq m c H t r (left (col g l))
  v r g l := z_eq m c H t r (right (col g l))
  d r g l := d_at m c H t r (col g l)
  g g l := by
    refine Eq.trans ?_ ((V_g m c (col g l)).trans (H.g (col g l)))
    blk_ext [iblk, index2]
  b g l := by
    refine Eq.trans ?_ ((V_b m c (col g l)).trans (H.b (col g l)))
    blk_ext [iblk, index3]
  w g r s := by
    refine Eq.trans ?_ (H.w g r s)
    blk_ext [iblk, V, index4]
  o r g l := by
    refine Eq.trans ?_ ((V_o m c r g l).trans (H.o g r))
    blk_ext [iblk, index5]

/-! ## The arrays -/

theorem final6 : (dats m 0 c).arrAt 6 cfg0.N
    = fun i : S4096x4096.Idx => (((A.chunk (pointOf (i 0))).dz (rowOf (i 0)) (i 1) : ℝ) : EReal) := by
  refine (dats m 0 c).arrAt_eq_of_covers 6 _ (by decide +kernel) fun t hf y => ?_
  obtain ⟨r, l, rfl⟩ : ∃ (r : Fin 128) (l : Fin 4096), y = ix2 r l := ⟨y 0, y 1, (ix2_eta y).symm⟩
  have e : ((cfg0.win 6).blk t).view.emb (ix2 r l) = ix2 (row (pt t) r) l := by blk_ext [index6, row]
  refine Eq.trans ?_ (congrArg (fun i : S4096x4096.Idx => (((A.chunk (pointOf (i 0))).dz (rowOf (i 0)) (i 1) : ℝ) : EReal)) e).symm
  refine Eq.trans ?_ (congrArg₂ (fun (p : Fin 32) (q : Fin 128) => (((A.chunk p).dz q l : ℝ) : EReal)) (pointOf_row (pt t) r) (rowOf_row (pt t) r)).symm
  blk_simp
  rw [after0_6]
  by_cases h : t.val % 32 = 0
  · rw [leaves_first_z m c t (holds m c H t) h]
    rfl
  · rw [leaves_next_z m c t (holds m c H t) h]
    rfl

theorem left_gain (t : Fin cfg0.N) (ht : t.val + 1 = cfg0.N) (k : Fin 2048) : (outsAt0 m c t.val t.isLt).2.1 (ix2 0 k)
    = (∑ p : Fin cfg0.N, ((Sgu.flat (A.chunk (pt p)).gain k : ℝ) : EReal)) := by
  refine (Pipeline.eq_sum_fin_of_reset_step_apply_last (M := EReal) (fun n h (k : Fin 2048) => (outsAt0 m c n h).2.1 (ix2 0 k)) 32 (fun _ => 0)
    (fun p k => ((Sgu.flat (A.chunk (pt p)).gain k : ℝ) : EReal)) (fun t h k => ?_) (fun t h k => ?_) (le_of_eq N_0) t ht k).trans (zero_add _)
  · rw [leaves_first_gain m c t (holds m c H t) h]
    unfold leavesRow
    refine congrArg (fun x : EReal => x + ((Sgu.flat (A.chunk (pt t)).gain k : ℝ) : EReal)) ?_
    pointwise [k0_pay1]
  · exact (congrFun (leaves_next_gain m c t (holds m c H t) h) (ix2 0 k))

theorem left_offset (t : Fin cfg0.N) (ht : t.val + 1 = cfg0.N) (k : Fin 2048) : (outsAt0 m c t.val t.isLt).2.2.1 (ix2 0 k)
    = (∑ p : Fin cfg0.N, ((Sgu.flat (A.chunk (pt p)).offset k : ℝ) : EReal)) := by
  refine (Pipeline.eq_sum_fin_of_reset_step_apply_last (M := EReal) (fun n h (k : Fin 2048) => (outsAt0 m c n h).2.2.1 (ix2 0 k)) 32 (fun _ => 0)
    (fun p k => ((Sgu.flat (A.chunk (pt p)).offset k : ℝ) : EReal)) (fun t h k => ?_) (fun t h k => ?_) (le_of_eq N_0) t ht k).trans (zero_add _)
  · rw [leaves_first_offset m c t (holds m c H t) h]
    unfold leavesRow
    refine congrArg (fun x : EReal => x + ((Sgu.flat (A.chunk (pt t)).offset k : ℝ) : EReal)) ?_
    pointwise [k0_pay2]
  · exact (congrFun (leaves_next_offset m c t (holds m c H t) h) (ix2 0 k))

theorem left_weight (t : Fin cfg0.N) (ht : t.val + 1 = cfg0.N) (i : Fin 8 × Fin 128 × Fin 128) :
    (outsAt0 m c t.val t.isLt).2.2.2.1 (ix3 i.1 i.2.1 i.2.2)
      = (∑ p : Fin cfg0.N, (((A.chunk (pt p)).weight i.1 i.2.1 i.2.2 : ℝ) : EReal)) := by
  refine (Pipeline.eq_sum_fin_of_reset_step_apply_last (M := EReal) (fun n h (i : Fin 8 × Fin 128 × Fin 128) => (outsAt0 m c n h).2.2.2.1 (ix3 i.1 i.2.1 i.2.2))
    32 (fun _ => 0) (fun p i => (((A.chunk (pt p)).weight i.1 i.2.1 i.2.2 : ℝ) : EReal)) (fun t h i => ?_) (fun t h i => ?_) (le_of_eq N_0) t ht i).trans (zero_add _)
  · rw [leaves_first_weight m c t (holds m c H t) h]
    unfold leavesW
    refine congrArg (fun x : EReal => x + (((A.chunk (pt t)).weight i.1 i.2.1 i.2.2 : ℝ) : EReal)) ?_
    pointwise [k0_pay3]
  · exact (congrFun (leaves_next_weight m c t (holds m c H t) h) (ix3 i.1 i.2.1 i.2.2))

theorem left_lane (t : Fin cfg0.N) (ht : t.val + 1 = cfg0.N) (i : Fin 128 × Fin 1024) :
    (outsAt0 m c t.val t.isLt).2.2.2.2 (ix2 i.1 i.2) = (∑ p : Fin cfg0.N, (((A.chunk (pt p)).lane (Sgu.lanes i.2) i.1 : ℝ) : EReal)) := by
  refine (Pipeline.eq_sum_fin_of_reset_step_apply_last (M := EReal) (fun n h (i : Fin 128 × Fin 1024) => (outsAt0 m c n h).2.2.2.2 (ix2 i.1 i.2))
    32 (fun _ => 0) (fun p i => (((A.chunk (pt p)).lane (Sgu.lanes i.2) i.1 : ℝ) : EReal)) (fun t h i => ?_) (fun t h i => ?_) (le_of_eq N_0) t ht i).trans (zero_add _)
  · rw [leaves_first_lane m c t (holds m c H t) h]
    unfold leavesL
    refine congrArg (fun x : EReal => x + (((A.chunk (pt t)).lane (Sgu.lanes i.2) i.1 : ℝ) : EReal)) ?_
    pointwise [k0_pay4]
  · exact (congrFun (leaves_next_lane m c t (holds m c H t) h) (ix2 i.1 i.2))

theorem final7 : (dats m 0 c).arrAt 7 cfg0.N = fun i : S1x2048.Idx => ((∑ t, Sgu.flat (A.chunk t).gain (i 1) : ℝ) : EReal) := by
  refine (dats m 0 c).arrAt_eq_of_after_last 7 t0_31 (by decide +kernel) _ fun y => ?_
  obtain ⟨r, k, rfl⟩ : ∃ (r : Fin 1) (k : Fin 2048), y = ix2 r k := ⟨y 0, y 1, (ix2_eta y).symm⟩
  obtain rfl : r = 0 := Subsingleton.elim _ _
  blk_simp
  rw [after0_7]
  refine (left_gain m c H t0_31 (by decide) k).trans ?_
  rw [coe_sum]
  rfl

theorem final8 : (dats m 0 c).arrAt 8 cfg0.N = fun i : S1x2048.Idx => ((∑ t, Sgu.flat (A.chunk t).offset (i 1) : ℝ) : EReal) := by
  refine (dats m 0 c).arrAt_eq_of_after_last 8 t0_31 (by decide +kernel) _ fun y => ?_
  obtain ⟨r, k, rfl⟩ : ∃ (r : Fin 1) (k : Fin 2048), y = ix2 r k := ⟨y 0, y 1, (ix2_eta y).symm⟩
  obtain rfl : r = 0 := Subsingleton.elim _ _
  blk_simp
  rw [after0_8]
  refine (left_offset m c H t0_31 (by decide) k).trans ?_
  rw [coe_sum]
  rfl

theorem final9 : (dats m 0 c).arrAt 9 cfg0.N = fun i : S8x128x128.Idx => ((∑ t, (A.chunk t).weight (i 0) (i 1) (i 2) : ℝ) : EReal) := by
  refine (dats m 0 c).arrAt_eq_of_after_last 9 t0_31 (by decide +kernel) _ fun y => ?_
  obtain ⟨g, r, s, rfl⟩ : ∃ (g : Fin 8) (r s : Fin 128), y = ix3 g r s := ⟨y 0, y 1, y 2, (ix3_eta y).symm⟩
  blk_simp
  rw [after0_9]
  refine (left_weight m c H t0_31 (by decide) (g, r, s)).trans ?_
  rw [coe_sum]
  rfl

theorem final10 : (dats m 0 c).arrAt 10 cfg0.N = fun i : S128x1024.Idx => ((∑ t, (A.chunk t).lane (Sgu.lanes (i 1)) (i 0) : ℝ) : EReal) := by
  refine (dats m 0 c).arrAt_eq_of_after_last 10 t0_31 (by decide +kernel) _ fun y => ?_
  obtain ⟨r, k, rfl⟩ : ∃ (r : Fin 128) (k : Fin 1024), y = ix2 r k := ⟨y 0, y 1, (ix2_eta y).symm⟩
  blk_simp
  rw [after0_10]
  refine (left_lane m c H t0_31 (by decide) (r, k)).trans ?_
  rw [coe_sum]
  rfl

end Cert.SguKernelIdeal.Hand
-- ==== Proof.SguRef.lean ====
module

public import proofs.«01_k».proof.Proof.SguReal
public import proofs.«01_k».proof.Proof.Gen.SguReferenceIdeal.Read
public import Idealize.ShloMosaic.Lib.Pointwise

/-!
# The spatial gate's derivative: each array from the ones before it

The reference's arrays at an index; rows are read by chunk and row, columns by group and column.
-/

@[expose] public section

set_option maxRecDepth 16384

noncomputable section

open Idealize.ShloMosaic Idealize.ShloMosaic.TcCoe Idealize.ShloMosaic.Pointwise

namespace Cert.SguReferenceIdeal.Hand

open Cert.SguReferenceIdeal Cert.SguReferenceIdeal.Gen Cert.SguReferenceIdeal.Read Cert.Reals
open Sgu (row col left right pointOf rowOf groupOf colOf)

/-- The causal comparison, as the reference writes it. -/
theorem pick (r s : Fin 128) (x : EReal) :
    Scalar.select (IntOp.cmpi CmpIPredicate.sge (IntOp.addi (BitVec.ofNat 32 r.val) 0#32) (BitVec.ofNat 32 s.val)) x 0
      = if s.val ≤ r.val then x else 0 := by
  have h : ∀ r : Fin 128, (BitVec.ofNat 32 r.val).toInt = r.val := by decide
  have hr := h r
  have hs := h s
  by_cases h : s.val ≤ r.val <;> simp [IntOp.cmpi, IntOp.addi, BitVec.sle, Scalar.select, hr, hs, h]

/-- A host sum over the outer and the inner one of four axes. -/
theorem sum_outer {n0 n1 n2 n3 : Nat} (h : (⟨4, ![n0, n1, n2, n3]⟩ : Shape).ReducesTo [0, 3] ⟨2, ![n1, n2]⟩)
    (v : (⟨4, ![n0, n1, n2, n3]⟩ : Shape).Idx → EReal) (init : EReal) (r : Fin n1) (g : Fin n2) :
    Ideal.hostReduceAdd h v init (ix2 r g) = init + ∑ t : Fin n0, ∑ l : Fin n3, v (ix4 t r g l) := by
  refine congrArg (init + ·) ?_
  refine (Finset.sum_filter_eq_sum_of_fiber (fun i => h.drop i = ix2 r g) (fun p : Fin n0 × Fin n3 => ix4 p.1 r g p.2) ?_ ?_ v).trans
    (Fintype.sum_prod_type' fun t l => v (ix4 t r g l))
  · exact fun p q e => Prod.ext (congrFun e 0) (congrFun e 3)
  · refine fun i => ⟨fun e => ⟨(i 0, i 3), ?_⟩, ?_⟩
    · funext a
      apply Fin.ext
      match a with
      | ⟨0, _⟩ => rfl
      | ⟨1, _⟩ => exact (congrArg Fin.val (congrFun e 0)).symm
      | ⟨2, _⟩ => exact (congrArg Fin.val (congrFun e 1)).symm
      | ⟨3, _⟩ => rfl
    · rintro ⟨p, rfl⟩
      funext b
      apply Fin.ext
      match b with
      | ⟨0, _⟩ => rfl
      | ⟨1, _⟩ => rfl

variable (x0 : FVec Ideal S4096x4096 .f32) (x1 x2 : FVec Ideal S2048 .f32) (x3 : FVec Ideal S8x128x128 .f32) (x4 : FVec Ideal S8x128 .f32)
  (x5 : FVec Ideal S4096x2048 .f32)

theorem v1_at (r k : Fin 4096) : val_main_v1 (F := Ideal) x0 (ix2 r k)
    = (Ideal.ofBits .f32 0x3F000000#32 * x0 (ix2 r k) : EReal) := by
  unfold val_main_v1 val_main_v0 val_main_cst
  pointwise

theorem v5_at (r k : Fin 4096) : val_main_v5 (F := Ideal) x0 (ix2 r k)
    = (Ideal.div (x0 (ix2 r k)) (Ideal.sqrt (Ideal.ofBits .f32 0x40000000#32)) : EReal) := by
  unfold val_main_v5 val_main_v4 val_main_v3 val_main_v2 val_main_cst_0
  pointwise
  rfl

theorem v9_at (r k : Fin 4096) : val_main_v9 (F := Ideal) x0 (ix2 r k)
    = (Ideal.exp (-(val_main_v5 (F := Ideal) x0 (ix2 r k) * val_main_v5 (F := Ideal) x0 (ix2 r k))) : EReal) := by
  unfold val_main_v9 val_main_v8 val_main_v7
  pointwise

theorem v11_at (r k : Fin 4096) : val_main_v11 (F := Ideal) x0 (ix2 r k)
    = (1 + Ideal.erf (val_main_v5 (F := Ideal) x0 (ix2 r k)) : EReal) := by
  unfold val_main_v11 val_main_v10 val_main_cst_1 val_main_v6
  pointwise

theorem v12_at (r k : Fin 4096) : val_main_v12 (F := Ideal) x0 (ix2 r k)
    = (val_main_v1 (F := Ideal) x0 (ix2 r k) * val_main_v11 (F := Ideal) x0 (ix2 r k) : EReal) := by
  unfold val_main_v12
  pointwise

theorem v13_at (r : Fin 4096) (k : Fin 2048) : val_main_v13 (F := Ideal) x0 (ix2 r k)
    = (val_main_v12 (F := Ideal) x0 (ix2 r (left k)) : EReal) := by
  unfold val_main_v13
  pointwise
  rfl

theorem v14_at (r : Fin 4096) (k : Fin 2048) : val_main_v14 (F := Ideal) x0 (ix2 r k)
    = (val_main_v12 (F := Ideal) x0 (ix2 r (right k)) : EReal) := by
  unfold val_main_v14
  pointwise
  rfl

theorem v18_at (r : Fin 4096) : val_main_v18 (F := Ideal) x0 (ix2 r 0)
    = (Ideal.div (∑ k, val_main_v14 (F := Ideal) x0 (ix2 r k)) (Ideal.ofBits .f32 0x45000000#32) : EReal) := by
  unfold val_main_v18 val_main_v16 val_main_v15 val_main_cst_2 val_main_v17 val_main_cst_3
  pointwise

theorem v20_at (r : Fin 4096) (k : Fin 2048) : val_main_v20 (F := Ideal) x0 (ix2 r k)
    = (val_main_v14 (F := Ideal) x0 (ix2 r k) - val_main_v18 (F := Ideal) x0 (ix2 r 0) : EReal) := by
  unfold val_main_v20 val_main_v19
  pointwise

theorem v29_at (r : Fin 4096) (k : Fin 2048) : val_main_v29 (F := Ideal) x0 (ix2 r k)
    = (val_main_v14 (F := Ideal) x0 (ix2 r k) - val_main_v18 (F := Ideal) x0 (ix2 r 0) : EReal) := by
  unfold val_main_v29 val_main_v28
  pointwise

theorem v23_at (r : Fin 4096) (k : Fin 2048) : val_main_v23 (F := Ideal) x0 (ix2 r k)
    = (Ideal.ofBits .f32 0x40000000#32 * val_main_v20 (F := Ideal) x0 (ix2 r k) : EReal) := by
  unfold val_main_v23 val_main_v22 val_main_cst_4
  pointwise

theorem v31_at (r : Fin 4096) : val_main_v31 (F := Ideal) x0 (ix2 r 0)
    = (Ideal.div (∑ k, val_main_v20 (F := Ideal) x0 (ix2 r k) * val_main_v20 (F := Ideal) x0 (ix2 r k)) (Ideal.ofBits .f32 0x45000000#32) + Ideal.ofBits .f32 0x3727C5AC#32 : EReal) := by
  unfold val_main_v31 val_main_v27 val_main_v25 val_main_v24 val_main_cst_5 val_main_v21 val_main_v26 val_main_cst_6 val_main_v30 val_main_cst_7
  pointwise

theorem v32_at (r : Fin 4096) : val_main_v32 (F := Ideal) x0 (ix2 r 0)
    = (Ideal.rsqrt (val_main_v31 (F := Ideal) x0 (ix2 r 0)) : EReal) := by
  unfold val_main_v32
  pointwise

theorem v35_at (r : Fin 4096) : val_main_v35 (F := Ideal) x0 (ix2 r 0)
    = (Ideal.ofBits .f32 0xBF000000#32 * Ideal.div (val_main_v32 (F := Ideal) x0 (ix2 r 0)) (val_main_v31 (F := Ideal) x0 (ix2 r 0)) : EReal) := by
  unfold val_main_v35 val_main_v33 val_main_v34 val_main_cst_8
  pointwise

theorem v37_at (r : Fin 4096) (k : Fin 2048) : val_main_v37 (F := Ideal) x0 (ix2 r k)
    = (val_main_v29 (F := Ideal) x0 (ix2 r k) * val_main_v32 (F := Ideal) x0 (ix2 r 0) : EReal) := by
  unfold val_main_v37 val_main_v36
  pointwise

theorem v43_at (r : Fin 4096) (k : Fin 2048) : val_main_v43 (F := Ideal) x0 x1 x2 (ix2 r k)
    = (val_main_v37 (F := Ideal) x0 (ix2 r k) * x1 (ix1 k) + x2 (ix1 k) : EReal) := by
  unfold val_main_v43 val_main_v40 val_main_v39 val_main_v38 val_main_v42 val_main_v41
  pointwise

theorem v44_at (t : Fin 32) (r : Fin 128) (g : Fin 8) (l : Fin 256) : val_main_v44 (F := Ideal) x0 x1 x2 (ix4 t r g l)
    = (val_main_v43 (F := Ideal) x0 x1 x2 (ix2 (row t r) (col g l)) : EReal) := by
  unfold val_main_v44
  pointwise
  exact congrArg₂ (fun a b => val_main_v43 (F := Ideal) x0 x1 x2 (ix2 a b)) (Fin.ext (by rfl)) (Fin.ext (Nat.add_right_cancel_iff.mpr (Nat.mul_comm _ _)))

theorem v45_0_at (g : Fin 8) (r s : Fin 128) : val_main_v45_0 (F := Ideal) x3 (ix3 g r s)
    = (if s.val ≤ r.val then x3 (ix3 g r s) else 0 : EReal) := by
  unfold val_main_v45_0 val_main_call0_v6 val_main_call0_cst val_main_v45_1 val_main_call0_v4 val_main_call0_v2 val_main_call0_v0 val_main_call0_v1 val_main_call0_c val_main_call0_v3
  pointwise
  exact pick r s _

theorem v52_at (r : Fin 4096) (k : Fin 2048) : val_main_v52 (F := Ideal) x0 x1 x2 x3 x4 (ix2 r k)
    = ((∑ s, val_main_v44 (F := Ideal) x0 x1 x2 (ix4 (pointOf r) s (groupOf k) (colOf k)) * val_main_v45_0 (F := Ideal) x3 (ix3 (groupOf k) (rowOf r) s)) + x4 (ix2 (groupOf k) (rowOf r)) : EReal) := by
  unfold val_main_v52 val_main_v51 val_main_v47 val_main_v46 val_main_v50 val_main_v49 val_main_v48
  pointwise
  rfl

theorem v54_at (r : Fin 4096) (k : Fin 2048) : val_main_v54 (F := Ideal) x0 x5 (ix2 r k)
    = (val_main_v13 (F := Ideal) x0 (ix2 r k) * x5 (ix2 r k) : EReal) := by
  unfold val_main_v54
  pointwise

theorem v55_at (r : Fin 4096) (k : Fin 2048) : val_main_v55 (F := Ideal) x0 x1 x2 x3 x4 x5 (ix2 r k)
    = (x5 (ix2 r k) * val_main_v52 (F := Ideal) x0 x1 x2 x3 x4 (ix2 r k) : EReal) := by
  unfold val_main_v55
  pointwise

theorem v56_at (t : Fin 32) (r : Fin 128) (g : Fin 8) (l : Fin 256) : val_main_v56 (F := Ideal) x0 x5 (ix4 t r g l)
    = (val_main_v54 (F := Ideal) x0 x5 (ix2 (row t r) (col g l)) : EReal) := by
  unfold val_main_v56
  pointwise
  exact congrArg₂ (fun a b => val_main_v54 (F := Ideal) x0 x5 (ix2 a b)) (Fin.ext (by rfl)) (Fin.ext (Nat.add_right_cancel_iff.mpr (Nat.mul_comm _ _)))

theorem v57_at (r : Fin 128) (g : Fin 8) : val_main_v57 (F := Ideal) x0 x5 (ix2 r g)
    = (∑ t, ∑ l, val_main_v56 (F := Ideal) x0 x5 (ix4 t r g l) : EReal) := by
  unfold val_main_v57 val_main_cst_9
  exact (sum_outer reducesTo_S32x128x8x256_S128x8_d0_3 _ _ r g).trans (by rw [show (constant (F := Ideal) S_ .f32 0x00000000#32) (Shape.Idx.first h_S_) = 0 from by pointwise]; exact zero_add _)

theorem v59_at (r : Fin 128) (g : Fin 8) : val_main_v59 (F := Ideal) x0 x5 (ix2 r g)
    = (∑ t : Fin 1, ∑ l : Fin 1, val_main_v57 (F := Ideal) x0 x5 (ix2 r g) : EReal) := by
  unfold val_main_v59 val_main_cst_10 val_main_v58
  refine (sum_outer reducesTo_S1x128x8x1_S128x8_d0_3 _ _ r g).trans ?_
  rw [show (constant (F := Ideal) S_ .f32 0x00000000#32) (Shape.Idx.first h_S_) = 0 from by pointwise, zero_add]
  refine Finset.sum_congr rfl fun t _ => Finset.sum_congr rfl fun l _ => ?_
  pointwise

theorem v116_at (r : Fin 128) (k : Fin 1024) : val_main_v116 (F := Ideal) x0 x5 (ix2 r k)
    = (val_main_v59 (F := Ideal) x0 x5 (ix2 r (Sgu.lanes k)) : EReal) := by
  unfold val_main_v116 val_main_v115 val_main_v114 val_main_v60
  pointwise
  rfl

theorem v65_at (g : Fin 8) (r s : Fin 128) : val_main_v65 (F := Ideal) x0 x1 x2 x5 (ix3 g r s)
    = (if s.val ≤ r.val then ∑ t, ∑ l, val_main_v56 (F := Ideal) x0 x5 (ix4 t r g l) * val_main_v44 (F := Ideal) x0 x1 x2 (ix4 t s g l) else 0 : EReal) := by
  unfold val_main_v65 val_main_call1_v0 val_main_call1_cst val_main_v45_1 val_main_call0_v4 val_main_call0_v2 val_main_call0_v0 val_main_call0_v1 val_main_call0_c val_main_call0_v3 val_main_v62 val_main_v61
  pointwise
  exact pick r s _

theorem v66_at (r : Fin 4096) (k : Fin 2048) : val_main_v66 (F := Ideal) x0 x3 x5 (ix2 r k)
    = (∑ s, val_main_v56 (F := Ideal) x0 x5 (ix4 (pointOf r) s (groupOf k) (colOf k)) * val_main_v45_0 (F := Ideal) x3 (ix3 (groupOf k) s (rowOf r)) : EReal) := by
  unfold val_main_v66 val_main_v64 val_main_v63 val_main_v61
  pointwise
  rfl

theorem v113_at (k : Fin 2048) : val_main_v113 (F := Ideal) x0 x3 x5 (ix2 0 k)
    = (∑ _ : Fin 1, ∑ r, val_main_v66 (F := Ideal) x0 x3 x5 (ix2 r k) : EReal) := by
  unfold val_main_v113 val_main_v69 val_main_cst_12 val_main_v68 val_main_v67 val_main_cst_11
  pointwise

theorem v112_at (k : Fin 2048) : val_main_v112 (F := Ideal) x0 x3 x5 (ix2 0 k)
    = (∑ _ : Fin 1, ∑ r, val_main_v37 (F := Ideal) x0 (ix2 r k) * val_main_v66 (F := Ideal) x0 x3 x5 (ix2 r k) : EReal) := by
  unfold val_main_v112 val_main_v75 val_main_cst_14 val_main_v72 val_main_v71 val_main_cst_13 val_main_v70
  pointwise

theorem v74_at (r : Fin 4096) (k : Fin 2048) : val_main_v74 (F := Ideal) x0 x1 x3 x5 (ix2 r k)
    = (val_main_v66 (F := Ideal) x0 x3 x5 (ix2 r k) * x1 (ix1 k) : EReal) := by
  unfold val_main_v74 val_main_v73 val_main_v38
  pointwise

theorem v80_at (r : Fin 4096) (k : Fin 2048) : val_main_v80 (F := Ideal) x0 x1 x3 x5 (ix2 r k)
    = (val_main_v74 (F := Ideal) x0 x1 x3 x5 (ix2 r k) * val_main_v32 (F := Ideal) x0 (ix2 r 0) : EReal) := by
  unfold val_main_v80 val_main_v79
  pointwise

theorem v86_at (r : Fin 4096) : val_main_v86 (F := Ideal) x0 x1 x3 x5 (ix2 r 0)
    = (Ideal.div ((∑ k, val_main_v29 (F := Ideal) x0 (ix2 r k) * val_main_v74 (F := Ideal) x0 x1 x3 x5 (ix2 r k)) * val_main_v35 (F := Ideal) x0 (ix2 r 0)) (Ideal.ofBits .f32 0x45000000#32) : EReal) := by
  unfold val_main_v86 val_main_v81 val_main_v78 val_main_v77 val_main_cst_15 val_main_v76 val_main_v85 val_main_cst_17
  pointwise

theorem v89_at (r : Fin 4096) (k : Fin 2048) : val_main_v89 (F := Ideal) x0 x1 x3 x5 (ix2 r k)
    = ((∑ x : Fin 1, val_main_v86 (F := Ideal) x0 x1 x3 x5 (ix2 r x)) * val_main_v23 (F := Ideal) x0 (ix2 r k) : EReal) := by
  unfold val_main_v89 val_main_v88 val_main_v87 val_main_cst_18
  pointwise

theorem v99_at (r : Fin 4096) (k : Fin 2048) : val_main_v99 (F := Ideal) x0 x1 x3 x5 (ix2 r k)
    = (val_main_v80 (F := Ideal) x0 x1 x3 x5 (ix2 r k) + val_main_v89 (F := Ideal) x0 x1 x3 x5 (ix2 r k) + ∑ _ : Fin 1, Ideal.div ((∑ k, -(val_main_v80 (F := Ideal) x0 x1 x3 x5 (ix2 r k))) + ∑ k, -(val_main_v89 (F := Ideal) x0 x1 x3 x5 (ix2 r k))) (Ideal.ofBits .f32 0x45000000#32) : EReal) := by
  unfold val_main_v99 val_main_v93 val_main_v98 val_main_v97 val_main_cst_21 val_main_v96 val_main_v94 val_main_v84 val_main_v83 val_main_cst_16 val_main_v82 val_main_v92 val_main_v91 val_main_cst_19 val_main_v90 val_main_v95 val_main_cst_20
  pointwise

theorem v100_left (r : Fin 4096) (k : Fin 2048) : val_main_v100 (F := Ideal) x0 x1 x2 x3 x4 x5 (ix2 r (left k))
    = (val_main_v55 (F := Ideal) x0 x1 x2 x3 x4 x5 (ix2 r k) : EReal) := by
  unfold val_main_v100
  pointwise
  exact dif_pos k.isLt

theorem v100_right (r : Fin 4096) (k : Fin 2048) : val_main_v100 (F := Ideal) x0 x1 x2 x3 x4 x5 (ix2 r (right k))
    = (val_main_v99 (F := Ideal) x0 x1 x3 x5 (ix2 r k) : EReal) := by
  unfold val_main_v100
  pointwise
  refine (dif_neg (by show ¬ 2048 + k.val < 2048; omega)).trans ?_
  exact congrArg (fun q => val_main_v99 (F := Ideal) x0 x1 x3 x5 (ix2 r q)) (Fin.ext (by show 2048 + k.val - 2048 = k.val; omega))

theorem v111_at (r k : Fin 4096) : val_main_v111 (F := Ideal) x0 x1 x2 x3 x4 x5 (ix2 r k)
    = (Ideal.div (Ideal.ofBits .f32 0x3F906EBB#32 * (val_main_v1 (F := Ideal) x0 (ix2 r k) * val_main_v100 (F := Ideal) x0 x1 x2 x3 x4 x5 (ix2 r k)) * val_main_v9 (F := Ideal) x0 (ix2 r k)) (Ideal.sqrt (Ideal.ofBits .f32 0x40000000#32)) + Ideal.ofBits .f32 0x3F000000#32 * (val_main_v100 (F := Ideal) x0 x1 x2 x3 x4 x5 (ix2 r k) * val_main_v11 (F := Ideal) x0 (ix2 r k)) : EReal) := by
  unfold val_main_v111 val_main_v110 val_main_v107 val_main_v105 val_main_v104 val_main_v101 val_main_v103 val_main_cst_22 val_main_v106 val_main_v3 val_main_v2 val_main_cst_0 val_main_v109 val_main_v102 val_main_v108 val_main_cst_23
  pointwise
  rfl

end Cert.SguReferenceIdeal.Hand
-- ==== Proof.SguRefEq.lean ====
module

public import proofs.«01_k».proof.Proof.SguRef

/-!
# The spatial gate's derivative, as real numbers

Where the arguments are real numbers `A`, the reference's arrays are the stages of `A`'s chunks.
-/

@[expose] public section

set_option maxRecDepth 16384

noncomputable section

open Idealize.ShloMosaic Idealize.ShloMosaic.TcCoe Idealize.ShloMosaic.Pointwise

namespace Cert.SguReferenceIdeal.Hand

open Cert.SguReferenceIdeal Cert.SguReferenceIdeal.Gen Cert.SguReferenceIdeal.Read Cert.Reals
open Sgu (row col left right pointOf rowOf groupOf colOf)

theorem sum_rows {M : Type} [AddCommMonoid M] (f : Fin 4096 → M) : ∑ k, f k = ∑ t, ∑ r, f (row t r) := by
  refine Eq.trans ?_ (Fintype.sum_prod_type' fun t r => f (row t r))
  exact Fintype.sum_equiv ⟨fun k => (pointOf k, rowOf k), fun p => row p.1 p.2, Sgu.row_eta, fun p => Prod.ext (Sgu.pointOf_row p.1 p.2) (Sgu.rowOf_row p.1 p.2)⟩
    _ _ fun k => (congrArg f (Sgu.row_eta k)).symm

theorem sum_cols {M : Type} [AddCommMonoid M] (f : Fin 2048 → M) : ∑ k, f k = ∑ g, ∑ l, f (col g l) := by
  refine Eq.trans ?_ (Fintype.sum_prod_type' fun g l => f (col g l))
  exact Fintype.sum_equiv ⟨fun k => (groupOf k, colOf k), fun p => col p.1 p.2, Sgu.col_eta, fun p => Prod.ext (Sgu.groupOf_col p.1 p.2) (Sgu.colOf_col p.1 p.2)⟩
    _ _ fun k => (congrArg f (Sgu.col_eta k)).symm

theorem coe_sum2 {a b : Nat} (f : Fin a → Fin b → ℝ) : (∑ g, ∑ l, (f g l : EReal)) = ((∑ g, ∑ l, f g l : ℝ) : EReal) := by
  simp only [coe_sum]

theorem sqrt_two : Ideal.sqrt (Ideal.ofBits .f32 0x40000000#32) = ((Real.sqrt 2 : ℝ) : EReal) := by
  rw [Sgu.two_word, Ideal.sqrt_coe, if_neg (by norm_num)]

theorem sqrt_two_ne : Real.sqrt 2 ≠ 0 := (Real.sqrt_pos.mpr (by norm_num)).ne'

variable (x0 : FVec Ideal S4096x4096 .f32) (x1 x2 : FVec Ideal S2048 .f32) (x3 : FVec Ideal S8x128x128 .f32) (x4 : FVec Ideal S8x128 .f32)
  (x5 : FVec Ideal S4096x2048 .f32) (A : Sgu.Args)

structure Inputs : Prop where
  z : ∀ r k, x0 (ix2 r k) = (A.z r k : EReal)
  g : ∀ k, x1 (ix1 k) = (A.g k : EReal)
  b : ∀ k, x2 (ix1 k) = (A.b k : EReal)
  w : ∀ g r s, x3 (ix3 g r s) = (A.w g r s : EReal)
  o : ∀ g r, x4 (ix2 g r) = (A.o g r : EReal)
  d : ∀ r k, x5 (ix2 r k) = (A.d r k : EReal)

variable {x0 x1 x2 x3 x4 x5 A} (H : Inputs x0 x1 x2 x3 x4 x5 A)
include H

/-! ## The gelu -/

theorem v1_eq (r k : Fin 4096) : val_main_v1 (F := Ideal) x0 (ix2 r k) = ((1 / 2 * A.z r k : ℝ) : EReal) := by
  rw [v1_at, Sgu.half_word, H.z, ← EReal.coe_mul]

theorem v5_eq (r k : Fin 4096) : val_main_v5 (F := Ideal) x0 (ix2 r k) = ((A.z r k * (Real.sqrt 2)⁻¹ : ℝ) : EReal) := by
  rw [v5_at, sqrt_two, H.z, coe_div _ sqrt_two_ne, div_eq_mul_inv]

theorem v9_eq (r k : Fin 4096) : val_main_v9 (F := Ideal) x0 (ix2 r k) = ((Real.exp (-(1 / 2) * A.z r k * A.z r k) : ℝ) : EReal) := by
  rw [v9_at, v5_eq H, ← EReal.coe_mul, ← EReal.coe_neg, Ideal.exp_coe]
  have h : (Real.sqrt 2)⁻¹ * (Real.sqrt 2)⁻¹ = 1 / 2 := by rw [← mul_inv, Real.mul_self_sqrt (by norm_num)]; norm_num
  refine congrArg (fun x : ℝ => ((Real.exp x : ℝ) : EReal)) ?_
  linear_combination (-(A.z r k * A.z r k)) * h

theorem v11_eq (r k : Fin 4096) : val_main_v11 (F := Ideal) x0 (ix2 r k) = ((2 * Sgu.cdf (A.z r k) : ℝ) : EReal) := by
  rw [v11_at, v5_eq H, Sgu.ideal_erf, ← EReal.coe_one, ← EReal.coe_add]
  refine congrArg _ ?_
  unfold Sgu.cdf
  ring

theorem v12_eq (r k : Fin 4096) : val_main_v12 (F := Ideal) x0 (ix2 r k) = (Sgu.gelu (A.z r k) : EReal) := by
  rw [v12_at, v1_eq H, v11_eq H, ← EReal.coe_mul]
  refine congrArg _ ?_
  unfold Sgu.gelu
  ring

theorem v13_eq (t : Fin 32) (r : Fin 128) (g : Fin 8) (l : Fin 256) :
    val_main_v13 (F := Ideal) x0 (ix2 (row t r) (col g l)) = (Sgu.gelu ((A.chunk t).u r g l) : EReal) := by
  rw [v13_at, v12_eq H]
  rfl

theorem v14_eq (t : Fin 32) (r : Fin 128) (g : Fin 8) (l : Fin 256) :
    val_main_v14 (F := Ideal) x0 (ix2 (row t r) (col g l)) = (Sgu.gelu ((A.chunk t).v r g l) : EReal) := by
  rw [v14_at, v12_eq H]
  rfl

/-! ## The layer norm -/

theorem v18_eq (t : Fin 32) (r : Fin 128) : val_main_v18 (F := Ideal) x0 (ix2 (row t r) 0) = ((A.chunk t).mean r : EReal) := by
  rw [v18_at, sum_cols]
  simp only [v14_eq H]
  rw [coe_sum2, Sgu.word_2048, coe_div _ (by norm_num)]
  refine congrArg _ ?_
  unfold Sgu.Chunk.mean
  ring

theorem v20_eq (t : Fin 32) (r : Fin 128) (g : Fin 8) (l : Fin 256) :
    val_main_v20 (F := Ideal) x0 (ix2 (row t r) (col g l)) = ((A.chunk t).cent r g l : EReal) := by
  rw [v20_at, v14_eq H, v18_eq H, ← EReal.coe_sub]
  rfl

theorem v29_eq (t : Fin 32) (r : Fin 128) (g : Fin 8) (l : Fin 256) :
    val_main_v29 (F := Ideal) x0 (ix2 (row t r) (col g l)) = ((A.chunk t).cent r g l : EReal) := by
  rw [v29_at, v14_eq H, v18_eq H, ← EReal.coe_sub]
  rfl

theorem v23_eq (t : Fin 32) (r : Fin 128) (g : Fin 8) (l : Fin 256) :
    val_main_v23 (F := Ideal) x0 (ix2 (row t r) (col g l)) = ((2 * (A.chunk t).cent r g l : ℝ) : EReal) := by
  rw [v23_at, v20_eq H, Sgu.two_word, ← EReal.coe_mul]

theorem v31_eq (t : Fin 32) (r : Fin 128) : val_main_v31 (F := Ideal) x0 (ix2 (row t r) 0) = ((A.chunk t).var r : EReal) := by
  rw [v31_at, sum_cols]
  simp only [v20_eq H, ← EReal.coe_mul]
  rw [coe_sum2, Sgu.word_2048, coe_div _ (by norm_num), Sgu.eps_word, ← EReal.coe_add]
  refine congrArg _ ?_
  unfold Sgu.Chunk.var
  ring

theorem v32_eq (t : Fin 32) (r : Fin 128) : val_main_v32 (F := Ideal) x0 (ix2 (row t r) 0) = ((A.chunk t).rstd r : EReal) := by
  rw [v32_at, v31_eq H, Sgu.Chunk.ideal_rstd]

theorem v35_eq (t : Fin 32) (r : Fin 128) :
    val_main_v35 (F := Ideal) x0 (ix2 (row t r) 0) = ((-(1 / 2) * ((A.chunk t).rstd r / (A.chunk t).var r) : ℝ) : EReal) := by
  rw [v35_at, v31_eq H, v32_eq H, coe_div _ ((A.chunk t).var_pos r).ne', Sgu.neg_half_word, ← EReal.coe_mul]

theorem v37_eq (t : Fin 32) (r : Fin 128) (g : Fin 8) (l : Fin 256) :
    val_main_v37 (F := Ideal) x0 (ix2 (row t r) (col g l)) = ((A.chunk t).hat r g l : EReal) := by
  rw [v37_at, v29_eq H, v32_eq H, ← EReal.coe_mul]
  rfl

theorem v44_eq (t : Fin 32) (r : Fin 128) (g : Fin 8) (l : Fin 256) :
    val_main_v44 (F := Ideal) x0 x1 x2 (ix4 t r g l) = ((A.chunk t).ln r g l : EReal) := by
  rw [v44_at, v43_at, v37_eq H, H.g, H.b, ← EReal.coe_mul, ← EReal.coe_add]
  rfl

/-! ## The mixing -/

theorem v45_eq (t : Fin 32) (g : Fin 8) (r s : Fin 128) : val_main_v45_0 (F := Ideal) x3 (ix3 g r s) = ((A.chunk t).low g r s : EReal) := by
  rw [v45_0_at, H.w]
  unfold Sgu.Chunk.low
  by_cases h : s.val ≤ r.val
  · rw [if_pos h, if_pos h]
    rfl
  · rw [if_neg h, if_neg h, EReal.coe_zero]

theorem v52_eq (t : Fin 32) (r : Fin 128) (g : Fin 8) (l : Fin 256) :
    val_main_v52 (F := Ideal) x0 x1 x2 x3 x4 (ix2 (row t r) (col g l)) = ((A.chunk t).mix r g l : EReal) := by
  rw [v52_at]
  simp only [Sgu.pointOf_row, Sgu.rowOf_row, Sgu.groupOf_col, Sgu.colOf_col]
  rw [H.o]
  simp only [v44_eq H, v45_eq H t, ← EReal.coe_mul]
  rw [coe_sum, ← EReal.coe_add]
  refine congrArg _ ?_
  unfold Sgu.Chunk.mix
  simp only [mul_comm]
  rfl

theorem v56_eq (t : Fin 32) (r : Fin 128) (g : Fin 8) (l : Fin 256) :
    val_main_v56 (F := Ideal) x0 x5 (ix4 t r g l) = ((A.chunk t).dmix r g l : EReal) := by
  rw [v56_at, v54_at, v13_eq H, H.d, ← EReal.coe_mul, mul_comm]
  rfl

theorem v55_eq (t : Fin 32) (r : Fin 128) (g : Fin 8) (l : Fin 256) :
    val_main_v55 (F := Ideal) x0 x1 x2 x3 x4 x5 (ix2 (row t r) (col g l)) = ((A.chunk t).du r g l : EReal) := by
  rw [v55_at, v52_eq H, H.d, ← EReal.coe_mul]
  rfl

theorem v66_eq (t : Fin 32) (r : Fin 128) (g : Fin 8) (l : Fin 256) :
    val_main_v66 (F := Ideal) x0 x3 x5 (ix2 (row t r) (col g l)) = ((A.chunk t).dln r g l : EReal) := by
  rw [v66_at]
  simp only [Sgu.pointOf_row, Sgu.rowOf_row, Sgu.groupOf_col, Sgu.colOf_col]
  simp only [v56_eq H, v45_eq H t, ← EReal.coe_mul]
  rw [coe_sum]
  refine congrArg _ ?_
  unfold Sgu.Chunk.dln
  simp only [mul_comm]

/-! ## The gradients that gather over the rows -/

theorem lane_eq (r : Fin 128) (k : Fin 1024) :
    val_main_v116 (F := Ideal) x0 x5 (ix2 r k) = ((∑ t, (A.chunk t).lane (Sgu.lanes k) r : ℝ) : EReal) := by
  rw [v116_at, v59_at]
  simp only [Finset.univ_unique, Finset.sum_singleton]
  rw [v57_at]
  simp only [v56_eq H]
  rw [coe_sum2]
  rfl

theorem weight_eq (g : Fin 8) (r s : Fin 128) :
    val_main_v65 (F := Ideal) x0 x1 x2 x5 (ix3 g r s) = ((∑ t, (A.chunk t).weight g r s : ℝ) : EReal) := by
  rw [v65_at]
  simp only [v56_eq H, v44_eq H, ← EReal.coe_mul]
  rw [coe_sum2]
  unfold Sgu.Chunk.weight
  by_cases h : s.val ≤ r.val
  · simp only [if_pos h]
  · simp only [if_neg h, Finset.sum_const_zero, EReal.coe_zero]

theorem offset_eq (g : Fin 8) (l : Fin 256) :
    val_main_v113 (F := Ideal) x0 x3 x5 (ix2 0 (col g l)) = ((∑ t, (A.chunk t).offset g l : ℝ) : EReal) := by
  rw [v113_at]
  simp only [Finset.univ_unique, Finset.sum_singleton]
  rw [sum_rows]
  simp only [v66_eq H]
  rw [coe_sum2]
  rfl

theorem gain_eq (g : Fin 8) (l : Fin 256) :
    val_main_v112 (F := Ideal) x0 x3 x5 (ix2 0 (col g l)) = ((∑ t, (A.chunk t).gain g l : ℝ) : EReal) := by
  rw [v112_at]
  simp only [Finset.univ_unique, Finset.sum_singleton]
  rw [sum_rows]
  simp only [v66_eq H, v37_eq H, ← EReal.coe_mul]
  rw [coe_sum2]
  refine congrArg _ ?_
  unfold Sgu.Chunk.gain
  simp only [mul_comm]

/-! ## The gradient of the gelu's argument -/

theorem v74_eq (t : Fin 32) (r : Fin 128) (g : Fin 8) (l : Fin 256) :
    val_main_v74 (F := Ideal) x0 x1 x3 x5 (ix2 (row t r) (col g l)) = ((A.chunk t).dhat r g l : EReal) := by
  rw [v74_at, v66_eq H, H.g, ← EReal.coe_mul]
  rfl

theorem v80_eq (t : Fin 32) (r : Fin 128) (g : Fin 8) (l : Fin 256) :
    val_main_v80 (F := Ideal) x0 x1 x3 x5 (ix2 (row t r) (col g l)) = (((A.chunk t).dhat r g l * (A.chunk t).rstd r : ℝ) : EReal) := by
  rw [v80_at, v74_eq H, v32_eq H, ← EReal.coe_mul]

theorem v86_eq (t : Fin 32) (r : Fin 128) : val_main_v86 (F := Ideal) x0 x1 x3 x5 (ix2 (row t r) 0) = ((A.chunk t).pull r : EReal) := by
  rw [v86_at, sum_cols]
  simp only [v29_eq H, v74_eq H, ← EReal.coe_mul]
  rw [coe_sum2, v35_eq H, ← EReal.coe_mul, Sgu.word_2048, coe_div _ (by norm_num)]
  rfl

theorem v89_eq (t : Fin 32) (r : Fin 128) (g : Fin 8) (l : Fin 256) :
    val_main_v89 (F := Ideal) x0 x1 x3 x5 (ix2 (row t r) (col g l)) = (((A.chunk t).pull r * (2 * (A.chunk t).cent r g l) : ℝ) : EReal) := by
  rw [v89_at]
  simp only [Finset.univ_unique, Finset.sum_singleton, Fin.default_eq_zero]
  rw [v86_eq H, v23_eq H, ← EReal.coe_mul]

theorem v99_eq (t : Fin 32) (r : Fin 128) (g : Fin 8) (l : Fin 256) :
    val_main_v99 (F := Ideal) x0 x1 x3 x5 (ix2 (row t r) (col g l)) = ((A.chunk t).dv r g l : EReal) := by
  rw [v99_at]
  simp only [Finset.univ_unique, Finset.sum_singleton, sum_cols]
  simp only [v80_eq H, v89_eq H, ← EReal.coe_neg]
  rw [coe_sum2, coe_sum2, Sgu.word_2048]
  simp only [← EReal.coe_add]
  rw [coe_div _ (by norm_num), ← EReal.coe_add]
  exact congrArg _ ((A.chunk t).slope_grad r g l)

theorem v111_eq (r k : Fin 4096) (y : ℝ) (hy : val_main_v100 (F := Ideal) x0 x1 x2 x3 x4 x5 (ix2 r k) = (y : EReal)) :
    val_main_v111 (F := Ideal) x0 x1 x2 x3 x4 x5 (ix2 r k) = ((y * Sgu.slope (A.z r k) : ℝ) : EReal) := by
  rw [v111_at, hy, v1_eq H, v9_eq H, v11_eq H, Sgu.slope_word, sqrt_two, Sgu.half_word]
  simp only [← EReal.coe_mul]
  rw [coe_div _ sqrt_two_ne, ← EReal.coe_add]
  refine congrArg _ ?_
  unfold Sgu.slope
  rw [div_eq_mul_inv]
  ring

theorem dz_eq (t : Fin 32) (r : Fin 128) (k : Fin 4096) :
    val_main_v111 (F := Ideal) x0 x1 x2 x3 x4 x5 (ix2 (row t r) k) = ((A.chunk t).dz r k : EReal) := by
  by_cases h : k.val < 2048
  · obtain ⟨g, l, rfl⟩ : ∃ g l, k = left (col g l) :=
      ⟨groupOf ⟨k.val, h⟩, colOf ⟨k.val, h⟩, Fin.ext (congrArg Fin.val (Sgu.col_eta ⟨k.val, h⟩)).symm⟩
    rw [v111_eq H _ _ _ ((v100_left x0 x1 x2 x3 x4 x5 (row t r) (col g l)).trans (v55_eq H t r g l)), Sgu.Chunk.dz_left]
    rfl
  · obtain ⟨g, l, rfl⟩ : ∃ g l, k = right (col g l) := by
      have hk : k.val - 2048 < 2048 := by omega
      refine ⟨groupOf ⟨k.val - 2048, hk⟩, colOf ⟨k.val - 2048, hk⟩, Fin.ext ?_⟩
      rw [Sgu.col_eta]
      show k.val = 2048 + (k.val - 2048)
      omega
    rw [v111_eq H _ _ _ ((v100_right x0 x1 x2 x3 x4 x5 (row t r) (col g l)).trans (v99_eq H t r g l)), Sgu.Chunk.dz_right]
    rfl

end Cert.SguReferenceIdeal.Hand
-- ==== Proof.SguEq.lean ====
module

public import proofs.«01_k».proof.Proof.SguKernelValue
public import proofs.«01_k».proof.Proof.SguRefEq

/-!
# The spatial gate's backward: kernel and reference agree

Where all six arguments are finite, the five arrays that the kernel leaves are the reference's.
-/

@[expose] public section

set_option maxRecDepth 16384

noncomputable section

namespace Cert.SguKernelIdeal.Hand

open Cert.SguKernelIdeal Cert.SguKernelIdeal.Gen Cert.SguReferenceIdeal.Read Cert.Reals
open Idealize.ShloMosaic Idealize.ShloMosaic.TcCoe
open Sgu (row col pointOf rowOf groupOf colOf)

variable (m : (ℓ : Loc nD τ sig) → Buf (Elt Ideal) ℓ) (c : Dev nD)

theorem agree (a0 : S4096x4096.Idx → EReal) (a1 a2 : S2048.Idx → EReal) (a3 : S8x128x128.Idx → EReal) (a4 : S8x128.Idx → EReal) (a5 : S4096x2048.Idx → EReal)
    (E0 : m (c, Proc.tc.devRef main_arg0) = a0) (E1 : m (c, Proc.tc.devRef main_arg1) = a1) (E2 : m (c, Proc.tc.devRef main_arg2) = a2)
    (E3 : m (c, Proc.tc.devRef main_arg3) = a3) (E4 : m (c, Proc.tc.devRef main_arg4) = a4) (E5 : m (c, Proc.tc.devRef main_arg5) = a5)
    (R0 : ∀ i, ∃ r : ℝ, a0 i = (r : EReal)) (R1 : ∀ i, ∃ r : ℝ, a1 i = (r : EReal)) (R2 : ∀ i, ∃ r : ℝ, a2 i = (r : EReal))
    (R3 : ∀ i, ∃ r : ℝ, a3 i = (r : EReal)) (R4 : ∀ i, ∃ r : ℝ, a4 i = (r : EReal)) (R5 : ∀ i, ∃ r : ℝ, a5 i = (r : EReal)) :
    (dats m 0 c).arrAt 6 cfg0.N = val_main_v111 (F := Ideal) a0 a1 a2 a3 a4 a5 ∧ (dats m 0 c).arrAt 7 cfg0.N = val_main_v112 (F := Ideal) a0 a3 a5
      ∧ (dats m 0 c).arrAt 8 cfg0.N = val_main_v113 (F := Ideal) a0 a3 a5 ∧ (dats m 0 c).arrAt 9 cfg0.N = val_main_v65 (F := Ideal) a0 a1 a2 a5
      ∧ (dats m 0 c).arrAt 10 cfg0.N = val_main_v116 (F := Ideal) a0 a5 := by
  choose r0 h0 using R0
  choose r1 h1 using R1
  choose r2 h2 using R2
  choose r3 h3 using R3
  choose r4 h4 using R4
  choose r5 h5 using R5
  let A : Sgu.Args := ⟨fun r k => r0 (ix2 r k), fun k => r1 (ix1 k), fun k => r2 (ix1 k), fun g r s => r3 (ix3 g r s), fun g r => r4 (ix2 g r), fun r k => r5 (ix2 r k)⟩
  have H : Cert.SguReferenceIdeal.Hand.Inputs a0 a1 a2 a3 a4 a5 A :=
    ⟨fun _ _ => h0 _, fun _ => h1 _, fun _ => h2 _, fun _ _ _ => h3 _, fun _ _ => h4 _, fun _ _ => h5 _⟩
  have K : Inputs m c A :=
    ⟨fun _ _ => (congrFun E0 _).trans (h0 _), fun _ => (congrFun E1 _).trans (h1 _), fun _ => (congrFun E2 _).trans (h2 _),
      fun _ _ _ => (congrFun E3 _).trans (h3 _), fun _ _ => (congrFun E4 _).trans (h4 _), fun _ _ => (congrFun E5 _).trans (h5 _)⟩
  refine ⟨(final6 m c K).trans (funext fun i => ?_), (final7 m c K).trans (funext fun i => ?_), (final8 m c K).trans (funext fun i => ?_),
    (final9 m c K).trans (funext fun i => ?_), (final10 m c K).trans (funext fun i => ?_)⟩
  · obtain ⟨r, k, rfl⟩ : ∃ (r : Fin 4096) (k : Fin 4096), i = ix2 r k := ⟨i 0, i 1, (ix2_eta i).symm⟩
    obtain ⟨t, s, rfl⟩ : ∃ t s, r = row t s := ⟨pointOf r, rowOf r, (Sgu.row_eta r).symm⟩
    refine Eq.trans ?_ (Cert.SguReferenceIdeal.Hand.dz_eq H t s k).symm
    exact congrArg₂ (fun (p : Fin 32) (q : Fin 128) => (((A.chunk p).dz q k : ℝ) : EReal)) (Sgu.pointOf_row t s) (Sgu.rowOf_row t s)
  · obtain ⟨r, k, rfl⟩ : ∃ (r : Fin 1) (k : Fin 2048), i = ix2 r k := ⟨i 0, i 1, (ix2_eta i).symm⟩
    obtain rfl : r = 0 := Subsingleton.elim _ _
    obtain ⟨g, l, rfl⟩ : ∃ g l, k = col g l := ⟨groupOf k, colOf k, (Sgu.col_eta k).symm⟩
    refine Eq.trans ?_ (Cert.SguReferenceIdeal.Hand.gain_eq H g l).symm
    exact congrArg (fun x : ℝ => (x : EReal)) (Finset.sum_congr rfl fun t _ => Sgu.flat_col (A.chunk t).gain g l)
  · obtain ⟨r, k, rfl⟩ : ∃ (r : Fin 1) (k : Fin 2048), i = ix2 r k := ⟨i 0, i 1, (ix2_eta i).symm⟩
    obtain rfl : r = 0 := Subsingleton.elim _ _
    obtain ⟨g, l, rfl⟩ : ∃ g l, k = col g l := ⟨groupOf k, colOf k, (Sgu.col_eta k).symm⟩
    refine Eq.trans ?_ (Cert.SguReferenceIdeal.Hand.offset_eq H g l).symm
    exact congrArg (fun x : ℝ => (x : EReal)) (Finset.sum_congr rfl fun t _ => Sgu.flat_col (A.chunk t).offset g l)
  · obtain ⟨g, r, s, rfl⟩ : ∃ (g : Fin 8) (r s : Fin 128), i = ix3 g r s := ⟨i 0, i 1, i 2, (ix3_eta i).symm⟩
    exact (Cert.SguReferenceIdeal.Hand.weight_eq H g r s).symm
  · obtain ⟨r, k, rfl⟩ : ∃ (r : Fin 128) (k : Fin 1024), i = ix2 r k := ⟨i 0, i 1, (ix2_eta i).symm⟩
    exact (Cert.SguReferenceIdeal.Hand.lane_eq H r k).symm

end Cert.SguKernelIdeal.Hand
-- ==== Proof.MlaO.lean ====
module

public import proofs.«01_k».proof.Proof.Gen.MlaOKernelIdeal.Value
public import proofs.«01_k».proof.Proof.Gen.MlaOReferenceIdeal.Read
public import Idealize.ShloMosaic.Lib.Pointwise
public import Idealize.ShloMosaic.Lib.Pipeline.ValueKit

/-!
# The backward of the attention's output projection

The kernel multiplies the cotangent by the projection's transpose and sums, head by head, the product with the attention's
output; head `h`'s sum stands in lane `h`, by eight selections. The reference sums the reshaped product and pads it. Both are
`grad` and `delta`, at all extended reals.
-/

@[expose] public section

set_option maxRecDepth 16384

noncomputable section

open Idealize.ShloMosaic Idealize.ShloMosaic.TcCoe Idealize.SL.Sem Idealize.ShloMosaic.Pointwise

namespace Cert.MlaO

/-- The attention's output's gradient, and the sum of its product with that output over head `h`. -/
def grad (w : (⟨2, ![1024, 1024]⟩ : Shape).Idx → EReal) (ct : (⟨2, ![4096, 1024]⟩ : Shape).Idx → EReal) (r : Fin 4096) (l : Fin 1024) : EReal :=
  ∑ k : Fin 1024, ct (ix2 r k) * w (ix2 l k)

abbrev col (h : Fin 8) (k : Fin 128) : Fin 1024 := ⟨h.val * 128 + k.val, by omega⟩

def delta (o : (⟨2, ![4096, 1024]⟩ : Shape).Idx → EReal) (w : (⟨2, ![1024, 1024]⟩ : Shape).Idx → EReal) (ct : (⟨2, ![4096, 1024]⟩ : Shape).Idx → EReal)
    (r : Fin 4096) (l : Fin 128) : EReal :=
  if h : l.val < 8 then ∑ k, grad w ct r (col ⟨l.val, h⟩ k) * o (ix2 r (col ⟨l.val, h⟩ k)) else 0

/-- Eight selections by the lane's number. -/
theorem ladder (l : Fin 128) (f : Fin 8 → EReal) :
    Scalar.select (IntOp.cmpi CmpIPredicate.eq (BitVec.ofNat 32 l.val) 7#32) (f 7)
      (Scalar.select (IntOp.cmpi CmpIPredicate.eq (BitVec.ofNat 32 l.val) 6#32) (f 6)
      (Scalar.select (IntOp.cmpi CmpIPredicate.eq (BitVec.ofNat 32 l.val) 5#32) (f 5)
      (Scalar.select (IntOp.cmpi CmpIPredicate.eq (BitVec.ofNat 32 l.val) 4#32) (f 4)
      (Scalar.select (IntOp.cmpi CmpIPredicate.eq (BitVec.ofNat 32 l.val) 3#32) (f 3)
      (Scalar.select (IntOp.cmpi CmpIPredicate.eq (BitVec.ofNat 32 l.val) 2#32) (f 2)
      (Scalar.select (IntOp.cmpi CmpIPredicate.eq (BitVec.ofNat 32 l.val) 1#32) (f 1)
      (Scalar.select (IntOp.cmpi CmpIPredicate.eq (BitVec.ofNat 32 l.val) 0#32) (f 0) 0)))))))
      = if h : l.val < 8 then f ⟨l.val, h⟩ else 0 := by
  have e : ∀ (l : Fin 128) (k : Fin 8), IntOp.cmpi CmpIPredicate.eq (BitVec.ofNat 32 l.val) (BitVec.ofNat 32 k.val) = if l.val = k.val then 1#1 else 0#1 := by decide
  have e7 := e l 7; have e6 := e l 6; have e5 := e l 5; have e4 := e l 4
  have e3 := e l 3; have e2 := e l 2; have e1 := e l 1; have e0 := e l 0
  rw [show (7#32) = BitVec.ofNat 32 (7 : Fin 8).val from rfl, show (6#32) = BitVec.ofNat 32 (6 : Fin 8).val from rfl,
    show (5#32) = BitVec.ofNat 32 (5 : Fin 8).val from rfl, show (4#32) = BitVec.ofNat 32 (4 : Fin 8).val from rfl,
    show (3#32) = BitVec.ofNat 32 (3 : Fin 8).val from rfl, show (2#32) = BitVec.ofNat 32 (2 : Fin 8).val from rfl,
    show (1#32) = BitVec.ofNat 32 (1 : Fin 8).val from rfl, show (0#32) = BitVec.ofNat 32 (0 : Fin 8).val from rfl,
    e7, e6, e5, e4, e3, e2, e1, e0]
  obtain ⟨l, hl⟩ := l
  by_cases h : l < 8
  · interval_cases l <;> rfl
  · rw [dif_neg h]
    have h7 : ∀ k : Fin 8, l ≠ k.val := fun k => by omega
    simp only [h7, if_false]
    rfl

end Cert.MlaO

namespace Cert.MlaOKernelIdeal.Hand

open Cert.MlaOKernelIdeal Cert.MlaOKernelIdeal.Gen
open Idealize.ShloMosaic.Pipeline (Dat)
open MlaO (grad delta col)

variable (m : (ℓ : Loc nD τ sig) → Buf (Elt Ideal) ℓ) (c : Dev nD)

/-! ## One grid point -/

theorem zeros2 : (![0, 0] : Fin 2 → Nat) = fun _ => 0 := funext fun a => by fin_cases a <;> rfl

section point

variable (x0 : Vec Ideal S512x1024 .bf16) (x1 : Vec Ideal S1024x1024 .bf16) (x2 : Vec Ideal S512x1024 .bf16)

theorem left3 : out0_3 x0 x1 x2 = k0_pay2 (F := Ideal) (k0_pay3 x0 x1) := by
  unfold out0_3
  rw [View.canon_unit_zero zeros2, View.ld_unit_zero (S := S512x1024) zeros2, View.ld_unit_zero (S := S1024x1024) zeros2]

theorem left4 : out0_4 x0 x1 x2 = k0_pay1 (F := Ideal) (k0_pay4 x0 x1 x2) (iota .tc S512x128 32 [1] iota_S512x128_d1_w32) (k0_pay5 x0 x1 x2) (k0_pay6 x0 x1 x2) k0_pay7 := by
  unfold out0_4
  rw [View.canon_unit_zero zeros2, View.ld_unit_zero (S := S512x1024) zeros2, View.ld_unit_zero (S := S1024x1024) zeros2,
    View.ld_unit_zero (S := S512x1024) zeros2]

theorem pay3_apply (r : Fin 512) (l : Fin 1024) : k0_pay2 (F := Ideal) (k0_pay3 x0 x1) (ix2 r l) = ∑ k : Fin 1024, x0 (ix2 r k) * x1 (ix2 l k) := by
  pointwise [k0_pay2, k0_pay3]

theorem pay4_apply (r : Fin 512) (l : Fin 1024) :
    k0_pay4 (F := Ideal) x0 x1 x2 (ix2 r l) = (∑ k : Fin 1024, x0 (ix2 r k) * x1 (ix2 l k)) * x2 (ix2 r l) := by
  pointwise [k0_pay4, k0_pay3]

theorem pay1_apply (r : Fin 512) (l : Fin 128) :
    k0_pay1 (F := Ideal) (k0_pay4 x0 x1 x2) (iota .tc S512x128 32 [1] iota_S512x128_d1_w32) (k0_pay5 x0 x1 x2) (k0_pay6 x0 x1 x2) k0_pay7 (ix2 r l)
      = if h : l.val < 8 then ∑ k, k0_pay4 (F := Ideal) x0 x1 x2 (ix2 r (col ⟨l.val, h⟩ k)) else 0 := by
  pointwise [k0_pay1, k0_pay5, k0_pay6, k0_pay7]
  refine Eq.trans ?_ (MlaO.ladder l fun h => ∑ k, k0_pay4 (F := Ideal) x0 x1 x2 (ix2 r (col h k)))
  have z : ∀ k : Fin 128, col 0 k = ⟨k.val, by omega⟩ := fun k => Fin.ext (by show 0 * 128 + k.val = k.val; omega)
  simp only [z]
  rfl

end point

/-! ## The arrays -/

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel
theorem index3 : ∀ t : Fin grid0.N, win0_3.index t = ![t.val, 0] := by decide +kernel
theorem index4 : ∀ t : Fin grid0.N, win0_4.index t = ![t.val, 0] := by decide +kernel

abbrev aO : Vec Ideal S4096x1024 .f32 := m ((c : Thread nD τ).loc main_arg0)
abbrev aW : Vec Ideal S1024x1024 .f32 := m ((c : Thread nD τ).loc main_arg1)
abbrev aCt : Vec Ideal S4096x1024 .f32 := m ((c : Thread nD τ).loc main_arg2)

abbrev row (t : Fin cfg0.N) (r : Fin 512) : Fin 4096 := ⟨t.val * 512 + r.val, by have := t.isLt; have : cfg0.N = 8 := N_0; omega⟩

theorem V_ct (r : Fin 4096) (k : Fin 1024) : V m c main_v0 (ix2 r k) = aCt m c (ix2 r k) := by
  unfold V
  after_results
  pointwise

theorem V_w (r k : Fin 1024) : V m c main_v1 (ix2 r k) = aW m c (ix2 r k) := by
  unfold V
  after_results
  pointwise

theorem V_o (r : Fin 4096) (k : Fin 1024) : V m c main_v2 (ix2 r k) = aO m c (ix2 r k) := by
  unfold V
  after_results
  pointwise

theorem ct_block (t : Fin cfg0.N) (r : Fin 512) (k : Fin 1024) : (iblk m c 0 t : Vec Ideal S512x1024 .bf16) (ix2 r k) = aCt m c (ix2 (row t r) k) := by
  refine Eq.trans ?_ (V_ct m c (row t r) k)
  blk_ext [iblk, index0, row]

theorem w_block (t : Fin cfg0.N) (r k : Fin 1024) : (iblk m c 1 t : Vec Ideal S1024x1024 .bf16) (ix2 r k) = aW m c (ix2 r k) := by
  refine Eq.trans ?_ (V_w m c r k)
  blk_ext [iblk, index1]

theorem o_block (t : Fin cfg0.N) (r : Fin 512) (k : Fin 1024) : (iblk m c 2 t : Vec Ideal S512x1024 .bf16) (ix2 r k) = aO m c (ix2 (row t r) k) := by
  refine Eq.trans ?_ (V_o m c (row t r) k)
  blk_ext [iblk, index2, row]

theorem final3 : (dats m 0 c).arrAt 3 cfg0.N = fun i : S4096x1024.Idx => grad (aW m c) (aCt m c) (i 0) (i 1) := by
  refine (dats m 0 c).arrAt_eq_of_covers 3 _ (by decide +kernel) fun t hf y => ?_
  obtain ⟨r, l, rfl⟩ : ∃ (r : Fin 512) (l : Fin 1024), y = ix2 r l := ⟨y 0, y 1, (ix2_eta y).symm⟩
  have e : ((cfg0.win 3).blk t).view.emb (ix2 r l) = ix2 (row t r) l := by blk_ext [index3, row]
  refine Eq.trans ?_ (congrArg (fun i : S4096x1024.Idx => grad (aW m c) (aCt m c) (i 0) (i 1)) e).symm
  blk_simp
  rw [after0_3, left3, pay3_apply]
  simp only [ct_block, w_block]
  rfl

theorem final4 : (dats m 0 c).arrAt 4 cfg0.N = fun i : S4096x128.Idx => delta (aO m c) (aW m c) (aCt m c) (i 0) (i 1) := by
  refine (dats m 0 c).arrAt_eq_of_covers 4 _ (by decide +kernel) fun t hf y => ?_
  obtain ⟨r, l, rfl⟩ : ∃ (r : Fin 512) (l : Fin 128), y = ix2 r l := ⟨y 0, y 1, (ix2_eta y).symm⟩
  have e : ((cfg0.win 4).blk t).view.emb (ix2 r l) = ix2 (row t r) l := by blk_ext [index4, row]
  refine Eq.trans ?_ (congrArg (fun i : S4096x128.Idx => delta (aO m c) (aW m c) (aCt m c) (i 0) (i 1)) e).symm
  blk_simp
  rw [after0_4, left4, pay1_apply]
  simp only [pay4_apply, ct_block, w_block, o_block]
  rfl

end Cert.MlaOKernelIdeal.Hand

/-! ## The reference -/

namespace Cert.MlaOReferenceIdeal.Hand

open Cert.MlaOReferenceIdeal Cert.MlaOReferenceIdeal.Read
open MlaO (grad delta)

variable (x0 : FVec Ideal S4096x1024 .f32) (x1 : FVec Ideal S1024x1024 .f32) (x2 : FVec Ideal S4096x1024 .f32)

theorem grad_eq : val_main_v5 (F := Ideal) x1 x2 = fun i : S4096x1024.Idx => grad x1 x2 (i 0) (i 1) := by
  funext i
  obtain ⟨r, l, rfl⟩ : ∃ (r : Fin 4096) (l : Fin 1024), i = ix2 r l := ⟨i 0, i 1, (ix2_eta i).symm⟩
  rw [← val_main_v5_eq]
  pointwise
  rfl

theorem delta_eq : val_main_v6 (F := Ideal) x0 x1 x2 = fun i : S4096x128.Idx => delta x0 x1 x2 (i 0) (i 1) := by
  funext i
  obtain ⟨r, l, rfl⟩ : ∃ (r : Fin 4096) (l : Fin 128), i = ix2 r l := ⟨i 0, i 1, (ix2_eta i).symm⟩
  rw [← val_main_v6_eq]
  pointwise
  have z : (FloatOps.sitofp (F := Ideal) .f32 (0#32) : EReal) = 0 := by simp [FloatOps.sitofp]
  rw [z]
  rfl

end Cert.MlaOReferenceIdeal.Hand

namespace Cert.MlaOKernelIdeal.Hand

open Cert.MlaOKernelIdeal Cert.MlaOKernelIdeal.Gen Cert.MlaOReferenceIdeal.Read

variable (m : (ℓ : Loc nD τ sig) → Buf (Elt Ideal) ℓ) (c : Dev nD)

theorem agree (a0 : S4096x1024.Idx → EReal) (a1 : S1024x1024.Idx → EReal) (a2 : S4096x1024.Idx → EReal)
    (E0 : m (c, Proc.tc.devRef main_arg0) = a0) (E1 : m (c, Proc.tc.devRef main_arg1) = a1) (E2 : m (c, Proc.tc.devRef main_arg2) = a2) :
    (dats m 0 c).arrAt 3 cfg0.N = val_main_v5 (F := Ideal) a1 a2 ∧ (dats m 0 c).arrAt 4 cfg0.N = val_main_v6 (F := Ideal) a0 a1 a2 := by
  subst E0 E1 E2
  exact ⟨(final3 m c).trans (Cert.MlaOReferenceIdeal.Hand.grad_eq _ _).symm, (final4 m c).trans (Cert.MlaOReferenceIdeal.Hand.delta_eq _ _ _).symm⟩

end Cert.MlaOKernelIdeal.Hand
-- ==== Proof.ProjBlk.lean ====
module

public import proofs.«01_k».proof.Proof.Gen.ProjKernelIdeal.Frame.Runs
public import Idealize.ShloMosaic.Lib.VecWindow
public import Idealize.ShloMosaic.Init

/-! # The latent projections' backward call: what a point computes

A point reads 256 rows and the whole weights, writes the rows' gradient and adds to six sums, which the first point starts. -/

@[expose] public section

set_option maxRecDepth 16384

noncomputable section

namespace Cert.ProjKernelIdeal.Hand

open Cert.ProjKernelIdeal Cert.ProjKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What one grid point reads. -/
structure Blk (F : FTy → Type) where
  dq : Vec F S256x2048 .f32
  dkv : Vec F S256x2048 .bf16
  dkr : Vec F S256x1024 .f32
  lat : Vec F S256x512 .f32
  cqn : Vec F S256x256 .bf16
  ckvn : Vec F S256x128 .bf16
  h : Vec F S256x1024 .bf16
  x : Vec F S256x1024 .f32
  res : Vec F S256x1024 .f32
  cs : Vec F S256x128 .f32
  s1 : Vec F S256x128 .f32
  s2 : Vec F S256x128 .f32
  g : Vec F S1x1024 .f32
  qg : Vec F S1x256 .f32
  kg : Vec F S1x128 .f32
  wq : Vec F S256x2048 .f32
  wkv : Vec F S128x2048 .f32
  wdkv : Vec F S1024x512 .f32

namespace Blk

variable (b : Blk F)

/-- The rotated gradient of the queries. -/
def rot : FVec F S256x2048 .bf16 := k0_pay35 (k0_pay8 b.dq) (k0_pay15 b.cs) (k0_pay16 b.s1) (k0_pay17 b.s2) (k0_pay23 (k0_pay8 b.dq)) (k0_pay24 (k0_pay8 b.dq) (k0_pay15 b.cs) (k0_pay16 b.s1) (k0_pay17 b.s2)) (k0_pay25 (k0_pay8 b.dq)) (k0_pay26 (k0_pay8 b.dq) (k0_pay15 b.cs) (k0_pay16 b.s1) (k0_pay17 b.s2)) (k0_pay27 (k0_pay8 b.dq)) (k0_pay28 (k0_pay8 b.dq) (k0_pay15 b.cs) (k0_pay16 b.s1) (k0_pay17 b.s2)) (k0_pay29 (k0_pay8 b.dq)) (k0_pay30 (k0_pay8 b.dq) (k0_pay15 b.cs) (k0_pay16 b.s1) (k0_pay17 b.s2)) (k0_pay31 (k0_pay8 b.dq)) (k0_pay32 (k0_pay8 b.dq)) (k0_pay33 (k0_pay8 b.dq) (k0_pay15 b.cs)) (k0_pay34 (k0_pay8 b.dq) (k0_pay16 b.s1))
/-- The gradient of the normed latent queries, and of the latent queries. -/
def dcqn : FVec F S256x256 .f32 := k0_pay36 (k0_pay8 b.dq) (k0_pay15 b.cs) (k0_pay16 b.s1) (k0_pay17 b.s2) (k0_pay21 b.wq) (k0_pay23 (k0_pay8 b.dq)) (k0_pay24 (k0_pay8 b.dq) (k0_pay15 b.cs) (k0_pay16 b.s1) (k0_pay17 b.s2)) (k0_pay25 (k0_pay8 b.dq)) (k0_pay26 (k0_pay8 b.dq) (k0_pay15 b.cs) (k0_pay16 b.s1) (k0_pay17 b.s2)) (k0_pay27 (k0_pay8 b.dq)) (k0_pay28 (k0_pay8 b.dq) (k0_pay15 b.cs) (k0_pay16 b.s1) (k0_pay17 b.s2)) (k0_pay29 (k0_pay8 b.dq)) (k0_pay30 (k0_pay8 b.dq) (k0_pay15 b.cs) (k0_pay16 b.s1) (k0_pay17 b.s2)) (k0_pay31 (k0_pay8 b.dq)) (k0_pay32 (k0_pay8 b.dq)) (k0_pay33 (k0_pay8 b.dq) (k0_pay15 b.cs)) (k0_pay34 (k0_pay8 b.dq) (k0_pay16 b.s1))
def dcq : FVec F S256x256 .f32 := k0_pay42 (k0_pay38 (k0_pay11 b.lat)) (k0_pay39 (k0_pay11 b.lat)) (k0_pay40 (k0_pay8 b.dq) (k0_pay15 b.cs) (k0_pay16 b.s1) (k0_pay17 b.s2) (k0_pay19 b.qg) (k0_pay21 b.wq) (k0_pay23 (k0_pay8 b.dq)) (k0_pay24 (k0_pay8 b.dq) (k0_pay15 b.cs) (k0_pay16 b.s1) (k0_pay17 b.s2)) (k0_pay25 (k0_pay8 b.dq)) (k0_pay26 (k0_pay8 b.dq) (k0_pay15 b.cs) (k0_pay16 b.s1) (k0_pay17 b.s2)) (k0_pay27 (k0_pay8 b.dq)) (k0_pay28 (k0_pay8 b.dq) (k0_pay15 b.cs) (k0_pay16 b.s1) (k0_pay17 b.s2)) (k0_pay29 (k0_pay8 b.dq)) (k0_pay30 (k0_pay8 b.dq) (k0_pay15 b.cs) (k0_pay16 b.s1) (k0_pay17 b.s2)) (k0_pay31 (k0_pay8 b.dq)) (k0_pay32 (k0_pay8 b.dq)) (k0_pay33 (k0_pay8 b.dq) (k0_pay15 b.cs)) (k0_pay34 (k0_pay8 b.dq) (k0_pay16 b.s1))) (k0_pay41 (k0_pay8 b.dq) (k0_pay11 b.lat) (k0_pay15 b.cs) (k0_pay16 b.s1) (k0_pay17 b.s2) (k0_pay19 b.qg) (k0_pay21 b.wq) (k0_pay23 (k0_pay8 b.dq)) (k0_pay24 (k0_pay8 b.dq) (k0_pay15 b.cs) (k0_pay16 b.s1) (k0_pay17 b.s2)) (k0_pay25 (k0_pay8 b.dq)) (k0_pay26 (k0_pay8 b.dq) (k0_pay15 b.cs) (k0_pay16 b.s1) (k0_pay17 b.s2)) (k0_pay27 (k0_pay8 b.dq)) (k0_pay28 (k0_pay8 b.dq) (k0_pay15 b.cs) (k0_pay16 b.s1) (k0_pay17 b.s2)) (k0_pay29 (k0_pay8 b.dq)) (k0_pay30 (k0_pay8 b.dq) (k0_pay15 b.cs) (k0_pay16 b.s1) (k0_pay17 b.s2)) (k0_pay31 (k0_pay8 b.dq)) (k0_pay32 (k0_pay8 b.dq)) (k0_pay33 (k0_pay8 b.dq) (k0_pay15 b.cs)) (k0_pay34 (k0_pay8 b.dq) (k0_pay16 b.s1)))
/-- The gradient of the latent keys and values. -/
def dckv : FVec F S256x128 .f32 := k0_pay48 (k0_pay9 b.dkv) (k0_pay11 b.lat) (k0_pay20 b.kg) b.wkv
/-- What the point leaves in the rows' gradient, and adds to the weights' and the gains'. -/
def dx : FVec F S256x1024 .f32 := k0_pay58 (k0_pay10 b.dkr) b.x b.res (k0_pay15 b.cs) (k0_pay16 b.s1) (k0_pay17 b.s2) (k0_pay18 b.g) (k0_pay22 b.wdkv) b.dcq b.dckv (k0_pay50 (k0_pay10 b.dkr)) (k0_pay51 (k0_pay10 b.dkr))
def dxb : FVec F S256x1024 .bf16 := k0_pay1 (k0_pay59 (k0_pay10 b.dkr) b.x b.res (k0_pay15 b.cs) (k0_pay16 b.s1) (k0_pay17 b.s2) (k0_pay18 b.g) (k0_pay22 b.wdkv) b.dcq b.dckv (k0_pay50 (k0_pay10 b.dkr)) (k0_pay51 (k0_pay10 b.dkr)))
def gwq : FVec F S256x2048 .f32 := k0_pay60 (k0_pay12 b.cqn) b.rot
def gwkv : FVec F S128x2048 .f32 := k0_pay61 (k0_pay9 b.dkv) (k0_pay13 b.ckvn)
def gwdkv : FVec F S1024x512 .f32 := k0_pay62 (k0_pay10 b.dkr) (k0_pay14 b.h) (k0_pay15 b.cs) (k0_pay16 b.s1) (k0_pay17 b.s2) b.dcq b.dckv (k0_pay50 (k0_pay10 b.dkr)) (k0_pay51 (k0_pay10 b.dkr))
def gqg : FVec F S1x256 .f32 := k0_pay43 b.dcqn (k0_pay39 (k0_pay11 b.lat))
def gkg : FVec F S1x128 .f32 := k0_pay49 (k0_pay9 b.dkv) (k0_pay11 b.lat) b.wkv
def gg : FVec F S1x1024 .f32 := k0_pay57 (k0_pay10 b.dkr) b.x (k0_pay15 b.cs) (k0_pay16 b.s1) (k0_pay17 b.s2) (k0_pay22 b.wdkv) b.dcq b.dckv (k0_pay50 (k0_pay10 b.dkr)) (k0_pay51 (k0_pay10 b.dkr))

end Blk

/-- The six sums. -/
abbrev St (F : FTy → Type) := Vec F S256x2048 .f32 × Vec F S128x2048 .f32 × Vec F S1024x512 .f32 × Vec F S1x256 .f32 × Vec F S1x128 .f32 × Vec F S1x1024 .f32

/-- The sums after a first point, and after a further one. -/
def first (b : Blk F) : St F := ⟨b.gwq, b.gwkv, b.gwdkv, b.gqg, b.gkg, b.gg⟩

def next (b : Blk F) (s : St F) : St F :=
  ⟨k0_pay2 b.gwq s.1, k0_pay3 b.gwkv s.2.1, k0_pay4 b.gwdkv s.2.2.1, k0_pay5 b.gqg s.2.2.2.1, k0_pay6 b.gkg s.2.2.2.2.1, k0_pay7 b.gg s.2.2.2.2.2⟩

section
variable (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x1024 .f32) (harg3 : arg3.IsWhole) (arg4 : Memref sig .tc .vmem S256x512 .f32) (harg4 : arg4.IsWhole) (arg5 : Memref sig .tc .vmem S256x256 .bf16) (harg5 : arg5.IsWhole) (arg6 : Memref sig .tc .vmem S256x128 .bf16) (harg6 : arg6.IsWhole) (arg7 : Memref sig .tc .vmem S256x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S1x1024 .f32) (harg13 : arg13.IsWhole) (arg14 : Memref sig .tc .vmem S1x256 .f32) (harg14 : arg14.IsWhole) (arg15 : Memref sig .tc .vmem S1x128 .f32) (harg15 : arg15.IsWhole) (arg16 : Memref sig .tc .vmem S256x2048 .f32) (harg16 : arg16.IsWhole) (arg17 : Memref sig .tc .vmem S128x2048 .f32) (harg17 : arg17.IsWhole) (arg18 : Memref sig .tc .vmem S1024x512 .f32) (harg18 : arg18.IsWhole) (arg19 : Memref sig .tc .vmem S256x1024 .f32) (harg19 : arg19.IsWhole) (arg20 : Memref sig .tc .vmem S256x1024 .bf16) (harg20 : arg20.IsWhole) (arg21 : Memref sig .tc .vmem S256x2048 .f32) (harg21 : arg21.IsWhole) (arg22 : Memref sig .tc .vmem S128x2048 .f32) (harg22 : arg22.IsWhole) (arg23 : Memref sig .tc .vmem S1024x512 .f32) (harg23 : arg23.IsWhole) (arg24 : Memref sig .tc .vmem S1x256 .f32) (harg24 : arg24.IsWhole) (arg25 : Memref sig .tc .vmem S1x128 .f32) (harg25 : arg25.IsWhole) (arg26 : Memref sig .tc .vmem S1x1024 .f32) (harg26 : arg26.IsWhole)
  (f1 : arg1.view.ty.Contents (Elt F)) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (f17 : arg17.view.ty.Contents (Elt F)) (f18 : arg18.view.ty.Contents (Elt F)) (f19 : arg19.view.ty.Contents (Elt F)) (f20 : arg20.view.ty.Contents (Elt F)) (f21 : arg21.view.ty.Contents (Elt F)) (f22 : arg22.view.ty.Contents (Elt F)) (f23 : arg23.view.ty.Contents (Elt F)) (f24 : arg24.view.ty.Contents (Elt F)) (f25 : arg25.view.ty.Contents (Elt F)) (f26 : arg26.view.ty.Contents (Elt F))

/-- What a point reads, off its buffers. -/
abbrev blkOf : Blk F := ⟨arg1.view.read (Elt F) f1, arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18⟩

/-- What the sums' buffers hold. -/
abbrev stOf : St F := ⟨arg21.view.read (Elt F) f21, arg22.view.read (Elt F) f22, arg23.view.read (Elt F) f23, arg24.view.read (Elt F) f24, arg25.view.read (Elt F) f25, arg26.view.read (Elt F) f26⟩

/-- What a buffer holds after the point. -/
abbrev leaves {s : Shape} {e : EltTy} (m : Memref sig .tc .vmem s e) (x : Vec F s e) : sProp 𝕄 :=
  iprop(∃ f, (m.view.loc (c : Thread nD τ) ↦[m.view.set]{fullShare} f) ∗ ⌜m.view.read (Elt F) f = x⌝)

abbrev before : sProp 𝕄 :=
  iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25) ∗ (arg26.view.loc (c : Thread nD τ) ↦[arg26.view.set]{fullShare} f26))

abbrev after (b : Blk F) (s : St F) : sProp 𝕄 :=
  iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ leaves c arg19 b.dx ∗ leaves c arg20 b.dxb ∗ leaves c arg21 s.1 ∗ leaves c arg22 s.2.1 ∗ leaves c arg23 s.2.2.1 ∗ leaves c arg24 s.2.2.2.1 ∗ leaves c arg25 s.2.2.2.2.1 ∗ leaves c arg26 s.2.2.2.2.2)

end

theorem load1024x512 {e : EltTy} (m : Memref sig .tc .vmem S1024x512 e) (inb f) :
    m.view.readAt (Elt F) (Rect.unit ![0, 0] ![1024, 512] inb).toLoadRect f = m.view.read (Elt F) f :=
  View.readAt_full m.view f inb
theorem load128x2048 {e : EltTy} (m : Memref sig .tc .vmem S128x2048 e) (inb f) :
    m.view.readAt (Elt F) (Rect.unit ![0, 0] ![128, 2048] inb).toLoadRect f = m.view.read (Elt F) f :=
  View.readAt_full m.view f inb
theorem load1x1024 {e : EltTy} (m : Memref sig .tc .vmem S1x1024 e) (inb f) :
    m.view.readAt (Elt F) (Rect.unit ![0, 0] ![1, 1024] inb).toLoadRect f = m.view.read (Elt F) f :=
  View.readAt_full m.view f inb
theorem load1x128 {e : EltTy} (m : Memref sig .tc .vmem S1x128 e) (inb f) :
    m.view.readAt (Elt F) (Rect.unit ![0, 0] ![1, 128] inb).toLoadRect f = m.view.read (Elt F) f :=
  View.readAt_full m.view f inb
theorem load1x256 {e : EltTy} (m : Memref sig .tc .vmem S1x256 e) (inb f) :
    m.view.readAt (Elt F) (Rect.unit ![0, 0] ![1, 256] inb).toLoadRect f = m.view.read (Elt F) f :=
  View.readAt_full m.view f inb
theorem load256x1024 {e : EltTy} (m : Memref sig .tc .vmem S256x1024 e) (inb f) :
    m.view.readAt (Elt F) (Rect.unit ![0, 0] ![256, 1024] inb).toLoadRect f = m.view.read (Elt F) f :=
  View.readAt_full m.view f inb
theorem load256x128 {e : EltTy} (m : Memref sig .tc .vmem S256x128 e) (inb f) :
    m.view.readAt (Elt F) (Rect.unit ![0, 0] ![256, 128] inb).toLoadRect f = m.view.read (Elt F) f :=
  View.readAt_full m.view f inb
theorem load256x2048 {e : EltTy} (m : Memref sig .tc .vmem S256x2048 e) (inb f) :
    m.view.readAt (Elt F) (Rect.unit ![0, 0] ![256, 2048] inb).toLoadRect f = m.view.read (Elt F) f :=
  View.readAt_full m.view f inb
theorem load256x256 {e : EltTy} (m : Memref sig .tc .vmem S256x256 e) (inb f) :
    m.view.readAt (Elt F) (Rect.unit ![0, 0] ![256, 256] inb).toLoadRect f = m.view.read (Elt F) f :=
  View.readAt_full m.view f inb
theorem load256x512 {e : EltTy} (m : Memref sig .tc .vmem S256x512 e) (inb f) :
    m.view.readAt (Elt F) (Rect.unit ![0, 0] ![256, 512] inb).toLoadRect f = m.view.read (Elt F) f :=
  View.readAt_full m.view f inb
theorem zeros2 : (![0, 0] : Fin 2 → Nat) = fun _ => 0 := funext fun a => by fin_cases a <;> rfl

end Cert.ProjKernelIdeal.Hand
-- ==== Proof.ProjFirst.lean ====
module

public import proofs.«01_k».proof.Proof.ProjBlk

/-! # The latent projections' backward call: the first point

The body, run over buffers with any contents. -/

@[expose] public section

set_option maxRecDepth 16384

noncomputable section

namespace Cert.ProjKernelIdeal.Hand

open Cert.ProjKernelIdeal Cert.ProjKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x1024 .f32) (harg3 : arg3.IsWhole) (arg4 : Memref sig .tc .vmem S256x512 .f32) (harg4 : arg4.IsWhole) (arg5 : Memref sig .tc .vmem S256x256 .bf16) (harg5 : arg5.IsWhole) (arg6 : Memref sig .tc .vmem S256x128 .bf16) (harg6 : arg6.IsWhole) (arg7 : Memref sig .tc .vmem S256x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S1x1024 .f32) (harg13 : arg13.IsWhole) (arg14 : Memref sig .tc .vmem S1x256 .f32) (harg14 : arg14.IsWhole) (arg15 : Memref sig .tc .vmem S1x128 .f32) (harg15 : arg15.IsWhole) (arg16 : Memref sig .tc .vmem S256x2048 .f32) (harg16 : arg16.IsWhole) (arg17 : Memref sig .tc .vmem S128x2048 .f32) (harg17 : arg17.IsWhole) (arg18 : Memref sig .tc .vmem S1024x512 .f32) (harg18 : arg18.IsWhole) (arg19 : Memref sig .tc .vmem S256x1024 .f32) (harg19 : arg19.IsWhole) (arg20 : Memref sig .tc .vmem S256x1024 .bf16) (harg20 : arg20.IsWhole) (arg21 : Memref sig .tc .vmem S256x2048 .f32) (harg21 : arg21.IsWhole) (arg22 : Memref sig .tc .vmem S128x2048 .f32) (harg22 : arg22.IsWhole) (arg23 : Memref sig .tc .vmem S1024x512 .f32) (harg23 : arg23.IsWhole) (arg24 : Memref sig .tc .vmem S1x256 .f32) (harg24 : arg24.IsWhole) (arg25 : Memref sig .tc .vmem S1x128 .f32) (harg25 : arg25.IsWhole) (arg26 : Memref sig .tc .vmem S1x1024 .f32) (harg26 : arg26.IsWhole)
  (f1 : arg1.view.ty.Contents (Elt F)) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (f17 : arg17.view.ty.Contents (Elt F)) (f18 : arg18.view.ty.Contents (Elt F)) (f19 : arg19.view.ty.Contents (Elt F)) (f20 : arg20.view.ty.Contents (Elt F)) (f21 : arg21.view.ty.Contents (Elt F)) (f22 : arg22.view.ty.Contents (Elt F)) (f23 : arg23.view.ty.Contents (Elt F)) (f24 : arg24.view.ty.Contents (Elt F)) (f25 : arg25.view.ty.Contents (Elt F)) (f26 : arg26.view.ty.Contents (Elt F))

set_option maxHeartbeats 16000000 in
theorem point_first (hc0 : cond0_0 i) (hc1 : ¬ cond0_1 i) :
    before c arg1 arg2 arg3 arg4 arg5 arg6 arg7 arg8 arg9 arg10 arg11 arg12 arg13 arg14 arg15 arg16 arg17 arg18 arg19 arg20 arg21 arg22 arg23 arg24 arg25 arg26 f1 f2 f3 f4 f5 f6 f7 f8 f9 f10 f11 f12 f13 f14 f15 f16 f17 f18 f19 f20 f21 f22 f23 f24 f25 f26
      ⊢ wp frame (wpE (defs₀ (F := F)) Variants.none (c : Thread nD τ) none) Set.univ (cc0_mla_project_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26)
          (fun _ => after c arg1 arg2 arg3 arg4 arg5 arg6 arg7 arg8 arg9 arg10 arg11 arg12 arg13 arg14 arg15 arg16 arg17 arg18 arg19 arg20 arg21 arg22 arg23 arg24 arg25 arg26 f1 f2 f3 f4 f5 f6 f7 f8 f9 f10 f11 f12 f13 f14 f15 f16 f17 f18 (blkOf arg1 arg2 arg3 arg4 arg5 arg6 arg7 arg8 arg9 arg10 arg11 arg12 arg13 arg14 arg15 arg16 arg17 arg18 f1 f2 f3 f4 f5 f6 f7 f8 f9 f10 f11 f12 f13 f14 f15 f16 f17 f18) (first (blkOf arg1 arg2 arg3 arg4 arg5 arg6 arg7 arg8 arg9 arg10 arg11 arg12 arg13 arg14 arg15 arg16 arg17 arg18 f1 f2 f3 f4 f5 f6 f7 f8 f9 f10 f11 f12 f13 f14 f15 f16 f17 f18))) := by
  simp only [cc0_mla_project_bwd_eq_skeleton]; unfold cc0_mla_project_bwd_skel
  simp only [k0_part1_eq_skeleton, k0_part2_eq_skeleton, k0_part3_eq_skeleton, k0_part4_eq_skeleton, k0_part5_eq_skeleton]
  iintro ⟨H1, H2, H3, H4, H5, H6, H7, H8, H9, H10, H11, H12, H13, H14, H15, H16, H17, H18, H19, H20, H21, H22, H23, H24, H25, H26⟩
  sl_exec (disch := first | sl_exact hc0 | sl_exact hc1)
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]
  · iexists _; isplitl [H19]; · iexact H19
    ipureintro
    rw [View.read_writes_full]
    sl_unfold_run_names
    simp only [load1024x512, load128x2048, load1x1024, load1x128, load1x256, load256x1024, load256x128, load256x2048, load256x256, load256x512]
    rfl
  isplitl [H20]
  · iexists _; isplitl [H20]; · iexact H20
    ipureintro
    rw [View.read_writes_full]
    sl_unfold_run_names
    simp only [load1024x512, load128x2048, load1x1024, load1x128, load1x256, load256x1024, load256x128, load256x2048, load256x256, load256x512]
    rfl
  isplitl [H21]
  · iexists _; isplitl [H21]; · iexact H21
    ipureintro
    rw [View.read_writes_full]
    sl_unfold_run_names
    simp only [load1024x512, load128x2048, load1x1024, load1x128, load1x256, load256x1024, load256x128, load256x2048, load256x256, load256x512]
    rfl
  isplitl [H22]
  · iexists _; isplitl [H22]; · iexact H22
    ipureintro
    rw [View.read_writes_full]
    sl_unfold_run_names
    simp only [load1024x512, load128x2048, load1x1024, load1x128, load1x256, load256x1024, load256x128, load256x2048, load256x256, load256x512]
    rfl
  isplitl [H23]
  · iexists _; isplitl [H23]; · iexact H23
    ipureintro
    rw [View.read_writes_full]
    sl_unfold_run_names
    simp only [load1024x512, load128x2048, load1x1024, load1x128, load1x256, load256x1024, load256x128, load256x2048, load256x256, load256x512]
    rfl
  isplitl [H24]
  · iexists _; isplitl [H24]; · iexact H24
    ipureintro
    rw [View.read_writes_full]
    sl_unfold_run_names
    simp only [load1024x512, load128x2048, load1x1024, load1x128, load1x256, load256x1024, load256x128, load256x2048, load256x256, load256x512]
    rfl
  isplitl [H25]
  · iexists _; isplitl [H25]; · iexact H25
    ipureintro
    rw [View.read_writes_full]
    sl_unfold_run_names
    simp only [load1024x512, load128x2048, load1x1024, load1x128, load1x256, load256x1024, load256x128, load256x2048, load256x256, load256x512]
    rfl
  · iexists _; isplitl [H26]; · iexact H26
    ipureintro
    rw [View.read_writes_full]
    sl_unfold_run_names
    simp only [load1024x512, load128x2048, load1x1024, load1x128, load1x256, load256x1024, load256x128, load256x2048, load256x256, load256x512]
    rfl

end

end Cert.ProjKernelIdeal.Hand
-- ==== Proof.ProjFirstOwns.lean ====
module

public import proofs.«01_k».proof.Proof.ProjFirst

/-! # The latent projections' backward call: a first point, buffer by buffer

The run over what every buffer holds. -/

@[expose] public section

set_option maxRecDepth 16384

noncomputable section

namespace Cert.ProjKernelIdeal.Hand

open Cert.ProjKernelIdeal Cert.ProjKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 8000000 in
theorem first_owns (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x1024 .f32) (harg3 : arg3.IsWhole) (arg4 : Memref sig .tc .vmem S256x512 .f32) (harg4 : arg4.IsWhole) (arg5 : Memref sig .tc .vmem S256x256 .bf16) (harg5 : arg5.IsWhole) (arg6 : Memref sig .tc .vmem S256x128 .bf16) (harg6 : arg6.IsWhole) (arg7 : Memref sig .tc .vmem S256x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S1x1024 .f32) (harg13 : arg13.IsWhole) (arg14 : Memref sig .tc .vmem S1x256 .f32) (harg14 : arg14.IsWhole) (arg15 : Memref sig .tc .vmem S1x128 .f32) (harg15 : arg15.IsWhole) (arg16 : Memref sig .tc .vmem S256x2048 .f32) (harg16 : arg16.IsWhole) (arg17 : Memref sig .tc .vmem S128x2048 .f32) (harg17 : arg17.IsWhole) (arg18 : Memref sig .tc .vmem S1024x512 .f32) (harg18 : arg18.IsWhole) (arg19 : Memref sig .tc .vmem S256x1024 .f32) (harg19 : arg19.IsWhole) (arg20 : Memref sig .tc .vmem S256x1024 .bf16) (harg20 : arg20.IsWhole) (arg21 : Memref sig .tc .vmem S256x2048 .f32) (harg21 : arg21.IsWhole) (arg22 : Memref sig .tc .vmem S128x2048 .f32) (harg22 : arg22.IsWhole) (arg23 : Memref sig .tc .vmem S1024x512 .f32) (harg23 : arg23.IsWhole) (arg24 : Memref sig .tc .vmem S1x256 .f32) (harg24 : arg24.IsWhole) (arg25 : Memref sig .tc .vmem S1x128 .f32) (harg25 : arg25.IsWhole) (arg26 : Memref sig .tc .vmem S1x1024 .f32) (harg26 : arg26.IsWhole) (hc0 : cond0_0 i) (hc1 : ¬ cond0_1 i) (b : Blk F) {X1 : Type} {X2 : Type} {X3 : Type} {X4 : Type} {X5 : Type} {X6 : Type} {X7 : Type} {X8 : Type} {X9 : Type} {X10 : Type} {X11 : Type} {X12 : Type} {X13 : Type} {X14 : Type} {X15 : Type} {X16 : Type} {X17 : Type} {X18 : Type} {X19 : Type} {X20 : Type} {X21 : Type} {X22 : Type} {X23 : Type} {X24 : Type} {X25 : Type} {X26 : Type} (g19 : X19 → Vec F S256x1024 .f32) (g20 : X20 → Vec F S256x1024 .bf16) (g21 : X21 → Vec F S256x2048 .f32) (g22 : X22 → Vec F S128x2048 .f32) (g23 : X23 → Vec F S1024x512 .f32) (g24 : X24 → Vec F S1x256 .f32) (g25 : X25 → Vec F S1x128 .f32) (g26 : X26 → Vec F S1x1024 .f32) :
    (iprop((∃ d : X1, owns (c : Thread nD τ) arg1 fullShare b.dq)
      ∗ (∃ d : X2, owns (c : Thread nD τ) arg2 fullShare b.dkv)
      ∗ (∃ d : X3, owns (c : Thread nD τ) arg3 fullShare b.dkr)
      ∗ (∃ d : X4, owns (c : Thread nD τ) arg4 fullShare b.lat)
      ∗ (∃ d : X5, owns (c : Thread nD τ) arg5 fullShare b.cqn)
      ∗ (∃ d : X6, owns (c : Thread nD τ) arg6 fullShare b.ckvn)
      ∗ (∃ d : X7, owns (c : Thread nD τ) arg7 fullShare b.h)
      ∗ (∃ d : X8, owns (c : Thread nD τ) arg8 fullShare b.x)
      ∗ (∃ d : X9, owns (c : Thread nD τ) arg9 fullShare b.res)
      ∗ (∃ d : X10, owns (c : Thread nD τ) arg10 fullShare b.cs)
      ∗ (∃ d : X11, owns (c : Thread nD τ) arg11 fullShare b.s1)
      ∗ (∃ d : X12, owns (c : Thread nD τ) arg12 fullShare b.s2)
      ∗ (∃ d : X13, owns (c : Thread nD τ) arg13 fullShare b.g)
      ∗ (∃ d : X14, owns (c : Thread nD τ) arg14 fullShare b.qg)
      ∗ (∃ d : X15, owns (c : Thread nD τ) arg15 fullShare b.kg)
      ∗ (∃ d : X16, owns (c : Thread nD τ) arg16 fullShare b.wq)
      ∗ (∃ d : X17, owns (c : Thread nD τ) arg17 fullShare b.wkv)
      ∗ (∃ d : X18, owns (c : Thread nD τ) arg18 fullShare b.wdkv)
      ∗ (∃ d : X19, owns (c : Thread nD τ) arg19 fullShare (g19 d))
      ∗ (∃ d : X20, owns (c : Thread nD τ) arg20 fullShare (g20 d))
      ∗ (∃ d : X21, owns (c : Thread nD τ) arg21 fullShare (g21 d))
      ∗ (∃ d : X22, owns (c : Thread nD τ) arg22 fullShare (g22 d))
      ∗ (∃ d : X23, owns (c : Thread nD τ) arg23 fullShare (g23 d))
      ∗ (∃ d : X24, owns (c : Thread nD τ) arg24 fullShare (g24 d))
      ∗ (∃ d : X25, owns (c : Thread nD τ) arg25 fullShare (g25 d))
      ∗ (∃ d : X26, owns (c : Thread nD τ) arg26 fullShare (g26 d))) : sProp 𝕄)
      ⊢ wp frame (wpE (defs₀ (F := F)) Variants.none (c : Thread nD τ) none) Set.univ (cc0_mla_project_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26)
          (fun _ => iprop(owns (c : Thread nD τ) arg1 fullShare b.dq
            ∗ owns (c : Thread nD τ) arg2 fullShare b.dkv
            ∗ owns (c : Thread nD τ) arg3 fullShare b.dkr
            ∗ owns (c : Thread nD τ) arg4 fullShare b.lat
            ∗ owns (c : Thread nD τ) arg5 fullShare b.cqn
            ∗ owns (c : Thread nD τ) arg6 fullShare b.ckvn
            ∗ owns (c : Thread nD τ) arg7 fullShare b.h
            ∗ owns (c : Thread nD τ) arg8 fullShare b.x
            ∗ owns (c : Thread nD τ) arg9 fullShare b.res
            ∗ owns (c : Thread nD τ) arg10 fullShare b.cs
            ∗ owns (c : Thread nD τ) arg11 fullShare b.s1
            ∗ owns (c : Thread nD τ) arg12 fullShare b.s2
            ∗ owns (c : Thread nD τ) arg13 fullShare b.g
            ∗ owns (c : Thread nD τ) arg14 fullShare b.qg
            ∗ owns (c : Thread nD τ) arg15 fullShare b.kg
            ∗ owns (c : Thread nD τ) arg16 fullShare b.wq
            ∗ owns (c : Thread nD τ) arg17 fullShare b.wkv
            ∗ owns (c : Thread nD τ) arg18 fullShare b.wdkv
            ∗ owns (c : Thread nD τ) arg19 fullShare b.dx
            ∗ owns (c : Thread nD τ) arg20 fullShare b.dxb
            ∗ owns (c : Thread nD τ) arg21 fullShare (first b).1
            ∗ owns (c : Thread nD τ) arg22 fullShare (first b).2.1
            ∗ owns (c : Thread nD τ) arg23 fullShare (first b).2.2.1
            ∗ owns (c : Thread nD τ) arg24 fullShare (first b).2.2.2.1
            ∗ owns (c : Thread nD τ) arg25 fullShare (first b).2.2.2.2.1
            ∗ owns (c : Thread nD τ) arg26 fullShare (first b).2.2.2.2.2)) := by
  obtain ⟨v1, v2, v3, v4, v5, v6, v7, v8, v9, v10, v11, v12, v13, v14, v15, v16, v17, v18⟩ := b
  unfold owns
  dsimp only
  iintro ⟨⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩, ⟨%d11, %f11, %h11, H11⟩, ⟨%d12, %f12, %h12, H12⟩, ⟨%d13, %f13, %h13, H13⟩, ⟨%d14, %f14, %h14, H14⟩, ⟨%d15, %f15, %h15, H15⟩, ⟨%d16, %f16, %h16, H16⟩, ⟨%d17, %f17, %h17, H17⟩, ⟨%d18, %f18, %h18, H18⟩, ⟨%d19, %f19, %h19, H19⟩, ⟨%d20, %f20, %h20, H20⟩, ⟨%d21, %f21, %h21, H21⟩, ⟨%d22, %f22, %h22, H22⟩, ⟨%d23, %f23, %h23, H23⟩, ⟨%d24, %f24, %h24, H24⟩, ⟨%d25, %f25, %h25, H25⟩, ⟨%d26, %f26, %h26, H26⟩⟩
  subst h1 h2 h3 h4 h5 h6 h7 h8 h9 h10 h11 h12 h13 h14 h15 h16 h17 h18
  iapply (wp_wand_r frame (wpE (defs₀ (F := F)) Variants.none (c : Thread nD τ) none) Set.univ)
  isplitl [H1 H2 H3 H4 H5 H6 H7 H8 H9 H10 H11 H12 H13 H14 H15 H16 H17 H18 H19 H20 H21 H22 H23 H24 H25 H26]
  · iapply (point_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 f1 f2 f3 f4 f5 f6 f7 f8 f9 f10 f11 f12 f13 f14 f15 f16 f17 f18 f19 f20 f21 f22 f23 f24 f25 f26 hc0 hc1)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    iexact H26
  iintro %_ ⟨H1, H2, H3, H4, H5, H6, H7, H8, H9, H10, H11, H12, H13, H14, H15, H16, H17, H18, ⟨%e19, H19, %he19⟩, ⟨%e20, H20, %he20⟩, ⟨%e21, H21, %he21⟩, ⟨%e22, H22, %he22⟩, ⟨%e23, H23, %he23⟩, ⟨%e24, H24, %he24⟩, ⟨%e25, H25, %he25⟩, ⟨%e26, H26, %he26⟩⟩
  isplitl [H1]
  · iexists _; isplitr
    swap; · iexact H1
    ipureintro; exact rfl
  isplitl [H2]
  · iexists _; isplitr
    swap; · iexact H2
    ipureintro; exact rfl
  isplitl [H3]
  · iexists _; isplitr
    swap; · iexact H3
    ipureintro; exact rfl
  isplitl [H4]
  · iexists _; isplitr
    swap; · iexact H4
    ipureintro; exact rfl
  isplitl [H5]
  · iexists _; isplitr
    swap; · iexact H5
    ipureintro; exact rfl
  isplitl [H6]
  · iexists _; isplitr
    swap; · iexact H6
    ipureintro; exact rfl
  isplitl [H7]
  · iexists _; isplitr
    swap; · iexact H7
    ipureintro; exact rfl
  isplitl [H8]
  · iexists _; isplitr
    swap; · iexact H8
    ipureintro; exact rfl
  isplitl [H9]
  · iexists _; isplitr
    swap; · iexact H9
    ipureintro; exact rfl
  isplitl [H10]
  · iexists _; isplitr
    swap; · iexact H10
    ipureintro; exact rfl
  isplitl [H11]
  · iexists _; isplitr
    swap; · iexact H11
    ipureintro; exact rfl
  isplitl [H12]
  · iexists _; isplitr
    swap; · iexact H12
    ipureintro; exact rfl
  isplitl [H13]
  · iexists _; isplitr
    swap; · iexact H13
    ipureintro; exact rfl
  isplitl [H14]
  · iexists _; isplitr
    swap; · iexact H14
    ipureintro; exact rfl
  isplitl [H15]
  · iexists _; isplitr
    swap; · iexact H15
    ipureintro; exact rfl
  isplitl [H16]
  · iexists _; isplitr
    swap; · iexact H16
    ipureintro; exact rfl
  isplitl [H17]
  · iexists _; isplitr
    swap; · iexact H17
    ipureintro; exact rfl
  isplitl [H18]
  · iexists _; isplitr
    swap; · iexact H18
    ipureintro; exact rfl
  isplitl [H19]
  · iexists _; isplitr
    swap; · iexact H19
    ipureintro; exact he19
  isplitl [H20]
  · iexists _; isplitr
    swap; · iexact H20
    ipureintro; exact he20
  isplitl [H21]
  · iexists _; isplitr
    swap; · iexact H21
    ipureintro; exact he21
  isplitl [H22]
  · iexists _; isplitr
    swap; · iexact H22
    ipureintro; exact he22
  isplitl [H23]
  · iexists _; isplitr
    swap; · iexact H23
    ipureintro; exact he23
  isplitl [H24]
  · iexists _; isplitr
    swap; · iexact H24
    ipureintro; exact he24
  isplitl [H25]
  · iexists _; isplitr
    swap; · iexact H25
    ipureintro; exact he25
  · iexists _; isplitr
    swap; · iexact H26
    ipureintro; exact he26

end Cert.ProjKernelIdeal.Hand
-- ==== Proof.ProjNext.lean ====
module

public import proofs.«01_k».proof.Proof.ProjBlk

/-! # The latent projections' backward call: a further point

The body, run over buffers with any contents. -/

@[expose] public section

set_option maxRecDepth 16384

noncomputable section

namespace Cert.ProjKernelIdeal.Hand

open Cert.ProjKernelIdeal Cert.ProjKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x1024 .f32) (harg3 : arg3.IsWhole) (arg4 : Memref sig .tc .vmem S256x512 .f32) (harg4 : arg4.IsWhole) (arg5 : Memref sig .tc .vmem S256x256 .bf16) (harg5 : arg5.IsWhole) (arg6 : Memref sig .tc .vmem S256x128 .bf16) (harg6 : arg6.IsWhole) (arg7 : Memref sig .tc .vmem S256x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S1x1024 .f32) (harg13 : arg13.IsWhole) (arg14 : Memref sig .tc .vmem S1x256 .f32) (harg14 : arg14.IsWhole) (arg15 : Memref sig .tc .vmem S1x128 .f32) (harg15 : arg15.IsWhole) (arg16 : Memref sig .tc .vmem S256x2048 .f32) (harg16 : arg16.IsWhole) (arg17 : Memref sig .tc .vmem S128x2048 .f32) (harg17 : arg17.IsWhole) (arg18 : Memref sig .tc .vmem S1024x512 .f32) (harg18 : arg18.IsWhole) (arg19 : Memref sig .tc .vmem S256x1024 .f32) (harg19 : arg19.IsWhole) (arg20 : Memref sig .tc .vmem S256x1024 .bf16) (harg20 : arg20.IsWhole) (arg21 : Memref sig .tc .vmem S256x2048 .f32) (harg21 : arg21.IsWhole) (arg22 : Memref sig .tc .vmem S128x2048 .f32) (harg22 : arg22.IsWhole) (arg23 : Memref sig .tc .vmem S1024x512 .f32) (harg23 : arg23.IsWhole) (arg24 : Memref sig .tc .vmem S1x256 .f32) (harg24 : arg24.IsWhole) (arg25 : Memref sig .tc .vmem S1x128 .f32) (harg25 : arg25.IsWhole) (arg26 : Memref sig .tc .vmem S1x1024 .f32) (harg26 : arg26.IsWhole)
  (f1 : arg1.view.ty.Contents (Elt F)) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (f17 : arg17.view.ty.Contents (Elt F)) (f18 : arg18.view.ty.Contents (Elt F)) (f19 : arg19.view.ty.Contents (Elt F)) (f20 : arg20.view.ty.Contents (Elt F)) (f21 : arg21.view.ty.Contents (Elt F)) (f22 : arg22.view.ty.Contents (Elt F)) (f23 : arg23.view.ty.Contents (Elt F)) (f24 : arg24.view.ty.Contents (Elt F)) (f25 : arg25.view.ty.Contents (Elt F)) (f26 : arg26.view.ty.Contents (Elt F))

set_option maxHeartbeats 16000000 in
theorem point_next (hc0 : ¬ cond0_0 i) (hc1 : cond0_1 i) :
    before c arg1 arg2 arg3 arg4 arg5 arg6 arg7 arg8 arg9 arg10 arg11 arg12 arg13 arg14 arg15 arg16 arg17 arg18 arg19 arg20 arg21 arg22 arg23 arg24 arg25 arg26 f1 f2 f3 f4 f5 f6 f7 f8 f9 f10 f11 f12 f13 f14 f15 f16 f17 f18 f19 f20 f21 f22 f23 f24 f25 f26
      ⊢ wp frame (wpE (defs₀ (F := F)) Variants.none (c : Thread nD τ) none) Set.univ (cc0_mla_project_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26)
          (fun _ => after c arg1 arg2 arg3 arg4 arg5 arg6 arg7 arg8 arg9 arg10 arg11 arg12 arg13 arg14 arg15 arg16 arg17 arg18 arg19 arg20 arg21 arg22 arg23 arg24 arg25 arg26 f1 f2 f3 f4 f5 f6 f7 f8 f9 f10 f11 f12 f13 f14 f15 f16 f17 f18 (blkOf arg1 arg2 arg3 arg4 arg5 arg6 arg7 arg8 arg9 arg10 arg11 arg12 arg13 arg14 arg15 arg16 arg17 arg18 f1 f2 f3 f4 f5 f6 f7 f8 f9 f10 f11 f12 f13 f14 f15 f16 f17 f18) (next (blkOf arg1 arg2 arg3 arg4 arg5 arg6 arg7 arg8 arg9 arg10 arg11 arg12 arg13 arg14 arg15 arg16 arg17 arg18 f1 f2 f3 f4 f5 f6 f7 f8 f9 f10 f11 f12 f13 f14 f15 f16 f17 f18) (stOf arg21 arg22 arg23 arg24 arg25 arg26 f21 f22 f23 f24 f25 f26))) := by
  simp only [cc0_mla_project_bwd_eq_skeleton]; unfold cc0_mla_project_bwd_skel
  simp only [k0_part1_eq_skeleton, k0_part2_eq_skeleton, k0_part3_eq_skeleton, k0_part4_eq_skeleton, k0_part5_eq_skeleton]
  iintro ⟨H1, H2, H3, H4, H5, H6, H7, H8, H9, H10, H11, H12, H13, H14, H15, H16, H17, H18, H19, H20, H21, H22, H23, H24, H25, H26⟩
  sl_exec (disch := first | sl_exact hc0 | sl_exact hc1)
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]
  · iexists _; isplitl [H19]; · iexact H19
    ipureintro
    rw [View.read_writes_full]
    sl_unfold_run_names
    simp only [load1024x512, load128x2048, load1x1024, load1x128, load1x256, load256x1024, load256x128, load256x2048, load256x256, load256x512]
    rfl
  isplitl [H20]
  · iexists _; isplitl [H20]; · iexact H20
    ipureintro
    rw [View.read_writes_full]
    sl_unfold_run_names
    simp only [load1024x512, load128x2048, load1x1024, load1x128, load1x256, load256x1024, load256x128, load256x2048, load256x256, load256x512]
    rfl
  isplitl [H21]
  · iexists _; isplitl [H21]; · iexact H21
    ipureintro
    rw [View.read_writes_full]
    sl_unfold_run_names
    simp only [load1024x512, load128x2048, load1x1024, load1x128, load1x256, load256x1024, load256x128, load256x2048, load256x256, load256x512]
    rfl
  isplitl [H22]
  · iexists _; isplitl [H22]; · iexact H22
    ipureintro
    rw [View.read_writes_full]
    sl_unfold_run_names
    simp only [load1024x512, load128x2048, load1x1024, load1x128, load1x256, load256x1024, load256x128, load256x2048, load256x256, load256x512]
    rfl
  isplitl [H23]
  · iexists _; isplitl [H23]; · iexact H23
    ipureintro
    rw [View.read_writes_full]
    sl_unfold_run_names
    simp only [load1024x512, load128x2048, load1x1024, load1x128, load1x256, load256x1024, load256x128, load256x2048, load256x256, load256x512]
    rfl
  isplitl [H24]
  · iexists _; isplitl [H24]; · iexact H24
    ipureintro
    rw [View.read_writes_full]
    sl_unfold_run_names
    simp only [load1024x512, load128x2048, load1x1024, load1x128, load1x256, load256x1024, load256x128, load256x2048, load256x256, load256x512]
    rfl
  isplitl [H25]
  · iexists _; isplitl [H25]; · iexact H25
    ipureintro
    rw [View.read_writes_full]
    sl_unfold_run_names
    simp only [load1024x512, load128x2048, load1x1024, load1x128, load1x256, load256x1024, load256x128, load256x2048, load256x256, load256x512]
    rfl
  · iexists _; isplitl [H26]; · iexact H26
    ipureintro
    rw [View.read_writes_full]
    sl_unfold_run_names
    simp only [load1024x512, load128x2048, load1x1024, load1x128, load1x256, load256x1024, load256x128, load256x2048, load256x256, load256x512]
    rfl

end

end Cert.ProjKernelIdeal.Hand
-- ==== Proof.ProjNextOwns.lean ====
module

public import proofs.«01_k».proof.Proof.ProjNext

/-! # The latent projections' backward call: a further point, buffer by buffer

The run over what every buffer holds. -/

@[expose] public section

set_option maxRecDepth 16384

noncomputable section

namespace Cert.ProjKernelIdeal.Hand

open Cert.ProjKernelIdeal Cert.ProjKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 8000000 in
theorem next_owns (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x1024 .f32) (harg3 : arg3.IsWhole) (arg4 : Memref sig .tc .vmem S256x512 .f32) (harg4 : arg4.IsWhole) (arg5 : Memref sig .tc .vmem S256x256 .bf16) (harg5 : arg5.IsWhole) (arg6 : Memref sig .tc .vmem S256x128 .bf16) (harg6 : arg6.IsWhole) (arg7 : Memref sig .tc .vmem S256x1024 .bf16) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S1x1024 .f32) (harg13 : arg13.IsWhole) (arg14 : Memref sig .tc .vmem S1x256 .f32) (harg14 : arg14.IsWhole) (arg15 : Memref sig .tc .vmem S1x128 .f32) (harg15 : arg15.IsWhole) (arg16 : Memref sig .tc .vmem S256x2048 .f32) (harg16 : arg16.IsWhole) (arg17 : Memref sig .tc .vmem S128x2048 .f32) (harg17 : arg17.IsWhole) (arg18 : Memref sig .tc .vmem S1024x512 .f32) (harg18 : arg18.IsWhole) (arg19 : Memref sig .tc .vmem S256x1024 .f32) (harg19 : arg19.IsWhole) (arg20 : Memref sig .tc .vmem S256x1024 .bf16) (harg20 : arg20.IsWhole) (arg21 : Memref sig .tc .vmem S256x2048 .f32) (harg21 : arg21.IsWhole) (arg22 : Memref sig .tc .vmem S128x2048 .f32) (harg22 : arg22.IsWhole) (arg23 : Memref sig .tc .vmem S1024x512 .f32) (harg23 : arg23.IsWhole) (arg24 : Memref sig .tc .vmem S1x256 .f32) (harg24 : arg24.IsWhole) (arg25 : Memref sig .tc .vmem S1x128 .f32) (harg25 : arg25.IsWhole) (arg26 : Memref sig .tc .vmem S1x1024 .f32) (harg26 : arg26.IsWhole) (hc0 : ¬ cond0_0 i) (hc1 : cond0_1 i) (b : Blk F) (s : St F) {X1 : Type} {X2 : Type} {X3 : Type} {X4 : Type} {X5 : Type} {X6 : Type} {X7 : Type} {X8 : Type} {X9 : Type} {X10 : Type} {X11 : Type} {X12 : Type} {X13 : Type} {X14 : Type} {X15 : Type} {X16 : Type} {X17 : Type} {X18 : Type} {X19 : Type} {X20 : Type} {X21 : Type} {X22 : Type} {X23 : Type} {X24 : Type} {X25 : Type} {X26 : Type} (g19 : X19 → Vec F S256x1024 .f32) (g20 : X20 → Vec F S256x1024 .bf16) :
    (iprop((∃ d : X1, owns (c : Thread nD τ) arg1 fullShare b.dq)
      ∗ (∃ d : X2, owns (c : Thread nD τ) arg2 fullShare b.dkv)
      ∗ (∃ d : X3, owns (c : Thread nD τ) arg3 fullShare b.dkr)
      ∗ (∃ d : X4, owns (c : Thread nD τ) arg4 fullShare b.lat)
      ∗ (∃ d : X5, owns (c : Thread nD τ) arg5 fullShare b.cqn)
      ∗ (∃ d : X6, owns (c : Thread nD τ) arg6 fullShare b.ckvn)
      ∗ (∃ d : X7, owns (c : Thread nD τ) arg7 fullShare b.h)
      ∗ (∃ d : X8, owns (c : Thread nD τ) arg8 fullShare b.x)
      ∗ (∃ d : X9, owns (c : Thread nD τ) arg9 fullShare b.res)
      ∗ (∃ d : X10, owns (c : Thread nD τ) arg10 fullShare b.cs)
      ∗ (∃ d : X11, owns (c : Thread nD τ) arg11 fullShare b.s1)
      ∗ (∃ d : X12, owns (c : Thread nD τ) arg12 fullShare b.s2)
      ∗ (∃ d : X13, owns (c : Thread nD τ) arg13 fullShare b.g)
      ∗ (∃ d : X14, owns (c : Thread nD τ) arg14 fullShare b.qg)
      ∗ (∃ d : X15, owns (c : Thread nD τ) arg15 fullShare b.kg)
      ∗ (∃ d : X16, owns (c : Thread nD τ) arg16 fullShare b.wq)
      ∗ (∃ d : X17, owns (c : Thread nD τ) arg17 fullShare b.wkv)
      ∗ (∃ d : X18, owns (c : Thread nD τ) arg18 fullShare b.wdkv)
      ∗ (∃ d : X19, owns (c : Thread nD τ) arg19 fullShare (g19 d))
      ∗ (∃ d : X20, owns (c : Thread nD τ) arg20 fullShare (g20 d))
      ∗ (∃ d : X21, owns (c : Thread nD τ) arg21 fullShare s.1)
      ∗ (∃ d : X22, owns (c : Thread nD τ) arg22 fullShare s.2.1)
      ∗ (∃ d : X23, owns (c : Thread nD τ) arg23 fullShare s.2.2.1)
      ∗ (∃ d : X24, owns (c : Thread nD τ) arg24 fullShare s.2.2.2.1)
      ∗ (∃ d : X25, owns (c : Thread nD τ) arg25 fullShare s.2.2.2.2.1)
      ∗ (∃ d : X26, owns (c : Thread nD τ) arg26 fullShare s.2.2.2.2.2)) : sProp 𝕄)
      ⊢ wp frame (wpE (defs₀ (F := F)) Variants.none (c : Thread nD τ) none) Set.univ (cc0_mla_project_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26)
          (fun _ => iprop(owns (c : Thread nD τ) arg1 fullShare b.dq
            ∗ owns (c : Thread nD τ) arg2 fullShare b.dkv
            ∗ owns (c : Thread nD τ) arg3 fullShare b.dkr
            ∗ owns (c : Thread nD τ) arg4 fullShare b.lat
            ∗ owns (c : Thread nD τ) arg5 fullShare b.cqn
            ∗ owns (c : Thread nD τ) arg6 fullShare b.ckvn
            ∗ owns (c : Thread nD τ) arg7 fullShare b.h
            ∗ owns (c : Thread nD τ) arg8 fullShare b.x
            ∗ owns (c : Thread nD τ) arg9 fullShare b.res
            ∗ owns (c : Thread nD τ) arg10 fullShare b.cs
            ∗ owns (c : Thread nD τ) arg11 fullShare b.s1
            ∗ owns (c : Thread nD τ) arg12 fullShare b.s2
            ∗ owns (c : Thread nD τ) arg13 fullShare b.g
            ∗ owns (c : Thread nD τ) arg14 fullShare b.qg
            ∗ owns (c : Thread nD τ) arg15 fullShare b.kg
            ∗ owns (c : Thread nD τ) arg16 fullShare b.wq
            ∗ owns (c : Thread nD τ) arg17 fullShare b.wkv
            ∗ owns (c : Thread nD τ) arg18 fullShare b.wdkv
            ∗ owns (c : Thread nD τ) arg19 fullShare b.dx
            ∗ owns (c : Thread nD τ) arg20 fullShare b.dxb
            ∗ owns (c : Thread nD τ) arg21 fullShare (next b s).1
            ∗ owns (c : Thread nD τ) arg22 fullShare (next b s).2.1
            ∗ owns (c : Thread nD τ) arg23 fullShare (next b s).2.2.1
            ∗ owns (c : Thread nD τ) arg24 fullShare (next b s).2.2.2.1
            ∗ owns (c : Thread nD τ) arg25 fullShare (next b s).2.2.2.2.1
            ∗ owns (c : Thread nD τ) arg26 fullShare (next b s).2.2.2.2.2)) := by
  obtain ⟨v1, v2, v3, v4, v5, v6, v7, v8, v9, v10, v11, v12, v13, v14, v15, v16, v17, v18⟩ := b
  obtain ⟨v21, v22, v23, v24, v25, v26⟩ := s
  unfold owns
  dsimp only
  iintro ⟨⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩, ⟨%d11, %f11, %h11, H11⟩, ⟨%d12, %f12, %h12, H12⟩, ⟨%d13, %f13, %h13, H13⟩, ⟨%d14, %f14, %h14, H14⟩, ⟨%d15, %f15, %h15, H15⟩, ⟨%d16, %f16, %h16, H16⟩, ⟨%d17, %f17, %h17, H17⟩, ⟨%d18, %f18, %h18, H18⟩, ⟨%d19, %f19, %h19, H19⟩, ⟨%d20, %f20, %h20, H20⟩, ⟨%d21, %f21, %h21, H21⟩, ⟨%d22, %f22, %h22, H22⟩, ⟨%d23, %f23, %h23, H23⟩, ⟨%d24, %f24, %h24, H24⟩, ⟨%d25, %f25, %h25, H25⟩, ⟨%d26, %f26, %h26, H26⟩⟩
  subst h1 h2 h3 h4 h5 h6 h7 h8 h9 h10 h11 h12 h13 h14 h15 h16 h17 h18 h21 h22 h23 h24 h25 h26
  iapply (wp_wand_r frame (wpE (defs₀ (F := F)) Variants.none (c : Thread nD τ) none) Set.univ)
  isplitl [H1 H2 H3 H4 H5 H6 H7 H8 H9 H10 H11 H12 H13 H14 H15 H16 H17 H18 H19 H20 H21 H22 H23 H24 H25 H26]
  · iapply (point_next c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 f1 f2 f3 f4 f5 f6 f7 f8 f9 f10 f11 f12 f13 f14 f15 f16 f17 f18 f19 f20 f21 f22 f23 f24 f25 f26 hc0 hc1)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    iexact H26
  iintro %_ ⟨H1, H2, H3, H4, H5, H6, H7, H8, H9, H10, H11, H12, H13, H14, H15, H16, H17, H18, ⟨%e19, H19, %he19⟩, ⟨%e20, H20, %he20⟩, ⟨%e21, H21, %he21⟩, ⟨%e22, H22, %he22⟩, ⟨%e23, H23, %he23⟩, ⟨%e24, H24, %he24⟩, ⟨%e25, H25, %he25⟩, ⟨%e26, H26, %he26⟩⟩
  isplitl [H1]
  · iexists _; isplitr
    swap; · iexact H1
    ipureintro; exact rfl
  isplitl [H2]
  · iexists _; isplitr
    swap; · iexact H2
    ipureintro; exact rfl
  isplitl [H3]
  · iexists _; isplitr
    swap; · iexact H3
    ipureintro; exact rfl
  isplitl [H4]
  · iexists _; isplitr
    swap; · iexact H4
    ipureintro; exact rfl
  isplitl [H5]
  · iexists _; isplitr
    swap; · iexact H5
    ipureintro; exact rfl
  isplitl [H6]
  · iexists _; isplitr
    swap; · iexact H6
    ipureintro; exact rfl
  isplitl [H7]
  · iexists _; isplitr
    swap; · iexact H7
    ipureintro; exact rfl
  isplitl [H8]
  · iexists _; isplitr
    swap; · iexact H8
    ipureintro; exact rfl
  isplitl [H9]
  · iexists _; isplitr
    swap; · iexact H9
    ipureintro; exact rfl
  isplitl [H10]
  · iexists _; isplitr
    swap; · iexact H10
    ipureintro; exact rfl
  isplitl [H11]
  · iexists _; isplitr
    swap; · iexact H11
    ipureintro; exact rfl
  isplitl [H12]
  · iexists _; isplitr
    swap; · iexact H12
    ipureintro; exact rfl
  isplitl [H13]
  · iexists _; isplitr
    swap; · iexact H13
    ipureintro; exact rfl
  isplitl [H14]
  · iexists _; isplitr
    swap; · iexact H14
    ipureintro; exact rfl
  isplitl [H15]
  · iexists _; isplitr
    swap; · iexact H15
    ipureintro; exact rfl
  isplitl [H16]
  · iexists _; isplitr
    swap; · iexact H16
    ipureintro; exact rfl
  isplitl [H17]
  · iexists _; isplitr
    swap; · iexact H17
    ipureintro; exact rfl
  isplitl [H18]
  · iexists _; isplitr
    swap; · iexact H18
    ipureintro; exact rfl
  isplitl [H19]
  · iexists _; isplitr
    swap; · iexact H19
    ipureintro; exact he19
  isplitl [H20]
  · iexists _; isplitr
    swap; · iexact H20
    ipureintro; exact he20
  isplitl [H21]
  · iexists _; isplitr
    swap; · iexact H21
    ipureintro; exact he21
  isplitl [H22]
  · iexists _; isplitr
    swap; · iexact H22
    ipureintro; exact he22
  isplitl [H23]
  · iexists _; isplitr
    swap; · iexact H23
    ipureintro; exact he23
  isplitl [H24]
  · iexists _; isplitr
    swap; · iexact H24
    ipureintro; exact he24
  isplitl [H25]
  · iexists _; isplitr
    swap; · iexact H25
    ipureintro; exact he25
  · iexists _; isplitr
    swap; · iexact H26
    ipureintro; exact he26

end Cert.ProjKernelIdeal.Hand
-- ==== Proof.ProjFrame.lean ====
module

public import proofs.«01_k».proof.Proof.ProjFirstOwns
public import proofs.«01_k».proof.Proof.ProjNextOwns
public import proofs.«01_k».proof.Proof.Gen.ProjKernelIdeal.Launch
public import proofs.«01_k».proof.Proof.Gen.ProjKernelIdeal.Points
public import Idealize.ShloMosaic.Lib.Claim

/-! # The latent projections' backward call: the launch

The sums stay in their buffers over all points, and go out after the last. With the body run at a first and at a further
point the pipeline's launch gives the frame, and what the arrays hold. -/

@[expose] public section

set_option maxRecDepth 16384

noncomputable section

namespace Cert.ProjKernelIdeal.Hand

open Cert.ProjKernelIdeal Cert.ProjKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ

/-! ## Point by point -/

/-- What point `t` reads: its windows' blocks. -/
def pt (c : Dev nD) (t : Fin cfg0.N) : Blk F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t⟩

/-- The sums after point `n`. -/
def stN (c : Dev nD) : (n : ℕ) → n < cfg0.N → St F
  | 0, hn => first (pt m c ⟨0, hn⟩)
  | n + 1, hn => next (pt m c ⟨n + 1, hn⟩) (stN c n (Nat.lt_of_succ_lt hn))

theorem stN_first (c : Dev nD) (t : Fin cfg0.N) (h : t.val % 16 = 0) : stN m c t.val t.isLt = first (pt m c t) := by
  have hN : t.val < 16 := lt_of_lt_of_eq t.isLt (show cfg0.N = 16 from N_0)
  obtain ⟨n, hn⟩ := t
  cases n with
  | zero => rfl
  | succ n => exact absurd h (by dsimp only at hN ⊢; omega)

theorem stN_next (c : Dev nD) (t : Fin cfg0.N) (h : ¬ t.val % 16 = 0) :
    stN m c t.val t.isLt = next (pt m c t) (stN m c (t.val - 1) (Nat.lt_of_le_of_lt (Nat.sub_le _ _) t.isLt)) := by
  obtain ⟨n, hn⟩ := t
  cases n with
  | zero => exact absurd rfl h
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (pt m c t).dx
    | ⟨19, _⟩ => (pt m c t).dxb
    | ⟨20, _⟩ => (stN m c t.val t.isLt).1
    | ⟨21, _⟩ => (stN m c t.val t.isLt).2.1
    | ⟨22, _⟩ => (stN m c t.val t.isLt).2.2.1
    | ⟨23, _⟩ => (stN m c t.val t.isLt).2.2.2.1
    | ⟨24, _⟩ => (stN m c t.val t.isLt).2.2.2.2.1
    | ⟨25, _⟩ => (stN m c t.val t.isLt).2.2.2.2.2
    | ⟨_ + 26, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

section
variable (c : Dev nD) (t : Fin cfg0.N)
theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = iblk m c 5 t := by dsimp only [dats]
theorem after_6 : (dats m 0 c).after 6 t = iblk m c 6 t := by dsimp only [dats]
theorem after_7 : (dats m 0 c).after 7 t = iblk m c 7 t := by dsimp only [dats]
theorem after_8 : (dats m 0 c).after 8 t = iblk m c 8 t := by dsimp only [dats]
theorem after_9 : (dats m 0 c).after 9 t = iblk m c 9 t := by dsimp only [dats]
theorem after_10 : (dats m 0 c).after 10 t = iblk m c 10 t := by dsimp only [dats]
theorem after_11 : (dats m 0 c).after 11 t = iblk m c 11 t := by dsimp only [dats]
theorem after_12 : (dats m 0 c).after 12 t = iblk m c 12 t := by dsimp only [dats]
theorem after_13 : (dats m 0 c).after 13 t = iblk m c 13 t := by dsimp only [dats]
theorem after_14 : (dats m 0 c).after 14 t = iblk m c 14 t := by dsimp only [dats]
theorem after_15 : (dats m 0 c).after 15 t = iblk m c 15 t := by dsimp only [dats]
theorem after_16 : (dats m 0 c).after 16 t = iblk m c 16 t := by dsimp only [dats]
theorem after_17 : (dats m 0 c).after 17 t = iblk m c 17 t := by dsimp only [dats]
theorem after_18 : (dats m 0 c).after 18 t = (pt m c t).dx := by dsimp only [dats]
theorem after_19 : (dats m 0 c).after 19 t = (pt m c t).dxb := by dsimp only [dats]
theorem after_20 : (dats m 0 c).after 20 t = (stN m c t.val t.isLt).1 := by dsimp only [dats]
theorem after_21 : (dats m 0 c).after 21 t = (stN m c t.val t.isLt).2.1 := by dsimp only [dats]
theorem after_22 : (dats m 0 c).after 22 t = (stN m c t.val t.isLt).2.2.1 := by dsimp only [dats]
theorem after_23 : (dats m 0 c).after 23 t = (stN m c t.val t.isLt).2.2.2.1 := by dsimp only [dats]
theorem after_24 : (dats m 0 c).after 24 t = (stN m c t.val t.isLt).2.2.2.2.1 := by dsimp only [dats]
theorem after_25 : (dats m 0 c).after 25 t = (stN m c t.val t.isLt).2.2.2.2.2 := by dsimp only [dats]
theorem before_0 (d) : (dats m 0 c).before 0 t d = iblk m c 0 t := before0_0_of m (dats m 0 c) (A_eq m c 0) (after_0 m c) t d
theorem before_1 (d) : (dats m 0 c).before 1 t d = iblk m c 1 t := before0_1_of m (dats m 0 c) (A_eq m c 1) (after_1 m c) t d
theorem before_2 (d) : (dats m 0 c).before 2 t d = iblk m c 2 t := before0_2_of m (dats m 0 c) (A_eq m c 2) (after_2 m c) t d
theorem before_3 (d) : (dats m 0 c).before 3 t d = iblk m c 3 t := before0_3_of m (dats m 0 c) (A_eq m c 3) (after_3 m c) t d
theorem before_4 (d) : (dats m 0 c).before 4 t d = iblk m c 4 t := before0_4_of m (dats m 0 c) (A_eq m c 4) (after_4 m c) t d
theorem before_5 (d) : (dats m 0 c).before 5 t d = iblk m c 5 t := before0_5_of m (dats m 0 c) (A_eq m c 5) (after_5 m c) t d
theorem before_6 (d) : (dats m 0 c).before 6 t d = iblk m c 6 t := before0_6_of m (dats m 0 c) (A_eq m c 6) (after_6 m c) t d
theorem before_7 (d) : (dats m 0 c).before 7 t d = iblk m c 7 t := before0_7_of m (dats m 0 c) (A_eq m c 7) (after_7 m c) t d
theorem before_8 (d) : (dats m 0 c).before 8 t d = iblk m c 8 t := before0_8_of m (dats m 0 c) (A_eq m c 8) (after_8 m c) t d
theorem before_9 (d) : (dats m 0 c).before 9 t d = iblk m c 9 t := before0_9_of m (dats m 0 c) (A_eq m c 9) (after_9 m c) t d
theorem before_10 (d) : (dats m 0 c).before 10 t d = iblk m c 10 t := before0_10_of m (dats m 0 c) (A_eq m c 10) (after_10 m c) t d
theorem before_11 (d) : (dats m 0 c).before 11 t d = iblk m c 11 t := before0_11_of m (dats m 0 c) (A_eq m c 11) (after_11 m c) t d
theorem before_12 (d) : (dats m 0 c).before 12 t d = iblk m c 12 t := before0_12_of m (dats m 0 c) (A_eq m c 12) (after_12 m c) t d
theorem before_13 (d) : (dats m 0 c).before 13 t d = iblk m c 13 t := before0_13_of m (dats m 0 c) (A_eq m c 13) (after_13 m c) t d
theorem before_14 (d) : (dats m 0 c).before 14 t d = iblk m c 14 t := before0_14_of m (dats m 0 c) (A_eq m c 14) (after_14 m c) t d
theorem before_15 (d) : (dats m 0 c).before 15 t d = iblk m c 15 t := before0_15_of m (dats m 0 c) (A_eq m c 15) (after_15 m c) t d
theorem before_16 (d) : (dats m 0 c).before 16 t d = iblk m c 16 t := before0_16_of m (dats m 0 c) (A_eq m c 16) (after_16 m c) t d
theorem before_17 (d) : (dats m 0 c).before 17 t d = iblk m c 17 t := before0_17_of m (dats m 0 c) (A_eq m c 17) (after_17 m c) t d
theorem live20 : ∀ i : grid0.Coords, cfg0.idle 20 i = false := by decide +kernel
theorem before_20 (h0 : ¬ t.val % 16 = 0) (d) :
    (dats m 0 c).before 20 t d = (stN m c (t.val - 1) (Nat.lt_of_le_of_lt (Nat.sub_le _ _) t.isLt)).1 := by
  have hN : t.val < 16 := lt_of_lt_of_eq t.isLt (show cfg0.N = 16 from N_0)
  rw [Dat.before_out_kept (dats m 0 c) 20 rfl t (by omega) (Bool.eq_false_iff.mpr fun h => by have := (flush0_20 _).mp h; dsimp only at this; omega)
    (fun j => live20 j) (fun _ _ => rfl)]
  dsimp only [dats]
theorem live21 : ∀ i : grid0.Coords, cfg0.idle 21 i = false := by decide +kernel
theorem before_21 (h0 : ¬ t.val % 16 = 0) (d) :
    (dats m 0 c).before 21 t d = (stN m c (t.val - 1) (Nat.lt_of_le_of_lt (Nat.sub_le _ _) t.isLt)).2.1 := by
  have hN : t.val < 16 := lt_of_lt_of_eq t.isLt (show cfg0.N = 16 from N_0)
  rw [Dat.before_out_kept (dats m 0 c) 21 rfl t (by omega) (Bool.eq_false_iff.mpr fun h => by have := (flush0_21 _).mp h; dsimp only at this; omega)
    (fun j => live21 j) (fun _ _ => rfl)]
  dsimp only [dats]
theorem live22 : ∀ i : grid0.Coords, cfg0.idle 22 i = false := by decide +kernel
theorem before_22 (h0 : ¬ t.val % 16 = 0) (d) :
    (dats m 0 c).before 22 t d = (stN m c (t.val - 1) (Nat.lt_of_le_of_lt (Nat.sub_le _ _) t.isLt)).2.2.1 := by
  have hN : t.val < 16 := lt_of_lt_of_eq t.isLt (show cfg0.N = 16 from N_0)
  rw [Dat.before_out_kept (dats m 0 c) 22 rfl t (by omega) (Bool.eq_false_iff.mpr fun h => by have := (flush0_22 _).mp h; dsimp only at this; omega)
    (fun j => live22 j) (fun _ _ => rfl)]
  dsimp only [dats]
theorem live23 : ∀ i : grid0.Coords, cfg0.idle 23 i = false := by decide +kernel
theorem before_23 (h0 : ¬ t.val % 16 = 0) (d) :
    (dats m 0 c).before 23 t d = (stN m c (t.val - 1) (Nat.lt_of_le_of_lt (Nat.sub_le _ _) t.isLt)).2.2.2.1 := by
  have hN : t.val < 16 := lt_of_lt_of_eq t.isLt (show cfg0.N = 16 from N_0)
  rw [Dat.before_out_kept (dats m 0 c) 23 rfl t (by omega) (Bool.eq_false_iff.mpr fun h => by have := (flush0_23 _).mp h; dsimp only at this; omega)
    (fun j => live23 j) (fun _ _ => rfl)]
  dsimp only [dats]
theorem live24 : ∀ i : grid0.Coords, cfg0.idle 24 i = false := by decide +kernel
theorem before_24 (h0 : ¬ t.val % 16 = 0) (d) :
    (dats m 0 c).before 24 t d = (stN m c (t.val - 1) (Nat.lt_of_le_of_lt (Nat.sub_le _ _) t.isLt)).2.2.2.2.1 := by
  have hN : t.val < 16 := lt_of_lt_of_eq t.isLt (show cfg0.N = 16 from N_0)
  rw [Dat.before_out_kept (dats m 0 c) 24 rfl t (by omega) (Bool.eq_false_iff.mpr fun h => by have := (flush0_24 _).mp h; dsimp only at this; omega)
    (fun j => live24 j) (fun _ _ => rfl)]
  dsimp only [dats]
theorem live25 : ∀ i : grid0.Coords, cfg0.idle 25 i = false := by decide +kernel
theorem before_25 (h0 : ¬ t.val % 16 = 0) (d) :
    (dats m 0 c).before 25 t d = (stN m c (t.val - 1) (Nat.lt_of_le_of_lt (Nat.sub_le _ _) t.isLt)).2.2.2.2.2 := by
  have hN : t.val < 16 := lt_of_lt_of_eq t.isLt (show cfg0.N = 16 from N_0)
  rw [Dat.before_out_kept (dats m 0 c) 25 rfl t (by omega) (Bool.eq_false_iff.mpr fun h => by have := (flush0_25 _).mp h; dsimp only at this; omega)
    (fun j => live25 j) (fun _ _ => rfl)]
  dsimp only [dats]
end

/-! ## The body obligation -/

abbrev ms_0 (t : Fin cfg0.N) := win0_0.stage (cfg0.slots t 0)
abbrev ms_1 (t : Fin cfg0.N) := win0_1.stage (cfg0.slots t 1)
abbrev ms_2 (t : Fin cfg0.N) := win0_2.stage (cfg0.slots t 2)
abbrev ms_3 (t : Fin cfg0.N) := win0_3.stage (cfg0.slots t 3)
abbrev ms_4 (t : Fin cfg0.N) := win0_4.stage (cfg0.slots t 4)
abbrev ms_5 (t : Fin cfg0.N) := win0_5.stage (cfg0.slots t 5)
abbrev ms_6 (t : Fin cfg0.N) := win0_6.stage (cfg0.slots t 6)
abbrev ms_7 (t : Fin cfg0.N) := win0_7.stage (cfg0.slots t 7)
abbrev ms_8 (t : Fin cfg0.N) := win0_8.stage (cfg0.slots t 8)
abbrev ms_9 (t : Fin cfg0.N) := win0_9.stage (cfg0.slots t 9)
abbrev ms_10 (t : Fin cfg0.N) := win0_10.stage (cfg0.slots t 10)
abbrev ms_11 (t : Fin cfg0.N) := win0_11.stage (cfg0.slots t 11)
abbrev ms_12 (t : Fin cfg0.N) := win0_12.stage (cfg0.slots t 12)
abbrev ms_13 (t : Fin cfg0.N) := win0_13.stage (cfg0.slots t 13)
abbrev ms_14 (t : Fin cfg0.N) := win0_14.stage (cfg0.slots t 14)
abbrev ms_15 (t : Fin cfg0.N) := win0_15.stage (cfg0.slots t 15)
abbrev ms_16 (t : Fin cfg0.N) := win0_16.stage (cfg0.slots t 16)
abbrev ms_17 (t : Fin cfg0.N) := win0_17.stage (cfg0.slots t 17)
abbrev ms_18 (t : Fin cfg0.N) := win0_18.stage (cfg0.slots t 18)
abbrev ms_19 (t : Fin cfg0.N) := win0_19.stage (cfg0.slots t 19)
abbrev ms_20 (t : Fin cfg0.N) := win0_20.stage (cfg0.slots t 20)
abbrev ms_21 (t : Fin cfg0.N) := win0_21.stage (cfg0.slots t 21)
abbrev ms_22 (t : Fin cfg0.N) := win0_22.stage (cfg0.slots t 22)
abbrev ms_23 (t : Fin cfg0.N) := win0_23.stage (cfg0.slots t 23)
abbrev ms_24 (t : Fin cfg0.N) := win0_24.stage (cfg0.slots t 24)
abbrev ms_25 (t : Fin cfg0.N) := win0_25.stage (cfg0.slots t 25)
theorem leaves_0 (c : Dev nD) (t : Fin cfg0.N) : (dats m 0 c).leavesExact 0 t = owns (c : Thread nD τ) (ms_0 t) fullShare (iblk m c 0 t) := by
  unfold Dat.leavesExact; rw [liveAt0_0 t, after_0]
theorem leaves_1 (c : Dev nD) (t : Fin cfg0.N) : (dats m 0 c).leavesExact 1 t = owns (c : Thread nD τ) (ms_1 t) fullShare (iblk m c 1 t) := by
  unfold Dat.leavesExact; rw [liveAt0_1 t, after_1]
theorem leaves_2 (c : Dev nD) (t : Fin cfg0.N) : (dats m 0 c).leavesExact 2 t = owns (c : Thread nD τ) (ms_2 t) fullShare (iblk m c 2 t) := by
  unfold Dat.leavesExact; rw [liveAt0_2 t, after_2]
theorem leaves_3 (c : Dev nD) (t : Fin cfg0.N) : (dats m 0 c).leavesExact 3 t = owns (c : Thread nD τ) (ms_3 t) fullShare (iblk m c 3 t) := by
  unfold Dat.leavesExact; rw [liveAt0_3 t, after_3]
theorem leaves_4 (c : Dev nD) (t : Fin cfg0.N) : (dats m 0 c).leavesExact 4 t = owns (c : Thread nD τ) (ms_4 t) fullShare (iblk m c 4 t) := by
  unfold Dat.leavesExact; rw [liveAt0_4 t, after_4]
theorem leaves_5 (c : Dev nD) (t : Fin cfg0.N) : (dats m 0 c).leavesExact 5 t = owns (c : Thread nD τ) (ms_5 t) fullShare (iblk m c 5 t) := by
  unfold Dat.leavesExact; rw [liveAt0_5 t, after_5]
theorem leaves_6 (c : Dev nD) (t : Fin cfg0.N) : (dats m 0 c).leavesExact 6 t = owns (c : Thread nD τ) (ms_6 t) fullShare (iblk m c 6 t) := by
  unfold Dat.leavesExact; rw [liveAt0_6 t, after_6]
theorem leaves_7 (c : Dev nD) (t : Fin cfg0.N) : (dats m 0 c).leavesExact 7 t = owns (c : Thread nD τ) (ms_7 t) fullShare (iblk m c 7 t) := by
  unfold Dat.leavesExact; rw [liveAt0_7 t, after_7]
theorem leaves_8 (c : Dev nD) (t : Fin cfg0.N) : (dats m 0 c).leavesExact 8 t = owns (c : Thread nD τ) (ms_8 t) fullShare (iblk m c 8 t) := by
  unfold Dat.leavesExact; rw [liveAt0_8 t, after_8]
theorem leaves_9 (c : Dev nD) (t : Fin cfg0.N) : (dats m 0 c).leavesExact 9 t = owns (c : Thread nD τ) (ms_9 t) fullShare (iblk m c 9 t) := by
  unfold Dat.leavesExact; rw [liveAt0_9 t, after_9]
theorem leaves_10 (c : Dev nD) (t : Fin cfg0.N) : (dats m 0 c).leavesExact 10 t = owns (c : Thread nD τ) (ms_10 t) fullShare (iblk m c 10 t) := by
  unfold Dat.leavesExact; rw [liveAt0_10 t, after_10]
theorem leaves_11 (c : Dev nD) (t : Fin cfg0.N) : (dats m 0 c).leavesExact 11 t = owns (c : Thread nD τ) (ms_11 t) fullShare (iblk m c 11 t) := by
  unfold Dat.leavesExact; rw [liveAt0_11 t, after_11]
theorem leaves_12 (c : Dev nD) (t : Fin cfg0.N) : (dats m 0 c).leavesExact 12 t = owns (c : Thread nD τ) (ms_12 t) fullShare (iblk m c 12 t) := by
  unfold Dat.leavesExact; rw [liveAt0_12 t, after_12]
theorem leaves_13 (c : Dev nD) (t : Fin cfg0.N) : (dats m 0 c).leavesExact 13 t = owns (c : Thread nD τ) (ms_13 t) fullShare (iblk m c 13 t) := by
  unfold Dat.leavesExact; rw [liveAt0_13 t, after_13]
theorem leaves_14 (c : Dev nD) (t : Fin cfg0.N) : (dats m 0 c).leavesExact 14 t = owns (c : Thread nD τ) (ms_14 t) fullShare (iblk m c 14 t) := by
  unfold Dat.leavesExact; rw [liveAt0_14 t, after_14]
theorem leaves_15 (c : Dev nD) (t : Fin cfg0.N) : (dats m 0 c).leavesExact 15 t = owns (c : Thread nD τ) (ms_15 t) fullShare (iblk m c 15 t) := by
  unfold Dat.leavesExact; rw [liveAt0_15 t, after_15]
theorem leaves_16 (c : Dev nD) (t : Fin cfg0.N) : (dats m 0 c).leavesExact 16 t = owns (c : Thread nD τ) (ms_16 t) fullShare (iblk m c 16 t) := by
  unfold Dat.leavesExact; rw [liveAt0_16 t, after_16]
theorem leaves_17 (c : Dev nD) (t : Fin cfg0.N) : (dats m 0 c).leavesExact 17 t = owns (c : Thread nD τ) (ms_17 t) fullShare (iblk m c 17 t) := by
  unfold Dat.leavesExact; rw [liveAt0_17 t, after_17]
theorem leaves_18 (c : Dev nD) (t : Fin cfg0.N) : (dats m 0 c).leavesExact 18 t = owns (c : Thread nD τ) (ms_18 t) fullShare ((pt m c t).dx) := by
  unfold Dat.leavesExact; rw [liveAt0_18 t, after_18]
theorem leaves_19 (c : Dev nD) (t : Fin cfg0.N) : (dats m 0 c).leavesExact 19 t = owns (c : Thread nD τ) (ms_19 t) fullShare ((pt m c t).dxb) := by
  unfold Dat.leavesExact; rw [liveAt0_19 t, after_19]
theorem leaves_20 (c : Dev nD) (t : Fin cfg0.N) : (dats m 0 c).leavesExact 20 t = owns (c : Thread nD τ) (ms_20 t) fullShare ((stN m c t.val t.isLt).1) := by
  unfold Dat.leavesExact; rw [show cfg0.idle 20 (cfg0.grid.coords t) = false from live20 _, after_20]
theorem leaves_21 (c : Dev nD) (t : Fin cfg0.N) : (dats m 0 c).leavesExact 21 t = owns (c : Thread nD τ) (ms_21 t) fullShare ((stN m c t.val t.isLt).2.1) := by
  unfold Dat.leavesExact; rw [show cfg0.idle 21 (cfg0.grid.coords t) = false from live21 _, after_21]
theorem leaves_22 (c : Dev nD) (t : Fin cfg0.N) : (dats m 0 c).leavesExact 22 t = owns (c : Thread nD τ) (ms_22 t) fullShare ((stN m c t.val t.isLt).2.2.1) := by
  unfold Dat.leavesExact; rw [show cfg0.idle 22 (cfg0.grid.coords t) = false from live22 _, after_22]
theorem leaves_23 (c : Dev nD) (t : Fin cfg0.N) : (dats m 0 c).leavesExact 23 t = owns (c : Thread nD τ) (ms_23 t) fullShare ((stN m c t.val t.isLt).2.2.2.1) := by
  unfold Dat.leavesExact; rw [show cfg0.idle 23 (cfg0.grid.coords t) = false from live23 _, after_23]
theorem leaves_24 (c : Dev nD) (t : Fin cfg0.N) : (dats m 0 c).leavesExact 24 t = owns (c : Thread nD τ) (ms_24 t) fullShare ((stN m c t.val t.isLt).2.2.2.2.1) := by
  unfold Dat.leavesExact; rw [show cfg0.idle 24 (cfg0.grid.coords t) = false from live24 _, after_24]
theorem leaves_25 (c : Dev nD) (t : Fin cfg0.N) : (dats m 0 c).leavesExact 25 t = owns (c : Thread nD τ) (ms_25 t) fullShare ((stN m c t.val t.isLt).2.2.2.2.2) := by
  unfold Dat.leavesExact; rw [show cfg0.idle 25 (cfg0.grid.coords t) = false from live25 _, after_25]

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d))
    ∗ (∃ d, owns (c : Thread nD τ) (ms_12 t) fullShare ((dats m 0 c).before 12 t d))
    ∗ (∃ d, owns (c : Thread nD τ) (ms_13 t) fullShare ((dats m 0 c).before 13 t d))
    ∗ (∃ d, owns (c : Thread nD τ) (ms_14 t) fullShare ((dats m 0 c).before 14 t d))
    ∗ (∃ d, owns (c : Thread nD τ) (ms_15 t) fullShare ((dats m 0 c).before 15 t d))
    ∗ (∃ d, owns (c : Thread nD τ) (ms_16 t) fullShare ((dats m 0 c).before 16 t d))
    ∗ (∃ d, owns (c : Thread nD τ) (ms_17 t) fullShare ((dats m 0 c).before 17 t d))
    ∗ (∃ d, owns (c : Thread nD τ) (ms_18 t) fullShare ((dats m 0 c).before 18 t d))
    ∗ (∃ d, owns (c : Thread nD τ) (ms_19 t) fullShare ((dats m 0 c).before 19 t d))
    ∗ (∃ d, owns (c : Thread nD τ) (ms_20 t) fullShare ((dats m 0 c).before 20 t d))
    ∗ (∃ d, owns (c : Thread nD τ) (ms_21 t) fullShare ((dats m 0 c).before 21 t d))
    ∗ (∃ d, owns (c : Thread nD τ) (ms_22 t) fullShare ((dats m 0 c).before 22 t d))
    ∗ (∃ d, owns (c : Thread nD τ) (ms_23 t) fullShare ((dats m 0 c).before 23 t d))
    ∗ (∃ d, owns (c : Thread nD τ) (ms_24 t) fullShare ((dats m 0 c).before 24 t d))
    ∗ (∃ d, owns (c : Thread nD τ) (ms_25 t) fullShare ((dats m 0 c).before 25 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t)

set_option maxHeartbeats 4000000 in
theorem sound_first (c : Dev nD) (t : Fin cfg0.N) (h0 : t.val % 16 = 0) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  have hc0 := (hcond0_0 t).mpr h0
  have hc1 : ¬ cond0_1 (grid0.coords t) := fun h => absurd ((hcond0_1 t).mp h) (by omega)
  unfold bodyPre bodyPost bodyAt0
  simp only [before_0, before_1, before_2, before_3, before_4, before_5, before_6, before_7, before_8, before_9, before_10, before_11, before_12, before_13, before_14, before_15, before_16, before_17]
  rw [show (dats m 0 c).Φ t.succ = (dats m 0 c).Φ t.castSucc from rfl,
    show (dats m 0 c).owesAt () t.succ = (dats m 0 c).owesAt () t.castSucc from rfl,
    leaves_0, leaves_1, leaves_2, leaves_3, leaves_4, leaves_5, leaves_6, leaves_7, leaves_8, leaves_9, leaves_10, leaves_11, leaves_12, leaves_13, leaves_14, leaves_15, leaves_16, leaves_17, leaves_18, leaves_19, leaves_20, leaves_21, leaves_22, leaves_23, leaves_24, leaves_25, stN_first m c t h0]
  iintro ⟨Hg, Ho, H⟩
  iapply (wp_wand_r frame (wpE (defs₀ (F := F)) Variants.none (c : Thread nD τ) none) Set.univ)
  isplitl [H]
  · iapply (first_owns c (grid0.coords t) _ _ _ _ _ _ _ _ _ _ _ _ _ _ _ _ _ _ _ _ _ _ _ _ _ _ _ _ _ _ _ _ _ _ _ _ _ _ _ _ _ _ _ _ _ _ _ _ _ _ _ _  hc0 hc1 (pt m c t) (fun d => (dats m 0 c).before 18 t d) (fun d => (dats m 0 c).before 19 t d) (fun d => (dats m 0 c).before 20 t d) (fun d => (dats m 0 c).before 21 t d) (fun d => (dats m 0 c).before 22 t d) (fun d => (dats m 0 c).before 23 t d) (fun d => (dats m 0 c).before 24 t d) (fun d => (dats m 0 c).before 25 t d))
    iexact H
  iintro %_ H
  isplitl [Hg]; · iexact Hg
  isplitl [Ho]; · iexact Ho
  iexact H

set_option maxHeartbeats 4000000 in
theorem sound_next (c : Dev nD) (t : Fin cfg0.N) (h0 : ¬ t.val % 16 = 0) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  have hc0 : ¬ cond0_0 (grid0.coords t) := fun h => h0 ((hcond0_0 t).mp h)
  have hc1 := (hcond0_1 t).mpr (by omega)
  unfold bodyPre bodyPost bodyAt0
  simp only [before_0, before_1, before_2, before_3, before_4, before_5, before_6, before_7, before_8, before_9, before_10, before_11, before_12, before_13, before_14, before_15, before_16, before_17, before_20 m c t h0, before_21 m c t h0, before_22 m c t h0, before_23 m c t h0, before_24 m c t h0, before_25 m c t h0]
  rw [show (dats m 0 c).Φ t.succ = (dats m 0 c).Φ t.castSucc from rfl,
    show (dats m 0 c).owesAt () t.succ = (dats m 0 c).owesAt () t.castSucc from rfl,
    leaves_0, leaves_1, leaves_2, leaves_3, leaves_4, leaves_5, leaves_6, leaves_7, leaves_8, leaves_9, leaves_10, leaves_11, leaves_12, leaves_13, leaves_14, leaves_15, leaves_16, leaves_17, leaves_18, leaves_19, leaves_20, leaves_21, leaves_22, leaves_23, leaves_24, leaves_25, stN_next m c t h0]
  iintro ⟨Hg, Ho, H⟩
  iapply (wp_wand_r frame (wpE (defs₀ (F := F)) Variants.none (c : Thread nD τ) none) Set.univ)
  isplitl [H]
  · iapply (next_owns c (grid0.coords t) _ _ _ _ _ _ _ _ _ _ _ _ _ _ _ _ _ _ _ _ _ _ _ _ _ _ _ _ _ _ _ _ _ _ _ _ _ _ _ _ _ _ _ _ _ _ _ _ _ _ _ _  hc0 hc1 (pt m c t) _ (fun d => (dats m 0 c).before 18 t d) (fun d => (dats m 0 c).before 19 t d))
    iexact H
  iintro %_ H
  isplitl [Hg]; · iexact Hg
  isplitl [Ho]; · iexact Ho
  iexact H

theorem sound_body (c : Dev nD) (t : Fin cfg0.N) :
    bodyPre m c t ⊢ wp frame (wpE (defs₀ (F := F)) Variants.none c none) Set.univ (bodyAt0 t) (fun _ => bodyPost m c t) :=
  if h0 : t.val % 16 = 0 then sound_first m c t h0 else sound_next m c t h0

theorem row (t : Fin cfg0.N) : defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The run and the frame -/

set_option backward.isDefEq.respectTransparency.types false in
/-- Every execution ends, with every array of the pipeline at what the points leave, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) (run_main m ρ)) ((θ_run defs _ _).mono (fun _ h => h.2) (run_quiescent m ρ))

end Cert.ProjKernelIdeal.Hand
-- ==== Proof.ProjBits.lean ====
module

public import proofs.«01_k».proof.Proof.ProjFrame
public import proofs.«01_k».proof.Proof.Gen.ProjKernel
public import Idealize.ShloMosaic.PureOps.BitExact
public import Idealize.ShloMosaic.Lib.Claim

/-! # The latent projections' backward call at the machine's words

The printed kernel and its ideal text are one program, and the run over any float values is its run too. -/

@[expose] public section

set_option maxRecDepth 16384

noncomputable section

namespace Cert.ProjKernel.Hand

open Idealize.ShloMosaic

/-- The kernel as printed leaves its arguments and its semaphores as it found them. -/
theorem frame (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (by sl_kernel_rfl : θ_run (@Cert.ProjKernelIdeal.defs Bits _ _)
    (onTc (τ := Cert.ProjKernelIdeal.τ) (@Cert.ProjKernelIdeal.main Bits _ _)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) = _).mp (@Cert.ProjKernelIdeal.Hand.frame Bits _ m ρ)

end Cert.ProjKernel.Hand
-- ==== Proof.ProjReal.lean ====
module

public import proofs.«01_k».proof.Proof.Rms
public import Idealize.ShloMosaic.Lib.Pointwise
public import Idealize.ShloMosaic.Lib.Pipeline.ValueKit

/-!
# The latent projections' backward, over real numbers

Rows are normed and projected to 448 latent columns: 256 for the queries, 128 for keys and values, 64 for the rotary key.
The first two are normed again and projected up to the heads. Backward, the rotary columns of the queries and of the key
are turned back, and the cotangents go through the two up projections, their norms, the down projection and its norm.

The kernel keeps a head's 192 columns in 256 and the 448 latent ones in 512, the rest zero. It turns 128 columns back with
three tables, of which the last 64 columns are zero.
-/

@[expose] public section

noncomputable section

namespace Cert.Proj

open Idealize.ShloMosaic Cert.Reals

theorem word_256 : (Ideal.ofBits .f32 0x43800000#32 : EReal) = (((256 : ℕ) : ℝ) : EReal) := by
  simp [Ideal.ofBits, Ideal.ieee, ← EReal.coe_mul]
  norm_num

theorem word_128 : (Ideal.ofBits .f32 0x43000000#32 : EReal) = (((128 : ℕ) : ℝ) : EReal) := by
  simp [Ideal.ofBits, Ideal.ieee, ← EReal.coe_mul]
  norm_num

/-! ## The angles -/

/-- Position `p` times the frequency of column `k`, as both programs write it. -/
def angE (p : BitVec 32) (k : ℕ) : EReal :=
  FloatOps.sitofp (F := Ideal) .f32 p * Ideal.pow (Ideal.ofBits .f32 0x461C4000#32)
    (Ideal.div (-(Ideal.ofBits .f32 0x40000000#32 * FloatOps.sitofp (F := Ideal) .f32 (BitVec.ofNat 32 k))) (Ideal.ofBits .f32 0x42800000#32))

/-- It is a real number. -/
theorem angE_real (p : BitVec 32) (k : ℕ) : ∃ r : ℝ, angE p k = (r : EReal) := by
  have w2 : (Ideal.ofBits .f32 0x40000000#32 : EReal) = ((2 : ℝ) : EReal) := by
    simp [Ideal.ofBits, Ideal.ieee, ← EReal.coe_mul]
    norm_num
  have w64 : (Ideal.ofBits .f32 0x42800000#32 : EReal) = ((64 : ℝ) : EReal) := by
    simp [Ideal.ofBits, Ideal.ieee, ← EReal.coe_mul]
    norm_num
  have w4 : (Ideal.ofBits .f32 0x461C4000#32 : EReal) = ((10000 : ℝ) : EReal) := by
    simp [Ideal.ofBits, Ideal.ieee, ← EReal.coe_mul]
    norm_num
  have hs : ∀ p : BitVec 32, (FloatOps.sitofp (F := Ideal) .f32 p : EReal) = ((p.toInt : ℝ) : EReal) := fun p => rfl
  unfold angE
  rw [w2, w64, w4, hs, hs, ← EReal.coe_mul, ← EReal.coe_neg, coe_div _ (by norm_num)]
  exact ⟨_, (EReal.coe_mul _ _).symm⟩

/-- The angle. -/
def ang (p : BitVec 32) (k : ℕ) : ℝ := (angE p k).toReal

theorem angE_eq (p : BitVec 32) (k : ℕ) : angE p k = (ang p k : EReal) := by
  obtain ⟨r, h⟩ := angE_real p k
  unfold ang
  rw [h, EReal.toReal_coe]

theorem sin_ang (p : BitVec 32) (k : ℕ) : Ideal.sin (angE p k) = (Real.sin (ang p k) : EReal) := by rw [angE_eq]; rfl
theorem cos_ang (p : BitVec 32) (k : ℕ) : Ideal.cos (angE p k) = (Real.cos (ang p k) : EReal) := by rw [angE_eq]; rfl

theorem zero_word : (FloatOps.sitofp (F := Ideal) .f32 0#32 : EReal) = ((0 : ℝ) : EReal) := by
  simp [FloatOps.sitofp]

/-! ## Padded rows -/

/-- A row of 448 in 512. -/
def padLat (f : Fin 448 → ℝ) (l : Fin 512) : ℝ := if h : l.val < 448 then f ⟨l.val, h⟩ else 0

/-- Eight heads of 192 in eight of 256. -/
def padHeads (f : Fin 1536 → ℝ) (l : Fin 2048) : ℝ :=
  if h : l.val % 256 < 192 then f ⟨l.val / 256 * 192 + l.val % 256, by omega⟩ else 0

theorem padHeads_pos (f : Fin 1536 → ℝ) (l : Fin 2048) (h : l.val % 256 < 192) : padHeads f l = f ⟨l.val / 256 * 192 + l.val % 256, by omega⟩ := by
  unfold padHeads
  rw [dif_pos h]

theorem padHeads_neg (f : Fin 1536 → ℝ) (l : Fin 2048) (h : ¬ l.val % 256 < 192) : padHeads f l = 0 := by
  unfold padHeads
  rw [dif_neg h]

/-- A row of 64 in 128. -/
def padRot (f : Fin 64 → ℝ) (l : Fin 128) : ℝ := if h : l.val < 64 then f ⟨l.val, h⟩ else 0

theorem padLat_lt (f : Fin 448 → ℝ) (l : Fin 512) (h : l.val < 448) : padLat f l = f ⟨l.val, h⟩ := dif_pos h

theorem sum_padLat (f g : Fin 448 → ℝ) : ∑ l, padLat f l * padLat g l = ∑ j, f j * g j := by
  rw [← Finset.sum_congr rfl fun (l : Fin 512) _ => rfl, Fin.sum_univ_add (a := 448) (b := 64) (fun l : Fin 512 => padLat f l * padLat g l)]
  have h1 : ∀ j : Fin 448, padLat f (Fin.castAdd 64 j) = f j := fun j => dif_pos j.isLt
  have h2 : ∀ j : Fin 448, padLat g (Fin.castAdd 64 j) = g j := fun j => dif_pos j.isLt
  have h3 : ∀ j : Fin 64, padLat f (Fin.natAdd 448 j) = 0 := fun j => dif_neg (by show ¬ 448 + j.val < 448; omega)
  simp only [h1, h2, h3, zero_mul, Finset.sum_const_zero, add_zero]

theorem sum_padHeads (f g : Fin 1536 → ℝ) : ∑ l, padHeads f l * padHeads g l = ∑ j, f j * g j := by
  have e1 : (∑ h : Fin 8, ∑ k : Fin 256, padHeads f ⟨h.val * 256 + k.val, by omega⟩ * padHeads g ⟨h.val * 256 + k.val, by omega⟩)
      = ∑ l, padHeads f l * padHeads g l := Fin.sum_mul_add_congr (fun h k hl => rfl) (hL := by rfl)
  have e2 : (∑ h : Fin 8, ∑ k : Fin 192, f ⟨h.val * 192 + k.val, by omega⟩ * g ⟨h.val * 192 + k.val, by omega⟩)
      = ∑ j, f j * g j := Fin.sum_mul_add_congr (fun h k hl => rfl) (hL := by rfl)
  rw [← e1, ← e2]
  refine Finset.sum_congr rfl fun h _ => ?_
  rw [Fin.sum_univ_add (a := 192) (b := 64) (fun k : Fin 256 => padHeads f ⟨h.val * 256 + k.val, by omega⟩ * padHeads g ⟨h.val * 256 + k.val, by omega⟩)]
  have h1 : ∀ (f : Fin 1536 → ℝ) (k : Fin 192), padHeads f ⟨h.val * 256 + (Fin.castAdd 64 k).val, by have := (Fin.castAdd 64 k).isLt; omega⟩
      = f ⟨h.val * 192 + k.val, by omega⟩ := fun f k => by
    refine (dif_pos (by show (h.val * 256 + k.val) % 256 < 192; omega)).trans ?_
    exact congrArg f (Fin.ext (by show (h.val * 256 + k.val) / 256 * 192 + (h.val * 256 + k.val) % 256 = h.val * 192 + k.val; omega))
  have h3 : ∀ k : Fin 64, padHeads f ⟨h.val * 256 + (Fin.natAdd 192 k).val, by have := (Fin.natAdd 192 k).isLt; omega⟩ = 0 :=
    fun k => dif_neg (by show ¬ (h.val * 256 + (192 + k.val)) % 256 < 192; omega)
  simp only [h1, h3, zero_mul, Finset.sum_const_zero, add_zero]

/-! ## The rotation -/

/-- A turned row's cotangent, turned back by the angles `a`. -/
def turn (a : Fin 32 → ℝ) (v : Fin 64 → ℝ) (j : Fin 64) : ℝ :=
  if h : j.val < 32 then v ⟨32 + j.val, by omega⟩ * Real.sin (a ⟨j.val, h⟩) + v j * Real.cos (a ⟨j.val, h⟩)
  else v j * Real.cos (a ⟨j.val - 32, by omega⟩) + -(v ⟨j.val - 32, by omega⟩) * Real.sin (a ⟨j.val - 32, by omega⟩)

/-- The three tables. -/
def tab0 (a : Fin 32 → ℝ) (j : Fin 128) : ℝ :=
  if h : j.val < 32 then Real.cos (a ⟨j.val, h⟩) else if h : j.val - 32 < 32 then Real.cos (a ⟨j.val - 32, h⟩) else 0
def tab1 (a : Fin 32 → ℝ) (j : Fin 128) : ℝ :=
  if j.val < 32 then 0 else if h : j.val - 32 < 32 then Real.sin (a ⟨j.val - 32, h⟩) else 0
def tab2 (a : Fin 32 → ℝ) (j : Fin 128) : ℝ := if h : j.val < 32 then -Real.sin (a ⟨j.val, h⟩) else 0

theorem turn_tables (a : Fin 32 → ℝ) (v : Fin 64 → ℝ) (j : Fin 128) :
    padRot v j * tab0 a j + padRot v ⟨(j.val + 128 - 96) % 128, Nat.mod_lt _ (by decide)⟩ * tab1 a ⟨(j.val + 128 - 96) % 128, Nat.mod_lt _ (by decide)⟩
      + padRot v ⟨(j.val + 128 - 32) % 128, Nat.mod_lt _ (by decide)⟩ * tab2 a ⟨(j.val + 128 - 32) % 128, Nat.mod_lt _ (by decide)⟩
      = padRot (turn a v) j := by
  by_cases h1 : j.val < 32
  · have u : (⟨(j.val + 128 - 96) % 128, Nat.mod_lt _ (by decide)⟩ : Fin 128) = ⟨32 + j.val, by omega⟩ := Fin.ext (by show (j.val + 128 - 96) % 128 = 32 + j.val; omega)
    have t2 : tab2 a ⟨(j.val + 128 - 32) % 128, Nat.mod_lt _ (by decide)⟩ = 0 := dif_neg (by show ¬ (j.val + 128 - 32) % 128 < 32; omega)
    have t1 : tab1 a ⟨32 + j.val, by omega⟩ = Real.sin (a ⟨j.val, h1⟩) := by
      refine (if_neg (by show ¬ 32 + j.val < 32; omega)).trans ((dif_pos (by show 32 + j.val - 32 < 32; omega)).trans ?_)
      exact congrArg (fun k => Real.sin (a k)) (Fin.ext (by show 32 + j.val - 32 = j.val; omega))
    have t0 : tab0 a j = Real.cos (a ⟨j.val, h1⟩) := dif_pos h1
    have p0 : ∀ v : Fin 64 → ℝ, padRot v j = v ⟨j.val, by omega⟩ := fun v => dif_pos (by omega)
    have p1 : padRot v ⟨32 + j.val, by omega⟩ = v ⟨32 + j.val, by omega⟩ := dif_pos (by show 32 + j.val < 64; omega)
    rw [u, t0, t1, t2, p0, p0, p1]
    unfold turn
    rw [dif_pos h1]
    ring
  have t2' : ¬ j.val < 32 := h1
  by_cases h2 : j.val < 64
  · have d : (⟨(j.val + 128 - 32) % 128, Nat.mod_lt _ (by decide)⟩ : Fin 128) = ⟨j.val - 32, by omega⟩ := Fin.ext (by show (j.val + 128 - 32) % 128 = j.val - 32; omega)
    have t1 : tab1 a ⟨(j.val + 128 - 96) % 128, Nat.mod_lt _ (by decide)⟩ = 0 :=
      (if_neg (by show ¬ (j.val + 128 - 96) % 128 < 32; omega)).trans (dif_neg (by show ¬ (j.val + 128 - 96) % 128 - 32 < 32; omega))
    have t0 : tab0 a j = Real.cos (a ⟨j.val - 32, by omega⟩) := (dif_neg h1).trans (dif_pos (by omega))
    have t2 : tab2 a ⟨j.val - 32, by omega⟩ = -Real.sin (a ⟨j.val - 32, by omega⟩) := dif_pos (by show j.val - 32 < 32; omega)
    have p0 : ∀ v : Fin 64 → ℝ, padRot v j = v ⟨j.val, by omega⟩ := fun v => dif_pos (by omega)
    have p1 : padRot v ⟨j.val - 32, by omega⟩ = v ⟨j.val - 32, by omega⟩ := dif_pos (by show j.val - 32 < 64; omega)
    rw [d, t0, t1, t2, p0, p0, p1]
    unfold turn
    rw [dif_neg h1]
    ring
  · have t0 : tab0 a j = 0 := (dif_neg h1).trans (dif_neg (by omega))
    have t1 : tab1 a ⟨(j.val + 128 - 96) % 128, Nat.mod_lt _ (by decide)⟩ = 0 := by
      unfold tab1
      by_cases h : (j.val + 128 - 96) % 128 < 32
      · exact if_pos h
      · exact (if_neg h).trans (dif_neg (by show ¬ (j.val + 128 - 96) % 128 - 32 < 32; omega))
    have t2 : tab2 a ⟨(j.val + 128 - 32) % 128, Nat.mod_lt _ (by decide)⟩ = 0 := dif_neg (by show ¬ (j.val + 128 - 32) % 128 < 32; omega)
    have p0 : padRot (turn a v) j = 0 := dif_neg h2
    rw [t0, t1, t2, p0]
    ring

/-! ## The arguments, and what is computed of them -/

structure Args where
  x : Fin 4096 → Fin 1024 → ℝ
  g : Fin 1024 → ℝ
  wd : Fin 1024 → Fin 448 → ℝ
  qg : Fin 256 → ℝ
  kg : Fin 128 → ℝ
  wq : Fin 256 → Fin 1536 → ℝ
  wu : Fin 128 → Fin 2048 → ℝ
  dq : Fin 4096 → Fin 8 → Fin 192 → ℝ
  dkv : Fin 4096 → Fin 8 → Fin 256 → ℝ
  dkr : Fin 4096 → Fin 8 → Fin 64 → ℝ
  ang : Fin 4096 → Fin 32 → ℝ

namespace Args

variable (A : Args)

def h (n : Fin 4096) (i : Fin 1024) : ℝ := A.x n i * Rms.rstd (A.x n) * A.g i
def lat (n : Fin 4096) (l : Fin 448) : ℝ := ∑ i, A.h n i * A.wd i l
def cq (n : Fin 4096) (k : Fin 256) : ℝ := A.lat n ⟨k.val, by omega⟩
def ck (n : Fin 4096) (k : Fin 128) : ℝ := A.lat n ⟨256 + k.val, by omega⟩
def cqn (n : Fin 4096) (k : Fin 256) : ℝ := A.cq n k * Rms.rstd (A.cq n) * A.qg k
def ckn (n : Fin 4096) (k : Fin 128) : ℝ := A.ck n k * Rms.rstd (A.ck n) * A.kg k

/-- A head's cotangent of the queries, its rotary columns turned back; and all heads' side by side. -/
def dqh (n : Fin 4096) (h : Fin 8) (j : Fin 192) : ℝ :=
  if hj : j.val < 128 then A.dq n h j else turn (A.ang n) (fun q => A.dq n h ⟨128 + q.val, by omega⟩) ⟨j.val - 128, by omega⟩
def dqf (n : Fin 4096) (l : Fin 1536) : ℝ := A.dqh n ⟨l.val / 192, by omega⟩ ⟨l.val % 192, by omega⟩
def dkf (n : Fin 4096) (l : Fin 2048) : ℝ := A.dkv n ⟨l.val / 256, by omega⟩ ⟨l.val % 256, by omega⟩

def dqn (n : Fin 4096) (k : Fin 256) : ℝ := ∑ l, A.dqf n l * A.wq k l
def dkn (n : Fin 4096) (k : Fin 128) : ℝ := ∑ l, A.dkf n l * A.wu k l
def cotq (n : Fin 4096) (k : Fin 256) : ℝ := A.dqn n k * A.qg k
def cotk (n : Fin 4096) (k : Fin 128) : ℝ := A.dkn n k * A.kg k
def dcq (n : Fin 4096) (k : Fin 256) : ℝ := Rms.grad (A.cq n) (A.cotq n) k
def dck (n : Fin 4096) (k : Fin 128) : ℝ := Rms.grad (A.ck n) (A.cotk n) k
def dr (n : Fin 4096) (j : Fin 64) : ℝ := turn (A.ang n) (fun q => ∑ h, A.dkr n h q) j

/-- The gradient of the latent row. -/
def dl (n : Fin 4096) (l : Fin 448) : ℝ :=
  if h : l.val < 256 then A.dcq n ⟨l.val, h⟩ else if h' : l.val - 256 < 128 then A.dck n ⟨l.val - 256, h'⟩ else A.dr n ⟨l.val - 256 - 128, by omega⟩

def dh (n : Fin 4096) (i : Fin 1024) : ℝ := ∑ l, A.dl n l * A.wd i l
def cotx (n : Fin 4096) (i : Fin 1024) : ℝ := A.dh n i * A.g i
def dx (n : Fin 4096) (i : Fin 1024) : ℝ := Rms.grad (A.x n) (A.cotx n) i

def gwq (k : Fin 256) (l : Fin 1536) : ℝ := ∑ n, A.cqn n k * A.dqf n l
def gwu (k : Fin 128) (l : Fin 2048) : ℝ := ∑ n, A.ckn n k * A.dkf n l
def gwd (i : Fin 1024) (l : Fin 448) : ℝ := ∑ n, A.h n i * A.dl n l
def gqg (k : Fin 256) : ℝ := ∑ n, A.dqn n k * (A.cq n k * Rms.rstd (A.cq n))
def gkg (k : Fin 128) : ℝ := ∑ n, A.dkn n k * (A.ck n k * Rms.rstd (A.ck n))
def gg (i : Fin 1024) : ℝ := ∑ n, A.dh n i * (A.x n i * Rms.rstd (A.x n))

/-- A head's cotangent of the queries in 256 columns, before its rotary columns are turned back. -/
def dqp (n : Fin 4096) (l : Fin 2048) : ℝ := padHeads (fun c => A.dq n ⟨c.val / 192, by omega⟩ ⟨c.val % 192, by omega⟩) l

theorem dqp_eq (n : Fin 4096) (l : Fin 2048) :
    A.dqp n l = if h : l.val % 256 < 192 then A.dq n ⟨l.val / 256, by omega⟩ ⟨l.val % 256, h⟩ else 0 := by
  unfold dqp padHeads
  by_cases h : l.val % 256 < 192
  · rw [dif_pos h, dif_pos h]
    refine congrArg₂ (fun a b => A.dq n a b) (Fin.ext ?_) (Fin.ext ?_)
    · show (l.val / 256 * 192 + l.val % 256) / 192 = l.val / 256
      omega
    · show (l.val / 256 * 192 + l.val % 256) % 192 = l.val % 256
      omega
  · rw [dif_neg h, dif_neg h]

theorem dqp_rot (n : Fin 4096) (h : Fin 8) (j : Fin 128) :
    A.dqp n ⟨256 * h.val + 128 + j.val, by omega⟩ = padRot (fun q => A.dq n h ⟨128 + q.val, by omega⟩) j := by
  unfold dqp padHeads padRot
  by_cases hj : j.val < 64
  · rw [dif_pos (by show (256 * h.val + 128 + j.val) % 256 < 192; omega), dif_pos hj]
    refine congrArg₂ (fun a b => A.dq n a b) (Fin.ext ?_) (Fin.ext ?_)
    · show ((256 * h.val + 128 + j.val) / 256 * 192 + (256 * h.val + 128 + j.val) % 256) / 192 = h.val
      omega
    · show ((256 * h.val + 128 + j.val) / 256 * 192 + (256 * h.val + 128 + j.val) % 256) % 192 = 128 + j.val
      omega
  · rw [dif_neg (by show ¬ (256 * h.val + 128 + j.val) % 256 < 192; omega), dif_neg hj]

theorem padHeads_dqf_low (n : Fin 4096) (h : Fin 8) (j : Fin 128) :
    padHeads (A.dqf n) ⟨256 * h.val + j.val, by omega⟩ = A.dqp n ⟨256 * h.val + j.val, by omega⟩ := by
  unfold dqp padHeads
  rw [dif_pos (by show (256 * h.val + j.val) % 256 < 192; omega), dif_pos (by show (256 * h.val + j.val) % 256 < 192; omega)]
  unfold dqf dqh
  exact dif_pos (by show ((256 * h.val + j.val) / 256 * 192 + (256 * h.val + j.val) % 256) % 192 < 128; omega)

theorem padHeads_dqf_rot (n : Fin 4096) (h : Fin 8) (j : Fin 128) : padHeads (A.dqf n) ⟨256 * h.val + 128 + j.val, by omega⟩
    = padRot (turn (A.ang n) (fun q => A.dq n h ⟨128 + q.val, by omega⟩)) j := by
  unfold padHeads padRot
  by_cases hj : j.val < 64
  · rw [dif_pos (by show (256 * h.val + 128 + j.val) % 256 < 192; omega), dif_pos hj]
    have e1 : ((256 * h.val + 128 + j.val) / 256 * 192 + (256 * h.val + 128 + j.val) % 256) / 192 = h.val := by omega
    have e2 : ((256 * h.val + 128 + j.val) / 256 * 192 + (256 * h.val + 128 + j.val) % 256) % 192 = 128 + j.val := by omega
    have f1 : (⟨((256 * h.val + 128 + j.val) / 256 * 192 + (256 * h.val + 128 + j.val) % 256) / 192, by omega⟩ : Fin 8) = h := Fin.ext e1
    have f2 : (⟨((256 * h.val + 128 + j.val) / 256 * 192 + (256 * h.val + 128 + j.val) % 256) % 192, by omega⟩ : Fin 192) = ⟨128 + j.val, by omega⟩ := Fin.ext e2
    refine (congrArg₂ (A.dqh n) f1 f2).trans ?_
    unfold dqh
    refine (dif_neg (by show ¬ 128 + j.val < 128; omega)).trans ?_
    exact congrArg (turn (A.ang n) _) (Fin.ext (by show 128 + j.val - 128 = j.val; omega))
  · rw [dif_neg (by show ¬ (256 * h.val + 128 + j.val) % 256 < 192; omega), dif_neg hj]

end Args

end Cert.Proj
-- ==== Proof.ProjKernelAt.lean ====
module

public import proofs.«01_k».proof.Proof.ProjBlk
public import Idealize.ShloMosaic.Lib.Pointwise
public import Idealize.ShloMosaic.Lib.Pipeline.ValueKit

/-!
# The latent projections' backward, kernel: one point's values at an index

The rotation of a head's last 128 columns is one function of them and of the three tables. The sixteen parts of 128 columns
are put side by side in one array, of which the products are taken.
-/

@[expose] public section

set_option maxRecDepth 16384

noncomputable section

open Idealize.ShloMosaic Idealize.ShloMosaic.TcCoe Idealize.SL.Sem Idealize.ShloMosaic.Pointwise

namespace Cert.ProjKernelIdeal.Hand

open Cert.ProjKernelIdeal Cert.ProjKernelIdeal.Gen

/-! ## The rotation -/

section
variable {F : FTy → Type} [FloatOps F]

/-- The transposed rotation of 128 columns. -/
def turned (v cs s1 s2 : FVec F S256x128 .f32) : FVec F S256x128 .f32 :=
  addf (addf (mulf v cs) (dynamicRotate 1 96#32 none (mulf v s1) rotates_S256x128_d1)) (dynamicRotate 1 32#32 none (mulf v s2) rotates_S256x128_d1)

theorem slices_part (n : Fin 16) : S256x2048.Slices ![0, 128 * n.val] S256x128 := by
  fin_cases n <;> decide

/-- Columns `128 n` to `128 n + 127`. -/
def part (v : FVec F S256x2048 .f32) (n : Fin 16) : FVec F S256x128 .f32 := extractStridedSlice S256x128 ![0, 128 * n.val] v (slices_part n)

/-- The part, turned where it is a head's second. -/
def turnedPart (v : FVec F S256x2048 .f32) (cs s1 s2 : FVec F S256x128 .f32) (n : Fin 16) : FVec F S256x128 .f32 :=
  if n.val % 2 = 0 then part v n else turned (part v n) cs s1 s2

theorem rot_eq (b : Blk F) : b.rot = truncf .bf16 (concatenate S256x2048 1 (List.ofFn fun n : Fin 16 =>
      (⟨S256x128, turnedPart (k0_pay8 b.dq) (k0_pay15 b.cs) (k0_pay16 b.s1) (k0_pay17 b.s2) n⟩ : (s : Shape) × (s.Idx → F .f32)))
        concatenates_S256x128_S256x128_S256x128_S256x128_S256x128_S256x128_S256x128_S256x128_S256x128_S256x128_S256x128_S256x128_S256x128_S256x128_S256x128_S256x128_S256x2048_d1) bitsLt_bf16_f32 := rfl
end

/-- The column that a rotation by 96 brings, and the one that a rotation by 32 does. -/
abbrev up (j : Fin 128) : Fin 128 := ⟨(j.val + 128 - 96) % 128, Nat.mod_lt _ (by decide)⟩
abbrev down (j : Fin 128) : Fin 128 := ⟨(j.val + 128 - 32) % 128, Nat.mod_lt _ (by decide)⟩

theorem turned_at (v cs s1 s2 : FVec Ideal S256x128 .f32) (r : Fin 256) (j : Fin 128) : turned v cs s1 s2 (ix2 r j)
    = (v (ix2 r j) * cs (ix2 r j) + v (ix2 r (up j)) * s1 (ix2 r (up j)) + v (ix2 r (down j)) * s2 (ix2 r (down j)) : EReal) := by
  unfold turned
  pointwise

theorem part_at (v : FVec Ideal S256x2048 .f32) (n : Fin 16) (r : Fin 256) (j : Fin 128) :
    part v n (ix2 r j) = v (ix2 r ⟨128 * n.val + j.val, by omega⟩) := by
  unfold part
  pointwise

section
variable (b : Blk Ideal)

theorem rot_at (r : Fin 256) (n : Fin 16) (j : Fin 128) :
    b.rot (ix2 r ⟨128 * n.val + j.val, by omega⟩) = turnedPart (k0_pay8 b.dq) (k0_pay15 b.cs) (k0_pay16 b.s1) (k0_pay17 b.s2) n (ix2 r j) := by
  rw [rot_eq]
  refine Eq.trans (b := concatenate S256x2048 1 (List.ofFn fun n : Fin 16 => (⟨S256x128, turnedPart (k0_pay8 b.dq) (k0_pay15 b.cs) (k0_pay16 b.s1) (k0_pay17 b.s2) n⟩ : (s : Shape) × (s.Idx → Ideal .f32))) concatenates_S256x128_S256x128_S256x128_S256x128_S256x128_S256x128_S256x128_S256x128_S256x128_S256x128_S256x128_S256x128_S256x128_S256x128_S256x128_S256x128_S256x2048_d1 (ix2 r ⟨128 * n.val + j.val, by omega⟩)) rfl ?_
  refine Idealize.ShloMosaic.concatenate_ofFn_apply (t := S256x2048) (s₁ := S256x128) 1 (fun n : Fin 16 => turnedPart (k0_pay8 b.dq) (k0_pay15 b.cs) (k0_pay16 b.s1) (k0_pay17 b.s2) n) concatenates_S256x128_S256x128_S256x128_S256x128_S256x128_S256x128_S256x128_S256x128_S256x128_S256x128_S256x128_S256x128_S256x128_S256x128_S256x128_S256x128_S256x2048_d1 rfl 128 rfl (ix2 r ⟨128 * n.val + j.val, by omega⟩) n ?_ (ix2 r j) ?_ ?_
  · show (128 * n.val + j.val) / 128 = n.val
    omega
  · show j.val = (128 * n.val + j.val) % 128
    omega
  · intro a ha
    match a with
    | ⟨0, _⟩ => rfl
    | ⟨1, _⟩ => exact absurd rfl ha

theorem rot_even (r : Fin 256) (h : Fin 8) (j : Fin 128) : b.rot (ix2 r ⟨256 * h.val + j.val, by omega⟩) = b.dq (ix2 r ⟨256 * h.val + j.val, by omega⟩) := by
  have e : (⟨256 * h.val + j.val, by omega⟩ : Fin 2048) = ⟨128 * (2 * h.val) + j.val, by omega⟩ := Fin.ext (by show 256 * h.val + j.val = 128 * (2 * h.val) + j.val; omega)
  rw [e, rot_at b r ⟨2 * h.val, by omega⟩ j]
  unfold turnedPart
  rw [if_pos (by show 2 * h.val % 2 = 0; omega), part_at]
  pointwise [k0_pay8]

theorem rot_odd (r : Fin 256) (h : Fin 8) (j : Fin 128) : b.rot (ix2 r ⟨256 * h.val + 128 + j.val, by omega⟩)
    = (b.dq (ix2 r ⟨256 * h.val + 128 + j.val, by omega⟩) * b.cs (ix2 r j)
      + b.dq (ix2 r ⟨256 * h.val + 128 + (up j).val, by have := (up j).isLt; omega⟩) * b.s1 (ix2 r (up j))
      + b.dq (ix2 r ⟨256 * h.val + 128 + (down j).val, by have := (down j).isLt; omega⟩) * b.s2 (ix2 r (down j)) : EReal) := by
  have e : ∀ j : Fin 128, (⟨256 * h.val + 128 + j.val, by omega⟩ : Fin 2048) = ⟨128 * (2 * h.val + 1) + j.val, by omega⟩ := fun j => Fin.ext (by show 256 * h.val + 128 + j.val = 128 * (2 * h.val + 1) + j.val; omega)
  rw [e, e, e, rot_at b r ⟨2 * h.val + 1, by omega⟩ j]
  unfold turnedPart
  rw [if_neg (by show ¬ (2 * h.val + 1) % 2 = 0; omega), turned_at, part_at, part_at, part_at]
  pointwise [k0_pay8, k0_pay15, k0_pay16, k0_pay17]

/-! ## The products and the norms -/

/-- A row's norm factor, of 256, 128 and 1024 columns. -/
abbrev rq (r : Fin 256) : EReal := k0_pay38 (F := Ideal) b.lat (ix2 r 0)
abbrev rk (r : Fin 256) : EReal := k0_pay46 (F := Ideal) b.lat (ix2 r 0)
abbrev rx (r : Fin 256) : EReal := k0_pay54 (F := Ideal) b.x (ix2 r 0)

/-- The columns of the latent queries and of the latent keys and values. -/
abbrev lo (j : Fin 256) : Fin 512 := ⟨j.val, by omega⟩
abbrev hi (j : Fin 128) : Fin 512 := ⟨256 + j.val, by omega⟩

theorem dcqn_at (r k : Fin 256) : b.dcqn (ix2 r k) = (∑ l, b.rot (ix2 r l) * b.wq (ix2 k l) : EReal) := by
  unfold Blk.dcqn
  show k0_pay36 _ _ _ _ _ _ _ _ _ _ _ _ _ _ _ _ _ (ix2 r k) = _
  unfold Blk.rot
  pointwise [k0_pay36, k0_pay21]

theorem rq_at (r : Fin 256) : rq b r
    = (Ideal.rsqrt (Ideal.div (∑ j, b.lat (ix2 r (lo j)) * b.lat (ix2 r (lo j))) (Ideal.ofBits .f32 0x43800000#32) + Ideal.ofBits .f32 0x358637BD#32) : EReal) := by
  show k0_pay38 (F := Ideal) b.lat (ix2 r 0) = _
  pointwise [k0_pay38, k0_pay37]

theorem rk_at (r : Fin 256) : rk b r
    = (Ideal.rsqrt (Ideal.div (∑ j, b.lat (ix2 r (hi j)) * b.lat (ix2 r (hi j))) (Ideal.ofBits .f32 0x43000000#32) + Ideal.ofBits .f32 0x358637BD#32) : EReal) := by
  show k0_pay46 (F := Ideal) b.lat (ix2 r 0) = _
  pointwise [k0_pay46, k0_pay45]

theorem rx_at (r : Fin 256) : rx b r
    = (Ideal.rsqrt (Ideal.div (∑ j, b.x (ix2 r j) * b.x (ix2 r j)) (Ideal.ofBits .f32 0x44800000#32) + Ideal.ofBits .f32 0x358637BD#32) : EReal) := by
  show k0_pay54 (F := Ideal) b.x (ix2 r 0) = _
  pointwise [k0_pay54]

theorem nq_at (r k : Fin 256) : k0_pay39 (k0_pay11 b.lat) (ix2 r k) = (b.lat (ix2 r (lo k)) * rq b r : EReal) := by
  pointwise [k0_pay39, k0_pay37, k0_pay11]

theorem nk_at (r : Fin 256) (k : Fin 128) : k0_pay47 (k0_pay11 b.lat) (ix2 r k) = (b.lat (ix2 r (hi k)) * rk b r : EReal) := by
  pointwise [k0_pay47, k0_pay45, k0_pay11]

theorem nx_at (r : Fin 256) (k : Fin 1024) : k0_pay55 b.x (ix2 r k) = (b.x (ix2 r k) * rx b r : EReal) := by
  pointwise [k0_pay55]

theorem dcq_at (r k : Fin 256) : b.dcq (ix2 r k) = (rq b r * (b.dcqn (ix2 r k) * b.qg (ix2 0 k)
    - k0_pay39 (k0_pay11 b.lat) (ix2 r k) * Ideal.div (∑ j, b.dcqn (ix2 r j) * b.qg (ix2 0 j) * k0_pay39 (k0_pay11 b.lat) (ix2 r j)) (Ideal.ofBits .f32 0x43800000#32)) : EReal) := by
  unfold Blk.dcq Blk.dcqn
  pointwise [k0_pay42, k0_pay41, k0_pay40, k0_pay19, k0_pay11]

theorem dckn_at (r : Fin 256) (k : Fin 128) : k0_pay44 (k0_pay9 b.dkv) b.wkv (ix2 r k) = (∑ l, b.dkv (ix2 r l) * b.wkv (ix2 k l) : EReal) := by
  pointwise [k0_pay44, k0_pay9]

theorem dckv_at (r : Fin 256) (k : Fin 128) : b.dckv (ix2 r k) = (rk b r * (k0_pay44 (k0_pay9 b.dkv) b.wkv (ix2 r k) * b.kg (ix2 0 k)
    - k0_pay47 (k0_pay11 b.lat) (ix2 r k) * Ideal.div (∑ j, k0_pay44 (k0_pay9 b.dkv) b.wkv (ix2 r j) * b.kg (ix2 0 j) * k0_pay47 (k0_pay11 b.lat) (ix2 r j)) (Ideal.ofBits .f32 0x43000000#32)) : EReal) := by
  unfold Blk.dckv
  pointwise [k0_pay48, k0_pay20, k0_pay11]

/-- The heads' sum of the rotary keys' cotangent. -/
def headSum : FVec Ideal S256x128 .f32 :=
  addf (addf (addf (k0_pay50 (k0_pay10 b.dkr)) (k0_pay51 (k0_pay10 b.dkr))) (extractStridedSlice S256x128 ![0, 768] (k0_pay10 b.dkr) slices_S256x1024_o0_768_S256x128))
    (extractStridedSlice S256x128 ![0, 896] (k0_pay10 b.dkr) slices_S256x1024_o0_896_S256x128)

theorem headSum_at (r : Fin 256) (j : Fin 128) : headSum b (ix2 r j) = (b.dkr (ix2 r ⟨j.val, by omega⟩) + b.dkr (ix2 r ⟨128 + j.val, by omega⟩)
    + b.dkr (ix2 r ⟨256 + j.val, by omega⟩) + b.dkr (ix2 r ⟨384 + j.val, by omega⟩) + b.dkr (ix2 r ⟨512 + j.val, by omega⟩)
    + b.dkr (ix2 r ⟨640 + j.val, by omega⟩) + b.dkr (ix2 r ⟨768 + j.val, by omega⟩) + b.dkr (ix2 r ⟨896 + j.val, by omega⟩) : EReal) := by
  unfold headSum
  pointwise [k0_pay50, k0_pay51, k0_pay10]

/-- The gradient of the latent row: three pieces side by side. -/
abbrev dlat : FVec Ideal S256x512 .bf16 := k0_pay52 (k0_pay10 b.dkr) (k0_pay15 b.cs) (k0_pay16 b.s1) (k0_pay17 b.s2) b.dcq b.dckv (k0_pay50 (k0_pay10 b.dkr)) (k0_pay51 (k0_pay10 b.dkr))

theorem dlat_eq : dlat b = truncf .bf16 (concatenate S256x512 1 [⟨S256x256, b.dcq⟩, ⟨S256x128, b.dckv⟩,
      ⟨S256x128, turned (headSum b) (k0_pay15 b.cs) (k0_pay16 b.s1) (k0_pay17 b.s2)⟩] concatenates_S256x256_S256x128_S256x128_S256x512_d1) bitsLt_bf16_f32 := rfl

theorem dlat_q (r j : Fin 256) : dlat b (ix2 r ⟨j.val, by omega⟩) = b.dcq (ix2 r j) := by
  rw [dlat_eq]
  refine Eq.trans (b := concatenate S256x512 1 [⟨S256x256, b.dcq⟩, ⟨S256x128, b.dckv⟩, ⟨S256x128, turned (headSum b) (k0_pay15 b.cs) (k0_pay16 b.s1) (k0_pay17 b.s2)⟩] concatenates_S256x256_S256x128_S256x128_S256x512_d1 (ix2 r ⟨j.val, by omega⟩)) rfl ?_
  refine concatenate_apply_piece (t := S256x512) 1 [⟨S256x256, b.dcq⟩, ⟨S256x128, b.dckv⟩, ⟨S256x128, turned (headSum b) (k0_pay15 b.cs) (k0_pay16 b.s1) (k0_pay17 b.s2)⟩] concatenates_S256x256_S256x128_S256x128_S256x512_d1 (ix2 r ⟨j.val, by omega⟩) 0 (by show 0 < 3; decide) S256x256 _ rfl rfl 0 rfl (ix2 r j) ?_ (Nat.zero_add _)
  intro a ha
  match a with
  | ⟨0, _⟩ => rfl
  | ⟨1, _⟩ => exact absurd rfl ha

theorem dlat_k (r : Fin 256) (j : Fin 128) : dlat b (ix2 r ⟨256 + j.val, by omega⟩) = b.dckv (ix2 r j) := by
  rw [dlat_eq]
  refine Eq.trans (b := concatenate S256x512 1 [⟨S256x256, b.dcq⟩, ⟨S256x128, b.dckv⟩, ⟨S256x128, turned (headSum b) (k0_pay15 b.cs) (k0_pay16 b.s1) (k0_pay17 b.s2)⟩] concatenates_S256x256_S256x128_S256x128_S256x512_d1 (ix2 r ⟨256 + j.val, by omega⟩)) rfl ?_
  refine concatenate_apply_piece (t := S256x512) 1 [⟨S256x256, b.dcq⟩, ⟨S256x128, b.dckv⟩, ⟨S256x128, turned (headSum b) (k0_pay15 b.cs) (k0_pay16 b.s1) (k0_pay17 b.s2)⟩] concatenates_S256x256_S256x128_S256x128_S256x512_d1 (ix2 r ⟨256 + j.val, by omega⟩) 1 (by show 1 < 3; decide) S256x128 _ rfl rfl 256 rfl (ix2 r j) ?_ rfl
  intro a ha
  match a with
  | ⟨0, _⟩ => rfl
  | ⟨1, _⟩ => exact absurd rfl ha

theorem dlat_r (r : Fin 256) (j : Fin 128) : dlat b (ix2 r ⟨384 + j.val, by omega⟩) = (headSum b (ix2 r j) * b.cs (ix2 r j)
      + headSum b (ix2 r (up j)) * b.s1 (ix2 r (up j)) + headSum b (ix2 r (down j)) * b.s2 (ix2 r (down j)) : EReal) := by
  rw [dlat_eq]
  refine Eq.trans (b := concatenate S256x512 1 [⟨S256x256, b.dcq⟩, ⟨S256x128, b.dckv⟩, ⟨S256x128, turned (headSum b) (k0_pay15 b.cs) (k0_pay16 b.s1) (k0_pay17 b.s2)⟩] concatenates_S256x256_S256x128_S256x128_S256x512_d1 (ix2 r ⟨384 + j.val, by omega⟩)) rfl ?_
  refine (concatenate_apply_piece (t := S256x512) 1 [⟨S256x256, b.dcq⟩, ⟨S256x128, b.dckv⟩, ⟨S256x128, turned (headSum b) (k0_pay15 b.cs) (k0_pay16 b.s1) (k0_pay17 b.s2)⟩] concatenates_S256x256_S256x128_S256x128_S256x512_d1 (ix2 r ⟨384 + j.val, by omega⟩) 2 (by show 2 < 3; decide) S256x128 _ rfl rfl 384 rfl (ix2 r j) ?_ rfl).trans ?_
  · intro a ha
    match a with
    | ⟨0, _⟩ => rfl
    | ⟨1, _⟩ => exact absurd rfl ha
  rw [turned_at]
  pointwise [k0_pay15, k0_pay16, k0_pay17]

/-- The cotangent of the normed rows. -/
abbrev dh : FVec Ideal S256x1024 .f32 := k0_pay53 (k0_pay10 b.dkr) (k0_pay15 b.cs) (k0_pay16 b.s1) (k0_pay17 b.s2) (k0_pay22 b.wdkv) b.dcq b.dckv (k0_pay50 (k0_pay10 b.dkr)) (k0_pay51 (k0_pay10 b.dkr))

theorem dh_at (r : Fin 256) (k : Fin 1024) : dh b (ix2 r k) = (∑ l, dlat b (ix2 r l) * b.wdkv (ix2 k l) : EReal) := by
  pointwise [k0_pay53, k0_pay22]

/-- The norm's gradient of it. -/
def dn (r : Fin 256) (k : Fin 1024) : EReal := rx b r * (dh b (ix2 r k) * b.g (ix2 0 k)
    - k0_pay55 b.x (ix2 r k) * Ideal.div (∑ j, dh b (ix2 r j) * b.g (ix2 0 j) * k0_pay55 b.x (ix2 r j)) (Ideal.ofBits .f32 0x44800000#32))

theorem dx_at (r : Fin 256) (k : Fin 1024) : b.dx (ix2 r k) = dn b r k + b.res (ix2 r k) := by
  unfold Blk.dx dn
  pointwise [k0_pay58, k0_pay56, k0_pay18]

theorem dxb_at (r : Fin 256) (k : Fin 1024) : b.dxb (ix2 r k) = dn b r k + b.res (ix2 r k) := by
  unfold Blk.dxb dn
  pointwise [k0_pay1, k0_pay59, k0_pay56, k0_pay18]

theorem gwq_at (k : Fin 256) (l : Fin 2048) : b.gwq (ix2 k l) = (∑ r, b.cqn (ix2 r k) * b.rot (ix2 r l) : EReal) := by
  unfold Blk.gwq
  pointwise [k0_pay60, k0_pay12]

theorem gwkv_at (k : Fin 128) (l : Fin 2048) : b.gwkv (ix2 k l) = (∑ r, b.ckvn (ix2 r k) * b.dkv (ix2 r l) : EReal) := by
  unfold Blk.gwkv
  pointwise [k0_pay61, k0_pay9, k0_pay13]

theorem gwdkv_at (k : Fin 1024) (l : Fin 512) : b.gwdkv (ix2 k l) = (∑ r, b.h (ix2 r k) * dlat b (ix2 r l) : EReal) := by
  unfold Blk.gwdkv
  pointwise [k0_pay62, k0_pay14]

theorem gqg_at (k : Fin 256) : b.gqg (ix2 0 k) = (∑ r, b.dcqn (ix2 r k) * k0_pay39 (k0_pay11 b.lat) (ix2 r k) : EReal) := by
  unfold Blk.gqg
  pointwise [k0_pay43]

theorem gkg_at (k : Fin 128) : b.gkg (ix2 0 k) = (∑ r, k0_pay44 (k0_pay9 b.dkv) b.wkv (ix2 r k) * k0_pay47 (k0_pay11 b.lat) (ix2 r k) : EReal) := by
  unfold Blk.gkg
  pointwise [k0_pay49]

theorem gg_at (k : Fin 1024) : b.gg (ix2 0 k) = (∑ r, dh b (ix2 r k) * k0_pay55 b.x (ix2 r k) : EReal) := by
  unfold Blk.gg
  pointwise [k0_pay57]

/-! ## One more point -/

variable (s : St Ideal)

theorem next_gwq (k : Fin 256) (l : Fin 2048) : (next b s).1 (ix2 k l) = (s.1 (ix2 k l) + b.gwq (ix2 k l) : EReal) := by
  unfold next
  pointwise [k0_pay2]

theorem next_gwkv (k : Fin 128) (l : Fin 2048) : (next b s).2.1 (ix2 k l) = (s.2.1 (ix2 k l) + b.gwkv (ix2 k l) : EReal) := by
  unfold next
  pointwise [k0_pay3]

theorem next_gwdkv (k : Fin 1024) (l : Fin 512) : (next b s).2.2.1 (ix2 k l) = (s.2.2.1 (ix2 k l) + b.gwdkv (ix2 k l) : EReal) := by
  unfold next
  pointwise [k0_pay4]

theorem next_gqg (l : Fin 256) : (next b s).2.2.2.1 (ix2 0 l) = (s.2.2.2.1 (ix2 0 l) + b.gqg (ix2 0 l) : EReal) := by
  unfold next
  pointwise [k0_pay5]

theorem next_gkg (l : Fin 128) : (next b s).2.2.2.2.1 (ix2 0 l) = (s.2.2.2.2.1 (ix2 0 l) + b.gkg (ix2 0 l) : EReal) := by
  unfold next
  pointwise [k0_pay6]

theorem next_gg (l : Fin 1024) : (next b s).2.2.2.2.2 (ix2 0 l) = (s.2.2.2.2.2 (ix2 0 l) + b.gg (ix2 0 l) : EReal) := by
  unfold next
  pointwise [k0_pay7]

end

end Cert.ProjKernelIdeal.Hand
-- ==== Proof.ProjPoint.lean ====
module

public import proofs.«01_k».proof.Proof.ProjReal
public import proofs.«01_k».proof.Proof.ProjKernelAt

/-!
# The latent projections' backward, kernel: one point, where its blocks hold real numbers
-/

@[expose] public section

set_option maxRecDepth 16384

noncomputable section

open Idealize.ShloMosaic Idealize.ShloMosaic.TcCoe Idealize.SL.Sem Idealize.ShloMosaic.Pointwise

namespace Cert.ProjKernelIdeal.Hand

open Cert.ProjKernelIdeal Cert.ProjKernelIdeal.Gen Cert.Reals

/-- The point's blocks hold rows `row` of the arguments and of the saved values, and the whole gains, weights and sums' factors. -/
structure Holds (A : Proj.Args) (row : Fin 256 → Fin 4096) (b : Blk Ideal) : Prop where
  dq : ∀ r l, b.dq (ix2 r l) = (A.dqp (row r) l : EReal)
  dkv : ∀ r l, b.dkv (ix2 r l) = (A.dkf (row r) l : EReal)
  dkr : ∀ (r : Fin 256) (s : Fin 8) (j : Fin 128), b.dkr (ix2 r ⟨128 * s.val + j.val, by omega⟩) = (Proj.padRot (A.dkr (row r) s) j : EReal)
  lat : ∀ r l, b.lat (ix2 r l) = (Proj.padLat (A.lat (row r)) l : EReal)
  cqn : ∀ r l, b.cqn (ix2 r l) = (A.cqn (row r) l : EReal)
  ckvn : ∀ r l, b.ckvn (ix2 r l) = (A.ckn (row r) l : EReal)
  h : ∀ r l, b.h (ix2 r l) = (A.h (row r) l : EReal)
  x : ∀ r l, b.x (ix2 r l) = (A.x (row r) l : EReal)
  cs : ∀ r l, b.cs (ix2 r l) = (Proj.tab0 (A.ang (row r)) l : EReal)
  s1 : ∀ r l, b.s1 (ix2 r l) = (Proj.tab1 (A.ang (row r)) l : EReal)
  s2 : ∀ r l, b.s2 (ix2 r l) = (Proj.tab2 (A.ang (row r)) l : EReal)
  g : ∀ l, b.g (ix2 0 l) = (A.g l : EReal)
  qg : ∀ l, b.qg (ix2 0 l) = (A.qg l : EReal)
  kg : ∀ l, b.kg (ix2 0 l) = (A.kg l : EReal)
  wq : ∀ k l, b.wq (ix2 k l) = (Proj.padHeads (A.wq k) l : EReal)
  wkv : ∀ k l, b.wkv (ix2 k l) = (A.wu k l : EReal)
  wdkv : ∀ k l, b.wdkv (ix2 k l) = (Proj.padLat (A.wd k) l : EReal)

variable {A : Proj.Args} {row : Fin 256 → Fin 4096} {b : Blk Ideal} (H : Holds A row b)
include H

theorem rot_low (r : Fin 256) (s : Fin 8) (j : Fin 128) :
    b.rot (ix2 r ⟨256 * s.val + j.val, by omega⟩) = (Proj.padHeads (A.dqf (row r)) ⟨256 * s.val + j.val, by omega⟩ : EReal) := by
  rw [rot_even, H.dq, A.padHeads_dqf_low]

theorem rot_high (r : Fin 256) (s : Fin 8) (j : Fin 128) :
    b.rot (ix2 r ⟨256 * s.val + 128 + j.val, by omega⟩) = (Proj.padHeads (A.dqf (row r)) ⟨256 * s.val + 128 + j.val, by omega⟩ : EReal) := by
  rw [rot_odd, H.dq, H.dq, H.dq, H.cs, H.s1, H.s2, A.padHeads_dqf_rot, A.dqp_rot, A.dqp_rot, A.dqp_rot]
  simp only [← EReal.coe_mul, ← EReal.coe_add]
  exact congrArg _ (Proj.turn_tables _ _ _)

theorem rot_eq' (r : Fin 256) (l : Fin 2048) : b.rot (ix2 r l) = (Proj.padHeads (A.dqf (row r)) l : EReal) := by
  by_cases h : l.val % 256 < 128
  · have e : l = ⟨256 * (l.val / 256) + l.val % 256, by omega⟩ := Fin.ext (by show l.val = 256 * (l.val / 256) + l.val % 256; omega)
    rw [e]
    exact rot_low H r ⟨l.val / 256, by omega⟩ ⟨l.val % 256, h⟩
  · have e : l = ⟨256 * (l.val / 256) + 128 + (l.val % 256 - 128), by omega⟩ :=
      Fin.ext (by show l.val = 256 * (l.val / 256) + 128 + (l.val % 256 - 128); omega)
    rw [e]
    exact rot_high H r ⟨l.val / 256, by omega⟩ ⟨l.val % 256 - 128, by omega⟩

theorem dcqn_eq (r k : Fin 256) : b.dcqn (ix2 r k) = (A.dqn (row r) k : EReal) := by
  rw [dcqn_at]
  simp only [rot_eq' H, H.wq, ← EReal.coe_mul, coe_sum]
  exact congrArg _ (Proj.sum_padHeads _ _)

theorem lat_lo (r k : Fin 256) : b.lat (ix2 r (lo k)) = (A.cq (row r) k : EReal) := by
  rw [H.lat, Proj.padLat_lt _ _ (show (lo k).val < 448 by show k.val < 448; omega)]
  rfl

theorem lat_hi (r : Fin 256) (k : Fin 128) : b.lat (ix2 r (hi k)) = (A.ck (row r) k : EReal) := by
  rw [H.lat, Proj.padLat_lt _ _ (show (hi k).val < 448 by show 256 + k.val < 448; omega)]
  rfl

theorem rq_eq (r : Fin 256) : rq b r = (Rms.rstd (A.cq (row r)) : EReal) := by
  rw [rq_at]
  simp only [lat_lo H]
  exact Rms.ideal_rstd (by norm_num) Proj.word_256 _

theorem rk_eq (r : Fin 256) : rk b r = (Rms.rstd (A.ck (row r)) : EReal) := by
  rw [rk_at]
  simp only [lat_hi H]
  exact Rms.ideal_rstd (by norm_num) Proj.word_128 _

theorem rx_eq (r : Fin 256) : rx b r = (Rms.rstd (A.x (row r)) : EReal) := by
  rw [rx_at]
  simp only [H.x]
  exact Rms.ideal_rstd (by norm_num) Rms.word_1024 _

theorem dcq_eq (r k : Fin 256) : b.dcq (ix2 r k) = (A.dcq (row r) k : EReal) := by
  have hc : ∀ j, (b.dcqn (ix2 r j) * b.qg (ix2 0 j) : EReal) = (A.cotq (row r) j : EReal) := fun j => by rw [dcqn_eq H, H.qg, ← EReal.coe_mul]; rfl
  rw [dcq_at]
  simp only [hc, nq_at, rq_eq H, lat_lo H]
  exact Rms.ideal_grad (by norm_num) Proj.word_256 _ _ _

theorem dckn_eq (r : Fin 256) (k : Fin 128) : k0_pay44 (k0_pay9 b.dkv) b.wkv (ix2 r k) = (A.dkn (row r) k : EReal) := by
  rw [dckn_at]
  simp only [H.dkv, H.wkv, ← EReal.coe_mul, coe_sum]
  rfl

theorem dckv_eq (r : Fin 256) (k : Fin 128) : b.dckv (ix2 r k) = (A.dck (row r) k : EReal) := by
  have hc : ∀ j, (k0_pay44 (k0_pay9 b.dkv) b.wkv (ix2 r j) * b.kg (ix2 0 j) : EReal) = (A.cotk (row r) j : EReal) := fun j => by
    rw [dckn_eq H, H.kg, ← EReal.coe_mul]; rfl
  rw [dckv_at]
  simp only [hc, nk_at, rk_eq H, lat_hi H]
  exact Rms.ideal_grad (by norm_num) Proj.word_128 _ _ _

theorem headSum_eq (r : Fin 256) (j : Fin 128) : headSum b (ix2 r j) = (Proj.padRot (fun q => ∑ s, A.dkr (row r) s q) j : EReal) := by
  have e0 : b.dkr (ix2 r ⟨j.val, by omega⟩) = (Proj.padRot (A.dkr (row r) 0) j : EReal) :=
    (congrArg (fun l => b.dkr (ix2 r l)) (Fin.ext (by show j.val = 128 * 0 + j.val; omega))).trans (H.dkr r 0 j)
  have e := H.dkr r
  rw [headSum_at, e0, show b.dkr (ix2 r ⟨128 + j.val, by omega⟩) = _ from e 1 j, show b.dkr (ix2 r ⟨256 + j.val, by omega⟩) = _ from e 2 j,
    show b.dkr (ix2 r ⟨384 + j.val, by omega⟩) = _ from e 3 j, show b.dkr (ix2 r ⟨512 + j.val, by omega⟩) = _ from e 4 j,
    show b.dkr (ix2 r ⟨640 + j.val, by omega⟩) = _ from e 5 j, show b.dkr (ix2 r ⟨768 + j.val, by omega⟩) = _ from e 6 j,
    show b.dkr (ix2 r ⟨896 + j.val, by omega⟩) = _ from e 7 j]
  simp only [← EReal.coe_add]
  refine congrArg _ ?_
  unfold Proj.padRot
  by_cases h : j.val < 64
  · simp only [dif_pos h]
    exact (Fin.sum_univ_eight fun s => A.dkr (row r) s ⟨j.val, h⟩).symm
  · simp only [dif_neg h, add_zero]

theorem dlat_low (r j : Fin 256) : dlat b (ix2 r ⟨j.val, by omega⟩) = (Proj.padLat (A.dl (row r)) ⟨j.val, by omega⟩ : EReal) := by
  rw [dlat_q, dcq_eq H, Proj.padLat_lt _ _ (show j.val < 448 by omega)]
  refine congrArg (fun y : ℝ => (y : EReal)) ?_
  unfold Proj.Args.dl
  rw [dif_pos (show j.val < 256 from j.isLt)]

theorem dlat_mid (r : Fin 256) (j : Fin 128) : dlat b (ix2 r ⟨256 + j.val, by omega⟩) = (Proj.padLat (A.dl (row r)) ⟨256 + j.val, by omega⟩ : EReal) := by
  rw [dlat_k, dckv_eq H, Proj.padLat_lt _ _ (show 256 + j.val < 448 by omega)]
  refine congrArg (fun y : ℝ => (y : EReal)) ?_
  unfold Proj.Args.dl
  rw [dif_neg (by show ¬ 256 + j.val < 256; omega), dif_pos (by show 256 + j.val - 256 < 128; omega)]
  exact congrArg (A.dck (row r)) (Fin.ext (by show j.val = 256 + j.val - 256; omega))

theorem dlat_high (r : Fin 256) (j : Fin 128) : dlat b (ix2 r ⟨384 + j.val, by omega⟩) = (Proj.padLat (A.dl (row r)) ⟨384 + j.val, by omega⟩ : EReal) := by
  rw [dlat_r, headSum_eq H, headSum_eq H, headSum_eq H, H.cs, H.s1, H.s2]
  simp only [← EReal.coe_mul, ← EReal.coe_add]
  refine congrArg (fun y : ℝ => (y : EReal)) ((Proj.turn_tables _ _ _).trans ?_)
  unfold Proj.padRot Proj.padLat
  by_cases hj : j.val < 64
  · rw [dif_pos hj, dif_pos (show 384 + j.val < 448 by omega)]
    unfold Proj.Args.dl
    rw [dif_neg (by show ¬ 384 + j.val < 256; omega), dif_neg (by show ¬ 384 + j.val - 256 < 128; omega)]
    exact congrArg (A.dr (row r)) (Fin.ext (by show j.val = 384 + j.val - 256 - 128; omega))
  · rw [dif_neg hj, dif_neg (show ¬ 384 + j.val < 448 by omega)]

theorem dlat_eq' (r : Fin 256) (l : Fin 512) : dlat b (ix2 r l) = (Proj.padLat (A.dl (row r)) l : EReal) := by
  by_cases h : l.val < 256
  · exact dlat_low H r ⟨l.val, h⟩
  by_cases h' : l.val < 384
  · have e : l = ⟨256 + (l.val - 256), by omega⟩ := Fin.ext (by show l.val = 256 + (l.val - 256); omega)
    rw [e]
    exact dlat_mid H r ⟨l.val - 256, by omega⟩
  · have e : l = ⟨384 + (l.val - 384), by omega⟩ := Fin.ext (by show l.val = 384 + (l.val - 384); omega)
    rw [e]
    exact dlat_high H r ⟨l.val - 384, by omega⟩

theorem dh_eq (r : Fin 256) (k : Fin 1024) : dh b (ix2 r k) = (A.dh (row r) k : EReal) := by
  rw [dh_at]
  simp only [dlat_eq' H, H.wdkv, ← EReal.coe_mul, coe_sum]
  exact congrArg _ (Proj.sum_padLat _ _)

theorem dn_eq (r : Fin 256) (k : Fin 1024) : dn b r k = (A.dx (row r) k : EReal) := by
  have hc : ∀ j, (dh b (ix2 r j) * b.g (ix2 0 j) : EReal) = (A.cotx (row r) j : EReal) := fun j => by rw [dh_eq H, H.g, ← EReal.coe_mul]; rfl
  unfold dn
  simp only [hc, nx_at, rx_eq H, H.x]
  exact Rms.ideal_grad (by norm_num) Rms.word_1024 _ _ _

theorem gwq_eq (k : Fin 256) (l : Fin 2048) : b.gwq (ix2 k l) = ((∑ r, A.cqn (row r) k * Proj.padHeads (A.dqf (row r)) l : ℝ) : EReal) := by
  rw [gwq_at]
  simp only [H.cqn, rot_eq' H, ← EReal.coe_mul, coe_sum]

theorem gwkv_eq (k : Fin 128) (l : Fin 2048) : b.gwkv (ix2 k l) = ((∑ r, A.ckn (row r) k * A.dkf (row r) l : ℝ) : EReal) := by
  rw [gwkv_at]
  simp only [H.ckvn, H.dkv, ← EReal.coe_mul, coe_sum]

theorem gwdkv_eq (k : Fin 1024) (l : Fin 512) : b.gwdkv (ix2 k l) = ((∑ r, A.h (row r) k * Proj.padLat (A.dl (row r)) l : ℝ) : EReal) := by
  rw [gwdkv_at]
  simp only [H.h, dlat_eq' H, ← EReal.coe_mul, coe_sum]

theorem gqg_eq (k : Fin 256) : b.gqg (ix2 0 k) = ((∑ r, A.dqn (row r) k * (A.cq (row r) k * Rms.rstd (A.cq (row r))) : ℝ) : EReal) := by
  rw [gqg_at]
  simp only [dcqn_eq H, nq_at, rq_eq H, lat_lo H, ← EReal.coe_mul, coe_sum]

theorem gkg_eq (k : Fin 128) : b.gkg (ix2 0 k) = ((∑ r, A.dkn (row r) k * (A.ck (row r) k * Rms.rstd (A.ck (row r))) : ℝ) : EReal) := by
  rw [gkg_at]
  simp only [dckn_eq H, nk_at, rk_eq H, lat_hi H, ← EReal.coe_mul, coe_sum]

theorem gg_eq (k : Fin 1024) : b.gg (ix2 0 k) = ((∑ r, A.dh (row r) k * (A.x (row r) k * Rms.rstd (A.x (row r))) : ℝ) : EReal) := by
  rw [gg_at]
  simp only [dh_eq H, nx_at, rx_eq H, H.x, ← EReal.coe_mul, coe_sum]

end Cert.ProjKernelIdeal.Hand
-- ==== Proof.ProjHost.lean ====
module

public import proofs.«01_k».proof.Proof.ProjReal
public import proofs.«01_k».proof.Proof.ProjFrame
public import Idealize.ShloMosaic.Lib.Pointwise
public import Idealize.ShloMosaic.Lib.Pipeline.ValueKit
public import Idealize.ShloMosaic.Lib.StableHlo.RunRead
public import Idealize.ShloMosaic.Lib.StableHlo.ReadAt

/-!
# The latent projections' backward, kernel: what the host's lines leave for the call

The saved values are the forward pass's; heads and latent columns are padded with zeros, and the angles become three tables.
-/

@[expose] public section

set_option maxRecDepth 16384

noncomputable section

open Idealize.ShloMosaic Idealize.ShloMosaic.TcCoe Idealize.SL.Sem Idealize.ShloMosaic.Pointwise

namespace Cert.ProjKernelIdeal.Hand

open Cert.ProjKernelIdeal Cert.ProjKernelIdeal.Gen Cert.Reals

/-- The host's lines, one stretch after the other. -/
theorem V_split {F : FTy → Type} [FloatOps F] (m : (ℓ : Loc nD τ sig) → Buf (Elt F) ℓ) (c : Dev nD) (b : Ref sig .tc) :
    V m c b = StableHlo.after hostOps0_8 (StableHlo.after hostOps0_7 (StableHlo.after hostOps0_6 (StableHlo.after hostOps0_5
      (StableHlo.after hostOps0_4 (StableHlo.after hostOps0_3 (StableHlo.after hostOps0_2 (StableHlo.after hostOps0_1
        (StableHlo.after hostOps0 fun b => m (c, b))))))))) b := by
  unfold V
  simp only [List.flatten_cons, List.flatten_nil, List.append_nil, StableHlo.after_append]

variable (m : (ℓ : Loc nD τ sig) → Buf (Elt Ideal) ℓ) (c : Dev nD) (A : Proj.Args)

/-- The arguments are the real ones. -/
structure Are : Prop where
  h0 : ∀ (n : Fin 4096) (k : Fin 1024), m (c, Proc.tc.devRef main_arg0) (ix2 n k) = (A.x n k : EReal)
  h1 : ∀ (n : Fin 4096) (k : Fin 32), Proj.ang (m (c, Proc.tc.devRef main_arg1) (ix1 n)) k.val = A.ang n k
  h2 : ∀ k : Fin 1024, m (c, Proc.tc.devRef main_arg2) (ix1 k) = (A.g k : EReal)
  h3 : ∀ (i : Fin 1024) (l : Fin 448), m (c, Proc.tc.devRef main_arg3) (ix2 i l) = (A.wd i l : EReal)
  h4 : ∀ k : Fin 256, m (c, Proc.tc.devRef main_arg4) (ix1 k) = (A.qg k : EReal)
  h5 : ∀ k : Fin 128, m (c, Proc.tc.devRef main_arg5) (ix1 k) = (A.kg k : EReal)
  h6 : ∀ (k : Fin 256) (l : Fin 1536), m (c, Proc.tc.devRef main_arg6) (ix2 k l) = (A.wq k l : EReal)
  h7 : ∀ (k : Fin 128) (l : Fin 2048), m (c, Proc.tc.devRef main_arg7) (ix2 k l) = (A.wu k l : EReal)
  h8 : ∀ (n : Fin 4096) (h : Fin 8) (k : Fin 192), m (c, Proc.tc.devRef main_arg8) (ix3 n h k) = (A.dq n h k : EReal)
  h9 : ∀ (n : Fin 4096) (h : Fin 8) (k : Fin 256), m (c, Proc.tc.devRef main_arg9) (ix3 n h k) = (A.dkv n h k : EReal)
  h10 : ∀ (n : Fin 4096) (h : Fin 8) (k : Fin 64), m (c, Proc.tc.devRef main_arg10) (ix3 n h k) = (A.dkr n h k : EReal)

/-- Eight heads of 64 in eight of 128. -/
def dkrp (n : Fin 4096) (l : Fin 1024) : ℝ := if h : l.val % 128 < 64 then A.dkr n ⟨l.val / 128, by omega⟩ ⟨l.val % 128, h⟩ else 0

theorem dkrp_at (n : Fin 4096) (s : Fin 8) (j : Fin 128) : dkrp A n ⟨128 * s.val + j.val, by omega⟩ = Proj.padRot (A.dkr n s) j := by
  unfold dkrp Proj.padRot
  have e1 : (128 * s.val + j.val) / 128 = s.val := by omega
  have e2 : (128 * s.val + j.val) % 128 = j.val := by omega
  by_cases h : j.val < 64
  · rw [dif_pos (show (128 * s.val + j.val) % 128 < 64 by omega), dif_pos h]
    exact congrArg₂ (A.dkr n) (Fin.ext e1) (Fin.ext e2)
  · rw [dif_neg (show ¬ (128 * s.val + j.val) % 128 < 64 by omega), dif_neg h]

theorem V_res (n : Fin 4096) (k : Fin 1024) : V m c main_arg11 (ix2 n k) = m (c, Proc.tc.devRef main_arg11) (ix2 n k) := by
  rw [V_split]
  after_reads_at

/-- A latent row against the padded weight. -/
theorem lat_sum (n : Fin 4096) (l : ℕ) : (∑ i, (A.x n i : EReal) * (Rms.rstd (A.x n) : EReal) * (A.g i : EReal)
      * (if h : l < 448 then (A.wd i ⟨l, h⟩ : EReal) else ((0 : ℝ) : EReal)) : EReal)
    = ((if h : l < 448 then A.lat n ⟨l, h⟩ else 0 : ℝ) : EReal) := by
  by_cases h : l < 448
  · simp only [dif_pos h, ← EReal.coe_mul, coe_sum]
    rfl
  · simp only [dif_neg h, ← EReal.coe_mul, mul_zero, coe_sum, Finset.sum_const_zero]

theorem lat_q (n : Fin 4096) (k : Fin 256) : (if h : k.val < 448 then A.lat n ⟨k.val, h⟩ else 0) = A.cq n k := dif_pos (by omega)
theorem lat_k (n : Fin 4096) (k : Fin 128) : (if h : 256 + k.val < 448 then A.lat n ⟨256 + k.val, h⟩ else 0) = A.ck n k := dif_pos (by omega)

variable {m c A} (H : Are m c A)
include H

theorem V_x (n : Fin 4096) (k : Fin 1024) : V m c main_arg0 (ix2 n k) = (A.x n k : EReal) := by
  rw [V_split]
  after_reads_at
  exact H.h0 n k

theorem V_wu (k : Fin 128) (l : Fin 2048) : V m c main_arg7 (ix2 k l) = (A.wu k l : EReal) := by
  rw [V_split]
  after_reads_at
  exact H.h7 k l

theorem V_g (k : Fin 1024) : V m c main_v24 (ix2 0 k) = (A.g k : EReal) := by
  rw [V_split]
  after_reads_at
  exact H.h2 k

theorem V_qg (k : Fin 256) : V m c main_v25 (ix2 0 k) = (A.qg k : EReal) := by
  rw [V_split]
  after_reads_at
  exact H.h4 k

theorem V_kg (k : Fin 128) : V m c main_v26 (ix2 0 k) = (A.kg k : EReal) := by
  rw [V_split]
  after_reads_at
  exact H.h5 k

theorem V_wd (i : Fin 1024) (l : Fin 512) : V m c main_v27 (ix2 i l) = (Proj.padLat (A.wd i) l : EReal) := by
  rw [V_split]
  after_reads_at
  simp only [H.h3, Proj.zero_word]
  unfold Proj.padLat
  by_cases h : l.val < 448
  · rw [dif_pos h, dif_pos h]
  · rw [dif_neg h, dif_neg h]

theorem V_wq (k : Fin 256) (l : Fin 2048) : V m c main_v30 (ix2 k l) = (Proj.padHeads (A.wq k) l : EReal) := by
  rw [V_split]
  after_reads_at
  simp only [H.h6, Proj.zero_word]
  by_cases h : l.val % 256 < 192
  · rw [dif_pos ⟨by omega, h⟩]
    refine congrArg (fun y : ℝ => (y : EReal)) ?_
    exact (Proj.padHeads_pos (A.wq k) l h).symm
  · rw [dif_neg fun e => h e.2, Proj.padHeads_neg (A.wq k) l h]

theorem V_dq (n : Fin 4096) (k : Fin 2048) : V m c main_v75 (ix2 n k) = (A.dqp n k : EReal) := by
  rw [V_split]
  after_reads_at
  simp only [H.h8, Proj.zero_word]
  rw [A.dqp_eq n k]
  by_cases h : k.val % 256 < 192
  · rw [dif_pos ⟨by omega, h⟩]
    refine congrArg (fun y : ℝ => (y : EReal)) ?_
    rw [dif_pos h]
  · rw [dif_neg fun e => h e.2, dif_neg h]

theorem V_dkr (n : Fin 4096) (k : Fin 1024) : V m c main_v77 (ix2 n k) = (dkrp A n k : EReal) := by
  rw [V_split]
  after_reads_at
  simp only [H.h10, Proj.zero_word]
  unfold dkrp
  by_cases h : k.val % 128 < 64
  · rw [dif_pos ⟨by omega, h⟩, dif_pos h]
  · rw [dif_neg fun e => h e.2, dif_neg h]

theorem V_dkv (n : Fin 4096) (k : Fin 2048) : V m c main_v79 (ix2 n k) = (A.dkf n k : EReal) := by
  rw [V_split]
  after_reads_at
  exact H.h9 _ _ _

theorem V_h (n : Fin 4096) (k : Fin 1024) : V m c main_v43 (ix2 n k) = (A.h n k : EReal) := by
  rw [V_split]
  after_reads_at
  simp only [H.h0, H.h2, Rms.ideal_rstd (n := 1024) (by norm_num) Rms.word_1024]
  simp only [← EReal.coe_mul]
  rfl

theorem V_lat (n : Fin 4096) (k : Fin 512) : V m c main_v45 (ix2 n k) = (Proj.padLat (A.lat n) k : EReal) := by
  rw [V_split]
  after_reads_at
  simp only [H.h0, H.h2, H.h3, Proj.zero_word, Rms.ideal_rstd (n := 1024) (by norm_num) Rms.word_1024]
  simp only [lat_sum]
  rfl

theorem V_cqn (n : Fin 4096) (k : Fin 256) : V m c main_v59 (ix2 n k) = (A.cqn n k : EReal) := by
  rw [V_split]
  after_reads_at
  simp only [H.h0, H.h2, H.h3, Proj.zero_word, Rms.ideal_rstd (n := 1024) (by norm_num) Rms.word_1024]
  simp only [lat_sum]
  simp only [lat_q, H.h4, Rms.ideal_rstd (n := 256) (by norm_num) Proj.word_256]
  simp only [← EReal.coe_mul]
  rfl

theorem V_ckn (n : Fin 4096) (k : Fin 128) : V m c main_v73 (ix2 n k) = (A.ckn n k : EReal) := by
  rw [V_split]
  after_reads_at
  simp only [H.h0, H.h2, H.h3, Proj.zero_word, Rms.ideal_rstd (n := 1024) (by norm_num) Rms.word_1024]
  simp only [lat_sum]
  simp only [lat_k, H.h5, Rms.ideal_rstd (n := 128) (by norm_num) Proj.word_128]
  simp only [← EReal.coe_mul]
  rfl

theorem V_tab0 (n : Fin 4096) (k : Fin 128) : V m c main_v20 (ix2 n k) = (Proj.tab0 (A.ang n) k : EReal) := by
  rw [V_split]
  after_reads_at
  after_reads_at
  unfold Proj.tab0
  by_cases h : k.val < 32
  · rw [dif_pos h, dif_pos h, ← H.h1]
    exact Proj.cos_ang _ _
  · rw [dif_neg h, dif_neg h]
    by_cases h' : k.val - 32 < 32
    · rw [dif_pos h', dif_pos h', ← H.h1]
      exact Proj.cos_ang _ _
    · rw [dif_neg h', dif_neg h']
      rfl

theorem V_tab1 (n : Fin 4096) (k : Fin 128) : V m c main_v21 (ix2 n k) = (Proj.tab1 (A.ang n) k : EReal) := by
  rw [V_split]
  after_reads_at
  after_reads_at
  unfold Proj.tab1
  by_cases h : k.val < 32
  · rw [dif_pos h, if_pos h]
    rfl
  · rw [dif_neg h, if_neg h]
    by_cases h' : k.val - 32 < 32
    · rw [dif_pos h', dif_pos h', ← H.h1]
      exact Proj.sin_ang _ _
    · rw [dif_neg h', dif_neg h']
      rfl

theorem V_tab2 (n : Fin 4096) (k : Fin 128) : V m c main_v23 (ix2 n k) = (Proj.tab2 (A.ang n) k : EReal) := by
  rw [V_split]
  after_reads_at
  after_reads_at
  unfold Proj.tab2
  by_cases h : k.val < 32
  · rw [dif_pos h, dif_pos h, ← H.h1, EReal.coe_neg]
    exact congrArg (fun y : EReal => -y) (Proj.sin_ang _ _)
  · rw [dif_neg h, dif_neg h]
    by_cases h' : k.val - 32 < 32
    · rw [dif_pos h']
      rfl
    · rw [dif_neg h']
      rfl

end Cert.ProjKernelIdeal.Hand
-- ==== Proof.ProjReads.lean ====
module

public import proofs.«01_k».proof.Proof.ProjPoint
public import proofs.«01_k».proof.Proof.ProjHost
public import proofs.«01_k».proof.Proof.ProjFrame
public import Idealize.ShloMosaic.Lib.Pointwise
public import Idealize.ShloMosaic.Lib.Pipeline.ValueKit

/-!
# The latent projections' backward, kernel: where a point's blocks lie in their arrays
-/

@[expose] public section

set_option maxRecDepth 16384

noncomputable section

open Idealize.ShloMosaic Idealize.ShloMosaic.TcCoe Idealize.SL.Sem Idealize.ShloMosaic.Pointwise

namespace Cert.ProjKernelIdeal.Hand

open Cert.ProjKernelIdeal Cert.ProjKernelIdeal.Gen Cert.Reals
open Idealize.ShloMosaic.Pipeline (Dat)

/-- A row padded per head, scaled and summed, is the sum padded per head. -/
theorem sum_mul_padHeads {ι : Type} [Fintype ι] (a : ι → ℝ) (f : ι → Fin 1536 → ℝ) (l : Fin 2048) :
    ∑ i, a i * Proj.padHeads (f i) l = Proj.padHeads (fun c => ∑ i, a i * f i c) l := by
  unfold Proj.padHeads
  by_cases h : l.val % 256 < 192
  · simp only [dif_pos h]
  · simp only [dif_neg h, mul_zero, Finset.sum_const_zero]

theorem sum_mul_padLat {ι : Type} [Fintype ι] (a : ι → ℝ) (f : ι → Fin 448 → ℝ) (l : Fin 512) :
    ∑ i, a i * Proj.padLat (f i) l = Proj.padLat (fun c => ∑ i, a i * f i c) l := by
  unfold Proj.padLat
  by_cases h : l.val < 448
  · simp only [dif_pos h]
  · simp only [dif_neg h, mul_zero, Finset.sum_const_zero]

variable (m : (ℓ : Loc nD τ sig) → Buf (Elt Ideal) ℓ) (c : Dev nD)

theorem lt16 (t : Fin cfg0.N) : t.val < 16 := lt_of_lt_of_eq t.isLt N_0

/-- The row of the whole array at which row `r` of point `t`'s block lies. -/
abbrev atRow (t : Fin cfg0.N) (r : Fin 256) : Fin 4096 := ⟨t.val * 256 + r.val, by have := lt16 t; omega⟩

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index3 : ∀ t : Fin grid0.N, win0_3.index t = ![t.val, 0] := by decide +kernel
theorem index4 : ∀ t : Fin grid0.N, win0_4.index t = ![t.val, 0] := by decide +kernel
theorem index5 : ∀ t : Fin grid0.N, win0_5.index t = ![t.val, 0] := by decide +kernel
theorem index6 : ∀ t : Fin grid0.N, win0_6.index t = ![t.val, 0] := by decide +kernel
theorem index7 : ∀ t : Fin grid0.N, win0_7.index t = ![t.val, 0] := by decide +kernel
theorem index8 : ∀ t : Fin grid0.N, win0_8.index t = ![t.val, 0] := by decide +kernel
theorem index9 : ∀ t : Fin grid0.N, win0_9.index t = ![t.val, 0] := by decide +kernel
theorem index10 : ∀ t : Fin grid0.N, win0_10.index t = ![t.val, 0] := by decide +kernel
theorem index11 : ∀ t : Fin grid0.N, win0_11.index t = ![t.val, 0] := by decide +kernel
theorem index12 : ∀ t : Fin grid0.N, win0_12.index t = ![0, 0] := by decide +kernel
theorem index13 : ∀ t : Fin grid0.N, win0_13.index t = ![0, 0] := by decide +kernel
theorem index14 : ∀ t : Fin grid0.N, win0_14.index t = ![0, 0] := by decide +kernel
theorem index15 : ∀ t : Fin grid0.N, win0_15.index t = ![0, 0] := by decide +kernel
theorem index16 : ∀ t : Fin grid0.N, win0_16.index t = ![0, 0] := by decide +kernel
theorem index17 : ∀ t : Fin grid0.N, win0_17.index t = ![0, 0] := by decide +kernel
theorem index18 : ∀ t : Fin grid0.N, win0_18.index t = ![t.val, 0] := by decide +kernel
theorem index19 : ∀ t : Fin grid0.N, win0_19.index t = ![t.val, 0] := by decide +kernel
theorem index20 : ∀ t : Fin grid0.N, win0_20.index t = ![0, 0] := by decide +kernel
theorem index21 : ∀ t : Fin grid0.N, win0_21.index t = ![0, 0] := by decide +kernel
theorem index22 : ∀ t : Fin grid0.N, win0_22.index t = ![0, 0] := by decide +kernel
theorem index23 : ∀ t : Fin grid0.N, win0_23.index t = ![0, 0] := by decide +kernel
theorem index24 : ∀ t : Fin grid0.N, win0_24.index t = ![0, 0] := by decide +kernel
theorem index25 : ∀ t : Fin grid0.N, win0_25.index t = ![0, 0] := by decide +kernel

theorem read0 (X : (b : Ref sig .tc) → Buf (Elt Ideal) ((c : Thread nD τ).loc b)) (t : Fin cfg0.N) (r : Fin 256) (l : Fin 2048) :
    ((cfg0.win 0).blk t).view.read (Elt Ideal) (X (Pipeline.arrRef spec0 0)) (ix2 r l) = X main_v75 (ix2 (atRow t r) l) := by
  have e : ((cfg0.win 0).blk t).view.emb (ix2 r l) = ix2 (atRow t r) l := by blk_ext [index0, atRow]
  exact congrArg (X main_v75) e

theorem read1 (X : (b : Ref sig .tc) → Buf (Elt Ideal) ((c : Thread nD τ).loc b)) (t : Fin cfg0.N) (r : Fin 256) (l : Fin 2048) :
    ((cfg0.win 1).blk t).view.read (Elt Ideal) (X (Pipeline.arrRef spec0 1)) (ix2 r l) = X main_v79 (ix2 (atRow t r) l) := by
  have e : ((cfg0.win 1).blk t).view.emb (ix2 r l) = ix2 (atRow t r) l := by blk_ext [index1, atRow]
  exact congrArg (X main_v79) e

theorem read2 (X : (b : Ref sig .tc) → Buf (Elt Ideal) ((c : Thread nD τ).loc b)) (t : Fin cfg0.N) (r : Fin 256) (l : Fin 1024) :
    ((cfg0.win 2).blk t).view.read (Elt Ideal) (X (Pipeline.arrRef spec0 2)) (ix2 r l) = X main_v77 (ix2 (atRow t r) l) := by
  have e : ((cfg0.win 2).blk t).view.emb (ix2 r l) = ix2 (atRow t r) l := by blk_ext [index2, atRow]
  exact congrArg (X main_v77) e

theorem read3 (X : (b : Ref sig .tc) → Buf (Elt Ideal) ((c : Thread nD τ).loc b)) (t : Fin cfg0.N) (r : Fin 256) (l : Fin 512) :
    ((cfg0.win 3).blk t).view.read (Elt Ideal) (X (Pipeline.arrRef spec0 3)) (ix2 r l) = X main_v45 (ix2 (atRow t r) l) := by
  have e : ((cfg0.win 3).blk t).view.emb (ix2 r l) = ix2 (atRow t r) l := by blk_ext [index3, atRow]
  exact congrArg (X main_v45) e

theorem read4 (X : (b : Ref sig .tc) → Buf (Elt Ideal) ((c : Thread nD τ).loc b)) (t : Fin cfg0.N) (r : Fin 256) (l : Fin 256) :
    ((cfg0.win 4).blk t).view.read (Elt Ideal) (X (Pipeline.arrRef spec0 4)) (ix2 r l) = X main_v59 (ix2 (atRow t r) l) := by
  have e : ((cfg0.win 4).blk t).view.emb (ix2 r l) = ix2 (atRow t r) l := by blk_ext [index4, atRow]
  exact congrArg (X main_v59) e

theorem read5 (X : (b : Ref sig .tc) → Buf (Elt Ideal) ((c : Thread nD τ).loc b)) (t : Fin cfg0.N) (r : Fin 256) (l : Fin 128) :
    ((cfg0.win 5).blk t).view.read (Elt Ideal) (X (Pipeline.arrRef spec0 5)) (ix2 r l) = X main_v73 (ix2 (atRow t r) l) := by
  have e : ((cfg0.win 5).blk t).view.emb (ix2 r l) = ix2 (atRow t r) l := by blk_ext [index5, atRow]
  exact congrArg (X main_v73) e

theorem read6 (X : (b : Ref sig .tc) → Buf (Elt Ideal) ((c : Thread nD τ).loc b)) (t : Fin cfg0.N) (r : Fin 256) (l : Fin 1024) :
    ((cfg0.win 6).blk t).view.read (Elt Ideal) (X (Pipeline.arrRef spec0 6)) (ix2 r l) = X main_v43 (ix2 (atRow t r) l) := by
  have e : ((cfg0.win 6).blk t).view.emb (ix2 r l) = ix2 (atRow t r) l := by blk_ext [index6, atRow]
  exact congrArg (X main_v43) e

theorem read7 (X : (b : Ref sig .tc) → Buf (Elt Ideal) ((c : Thread nD τ).loc b)) (t : Fin cfg0.N) (r : Fin 256) (l : Fin 1024) :
    ((cfg0.win 7).blk t).view.read (Elt Ideal) (X (Pipeline.arrRef spec0 7)) (ix2 r l) = X main_arg0 (ix2 (atRow t r) l) := by
  have e : ((cfg0.win 7).blk t).view.emb (ix2 r l) = ix2 (atRow t r) l := by blk_ext [index7, atRow]
  exact congrArg (X main_arg0) e

theorem read8 (X : (b : Ref sig .tc) → Buf (Elt Ideal) ((c : Thread nD τ).loc b)) (t : Fin cfg0.N) (r : Fin 256) (l : Fin 1024) :
    ((cfg0.win 8).blk t).view.read (Elt Ideal) (X (Pipeline.arrRef spec0 8)) (ix2 r l) = X main_arg11 (ix2 (atRow t r) l) := by
  have e : ((cfg0.win 8).blk t).view.emb (ix2 r l) = ix2 (atRow t r) l := by blk_ext [index8, atRow]
  exact congrArg (X main_arg11) e

theorem read9 (X : (b : Ref sig .tc) → Buf (Elt Ideal) ((c : Thread nD τ).loc b)) (t : Fin cfg0.N) (r : Fin 256) (l : Fin 128) :
    ((cfg0.win 9).blk t).view.read (Elt Ideal) (X (Pipeline.arrRef spec0 9)) (ix2 r l) = X main_v20 (ix2 (atRow t r) l) := by
  have e : ((cfg0.win 9).blk t).view.emb (ix2 r l) = ix2 (atRow t r) l := by blk_ext [index9, atRow]
  exact congrArg (X main_v20) e

theorem read10 (X : (b : Ref sig .tc) → Buf (Elt Ideal) ((c : Thread nD τ).loc b)) (t : Fin cfg0.N) (r : Fin 256) (l : Fin 128) :
    ((cfg0.win 10).blk t).view.read (Elt Ideal) (X (Pipeline.arrRef spec0 10)) (ix2 r l) = X main_v21 (ix2 (atRow t r) l) := by
  have e : ((cfg0.win 10).blk t).view.emb (ix2 r l) = ix2 (atRow t r) l := by blk_ext [index10, atRow]
  exact congrArg (X main_v21) e

theorem read11 (X : (b : Ref sig .tc) → Buf (Elt Ideal) ((c : Thread nD τ).loc b)) (t : Fin cfg0.N) (r : Fin 256) (l : Fin 128) :
    ((cfg0.win 11).blk t).view.read (Elt Ideal) (X (Pipeline.arrRef spec0 11)) (ix2 r l) = X main_v23 (ix2 (atRow t r) l) := by
  have e : ((cfg0.win 11).blk t).view.emb (ix2 r l) = ix2 (atRow t r) l := by blk_ext [index11, atRow]
  exact congrArg (X main_v23) e

theorem read12 (X : (b : Ref sig .tc) → Buf (Elt Ideal) ((c : Thread nD τ).loc b)) (t : Fin cfg0.N) (r : Fin 1) (l : Fin 1024) :
    ((cfg0.win 12).blk t).view.read (Elt Ideal) (X (Pipeline.arrRef spec0 12)) (ix2 r l) = X main_v24 (ix2 r l) := by
  have e : ((cfg0.win 12).blk t).view.emb (ix2 r l) = ix2 r l := by blk_ext [index12]
  exact congrArg (X main_v24) e

theorem read13 (X : (b : Ref sig .tc) → Buf (Elt Ideal) ((c : Thread nD τ).loc b)) (t : Fin cfg0.N) (r : Fin 1) (l : Fin 256) :
    ((cfg0.win 13).blk t).view.read (Elt Ideal) (X (Pipeline.arrRef spec0 13)) (ix2 r l) = X main_v25 (ix2 r l) := by
  have e : ((cfg0.win 13).blk t).view.emb (ix2 r l) = ix2 r l := by blk_ext [index13]
  exact congrArg (X main_v25) e

theorem read14 (X : (b : Ref sig .tc) → Buf (Elt Ideal) ((c : Thread nD τ).loc b)) (t : Fin cfg0.N) (r : Fin 1) (l : Fin 128) :
    ((cfg0.win 14).blk t).view.read (Elt Ideal) (X (Pipeline.arrRef spec0 14)) (ix2 r l) = X main_v26 (ix2 r l) := by
  have e : ((cfg0.win 14).blk t).view.emb (ix2 r l) = ix2 r l := by blk_ext [index14]
  exact congrArg (X main_v26) e

theorem read15 (X : (b : Ref sig .tc) → Buf (Elt Ideal) ((c : Thread nD τ).loc b)) (t : Fin cfg0.N) (r : Fin 256) (l : Fin 2048) :
    ((cfg0.win 15).blk t).view.read (Elt Ideal) (X (Pipeline.arrRef spec0 15)) (ix2 r l) = X main_v30 (ix2 r l) := by
  have e : ((cfg0.win 15).blk t).view.emb (ix2 r l) = ix2 r l := by blk_ext [index15]
  exact congrArg (X main_v30) e

theorem read16 (X : (b : Ref sig .tc) → Buf (Elt Ideal) ((c : Thread nD τ).loc b)) (t : Fin cfg0.N) (r : Fin 128) (l : Fin 2048) :
    ((cfg0.win 16).blk t).view.read (Elt Ideal) (X (Pipeline.arrRef spec0 16)) (ix2 r l) = X main_arg7 (ix2 r l) := by
  have e : ((cfg0.win 16).blk t).view.emb (ix2 r l) = ix2 r l := by blk_ext [index16]
  exact congrArg (X main_arg7) e

theorem read17 (X : (b : Ref sig .tc) → Buf (Elt Ideal) ((c : Thread nD τ).loc b)) (t : Fin cfg0.N) (r : Fin 1024) (l : Fin 512) :
    ((cfg0.win 17).blk t).view.read (Elt Ideal) (X (Pipeline.arrRef spec0 17)) (ix2 r l) = X main_v27 (ix2 r l) := by
  have e : ((cfg0.win 17).blk t).view.emb (ix2 r l) = ix2 r l := by blk_ext [index17]
  exact congrArg (X main_v27) e

end Cert.ProjKernelIdeal.Hand
-- ==== Proof.ProjKernelValue.lean ====
module

public import proofs.«01_k».proof.Proof.ProjReads
public import Idealize.ShloMosaic.Lib.Pointwise
public import Idealize.ShloMosaic.Lib.Pipeline.ValueKit

/-!
# The latent projections' backward, kernel: its eight arrays, where the arguments are real numbers

A point takes 256 rows and writes their part of the input's gradient, twice. The six gradients of weights and gains gather
over the points in one block each, which the last one writes back.
-/

@[expose] public section

set_option maxRecDepth 16384

noncomputable section

open Idealize.ShloMosaic Idealize.ShloMosaic.TcCoe Idealize.SL.Sem Idealize.ShloMosaic.Pointwise

namespace Cert.ProjKernelIdeal.Hand

open Cert.ProjKernelIdeal Cert.ProjKernelIdeal.Gen Cert.Reals
open Idealize.ShloMosaic.Pipeline (Dat)

variable (m : (ℓ : Loc nD τ sig) → Buf (Elt Ideal) ℓ) (c : Dev nD) {A : Proj.Args} (H : Are m c A)

section
include H

theorem blk_dq (t : Fin cfg0.N) (r : Fin 256) (l : Fin 2048) : (pt m c t).dq (ix2 r l) = (A.dqp (atRow t r) l : EReal) := by
  have e : (pt m c t).dq (ix2 r l) = ((cfg0.win 0).blk t).view.read (Elt Ideal) (V m c (Pipeline.arrRef spec0 0)) (ix2 r l) := by rfl
  rw [e, read0 c (V m c) t r l, V_dq H (atRow t r) l]

theorem blk_dkv (t : Fin cfg0.N) (r : Fin 256) (l : Fin 2048) : (pt m c t).dkv (ix2 r l) = (A.dkf (atRow t r) l : EReal) := by
  have e : (pt m c t).dkv (ix2 r l) = ((cfg0.win 1).blk t).view.read (Elt Ideal) (V m c (Pipeline.arrRef spec0 1)) (ix2 r l) := by rfl
  rw [e, read1 c (V m c) t r l, V_dkv H (atRow t r) l]

theorem blk_dkr (t : Fin cfg0.N) (r : Fin 256) (l : Fin 1024) : (pt m c t).dkr (ix2 r l) = (dkrp A (atRow t r) l : EReal) := by
  have e : (pt m c t).dkr (ix2 r l) = ((cfg0.win 2).blk t).view.read (Elt Ideal) (V m c (Pipeline.arrRef spec0 2)) (ix2 r l) := by rfl
  rw [e, read2 c (V m c) t r l, V_dkr H (atRow t r) l]

theorem blk_lat (t : Fin cfg0.N) (r : Fin 256) (l : Fin 512) : (pt m c t).lat (ix2 r l) = (Proj.padLat (A.lat (atRow t r)) l : EReal) := by
  have e : (pt m c t).lat (ix2 r l) = ((cfg0.win 3).blk t).view.read (Elt Ideal) (V m c (Pipeline.arrRef spec0 3)) (ix2 r l) := by rfl
  rw [e, read3 c (V m c) t r l, V_lat H (atRow t r) l]

theorem blk_cqn (t : Fin cfg0.N) (r : Fin 256) (l : Fin 256) : (pt m c t).cqn (ix2 r l) = (A.cqn (atRow t r) l : EReal) := by
  have e : (pt m c t).cqn (ix2 r l) = ((cfg0.win 4).blk t).view.read (Elt Ideal) (V m c (Pipeline.arrRef spec0 4)) (ix2 r l) := by rfl
  rw [e, read4 c (V m c) t r l, V_cqn H (atRow t r) l]

theorem blk_ckvn (t : Fin cfg0.N) (r : Fin 256) (l : Fin 128) : (pt m c t).ckvn (ix2 r l) = (A.ckn (atRow t r) l : EReal) := by
  have e : (pt m c t).ckvn (ix2 r l) = ((cfg0.win 5).blk t).view.read (Elt Ideal) (V m c (Pipeline.arrRef spec0 5)) (ix2 r l) := by rfl
  rw [e, read5 c (V m c) t r l, V_ckn H (atRow t r) l]

theorem blk_h (t : Fin cfg0.N) (r : Fin 256) (l : Fin 1024) : (pt m c t).h (ix2 r l) = (A.h (atRow t r) l : EReal) := by
  have e : (pt m c t).h (ix2 r l) = ((cfg0.win 6).blk t).view.read (Elt Ideal) (V m c (Pipeline.arrRef spec0 6)) (ix2 r l) := by rfl
  rw [e, read6 c (V m c) t r l, V_h H (atRow t r) l]

theorem blk_x (t : Fin cfg0.N) (r : Fin 256) (l : Fin 1024) : (pt m c t).x (ix2 r l) = (A.x (atRow t r) l : EReal) := by
  have e : (pt m c t).x (ix2 r l) = ((cfg0.win 7).blk t).view.read (Elt Ideal) (V m c (Pipeline.arrRef spec0 7)) (ix2 r l) := by rfl
  rw [e, read7 c (V m c) t r l, V_x H (atRow t r) l]

theorem blk_cs (t : Fin cfg0.N) (r : Fin 256) (l : Fin 128) : (pt m c t).cs (ix2 r l) = (Proj.tab0 (A.ang (atRow t r)) l : EReal) := by
  have e : (pt m c t).cs (ix2 r l) = ((cfg0.win 9).blk t).view.read (Elt Ideal) (V m c (Pipeline.arrRef spec0 9)) (ix2 r l) := by rfl
  rw [e, read9 c (V m c) t r l, V_tab0 H (atRow t r) l]

theorem blk_s1 (t : Fin cfg0.N) (r : Fin 256) (l : Fin 128) : (pt m c t).s1 (ix2 r l) = (Proj.tab1 (A.ang (atRow t r)) l : EReal) := by
  have e : (pt m c t).s1 (ix2 r l) = ((cfg0.win 10).blk t).view.read (Elt Ideal) (V m c (Pipeline.arrRef spec0 10)) (ix2 r l) := by rfl
  rw [e, read10 c (V m c) t r l, V_tab1 H (atRow t r) l]

theorem blk_s2 (t : Fin cfg0.N) (r : Fin 256) (l : Fin 128) : (pt m c t).s2 (ix2 r l) = (Proj.tab2 (A.ang (atRow t r)) l : EReal) := by
  have e : (pt m c t).s2 (ix2 r l) = ((cfg0.win 11).blk t).view.read (Elt Ideal) (V m c (Pipeline.arrRef spec0 11)) (ix2 r l) := by rfl
  rw [e, read11 c (V m c) t r l, V_tab2 H (atRow t r) l]

theorem blk_g (t : Fin cfg0.N) (l : Fin 1024) : (pt m c t).g (ix2 0 l) = (A.g l : EReal) := by
  have e : (pt m c t).g (ix2 0 l) = ((cfg0.win 12).blk t).view.read (Elt Ideal) (V m c (Pipeline.arrRef spec0 12)) (ix2 0 l) := by rfl
  rw [e, read12 c (V m c) t 0 l, V_g H l]

theorem blk_qg (t : Fin cfg0.N) (l : Fin 256) : (pt m c t).qg (ix2 0 l) = (A.qg l : EReal) := by
  have e : (pt m c t).qg (ix2 0 l) = ((cfg0.win 13).blk t).view.read (Elt Ideal) (V m c (Pipeline.arrRef spec0 13)) (ix2 0 l) := by rfl
  rw [e, read13 c (V m c) t 0 l, V_qg H l]

theorem blk_kg (t : Fin cfg0.N) (l : Fin 128) : (pt m c t).kg (ix2 0 l) = (A.kg l : EReal) := by
  have e : (pt m c t).kg (ix2 0 l) = ((cfg0.win 14).blk t).view.read (Elt Ideal) (V m c (Pipeline.arrRef spec0 14)) (ix2 0 l) := by rfl
  rw [e, read14 c (V m c) t 0 l, V_kg H l]

theorem blk_wq (t : Fin cfg0.N) (k : Fin 256) (l : Fin 2048) : (pt m c t).wq (ix2 k l) = (Proj.padHeads (A.wq k) l : EReal) := by
  have e : (pt m c t).wq (ix2 k l) = ((cfg0.win 15).blk t).view.read (Elt Ideal) (V m c (Pipeline.arrRef spec0 15)) (ix2 k l) := by rfl
  rw [e, read15 c (V m c) t k l, V_wq H k l]

theorem blk_wkv (t : Fin cfg0.N) (k : Fin 128) (l : Fin 2048) : (pt m c t).wkv (ix2 k l) = (A.wu k l : EReal) := by
  have e : (pt m c t).wkv (ix2 k l) = ((cfg0.win 16).blk t).view.read (Elt Ideal) (V m c (Pipeline.arrRef spec0 16)) (ix2 k l) := by rfl
  rw [e, read16 c (V m c) t k l, V_wu H k l]

theorem blk_wdkv (t : Fin cfg0.N) (k : Fin 1024) (l : Fin 512) : (pt m c t).wdkv (ix2 k l) = (Proj.padLat (A.wd k) l : EReal) := by
  have e : (pt m c t).wdkv (ix2 k l) = ((cfg0.win 17).blk t).view.read (Elt Ideal) (V m c (Pipeline.arrRef spec0 17)) (ix2 k l) := by rfl
  rw [e, read17 c (V m c) t k l, V_wd H k l]

theorem holds (t : Fin cfg0.N) : Holds A (atRow t) (pt m c t) where
  dq := blk_dq m c H t
  dkv := blk_dkv m c H t
  lat := blk_lat m c H t
  cqn := blk_cqn m c H t
  ckvn := blk_ckvn m c H t
  h := blk_h m c H t
  x := blk_x m c H t
  cs := blk_cs m c H t
  s1 := blk_s1 m c H t
  s2 := blk_s2 m c H t
  g := blk_g m c H t
  qg := blk_qg m c H t
  kg := blk_kg m c H t
  wq := blk_wq m c H t
  wkv := blk_wkv m c H t
  wdkv := blk_wdkv m c H t
  dkr r s j := by
    rw [blk_dkr m c H]
    refine congrArg (fun y : ℝ => (y : EReal)) ?_
    exact dkrp_at A (atRow t r) s j

end

theorem blk_res (t : Fin cfg0.N) (r : Fin 256) (l : Fin 1024) : (pt m c t).res (ix2 r l) = m (c, Proc.tc.devRef main_arg11) (ix2 (atRow t r) l) := by
  have e : (pt m c t).res (ix2 r l) = ((cfg0.win 8).blk t).view.read (Elt Ideal) (V m c (Pipeline.arrRef spec0 8)) (ix2 r l) := by rfl
  rw [e, read8 c (V m c) t r l, V_res m c (atRow t r) l]

/-! ## What the last point leaves -/

theorem left_gwq (t : Fin cfg0.N) (ht : t.val + 1 = cfg0.N) (k : Fin 256) (l : Fin 2048) : (stN m c t.val t.isLt).1 (ix2 k l) = (∑ p : Fin cfg0.N, (pt m c p).gwq (ix2 k l) : EReal) := by
  refine (Pipeline.eq_sum_fin_of_reset_step_apply_last (M := EReal) (fun n h (l : Fin 256 × Fin 2048) => (stN m c n h).1 (ix2 l.1 l.2)) 16 (fun _ => 0)
    (fun p l => (pt m c p).gwq (ix2 l.1 l.2)) (fun t h l => ?_) (fun t h l => ?_) (le_of_eq N_0) t ht (k, l)).trans (zero_add _)
  · show (stN m c t.val t.isLt).1 (ix2 l.1 l.2) = _
    rw [stN_first m c t h]
    exact (zero_add _).symm
  · show (stN m c t.val t.isLt).1 (ix2 l.1 l.2) = _
    rw [stN_next m c t h]
    exact next_gwq _ _ l.1 l.2

theorem left_gwkv (t : Fin cfg0.N) (ht : t.val + 1 = cfg0.N) (k : Fin 128) (l : Fin 2048) : (stN m c t.val t.isLt).2.1 (ix2 k l) = (∑ p : Fin cfg0.N, (pt m c p).gwkv (ix2 k l) : EReal) := by
  refine (Pipeline.eq_sum_fin_of_reset_step_apply_last (M := EReal) (fun n h (l : Fin 128 × Fin 2048) => (stN m c n h).2.1 (ix2 l.1 l.2)) 16 (fun _ => 0)
    (fun p l => (pt m c p).gwkv (ix2 l.1 l.2)) (fun t h l => ?_) (fun t h l => ?_) (le_of_eq N_0) t ht (k, l)).trans (zero_add _)
  · show (stN m c t.val t.isLt).2.1 (ix2 l.1 l.2) = _
    rw [stN_first m c t h]
    exact (zero_add _).symm
  · show (stN m c t.val t.isLt).2.1 (ix2 l.1 l.2) = _
    rw [stN_next m c t h]
    exact next_gwkv _ _ l.1 l.2

theorem left_gwdkv (t : Fin cfg0.N) (ht : t.val + 1 = cfg0.N) (k : Fin 1024) (l : Fin 512) : (stN m c t.val t.isLt).2.2.1 (ix2 k l) = (∑ p : Fin cfg0.N, (pt m c p).gwdkv (ix2 k l) : EReal) := by
  refine (Pipeline.eq_sum_fin_of_reset_step_apply_last (M := EReal) (fun n h (l : Fin 1024 × Fin 512) => (stN m c n h).2.2.1 (ix2 l.1 l.2)) 16 (fun _ => 0)
    (fun p l => (pt m c p).gwdkv (ix2 l.1 l.2)) (fun t h l => ?_) (fun t h l => ?_) (le_of_eq N_0) t ht (k, l)).trans (zero_add _)
  · show (stN m c t.val t.isLt).2.2.1 (ix2 l.1 l.2) = _
    rw [stN_first m c t h]
    exact (zero_add _).symm
  · show (stN m c t.val t.isLt).2.2.1 (ix2 l.1 l.2) = _
    rw [stN_next m c t h]
    exact next_gwdkv _ _ l.1 l.2

theorem left_gqg (t : Fin cfg0.N) (ht : t.val + 1 = cfg0.N) (l : Fin 256) : (stN m c t.val t.isLt).2.2.2.1 (ix2 0 l) = (∑ p : Fin cfg0.N, (pt m c p).gqg (ix2 0 l) : EReal) := by
  refine (Pipeline.eq_sum_fin_of_reset_step_apply_last (M := EReal) (fun n h (l : Fin 256) => (stN m c n h).2.2.2.1 (ix2 0 l)) 16 (fun _ => 0)
    (fun p l => (pt m c p).gqg (ix2 0 l)) (fun t h l => ?_) (fun t h l => ?_) (le_of_eq N_0) t ht l).trans (zero_add _)
  · show (stN m c t.val t.isLt).2.2.2.1 (ix2 0 l) = _
    rw [stN_first m c t h]
    exact (zero_add _).symm
  · show (stN m c t.val t.isLt).2.2.2.1 (ix2 0 l) = _
    rw [stN_next m c t h]
    exact next_gqg _ _ l

theorem left_gkg (t : Fin cfg0.N) (ht : t.val + 1 = cfg0.N) (l : Fin 128) : (stN m c t.val t.isLt).2.2.2.2.1 (ix2 0 l) = (∑ p : Fin cfg0.N, (pt m c p).gkg (ix2 0 l) : EReal) := by
  refine (Pipeline.eq_sum_fin_of_reset_step_apply_last (M := EReal) (fun n h (l : Fin 128) => (stN m c n h).2.2.2.2.1 (ix2 0 l)) 16 (fun _ => 0)
    (fun p l => (pt m c p).gkg (ix2 0 l)) (fun t h l => ?_) (fun t h l => ?_) (le_of_eq N_0) t ht l).trans (zero_add _)
  · show (stN m c t.val t.isLt).2.2.2.2.1 (ix2 0 l) = _
    rw [stN_first m c t h]
    exact (zero_add _).symm
  · show (stN m c t.val t.isLt).2.2.2.2.1 (ix2 0 l) = _
    rw [stN_next m c t h]
    exact next_gkg _ _ l

theorem left_gg (t : Fin cfg0.N) (ht : t.val + 1 = cfg0.N) (l : Fin 1024) : (stN m c t.val t.isLt).2.2.2.2.2 (ix2 0 l) = (∑ p : Fin cfg0.N, (pt m c p).gg (ix2 0 l) : EReal) := by
  refine (Pipeline.eq_sum_fin_of_reset_step_apply_last (M := EReal) (fun n h (l : Fin 1024) => (stN m c n h).2.2.2.2.2 (ix2 0 l)) 16 (fun _ => 0)
    (fun p l => (pt m c p).gg (ix2 0 l)) (fun t h l => ?_) (fun t h l => ?_) (le_of_eq N_0) t ht l).trans (zero_add _)
  · show (stN m c t.val t.isLt).2.2.2.2.2 (ix2 0 l) = _
    rw [stN_first m c t h]
    exact (zero_add _).symm
  · show (stN m c t.val t.isLt).2.2.2.2.2 (ix2 0 l) = _
    rw [stN_next m c t h]
    exact next_gg _ _ l

/-! ## The eight arrays -/

section
include H

theorem final18 : (dats m 0 c).arrAt 18 cfg0.N = fun i : S4096x1024.Idx => ((A.dx (i 0) (i 1) : EReal) + m (c, Proc.tc.devRef main_arg11) i : EReal) := by
  refine (dats m 0 c).arrAt_eq_of_covers 18 _ (by decide +kernel) fun t hf y => ?_
  obtain ⟨r, l, rfl⟩ : ∃ (r : Fin 256) (l : Fin 1024), y = ix2 r l := ⟨y 0, y 1, (ix2_eta y).symm⟩
  have e : ((cfg0.win 18).blk t).view.emb (ix2 r l) = ix2 (atRow t r) l := by blk_ext [index18, atRow]
  refine Eq.trans ?_ (congrArg (fun i : S4096x1024.Idx => ((A.dx (i 0) (i 1) : EReal) + m (c, Proc.tc.devRef main_arg11) i : EReal)) e).symm
  blk_simp
  rw [after_18, dx_at, dn_eq (holds m c H t), blk_res]
  rfl

theorem final19 : (dats m 0 c).arrAt 19 cfg0.N = fun i : S4096x1024.Idx => ((A.dx (i 0) (i 1) : EReal) + m (c, Proc.tc.devRef main_arg11) i : EReal) := by
  refine (dats m 0 c).arrAt_eq_of_covers 19 _ (by decide +kernel) fun t hf y => ?_
  obtain ⟨r, l, rfl⟩ : ∃ (r : Fin 256) (l : Fin 1024), y = ix2 r l := ⟨y 0, y 1, (ix2_eta y).symm⟩
  have e : ((cfg0.win 19).blk t).view.emb (ix2 r l) = ix2 (atRow t r) l := by blk_ext [index19, atRow]
  refine Eq.trans ?_ (congrArg (fun i : S4096x1024.Idx => ((A.dx (i 0) (i 1) : EReal) + m (c, Proc.tc.devRef main_arg11) i : EReal)) e).symm
  blk_simp
  rw [after_19, dxb_at, dn_eq (holds m c H t), blk_res]
  rfl

theorem final20 : (dats m 0 c).arrAt 20 cfg0.N = fun i : S256x2048.Idx => (Proj.padHeads (A.gwq (i 0)) (i 1) : EReal) := by
  refine (dats m 0 c).arrAt_eq_of_after_last 20 t0_15 (by decide +kernel) _ fun y => ?_
  obtain ⟨k, l, rfl⟩ : ∃ (k : Fin 256) (l : Fin 2048), y = ix2 k l := ⟨y 0, y 1, (ix2_eta y).symm⟩
  blk_simp
  rw [after_20]
  refine (left_gwq m c t0_15 (by decide) k l).trans ?_
  refine (Finset.sum_congr rfl fun p _ => gwq_eq (holds m c H p) k l).trans ?_
  rw [coe_sum]
  refine congrArg (fun y : ℝ => (y : EReal)) ?_
  refine Eq.trans ?_ (sum_mul_padHeads _ _ _)
  exact Fin.sum_mul_add_congr (fun p r hl => rfl) (hL := by rfl)

theorem final21 : (dats m 0 c).arrAt 21 cfg0.N = fun i : S128x2048.Idx => (A.gwu (i 0) (i 1) : EReal) := by
  refine (dats m 0 c).arrAt_eq_of_after_last 21 t0_15 (by decide +kernel) _ fun y => ?_
  obtain ⟨k, l, rfl⟩ : ∃ (k : Fin 128) (l : Fin 2048), y = ix2 k l := ⟨y 0, y 1, (ix2_eta y).symm⟩
  blk_simp
  rw [after_21]
  refine (left_gwkv m c t0_15 (by decide) k l).trans ?_
  refine (Finset.sum_congr rfl fun p _ => gwkv_eq (holds m c H p) k l).trans ?_
  rw [coe_sum]
  refine congrArg (fun y : ℝ => (y : EReal)) ?_
  exact Fin.sum_mul_add_congr (fun p r hl => rfl) (hL := by rfl)

theorem final22 : (dats m 0 c).arrAt 22 cfg0.N = fun i : S1024x512.Idx => (Proj.padLat (A.gwd (i 0)) (i 1) : EReal) := by
  refine (dats m 0 c).arrAt_eq_of_after_last 22 t0_15 (by decide +kernel) _ fun y => ?_
  obtain ⟨k, l, rfl⟩ : ∃ (k : Fin 1024) (l : Fin 512), y = ix2 k l := ⟨y 0, y 1, (ix2_eta y).symm⟩
  blk_simp
  rw [after_22]
  refine (left_gwdkv m c t0_15 (by decide) k l).trans ?_
  refine (Finset.sum_congr rfl fun p _ => gwdkv_eq (holds m c H p) k l).trans ?_
  rw [coe_sum]
  refine congrArg (fun y : ℝ => (y : EReal)) ?_
  refine Eq.trans ?_ (sum_mul_padLat _ _ _)
  exact Fin.sum_mul_add_congr (fun p r hl => rfl) (hL := by rfl)

theorem final23 : (dats m 0 c).arrAt 23 cfg0.N = fun i : S1x256.Idx => (A.gqg (i 1) : EReal) := by
  refine (dats m 0 c).arrAt_eq_of_after_last 23 t0_15 (by decide +kernel) _ fun y => ?_
  obtain ⟨k, l, rfl⟩ : ∃ (k : Fin 1) (l : Fin 256), y = ix2 k l := ⟨y 0, y 1, (ix2_eta y).symm⟩
  obtain rfl : k = 0 := Subsingleton.elim _ _
  blk_simp
  rw [after_23]
  refine (left_gqg m c t0_15 (by decide) l).trans ?_
  refine (Finset.sum_congr rfl fun p _ => gqg_eq (holds m c H p) l).trans ?_
  rw [coe_sum]
  refine congrArg (fun y : ℝ => (y : EReal)) ?_
  exact Fin.sum_mul_add_congr (fun p r hl => rfl) (hL := by rfl)

theorem final24 : (dats m 0 c).arrAt 24 cfg0.N = fun i : S1x128.Idx => (A.gkg (i 1) : EReal) := by
  refine (dats m 0 c).arrAt_eq_of_after_last 24 t0_15 (by decide +kernel) _ fun y => ?_
  obtain ⟨k, l, rfl⟩ : ∃ (k : Fin 1) (l : Fin 128), y = ix2 k l := ⟨y 0, y 1, (ix2_eta y).symm⟩
  obtain rfl : k = 0 := Subsingleton.elim _ _
  blk_simp
  rw [after_24]
  refine (left_gkg m c t0_15 (by decide) l).trans ?_
  refine (Finset.sum_congr rfl fun p _ => gkg_eq (holds m c H p) l).trans ?_
  rw [coe_sum]
  refine congrArg (fun y : ℝ => (y : EReal)) ?_
  exact Fin.sum_mul_add_congr (fun p r hl => rfl) (hL := by rfl)

theorem final25 : (dats m 0 c).arrAt 25 cfg0.N = fun i : S1x1024.Idx => (A.gg (i 1) : EReal) := by
  refine (dats m 0 c).arrAt_eq_of_after_last 25 t0_15 (by decide +kernel) _ fun y => ?_
  obtain ⟨k, l, rfl⟩ : ∃ (k : Fin 1) (l : Fin 1024), y = ix2 k l := ⟨y 0, y 1, (ix2_eta y).symm⟩
  obtain rfl : k = 0 := Subsingleton.elim _ _
  blk_simp
  rw [after_25]
  refine (left_gg m c t0_15 (by decide) l).trans ?_
  refine (Finset.sum_congr rfl fun p _ => gg_eq (holds m c H p) l).trans ?_
  rw [coe_sum]
  refine congrArg (fun y : ℝ => (y : EReal)) ?_
  exact Fin.sum_mul_add_congr (fun p r hl => rfl) (hL := by rfl)

end

end Cert.ProjKernelIdeal.Hand
-- ==== Proof.ProjRef.lean ====
module

public import proofs.«01_k».proof.Proof.ProjReal
public import proofs.«01_k».proof.Proof.Gen.ProjReferenceIdeal.Read
public import Idealize.ShloMosaic.Lib.Pointwise

/-!
# The latent projections' derivative: each array from the ones before it

The reference's arrays at an index.
-/

@[expose] public section

set_option maxRecDepth 16384

noncomputable section

open Idealize.ShloMosaic Idealize.ShloMosaic.TcCoe Idealize.ShloMosaic.Pointwise

namespace Cert.ProjReferenceIdeal.Hand

open Cert.ProjReferenceIdeal Cert.ProjReferenceIdeal.Gen Cert.ProjReferenceIdeal.Read Cert.Reals

variable (x0 x11 : FVec Ideal S4096x1024 .f32) (x1 : IVec S4096 32) (x2 : FVec Ideal S1024 .f32) (x3 : FVec Ideal S1024x448 .f32)
  (x4 : FVec Ideal S256 .f32) (x5 : FVec Ideal S128 .f32) (x6 : FVec Ideal S256x1536 .f32) (x7 : FVec Ideal S128x2048 .f32)
  (x8 : FVec Ideal S4096x8x192 .f32) (x9 : FVec Ideal S4096x8x256 .f32) (x10 : FVec Ideal S4096x8x64 .f32)

theorem v15_at (n : Fin 4096) (k : Fin 32) : val_main_v15 (F := Ideal) x1 (ix2 n k)
    = (Proj.angE (x1 (ix1 n)) k.val : EReal) := by
  unfold val_main_v15 val_main_v13 val_main_v11 val_main_v10 val_main_v14 val_main_v12 val_main_v9 val_main_v7 val_main_v5 val_main_v4 val_main_v2 val_main_v0 val_main_v1 val_main_cst val_main_v3 val_main_cst_0 val_main_v6 val_main_cst_1 val_main_v8 val_main_cst_2
  unfold Proj.angE
  pointwise

theorem v24_at (n : Fin 4096) : val_main_v24 (F := Ideal) x0 (ix2 n 0)
    = (Ideal.div (∑ k, x0 (ix2 n k) * x0 (ix2 n k)) (Ideal.ofBits .f32 0x44800000#32) + Ideal.ofBits .f32 0x358637BD#32 : EReal) := by
  unfold val_main_v24 val_main_v22 val_main_v20 val_main_v19 val_main_cst_3 val_main_v18 val_main_v21 val_main_cst_4 val_main_v23 val_main_cst_5
  pointwise

theorem v25_at (n : Fin 4096) : val_main_v25 (F := Ideal) x0 (ix2 n 0)
    = (Ideal.rsqrt (val_main_v24 (F := Ideal) x0 (ix2 n 0)) : EReal) := by
  unfold val_main_v25
  pointwise

theorem v28_at (n : Fin 4096) : val_main_v28 (F := Ideal) x0 (ix2 n 0)
    = (Ideal.ofBits .f32 0xBF000000#32 * Ideal.div (val_main_v25 (F := Ideal) x0 (ix2 n 0)) (val_main_v24 (F := Ideal) x0 (ix2 n 0)) : EReal) := by
  unfold val_main_v28 val_main_v26 val_main_v27 val_main_cst_6
  pointwise

theorem v30_at (n : Fin 4096) (k : Fin 1024) : val_main_v30 (F := Ideal) x0 (ix2 n k)
    = (x0 (ix2 n k) * val_main_v25 (F := Ideal) x0 (ix2 n 0) : EReal) := by
  unfold val_main_v30 val_main_v29
  pointwise

theorem v33_at (n : Fin 4096) (k : Fin 1024) : val_main_v33 (F := Ideal) x0 x2 (ix2 n k)
    = (val_main_v30 (F := Ideal) x0 (ix2 n k) * x2 (ix1 k) : EReal) := by
  unfold val_main_v33 val_main_v32 val_main_v31
  pointwise

theorem v34_at (n : Fin 4096) (k : Fin 448) : val_main_v34 (F := Ideal) x0 x2 x3 (ix2 n k)
    = (∑ i, val_main_v33 (F := Ideal) x0 x2 (ix2 n i) * x3 (ix2 i k) : EReal) := by
  unfold val_main_v34
  pointwise

theorem v35_at (n : Fin 4096) (k : Fin 256) : val_main_v35 (F := Ideal) x0 x2 x3 (ix2 n k)
    = (val_main_v34 (F := Ideal) x0 x2 x3 (ix2 n ⟨k.val, by omega⟩) : EReal) := by
  unfold val_main_v35
  pointwise

theorem v36_at (n : Fin 4096) (k : Fin 128) : val_main_v36 (F := Ideal) x0 x2 x3 (ix2 n k)
    = (val_main_v34 (F := Ideal) x0 x2 x3 (ix2 n ⟨256 + k.val, by omega⟩) : EReal) := by
  unfold val_main_v36
  pointwise

theorem v44_at (n : Fin 4096) : val_main_v44 (F := Ideal) x0 x2 x3 (ix2 n 0)
    = (Ideal.div (∑ k, val_main_v35 (F := Ideal) x0 x2 x3 (ix2 n k) * val_main_v35 (F := Ideal) x0 x2 x3 (ix2 n k)) (Ideal.ofBits .f32 0x43800000#32) + Ideal.ofBits .f32 0x358637BD#32 : EReal) := by
  unfold val_main_v44 val_main_v42 val_main_v40 val_main_v39 val_main_cst_7 val_main_v38 val_main_v41 val_main_cst_8 val_main_v43 val_main_cst_9
  pointwise

theorem v45_at (n : Fin 4096) : val_main_v45 (F := Ideal) x0 x2 x3 (ix2 n 0)
    = (Ideal.rsqrt (val_main_v44 (F := Ideal) x0 x2 x3 (ix2 n 0)) : EReal) := by
  unfold val_main_v45
  pointwise

theorem v48_at (n : Fin 4096) : val_main_v48 (F := Ideal) x0 x2 x3 (ix2 n 0)
    = (Ideal.ofBits .f32 0xBF000000#32 * Ideal.div (val_main_v45 (F := Ideal) x0 x2 x3 (ix2 n 0)) (val_main_v44 (F := Ideal) x0 x2 x3 (ix2 n 0)) : EReal) := by
  unfold val_main_v48 val_main_v46 val_main_v47 val_main_cst_10
  pointwise

theorem v50_at (n : Fin 4096) (k : Fin 256) : val_main_v50 (F := Ideal) x0 x2 x3 (ix2 n k)
    = (val_main_v35 (F := Ideal) x0 x2 x3 (ix2 n k) * val_main_v45 (F := Ideal) x0 x2 x3 (ix2 n 0) : EReal) := by
  unfold val_main_v50 val_main_v49
  pointwise

theorem v53_at (n : Fin 4096) (k : Fin 256) : val_main_v53 (F := Ideal) x0 x2 x3 x4 (ix2 n k)
    = (val_main_v50 (F := Ideal) x0 x2 x3 (ix2 n k) * x4 (ix1 k) : EReal) := by
  unfold val_main_v53 val_main_v52 val_main_v51
  pointwise

theorem v80_at (n : Fin 4096) : val_main_v80 (F := Ideal) x0 x2 x3 (ix2 n 0)
    = (Ideal.div (∑ k, val_main_v36 (F := Ideal) x0 x2 x3 (ix2 n k) * val_main_v36 (F := Ideal) x0 x2 x3 (ix2 n k)) (Ideal.ofBits .f32 0x43000000#32) + Ideal.ofBits .f32 0x358637BD#32 : EReal) := by
  unfold val_main_v80 val_main_v78 val_main_v76 val_main_v75 val_main_cst_11 val_main_v74 val_main_v77 val_main_cst_12 val_main_v79 val_main_cst_13
  pointwise

theorem v81_at (n : Fin 4096) : val_main_v81 (F := Ideal) x0 x2 x3 (ix2 n 0)
    = (Ideal.rsqrt (val_main_v80 (F := Ideal) x0 x2 x3 (ix2 n 0)) : EReal) := by
  unfold val_main_v81
  pointwise

theorem v84_at (n : Fin 4096) : val_main_v84 (F := Ideal) x0 x2 x3 (ix2 n 0)
    = (Ideal.ofBits .f32 0xBF000000#32 * Ideal.div (val_main_v81 (F := Ideal) x0 x2 x3 (ix2 n 0)) (val_main_v80 (F := Ideal) x0 x2 x3 (ix2 n 0)) : EReal) := by
  unfold val_main_v84 val_main_v82 val_main_v83 val_main_cst_14
  pointwise

theorem v86_at (n : Fin 4096) (k : Fin 128) : val_main_v86 (F := Ideal) x0 x2 x3 (ix2 n k)
    = (val_main_v36 (F := Ideal) x0 x2 x3 (ix2 n k) * val_main_v81 (F := Ideal) x0 x2 x3 (ix2 n 0) : EReal) := by
  unfold val_main_v86 val_main_v85
  pointwise

theorem v89_at (n : Fin 4096) (k : Fin 128) : val_main_v89 (F := Ideal) x0 x2 x3 x5 (ix2 n k)
    = (val_main_v86 (F := Ideal) x0 x2 x3 (ix2 n k) * x5 (ix1 k) : EReal) := by
  unfold val_main_v89 val_main_v88 val_main_v87
  pointwise

theorem v105_at (n : Fin 4096) (k : Fin 64) : val_main_v105 (F := Ideal) x10 (ix2 n k)
    = (∑ _ : Fin 1, ∑ h, x10 (ix3 n h k) : EReal) := by
  unfold val_main_v105 val_main_cst_16 val_main_v104 val_main_v103 val_main_cst_15
  pointwise

theorem v114_at (n : Fin 4096) (k : Fin 32) : val_main_v114 (F := Ideal) x1 x10 (ix2 n k)
    = (val_main_v105 (F := Ideal) x10 (ix2 n ⟨32 + k.val, by omega⟩) * Ideal.sin (val_main_v15 (F := Ideal) x1 (ix2 n k)) + val_main_v105 (F := Ideal) x10 (ix2 n ⟨k.val, by omega⟩) * Ideal.cos (val_main_v15 (F := Ideal) x1 (ix2 n k)) : EReal) := by
  unfold val_main_v114 val_main_v108 val_main_v107 val_main_v17 val_main_v113 val_main_v106 val_main_v16
  pointwise

theorem v112_at (n : Fin 4096) (k : Fin 32) : val_main_v112 (F := Ideal) x1 x10 (ix2 n k)
    = (val_main_v105 (F := Ideal) x10 (ix2 n ⟨32 + k.val, by omega⟩) * Ideal.cos (val_main_v15 (F := Ideal) x1 (ix2 n k)) + -(val_main_v105 (F := Ideal) x10 (ix2 n ⟨k.val, by omega⟩)) * Ideal.sin (val_main_v15 (F := Ideal) x1 (ix2 n k)) : EReal) := by
  unfold val_main_v112 val_main_v109 val_main_v107 val_main_v16 val_main_v111 val_main_v110 val_main_v106 val_main_v17
  pointwise

theorem v115_at (n : Fin 4096) (k : Fin 64) : val_main_v115 (F := Ideal) x1 x10 (ix2 n k)
    = (if h : k.val < 32 then val_main_v114 (F := Ideal) x1 x10 (ix2 n ⟨k.val, h⟩) else val_main_v112 (F := Ideal) x1 x10 (ix2 n ⟨k.val - 32, by omega⟩) : EReal) := by
  unfold val_main_v115
  pointwise

theorem v116_at (n : Fin 4096) (k : Fin 2048) : val_main_v116 (F := Ideal) x9 (ix2 n k)
    = (x9 (ix3 n ⟨k.val / 256, by omega⟩ ⟨k.val % 256, by omega⟩) : EReal) := by
  unfold val_main_v116
  pointwise

theorem v118_at (k : Fin 128) (l : Fin 2048) : val_main_v118 (F := Ideal) x0 x2 x3 x5 x9 (ix2 k l)
    = (∑ n, val_main_v116 (F := Ideal) x9 (ix2 n l) * val_main_v89 (F := Ideal) x0 x2 x3 x5 (ix2 n k) : EReal) := by
  unfold val_main_v118 val_main_v117
  pointwise

theorem v119_at (n : Fin 4096) (k : Fin 128) : val_main_v119 (F := Ideal) x7 x9 (ix2 n k)
    = (∑ l, val_main_v116 (F := Ideal) x9 (ix2 n l) * x7 (ix2 k l) : EReal) := by
  unfold val_main_v119
  pointwise

theorem v124_at (n : Fin 4096) (k : Fin 128) : val_main_v124 (F := Ideal) x5 x7 x9 (ix2 n k)
    = (val_main_v119 (F := Ideal) x7 x9 (ix2 n k) * x5 (ix1 k) : EReal) := by
  unfold val_main_v124 val_main_v123 val_main_v87
  pointwise

theorem v212_at (k : Fin 128) : val_main_v212 (F := Ideal) x0 x2 x3 x7 x9 (ix2 0 k)
    = (∑ _ : Fin 1, ∑ n, val_main_v86 (F := Ideal) x0 x2 x3 (ix2 n k) * val_main_v119 (F := Ideal) x7 x9 (ix2 n k) : EReal) := by
  unfold val_main_v212 val_main_v125 val_main_cst_18 val_main_v122 val_main_v121 val_main_cst_17 val_main_v120
  pointwise

theorem v135_at (n : Fin 4096) (k : Fin 128) : val_main_v135 (F := Ideal) x0 x2 x3 x5 x7 x9 (ix2 n k)
    = (∑ _ : Fin 1, Ideal.div ((∑ k, val_main_v36 (F := Ideal) x0 x2 x3 (ix2 n k) * val_main_v124 (F := Ideal) x5 x7 x9 (ix2 n k)) * val_main_v84 (F := Ideal) x0 x2 x3 (ix2 n 0)) (Ideal.ofBits .f32 0x43000000#32) : EReal) := by
  unfold val_main_v135 val_main_v134 val_main_cst_21 val_main_v133 val_main_v131 val_main_v128 val_main_v127 val_main_cst_19 val_main_v126 val_main_v132 val_main_cst_20
  pointwise
  simp only [Finset.univ_unique, Finset.sum_singleton, Fin.default_eq_zero]

theorem v139_at (n : Fin 4096) (k : Fin 128) : val_main_v139 (F := Ideal) x0 x2 x3 x5 x7 x9 (ix2 n k)
    = (val_main_v124 (F := Ideal) x5 x7 x9 (ix2 n k) * val_main_v81 (F := Ideal) x0 x2 x3 (ix2 n 0) + val_main_v36 (F := Ideal) x0 x2 x3 (ix2 n k) * val_main_v135 (F := Ideal) x0 x2 x3 x5 x7 x9 (ix2 n k) + val_main_v135 (F := Ideal) x0 x2 x3 x5 x7 x9 (ix2 n k) * val_main_v36 (F := Ideal) x0 x2 x3 (ix2 n k) : EReal) := by
  unfold val_main_v139 val_main_v137 val_main_v130 val_main_v129 val_main_v136 val_main_v138
  pointwise

theorem v141_at (n : Fin 4096) (g : Fin 8) (k : Fin 64) : val_main_v141 (F := Ideal) x8 (ix3 n g k)
    = (x8 (ix3 n g ⟨128 + k.val, by omega⟩) : EReal) := by
  unfold val_main_v141
  pointwise

theorem v154_at (n : Fin 4096) (g : Fin 8) (k : Fin 32) : val_main_v154 (F := Ideal) x1 x8 (ix3 n g k)
    = (val_main_v141 (F := Ideal) x8 (ix3 n g ⟨32 + k.val, by omega⟩) * Ideal.sin (val_main_v15 (F := Ideal) x1 (ix2 n k)) + val_main_v141 (F := Ideal) x8 (ix3 n g ⟨k.val, by omega⟩) * Ideal.cos (val_main_v15 (F := Ideal) x1 (ix2 n k)) : EReal) := by
  unfold val_main_v154 val_main_v145 val_main_v143 val_main_v144 val_main_v59 val_main_v17 val_main_v153 val_main_v142 val_main_v152 val_main_v58 val_main_v16
  pointwise

theorem v151_at (n : Fin 4096) (g : Fin 8) (k : Fin 32) : val_main_v151 (F := Ideal) x1 x8 (ix3 n g k)
    = (val_main_v141 (F := Ideal) x8 (ix3 n g ⟨32 + k.val, by omega⟩) * Ideal.cos (val_main_v15 (F := Ideal) x1 (ix2 n k)) + -(val_main_v141 (F := Ideal) x8 (ix3 n g ⟨k.val, by omega⟩)) * Ideal.sin (val_main_v15 (F := Ideal) x1 (ix2 n k)) : EReal) := by
  unfold val_main_v151 val_main_v147 val_main_v143 val_main_v146 val_main_v58 val_main_v16 val_main_v150 val_main_v148 val_main_v142 val_main_v149 val_main_v59 val_main_v17
  pointwise

theorem v155_at (n : Fin 4096) (g : Fin 8) (k : Fin 64) : val_main_v155 (F := Ideal) x1 x8 (ix3 n g k)
    = (if h : k.val < 32 then val_main_v154 (F := Ideal) x1 x8 (ix3 n g ⟨k.val, h⟩) else val_main_v151 (F := Ideal) x1 x8 (ix3 n g ⟨k.val - 32, by omega⟩) : EReal) := by
  unfold val_main_v155
  pointwise

theorem v156_at (n : Fin 4096) (g : Fin 8) (k : Fin 192) : val_main_v156 (F := Ideal) x1 x8 (ix3 n g k)
    = (if h : k.val < 128 then x8 (ix3 n g ⟨k.val, by omega⟩) else val_main_v155 (F := Ideal) x1 x8 (ix3 n g ⟨k.val - 128, by omega⟩) : EReal) := by
  unfold val_main_v156 val_main_v140
  pointwise

theorem v157_at (n : Fin 4096) (k : Fin 1536) : val_main_v157 (F := Ideal) x1 x8 (ix2 n k)
    = (val_main_v156 (F := Ideal) x1 x8 (ix3 n ⟨k.val / 192, by omega⟩ ⟨k.val % 192, by omega⟩) : EReal) := by
  unfold val_main_v157
  pointwise

theorem v159_at (k : Fin 256) (l : Fin 1536) : val_main_v159 (F := Ideal) x0 x1 x2 x3 x4 x8 (ix2 k l)
    = (∑ n, val_main_v157 (F := Ideal) x1 x8 (ix2 n l) * val_main_v53 (F := Ideal) x0 x2 x3 x4 (ix2 n k) : EReal) := by
  unfold val_main_v159 val_main_v158
  pointwise

theorem v160_at (n : Fin 4096) (k : Fin 256) : val_main_v160 (F := Ideal) x1 x6 x8 (ix2 n k)
    = (∑ l, val_main_v157 (F := Ideal) x1 x8 (ix2 n l) * x6 (ix2 k l) : EReal) := by
  unfold val_main_v160
  pointwise

theorem v165_at (n : Fin 4096) (k : Fin 256) : val_main_v165 (F := Ideal) x1 x4 x6 x8 (ix2 n k)
    = (val_main_v160 (F := Ideal) x1 x6 x8 (ix2 n k) * x4 (ix1 k) : EReal) := by
  unfold val_main_v165 val_main_v164 val_main_v51
  pointwise

theorem v211_at (k : Fin 256) : val_main_v211 (F := Ideal) x0 x1 x2 x3 x6 x8 (ix2 0 k)
    = (∑ _ : Fin 1, ∑ n, val_main_v50 (F := Ideal) x0 x2 x3 (ix2 n k) * val_main_v160 (F := Ideal) x1 x6 x8 (ix2 n k) : EReal) := by
  unfold val_main_v211 val_main_v166 val_main_cst_23 val_main_v163 val_main_v162 val_main_cst_22 val_main_v161
  pointwise

theorem v176_at (n : Fin 4096) (k : Fin 256) : val_main_v176 (F := Ideal) x0 x1 x2 x3 x4 x6 x8 (ix2 n k)
    = (∑ _ : Fin 1, Ideal.div ((∑ k, val_main_v35 (F := Ideal) x0 x2 x3 (ix2 n k) * val_main_v165 (F := Ideal) x1 x4 x6 x8 (ix2 n k)) * val_main_v48 (F := Ideal) x0 x2 x3 (ix2 n 0)) (Ideal.ofBits .f32 0x43800000#32) : EReal) := by
  unfold val_main_v176 val_main_v175 val_main_cst_26 val_main_v174 val_main_v172 val_main_v169 val_main_v168 val_main_cst_24 val_main_v167 val_main_v173 val_main_cst_25
  pointwise
  simp only [Finset.univ_unique, Finset.sum_singleton, Fin.default_eq_zero]

theorem v180_at (n : Fin 4096) (k : Fin 256) : val_main_v180 (F := Ideal) x0 x1 x2 x3 x4 x6 x8 (ix2 n k)
    = (val_main_v165 (F := Ideal) x1 x4 x6 x8 (ix2 n k) * val_main_v45 (F := Ideal) x0 x2 x3 (ix2 n 0) + val_main_v35 (F := Ideal) x0 x2 x3 (ix2 n k) * val_main_v176 (F := Ideal) x0 x1 x2 x3 x4 x6 x8 (ix2 n k) + val_main_v176 (F := Ideal) x0 x1 x2 x3 x4 x6 x8 (ix2 n k) * val_main_v35 (F := Ideal) x0 x2 x3 (ix2 n k) : EReal) := by
  unfold val_main_v180 val_main_v178 val_main_v171 val_main_v170 val_main_v177 val_main_v179
  pointwise

theorem v181_at (n : Fin 4096) (k : Fin 448) : val_main_v181 (F := Ideal) x0 x1 x2 x3 x4 x5 x6 x7 x8 x9 x10 (ix2 n k)
    = (if h : k.val < 256 then val_main_v180 (F := Ideal) x0 x1 x2 x3 x4 x6 x8 (ix2 n ⟨k.val, h⟩) else if h' : k.val - 256 < 128 then val_main_v139 (F := Ideal) x0 x2 x3 x5 x7 x9 (ix2 n ⟨k.val - 256, h'⟩) else val_main_v115 (F := Ideal) x1 x10 (ix2 n ⟨k.val - 256 - 128, by omega⟩) : EReal) := by
  unfold val_main_v181
  pointwise

theorem v183_at (i : Fin 1024) (l : Fin 448) : val_main_v183 (F := Ideal) x0 x1 x2 x3 x4 x5 x6 x7 x8 x9 x10 (ix2 i l)
    = (∑ n, val_main_v181 (F := Ideal) x0 x1 x2 x3 x4 x5 x6 x7 x8 x9 x10 (ix2 n l) * val_main_v33 (F := Ideal) x0 x2 (ix2 n i) : EReal) := by
  unfold val_main_v183 val_main_v182
  pointwise

theorem v184_at (n : Fin 4096) (k : Fin 1024) : val_main_v184 (F := Ideal) x0 x1 x2 x3 x4 x5 x6 x7 x8 x9 x10 (ix2 n k)
    = (∑ l, val_main_v181 (F := Ideal) x0 x1 x2 x3 x4 x5 x6 x7 x8 x9 x10 (ix2 n l) * x3 (ix2 k l) : EReal) := by
  unfold val_main_v184
  pointwise

theorem v189_at (n : Fin 4096) (k : Fin 1024) : val_main_v189 (F := Ideal) x0 x1 x2 x3 x4 x5 x6 x7 x8 x9 x10 (ix2 n k)
    = (val_main_v184 (F := Ideal) x0 x1 x2 x3 x4 x5 x6 x7 x8 x9 x10 (ix2 n k) * x2 (ix1 k) : EReal) := by
  unfold val_main_v189 val_main_v188 val_main_v31
  pointwise

theorem v213_at (k : Fin 1024) : val_main_v213 (F := Ideal) x0 x1 x2 x3 x4 x5 x6 x7 x8 x9 x10 (ix2 0 k)
    = (∑ _ : Fin 1, ∑ n, val_main_v30 (F := Ideal) x0 (ix2 n k) * val_main_v184 (F := Ideal) x0 x1 x2 x3 x4 x5 x6 x7 x8 x9 x10 (ix2 n k) : EReal) := by
  unfold val_main_v213 val_main_v190 val_main_cst_28 val_main_v187 val_main_v186 val_main_cst_27 val_main_v185
  pointwise

theorem v201_at (n : Fin 4096) (k : Fin 1024) : val_main_v201 (F := Ideal) x0 x1 x2 x3 x4 x5 x6 x7 x8 x9 x10 (ix2 n k)
    = (∑ _ : Fin 1, Ideal.div ((∑ k, x0 (ix2 n k) * val_main_v189 (F := Ideal) x0 x1 x2 x3 x4 x5 x6 x7 x8 x9 x10 (ix2 n k)) * val_main_v28 (F := Ideal) x0 (ix2 n 0)) (Ideal.ofBits .f32 0x44800000#32) : EReal) := by
  unfold val_main_v201 val_main_v200 val_main_cst_31 val_main_v199 val_main_v197 val_main_v193 val_main_v192 val_main_cst_29 val_main_v191 val_main_v198 val_main_cst_30
  pointwise
  simp only [Finset.univ_unique, Finset.sum_singleton, Fin.default_eq_zero]

theorem v205_at (n : Fin 4096) (k : Fin 1024) : val_main_v205 (F := Ideal) x0 x1 x2 x3 x4 x5 x6 x7 x8 x9 x10 x11 (ix2 n k)
    = (x11 (ix2 n k) + val_main_v189 (F := Ideal) x0 x1 x2 x3 x4 x5 x6 x7 x8 x9 x10 (ix2 n k) * val_main_v25 (F := Ideal) x0 (ix2 n 0) + x0 (ix2 n k) * val_main_v201 (F := Ideal) x0 x1 x2 x3 x4 x5 x6 x7 x8 x9 x10 (ix2 n k) + val_main_v201 (F := Ideal) x0 x1 x2 x3 x4 x5 x6 x7 x8 x9 x10 (ix2 n k) * x0 (ix2 n k) : EReal) := by
  unfold val_main_v205 val_main_v203 val_main_v196 val_main_v195 val_main_v194 val_main_v202 val_main_v204
  pointwise

theorem v209_at (n : Fin 4096) (k : Fin 1024) : val_main_v209 (F := Ideal) x0 x1 x2 x3 x4 x5 x6 x7 x8 x9 x10 x11 (ix2 n k)
    = (val_main_v205 (F := Ideal) x0 x1 x2 x3 x4 x5 x6 x7 x8 x9 x10 x11 (ix2 n k) : EReal) := by
  unfold val_main_v209
  pointwise

theorem v208_at (k : Fin 256) (l : Fin 2048) : val_main_v208 (F := Ideal) x0 x1 x2 x3 x4 x8 (ix2 k l)
    = (if h : l.val / 256 < 8 ∧ l.val % 256 < 192 then val_main_v159 (F := Ideal) x0 x1 x2 x3 x4 x8 (ix2 k ⟨l.val / 256 * 192 + l.val % 256, by omega⟩) else FloatOps.sitofp (F := Ideal) .f32 0#32 : EReal) := by
  unfold val_main_v208 val_main_v207 val_main_call0_v0 val_main_c val_main_v206
  pointwise

theorem v210_at (i : Fin 1024) (l : Fin 512) : val_main_v210 (F := Ideal) x0 x1 x2 x3 x4 x5 x6 x7 x8 x9 x10 (ix2 i l)
    = (if h : l.val < 448 then val_main_v183 (F := Ideal) x0 x1 x2 x3 x4 x5 x6 x7 x8 x9 x10 (ix2 i ⟨l.val, h⟩) else FloatOps.sitofp (F := Ideal) .f32 0#32 : EReal) := by
  unfold val_main_v210 val_main_call1_v0 val_main_c_32
  pointwise

end Cert.ProjReferenceIdeal.Hand
-- ==== Proof.ProjRefEq.lean ====
module

public import proofs.«01_k».proof.Proof.ProjRef

/-!
# The latent projections' derivative, where the arguments are real numbers
-/

@[expose] public section

set_option maxRecDepth 16384

noncomputable section

open Idealize.ShloMosaic Idealize.ShloMosaic.TcCoe Idealize.ShloMosaic.Pointwise

namespace Cert.ProjReferenceIdeal.Hand

open Cert.ProjReferenceIdeal Cert.ProjReferenceIdeal.Gen Cert.ProjReferenceIdeal.Read Cert.Reals

variable (A : Proj.Args) {x0 x11 : FVec Ideal S4096x1024 .f32} {x1 : IVec S4096 32} {x2 : FVec Ideal S1024 .f32} {x3 : FVec Ideal S1024x448 .f32}
  {x4 : FVec Ideal S256 .f32} {x5 : FVec Ideal S128 .f32} {x6 : FVec Ideal S256x1536 .f32} {x7 : FVec Ideal S128x2048 .f32}
  {x8 : FVec Ideal S4096x8x192 .f32} {x9 : FVec Ideal S4096x8x256 .f32} {x10 : FVec Ideal S4096x8x64 .f32}

/-- The arguments are the real ones. -/
structure Are (x0 : FVec Ideal S4096x1024 .f32) (x1 : IVec S4096 32) (x2 : FVec Ideal S1024 .f32) (x3 : FVec Ideal S1024x448 .f32)
    (x4 : FVec Ideal S256 .f32) (x5 : FVec Ideal S128 .f32) (x6 : FVec Ideal S256x1536 .f32) (x7 : FVec Ideal S128x2048 .f32)
    (x8 : FVec Ideal S4096x8x192 .f32) (x9 : FVec Ideal S4096x8x256 .f32) (x10 : FVec Ideal S4096x8x64 .f32) : Prop where
  h0 : ∀ n k, x0 (ix2 n k) = (A.x n k : EReal)
  h1 : ∀ (n : Fin 4096) (k : Fin 32), Proj.ang (x1 (ix1 n)) k.val = A.ang n k
  h2 : ∀ k, x2 (ix1 k) = (A.g k : EReal)
  h3 : ∀ i l, x3 (ix2 i l) = (A.wd i l : EReal)
  h4 : ∀ k, x4 (ix1 k) = (A.qg k : EReal)
  h5 : ∀ k, x5 (ix1 k) = (A.kg k : EReal)
  h6 : ∀ k l, x6 (ix2 k l) = (A.wq k l : EReal)
  h7 : ∀ k l, x7 (ix2 k l) = (A.wu k l : EReal)
  h8 : ∀ n h k, x8 (ix3 n h k) = (A.dq n h k : EReal)
  h9 : ∀ n h k, x9 (ix3 n h k) = (A.dkv n h k : EReal)
  h10 : ∀ n h k, x10 (ix3 n h k) = (A.dkr n h k : EReal)

variable {A} (H : Are A x0 x1 x2 x3 x4 x5 x6 x7 x8 x9 x10)
include H

theorem v15_eq (n : Fin 4096) (k : Fin 32) : val_main_v15 (F := Ideal) x1 (ix2 n k) = (A.ang n k : EReal) := by
  rw [v15_at, Proj.angE_eq, H.h1]

theorem v24_eq (n : Fin 4096) : val_main_v24 (F := Ideal) x0 (ix2 n 0) = (Rms.var (A.x n) : EReal) := by
  rw [v24_at]
  simp only [H.h0]
  exact Rms.ideal_var (by norm_num) Rms.word_1024 _

theorem v25_eq (n : Fin 4096) : val_main_v25 (F := Ideal) x0 (ix2 n 0) = (Rms.rstd (A.x n) : EReal) := by
  rw [v25_at, v24_eq H, Rms.ideal_rsqrt]

theorem v30_eq (n : Fin 4096) (k : Fin 1024) : val_main_v30 (F := Ideal) x0 (ix2 n k) = ((A.x n k * Rms.rstd (A.x n) : ℝ) : EReal) := by
  rw [v30_at, v25_eq H, H.h0, ← EReal.coe_mul]

theorem v33_eq (n : Fin 4096) (k : Fin 1024) : val_main_v33 (F := Ideal) x0 x2 (ix2 n k) = (A.h n k : EReal) := by
  rw [v33_at, v30_eq H, H.h2, ← EReal.coe_mul]
  rfl

theorem v34_eq (n : Fin 4096) (k : Fin 448) : val_main_v34 (F := Ideal) x0 x2 x3 (ix2 n k) = (A.lat n k : EReal) := by
  rw [v34_at]
  simp only [v33_eq H, H.h3, ← EReal.coe_mul, coe_sum]
  rfl

theorem v35_eq (n : Fin 4096) (k : Fin 256) : val_main_v35 (F := Ideal) x0 x2 x3 (ix2 n k) = (A.cq n k : EReal) := by
  rw [v35_at, v34_eq H]
  rfl

theorem v36_eq (n : Fin 4096) (k : Fin 128) : val_main_v36 (F := Ideal) x0 x2 x3 (ix2 n k) = (A.ck n k : EReal) := by
  rw [v36_at, v34_eq H]
  rfl

theorem v44_eq (n : Fin 4096) : val_main_v44 (F := Ideal) x0 x2 x3 (ix2 n 0) = (Rms.var (A.cq n) : EReal) := by
  rw [v44_at]
  simp only [v35_eq H]
  exact Rms.ideal_var (by norm_num) Proj.word_256 _

theorem v45_eq (n : Fin 4096) : val_main_v45 (F := Ideal) x0 x2 x3 (ix2 n 0) = (Rms.rstd (A.cq n) : EReal) := by
  rw [v45_at, v44_eq H, Rms.ideal_rsqrt]

theorem v50_eq (n : Fin 4096) (k : Fin 256) : val_main_v50 (F := Ideal) x0 x2 x3 (ix2 n k) = ((A.cq n k * Rms.rstd (A.cq n) : ℝ) : EReal) := by
  rw [v50_at, v45_eq H, v35_eq H, ← EReal.coe_mul]

theorem v53_eq (n : Fin 4096) (k : Fin 256) : val_main_v53 (F := Ideal) x0 x2 x3 x4 (ix2 n k) = (A.cqn n k : EReal) := by
  rw [v53_at, v50_eq H, H.h4, ← EReal.coe_mul]
  rfl

theorem v80_eq (n : Fin 4096) : val_main_v80 (F := Ideal) x0 x2 x3 (ix2 n 0) = (Rms.var (A.ck n) : EReal) := by
  rw [v80_at]
  simp only [v36_eq H]
  exact Rms.ideal_var (by norm_num) Proj.word_128 _

theorem v81_eq (n : Fin 4096) : val_main_v81 (F := Ideal) x0 x2 x3 (ix2 n 0) = (Rms.rstd (A.ck n) : EReal) := by
  rw [v81_at, v80_eq H, Rms.ideal_rsqrt]

theorem v86_eq (n : Fin 4096) (k : Fin 128) : val_main_v86 (F := Ideal) x0 x2 x3 (ix2 n k) = ((A.ck n k * Rms.rstd (A.ck n) : ℝ) : EReal) := by
  rw [v86_at, v81_eq H, v36_eq H, ← EReal.coe_mul]

theorem v89_eq (n : Fin 4096) (k : Fin 128) : val_main_v89 (F := Ideal) x0 x2 x3 x5 (ix2 n k) = (A.ckn n k : EReal) := by
  rw [v89_at, v86_eq H, H.h5, ← EReal.coe_mul]
  rfl

theorem v105_eq (n : Fin 4096) (k : Fin 64) : val_main_v105 (F := Ideal) x10 (ix2 n k) = ((∑ h, A.dkr n h k : ℝ) : EReal) := by
  rw [v105_at]
  simp only [Finset.univ_unique, Finset.sum_singleton, H.h10, coe_sum]

theorem v115_eq (n : Fin 4096) (k : Fin 64) : val_main_v115 (F := Ideal) x1 x10 (ix2 n k) = (A.dr n k : EReal) := by
  have hs : ∀ k, Ideal.sin (val_main_v15 (F := Ideal) x1 (ix2 n k)) = (Real.sin (A.ang n k) : EReal) := fun k => by rw [v15_eq H]; rfl
  have hc : ∀ k, Ideal.cos (val_main_v15 (F := Ideal) x1 (ix2 n k)) = (Real.cos (A.ang n k) : EReal) := fun k => by rw [v15_eq H]; rfl
  rw [v115_at]
  unfold Proj.Args.dr Proj.turn
  by_cases h : k.val < 32
  · rw [dif_pos h, dif_pos h, v114_at, hs, hc, v105_eq H, v105_eq H]
    simp only [← EReal.coe_mul, ← EReal.coe_add]
  · rw [dif_neg h, dif_neg h, v112_at, hs, hc, v105_eq H, v105_eq H]
    simp only [← EReal.coe_mul, ← EReal.coe_add, ← EReal.coe_neg]
    have e : (⟨32 + (k.val - 32), by omega⟩ : Fin 64) = k := Fin.ext (by show 32 + (k.val - 32) = k.val; omega)
    rw [e]

theorem v116_eq (n : Fin 4096) (k : Fin 2048) : val_main_v116 (F := Ideal) x9 (ix2 n k) = (A.dkf n k : EReal) := by
  rw [v116_at, H.h9]
  rfl

theorem v118_eq (k : Fin 128) (l : Fin 2048) : val_main_v118 (F := Ideal) x0 x2 x3 x5 x9 (ix2 k l) = (A.gwu k l : EReal) := by
  rw [v118_at]
  simp only [v116_eq H, v89_eq H, ← EReal.coe_mul, coe_sum]
  exact congrArg _ (Finset.sum_congr rfl fun n _ => mul_comm _ _)

theorem v119_eq (n : Fin 4096) (k : Fin 128) : val_main_v119 (F := Ideal) x7 x9 (ix2 n k) = (A.dkn n k : EReal) := by
  rw [v119_at]
  simp only [v116_eq H, H.h7, ← EReal.coe_mul, coe_sum]
  rfl

theorem v124_eq (n : Fin 4096) (k : Fin 128) : val_main_v124 (F := Ideal) x5 x7 x9 (ix2 n k) = (A.cotk n k : EReal) := by
  rw [v124_at, v119_eq H, H.h5, ← EReal.coe_mul]
  rfl

theorem v212_eq (k : Fin 128) : val_main_v212 (F := Ideal) x0 x2 x3 x7 x9 (ix2 0 k) = (A.gkg k : EReal) := by
  rw [v212_at]
  simp only [Finset.univ_unique, Finset.sum_singleton, v86_eq H, v119_eq H, ← EReal.coe_mul, coe_sum]
  exact congrArg _ (Finset.sum_congr rfl fun n _ => mul_comm _ _)

theorem v135_eq (n : Fin 4096) (k : Fin 128) : val_main_v135 (F := Ideal) x0 x2 x3 x5 x7 x9 (ix2 n k) = (Rms.slope (A.ck n) (A.cotk n) : EReal) := by
  rw [v135_at, v84_at]
  simp only [Finset.univ_unique, Finset.sum_singleton, v81_eq H, v80_eq H, v36_eq H, v124_eq H]
  exact Rms.ideal_slope (by norm_num) Proj.word_128 _ _

theorem v139_eq (n : Fin 4096) (k : Fin 128) : val_main_v139 (F := Ideal) x0 x2 x3 x5 x7 x9 (ix2 n k) = (A.dck n k : EReal) := by
  rw [v139_at, v124_eq H, v81_eq H, v36_eq H, v135_eq H]
  simp only [← EReal.coe_mul, ← EReal.coe_add]
  exact congrArg _ (Rms.slope_grad _ _ _)

theorem v155_eq (n : Fin 4096) (g : Fin 8) (k : Fin 64) : val_main_v155 (F := Ideal) x1 x8 (ix3 n g k) = (Proj.turn (A.ang n) (fun q => A.dq n g ⟨128 + q.val, by omega⟩) k : EReal) := by
  have hs : ∀ k, Ideal.sin (val_main_v15 (F := Ideal) x1 (ix2 n k)) = (Real.sin (A.ang n k) : EReal) := fun k => by rw [v15_eq H]; rfl
  have hc : ∀ k, Ideal.cos (val_main_v15 (F := Ideal) x1 (ix2 n k)) = (Real.cos (A.ang n k) : EReal) := fun k => by rw [v15_eq H]; rfl
  rw [v155_at]
  unfold Proj.turn
  by_cases h : k.val < 32
  · rw [dif_pos h, dif_pos h, v154_at, hs, hc, v141_at, v141_at, H.h8, H.h8]
    simp only [← EReal.coe_mul, ← EReal.coe_add]
  · rw [dif_neg h, dif_neg h, v151_at, hs, hc, v141_at, v141_at, H.h8, H.h8]
    simp only [← EReal.coe_mul, ← EReal.coe_add, ← EReal.coe_neg]
    have e : (⟨128 + (32 + (k.val - 32)), by omega⟩ : Fin 192) = ⟨128 + k.val, by omega⟩ := Fin.ext (by show 128 + (32 + (k.val - 32)) = 128 + k.val; omega)
    rw [e]

theorem v156_eq (n : Fin 4096) (g : Fin 8) (k : Fin 192) : val_main_v156 (F := Ideal) x1 x8 (ix3 n g k) = (A.dqh n g k : EReal) := by
  rw [v156_at]
  unfold Proj.Args.dqh
  by_cases h : k.val < 128
  · rw [dif_pos h, dif_pos h, H.h8]
  · rw [dif_neg h, dif_neg h, v155_eq H]

theorem v157_eq (n : Fin 4096) (k : Fin 1536) : val_main_v157 (F := Ideal) x1 x8 (ix2 n k) = (A.dqf n k : EReal) := by
  rw [v157_at, v156_eq H]
  rfl

theorem v159_eq (k : Fin 256) (l : Fin 1536) : val_main_v159 (F := Ideal) x0 x1 x2 x3 x4 x8 (ix2 k l) = (A.gwq k l : EReal) := by
  rw [v159_at]
  simp only [v157_eq H, v53_eq H, ← EReal.coe_mul, coe_sum]
  exact congrArg _ (Finset.sum_congr rfl fun n _ => mul_comm _ _)

theorem v160_eq (n : Fin 4096) (k : Fin 256) : val_main_v160 (F := Ideal) x1 x6 x8 (ix2 n k) = (A.dqn n k : EReal) := by
  rw [v160_at]
  simp only [v157_eq H, H.h6, ← EReal.coe_mul, coe_sum]
  rfl

theorem v165_eq (n : Fin 4096) (k : Fin 256) : val_main_v165 (F := Ideal) x1 x4 x6 x8 (ix2 n k) = (A.cotq n k : EReal) := by
  rw [v165_at, v160_eq H, H.h4, ← EReal.coe_mul]
  rfl

theorem v211_eq (k : Fin 256) : val_main_v211 (F := Ideal) x0 x1 x2 x3 x6 x8 (ix2 0 k) = (A.gqg k : EReal) := by
  rw [v211_at]
  simp only [Finset.univ_unique, Finset.sum_singleton, v50_eq H, v160_eq H, ← EReal.coe_mul, coe_sum]
  exact congrArg _ (Finset.sum_congr rfl fun n _ => mul_comm _ _)

theorem v176_eq (n : Fin 4096) (k : Fin 256) : val_main_v176 (F := Ideal) x0 x1 x2 x3 x4 x6 x8 (ix2 n k) = (Rms.slope (A.cq n) (A.cotq n) : EReal) := by
  rw [v176_at, v48_at]
  simp only [Finset.univ_unique, Finset.sum_singleton, v45_eq H, v44_eq H, v35_eq H, v165_eq H]
  exact Rms.ideal_slope (by norm_num) Proj.word_256 _ _

theorem v180_eq (n : Fin 4096) (k : Fin 256) : val_main_v180 (F := Ideal) x0 x1 x2 x3 x4 x6 x8 (ix2 n k) = (A.dcq n k : EReal) := by
  rw [v180_at, v165_eq H, v45_eq H, v35_eq H, v176_eq H]
  simp only [← EReal.coe_mul, ← EReal.coe_add]
  exact congrArg _ (Rms.slope_grad _ _ _)

theorem v181_eq (n : Fin 4096) (k : Fin 448) : val_main_v181 (F := Ideal) x0 x1 x2 x3 x4 x5 x6 x7 x8 x9 x10 (ix2 n k) = (A.dl n k : EReal) := by
  rw [v181_at]
  unfold Proj.Args.dl
  by_cases h : k.val < 256
  · rw [dif_pos h, dif_pos h, v180_eq H]
  · rw [dif_neg h, dif_neg h]
    by_cases h' : k.val - 256 < 128
    · rw [dif_pos h', dif_pos h', v139_eq H]
    · rw [dif_neg h', dif_neg h', v115_eq H]

theorem v183_eq (i : Fin 1024) (l : Fin 448) : val_main_v183 (F := Ideal) x0 x1 x2 x3 x4 x5 x6 x7 x8 x9 x10 (ix2 i l) = (A.gwd i l : EReal) := by
  rw [v183_at]
  simp only [v181_eq H, v33_eq H, ← EReal.coe_mul, coe_sum]
  exact congrArg _ (Finset.sum_congr rfl fun n _ => mul_comm _ _)

theorem v184_eq (n : Fin 4096) (k : Fin 1024) : val_main_v184 (F := Ideal) x0 x1 x2 x3 x4 x5 x6 x7 x8 x9 x10 (ix2 n k) = (A.dh n k : EReal) := by
  rw [v184_at]
  simp only [v181_eq H, H.h3, ← EReal.coe_mul, coe_sum]
  rfl

theorem v189_eq (n : Fin 4096) (k : Fin 1024) : val_main_v189 (F := Ideal) x0 x1 x2 x3 x4 x5 x6 x7 x8 x9 x10 (ix2 n k) = (A.cotx n k : EReal) := by
  rw [v189_at, v184_eq H, H.h2, ← EReal.coe_mul]
  rfl

theorem v213_eq (k : Fin 1024) : val_main_v213 (F := Ideal) x0 x1 x2 x3 x4 x5 x6 x7 x8 x9 x10 (ix2 0 k) = (A.gg k : EReal) := by
  rw [v213_at]
  simp only [Finset.univ_unique, Finset.sum_singleton, v30_eq H, v184_eq H, ← EReal.coe_mul, coe_sum]
  exact congrArg _ (Finset.sum_congr rfl fun n _ => mul_comm _ _)

theorem v201_eq (n : Fin 4096) (k : Fin 1024) : val_main_v201 (F := Ideal) x0 x1 x2 x3 x4 x5 x6 x7 x8 x9 x10 (ix2 n k) = (Rms.slope (A.x n) (A.cotx n) : EReal) := by
  rw [v201_at, v28_at]
  simp only [Finset.univ_unique, Finset.sum_singleton, v25_eq H, v24_eq H, H.h0, v189_eq H]
  exact Rms.ideal_slope (by norm_num) Rms.word_1024 _ _

theorem v205_eq (n : Fin 4096) (k : Fin 1024) : val_main_v205 (F := Ideal) x0 x1 x2 x3 x4 x5 x6 x7 x8 x9 x10 x11 (ix2 n k) = ((A.dx n k : EReal) + x11 (ix2 n k) : EReal) := by
  rw [v205_at, v189_eq H, v25_eq H, v201_eq H, H.h0]
  simp only [← EReal.coe_mul]
  rw [add_assoc, add_assoc, ← EReal.coe_add, ← EReal.coe_add, add_comm, ← add_assoc]
  exact congrArg (fun y : ℝ => ((y : EReal) + x11 (ix2 n k) : EReal)) (Rms.slope_grad _ _ _)

theorem v209_eq (n : Fin 4096) (k : Fin 1024) : val_main_v209 (F := Ideal) x0 x1 x2 x3 x4 x5 x6 x7 x8 x9 x10 x11 (ix2 n k) = ((A.dx n k : EReal) + x11 (ix2 n k) : EReal) := by
  rw [v209_at, v205_eq H]

theorem v208_eq (k : Fin 256) (l : Fin 2048) : val_main_v208 (F := Ideal) x0 x1 x2 x3 x4 x8 (ix2 k l) = (Proj.padHeads (A.gwq k) l : EReal) := by
  rw [v208_at, Proj.zero_word]
  unfold Proj.padHeads
  by_cases h : l.val % 256 < 192
  · rw [dif_pos ⟨by omega, h⟩, dif_pos h, v159_eq H]
  · rw [dif_neg fun e => h e.2, dif_neg h]

theorem v210_eq (i : Fin 1024) (l : Fin 512) : val_main_v210 (F := Ideal) x0 x1 x2 x3 x4 x5 x6 x7 x8 x9 x10 (ix2 i l) = (Proj.padLat (A.gwd i) l : EReal) := by
  rw [v210_at, Proj.zero_word]
  unfold Proj.padLat
  by_cases h : l.val < 448
  · rw [dif_pos h, dif_pos h, v183_eq H]
  · rw [dif_neg h, dif_neg h]

end Cert.ProjReferenceIdeal.Hand
-- ==== Proof.ProjEq.lean ====
module

public import proofs.«01_k».proof.Proof.ProjKernelValue
public import proofs.«01_k».proof.Proof.ProjRefEq

/-!
# The latent projections' backward: kernel and reference agree

Where the rows, the weights, the gains and the three cotangents are finite, the eight arrays that the kernel leaves are the
reference's.
-/

@[expose] public section

set_option maxRecDepth 16384

noncomputable section

namespace Cert.ProjKernelIdeal.Hand

open Cert.ProjKernelIdeal Cert.ProjKernelIdeal.Gen Cert.ProjReferenceIdeal.Read Cert.Reals
open Idealize.ShloMosaic Idealize.ShloMosaic.TcCoe

variable (m : (ℓ : Loc nD τ sig) → Buf (Elt Ideal) ℓ) (c : Dev nD)

section
variable {m c}
variable {A : Proj.Args} {a0 : FVec Ideal S4096x1024 .f32} {a1 : IVec S4096 32} {a2 : FVec Ideal S1024 .f32} {a3 : FVec Ideal S1024x448 .f32}
  {a4 : FVec Ideal S256 .f32} {a5 : FVec Ideal S128 .f32} {a6 : FVec Ideal S256x1536 .f32} {a7 : FVec Ideal S128x2048 .f32}
  {a8 : FVec Ideal S4096x8x192 .f32} {a9 : FVec Ideal S4096x8x256 .f32} {a10 : FVec Ideal S4096x8x64 .f32} {a11 : FVec Ideal S4096x1024 .f32}
  (K : Are m c A) (L : Cert.ProjReferenceIdeal.Hand.Are A a0 a1 a2 a3 a4 a5 a6 a7 a8 a9 a10)
include K L

theorem equal18 (E11 : m (c, Proc.tc.devRef main_arg11) = a11) : (dats m 0 c).arrAt 18 cfg0.N = val_main_v205 (F := Ideal) a0 a1 a2 a3 a4 a5 a6 a7 a8 a9 a10 a11 := by
  refine (final18 m c K).trans (funext fun i => ?_)
  obtain ⟨r, l, rfl⟩ : ∃ (r : Fin 4096) (l : Fin 1024), i = ix2 r l := ⟨i 0, i 1, (ix2_eta i).symm⟩
  refine Eq.trans ?_ (Cert.ProjReferenceIdeal.Hand.v205_eq (x11 := a11) L r l).symm
  exact congrArg (fun y : EReal => ((A.dx r l : EReal) + y : EReal)) (congrFun E11 (ix2 r l))

theorem equal19 (E11 : m (c, Proc.tc.devRef main_arg11) = a11) : (dats m 0 c).arrAt 19 cfg0.N = val_main_v209 (F := Ideal) a0 a1 a2 a3 a4 a5 a6 a7 a8 a9 a10 a11 := by
  refine (final19 m c K).trans (funext fun i => ?_)
  obtain ⟨r, l, rfl⟩ : ∃ (r : Fin 4096) (l : Fin 1024), i = ix2 r l := ⟨i 0, i 1, (ix2_eta i).symm⟩
  refine Eq.trans ?_ (Cert.ProjReferenceIdeal.Hand.v209_eq (x11 := a11) L r l).symm
  exact congrArg (fun y : EReal => ((A.dx r l : EReal) + y : EReal)) (congrFun E11 (ix2 r l))

theorem equal20 : (dats m 0 c).arrAt 20 cfg0.N = val_main_v208 (F := Ideal) a0 a1 a2 a3 a4 a8 := by
  refine (final20 m c K).trans (funext fun i => ?_)
  obtain ⟨r, l, rfl⟩ : ∃ (r : Fin 256) (l : Fin 2048), i = ix2 r l := ⟨i 0, i 1, (ix2_eta i).symm⟩
  exact (Cert.ProjReferenceIdeal.Hand.v208_eq L r l).symm

theorem equal21 : (dats m 0 c).arrAt 21 cfg0.N = val_main_v118 (F := Ideal) a0 a2 a3 a5 a9 := by
  refine (final21 m c K).trans (funext fun i => ?_)
  obtain ⟨r, l, rfl⟩ : ∃ (r : Fin 128) (l : Fin 2048), i = ix2 r l := ⟨i 0, i 1, (ix2_eta i).symm⟩
  exact (Cert.ProjReferenceIdeal.Hand.v118_eq L r l).symm

theorem equal22 : (dats m 0 c).arrAt 22 cfg0.N = val_main_v210 (F := Ideal) a0 a1 a2 a3 a4 a5 a6 a7 a8 a9 a10 := by
  refine (final22 m c K).trans (funext fun i => ?_)
  obtain ⟨r, l, rfl⟩ : ∃ (r : Fin 1024) (l : Fin 512), i = ix2 r l := ⟨i 0, i 1, (ix2_eta i).symm⟩
  exact (Cert.ProjReferenceIdeal.Hand.v210_eq L r l).symm

theorem equal23 : (dats m 0 c).arrAt 23 cfg0.N = val_main_v211 (F := Ideal) a0 a1 a2 a3 a6 a8 := by
  refine (final23 m c K).trans (funext fun i => ?_)
  obtain ⟨r, l, rfl⟩ : ∃ (r : Fin 1) (l : Fin 256), i = ix2 r l := ⟨i 0, i 1, (ix2_eta i).symm⟩
  obtain rfl : r = 0 := Subsingleton.elim _ _
  exact (Cert.ProjReferenceIdeal.Hand.v211_eq L l).symm

theorem equal24 : (dats m 0 c).arrAt 24 cfg0.N = val_main_v212 (F := Ideal) a0 a2 a3 a7 a9 := by
  refine (final24 m c K).trans (funext fun i => ?_)
  obtain ⟨r, l, rfl⟩ : ∃ (r : Fin 1) (l : Fin 128), i = ix2 r l := ⟨i 0, i 1, (ix2_eta i).symm⟩
  obtain rfl : r = 0 := Subsingleton.elim _ _
  exact (Cert.ProjReferenceIdeal.Hand.v212_eq L l).symm

theorem equal25 : (dats m 0 c).arrAt 25 cfg0.N = val_main_v213 (F := Ideal) a0 a1 a2 a3 a4 a5 a6 a7 a8 a9 a10 := by
  refine (final25 m c K).trans (funext fun i => ?_)
  obtain ⟨r, l, rfl⟩ : ∃ (r : Fin 1) (l : Fin 1024), i = ix2 r l := ⟨i 0, i 1, (ix2_eta i).symm⟩
  obtain rfl : r = 0 := Subsingleton.elim _ _
  exact (Cert.ProjReferenceIdeal.Hand.v213_eq L l).symm

end

theorem agree (a0 : FVec Ideal S4096x1024 .f32) (a1 : IVec S4096 32) (a2 : FVec Ideal S1024 .f32) (a3 : FVec Ideal S1024x448 .f32)
    (a4 : FVec Ideal S256 .f32) (a5 : FVec Ideal S128 .f32) (a6 : FVec Ideal S256x1536 .f32) (a7 : FVec Ideal S128x2048 .f32)
    (a8 : FVec Ideal S4096x8x192 .f32) (a9 : FVec Ideal S4096x8x256 .f32) (a10 : FVec Ideal S4096x8x64 .f32) (a11 : FVec Ideal S4096x1024 .f32)
    (E0 : m (c, Proc.tc.devRef main_arg0) = a0) (E1 : m (c, Proc.tc.devRef main_arg1) = a1) (E2 : m (c, Proc.tc.devRef main_arg2) = a2) (E3 : m (c, Proc.tc.devRef main_arg3) = a3)
    (E4 : m (c, Proc.tc.devRef main_arg4) = a4) (E5 : m (c, Proc.tc.devRef main_arg5) = a5) (E6 : m (c, Proc.tc.devRef main_arg6) = a6) (E7 : m (c, Proc.tc.devRef main_arg7) = a7)
    (E8 : m (c, Proc.tc.devRef main_arg8) = a8) (E9 : m (c, Proc.tc.devRef main_arg9) = a9) (E10 : m (c, Proc.tc.devRef main_arg10) = a10) (E11 : m (c, Proc.tc.devRef main_arg11) = a11)
    (R0 : ∀ i, ∃ r : ℝ, a0 i = (r : EReal)) (R2 : ∀ i, ∃ r : ℝ, a2 i = (r : EReal)) (R3 : ∀ i, ∃ r : ℝ, a3 i = (r : EReal)) (R4 : ∀ i, ∃ r : ℝ, a4 i = (r : EReal))
    (R5 : ∀ i, ∃ r : ℝ, a5 i = (r : EReal)) (R6 : ∀ i, ∃ r : ℝ, a6 i = (r : EReal)) (R7 : ∀ i, ∃ r : ℝ, a7 i = (r : EReal)) (R8 : ∀ i, ∃ r : ℝ, a8 i = (r : EReal))
    (R9 : ∀ i, ∃ r : ℝ, a9 i = (r : EReal)) (R10 : ∀ i, ∃ r : ℝ, a10 i = (r : EReal)) :
    (dats m 0 c).arrAt 18 cfg0.N = val_main_v205 (F := Ideal) a0 a1 a2 a3 a4 a5 a6 a7 a8 a9 a10 a11
      ∧ (dats m 0 c).arrAt 19 cfg0.N = val_main_v209 (F := Ideal) a0 a1 a2 a3 a4 a5 a6 a7 a8 a9 a10 a11
      ∧ (dats m 0 c).arrAt 20 cfg0.N = val_main_v208 (F := Ideal) a0 a1 a2 a3 a4 a8
      ∧ (dats m 0 c).arrAt 21 cfg0.N = val_main_v118 (F := Ideal) a0 a2 a3 a5 a9
      ∧ (dats m 0 c).arrAt 22 cfg0.N = val_main_v210 (F := Ideal) a0 a1 a2 a3 a4 a5 a6 a7 a8 a9 a10
      ∧ (dats m 0 c).arrAt 23 cfg0.N = val_main_v211 (F := Ideal) a0 a1 a2 a3 a6 a8
      ∧ (dats m 0 c).arrAt 24 cfg0.N = val_main_v212 (F := Ideal) a0 a2 a3 a7 a9
      ∧ (dats m 0 c).arrAt 25 cfg0.N = val_main_v213 (F := Ideal) a0 a1 a2 a3 a4 a5 a6 a7 a8 a9 a10 := by
  choose r0 h0 using R0
  choose r2 h2 using R2
  choose r3 h3 using R3
  choose r4 h4 using R4
  choose r5 h5 using R5
  choose r6 h6 using R6
  choose r7 h7 using R7
  choose r8 h8 using R8
  choose r9 h9 using R9
  choose r10 h10 using R10
  let A : Proj.Args := ⟨fun n k => r0 (ix2 n k), fun k => r2 (ix1 k), fun n k => r3 (ix2 n k), fun k => r4 (ix1 k), fun k => r5 (ix1 k),
    fun n k => r6 (ix2 n k), fun n k => r7 (ix2 n k), fun n k l => r8 (ix3 n k l), fun n k l => r9 (ix3 n k l), fun n k l => r10 (ix3 n k l), fun n k => Proj.ang (a1 (ix1 n)) k.val⟩
  have K : Are m c A := ⟨fun n k => (congrFun E0 (ix2 n k)).trans (h0 _),
    fun n k => congrArg (fun i => Proj.ang i k.val) (congrFun E1 (ix1 n)),
    fun n => (congrFun E2 (ix1 n)).trans (h2 _),
    fun n k => (congrFun E3 (ix2 n k)).trans (h3 _),
    fun n => (congrFun E4 (ix1 n)).trans (h4 _),
    fun n => (congrFun E5 (ix1 n)).trans (h5 _),
    fun n k => (congrFun E6 (ix2 n k)).trans (h6 _),
    fun n k => (congrFun E7 (ix2 n k)).trans (h7 _),
    fun n k l => (congrFun E8 (ix3 n k l)).trans (h8 _),
    fun n k l => (congrFun E9 (ix3 n k l)).trans (h9 _),
    fun n k l => (congrFun E10 (ix3 n k l)).trans (h10 _)⟩
  have L : Cert.ProjReferenceIdeal.Hand.Are A a0 a1 a2 a3 a4 a5 a6 a7 a8 a9 a10 := ⟨fun n k => h0 _, fun n k => rfl, fun n => h2 _, fun n k => h3 _, fun n => h4 _, fun n => h5 _, fun n k => h6 _, fun n k => h7 _, fun n k l => h8 _, fun n k l => h9 _, fun n k l => h10 _⟩
  exact ⟨equal18 K L E11, equal19 K L E11, equal20 K L, equal21 K L, equal22 K L, equal23 K L, equal24 K L, equal25 K L⟩

end Cert.ProjKernelIdeal.Hand
-- ==== Proof.ProjRun.lean ====
module

public import proofs.«01_k».proof.Proof.ProjFrame
public import proofs.«01_k».proof.Proof.Gen.ProjReferenceIdeal.Run
public import proofs.«01_k».proof.Proof.Gen.ProjReferenceIdeal.Read

/-!
# The latent projections' backward: the two runs, result by result
-/

@[expose] public section

set_option maxRecDepth 16384

noncomputable section

open Idealize.ShloMosaic Idealize.ShloMosaic.TcCoe Idealize.SL.Sem

namespace Cert.ProjKernelIdeal.Hand

open Cert.ProjKernelIdeal Cert.ProjKernelIdeal.Gen

variable {F : FTy → Type} [FloatOps F] (m : (ℓ : Loc nD τ sig) → Buf (Elt F) ℓ) (ρ : Dev nD → PrngReg)

theorem post18 (r : PUnit × MemSt nD τ sig (Elt F)) (h : Pipeline.FramePost cfgs (dats m) 0 (V m) r) (c : Dev nD) :
    r.2.mem ((c.tc : Thread nD τ).loc main_v80_0) = (dats m 0 c).arrAt 18 cfg0.N := (h c).1 18

theorem post19 (r : PUnit × MemSt nD τ sig (Elt F)) (h : Pipeline.FramePost cfgs (dats m) 0 (V m) r) (c : Dev nD) :
    r.2.mem ((c.tc : Thread nD τ).loc main_v80_1) = (dats m 0 c).arrAt 19 cfg0.N := (h c).1 19

theorem post20 (r : PUnit × MemSt nD τ sig (Elt F)) (h : Pipeline.FramePost cfgs (dats m) 0 (V m) r) (c : Dev nD) :
    r.2.mem ((c.tc : Thread nD τ).loc main_v80_2) = (dats m 0 c).arrAt 20 cfg0.N := (h c).1 20

theorem post21 (r : PUnit × MemSt nD τ sig (Elt F)) (h : Pipeline.FramePost cfgs (dats m) 0 (V m) r) (c : Dev nD) :
    r.2.mem ((c.tc : Thread nD τ).loc main_v80_3) = (dats m 0 c).arrAt 21 cfg0.N := (h c).1 21

theorem post22 (r : PUnit × MemSt nD τ sig (Elt F)) (h : Pipeline.FramePost cfgs (dats m) 0 (V m) r) (c : Dev nD) :
    r.2.mem ((c.tc : Thread nD τ).loc main_v80_4) = (dats m 0 c).arrAt 22 cfg0.N := (h c).1 22

theorem post23 (r : PUnit × MemSt nD τ sig (Elt F)) (h : Pipeline.FramePost cfgs (dats m) 0 (V m) r) (c : Dev nD) :
    r.2.mem ((c.tc : Thread nD τ).loc main_v80_5) = (dats m 0 c).arrAt 23 cfg0.N := (h c).1 23

theorem post24 (r : PUnit × MemSt nD τ sig (Elt F)) (h : Pipeline.FramePost cfgs (dats m) 0 (V m) r) (c : Dev nD) :
    r.2.mem ((c.tc : Thread nD τ).loc main_v80_6) = (dats m 0 c).arrAt 24 cfg0.N := (h c).1 24

theorem post25 (r : PUnit × MemSt nD τ sig (Elt F)) (h : Pipeline.FramePost cfgs (dats m) 0 (V m) r) (c : Dev nD) :
    r.2.mem ((c.tc : Thread nD τ).loc main_v80_7) = (dats m 0 c).arrAt 25 cfg0.N := (h c).1 25

/-- Every execution ends with each result's array as the points leave it, and with the arguments as they were. -/
theorem run_blocks : θ_run defs (onTc (τ := τ) (main (F := F))) ⟨m, fun _ => 0, ρ⟩ fun r => ∀ c : Dev nD,
      r.2.mem ((c.tc : Thread nD τ).loc main_v80_0) = (dats m 0 c).arrAt 18 cfg0.N
      ∧ r.2.mem ((c.tc : Thread nD τ).loc main_v80_1) = (dats m 0 c).arrAt 19 cfg0.N
      ∧ r.2.mem ((c.tc : Thread nD τ).loc main_v80_2) = (dats m 0 c).arrAt 20 cfg0.N
      ∧ r.2.mem ((c.tc : Thread nD τ).loc main_v80_3) = (dats m 0 c).arrAt 21 cfg0.N
      ∧ r.2.mem ((c.tc : Thread nD τ).loc main_v80_4) = (dats m 0 c).arrAt 22 cfg0.N
      ∧ r.2.mem ((c.tc : Thread nD τ).loc main_v80_5) = (dats m 0 c).arrAt 23 cfg0.N
      ∧ r.2.mem ((c.tc : Thread nD τ).loc main_v80_6) = (dats m 0 c).arrAt 24 cfg0.N
      ∧ r.2.mem ((c.tc : Thread nD τ).loc main_v80_7) = (dats m 0 c).arrAt 25 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨post18 m r h.1 c, post19 m r h.1 c, post20 m r h.1 c, post21 m r h.1 c, post22 m r h.1 c, post23 m r h.1 c, post24 m r h.1 c, post25 m r h.1 c, h.2.1 c⟩)
    (θ_run_and (run_main m ρ) (frame m ρ))

end Cert.ProjKernelIdeal.Hand

namespace Cert.ProjReferenceIdeal.Hand

open Cert.ProjReferenceIdeal Cert.ProjReferenceIdeal.Read

variable (m : (ℓ : Loc nD τ sig) → Buf (Elt Ideal) ℓ) (ρ : Dev nD → PrngReg)

/-- Every execution ends with each result as its lines make it of the arguments, and with the arguments as they were. -/
theorem run_values : θ_run defs (onTc (τ := τ) (main (F := Ideal))) ⟨m, fun _ => 0, ρ⟩ fun r => ∀ c : Dev nD,
      r.2.mem ((c.tc : Thread nD τ).loc main_v205) = val_main_v205 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v209) = val_main_v209 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v208) = val_main_v208 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8))
      ∧ r.2.mem ((c.tc : Thread nD τ).loc main_v118) = val_main_v118 (F := Ideal) (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg9))
      ∧ r.2.mem ((c.tc : Thread nD τ).loc main_v210) = val_main_v210 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v211) = val_main_v211 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg8))
      ∧ r.2.mem ((c.tc : Thread nD τ).loc main_v212) = val_main_v212 (F := Ideal) (m ((c.tc : Thread nD τ).loc main_arg0)) (m ((c.tc : Thread nD τ).loc main_arg2)) (m ((c.tc : Thread nD τ).loc main_arg3)) (m ((c.tc : Thread nD τ).loc main_arg7)) (m ((c.tc : Thread nD τ).loc main_arg9))
      ∧ r.2.mem ((c.tc : Thread nD τ).loc main_v213) = val_main_v213 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨(h c).1.trans (val_main_v205_eq _),
    (h c).2.1.trans (val_main_v209_eq _),
    (h c).2.2.1.trans (val_main_v208_eq _),
    (h c).2.2.2.1.trans (val_main_v118_eq _),
    (h c).2.2.2.2.1.trans (val_main_v210_eq _),
    (h c).2.2.2.2.2.1.trans (val_main_v211_eq _),
    (h c).2.2.2.2.2.2.1.trans (val_main_v212_eq _),
    (h c).2.2.2.2.2.2.2.1.trans (val_main_v213_eq _), (h c).2.2.2.2.2.2.2.2⟩)
    (Cert.ProjReferenceIdeal.Value.run m ρ)

end Cert.ProjReferenceIdeal.Hand
-- ==== Proof.MlaForm.lean ====
module

public import proofs.«01_k».proof.Proof.ProjReal
public import Idealize.ShloMosaic.Lib.Pointwise

/-!
# The latent projections, forward: what is computed

Rows are normed and projected to 448 latent columns: 256 for the queries, 128 for keys and values, 64 for the rotary key.
The first two are normed and projected up to the heads, the last is turned by the position's angles. Nothing is asked of the
arguments: a product with a zero is zero.
-/

@[expose] public section

noncomputable section

open Idealize.ShloMosaic Idealize.ShloMosaic.Pointwise

namespace Cert.Mla

/-- A row divided by the root of its mean square, times the gain. -/
def norm (w : BitVec 32) {n : ℕ} (f g : Fin n → EReal) (k : Fin n) : EReal :=
  f k * Ideal.rsqrt (Ideal.div (∑ i, f i * f i) (Ideal.ofBits .f32 w) + Ideal.ofBits .f32 0x358637BD#32) * g k

structure Args where
  x : Fin 4096 → Fin 1024 → EReal
  p : Fin 4096 → BitVec 32
  g : Fin 1024 → EReal
  wd : Fin 1024 → Fin 448 → EReal
  qg : Fin 256 → EReal
  kg : Fin 128 → EReal
  wq : Fin 256 → Fin 1536 → EReal
  wu : Fin 128 → Fin 2048 → EReal

/-- The arguments, from the arrays. -/
abbrev args (x0 : (⟨2, ![4096, 1024]⟩ : Shape).Idx → EReal) (x1 : (⟨1, ![4096]⟩ : Shape).Idx → BitVec 32) (x2 : (⟨1, ![1024]⟩ : Shape).Idx → EReal)
    (x3 : (⟨2, ![1024, 448]⟩ : Shape).Idx → EReal) (x4 : (⟨1, ![256]⟩ : Shape).Idx → EReal) (x5 : (⟨1, ![128]⟩ : Shape).Idx → EReal)
    (x6 : (⟨2, ![256, 1536]⟩ : Shape).Idx → EReal) (x7 : (⟨2, ![128, 2048]⟩ : Shape).Idx → EReal) : Args where
  x n k := x0 (ix2 n k)
  p n := x1 (ix1 n)
  g k := x2 (ix1 k)
  wd i l := x3 (ix2 i l)
  qg k := x4 (ix1 k)
  kg k := x5 (ix1 k)
  wq k l := x6 (ix2 k l)
  wu k l := x7 (ix2 k l)

/-- The three tables. -/
def tab0 (p : BitVec 32) (j : Fin 128) : EReal :=
  if j.val < 32 then Ideal.cos (Proj.angE p j.val) else if j.val - 32 < 32 then Ideal.cos (Proj.angE p (j.val - 32)) else 0
def tab1 (p : BitVec 32) (j : Fin 128) : EReal :=
  if j.val < 32 then 0 else if j.val - 32 < 32 then Ideal.sin (Proj.angE p (j.val - 32)) else 0
def tab2 (p : BitVec 32) (j : Fin 128) : EReal := if j.val < 32 then -Ideal.sin (Proj.angE p j.val) else 0

namespace Args

variable (A : Args)

def h (n : Fin 4096) : Fin 1024 → EReal := norm 0x44800000#32 (A.x n) A.g
def lat (n : Fin 4096) (l : Fin 448) : EReal := ∑ i, A.h n i * A.wd i l
def cqn (n : Fin 4096) : Fin 256 → EReal := norm 0x43800000#32 (fun k => A.lat n ⟨k.val, by omega⟩) A.qg
def ckn (n : Fin 4096) : Fin 128 → EReal := norm 0x43000000#32 (fun k => A.lat n ⟨256 + k.val, by omega⟩) A.kg

/-- The latent row of 448 in 512. -/
def latp (n : Fin 4096) (l : Fin 512) : EReal := if h : l.val < 448 then A.lat n ⟨l.val, h⟩ else 0

/-- The weights, padded. -/
def wdp (i : Fin 1024) (l : Fin 512) : EReal := if h : l.val < 448 then A.wd i ⟨l.val, h⟩ else 0
def wqp (k : Fin 256) (l : Fin 2048) : EReal := if h : l.val % 256 < 192 then A.wq k ⟨l.val / 256 * 192 + l.val % 256, by omega⟩ else 0

/-- The turned key in 128 columns. -/
def rope (n : Fin 4096) (j : Fin 128) : EReal :=
  if h : j.val < 32 then A.lat n ⟨384 + j.val, by omega⟩ * Ideal.cos (Proj.angE (A.p n) j.val)
      - A.lat n ⟨384 + (32 + j.val), by omega⟩ * Ideal.sin (Proj.angE (A.p n) j.val)
  else if h' : j.val < 64 then A.lat n ⟨384 + j.val, by omega⟩ * Ideal.cos (Proj.angE (A.p n) (j.val - 32))
      + A.lat n ⟨384 + (j.val - 32), by omega⟩ * Ideal.sin (Proj.angE (A.p n) (j.val - 32))
  else 0

/-- The queries: each head's 192 columns in 256. -/
def q (n : Fin 4096) (l : Fin 2048) : EReal :=
  if h : l.val % 256 < 192 then ∑ k, A.cqn n k * A.wq k ⟨l.val / 256 * 192 + l.val % 256, by omega⟩ else 0
def kv (n : Fin 4096) (l : Fin 2048) : EReal := ∑ k, A.ckn n k * A.wu k l

theorem wqp_pos (k : Fin 256) (l : Fin 2048) (h : l.val % 256 < 192) : A.wqp k l = A.wq k ⟨l.val / 256 * 192 + l.val % 256, by omega⟩ := by
  unfold wqp
  rw [dif_pos h]

theorem wqp_neg (k : Fin 256) (l : Fin 2048) (h : ¬ l.val % 256 < 192) : A.wqp k l = 0 := by
  unfold wqp
  rw [dif_neg h]

theorem sum_wdp (n : Fin 4096) (l : Fin 512) : ∑ i, A.h n i * A.wdp i l = A.latp n l := by
  unfold wdp latp
  by_cases h : l.val < 448
  · simp only [dif_pos h]
    rfl
  · simp only [dif_neg h, mul_zero, Finset.sum_const_zero]

theorem sum_wqp (n : Fin 4096) (l : Fin 2048) : ∑ k, A.cqn n k * A.wqp k l = A.q n l := by
  unfold wqp q
  by_cases h : l.val % 256 < 192
  · simp only [dif_pos h]
  · simp only [dif_neg h, mul_zero, Finset.sum_const_zero]

theorem latp_lt (n : Fin 4096) (l : Fin 512) (h : l.val < 448) : A.latp n l = A.lat n ⟨l.val, h⟩ := dif_pos h

theorem cqn_latp (n : Fin 4096) : norm 0x43800000#32 (fun k : Fin 256 => A.latp n ⟨k.val, by omega⟩) A.qg = A.cqn n := by
  unfold cqn
  exact congrArg (fun f => norm 0x43800000#32 f A.qg) (funext fun k => A.latp_lt n _ (by show k.val < 448; omega))

theorem ckn_latp (n : Fin 4096) : norm 0x43000000#32 (fun k : Fin 128 => A.latp n ⟨256 + k.val, by omega⟩) A.kg = A.ckn n := by
  unfold ckn
  exact congrArg (fun f => norm 0x43000000#32 f A.kg) (funext fun k => A.latp_lt n _ (by show 256 + k.val < 448; omega))

/-- The kernel turns 128 columns with the tables. -/
theorem turn (n : Fin 4096) (j u d : Fin 128) (hu : u.val = (j.val + 128 - 32) % 128) (hd : d.val = (j.val + 128 - 96) % 128) :
    A.latp n ⟨384 + j.val, by omega⟩ * tab0 (A.p n) j + A.latp n ⟨384 + u.val, by omega⟩ * tab1 (A.p n) j
      + A.latp n ⟨384 + d.val, by omega⟩ * tab2 (A.p n) j = A.rope n j := by
  unfold tab0 tab1 tab2 rope
  by_cases h : j.val < 32
  · have e : (⟨384 + d.val, by omega⟩ : Fin 512) = ⟨384 + (32 + j.val), by omega⟩ := Fin.ext (by show 384 + d.val = 384 + (32 + j.val); omega)
    rw [if_pos h, if_pos h, if_pos h, dif_pos h, e, A.latp_lt n ⟨384 + j.val, by omega⟩ (by show 384 + j.val < 448; omega),
      A.latp_lt n ⟨384 + (32 + j.val), by omega⟩ (by show 384 + (32 + j.val) < 448; omega), mul_zero, add_zero, mul_neg, sub_eq_add_neg]
  · rw [if_neg h, if_neg h, if_neg h, dif_neg h, mul_zero, add_zero]
    by_cases h' : j.val < 64
    · have e : (⟨384 + u.val, by omega⟩ : Fin 512) = ⟨384 + (j.val - 32), by omega⟩ := Fin.ext (by show 384 + u.val = 384 + (j.val - 32); omega)
      rw [if_pos (by omega), if_pos (by omega), dif_pos h', e, A.latp_lt n ⟨384 + j.val, by omega⟩ (by show 384 + j.val < 448; omega),
        A.latp_lt n ⟨384 + (j.val - 32), by omega⟩ (by show 384 + (j.val - 32) < 448; omega)]
    · rw [if_neg (by omega), if_neg (by omega), dif_neg h', mul_zero, mul_zero, add_zero]

end Args

end Cert.Mla
-- ==== Proof.MlaHost.lean ====
module

public import proofs.«01_k».proof.Proof.MlaForm
public import proofs.«01_k».proof.Proof.Gen.MlaKernelIdeal.Value
public import Idealize.ShloMosaic.Lib.Pointwise
public import Idealize.ShloMosaic.Lib.Pipeline.ValueKit
public import Idealize.ShloMosaic.Lib.StableHlo.RunRead
public import Idealize.ShloMosaic.Lib.StableHlo.ReadAt

/-!
# The latent projections, forward: the kernel's arrays

What the host's lines leave for the call, what one grid point computes of its blocks, and the arrays they make.
-/

@[expose] public section

set_option maxRecDepth 16384

noncomputable section

open Idealize.ShloMosaic Idealize.ShloMosaic.TcCoe Idealize.SL.Sem Idealize.ShloMosaic.Pointwise

namespace Cert.MlaKernelIdeal.Hand

open Cert.MlaKernelIdeal Cert.MlaKernelIdeal.Gen
open Idealize.ShloMosaic.Pipeline (Dat)

/-- The host's lines, one stretch after the other. -/
theorem V_split {F : FTy → Type} [FloatOps F] (m : (ℓ : Loc nD τ sig) → Buf (Elt F) ℓ) (c : Dev nD) (b : Ref sig .tc) :
    V m c b = StableHlo.after hostOps0_4 (StableHlo.after hostOps0_3 (StableHlo.after hostOps0_2 (StableHlo.after hostOps0_1
        (StableHlo.after hostOps0 fun b => m (c, b))))) b := by
  unfold V
  simp only [List.flatten_cons, List.flatten_nil, List.append_nil, StableHlo.after_append]

variable (m : (ℓ : Loc nD τ sig) → Buf (Elt Ideal) ℓ) (c : Dev nD)

/-- The arguments. -/
abbrev A : Mla.Args := Mla.args (m (c, Proc.tc.devRef main_arg0)) (m (c, Proc.tc.devRef main_arg1)) (m (c, Proc.tc.devRef main_arg2))
  (m (c, Proc.tc.devRef main_arg3)) (m (c, Proc.tc.devRef main_arg4)) (m (c, Proc.tc.devRef main_arg5)) (m (c, Proc.tc.devRef main_arg6))
  (m (c, Proc.tc.devRef main_arg7))

theorem zero_word : (FloatOps.sitofp (F := Ideal) .f32 0#32 : EReal) = 0 := by simp [FloatOps.sitofp]

theorem V_x (n : Fin 4096) (k : Fin 1024) : V m c main_arg0 (ix2 n k) = ((A m c).x n k : EReal) := by
  rw [V_split]
  after_reads_at

theorem V_wu (k : Fin 128) (l : Fin 2048) : V m c main_arg7 (ix2 k l) = ((A m c).wu k l : EReal) := by
  rw [V_split]
  after_reads_at

theorem V_g (k : Fin 1024) : V m c main_v24 (ix2 0 k) = ((A m c).g k : EReal) := by
  rw [V_split]
  after_reads_at

theorem V_qg (k : Fin 256) : V m c main_v25 (ix2 0 k) = ((A m c).qg k : EReal) := by
  rw [V_split]
  after_reads_at

theorem V_kg (k : Fin 128) : V m c main_v26 (ix2 0 k) = ((A m c).kg k : EReal) := by
  rw [V_split]
  after_reads_at

theorem V_wd (i : Fin 1024) (l : Fin 512) : V m c main_v27 (ix2 i l) = ((A m c).wdp i l : EReal) := by
  rw [V_split]
  after_reads_at
  rw [zero_word]
  rfl

theorem V_wq (k : Fin 256) (l : Fin 2048) : V m c main_v30 (ix2 k l) = ((A m c).wqp k l : EReal) := by
  rw [V_split]
  after_reads_at
  simp only [zero_word]
  by_cases h : l.val % 256 < 192
  · have hh : l.val / 256 < 8 ∧ l.val % 256 < 192 := ⟨by omega, h⟩
    rw [dif_pos hh]
    exact ((A m c).wqp_pos k l h).symm
  · rw [dif_neg fun e => h e.2, (A m c).wqp_neg k l h]

theorem V_tab0 (n : Fin 4096) (k : Fin 128) : V m c main_v20 (ix2 n k) = (Mla.tab0 ((A m c).p n) k : EReal) := by
  rw [V_split]
  after_reads_at
  after_reads_at
  unfold Mla.tab0
  by_cases h : k.val < 32
  · rw [dif_pos h, if_pos h]
    rfl
  · rw [dif_neg h, if_neg h]
    by_cases h' : k.val - 32 < 32
    · rw [dif_pos h', if_pos h']
      rfl
    · rw [dif_neg h', if_neg h']

theorem V_tab1 (n : Fin 4096) (k : Fin 128) : V m c main_v21 (ix2 n k) = (Mla.tab1 ((A m c).p n) k : EReal) := by
  rw [V_split]
  after_reads_at
  after_reads_at
  unfold Mla.tab1
  by_cases h : k.val < 32
  · rw [dif_pos h, if_pos h]
  · rw [dif_neg h, if_neg h]
    by_cases h' : k.val - 32 < 32
    · rw [dif_pos h', if_pos h']
      rfl
    · rw [dif_neg h', if_neg h']

theorem V_tab2 (n : Fin 4096) (k : Fin 128) : V m c main_v23 (ix2 n k) = (Mla.tab2 ((A m c).p n) k : EReal) := by
  rw [V_split]
  after_reads_at
  after_reads_at
  unfold Mla.tab2
  by_cases h : k.val < 32
  · rw [dif_pos h, if_pos h]
    rfl
  · rw [dif_neg h, if_neg h]
    by_cases h' : k.val - 32 < 32
    · rw [dif_pos h']
    · rw [dif_neg h']

end Cert.MlaKernelIdeal.Hand
-- ==== Proof.MlaPoint.lean ====
module

public import proofs.«01_k».proof.Proof.MlaForm
public import proofs.«01_k».proof.Proof.Gen.MlaKernelIdeal.Value
public import Idealize.ShloMosaic.Lib.Pointwise
public import Idealize.ShloMosaic.Lib.Pipeline.ValueKit

/-!
# The latent projections, forward: what one grid point computes of its blocks
-/

@[expose] public section

set_option maxRecDepth 16384

noncomputable section

open Idealize.ShloMosaic Idealize.ShloMosaic.TcCoe Idealize.SL.Sem Idealize.ShloMosaic.Pointwise

namespace Cert.MlaKernelIdeal.Hand

open Cert.MlaKernelIdeal Cert.MlaKernelIdeal.Gen

theorem zeros2 : (![0, 0] : Fin 2 → Nat) = fun _ => 0 := funext fun a => by fin_cases a <;> rfl

variable (x0 : Vec Ideal S512x1024 .f32) (x1 x2 x3 : Vec Ideal S512x128 .f32) (x4 : Vec Ideal S1x1024 .f32) (x5 : Vec Ideal S1024x512 .f32)
  (x6 : Vec Ideal S1x256 .f32) (x7 : Vec Ideal S1x128 .f32) (x8 : Vec Ideal S256x2048 .f32) (x9 : Vec Ideal S128x2048 .f32)

/-! ## The payloads at an index -/

theorem h_at (r : Fin 512) (k : Fin 1024) :
    k0_pay9 (F := Ideal) x0 x4 (ix2 r k) = Mla.norm 0x44800000#32 (fun k => x0 (ix2 r k)) (fun k => x4 (ix2 0 k)) k := by
  pointwise [k0_pay9]
  rfl

theorem lat_at (r : Fin 512) (l : Fin 512) :
    k0_pay10 (F := Ideal) x0 x4 x5 (ix2 r l) = ∑ i, k0_pay9 (F := Ideal) x0 x4 (ix2 r i) * x5 (ix2 i l) := by
  pointwise [k0_pay10]

theorem cqn_at (r : Fin 512) (k : Fin 256) :
    k0_pay13 (F := Ideal) (k0_pay6 x6) (k0_pay11 x0 x4 x5) (k0_pay12 x0 x4 x5) (ix2 r k)
      = Mla.norm 0x43800000#32 (fun k : Fin 256 => k0_pay10 (F := Ideal) x0 x4 x5 (ix2 r ⟨k.val, by omega⟩)) (fun k => x6 (ix2 0 k)) k := by
  pointwise [k0_pay13, k0_pay6, k0_pay11, k0_pay12]
  rfl

theorem ckn_at (v32 : FVec Ideal S512x512 .f32) (r : Fin 512) (k : Fin 128) :
    k0_pay14 (F := Ideal) (k0_pay7 x7) v32 (ix2 r k)
      = Mla.norm 0x43000000#32 (fun k : Fin 128 => v32 (ix2 r ⟨256 + k.val, by omega⟩)) (fun k => x7 (ix2 0 k)) k := by
  pointwise [k0_pay14, k0_pay7]
  rfl

theorem rope_at (v32 : FVec Ideal S512x512 .f32) (r : Fin 512) (j : Fin 128) :
    k0_pay1 (F := Ideal) (k0_pay15 (k0_pay3 x1) (k0_pay4 x2) (k0_pay5 x3) v32) (ix2 r j)
      = v32 (ix2 r ⟨384 + j.val, by omega⟩) * x1 (ix2 r j) + v32 (ix2 r ⟨384 + (j.val + 128 - 32) % 128, by omega⟩) * x2 (ix2 r j)
        + v32 (ix2 r ⟨384 + (j.val + 128 - 96) % 128, by omega⟩) * x3 (ix2 r j) := by
  pointwise [k0_pay1, k0_pay15, k0_pay3, k0_pay4, k0_pay5]

theorem q_at (v12 : FVec Ideal S1x256 .f32) (v33 v34 : FVec Ideal S512x256 .f32) (r : Fin 512) (l : Fin 2048) :
    k0_pay16 (F := Ideal) v12 (k0_pay8 x8) v33 v34 (ix2 r l) = ∑ k, k0_pay13 (F := Ideal) v12 v33 v34 (ix2 r k) * x8 (ix2 k l) := by
  pointwise [k0_pay16, k0_pay8]

theorem kv_at (v14 : FVec Ideal S1x128 .f32) (v32 : FVec Ideal S512x512 .f32) (r : Fin 512) (l : Fin 2048) :
    k0_pay2 (F := Ideal) (k0_pay17 v14 x9 v32) (ix2 r l) = ∑ k, k0_pay14 (F := Ideal) v14 v32 (ix2 r k) * x9 (ix2 k l) := by
  pointwise [k0_pay2, k0_pay17]

/-! ## What the point leaves in its windows -/

theorem left10 : out0_10 x0 x1 x2 x3 x4 x5 x6 x7 x8 x9 = k0_pay9 (F := Ideal) x0 x4 := by
  unfold out0_10
  rw [View.canon_unit_zero zeros2, View.ld_unit_zero (S := S512x1024) zeros2, View.ld_unit_zero (S := S1x1024) zeros2]

theorem pay20 : k0_pay20 x0 x1 x2 x3 x4 x5 x6 x7 x8 x9 = k0_pay10 (F := Ideal) x0 x4 x5 := by
  unfold k0_pay20
  rw [View.ld_unit_zero (S := S512x1024) zeros2, View.ld_unit_zero (S := S1x1024) zeros2, View.ld_unit_zero (S := S1024x512) zeros2]

theorem pay18 : k0_pay18 x0 x1 x2 x3 x4 x5 x6 x7 x8 x9 = k0_pay6 (F := Ideal) x6 := by
  unfold k0_pay18
  rw [View.ld_unit_zero (S := S1x256) zeros2]

theorem pay19 : k0_pay19 x0 x1 x2 x3 x4 x5 x6 x7 x8 x9 = k0_pay7 (F := Ideal) x7 := by
  unfold k0_pay19
  rw [View.ld_unit_zero (S := S1x128) zeros2]

theorem pay21 : k0_pay21 x0 x1 x2 x3 x4 x5 x6 x7 x8 x9 = k0_pay11 (F := Ideal) x0 x4 x5 := by
  unfold k0_pay21
  rw [View.ld_unit_zero (S := S512x1024) zeros2, View.ld_unit_zero (S := S1x1024) zeros2, View.ld_unit_zero (S := S1024x512) zeros2]

theorem pay22 : k0_pay22 x0 x1 x2 x3 x4 x5 x6 x7 x8 x9 = k0_pay12 (F := Ideal) x0 x4 x5 := by
  unfold k0_pay22
  rw [View.ld_unit_zero (S := S512x1024) zeros2, View.ld_unit_zero (S := S1x1024) zeros2, View.ld_unit_zero (S := S1024x512) zeros2]

theorem left11 : out0_11 x0 x1 x2 x3 x4 x5 x6 x7 x8 x9 = k0_pay10 (F := Ideal) x0 x4 x5 := by
  unfold out0_11
  rw [View.canon_unit_zero zeros2, pay20]

theorem left12 : out0_12 x0 x1 x2 x3 x4 x5 x6 x7 x8 x9 = k0_pay13 (F := Ideal) (k0_pay6 x6) (k0_pay11 x0 x4 x5) (k0_pay12 x0 x4 x5) := by
  unfold out0_12
  rw [View.canon_unit_zero zeros2, pay18, pay21, pay22]

theorem left13 : out0_13 x0 x1 x2 x3 x4 x5 x6 x7 x8 x9 = k0_pay14 (F := Ideal) (k0_pay7 x7) (k0_pay10 x0 x4 x5) := by
  unfold out0_13
  rw [View.canon_unit_zero zeros2, pay19, pay20]

theorem left14 : out0_14 x0 x1 x2 x3 x4 x5 x6 x7 x8 x9
    = k0_pay1 (F := Ideal) (k0_pay15 (k0_pay3 x1) (k0_pay4 x2) (k0_pay5 x3) (k0_pay10 x0 x4 x5)) := by
  unfold out0_14
  rw [View.canon_unit_zero zeros2, pay20, View.ld_unit_zero (S := S512x128) zeros2, View.ld_unit_zero (S := S512x128) zeros2,
    View.ld_unit_zero (S := S512x128) zeros2]

theorem left15 : out0_15 x0 x1 x2 x3 x4 x5 x6 x7 x8 x9
    = k0_pay16 (F := Ideal) (k0_pay6 x6) (k0_pay8 x8) (k0_pay11 x0 x4 x5) (k0_pay12 x0 x4 x5) := by
  unfold out0_15
  rw [View.canon_unit_zero zeros2, pay18, pay21, pay22, View.ld_unit_zero (S := S256x2048) zeros2]

theorem left16 : out0_16 x0 x1 x2 x3 x4 x5 x6 x7 x8 x9 = k0_pay2 (F := Ideal) (k0_pay17 (k0_pay7 x7) x9 (k0_pay10 x0 x4 x5)) := by
  unfold out0_16
  rw [View.canon_unit_zero zeros2, pay19, pay20, View.ld_unit_zero (S := S128x2048) zeros2]

end Cert.MlaKernelIdeal.Hand
-- ==== Proof.MlaKernelValue.lean ====
module

public import proofs.«01_k».proof.Proof.MlaHost
public import proofs.«01_k».proof.Proof.MlaPoint

/-!
# The latent projections, forward: the arrays that the kernel makes
-/

@[expose] public section

set_option maxRecDepth 16384

noncomputable section

open Idealize.ShloMosaic Idealize.ShloMosaic.TcCoe Idealize.SL.Sem Idealize.ShloMosaic.Pointwise

namespace Cert.MlaKernelIdeal.Hand

open Cert.MlaKernelIdeal Cert.MlaKernelIdeal.Gen
open Idealize.ShloMosaic.Pipeline (Dat)

variable (m : (ℓ : Loc nD τ sig) → Buf (Elt Ideal) ℓ) (c : Dev nD)

/-- The row of the whole array at which row `r` of point `t`'s block lies. -/
abbrev atRow (t : Fin cfg0.N) (r : Fin 512) : Fin 4096 := ⟨t.val * 512 + r.val, by have := t.isLt; have : cfg0.N = 8 := N_0; omega⟩

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index3 : ∀ t : Fin grid0.N, win0_3.index t = ![t.val, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![0, 0] := by decide +kernel
theorem index9 : ∀ t : Fin grid0.N, win0_9.index t = ![0, 0] := by decide +kernel
theorem index10 : ∀ t : Fin grid0.N, win0_10.index t = ![t.val, 0] := by decide +kernel
theorem index11 : ∀ t : Fin grid0.N, win0_11.index t = ![t.val, 0] := by decide +kernel
theorem index12 : ∀ t : Fin grid0.N, win0_12.index t = ![t.val, 0] := by decide +kernel
theorem index13 : ∀ t : Fin grid0.N, win0_13.index t = ![t.val, 0] := by decide +kernel
theorem index14 : ∀ t : Fin grid0.N, win0_14.index t = ![t.val, 0] := by decide +kernel
theorem index15 : ∀ t : Fin grid0.N, win0_15.index t = ![t.val, 0] := by decide +kernel
theorem index16 : ∀ t : Fin grid0.N, win0_16.index t = ![t.val, 0] := by decide +kernel

/-! ## The blocks -/

section reads

variable (X : (b : Ref sig .tc) → Buf (Elt Ideal) ((c : Thread nD τ).loc b))

theorem read0 (t : Fin cfg0.N) (r : Fin 512) (l : Fin 1024) : ((cfg0.win 0).blk t).view.read (Elt Ideal) (X (Pipeline.arrRef spec0 0)) (ix2 r l) = X main_arg0 (ix2 (atRow t r) l) := by
  have e : ((cfg0.win 0).blk t).view.emb (ix2 r l) = ix2 (atRow t r) l := by blk_ext [index0, atRow]
  exact congrArg (X main_arg0) e

theorem read1 (t : Fin cfg0.N) (r : Fin 512) (l : Fin 128) : ((cfg0.win 1).blk t).view.read (Elt Ideal) (X (Pipeline.arrRef spec0 1)) (ix2 r l) = X main_v20 (ix2 (atRow t r) l) := by
  have e : ((cfg0.win 1).blk t).view.emb (ix2 r l) = ix2 (atRow t r) l := by blk_ext [index1, atRow]
  exact congrArg (X main_v20) e

theorem read2 (t : Fin cfg0.N) (r : Fin 512) (l : Fin 128) : ((cfg0.win 2).blk t).view.read (Elt Ideal) (X (Pipeline.arrRef spec0 2)) (ix2 r l) = X main_v21 (ix2 (atRow t r) l) := by
  have e : ((cfg0.win 2).blk t).view.emb (ix2 r l) = ix2 (atRow t r) l := by blk_ext [index2, atRow]
  exact congrArg (X main_v21) e

theorem read3 (t : Fin cfg0.N) (r : Fin 512) (l : Fin 128) : ((cfg0.win 3).blk t).view.read (Elt Ideal) (X (Pipeline.arrRef spec0 3)) (ix2 r l) = X main_v23 (ix2 (atRow t r) l) := by
  have e : ((cfg0.win 3).blk t).view.emb (ix2 r l) = ix2 (atRow t r) l := by blk_ext [index3, atRow]
  exact congrArg (X main_v23) e

theorem read4 (t : Fin cfg0.N) (l : Fin 1024) : ((cfg0.win 4).blk t).view.read (Elt Ideal) (X (Pipeline.arrRef spec0 4)) (ix2 0 l) = X main_v24 (ix2 0 l) := by
  have e : ((cfg0.win 4).blk t).view.emb (ix2 0 l) = ix2 0 l := by blk_ext [index4]
  exact congrArg (X main_v24) e

theorem read5 (t : Fin cfg0.N) (r : Fin 1024) (l : Fin 512) : ((cfg0.win 5).blk t).view.read (Elt Ideal) (X (Pipeline.arrRef spec0 5)) (ix2 r l) = X main_v27 (ix2 r l) := by
  have e : ((cfg0.win 5).blk t).view.emb (ix2 r l) = ix2 r l := by blk_ext [index5]
  exact congrArg (X main_v27) e

theorem read6 (t : Fin cfg0.N) (l : Fin 256) : ((cfg0.win 6).blk t).view.read (Elt Ideal) (X (Pipeline.arrRef spec0 6)) (ix2 0 l) = X main_v25 (ix2 0 l) := by
  have e : ((cfg0.win 6).blk t).view.emb (ix2 0 l) = ix2 0 l := by blk_ext [index6]
  exact congrArg (X main_v25) e

theorem read7 (t : Fin cfg0.N) (l : Fin 128) : ((cfg0.win 7).blk t).view.read (Elt Ideal) (X (Pipeline.arrRef spec0 7)) (ix2 0 l) = X main_v26 (ix2 0 l) := by
  have e : ((cfg0.win 7).blk t).view.emb (ix2 0 l) = ix2 0 l := by blk_ext [index7]
  exact congrArg (X main_v26) e

theorem read8 (t : Fin cfg0.N) (r : Fin 256) (l : Fin 2048) : ((cfg0.win 8).blk t).view.read (Elt Ideal) (X (Pipeline.arrRef spec0 8)) (ix2 r l) = X main_v30 (ix2 r l) := by
  have e : ((cfg0.win 8).blk t).view.emb (ix2 r l) = ix2 r l := by blk_ext [index8]
  exact congrArg (X main_v30) e

theorem read9 (t : Fin cfg0.N) (r : Fin 128) (l : Fin 2048) : ((cfg0.win 9).blk t).view.read (Elt Ideal) (X (Pipeline.arrRef spec0 9)) (ix2 r l) = X main_arg7 (ix2 r l) := by
  have e : ((cfg0.win 9).blk t).view.emb (ix2 r l) = ix2 r l := by blk_ext [index9]
  exact congrArg (X main_arg7) e

end reads

theorem blk0 (t : Fin cfg0.N) (r : Fin 512) (l : Fin 1024) : (iblk m c 0 t : Vec Ideal S512x1024 .f32) (ix2 r l) = ((A m c).x (atRow t r) l : EReal) := by
  have e : (iblk m c 0 t : Vec Ideal S512x1024 .f32) (ix2 r l) = ((cfg0.win 0).blk t).view.read (Elt Ideal) (V m c (Pipeline.arrRef spec0 0)) (ix2 r l) := by rfl
  rw [e, read0 c (V m c) t r l, V_x m c (atRow t r) l]

theorem blk1 (t : Fin cfg0.N) (r : Fin 512) (l : Fin 128) : (iblk m c 1 t : Vec Ideal S512x128 .f32) (ix2 r l) = (Mla.tab0 ((A m c).p (atRow t r)) l : EReal) := by
  have e : (iblk m c 1 t : Vec Ideal S512x128 .f32) (ix2 r l) = ((cfg0.win 1).blk t).view.read (Elt Ideal) (V m c (Pipeline.arrRef spec0 1)) (ix2 r l) := by rfl
  rw [e, read1 c (V m c) t r l, V_tab0 m c (atRow t r) l]

theorem blk2 (t : Fin cfg0.N) (r : Fin 512) (l : Fin 128) : (iblk m c 2 t : Vec Ideal S512x128 .f32) (ix2 r l) = (Mla.tab1 ((A m c).p (atRow t r)) l : EReal) := by
  have e : (iblk m c 2 t : Vec Ideal S512x128 .f32) (ix2 r l) = ((cfg0.win 2).blk t).view.read (Elt Ideal) (V m c (Pipeline.arrRef spec0 2)) (ix2 r l) := by rfl
  rw [e, read2 c (V m c) t r l, V_tab1 m c (atRow t r) l]

theorem blk3 (t : Fin cfg0.N) (r : Fin 512) (l : Fin 128) : (iblk m c 3 t : Vec Ideal S512x128 .f32) (ix2 r l) = (Mla.tab2 ((A m c).p (atRow t r)) l : EReal) := by
  have e : (iblk m c 3 t : Vec Ideal S512x128 .f32) (ix2 r l) = ((cfg0.win 3).blk t).view.read (Elt Ideal) (V m c (Pipeline.arrRef spec0 3)) (ix2 r l) := by rfl
  rw [e, read3 c (V m c) t r l, V_tab2 m c (atRow t r) l]

theorem blk4 (t : Fin cfg0.N) (l : Fin 1024) : (iblk m c 4 t : Vec Ideal S1x1024 .f32) (ix2 0 l) = ((A m c).g l : EReal) := by
  have e : (iblk m c 4 t : Vec Ideal S1x1024 .f32) (ix2 0 l) = ((cfg0.win 4).blk t).view.read (Elt Ideal) (V m c (Pipeline.arrRef spec0 4)) (ix2 0 l) := by rfl
  rw [e, read4 c (V m c) t l, V_g m c l]

theorem blk5 (t : Fin cfg0.N) (r : Fin 1024) (l : Fin 512) : (iblk m c 5 t : Vec Ideal S1024x512 .f32) (ix2 r l) = ((A m c).wdp r l : EReal) := by
  have e : (iblk m c 5 t : Vec Ideal S1024x512 .f32) (ix2 r l) = ((cfg0.win 5).blk t).view.read (Elt Ideal) (V m c (Pipeline.arrRef spec0 5)) (ix2 r l) := by rfl
  rw [e, read5 c (V m c) t r l, V_wd m c r l]

theorem blk6 (t : Fin cfg0.N) (l : Fin 256) : (iblk m c 6 t : Vec Ideal S1x256 .f32) (ix2 0 l) = ((A m c).qg l : EReal) := by
  have e : (iblk m c 6 t : Vec Ideal S1x256 .f32) (ix2 0 l) = ((cfg0.win 6).blk t).view.read (Elt Ideal) (V m c (Pipeline.arrRef spec0 6)) (ix2 0 l) := by rfl
  rw [e, read6 c (V m c) t l, V_qg m c l]

theorem blk7 (t : Fin cfg0.N) (l : Fin 128) : (iblk m c 7 t : Vec Ideal S1x128 .f32) (ix2 0 l) = ((A m c).kg l : EReal) := by
  have e : (iblk m c 7 t : Vec Ideal S1x128 .f32) (ix2 0 l) = ((cfg0.win 7).blk t).view.read (Elt Ideal) (V m c (Pipeline.arrRef spec0 7)) (ix2 0 l) := by rfl
  rw [e, read7 c (V m c) t l, V_kg m c l]

theorem blk8 (t : Fin cfg0.N) (r : Fin 256) (l : Fin 2048) : (iblk m c 8 t : Vec Ideal S256x2048 .f32) (ix2 r l) = ((A m c).wqp r l : EReal) := by
  have e : (iblk m c 8 t : Vec Ideal S256x2048 .f32) (ix2 r l) = ((cfg0.win 8).blk t).view.read (Elt Ideal) (V m c (Pipeline.arrRef spec0 8)) (ix2 r l) := by rfl
  rw [e, read8 c (V m c) t r l, V_wq m c r l]

theorem blk9 (t : Fin cfg0.N) (r : Fin 128) (l : Fin 2048) : (iblk m c 9 t : Vec Ideal S128x2048 .f32) (ix2 r l) = ((A m c).wu r l : EReal) := by
  have e : (iblk m c 9 t : Vec Ideal S128x2048 .f32) (ix2 r l) = ((cfg0.win 9).blk t).view.read (Elt Ideal) (V m c (Pipeline.arrRef spec0 9)) (ix2 r l) := by rfl
  rw [e, read9 c (V m c) t r l, V_wu m c r l]

/-! ## One point's values -/

theorem h_pt (t : Fin cfg0.N) (r : Fin 512) (k : Fin 1024) :
    k0_pay9 (F := Ideal) (iblk m c 0 t) (iblk m c 4 t) (ix2 r k) = (A m c).h (atRow t r) k := by
  rw [h_at]
  simp only [blk0 m c, blk4 m c]
  rfl

theorem lat_pt (t : Fin cfg0.N) (r : Fin 512) (l : Fin 512) :
    k0_pay10 (F := Ideal) (iblk m c 0 t) (iblk m c 4 t) (iblk m c 5 t) (ix2 r l) = (A m c).latp (atRow t r) l := by
  rw [lat_at]
  simp only [h_pt m c, blk5 m c]
  exact (A m c).sum_wdp (atRow t r) l

theorem cqn_pt (t : Fin cfg0.N) (r : Fin 512) (k : Fin 256) :
    k0_pay13 (F := Ideal) (k0_pay6 (iblk m c 6 t)) (k0_pay11 (iblk m c 0 t) (iblk m c 4 t) (iblk m c 5 t))
      (k0_pay12 (iblk m c 0 t) (iblk m c 4 t) (iblk m c 5 t)) (ix2 r k) = (A m c).cqn (atRow t r) k := by
  rw [cqn_at]
  simp only [lat_pt m c, blk6 m c]
  exact congrFun ((A m c).cqn_latp (atRow t r)) k

theorem ckn_pt (t : Fin cfg0.N) (r : Fin 512) (k : Fin 128) :
    k0_pay14 (F := Ideal) (k0_pay7 (iblk m c 7 t)) (k0_pay10 (iblk m c 0 t) (iblk m c 4 t) (iblk m c 5 t)) (ix2 r k)
      = (A m c).ckn (atRow t r) k := by
  rw [ckn_at]
  simp only [lat_pt m c, blk7 m c]
  exact congrFun ((A m c).ckn_latp (atRow t r)) k

/-! ## The arrays -/

theorem final10 : (dats m 0 c).arrAt 10 cfg0.N = fun i : S4096x1024.Idx => (A m c).h (i 0) (i 1) := by
  refine (dats m 0 c).arrAt_eq_of_covers 10 _ (by decide +kernel) fun t hf y => ?_
  obtain ⟨r, l, rfl⟩ : ∃ (r : Fin 512) (l : Fin 1024), y = ix2 r l := ⟨y 0, y 1, (ix2_eta y).symm⟩
  have e : ((cfg0.win 10).blk t).view.emb (ix2 r l) = ix2 (atRow t r) l := by blk_ext [index10, atRow]
  refine Eq.trans ?_ (congrArg (fun i : S4096x1024.Idx => (A m c).h (i 0) (i 1)) e).symm
  blk_simp
  rw [after0_10, left10]
  exact h_pt m c t r l

theorem final11 : (dats m 0 c).arrAt 11 cfg0.N = fun i : S4096x512.Idx => (A m c).latp (i 0) (i 1) := by
  refine (dats m 0 c).arrAt_eq_of_covers 11 _ (by decide +kernel) fun t hf y => ?_
  obtain ⟨r, l, rfl⟩ : ∃ (r : Fin 512) (l : Fin 512), y = ix2 r l := ⟨y 0, y 1, (ix2_eta y).symm⟩
  have e : ((cfg0.win 11).blk t).view.emb (ix2 r l) = ix2 (atRow t r) l := by blk_ext [index11, atRow]
  refine Eq.trans ?_ (congrArg (fun i : S4096x512.Idx => (A m c).latp (i 0) (i 1)) e).symm
  blk_simp
  rw [after0_11, left11]
  exact lat_pt m c t r l

theorem final12 : (dats m 0 c).arrAt 12 cfg0.N = fun i : S4096x256.Idx => (A m c).cqn (i 0) (i 1) := by
  refine (dats m 0 c).arrAt_eq_of_covers 12 _ (by decide +kernel) fun t hf y => ?_
  obtain ⟨r, l, rfl⟩ : ∃ (r : Fin 512) (l : Fin 256), y = ix2 r l := ⟨y 0, y 1, (ix2_eta y).symm⟩
  have e : ((cfg0.win 12).blk t).view.emb (ix2 r l) = ix2 (atRow t r) l := by blk_ext [index12, atRow]
  refine Eq.trans ?_ (congrArg (fun i : S4096x256.Idx => (A m c).cqn (i 0) (i 1)) e).symm
  blk_simp
  rw [after0_12, left12]
  exact cqn_pt m c t r l

theorem final13 : (dats m 0 c).arrAt 13 cfg0.N = fun i : S4096x128.Idx => (A m c).ckn (i 0) (i 1) := by
  refine (dats m 0 c).arrAt_eq_of_covers 13 _ (by decide +kernel) fun t hf y => ?_
  obtain ⟨r, l, rfl⟩ : ∃ (r : Fin 512) (l : Fin 128), y = ix2 r l := ⟨y 0, y 1, (ix2_eta y).symm⟩
  have e : ((cfg0.win 13).blk t).view.emb (ix2 r l) = ix2 (atRow t r) l := by blk_ext [index13, atRow]
  refine Eq.trans ?_ (congrArg (fun i : S4096x128.Idx => (A m c).ckn (i 0) (i 1)) e).symm
  blk_simp
  rw [after0_13, left13]
  exact ckn_pt m c t r l

theorem final14 : (dats m 0 c).arrAt 14 cfg0.N = fun i : S4096x128.Idx => (A m c).rope (i 0) (i 1) := by
  refine (dats m 0 c).arrAt_eq_of_covers 14 _ (by decide +kernel) fun t hf y => ?_
  obtain ⟨r, l, rfl⟩ : ∃ (r : Fin 512) (l : Fin 128), y = ix2 r l := ⟨y 0, y 1, (ix2_eta y).symm⟩
  have e : ((cfg0.win 14).blk t).view.emb (ix2 r l) = ix2 (atRow t r) l := by blk_ext [index14, atRow]
  refine Eq.trans ?_ (congrArg (fun i : S4096x128.Idx => (A m c).rope (i 0) (i 1)) e).symm
  blk_simp
  rw [after0_14, left14]
  rw [rope_at]
  simp only [lat_pt m c, blk1 m c, blk2 m c, blk3 m c]
  exact (A m c).turn (atRow t r) l ⟨(l.val + 128 - 32) % 128, Nat.mod_lt _ (by decide)⟩ ⟨(l.val + 128 - 96) % 128, Nat.mod_lt _ (by decide)⟩ rfl rfl

theorem final15 : (dats m 0 c).arrAt 15 cfg0.N = fun i : S4096x2048.Idx => (A m c).q (i 0) (i 1) := by
  refine (dats m 0 c).arrAt_eq_of_covers 15 _ (by decide +kernel) fun t hf y => ?_
  obtain ⟨r, l, rfl⟩ : ∃ (r : Fin 512) (l : Fin 2048), y = ix2 r l := ⟨y 0, y 1, (ix2_eta y).symm⟩
  have e : ((cfg0.win 15).blk t).view.emb (ix2 r l) = ix2 (atRow t r) l := by blk_ext [index15, atRow]
  refine Eq.trans ?_ (congrArg (fun i : S4096x2048.Idx => (A m c).q (i 0) (i 1)) e).symm
  blk_simp
  rw [after0_15, left15]
  rw [q_at]
  simp only [cqn_pt m c, blk8 m c]
  exact (A m c).sum_wqp (atRow t r) l

theorem final16 : (dats m 0 c).arrAt 16 cfg0.N = fun i : S4096x2048.Idx => (A m c).kv (i 0) (i 1) := by
  refine (dats m 0 c).arrAt_eq_of_covers 16 _ (by decide +kernel) fun t hf y => ?_
  obtain ⟨r, l, rfl⟩ : ∃ (r : Fin 512) (l : Fin 2048), y = ix2 r l := ⟨y 0, y 1, (ix2_eta y).symm⟩
  have e : ((cfg0.win 16).blk t).view.emb (ix2 r l) = ix2 (atRow t r) l := by blk_ext [index16, atRow]
  refine Eq.trans ?_ (congrArg (fun i : S4096x2048.Idx => (A m c).kv (i 0) (i 1)) e).symm
  blk_simp
  rw [after0_16, left16]
  rw [kv_at]
  simp only [ckn_pt m c, blk9 m c]
  rfl

end Cert.MlaKernelIdeal.Hand
-- ==== Proof.MlaRef.lean ====
module

public import proofs.«01_k».proof.Proof.MlaForm
public import proofs.«01_k».proof.Proof.Gen.MlaReferenceIdeal.Read
public import Idealize.ShloMosaic.Lib.Pointwise

/-!
# The latent projections, forward: the reference's arrays
-/

@[expose] public section

set_option maxRecDepth 16384

noncomputable section

open Idealize.ShloMosaic Idealize.ShloMosaic.TcCoe Idealize.ShloMosaic.Pointwise

namespace Cert.MlaReferenceIdeal.Hand

open Cert.MlaReferenceIdeal Cert.MlaReferenceIdeal.Gen Cert.MlaReferenceIdeal.Read

variable (x0 : FVec Ideal S4096x1024 .f32) (x1 : IVec S4096 32) (x2 : FVec Ideal S1024 .f32) (x3 : FVec Ideal S1024x448 .f32)
  (x4 : FVec Ideal S256 .f32) (x5 : FVec Ideal S128 .f32) (x6 : FVec Ideal S256x1536 .f32) (x7 : FVec Ideal S128x2048 .f32)

theorem zero_word : (FloatOps.sitofp (F := Ideal) .f32 0#32 : EReal) = 0 := by simp [FloatOps.sitofp]

theorem h_at (n : Fin 4096) (k : Fin 1024) : val_main_v30 (F := Ideal) x0 x2 (ix2 n k)
    = ((Mla.args x0 x1 x2 x3 x4 x5 x6 x7).h n k : EReal) := by
  unfold val_main_v30 val_main_v27 val_main_v26 val_main_v25 val_main_v24 val_main_v22 val_main_v20 val_main_v19 val_main_cst_3 val_main_v18 val_main_v21 val_main_cst_4 val_main_v23 val_main_cst_5 val_main_v29 val_main_v28
  pointwise
  rfl

theorem lat_at (n : Fin 4096) (k : Fin 448) : val_main_v31 (F := Ideal) x0 x2 x3 (ix2 n k)
    = ((Mla.args x0 x1 x2 x3 x4 x5 x6 x7).lat n k : EReal) := by
  unfold val_main_v31
  pointwise
  simp only [h_at x0 x1 x2 x3 x4 x5 x6 x7]
  rfl

theorem cq_at (n : Fin 4096) (k : Fin 256) : val_main_v32 (F := Ideal) x0 x2 x3 (ix2 n k)
    = (val_main_v31 (F := Ideal) x0 x2 x3 (ix2 n ⟨k.val, by omega⟩) : EReal) := by
  unfold val_main_v32
  pointwise

theorem ck_at (n : Fin 4096) (k : Fin 128) : val_main_v33 (F := Ideal) x0 x2 x3 (ix2 n k)
    = (val_main_v31 (F := Ideal) x0 x2 x3 (ix2 n ⟨256 + k.val, by omega⟩) : EReal) := by
  unfold val_main_v33
  pointwise

theorem kr_at (n : Fin 4096) (k : Fin 64) : val_main_v34 (F := Ideal) x0 x2 x3 (ix2 n k)
    = (val_main_v31 (F := Ideal) x0 x2 x3 (ix2 n ⟨384 + k.val, by omega⟩) : EReal) := by
  unfold val_main_v34
  pointwise

theorem cqn_at (n : Fin 4096) (k : Fin 256) : val_main_v47 (F := Ideal) x0 x2 x3 x4 (ix2 n k)
    = ((Mla.args x0 x1 x2 x3 x4 x5 x6 x7).cqn n k : EReal) := by
  unfold val_main_v47 val_main_v44 val_main_v43 val_main_v42 val_main_v41 val_main_v39 val_main_v37 val_main_v36 val_main_cst_6 val_main_v35 val_main_v38 val_main_cst_7 val_main_v40 val_main_cst_8 val_main_v46 val_main_v45
  pointwise
  simp only [cq_at, lat_at x0 x1 x2 x3 x4 x5 x6 x7]
  rfl

theorem ckn_at (n : Fin 4096) (k : Fin 128) : val_main_v60 (F := Ideal) x0 x2 x3 x5 (ix2 n k)
    = ((Mla.args x0 x1 x2 x3 x4 x5 x6 x7).ckn n k : EReal) := by
  unfold val_main_v60 val_main_v57 val_main_v56 val_main_v55 val_main_v54 val_main_v52 val_main_v50 val_main_v49 val_main_cst_9 val_main_v48 val_main_v51 val_main_cst_10 val_main_v53 val_main_cst_11 val_main_v59 val_main_v58
  pointwise
  simp only [ck_at, lat_at x0 x1 x2 x3 x4 x5 x6 x7]
  rfl

theorem q_at (n : Fin 4096) (l : Fin 1536) : val_main_v61 (F := Ideal) x0 x2 x3 x4 x6 (ix2 n l)
    = (∑ k, (Mla.args x0 x1 x2 x3 x4 x5 x6 x7).cqn n k * x6 (ix2 k l) : EReal) := by
  unfold val_main_v61
  pointwise
  simp only [cqn_at x0 x1 x2 x3 x4 x5 x6 x7]

theorem ang_at (n : Fin 4096) (k : Fin 32) : val_main_v15 (F := Ideal) x1 (ix2 n k)
    = (Proj.angE (x1 (ix1 n)) k.val : EReal) := by
  unfold val_main_v15 val_main_v13 val_main_v11 val_main_v10 val_main_v14 val_main_v12 val_main_v9 val_main_v7 val_main_v5 val_main_v4 val_main_v2 val_main_v0 val_main_v1 val_main_cst val_main_v3 val_main_cst_0 val_main_v6 val_main_cst_1 val_main_v8 val_main_cst_2
  pointwise
  rfl

theorem low_at (n : Fin 4096) (k : Fin 32) : val_main_v69 (F := Ideal) x0 x1 x2 x3 (ix2 n k)
    = ((Mla.args x0 x1 x2 x3 x4 x5 x6 x7).lat n ⟨384 + k.val, by omega⟩ * Ideal.cos (Proj.angE (x1 (ix1 n)) k.val) - (Mla.args x0 x1 x2 x3 x4 x5 x6 x7).lat n ⟨384 + (32 + k.val), by omega⟩ * Ideal.sin (Proj.angE (x1 (ix1 n)) k.val) : EReal) := by
  unfold val_main_v69 val_main_v67 val_main_v16 val_main_v65 val_main_v68 val_main_v17 val_main_v66
  pointwise
  simp only [kr_at, ang_at, lat_at x0 x1 x2 x3 x4 x5 x6 x7]

theorem high_at (n : Fin 4096) (k : Fin 32) : val_main_v72 (F := Ideal) x0 x1 x2 x3 (ix2 n k)
    = ((Mla.args x0 x1 x2 x3 x4 x5 x6 x7).lat n ⟨384 + (32 + k.val), by omega⟩ * Ideal.cos (Proj.angE (x1 (ix1 n)) k.val) + (Mla.args x0 x1 x2 x3 x4 x5 x6 x7).lat n ⟨384 + k.val, by omega⟩ * Ideal.sin (Proj.angE (x1 (ix1 n)) k.val) : EReal) := by
  unfold val_main_v72 val_main_v70 val_main_v16 val_main_v66 val_main_v71 val_main_v17 val_main_v65
  pointwise
  simp only [kr_at, ang_at, lat_at x0 x1 x2 x3 x4 x5 x6 x7]

theorem turned_at (n : Fin 4096) (k : Fin 64) : val_main_v73 (F := Ideal) x0 x1 x2 x3 (ix2 n k)
    = (if h : k.val < 32 then val_main_v69 (F := Ideal) x0 x1 x2 x3 (ix2 n ⟨k.val, h⟩) else val_main_v72 (F := Ideal) x0 x1 x2 x3 (ix2 n ⟨k.val - 32, by omega⟩) : EReal) := by
  unfold val_main_v73
  pointwise

theorem h_eq : val_main_v75 (F := Ideal) x0 x2 = fun i : S4096x1024.Idx => (Mla.args x0 x1 x2 x3 x4 x5 x6 x7).h (i 0) (i 1) := by
  funext i
  obtain ⟨n, k, rfl⟩ : ∃ (n : Fin 4096) (k : Fin 1024), i = ix2 n k := ⟨i 0, i 1, (ix2_eta i).symm⟩
  show val_main_v75 (F := Ideal) x0 x2 (ix2 n k) = (Mla.args x0 x1 x2 x3 x4 x5 x6 x7).h n k
  unfold val_main_v75
  pointwise
  exact h_at x0 x1 x2 x3 x4 x5 x6 x7 n k

theorem lat_eq : val_main_v76 (F := Ideal) x0 x2 x3 = fun i : S4096x512.Idx => (Mla.args x0 x1 x2 x3 x4 x5 x6 x7).latp (i 0) (i 1) := by
  funext i
  obtain ⟨n, k, rfl⟩ : ∃ (n : Fin 4096) (k : Fin 512), i = ix2 n k := ⟨i 0, i 1, (ix2_eta i).symm⟩
  show val_main_v76 (F := Ideal) x0 x2 x3 (ix2 n k) = (Mla.args x0 x1 x2 x3 x4 x5 x6 x7).latp n k
  unfold val_main_v76 val_main_call2_v0 val_main_c_13
  pointwise
  simp only [lat_at x0 x1 x2 x3 x4 x5 x6 x7, zero_word]
  rfl

theorem cqn_eq : val_main_v77 (F := Ideal) x0 x2 x3 x4 = fun i : S4096x256.Idx => (Mla.args x0 x1 x2 x3 x4 x5 x6 x7).cqn (i 0) (i 1) := by
  funext i
  obtain ⟨n, k, rfl⟩ : ∃ (n : Fin 4096) (k : Fin 256), i = ix2 n k := ⟨i 0, i 1, (ix2_eta i).symm⟩
  show val_main_v77 (F := Ideal) x0 x2 x3 x4 (ix2 n k) = (Mla.args x0 x1 x2 x3 x4 x5 x6 x7).cqn n k
  unfold val_main_v77
  pointwise
  exact cqn_at x0 x1 x2 x3 x4 x5 x6 x7 n k

theorem ckn_eq : val_main_v78 (F := Ideal) x0 x2 x3 x5 = fun i : S4096x128.Idx => (Mla.args x0 x1 x2 x3 x4 x5 x6 x7).ckn (i 0) (i 1) := by
  funext i
  obtain ⟨n, k, rfl⟩ : ∃ (n : Fin 4096) (k : Fin 128), i = ix2 n k := ⟨i 0, i 1, (ix2_eta i).symm⟩
  show val_main_v78 (F := Ideal) x0 x2 x3 x5 (ix2 n k) = (Mla.args x0 x1 x2 x3 x4 x5 x6 x7).ckn n k
  unfold val_main_v78
  pointwise
  exact ckn_at x0 x1 x2 x3 x4 x5 x6 x7 n k

theorem rope_eq : val_main_v79 (F := Ideal) x0 x1 x2 x3 = fun i : S4096x128.Idx => (Mla.args x0 x1 x2 x3 x4 x5 x6 x7).rope (i 0) (i 1) := by
  funext i
  obtain ⟨n, k, rfl⟩ : ∃ (n : Fin 4096) (k : Fin 128), i = ix2 n k := ⟨i 0, i 1, (ix2_eta i).symm⟩
  show val_main_v79 (F := Ideal) x0 x1 x2 x3 (ix2 n k) = (Mla.args x0 x1 x2 x3 x4 x5 x6 x7).rope n k
  unfold val_main_v79 val_main_v74 val_main_call1_v0 val_main_c_12
  pointwise
  simp only [turned_at, low_at x0 x1 x2 x3 x4 x5 x6 x7, high_at x0 x1 x2 x3 x4 x5 x6 x7, zero_word]
  unfold Mla.Args.rope
  by_cases h : k.val < 64
  · rw [dif_pos h]
    by_cases h' : k.val < 32
    · rw [dif_pos h', dif_pos h']
    · rw [dif_neg h', dif_neg h', dif_pos h]
      have e : (⟨384 + (32 + (k.val - 32)), by omega⟩ : Fin 448) = ⟨384 + k.val, by omega⟩ := Fin.ext (by show 384 + (32 + (k.val - 32)) = 384 + k.val; omega)
      rw [e]
  · rw [dif_neg h, dif_neg (show ¬ k.val < 32 by omega), dif_neg h]

theorem q_eq : val_main_v64 (F := Ideal) x0 x2 x3 x4 x6 = fun i : S4096x2048.Idx => (Mla.args x0 x1 x2 x3 x4 x5 x6 x7).q (i 0) (i 1) := by
  funext i
  obtain ⟨n, k, rfl⟩ : ∃ (n : Fin 4096) (k : Fin 2048), i = ix2 n k := ⟨i 0, i 1, (ix2_eta i).symm⟩
  show val_main_v64 (F := Ideal) x0 x2 x3 x4 x6 (ix2 n k) = (Mla.args x0 x1 x2 x3 x4 x5 x6 x7).q n k
  unfold val_main_v64 val_main_v63 val_main_call0_v0 val_main_c val_main_v62
  pointwise
  simp only [q_at x0 x1 x2 x3 x4 x5 x6 x7, zero_word]
  unfold Mla.Args.q
  by_cases h : k.val % 256 < 192
  · have hh : k.val / 256 < 8 ∧ k.val % 256 < 192 := ⟨by omega, h⟩
    rw [dif_pos hh, dif_pos h]
  · rw [dif_neg h, dif_neg fun e => h e.2]

theorem kv_eq : val_main_v81 (F := Ideal) x0 x2 x3 x5 x7 = fun i : S4096x2048.Idx => (Mla.args x0 x1 x2 x3 x4 x5 x6 x7).kv (i 0) (i 1) := by
  funext i
  obtain ⟨n, k, rfl⟩ : ∃ (n : Fin 4096) (k : Fin 2048), i = ix2 n k := ⟨i 0, i 1, (ix2_eta i).symm⟩
  show val_main_v81 (F := Ideal) x0 x2 x3 x5 x7 (ix2 n k) = (Mla.args x0 x1 x2 x3 x4 x5 x6 x7).kv n k
  unfold val_main_v81 val_main_v80
  pointwise
  simp only [ckn_at x0 x1 x2 x3 x4 x5 x6 x7]
  rfl

end Cert.MlaReferenceIdeal.Hand
-- ==== Proof.MlaEq.lean ====
module

public import proofs.«01_k».proof.Proof.MlaKernelValue
public import proofs.«01_k».proof.Proof.MlaRef

/-!
# The latent projections, forward: the two programs agree
-/

@[expose] public section

set_option maxRecDepth 16384

noncomputable section

open Idealize.ShloMosaic Idealize.ShloMosaic.TcCoe Idealize.SL.Sem

namespace Cert.MlaKernelIdeal.Hand

open Cert.MlaKernelIdeal Cert.MlaKernelIdeal.Gen Cert.MlaReferenceIdeal.Read

variable (m : (ℓ : Loc nD τ sig) → Buf (Elt Ideal) ℓ) (c : Dev nD)

theorem agree (a0 : S4096x1024.Idx → EReal) (a1 : S4096.Idx → BitVec 32) (a2 : S1024.Idx → EReal) (a3 : S1024x448.Idx → EReal) (a4 : S256.Idx → EReal)
    (a5 : S128.Idx → EReal) (a6 : S256x1536.Idx → EReal) (a7 : S128x2048.Idx → EReal)
    (E0 : m (c, Proc.tc.devRef main_arg0) = a0) (E1 : m (c, Proc.tc.devRef main_arg1) = a1) (E2 : m (c, Proc.tc.devRef main_arg2) = a2)
    (E3 : m (c, Proc.tc.devRef main_arg3) = a3) (E4 : m (c, Proc.tc.devRef main_arg4) = a4) (E5 : m (c, Proc.tc.devRef main_arg5) = a5)
    (E6 : m (c, Proc.tc.devRef main_arg6) = a6) (E7 : m (c, Proc.tc.devRef main_arg7) = a7) :
    (dats m 0 c).arrAt 10 cfg0.N = val_main_v75 (F := Ideal) a0 a2
      ∧ (dats m 0 c).arrAt 11 cfg0.N = val_main_v76 (F := Ideal) a0 a2 a3
      ∧ (dats m 0 c).arrAt 12 cfg0.N = val_main_v77 (F := Ideal) a0 a2 a3 a4
      ∧ (dats m 0 c).arrAt 13 cfg0.N = val_main_v78 (F := Ideal) a0 a2 a3 a5
      ∧ (dats m 0 c).arrAt 14 cfg0.N = val_main_v79 (F := Ideal) a0 a1 a2 a3
      ∧ (dats m 0 c).arrAt 15 cfg0.N = val_main_v64 (F := Ideal) a0 a2 a3 a4 a6
      ∧ (dats m 0 c).arrAt 16 cfg0.N = val_main_v81 (F := Ideal) a0 a2 a3 a5 a7 := by
  subst E0 E1 E2 E3 E4 E5 E6 E7
  exact ⟨(final10 m c).trans (Cert.MlaReferenceIdeal.Hand.h_eq _ _ _ _ _ _ _ _).symm, (final11 m c).trans (Cert.MlaReferenceIdeal.Hand.lat_eq _ _ _ _ _ _ _ _).symm,
    (final12 m c).trans (Cert.MlaReferenceIdeal.Hand.cqn_eq _ _ _ _ _ _ _ _).symm, (final13 m c).trans (Cert.MlaReferenceIdeal.Hand.ckn_eq _ _ _ _ _ _ _ _).symm,
    (final14 m c).trans (Cert.MlaReferenceIdeal.Hand.rope_eq _ _ _ _ _ _ _ _).symm, (final15 m c).trans (Cert.MlaReferenceIdeal.Hand.q_eq _ _ _ _ _ _ _ _).symm,
    (final16 m c).trans (Cert.MlaReferenceIdeal.Hand.kv_eq _ _ _ _ _ _ _ _).symm⟩

end Cert.MlaKernelIdeal.Hand
-- ==== Proof.Gate.lean ====
/-
# The spatial gate

`Gate.value` is the gate at a row and a column: the gelu of the one half times the mixed layer norm of the gelu of the other.

  * `stored`: what a point leaves of a chunk's group, the kernel's sums regrouped; `leaves_eq`: what it leaves;
  * `final5`: the kernel's array is it; `value_eq`: the reference's too, at every extended real.
-/
module

public import proofs.«01_k».proof.Proof.Gen.GateKernelIdeal.Value
public import proofs.«01_k».proof.Proof.Gen.GateReferenceIdeal.Read
public import proofs.«01_k».proof.Proof.SguKernelBlock
public import proofs.«01_k».proof.Proof.SguRef
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem Idealize.ShloMosaic.Pointwise

namespace Cert.Gate

open Sgu (row col left right pointOf rowOf groupOf)

def act (a : EReal) : EReal :=
  Ideal.ofBits .f32 0x3F000000#32 * a * (1 + Ideal.erf (Ideal.div a (Ideal.sqrt (Ideal.ofBits .f32 0x40000000#32))))

def mean (v : Fin 2048 → EReal) : EReal := Ideal.div (∑ k, v k) (Ideal.ofBits .f32 0x45000000#32)

def rstd (v : Fin 2048 → EReal) : EReal :=
  Ideal.rsqrt (Ideal.div (∑ k, (v k - mean v) * (v k - mean v)) (Ideal.ofBits .f32 0x45000000#32) + Ideal.ofBits .f32 0x3727C5AC#32)

def ln (v g b : Fin 2048 → EReal) (k : Fin 2048) : EReal := (v k - mean v) * rstd v * g k + b k

/-- The gate at row `r` of a chunk, whose rows' second halves are `v`, under row `r` of the mixing. -/
def value (u : EReal) (v : Fin 128 → Fin 2048 → EReal) (g b : Fin 2048 → EReal) (w : Fin 128 → EReal) (o : EReal) (r : Fin 128)
    (k : Fin 2048) : EReal :=
  act u * ((∑ s : Fin 128, if s.val ≤ r.val then w s * ln (fun i => act (v s i)) g b k else 0) + o)

/-- The whole gate. -/
def out (z : (⟨2, ![4096, 4096]⟩ : Shape).Idx → EReal) (g b : (⟨1, ![2048]⟩ : Shape).Idx → EReal)
    (w : (⟨3, ![8, 128, 128]⟩ : Shape).Idx → EReal) (o : (⟨2, ![8, 128]⟩ : Shape).Idx → EReal) (r : Fin 4096) (k : Fin 2048) : EReal :=
  value (z (ix2 r (left k))) (fun s j => z (ix2 (row (pointOf r) s) (right j))) (fun j => g (ix1 j)) (fun j => b (ix1 j))
    (fun s => w (ix3 (groupOf k) (rowOf r) s)) (o (ix2 (groupOf k) (rowOf r))) (rowOf r) k

theorem over_2048 (x : EReal) : x * Ideal.ofBits .f32 0x3A000000#32 = Ideal.div x (Ideal.ofBits .f32 0x45000000#32) := by
  rw [Sgu.inv_word, Sgu.word_2048, Ideal.div_coe (by norm_num)]

theorem over_root (x : EReal) : x * (((Real.sqrt 2)⁻¹ : ℝ) : EReal) = Ideal.div x (Ideal.sqrt (Ideal.ofBits .f32 0x40000000#32)) := by
  rw [Sgu.two_word, Ideal.sqrt_coe, if_neg (by norm_num), Ideal.div_coe (by positivity), one_div]

theorem groups (f : Fin 2048 → EReal) : ∑ k, f k = ∑ g : Fin 8, ∑ l : Fin 256, f (col g l) :=
  (Fin.sum_mul_add_congr (fun g l hl => congrArg f (Fin.ext (by show 256 * g.val + l.val = g.val * 256 + l.val; omega))) (hL := by rfl)).symm

end Cert.Gate

namespace Cert.GateKernelIdeal.Hand

open Cert.GateKernelIdeal Cert.GateKernelIdeal.Gen
open Idealize.ShloMosaic.Pipeline (Dat)
open Sgu (row col left right pointOf rowOf groupOf)
open Gate (act mean rstd ln value out)
open SguKernelIdeal.Hand (tile vec mat tile_apply vec_apply mat_apply)

/-! ## One grid point -/

abbrev pos (h : Fin 2) (r : Fin 128) : Fin 256 := ⟨128 * h.val + r.val, by omega⟩

section Stages

variable (x0 : Vec Ideal S256x4096 .f32) (x1 x2 : Vec Ideal S1x2048 .f32) (x3 : Vec Ideal S8x128x128 .f32) (x4 : Vec Ideal S128x2048 .f32)
  (h : Fin 2)

theorem inb_u (g : Fin 8) (a : Fin 2) : (![128 * h.val, 256 * g.val] : Fin 2 → ℕ) a + (![128, 256] : Fin 2 → ℕ) a ≤ S256x4096.size a := by
  match a with
  | ⟨0, _⟩ => show 128 * h.val + 128 ≤ 256; omega
  | ⟨1, _⟩ => show 256 * g.val + 256 ≤ 4096; omega

theorem inb_v (g : Fin 8) (a : Fin 2) : (![128 * h.val, 2048 + 256 * g.val] : Fin 2 → ℕ) a + (![128, 256] : Fin 2 → ℕ) a ≤ S256x4096.size a := by
  match a with
  | ⟨0, _⟩ => show 128 * h.val + 128 ≤ 256; omega
  | ⟨1, _⟩ => show 2048 + 256 * g.val + 256 ≤ 4096; omega

theorem inb_o (g : Fin 8) (a : Fin 2) : (![128 * h.val, 256 * g.val] : Fin 2 → ℕ) a + (![128, 256] : Fin 2 → ℕ) a ≤ S256x2048.size a := by
  match a with
  | ⟨0, _⟩ => show 128 * h.val + 128 ≤ 256; omega
  | ⟨1, _⟩ => show 256 * g.val + 256 ≤ 2048; omega

def zu (g : Fin 8) : Vec Ideal S128x256 .f32 := View.ld x0 (Rect.unit ![128 * h.val, 256 * g.val] ![128, 256] (inb_u h g))
def zv (g : Fin 8) : Vec Ideal S128x256 .f32 := View.ld x0 (Rect.unit ![128 * h.val, 2048 + 256 * g.val] ![128, 256] (inb_v h g))

/-- A column for each of the eight groups, added from the left. -/
def run (f : Fin 8 → FVec Ideal S128x256 .f32) : FVec Ideal S128x1 .f32 :=
  addf (addf (addf (addf (addf (addf (addf (sumRow (f 0)) (sumRow (f 1))) (sumRow (f 2))) (sumRow (f 3))) (sumRow (f 4))) (sumRow (f 5)))
    (sumRow (f 6))) (sumRow (f 7))
where
  sumRow (v : FVec Ideal S128x256 .f32) : FVec Ideal S128x1 .f32 :=
    shapeCast S128x1 (multiReduction .add [1] S128 v 0x00000000#32 reduces_S128x256_S128 (.inl rfl) rfl) shapeCasts_S128_S128x1

def meanV : FVec Ideal S128x1 .f32 := mulf (run fun g => k0_pay2 (zv x0 h g)) k0_pay26
def cent (g : Fin 8) : FVec Ideal S128x256 .f32 :=
  subf (k0_pay3 (zv x0 h g)) (broadcastTo S128x256 (meanV x0 h) broadcasts_S128x1_S128x256)
def rstdV : FVec Ideal S128x1 .f32 := k0_pay27 (run fun g => mulf (cent x0 h g) (cent x0 h g)) k0_pay26
def stored (g : Fin 8) : FVec Ideal S128x256 .bf16 :=
  truncf .bf16 (mulf (k0_pay2 (zu x0 h g))
    (k0_pay32 (meanV x0 h) (rstdV x0 h) (k0_pay3 (zv x0 h g)) (vec x1 g) (vec x2 g) (mat x3 g) (tile x4 g))) bitsLt_bf16_f32

theorem zu_apply (g : Fin 8) (r : Fin 128) (l : Fin 256) : zu x0 h g (ix2 r l) = x0 (ix2 (pos h r) (left (col g l))) :=
  View.ld_unit_apply_of _ _ _ _ _ _ fun a => by match a with | ⟨0, _⟩ => rfl | ⟨1, _⟩ => rfl

theorem zv_apply (g : Fin 8) (r : Fin 128) (l : Fin 256) : zv x0 h g (ix2 r l) = x0 (ix2 (pos h r) (right (col g l))) :=
  View.ld_unit_apply_of _ _ _ _ _ _ fun a => by
    match a with | ⟨0, _⟩ => rfl | ⟨1, _⟩ => exact (Nat.add_assoc _ _ _).symm

theorem run_apply (v : Fin 8 → FVec Ideal S128x256 .f32) (f : Fin 2048 → EReal) (r : Fin 128)
    (e : ∀ g l, v g (ix2 r l) = f (col g l)) : run v (ix2 r 0) = ∑ k, f k := by
  rw [Gate.groups, Fin.sum_univ_eight]
  pointwise [run, run.sumRow]
  simp only [e]

theorem act_apply (z : FVec Ideal S128x256 .f32) (i : S128x256.Idx) : k0_pay2 (F := Ideal) z i = act (z i) := by
  pointwise [k0_pay2]
  exact congrArg (fun x : EReal => Ideal.ofBits .f32 0x3F000000#32 * z i * (1 + Ideal.erf x)) (Gate.over_root (z i))

theorem keep_apply (z : FVec Ideal S128x256 .f32) (r : Fin 128) (l : Fin 256) : k0_pay3 (F := Ideal) z (ix2 r l) = act (z (ix2 r l)) := by
  pointwise [k0_pay3]
  exact act_apply z _

/-- The second halves' rows of the point's chunk `h`. -/
abbrev half (s : Fin 128) (k : Fin 2048) : EReal := act (x0 (ix2 (pos h s) (right k)))

theorem mean_apply (r : Fin 128) : meanV x0 h (ix2 r 0) = mean (half x0 h r) := by
  pointwise [meanV, k0_pay26]
  rw [run_apply _ (half x0 h r) r fun g l => (act_apply _ _).trans (congrArg act (zv_apply x0 h g r l)), Gate.over_2048]
  rfl

theorem cent_apply (r : Fin 128) (g : Fin 8) (l : Fin 256) :
    cent x0 h g (ix2 r l) = half x0 h r (col g l) - mean (half x0 h r) := by
  pointwise [cent]
  rw [keep_apply, zv_apply, mean_apply]

theorem rstd_apply (r : Fin 128) : rstdV x0 h (ix2 r 0) = rstd (half x0 h r) := by
  pointwise [rstdV, k0_pay27, k0_pay26]
  rw [run_apply _ (fun k => (half x0 h r k - mean (half x0 h r)) * (half x0 h r k - mean (half x0 h r))) r fun g l => by
    pointwise; rw [cent_apply], Gate.over_2048]
  rfl

theorem stored_apply (g : Fin 8) (r : Fin 128) (l : Fin 256) : stored x0 x1 x2 x3 x4 h g (ix2 r l)
    = value (x0 (ix2 (pos h r) (left (col g l)))) (fun s k => x0 (ix2 (pos h s) (right k))) (fun k => x1 (ix2 0 k)) (fun k => x2 (ix2 0 k))
      (fun s => x3 (ix3 g r s)) (x4 (ix2 r (col g l))) r (col g l) := by
  pointwise [stored, k0_pay32]
  rw [act_apply, zu_apply, tile_apply]
  simp only [SguKernelIdeal.Hand.pick, mat_apply, keep_apply, zv_apply, mean_apply, rstd_apply, vec_apply]
  rfl

/-- What the point leaves, by window index. -/
def leaves : Vec Ideal S256x2048 .bf16 := fun y =>
  value (x0 (ix2 (y 0) (left (y 1)))) (fun s k => x0 (ix2 ⟨128 * ((y 0).val / 128) + s.val, by have h : (y 0).val < 256 := (y 0).isLt; omega⟩ (right k)))
    (fun k => x1 (ix2 0 k)) (fun k => x2 (ix2 0 k)) (fun s => x3 (ix3 (Sgu.groupOf (y 1)) ⟨(y 0).val % 128, Nat.mod_lt _ (by decide)⟩ s))
    (x4 (ix2 ⟨(y 0).val % 128, Nat.mod_lt _ (by decide)⟩ (y 1))) ⟨(y 0).val % 128, Nat.mod_lt _ (by decide)⟩ (y 1)

variable {x0 x1 x2 x3 x4}

theorem piece (g : Fin 8) (x : S128x256.Idx) : stored x0 x1 x2 x3 x4 h g x
    = leaves x0 x1 x2 x3 x4 ((Rect.unit (s := S256x2048) ![128 * h.val, 256 * g.val] ![128, 256] (inb_o h g)).emb x) := by
  obtain ⟨r, l, rfl⟩ : ∃ (r : Fin 128) (l : Fin 256), x = ix2 r l := ⟨x 0, x 1, (ix2_eta x).symm⟩
  have e : (Rect.unit (s := S256x2048) ![128 * h.val, 256 * g.val] ![128, 256] (inb_o h g)).emb (ix2 r l) = ix2 (pos h r) (col g l) := by
    funext a
    match a with
    | ⟨0, _⟩ => exact Fin.ext (by show 128 * h.val + 1 * r.val = 128 * h.val + r.val; omega)
    | ⟨1, _⟩ => exact Fin.ext (by show 256 * g.val + 1 * l.val = 256 * g.val + l.val; omega)
  rw [e, stored_apply]
  have e1 : (⟨(pos h r).val % 128, Nat.mod_lt _ (by decide)⟩ : Fin 128) = r := Fin.ext (by show (128 * h.val + r.val) % 128 = r.val; omega)
  have e2 : ∀ s : Fin 128, (⟨128 * ((pos h r).val / 128) + s.val, by omega⟩ : Fin 256) = pos h s := fun s =>
    Fin.ext (by show 128 * ((128 * h.val + r.val) / 128) + s.val = 128 * h.val + s.val; omega)
  have e3 : Sgu.groupOf (col g l) = g := Fin.ext (by show (256 * g.val + l.val) / 256 = g.val; omega)
  unfold leaves
  show _ = value (x0 (ix2 (pos h r) (left (col g l)))) (fun s k => x0 (ix2 ⟨128 * ((pos h r).val / 128) + s.val, _⟩ (right k))) _ _
    (fun s => x3 (ix3 (Sgu.groupOf (col g l)) ⟨(pos h r).val % 128, _⟩ s)) (x4 (ix2 ⟨(pos h r).val % 128, _⟩ (col g l)))
    ⟨(pos h r).val % 128, _⟩ (col g l)
  simp only [e1, e2, e3]

end Stages

/-- A load through a slice of a whole buffer is a load of the block. -/
theorem ld_slice {M : Memref sig .tc .vmem S256x4096 .f32} (hM : M.IsWhole) (X : Vec Ideal S256x4096 .f32) {a b p q : ℕ} {size : Fin 2 → ℕ} (inb) (inb2)
    (h0) (inb3 : ∀ i : Fin 2, (![a + p, b + q] : Fin 2 → ℕ) i + size i ≤ S256x4096.size i) :
    View.readAt (Elt Ideal) M.view ((Rect.unit (s := S256x4096) ![a, b] ![128, 4096] inb).withinL
      (Rect.unit (s := S128x4096) ![p, q] size inb2).toLoadRect h0) (hM.unread X) = View.ld X (Rect.unit ![a + p, b + q] size inb3) := by
  funext x
  refine (congrFun (hM.read_unread X) _).trans (congrArg X (funext fun i => ?_))
  match i with
  | ⟨0, _⟩ => rfl
  | ⟨1, _⟩ => rfl

variable (m : (ℓ : Loc nD τ sig) → Buf (Elt Ideal) ℓ) (c : Dev nD)

set_option maxHeartbeats 4000000 in
theorem leaves_eq (t : Fin cfg0.N) : outsAt0 m c t = leaves (iblk m c 0 t) (iblk m c 1 t) (iblk m c 2 t) (iblk m c 3 t) (iblk m c 4 t) := by
  funext y
  unfold outsAt0
  frame_out
  simp (discharger := decide) only [↓View.readCov_skip, View.readCov_cons_toLoadRect, View.readCov_fill, ld_slice]
  refine View.canon_append_of_piecesOf (leaves (iblk m c 0 t) (iblk m c 1 t) (iblk m c 2 t) (iblk m c 3 t) (iblk m c 4 t)) []
    [_, _, _, _, _, _, _, _, _, _, _, _, _, _, _, _] ?_ y (View.cover_of_tiled _ ![128, 256] (by rfl) y)
  exact ⟨piece 1 7, piece 1 6, piece 1 5, piece 1 4, piece 1 3, piece 1 2, piece 1 1, piece 1 0,
    piece 0 7, piece 0 6, piece 0 5, piece 0 4, piece 0 3, piece 0 2, piece 0 1, piece 0 0, trivial⟩

/-! ## The array -/

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![0, 0, 0] := by decide +kernel
theorem index4 : ∀ t : Fin grid0.N, win0_4.index t = ![0, 0] := by decide +kernel
theorem index5 : ∀ t : Fin grid0.N, win0_5.index t = ![t.val, 0] := by decide +kernel

abbrev aZ : Vec Ideal S4096x4096 .f32 := m ((c : Thread nD τ).loc main_arg0)
abbrev aG : Vec Ideal S2048 .f32 := m ((c : Thread nD τ).loc main_arg1)
abbrev aB : Vec Ideal S2048 .f32 := m ((c : Thread nD τ).loc main_arg2)
abbrev aW : Vec Ideal S8x128x128 .f32 := m ((c : Thread nD τ).loc main_arg3)
abbrev aO : Vec Ideal S8x128 .f32 := m ((c : Thread nD τ).loc main_arg4)

abbrev at256 (t : Fin cfg0.N) (r : Fin 256) : Fin 4096 := ⟨t.val * 256 + r.val, by have := t.isLt; have : cfg0.N = 16 := N_0; omega⟩

theorem V_z (r k : Fin 4096) : V m c main_arg0 (ix2 r k) = aZ m c (ix2 r k) := by
  unfold V
  after_results
  try rfl

theorem V_g (k : Fin 2048) : V m c main_v3 (ix2 0 k) = aG m c (ix1 k) := by
  unfold V
  after_results
  pointwise

theorem V_b (k : Fin 2048) : V m c main_v4 (ix2 0 k) = aB m c (ix1 k) := by
  unfold V
  after_results
  pointwise

theorem V_w (g : Fin 8) (r s : Fin 128) : V m c main_arg3 (ix3 g r s) = aW m c (ix3 g r s) := by
  unfold V
  after_results
  try rfl

theorem V_o (r : Fin 128) (k : Fin 2048) : V m c main_v2 (ix2 r k) = aO m c (ix2 (groupOf k) r) := by
  unfold V
  after_results
  pointwise
  rfl

theorem z_block (t : Fin cfg0.N) (r : Fin 256) (k : Fin 4096) : (iblk m c 0 t : Vec Ideal S256x4096 .f32) (ix2 r k) = aZ m c (ix2 (at256 t r) k) := by
  refine Eq.trans ?_ (V_z m c (at256 t r) k)
  blk_ext [iblk, index0, at256]

theorem g_block (t : Fin cfg0.N) (k : Fin 2048) : (iblk m c 1 t : Vec Ideal S1x2048 .f32) (ix2 0 k) = aG m c (ix1 k) := by
  refine Eq.trans ?_ (V_g m c k)
  blk_ext [iblk, index1]

theorem b_block (t : Fin cfg0.N) (k : Fin 2048) : (iblk m c 2 t : Vec Ideal S1x2048 .f32) (ix2 0 k) = aB m c (ix1 k) := by
  refine Eq.trans ?_ (V_b m c k)
  blk_ext [iblk, index2]

theorem w_block (t : Fin cfg0.N) (g : Fin 8) (r s : Fin 128) : (iblk m c 3 t : Vec Ideal S8x128x128 .f32) (ix3 g r s) = aW m c (ix3 g r s) := by
  refine Eq.trans ?_ (V_w m c g r s)
  blk_ext [iblk, index3]

theorem o_block (t : Fin cfg0.N) (r : Fin 128) (k : Fin 2048) : (iblk m c 4 t : Vec Ideal S128x2048 .f32) (ix2 r k) = aO m c (ix2 (groupOf k) r) := by
  refine Eq.trans ?_ (V_o m c r k)
  blk_ext [iblk, index4]

theorem final5 : (dats m 0 c).arrAt 5 cfg0.N = fun i : S4096x2048.Idx => out (aZ m c) (aG m c) (aB m c) (aW m c) (aO m c) (i 0) (i 1) := by
  refine (dats m 0 c).arrAt_eq_of_covers 5 _ (by decide +kernel) fun t hf y => ?_
  obtain ⟨r, k, rfl⟩ : ∃ (r : Fin 256) (k : Fin 2048), y = ix2 r k := ⟨y 0, y 1, (ix2_eta y).symm⟩
  have e : ((cfg0.win 5).blk t).view.emb (ix2 r k) = ix2 (at256 t r) k := by blk_ext [index5, at256]
  refine Eq.trans ?_ (congrArg (fun i : S4096x2048.Idx => out (aZ m c) (aG m c) (aB m c) (aW m c) (aO m c) (i 0) (i 1)) e).symm
  blk_simp
  rw [after0_5, leaves_eq]
  have e1 : (⟨r.val % 128, Nat.mod_lt _ (by decide)⟩ : Fin 128) = rowOf (at256 t r) :=
    Fin.ext (by show r.val % 128 = (t.val * 256 + r.val) % 128; omega)
  have e2 : ∀ s : Fin 128, at256 t ⟨128 * (r.val / 128) + s.val, by omega⟩ = row (pointOf (at256 t r)) s := fun s =>
    Fin.ext (by show t.val * 256 + (128 * (r.val / 128) + s.val) = (t.val * 256 + r.val) / 128 * 128 + s.val; omega)
  show value ((iblk m c 0 t : Vec Ideal S256x4096 .f32) (ix2 r (left k)))
    (fun s j => (iblk m c 0 t : Vec Ideal S256x4096 .f32) (ix2 ⟨128 * (r.val / 128) + s.val, _⟩ (right j)))
    (fun j => (iblk m c 1 t : Vec Ideal S1x2048 .f32) (ix2 0 j)) (fun j => (iblk m c 2 t : Vec Ideal S1x2048 .f32) (ix2 0 j))
    (fun s => (iblk m c 3 t : Vec Ideal S8x128x128 .f32) (ix3 (groupOf k) ⟨r.val % 128, _⟩ s))
    ((iblk m c 4 t : Vec Ideal S128x2048 .f32) (ix2 ⟨r.val % 128, _⟩ k)) ⟨r.val % 128, _⟩ k = out _ _ _ _ _ (at256 t r) k
  simp only [z_block, g_block, b_block, w_block, o_block, e1, e2]
  rfl

end Cert.GateKernelIdeal.Hand

/-! ## The reference -/

namespace Cert.GateReferenceIdeal.Hand

open Cert.GateReferenceIdeal Cert.GateReferenceIdeal.Read
open Sgu (row col left right pointOf rowOf groupOf colOf)
open Gate (act mean rstd ln value out)

variable (x0 : FVec Ideal S4096x4096 .f32) (x1 x2 : FVec Ideal S2048 .f32) (x3 : FVec Ideal S8x128x128 .f32) (x4 : FVec Ideal S8x128 .f32)

theorem act_eq (r k : Fin 4096) : val_main_v9 (F := Ideal) x0 (ix2 r k) = act (x0 (ix2 r k)) := by
  pointwise [val_main_v9, val_main_v8, val_main_v7, val_main_cst_1, val_main_v6, val_main_v5, val_main_v4, val_main_v3, val_main_v2,
    val_main_cst_0, val_main_v1, val_main_v0, val_main_cst]
  rfl

theorem half_eq (r : Fin 4096) (k : Fin 2048) : val_main_v11 (F := Ideal) x0 (ix2 r k) = act (x0 (ix2 r (right k))) := by
  pointwise [val_main_v11]
  exact act_eq x0 r (right k)

theorem mean_eq (r : Fin 4096) : val_main_v15 (F := Ideal) x0 (ix2 r 0) = mean (fun k => act (x0 (ix2 r (right k)))) := by
  pointwise [val_main_v15, val_main_v14, val_main_cst_3, val_main_v13, val_main_v12, val_main_cst_2]
  simp only [half_eq]
  rfl

theorem rstd_eq (r : Fin 4096) : val_main_v27 (F := Ideal) x0 (ix2 r 0) = rstd (fun k => act (x0 (ix2 r (right k)))) := by
  pointwise [val_main_v27, val_main_v26, val_main_v25, val_main_cst_6, val_main_v22, val_main_v21, val_main_cst_5, val_main_v20,
    val_main_v19, val_main_cst_4, val_main_v18, val_main_v17, val_main_v16]
  simp only [half_eq, mean_eq]
  rfl

theorem ln_eq (r : Fin 4096) (k : Fin 2048) : val_main_v35 (F := Ideal) x0 x1 x2 (ix2 r k)
    = ln (fun k => act (x0 (ix2 r (right k)))) (fun k => x1 (ix1 k)) (fun k => x2 (ix1 k)) k := by
  pointwise [val_main_v35, val_main_v34, val_main_v33, val_main_v32, val_main_v31, val_main_v30, val_main_v29, val_main_v28,
    val_main_v24, val_main_v23]
  simp only [half_eq, mean_eq, rstd_eq]
  rfl

theorem blocks_eq (t : Fin 32) (s : Fin 128) (k : Fin 2048) : val_main_v36 (F := Ideal) x0 x1 x2 (ix4 t s (groupOf k) (colOf k))
    = ln (fun k => act (x0 (ix2 (row t s) (right k)))) (fun k => x1 (ix1 k)) (fun k => x2 (ix1 k)) k := by
  refine Eq.trans ?_ (ln_eq x0 x1 x2 (row t s) k)
  unfold val_main_v36
  pointwise
  exact congrArg₂ (fun a b => val_main_v35 (F := Ideal) x0 x1 x2 (ix2 a b)) (Fin.ext (by rfl))
    (Fin.ext (by show k.val / 256 * 256 + k.val % 256 = k.val; omega))

theorem low_eq (g : Fin 8) (r s : Fin 128) : val_main_v37 (F := Ideal) x3 (ix3 g r s) = (if s.val ≤ r.val then x3 (ix3 g r s) else 0 : EReal) := by
  pointwise [val_main_v37, val_main_call0_v6, val_main_call0_cst, val_main_call0_v5, val_main_call0_v4, val_main_call0_v3,
    val_main_call0_v2, val_main_call0_v1, val_main_call0_c, val_main_call0_v0]
  exact SguReferenceIdeal.Hand.pick r s _

theorem out_eq : val_main_v46 (F := Ideal) x0 x1 x2 x3 x4 = fun i : S4096x2048.Idx => out x0 x1 x2 x3 x4 (i 0) (i 1) := by
  funext i
  obtain ⟨r, k, rfl⟩ : ∃ (r : Fin 4096) (k : Fin 2048), i = ix2 r k := ⟨i 0, i 1, (ix2_eta i).symm⟩
  have e : val_main_v44 (F := Ideal) x0 x1 x2 x3 x4 (ix2 r k)
      = (∑ s, val_main_v36 (F := Ideal) x0 x1 x2 (ix4 (pointOf r) s (groupOf k) (colOf k)) * val_main_v37 (F := Ideal) x3 (ix3 (groupOf k) (rowOf r) s))
        + x4 (ix2 (groupOf k) (rowOf r)) := by
    unfold val_main_v44 val_main_v43 val_main_v42 val_main_v41 val_main_v40 val_main_v39 val_main_v38
    pointwise
    rfl
  pointwise [val_main_v46, val_main_v45, val_main_v10]
  rw [e]
  simp only [blocks_eq, low_eq, mul_ite, mul_zero]
  refine congrArg₂ (· * ·) (act_eq x0 r (left k)) (congrArg (· + _) (Finset.sum_congr rfl fun s _ => ?_))
  split
  · exact mul_comm _ _
  · rfl

end Cert.GateReferenceIdeal.Hand

namespace Cert.GateKernelIdeal.Hand

open Cert.GateKernelIdeal Cert.GateKernelIdeal.Gen Cert.GateReferenceIdeal.Read

variable (m : (ℓ : Loc nD τ sig) → Buf (Elt Ideal) ℓ) (c : Dev nD)

theorem agree (a0 : S4096x4096.Idx → EReal) (a1 a2 : S2048.Idx → EReal) (a3 : S8x128x128.Idx → EReal) (a4 : S8x128.Idx → EReal)
    (E0 : m (c, Proc.tc.devRef main_arg0) = a0) (E1 : m (c, Proc.tc.devRef main_arg1) = a1) (E2 : m (c, Proc.tc.devRef main_arg2) = a2)
    (E3 : m (c, Proc.tc.devRef main_arg3) = a3) (E4 : m (c, Proc.tc.devRef main_arg4) = a4) :
    (dats m 0 c).arrAt 5 cfg0.N = val_main_v46 (F := Ideal) a0 a1 a2 a3 a4 := by
  subst E0 E1 E2 E3 E4
  exact (final5 m c).trans (Cert.GateReferenceIdeal.Hand.out_eq _ _ _ _ _).symm

end Cert.GateKernelIdeal.Hand

end
-- ==== Proof.Relu.lean ====
/-
  The ffn's up projection with its squared ReLU.

  A grid point multiplies 1024 rows by one slab of the weight, and writes the square of the positive part and twice the
  positive part. The reference is the squared ReLU of `h · w_up` and its derivative there.

  * `sq` and `slope`: the two whole arrays as functions of the arguments.
  * `final2`, `final3`: the kernel's arrays are them; `sq_eq`, `slope_eq`: the reference's too, at every extended real.
-/
module

public import proofs.«01_k».proof.Proof.Gen.ReluKernelIdeal.Value
public import proofs.«01_k».proof.Proof.Gen.ReluReferenceIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem Idealize.ShloMosaic.Pointwise

namespace Cert.Relu

/-- The up projection at a row and a column. -/
def up (h : (⟨2, ![4096, 1024]⟩ : Shape).Idx → EReal) (w : (⟨2, ![1024, 4096]⟩ : Shape).Idx → EReal) (r l : Fin 4096) : EReal :=
  ∑ k : Fin 1024, h (ix2 r k) * w (ix2 k l)

def sq (h : (⟨2, ![4096, 1024]⟩ : Shape).Idx → EReal) (w : (⟨2, ![1024, 4096]⟩ : Shape).Idx → EReal) (r l : Fin 4096) : EReal :=
  max (up h w r l) 0 * max (up h w r l) 0

def slope (h : (⟨2, ![4096, 1024]⟩ : Shape).Idx → EReal) (w : (⟨2, ![1024, 4096]⟩ : Shape).Idx → EReal) (r l : Fin 4096) : EReal :=
  Ideal.ofBits .f32 0x40000000#32 * max (up h w r l) 0

end Cert.Relu

namespace Cert.ReluKernelIdeal.Hand

open Cert.ReluKernelIdeal Cert.ReluKernelIdeal.Gen
open Idealize.ShloMosaic.Pipeline (Dat)
open Relu (up sq slope)

variable (m : (ℓ : Loc nD τ sig) → Buf (Elt Ideal) ℓ) (c : Dev nD)

/-! ## One grid point -/

theorem zeros2 : (![0, 0] : Fin 2 → Nat) = fun _ => 0 := funext fun a => by fin_cases a <;> rfl
theorem zeros3 : (![0, 0, 0] : Fin 3 → Nat) = fun _ => 0 := funext fun a => by fin_cases a <;> rfl

section point

variable (x0 : Vec Ideal S1024x1024 .bf16) (x1 : Vec Ideal S1x1024x1024 .bf16)

theorem left2 : out0_2 x0 x1 = k0_pay2 (F := Ideal) x0 x1 := by
  unfold out0_2
  rw [View.canon_unit_zero zeros2, View.ld_unit_zero (S := S1024x1024) zeros2, View.ld_unit_zero (S := S1x1024x1024) zeros3]

theorem left3 : out0_3 x0 x1 = k0_pay3 (F := Ideal) x0 x1 := by
  unfold out0_3
  rw [View.canon_unit_zero zeros2, View.ld_unit_zero (S := S1024x1024) zeros2, View.ld_unit_zero (S := S1x1024x1024) zeros3]

theorem pay2_apply (r l : Fin 1024) : k0_pay2 (F := Ideal) x0 x1 (ix2 r l)
    = max (∑ k : Fin 1024, x0 (ix2 r k) * x1 (ix3 0 k l)) 0 * max (∑ k : Fin 1024, x0 (ix2 r k) * x1 (ix3 0 k l)) 0 := by
  pointwise [k0_pay2, k0_pay1]

theorem pay3_apply (r l : Fin 1024) : k0_pay3 (F := Ideal) x0 x1 (ix2 r l)
    = Ideal.ofBits .f32 0x40000000#32 * max (∑ k : Fin 1024, x0 (ix2 r k) * x1 (ix3 0 k l)) 0 := by
  pointwise [k0_pay3, k0_pay1]

end point

/-! ## The arrays -/

/-- The grid's point `t` is row block `t / 4` and slab `t % 4`. -/
theorem index0 : ∀ t : Fin grid0.N, win0_0.index t = ![t.val / 4, 0] := by decide +kernel
theorem index1 : ∀ t : Fin grid0.N, win0_1.index t = ![t.val % 4, 0, 0] := by decide +kernel
theorem index2 : ∀ t : Fin grid0.N, win0_2.index t = ![t.val / 4, t.val % 4] := by decide +kernel
theorem index3 : ∀ t : Fin grid0.N, win0_3.index t = ![t.val / 4, t.val % 4] := by decide +kernel

abbrev aH : Vec Ideal S4096x1024 .f32 := m ((c : Thread nD τ).loc main_arg0)
abbrev aW : Vec Ideal S1024x4096 .f32 := m ((c : Thread nD τ).loc main_arg1)

abbrev row (t : Fin cfg0.N) (r : Fin 1024) : Fin 4096 := ⟨t.val / 4 * 1024 + r.val, by have := t.isLt; have : cfg0.N = 16 := N_0; omega⟩
abbrev col (t : Fin cfg0.N) (l : Fin 1024) : Fin 4096 := ⟨t.val % 4 * 1024 + l.val, by omega⟩

theorem V_h (r : Fin 4096) (k : Fin 1024) : V m c main_v3 (ix2 r k) = aH m c (ix2 r k) := by
  unfold V
  after_results
  pointwise

/-- Slab `s` of the weight holds its columns from `1024 s`. -/
theorem V_w (s : Fin 4) (k l : Fin 1024) : V m c main_v2 (ix3 s k l) = aW m c (ix2 k ⟨s.val * 1024 + l.val, by omega⟩) := by
  unfold V
  after_results
  pointwise

theorem h_block (t : Fin cfg0.N) (r k : Fin 1024) : (iblk m c 0 t : Vec Ideal S1024x1024 .bf16) (ix2 r k) = aH m c (ix2 (row t r) k) := by
  refine Eq.trans ?_ (V_h m c (row t r) k)
  blk_ext [iblk, index0, row]

theorem w_block (t : Fin cfg0.N) (k l : Fin 1024) : (iblk m c 1 t : Vec Ideal S1x1024x1024 .bf16) (ix3 0 k l) = aW m c (ix2 k (col t l)) := by
  refine Eq.trans ?_ (V_w m c ⟨t.val % 4, by omega⟩ k l)
  blk_ext [iblk, index1]

theorem final2 : (dats m 0 c).arrAt 2 cfg0.N = fun i : S4096x4096.Idx => sq (aH m c) (aW m c) (i 0) (i 1) := by
  refine (dats m 0 c).arrAt_eq_of_covers 2 _ (by decide +kernel) fun t hf y => ?_
  obtain ⟨r, l, rfl⟩ : ∃ (r l : Fin 1024), y = ix2 r l := ⟨y 0, y 1, (ix2_eta y).symm⟩
  have e : ((cfg0.win 2).blk t).view.emb (ix2 r l) = ix2 (row t r) (col t l) := by blk_ext [index2, row, col]
  refine Eq.trans ?_ (congrArg (fun i : S4096x4096.Idx => sq (aH m c) (aW m c) (i 0) (i 1)) e).symm
  blk_simp
  rw [after0_2, left2, pay2_apply]
  simp only [h_block, w_block]
  rfl

theorem final3 : (dats m 0 c).arrAt 3 cfg0.N = fun i : S4096x4096.Idx => slope (aH m c) (aW m c) (i 0) (i 1) := by
  refine (dats m 0 c).arrAt_eq_of_covers 3 _ (by decide +kernel) fun t hf y => ?_
  obtain ⟨r, l, rfl⟩ : ∃ (r l : Fin 1024), y = ix2 r l := ⟨y 0, y 1, (ix2_eta y).symm⟩
  have e : ((cfg0.win 3).blk t).view.emb (ix2 r l) = ix2 (row t r) (col t l) := by blk_ext [index3, row, col]
  refine Eq.trans ?_ (congrArg (fun i : S4096x4096.Idx => slope (aH m c) (aW m c) (i 0) (i 1)) e).symm
  blk_simp
  rw [after0_3, left3, pay3_apply]
  simp only [h_block, w_block]
  rfl

end Cert.ReluKernelIdeal.Hand

/-! ## The reference -/

namespace Cert.ReluReferenceIdeal.Hand

open Cert.ReluReferenceIdeal Cert.ReluReferenceIdeal.Read
open Relu (up sq slope)

variable (x0 : FVec Ideal S4096x1024 .f32) (x1 : FVec Ideal S1024x4096 .f32)

/-- Zero where the product is not positive: twice the positive part throughout. -/
theorem select_relu (a : EReal) :
    (if (0 : EReal) < a then Ideal.ofBits .f32 0x40000000#32 * max a 0 else 0) = Ideal.ofBits .f32 0x40000000#32 * max a 0 := by
  split
  · rfl
  · next h => rw [max_eq_right (not_lt.mp h), mul_zero]

theorem sq_eq : val_main_v8 (F := Ideal) x0 x1 = fun i : S4096x4096.Idx => sq x0 x1 (i 0) (i 1) := by
  funext i
  obtain ⟨r, l, rfl⟩ : ∃ (r l : Fin 4096), i = ix2 r l := ⟨i 0, i 1, (ix2_eta i).symm⟩
  rw [← val_main_v8_eq]
  pointwise
  rfl

theorem slope_eq : val_main_v13 (F := Ideal) x0 x1 = fun i : S4096x4096.Idx => slope x0 x1 (i 0) (i 1) := by
  funext i
  obtain ⟨r, l, rfl⟩ : ∃ (r l : Fin 4096), i = ix2 r l := ⟨i 0, i 1, (ix2_eta i).symm⟩
  rw [← val_main_v13_eq]
  pointwise
  exact select_relu _

end Cert.ReluReferenceIdeal.Hand

namespace Cert.ReluKernelIdeal.Hand

open Cert.ReluKernelIdeal Cert.ReluKernelIdeal.Gen Cert.ReluReferenceIdeal.Read

variable (m : (ℓ : Loc nD τ sig) → Buf (Elt Ideal) ℓ) (c : Dev nD)

theorem agree (a0 : S4096x1024.Idx → EReal) (a1 : S1024x4096.Idx → EReal)
    (E0 : m (c, Proc.tc.devRef main_arg0) = a0) (E1 : m (c, Proc.tc.devRef main_arg1) = a1) :
    (dats m 0 c).arrAt 2 cfg0.N = val_main_v8 (F := Ideal) a0 a1 ∧ (dats m 0 c).arrAt 3 cfg0.N = val_main_v13 (F := Ideal) a0 a1 := by
  subst E0 E1
  exact ⟨(final2 m c).trans (Cert.ReluReferenceIdeal.Hand.sq_eq _ _).symm, (final3 m c).trans (Cert.ReluReferenceIdeal.Hand.slope_eq _ _).symm⟩

end Cert.ReluKernelIdeal.Hand

end
-- ==== Proof.Down.lean ====
/-
  The ffn's down projection, with the residual and the next norm.

  A grid point takes 512 rows of the squared ReLU, multiplies their four parts by the weight's four slabs, adds the products and
  the residual's rows, and norms the sums. The reference's product is one sum over the 4096 columns.

  * `Down.out`, `Down.normed`: the two whole arrays as functions of the arguments.
  * `final7`, `final8`: the kernel's arrays are them; `out_eq`, `normed_eq`: the reference's too, at every extended real.
-/
module

public import proofs.«01_k».proof.Proof.Gen.DownKernelIdeal.Value
public import proofs.«01_k».proof.Proof.Gen.DownReferenceIdeal.Read
public import proofs.«01_k».proof.Proof.MlaForm
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem Idealize.ShloMosaic.Pointwise

namespace Cert.Down

/-- The squared ReLU of the up projection. -/
def act (h : (⟨2, ![4096, 1024]⟩ : Shape).Idx → EReal) (u : (⟨2, ![1024, 4096]⟩ : Shape).Idx → EReal) (r l : Fin 4096) : EReal :=
  max (∑ k : Fin 1024, h (ix2 r k) * u (ix2 k l)) 0 * max (∑ k : Fin 1024, h (ix2 r k) * u (ix2 k l)) 0

/-- The residual stream after the ffn. -/
def out (x h : (⟨2, ![4096, 1024]⟩ : Shape).Idx → EReal) (u : (⟨2, ![1024, 4096]⟩ : Shape).Idx → EReal)
    (w : (⟨2, ![4096, 1024]⟩ : Shape).Idx → EReal) (r : Fin 4096) (l : Fin 1024) : EReal :=
  (∑ k : Fin 4096, act h u r k * w (ix2 k l)) + x (ix2 r l)

/-- Its rows, normed. -/
def normed (x h : (⟨2, ![4096, 1024]⟩ : Shape).Idx → EReal) (u : (⟨2, ![1024, 4096]⟩ : Shape).Idx → EReal)
    (w : (⟨2, ![4096, 1024]⟩ : Shape).Idx → EReal) (g : (⟨1, ![1024]⟩ : Shape).Idx → EReal) (r : Fin 4096) (l : Fin 1024) : EReal :=
  Mla.norm 0x44800000#32 (out x h u w r) (fun k => g (ix1 k)) l

/-- Column `k` of part `s`. -/
abbrev pos (s : Fin 4) (k : Fin 1024) : Fin 4096 := ⟨s.val * 1024 + k.val, by omega⟩

/-- A sum over 4096 in four parts of 1024. -/
theorem parts (f : Fin 4096 → EReal) : ∑ k : Fin 4096, f k
    = (∑ k : Fin 1024, f (pos 0 k)) + (∑ k : Fin 1024, f (pos 1 k)) + (∑ k : Fin 1024, f (pos 2 k)) + ∑ k : Fin 1024, f (pos 3 k) := by
  have h : ∑ s : Fin 4, ∑ k : Fin 1024, f (pos s k) = ∑ k : Fin 4096, f k := Fin.sum_mul_add_congr (fun s k hl => rfl) (hL := by rfl)
  rw [← h, Fin.sum_univ_four]

end Cert.Down

namespace Cert.DownKernelIdeal.Hand

open Cert.DownKernelIdeal Cert.DownKernelIdeal.Gen
open Idealize.ShloMosaic.Pipeline (Dat)
open Down (act out normed parts pos)

variable (m : (ℓ : Loc nD τ sig) → Buf (Elt Ideal) ℓ) (c : Dev nD)

/-! ## One grid point -/

theorem zeros2 : (![0, 0] : Fin 2 → Nat) = fun _ => 0 := funext fun a => by fin_cases a <;> rfl
theorem zeros3 : (![0, 0, 0] : Fin 3 → Nat) = fun _ => 0 := funext fun a => by fin_cases a <;> rfl

section point

variable (x0 : Vec Ideal S512x4096 .bf16) (x1 x2 x3 x4 : Vec Ideal S1x1024x1024 .bf16) (x5 : Vec Ideal S512x1024 .f32) (x6 : Vec Ideal S1x1024 .f32)

theorem pay3_apply (a0 a1 a2 a3 : Vec Ideal S512x1024 .bf16) (r : Fin 512) (l : Fin 1024) :
    k0_pay3 (F := Ideal) a0 x1 a1 x2 a2 x3 a3 x4 x5 (ix2 r l)
      = (∑ k : Fin 1024, a0 (ix2 r k) * x1 (ix3 0 k l)) + (∑ k : Fin 1024, a1 (ix2 r k) * x2 (ix3 0 k l))
        + (∑ k : Fin 1024, a2 (ix2 r k) * x3 (ix3 0 k l)) + (∑ k : Fin 1024, a3 (ix2 r k) * x4 (ix3 0 k l)) + x5 (ix2 r l) := by
  pointwise [k0_pay3]

theorem pay1_apply (g : Vec Ideal S1x1024 .f32) (y : FVec Ideal S512x1024 .f32) (r : Fin 512) (l : Fin 1024) :
    k0_pay1 (F := Ideal) (k0_pay2 g) y (mulf y y) (ix2 r l) = Mla.norm 0x44800000#32 (fun k => y (ix2 r k)) (fun k => g (ix2 0 k)) l := by
  pointwise [k0_pay1, k0_pay2]
  rfl

/-- Part `s` of the rows, read at an index. -/
theorem part {o : Nat} (inb) (s : Fin 4) (ho : s.val * 1024 = o) (r : Fin 512) (k : Fin 1024) :
    View.ld x0 (Rect.unit ![0, o] ![512, 1024] inb) (ix2 r k) = x0 (ix2 r (pos s k)) := by
  subst ho
  exact View.ld_unit_apply_of _ _ _ _ _ _ fun a => by
    match a with
    | ⟨0, _⟩ => exact (Nat.zero_add _).symm
    | ⟨1, _⟩ => rfl

theorem left7 : out0_7 x0 x1 x2 x3 x4 x5 x6 = k0_pay5 (F := Ideal) x0 x1 x2 x3 x4 x5 x6 := by
  unfold out0_7
  rw [View.canon_unit_zero zeros2]

theorem left8 : out0_8 x0 x1 x2 x3 x4 x5 x6 = k0_pay1 (F := Ideal) (k0_pay2 x6) (k0_pay5 x0 x1 x2 x3 x4 x5 x6)
    (mulf (k0_pay5 x0 x1 x2 x3 x4 x5 x6) (k0_pay5 x0 x1 x2 x3 x4 x5 x6)) := by
  unfold out0_8
  rw [View.canon_unit_zero zeros2, View.ld_unit_zero (S := S1x1024) zeros2]
  rfl

theorem pay5_apply (r : Fin 512) (l : Fin 1024) : k0_pay5 (F := Ideal) x0 x1 x2 x3 x4 x5 x6 (ix2 r l)
    = (∑ k : Fin 1024, x0 (ix2 r (pos 0 k)) * x1 (ix3 0 k l)) + (∑ k : Fin 1024, x0 (ix2 r (pos 1 k)) * x2 (ix3 0 k l))
      + (∑ k : Fin 1024, x0 (ix2 r (pos 2 k)) * x3 (ix3 0 k l)) + (∑ k : Fin 1024, x0 (ix2 r (pos 3 k)) * x4 (ix3 0 k l)) + x5 (ix2 r l) := by
  have e0 : ∀ k, View.ld x0 r0_0 (ix2 r k) = x0 (ix2 r (pos 0 k)) := part x0 _ 0 rfl r
  have e1 : ∀ k, View.ld x0 r0_2 (ix2 r k) = x0 (ix2 r (pos 1 k)) := part x0 _ 1 rfl r
  have e2 : ∀ k, View.ld x0 r0_3 (ix2 r k) = x0 (ix2 r (pos 2 k)) := part x0 _ 2 rfl r
  have e3 : ∀ k, View.ld x0 r0_4 (ix2 r k) = x0 (ix2 r (pos 3 k)) := part x0 _ 3 rfl r
  have s : ∀ y : Vec Ideal S1x1024x1024 .bf16, View.ld y r0_1 = y := fun y => View.ld_unit_zero (S := S1x1024x1024) zeros3 _ y
  have q : View.ld x5 r0_5 = x5 := View.ld_unit_zero (S := S512x1024) zeros2 _ x5
  unfold k0_pay5
  rw [pay3_apply, s, s, s, s, q]
  simp only [e0, e1, e2, e3]

end point

/-! ## The arrays -/

theorem index0 : ∀ t : Fin grid0.N, win0_0.index t = ![t.val, 0] := by decide +kernel
theorem index1 : ∀ t : Fin grid0.N, win0_1.index t = ![0, 0, 0] := by decide +kernel
theorem index2 : ∀ t : Fin grid0.N, win0_2.index t = ![1, 0, 0] := by decide +kernel
theorem index3 : ∀ t : Fin grid0.N, win0_3.index t = ![2, 0, 0] := by decide +kernel
theorem index4 : ∀ t : Fin grid0.N, win0_4.index t = ![3, 0, 0] := by decide +kernel
theorem index5 : ∀ t : Fin grid0.N, win0_5.index t = ![t.val, 0] := by decide +kernel
theorem index6 : ∀ t : Fin grid0.N, win0_6.index t = ![0, 0] := by decide +kernel
theorem index7 : ∀ t : Fin grid0.N, win0_7.index t = ![t.val, 0] := by decide +kernel
theorem index8 : ∀ t : Fin grid0.N, win0_8.index t = ![t.val, 0] := by decide +kernel

abbrev aX : Vec Ideal S4096x1024 .f32 := m ((c : Thread nD τ).loc main_arg0)
abbrev aH : Vec Ideal S4096x1024 .f32 := m ((c : Thread nD τ).loc main_arg1)
abbrev aU : Vec Ideal S1024x4096 .f32 := m ((c : Thread nD τ).loc main_arg2)
abbrev aW : Vec Ideal S4096x1024 .f32 := m ((c : Thread nD τ).loc main_arg3)
abbrev aG : Vec Ideal S1024 .f32 := m ((c : Thread nD τ).loc main_arg4)

abbrev row (t : Fin cfg0.N) (r : Fin 512) : Fin 4096 := ⟨t.val * 512 + r.val, by have := t.isLt; have : cfg0.N = 8 := N_0; omega⟩

theorem V_r (r l : Fin 4096) : V m c main_v4 (ix2 r l) = act (aH m c) (aU m c) r l := by
  unfold V
  after_results
  pointwise
  rfl

/-- Slab `s` of the weight holds its rows from `1024 s`. -/
theorem V_w (s : Fin 4) (k l : Fin 1024) : V m c main_v6 (ix3 s k l) = aW m c (ix2 (pos s k) l) := by
  unfold V
  after_results
  pointwise

theorem V_g (k : Fin 1024) : V m c main_v7 (ix2 0 k) = aG m c (ix1 k) := by
  unfold V
  after_results
  pointwise

theorem V_x (r : Fin 4096) (k : Fin 1024) : V m c main_arg0 (ix2 r k) = aX m c (ix2 r k) := by
  unfold V
  after_results
  try rfl

theorem r_block (t : Fin cfg0.N) (r : Fin 512) (k : Fin 4096) : (iblk m c 0 t : Vec Ideal S512x4096 .bf16) (ix2 r k) = act (aH m c) (aU m c) (row t r) k := by
  refine Eq.trans ?_ (V_r m c (row t r) k)
  blk_ext [iblk, index0, row]

theorem w0_block (t : Fin cfg0.N) (k l : Fin 1024) : (iblk m c 1 t : Vec Ideal S1x1024x1024 .bf16) (ix3 0 k l) = aW m c (ix2 (pos 0 k) l) := by
  refine Eq.trans ?_ (V_w m c 0 k l)
  blk_ext [iblk, index1]

theorem w1_block (t : Fin cfg0.N) (k l : Fin 1024) : (iblk m c 2 t : Vec Ideal S1x1024x1024 .bf16) (ix3 0 k l) = aW m c (ix2 (pos 1 k) l) := by
  refine Eq.trans ?_ (V_w m c 1 k l)
  blk_ext [iblk, index2]

theorem w2_block (t : Fin cfg0.N) (k l : Fin 1024) : (iblk m c 3 t : Vec Ideal S1x1024x1024 .bf16) (ix3 0 k l) = aW m c (ix2 (pos 2 k) l) := by
  refine Eq.trans ?_ (V_w m c 2 k l)
  blk_ext [iblk, index3]

theorem w3_block (t : Fin cfg0.N) (k l : Fin 1024) : (iblk m c 4 t : Vec Ideal S1x1024x1024 .bf16) (ix3 0 k l) = aW m c (ix2 (pos 3 k) l) := by
  refine Eq.trans ?_ (V_w m c 3 k l)
  blk_ext [iblk, index4]

theorem x_block (t : Fin cfg0.N) (r : Fin 512) (k : Fin 1024) : (iblk m c 5 t : Vec Ideal S512x1024 .f32) (ix2 r k) = aX m c (ix2 (row t r) k) := by
  refine Eq.trans ?_ (V_x m c (row t r) k)
  blk_ext [iblk, index5, row]

theorem g_block (t : Fin cfg0.N) (k : Fin 1024) : (iblk m c 6 t : Vec Ideal S1x1024 .f32) (ix2 0 k) = aG m c (ix1 k) := by
  refine Eq.trans ?_ (V_g m c k)
  blk_ext [iblk, index6]

theorem sums (t : Fin cfg0.N) (r : Fin 512) (l : Fin 1024) :
    k0_pay5 (F := Ideal) (iblk m c 0 t) (iblk m c 1 t) (iblk m c 2 t) (iblk m c 3 t) (iblk m c 4 t) (iblk m c 5 t) (iblk m c 6 t) (ix2 r l)
      = out (aX m c) (aH m c) (aU m c) (aW m c) (row t r) l := by
  refine (pay5_apply _ _ _ _ _ _ _ r l).trans ?_
  simp only [r_block, w0_block, w1_block, w2_block, w3_block, x_block]
  unfold out
  rw [parts]

theorem final7 : (dats m 0 c).arrAt 7 cfg0.N = fun i : S4096x1024.Idx => out (aX m c) (aH m c) (aU m c) (aW m c) (i 0) (i 1) := by
  refine (dats m 0 c).arrAt_eq_of_covers 7 _ (by decide +kernel) fun t hf y => ?_
  obtain ⟨r, l, rfl⟩ : ∃ (r : Fin 512) (l : Fin 1024), y = ix2 r l := ⟨y 0, y 1, (ix2_eta y).symm⟩
  have e : ((cfg0.win 7).blk t).view.emb (ix2 r l) = ix2 (row t r) l := by blk_ext [index7, row]
  refine Eq.trans ?_ (congrArg (fun i : S4096x1024.Idx => out (aX m c) (aH m c) (aU m c) (aW m c) (i 0) (i 1)) e).symm
  blk_simp
  rw [after0_7, left7, sums]
  rfl

theorem final8 : (dats m 0 c).arrAt 8 cfg0.N = fun i : S4096x1024.Idx => normed (aX m c) (aH m c) (aU m c) (aW m c) (aG m c) (i 0) (i 1) := by
  refine (dats m 0 c).arrAt_eq_of_covers 8 _ (by decide +kernel) fun t hf y => ?_
  obtain ⟨r, l, rfl⟩ : ∃ (r : Fin 512) (l : Fin 1024), y = ix2 r l := ⟨y 0, y 1, (ix2_eta y).symm⟩
  have e : ((cfg0.win 8).blk t).view.emb (ix2 r l) = ix2 (row t r) l := by blk_ext [index8, row]
  refine Eq.trans ?_ (congrArg (fun i : S4096x1024.Idx => normed (aX m c) (aH m c) (aU m c) (aW m c) (aG m c) (i 0) (i 1)) e).symm
  blk_simp
  rw [after0_8, left8, pay1_apply]
  simp only [sums, g_block]
  rfl

end Cert.DownKernelIdeal.Hand

/-! ## The reference -/

namespace Cert.DownReferenceIdeal.Hand

open Cert.DownReferenceIdeal Cert.DownReferenceIdeal.Read
open Down (act out normed)

variable (x0 x1 : FVec Ideal S4096x1024 .f32) (x2 : FVec Ideal S1024x4096 .f32) (x3 : FVec Ideal S4096x1024 .f32) (x4 : FVec Ideal S1024 .f32)

theorem act_eq (r l : Fin 4096) : val_main_v2 (F := Ideal) x1 x2 (ix2 r l) = act x1 x2 r l := by
  pointwise [val_main_v2, val_main_v1, val_main_call0_v0, val_main_call0_cst, val_main_v0]
  rfl

theorem out_eq : val_main_v4 (F := Ideal) x0 x1 x2 x3 = fun i : S4096x1024.Idx => out x0 x1 x2 x3 (i 0) (i 1) := by
  funext i
  obtain ⟨r, l, rfl⟩ : ∃ (r : Fin 4096) (l : Fin 1024), i = ix2 r l := ⟨i 0, i 1, (ix2_eta i).symm⟩
  pointwise [val_main_v4, val_main_v3]
  simp only [act_eq]
  exact add_comm _ _

theorem normed_eq : val_main_v18 (F := Ideal) x0 x1 x2 x3 x4 = fun i : S4096x1024.Idx => normed x0 x1 x2 x3 x4 (i 0) (i 1) := by
  funext i
  obtain ⟨r, l, rfl⟩ : ∃ (r : Fin 4096) (l : Fin 1024), i = ix2 r l := ⟨i 0, i 1, (ix2_eta i).symm⟩
  pointwise [val_main_v18, val_main_v17, val_main_v16, val_main_v15, val_main_v14, val_main_v13, val_main_v12, val_main_v11,
    val_main_v10, val_main_cst_1, val_main_v9, val_main_v8, val_main_cst_0, val_main_v7, val_main_v6, val_main_cst, val_main_v5]
  simp only [out_eq]
  rfl

end Cert.DownReferenceIdeal.Hand

namespace Cert.DownKernelIdeal.Hand

open Cert.DownKernelIdeal Cert.DownKernelIdeal.Gen Cert.DownReferenceIdeal.Read

variable (m : (ℓ : Loc nD τ sig) → Buf (Elt Ideal) ℓ) (c : Dev nD)

theorem agree (a0 a1 : S4096x1024.Idx → EReal) (a2 : S1024x4096.Idx → EReal) (a3 : S4096x1024.Idx → EReal) (a4 : S1024.Idx → EReal)
    (E0 : m (c, Proc.tc.devRef main_arg0) = a0) (E1 : m (c, Proc.tc.devRef main_arg1) = a1) (E2 : m (c, Proc.tc.devRef main_arg2) = a2)
    (E3 : m (c, Proc.tc.devRef main_arg3) = a3) (E4 : m (c, Proc.tc.devRef main_arg4) = a4) :
    (dats m 0 c).arrAt 7 cfg0.N = val_main_v4 (F := Ideal) a0 a1 a2 a3 ∧ (dats m 0 c).arrAt 8 cfg0.N = val_main_v18 (F := Ideal) a0 a1 a2 a3 a4 := by
  subst E0 E1 E2 E3 E4
  exact ⟨(final7 m c).trans (Cert.DownReferenceIdeal.Hand.out_eq _ _ _ _).symm, (final8 m c).trans (Cert.DownReferenceIdeal.Hand.normed_eq _ _ _ _ _).symm⟩

end Cert.DownKernelIdeal.Hand

end
-- ==== Proof.AttnO.lean ====
/-
  The attention's output projection, with the residual and the next norm.

  A grid point multiplies 1024 rows of the heads' outputs by the whole weight, adds the residual's rows and norms the sums.

  * `AttnO.mid`, `AttnO.normed`: the two whole arrays as functions of the arguments.
  * `final4`, `final5`: the kernel's arrays are them; `mid_eq`, `normed_eq`: the reference's too, at every extended real.
-/
module

public import proofs.«01_k».proof.Proof.Gen.AttnOKernelIdeal.Value
public import proofs.«01_k».proof.Proof.Gen.AttnOReferenceIdeal.Read
public import proofs.«01_k».proof.Proof.MlaForm
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem Idealize.ShloMosaic.Pointwise

namespace Cert.AttnO

/-- The residual stream after the attention. -/
def mid (x o : (⟨2, ![4096, 1024]⟩ : Shape).Idx → EReal) (w : (⟨2, ![1024, 1024]⟩ : Shape).Idx → EReal) (r : Fin 4096) (l : Fin 1024) : EReal :=
  (∑ k : Fin 1024, o (ix2 r k) * w (ix2 k l)) + x (ix2 r l)

/-- Its rows, normed. -/
def normed (x o : (⟨2, ![4096, 1024]⟩ : Shape).Idx → EReal) (w : (⟨2, ![1024, 1024]⟩ : Shape).Idx → EReal) (g : (⟨1, ![1024]⟩ : Shape).Idx → EReal)
    (r : Fin 4096) (l : Fin 1024) : EReal :=
  Mla.norm 0x44800000#32 (mid x o w r) (fun k => g (ix1 k)) l

end Cert.AttnO

namespace Cert.AttnOKernelIdeal.Hand

open Cert.AttnOKernelIdeal Cert.AttnOKernelIdeal.Gen
open Idealize.ShloMosaic.Pipeline (Dat)
open AttnO (mid normed)

variable (m : (ℓ : Loc nD τ sig) → Buf (Elt Ideal) ℓ) (c : Dev nD)

/-! ## One grid point -/

theorem zeros2 : (![0, 0] : Fin 2 → Nat) = fun _ => 0 := funext fun a => by fin_cases a <;> rfl

section point

variable (x0 x1 : Vec Ideal S1024x1024 .bf16) (x2 : Vec Ideal S1024x1024 .f32) (x3 : Vec Ideal S1x1024 .f32)

theorem left4 : out0_4 x0 x1 x2 x3 = k0_pay1 (F := Ideal) x0 x1 x2 := by
  unfold out0_4
  rw [View.canon_unit_zero zeros2, View.ld_unit_zero (S := S1024x1024) zeros2, View.ld_unit_zero (S := S1024x1024) zeros2,
    View.ld_unit_zero (S := S1024x1024) zeros2]

theorem left5 : out0_5 x0 x1 x2 x3 = k0_pay2 (F := Ideal) x0 x1 x2 x3 := by
  unfold out0_5
  rw [View.canon_unit_zero zeros2, View.ld_unit_zero (S := S1024x1024) zeros2, View.ld_unit_zero (S := S1024x1024) zeros2,
    View.ld_unit_zero (S := S1024x1024) zeros2, View.ld_unit_zero (S := S1x1024) zeros2]

theorem pay1_apply (r l : Fin 1024) : k0_pay1 (F := Ideal) x0 x1 x2 (ix2 r l) = (∑ k : Fin 1024, x0 (ix2 r k) * x1 (ix2 k l)) + x2 (ix2 r l) := by
  pointwise [k0_pay1]

theorem pay2_apply (r l : Fin 1024) : k0_pay2 (F := Ideal) x0 x1 x2 x3 (ix2 r l)
    = Mla.norm 0x44800000#32 (fun k => k0_pay1 (F := Ideal) x0 x1 x2 (ix2 r k)) (fun k => x3 (ix2 0 k)) l := by
  pointwise [k0_pay2]
  rfl

end point

/-! ## The arrays -/

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel
theorem index3 : ∀ t : Fin grid0.N, win0_3.index t = ![0, 0] := by decide +kernel
theorem index4 : ∀ t : Fin grid0.N, win0_4.index t = ![t.val, 0] := by decide +kernel
theorem index5 : ∀ t : Fin grid0.N, win0_5.index t = ![t.val, 0] := by decide +kernel

abbrev aX : Vec Ideal S4096x1024 .f32 := m ((c : Thread nD τ).loc main_arg0)
abbrev aO : Vec Ideal S4096x1024 .f32 := m ((c : Thread nD τ).loc main_arg1)
abbrev aW : Vec Ideal S1024x1024 .f32 := m ((c : Thread nD τ).loc main_arg2)
abbrev aG : Vec Ideal S1024 .f32 := m ((c : Thread nD τ).loc main_arg3)

abbrev row (t : Fin cfg0.N) (r : Fin 1024) : Fin 4096 := ⟨t.val * 1024 + r.val, by have := t.isLt; have : cfg0.N = 4 := N_0; omega⟩

theorem V_o (r : Fin 4096) (k : Fin 1024) : V m c main_v0 (ix2 r k) = aO m c (ix2 r k) := by
  unfold V
  after_results
  pointwise

theorem V_w (r k : Fin 1024) : V m c main_v1 (ix2 r k) = aW m c (ix2 r k) := by
  unfold V
  after_results
  pointwise

theorem V_g (k : Fin 1024) : V m c main_v2 (ix2 0 k) = aG m c (ix1 k) := by
  unfold V
  after_results
  pointwise

theorem V_x (r : Fin 4096) (k : Fin 1024) : V m c main_arg0 (ix2 r k) = aX m c (ix2 r k) := by
  unfold V
  after_results
  try rfl

theorem o_block (t : Fin cfg0.N) (r k : Fin 1024) : (iblk m c 0 t : Vec Ideal S1024x1024 .bf16) (ix2 r k) = aO m c (ix2 (row t r) k) := by
  refine Eq.trans ?_ (V_o m c (row t r) k)
  blk_ext [iblk, index0, row]

theorem w_block (t : Fin cfg0.N) (r k : Fin 1024) : (iblk m c 1 t : Vec Ideal S1024x1024 .bf16) (ix2 r k) = aW m c (ix2 r k) := by
  refine Eq.trans ?_ (V_w m c r k)
  blk_ext [iblk, index1]

theorem x_block (t : Fin cfg0.N) (r k : Fin 1024) : (iblk m c 2 t : Vec Ideal S1024x1024 .f32) (ix2 r k) = aX m c (ix2 (row t r) k) := by
  refine Eq.trans ?_ (V_x m c (row t r) k)
  blk_ext [iblk, index2, row]

theorem g_block (t : Fin cfg0.N) (k : Fin 1024) : (iblk m c 3 t : Vec Ideal S1x1024 .f32) (ix2 0 k) = aG m c (ix1 k) := by
  refine Eq.trans ?_ (V_g m c k)
  blk_ext [iblk, index3]

theorem final4 : (dats m 0 c).arrAt 4 cfg0.N = fun i : S4096x1024.Idx => mid (aX m c) (aO m c) (aW m c) (i 0) (i 1) := by
  refine (dats m 0 c).arrAt_eq_of_covers 4 _ (by decide +kernel) fun t hf y => ?_
  obtain ⟨r, l, rfl⟩ : ∃ (r l : Fin 1024), y = ix2 r l := ⟨y 0, y 1, (ix2_eta y).symm⟩
  have e : ((cfg0.win 4).blk t).view.emb (ix2 r l) = ix2 (row t r) l := by blk_ext [index4, row]
  refine Eq.trans ?_ (congrArg (fun i : S4096x1024.Idx => mid (aX m c) (aO m c) (aW m c) (i 0) (i 1)) e).symm
  blk_simp
  rw [after0_4, left4, pay1_apply]
  simp only [o_block, w_block, x_block]
  rfl

theorem final5 : (dats m 0 c).arrAt 5 cfg0.N = fun i : S4096x1024.Idx => normed (aX m c) (aO m c) (aW m c) (aG m c) (i 0) (i 1) := by
  refine (dats m 0 c).arrAt_eq_of_covers 5 _ (by decide +kernel) fun t hf y => ?_
  obtain ⟨r, l, rfl⟩ : ∃ (r l : Fin 1024), y = ix2 r l := ⟨y 0, y 1, (ix2_eta y).symm⟩
  have e : ((cfg0.win 5).blk t).view.emb (ix2 r l) = ix2 (row t r) l := by blk_ext [index5, row]
  refine Eq.trans ?_ (congrArg (fun i : S4096x1024.Idx => normed (aX m c) (aO m c) (aW m c) (aG m c) (i 0) (i 1)) e).symm
  blk_simp
  rw [after0_5, left5, pay2_apply]
  simp only [pay1_apply, o_block, w_block, x_block, g_block]
  rfl

end Cert.AttnOKernelIdeal.Hand

/-! ## The reference -/

namespace Cert.AttnOReferenceIdeal.Hand

open Cert.AttnOReferenceIdeal Cert.AttnOReferenceIdeal.Read
open AttnO (mid normed)

variable (x0 x1 : FVec Ideal S4096x1024 .f32) (x2 : FVec Ideal S1024x1024 .f32) (x3 : FVec Ideal S1024 .f32)

theorem mid_eq : val_main_v1 (F := Ideal) x0 x1 x2 = fun i : S4096x1024.Idx => mid x0 x1 x2 (i 0) (i 1) := by
  funext i
  obtain ⟨r, l, rfl⟩ : ∃ (r : Fin 4096) (l : Fin 1024), i = ix2 r l := ⟨i 0, i 1, (ix2_eta i).symm⟩
  pointwise [val_main_v1, val_main_v0]
  exact add_comm _ _

theorem normed_eq : val_main_v15 (F := Ideal) x0 x1 x2 x3 = fun i : S4096x1024.Idx => normed x0 x1 x2 x3 (i 0) (i 1) := by
  funext i
  obtain ⟨r, l, rfl⟩ : ∃ (r : Fin 4096) (l : Fin 1024), i = ix2 r l := ⟨i 0, i 1, (ix2_eta i).symm⟩
  pointwise [val_main_v15, val_main_v14, val_main_v13, val_main_v12, val_main_v11, val_main_v10, val_main_v9, val_main_v8,
    val_main_v7, val_main_cst_1, val_main_v6, val_main_v5, val_main_cst_0, val_main_v4, val_main_v3, val_main_cst, val_main_v2]
  simp only [mid_eq]
  rfl

end Cert.AttnOReferenceIdeal.Hand

namespace Cert.AttnOKernelIdeal.Hand

open Cert.AttnOKernelIdeal Cert.AttnOKernelIdeal.Gen Cert.AttnOReferenceIdeal.Read

variable (m : (ℓ : Loc nD τ sig) → Buf (Elt Ideal) ℓ) (c : Dev nD)

theorem agree (a0 a1 : S4096x1024.Idx → EReal) (a2 : S1024x1024.Idx → EReal) (a3 : S1024.Idx → EReal)
    (E0 : m (c, Proc.tc.devRef main_arg0) = a0) (E1 : m (c, Proc.tc.devRef main_arg1) = a1) (E2 : m (c, Proc.tc.devRef main_arg2) = a2)
    (E3 : m (c, Proc.tc.devRef main_arg3) = a3) :
    (dats m 0 c).arrAt 4 cfg0.N = val_main_v1 (F := Ideal) a0 a1 a2 ∧ (dats m 0 c).arrAt 5 cfg0.N = val_main_v15 (F := Ideal) a0 a1 a2 a3 := by
  subst E0 E1 E2 E3
  exact ⟨(final4 m c).trans (Cert.AttnOReferenceIdeal.Hand.mid_eq _ _ _).symm, (final5 m c).trans (Cert.AttnOReferenceIdeal.Hand.normed_eq _ _ _ _).symm⟩

end Cert.AttnOKernelIdeal.Hand

end
-- ==== Proof.lean ====
/- The claims, assembled: for each backward call, both frames from its generated runs, and the value from the run of the
   kernel and of the reference, whose result arrays are one function of the arguments (the modules under Proof/). -/
module

public import proofs.«01_k».proof.Defs
public import proofs.«01_k».proof.Proof.Gen.FfnDownKernel
public import proofs.«01_k».proof.Proof.Gen.FfnDownKernel.Frame
public import proofs.«01_k».proof.Proof.Gen.FfnDownKernelIdeal
public import proofs.«01_k».proof.Proof.Gen.FfnDownKernelIdeal.Frame
public import proofs.«01_k».proof.Proof.Gen.FfnDownReferenceIdeal
public import proofs.«01_k».proof.Proof.Gen.FfnDownKernelIdeal.Value
public import proofs.«01_k».proof.Proof.Gen.FfnDownReferenceIdeal.Run
public import proofs.«01_k».proof.Proof.Gen.FfnDownReferenceIdeal.Read
public import proofs.«01_k».proof.Proof.Gen.FlashKernel
public import proofs.«01_k».proof.Proof.Gen.FlashKernel.Frame
public import proofs.«01_k».proof.Proof.Gen.FlashKernelIdeal
public import proofs.«01_k».proof.Proof.Gen.FlashKernelIdeal.Skeleton
public import proofs.«01_k».proof.Proof.Gen.FlashKernelIdeal.Loops
public import proofs.«01_k».proof.Proof.Gen.FlashKernelIdeal.Launch
public import proofs.«01_k».proof.Proof.Gen.FlashKernelIdeal.Points
public import proofs.«01_k».proof.Proof.Gen.FlashKernelIdeal.Frame
public import proofs.«01_k».proof.Proof.Gen.FlashKernel.Skeleton
public import proofs.«01_k».proof.Proof.Gen.FlashKernel.Loops
public import proofs.«01_k».proof.Proof.Gen.FlashKernel.Launch
public import proofs.«01_k».proof.Proof.Gen.FlashKernel.Points
public import proofs.«01_k».proof.Proof.Gen.FlashReferenceIdeal
public import proofs.«01_k».proof.Proof.Gen.FlashReferenceIdeal.Run
public import proofs.«01_k».proof.Proof.Gen.FlashReferenceIdeal.Read
public import proofs.«01_k».proof.Proof.Gen.Pre_finite_flash
public import proofs.«01_k».proof.Proof.FfnDown
public import proofs.«01_k».proof.Proof.FlashBits
public import proofs.«01_k».proof.Proof.FlashEq
public import proofs.«01_k».proof.Proof.Gen.LossKernel
public import proofs.«01_k».proof.Proof.Gen.LossKernel.Frame
public import proofs.«01_k».proof.Proof.Gen.LossKernelIdeal
public import proofs.«01_k».proof.Proof.Gen.LossKernelIdeal.Frame
public import proofs.«01_k».proof.Proof.Gen.LossKernelIdeal.Value
public import proofs.«01_k».proof.Proof.Gen.LossReferenceIdeal
public import proofs.«01_k».proof.Proof.Gen.LossReferenceIdeal.Run
public import proofs.«01_k».proof.Proof.Gen.LossReferenceIdeal.Read
public import proofs.«01_k».proof.Proof.Gen.Pre_finite_loss
public import proofs.«01_k».proof.Proof.LossEq
public import proofs.«01_k».proof.Proof.Gen.FfnUpKernel
public import proofs.«01_k».proof.Proof.Gen.FfnUpKernel.Frame
public import proofs.«01_k».proof.Proof.Gen.FfnUpKernelIdeal
public import proofs.«01_k».proof.Proof.Gen.FfnUpKernelIdeal.Frame
public import proofs.«01_k».proof.Proof.Gen.FfnUpKernelIdeal.Value
public import proofs.«01_k».proof.Proof.Gen.FfnUpReferenceIdeal
public import proofs.«01_k».proof.Proof.Gen.FfnUpReferenceIdeal.Run
public import proofs.«01_k».proof.Proof.Gen.FfnUpReferenceIdeal.Read
public import proofs.«01_k».proof.Proof.Gen.Pre_finite_ffnup
public import proofs.«01_k».proof.Proof.FfnUpEq
public import proofs.«01_k».proof.Proof.Gen.SguKernel
public import proofs.«01_k».proof.Proof.Gen.SguKernel.Frame
public import proofs.«01_k».proof.Proof.Gen.SguKernelIdeal
public import proofs.«01_k».proof.Proof.Gen.SguKernelIdeal.Frame
public import proofs.«01_k».proof.Proof.Gen.SguKernelIdeal.Value
public import proofs.«01_k».proof.Proof.Gen.SguReferenceIdeal
public import proofs.«01_k».proof.Proof.Gen.SguReferenceIdeal.Run
public import proofs.«01_k».proof.Proof.Gen.SguReferenceIdeal.Read
public import proofs.«01_k».proof.Proof.Gen.Pre_finite_sgu
public import proofs.«01_k».proof.Proof.SguEq
public import proofs.«01_k».proof.Proof.Gen.MlaOKernel
public import proofs.«01_k».proof.Proof.Gen.MlaOKernel.Frame
public import proofs.«01_k».proof.Proof.Gen.MlaOKernelIdeal
public import proofs.«01_k».proof.Proof.Gen.MlaOKernelIdeal.Frame
public import proofs.«01_k».proof.Proof.Gen.MlaOKernelIdeal.Value
public import proofs.«01_k».proof.Proof.Gen.MlaOReferenceIdeal
public import proofs.«01_k».proof.Proof.Gen.MlaOReferenceIdeal.Run
public import proofs.«01_k».proof.Proof.Gen.MlaOReferenceIdeal.Read
public import proofs.«01_k».proof.Proof.MlaO
public import proofs.«01_k».proof.Proof.Gen.ProjKernel
public import proofs.«01_k».proof.Proof.Gen.ProjKernelIdeal
public import proofs.«01_k».proof.Proof.Gen.ProjKernelIdeal.Frame.Runs
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Gen.Pre_finite_proj
public import proofs.«01_k».proof.Proof.ProjBits
public import proofs.«01_k».proof.Proof.ProjEq
public import proofs.«01_k».proof.Proof.ProjRun
public import proofs.«01_k».proof.Proof.Gen.MlaKernel
public import proofs.«01_k».proof.Proof.Gen.MlaKernel.Frame
public import proofs.«01_k».proof.Proof.Gen.MlaKernelIdeal
public import proofs.«01_k».proof.Proof.Gen.MlaKernelIdeal.Frame
public import proofs.«01_k».proof.Proof.Gen.MlaKernelIdeal.Value
public import proofs.«01_k».proof.Proof.Gen.MlaReferenceIdeal
public import proofs.«01_k».proof.Proof.Gen.MlaReferenceIdeal.Run
public import proofs.«01_k».proof.Proof.Gen.MlaReferenceIdeal.Read
public import proofs.«01_k».proof.Proof.MlaEq
public import proofs.«01_k».proof.Proof.Gen.GateKernel
public import proofs.«01_k».proof.Proof.Gen.GateKernel.Frame
public import proofs.«01_k».proof.Proof.Gen.GateKernelIdeal
public import proofs.«01_k».proof.Proof.Gen.GateKernelIdeal.Frame
public import proofs.«01_k».proof.Proof.Gen.GateKernelIdeal.Value
public import proofs.«01_k».proof.Proof.Gen.GateReferenceIdeal
public import proofs.«01_k».proof.Proof.Gen.GateReferenceIdeal.Run
public import proofs.«01_k».proof.Proof.Gen.GateReferenceIdeal.Read
public import proofs.«01_k».proof.Proof.Gate
public import proofs.«01_k».proof.Proof.Gen.ReluKernel
public import proofs.«01_k».proof.Proof.Gen.ReluKernel.Frame
public import proofs.«01_k».proof.Proof.Gen.ReluKernelIdeal
public import proofs.«01_k».proof.Proof.Gen.ReluKernelIdeal.Frame
public import proofs.«01_k».proof.Proof.Gen.ReluKernelIdeal.Value
public import proofs.«01_k».proof.Proof.Gen.ReluReferenceIdeal
public import proofs.«01_k».proof.Proof.Gen.ReluReferenceIdeal.Run
public import proofs.«01_k».proof.Proof.Gen.ReluReferenceIdeal.Read
public import proofs.«01_k».proof.Proof.Relu
public import proofs.«01_k».proof.Proof.Gen.DownKernel
public import proofs.«01_k».proof.Proof.Gen.DownKernel.Frame
public import proofs.«01_k».proof.Proof.Gen.DownKernelIdeal
public import proofs.«01_k».proof.Proof.Gen.DownKernelIdeal.Frame
public import proofs.«01_k».proof.Proof.Gen.DownKernelIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Down
public import proofs.«01_k».proof.Proof.Gen.AttnOKernel
public import proofs.«01_k».proof.Proof.Gen.AttnOKernel.Frame
public import proofs.«01_k».proof.Proof.Gen.AttnOKernelIdeal
public import proofs.«01_k».proof.Proof.Gen.AttnOKernelIdeal.Frame
public import proofs.«01_k».proof.Proof.Gen.AttnOKernelIdeal.Value
public import proofs.«01_k».proof.Proof.Gen.AttnOReferenceIdeal
public import proofs.«01_k».proof.Proof.Gen.AttnOReferenceIdeal.Run
public import proofs.«01_k».proof.Proof.Gen.AttnOReferenceIdeal.Read
public import proofs.«01_k».proof.Proof.AttnO
public import Idealize.ShloMosaic.Adequacy
public import Idealize.ShloMosaic.Init

@[expose] public section

noncomputable section

namespace Cert.Proof

open Idealize.ShloMosaic Idealize.SL.Sem

/-- The backward of the down projection and the squared ReLU: the kernel's array and the derivative are one function. -/
theorem ffnDown : Cert.algebraic_FfnDownKernelIdeal_FfnDownReferenceIdeal :=
  fun m ρ m' ρ' _ hag => by
    have e : ∀ c, FfnDownReferenceIdeal.Read.val_main_v13 (F := Ideal) _ _ _ _ = _ := fun c =>
      FfnDownReferenceIdeal.Hand.ref_eq (FfnDownKernelIdeal.Hand.aH m c) (FfnDownKernelIdeal.Hand.aUp m c)
        (FfnDownKernelIdeal.Hand.aDown m c) (FfnDownKernelIdeal.Hand.aCt m c)
    refine ⟨_, (θ_run _ _ _).mono (fun _ h c => ⟨(h c).1.trans (FfnDownKernelIdeal.Hand.final_eq m c), (h c).2⟩)
      (FfnDownKernelIdeal.Value.run_blocks m ρ),
      (θ_run _ _ _).mono (fun _ h c => ⟨(h c).1.trans ?_, (h c).2⟩) (FfnDownReferenceIdeal.Value.run m' ρ')⟩
    obtain ⟨h0, h1, h2, h3⟩ := hag c
    rw [h0, h1, h2, h3]
    exact (FfnDownReferenceIdeal.Read.val_main_v13_eq _ _ _ _).trans (e c)

/-- The backward of the attention: the three arrays that the kernel returns are the three gradients. -/
theorem flash : Cert.algebraic_FlashKernelIdeal_FlashReferenceIdeal_pre_finite_flash :=
  fun m ρ m' ρ' hpre hag => by
    have A := fun c => FlashKernelIdeal.Hand.agree m c _ _ _ _ rfl rfl rfl rfl
      (fun i => Reals.real_of_word (congrFun (hpre c).1 i)) (fun i => Reals.real_of_word (congrFun (hpre c).2.1 i))
      (fun i => Reals.real_of_word (congrFun (hpre c).2.2.1 i)) (fun i => Reals.real_of_word (congrFun (hpre c).2.2.2 i))
    refine ⟨_, _, _, (θ_run _ _ _).mono
      (fun r h c => ⟨((h.1 c).1 6).trans (A c).1, ((h.1 c).1 7).trans (A c).2.1, ((h.1 c).1 8).trans (A c).2.2, h.2.1 c⟩)
      (θ_run_and (FlashKernelIdeal.Hand.run_main m ρ) (FlashKernelIdeal.Hand.frame m ρ)),
      (θ_run _ _ _).mono (fun _ h c => ⟨(h c).1.trans ?_, (h c).2.1.trans ?_, (h c).2.2.1.trans ?_, (h c).2.2.2⟩)
        (FlashReferenceIdeal.Value.run m' ρ')⟩
    all_goals obtain ⟨h0, h1, h2, h3⟩ := hag c
    · refine (FlashReferenceIdeal.Read.val_main_v80_eq _ _).trans ?_
      rw [h0, h1, h2, h3]
    · refine (FlashReferenceIdeal.Read.val_main_v82_eq _ _).trans ?_
      rw [h0, h1, h2, h3]
    · refine (FlashReferenceIdeal.Read.val_main_v83_eq _ _).trans ?_
      rw [h0, h1, h2, h3]

/-- The loss head: the four arrays that the kernel returns are the gradients, and the squared errors. -/
theorem loss : Cert.algebraic_LossKernelIdeal_LossReferenceIdeal_pre_finite_loss :=
  fun m ρ m' ρ' hpre hag => by
    have A := fun c => LossKernelIdeal.Hand.agree m c _ _ _ rfl rfl rfl
      (fun i => Reals.real_of_word (congrFun (hpre c).1 i))
      (fun i => Reals.real_of_word (congrFun (hpre c).2.1 i))
      (fun i => Reals.real_of_word (congrFun (hpre c).2.2 i))
    refine ⟨_, _, _, _, (θ_run _ _ _).mono
      (fun _ h c => ⟨(h c).1.trans (A c).1, (h c).2.1.trans (A c).2.1, (h c).2.2.1.trans (A c).2.2.1, (h c).2.2.2.1.trans (A c).2.2.2, (h c).2.2.2.2⟩)
      (LossKernelIdeal.Value.run_blocks m ρ),
      (θ_run _ _ _).mono (fun _ h c => ⟨(h c).1.trans ?_, (h c).2.1.trans ?_, (h c).2.2.1.trans ?_, (h c).2.2.2.1.trans ?_, (h c).2.2.2.2⟩)
        (LossReferenceIdeal.Value.run m' ρ')⟩
    all_goals obtain ⟨h0, h1, h2⟩ := hag c
    · refine (LossReferenceIdeal.Read.val_main_v50_eq _ _).trans ?_
      rw [h0, h1, h2]
    · refine (LossReferenceIdeal.Read.val_main_v67_eq _ _).trans ?_
      rw [h0, h1, h2]
    · rw [h0, h1, h2]
      exact LossReferenceIdeal.Read.val_main_v68_eq _ _ _
    · rw [h0, h1, h2]
      exact LossReferenceIdeal.Read.val_main_v69_eq _ _ _

/-- The backward of the up projection and of the norm before it: the kernel's arrays are the gradients. -/
theorem ffnUp : Cert.algebraic_FfnUpKernelIdeal_FfnUpReferenceIdeal_pre_finite_ffnup :=
  fun m ρ m' ρ' hpre hag => by
    have A := fun c => FfnUpKernelIdeal.Hand.agree m c _ _ _ _ _ rfl rfl rfl rfl rfl
      (fun i => Reals.real_of_word (congrFun (hpre c).1 i))
      (fun i => Reals.real_of_word (congrFun (hpre c).2.1 i))
      (fun i => Reals.real_of_word (congrFun (hpre c).2.2.1 i))
      (fun i => Reals.real_of_word (congrFun (hpre c).2.2.2 i))
    refine ⟨_, _, _, (θ_run _ _ _).mono
      (fun _ h c => ⟨(h c).1.trans (A c).1, (h c).2.1.trans (A c).2.1, (h c).2.2.1.trans (A c).2.2, (h c).2.2.2⟩)
      (FfnUpKernelIdeal.Value.run_blocks m ρ),
      (θ_run _ _ _).mono (fun _ h c => ⟨(h c).1.trans ?_, (h c).2.1.trans ?_, (h c).2.2.1.trans ?_, (h c).2.2.2⟩)
        (FfnUpReferenceIdeal.Value.run m' ρ')⟩
    all_goals obtain ⟨h0, h1, h2, h3, h4⟩ := hag c
    · refine (FfnUpReferenceIdeal.Read.val_main_v38_eq _ _).trans ?_
      rw [h0, h1, h2, h3, h4]
    · refine (FfnUpReferenceIdeal.Read.val_main_v39_eq _ _).trans ?_
      rw [h0, h1, h2, h3, h4]
    · rw [h0, h2, h3]
      exact FfnUpReferenceIdeal.Read.val_main_v40_eq _ _ _

/-- The spatial gate's backward: the kernel's arrays are the gradients. -/
theorem sgu : Cert.algebraic_SguKernelIdeal_SguReferenceIdeal_pre_finite_sgu :=
  fun m ρ m' ρ' hpre hag => by
    have A := fun c => SguKernelIdeal.Hand.agree m c _ _ _ _ _ _ rfl rfl rfl rfl rfl rfl
      (fun i => Reals.real_of_word (congrFun (hpre c).1 i))
      (fun i => Reals.real_of_word (congrFun (hpre c).2.1 i))
      (fun i => Reals.real_of_word (congrFun (hpre c).2.2.1 i))
      (fun i => Reals.real_of_word (congrFun (hpre c).2.2.2.1 i))
      (fun i => Reals.real_of_word (congrFun (hpre c).2.2.2.2.1 i))
      (fun i => Reals.real_of_word (congrFun (hpre c).2.2.2.2.2 i))
    refine ⟨_, _, _, _, _, (θ_run _ _ _).mono
      (fun _ h c => ⟨(h c).1.trans (A c).1, (h c).2.1.trans (A c).2.1, (h c).2.2.1.trans (A c).2.2.1, (h c).2.2.2.1.trans (A c).2.2.2.1, (h c).2.2.2.2.1.trans (A c).2.2.2.2, (h c).2.2.2.2.2⟩)
      (SguKernelIdeal.Value.run_blocks m ρ),
      (θ_run _ _ _).mono (fun _ h c => ⟨(h c).1.trans ?_, (h c).2.1.trans ?_, (h c).2.2.1.trans ?_, (h c).2.2.2.1.trans ?_, (h c).2.2.2.2.1.trans ?_, (h c).2.2.2.2.2⟩)
        (SguReferenceIdeal.Value.run m' ρ')⟩
    all_goals obtain ⟨h0, h1, h2, h3, h4, h5⟩ := hag c
    · refine (SguReferenceIdeal.Read.val_main_v111_eq _ _).trans ?_
      rw [h0, h1, h2, h3, h4, h5]
    · refine (SguReferenceIdeal.Read.val_main_v112_eq _ _).trans ?_
      rw [h0, h3, h5]
    · rw [h0, h3, h5]
      exact SguReferenceIdeal.Read.val_main_v113_eq _ _ _
    · refine (SguReferenceIdeal.Read.val_main_v65_eq _ _).trans ?_
      rw [h0, h1, h2, h5]
    · rw [h0, h5]
      exact SguReferenceIdeal.Read.val_main_v116_eq _ _

/-- The backward of the attention's output projection: the kernel's arrays are the gradient and its row sums. -/
theorem mlaO : Cert.algebraic_MlaOKernelIdeal_MlaOReferenceIdeal :=
  fun m ρ m' ρ' _ hag => by
    have A := fun c => MlaOKernelIdeal.Hand.agree m c _ _ _ rfl rfl rfl
    refine ⟨_, _, (θ_run _ _ _).mono
      (fun _ h c => ⟨(h c).1.trans (A c).1, (h c).2.1.trans (A c).2, (h c).2.2⟩)
      (MlaOKernelIdeal.Value.run_blocks m ρ),
      (θ_run _ _ _).mono (fun _ h c => ⟨(h c).1.trans ?_, (h c).2.1.trans ?_, (h c).2.2⟩)
        (MlaOReferenceIdeal.Value.run m' ρ')⟩
    all_goals obtain ⟨h0, h1, h2⟩ := hag c
    · rw [h1, h2]
      exact MlaOReferenceIdeal.Read.val_main_v5_eq _ _
    · rw [h0, h1, h2]
      exact MlaOReferenceIdeal.Read.val_main_v6_eq _ _ _

set_option maxHeartbeats 4000000 in
/-- The backward of the latent projections, their norms and the rotary embedding: the kernel's arrays are the gradients. -/
theorem proj : Cert.algebraic_ProjKernelIdeal_ProjReferenceIdeal_pre_finite_proj :=
  fun m ρ m' ρ' hpre hag => by
    have A := fun c => ProjKernelIdeal.Hand.agree m c _ _ _ _ _ _ _ _ _ _ _ _ rfl rfl rfl rfl rfl rfl rfl rfl rfl rfl rfl rfl
      (fun i => Reals.real_of_word (congrFun (hpre c).1 i))
      (fun i => Reals.real_of_word (congrFun (hpre c).2.1 i))
      (fun i => Reals.real_of_word (congrFun (hpre c).2.2.1 i))
      (fun i => Reals.real_of_word (congrFun (hpre c).2.2.2.1 i))
      (fun i => Reals.real_of_word (congrFun (hpre c).2.2.2.2.1 i))
      (fun i => Reals.real_of_word (congrFun (hpre c).2.2.2.2.2.1 i))
      (fun i => Reals.real_of_word (congrFun (hpre c).2.2.2.2.2.2.1 i))
      (fun i => Reals.real_of_word (congrFun (hpre c).2.2.2.2.2.2.2.1 i))
      (fun i => Reals.real_of_word (congrFun (hpre c).2.2.2.2.2.2.2.2.1 i))
      (fun i => Reals.real_of_word (congrFun (hpre c).2.2.2.2.2.2.2.2.2 i))
    refine ⟨_, _, _, _, _, _, _, _, (θ_run _ _ _).mono
      (fun _ h c => ⟨(h c).1.trans (A c).1, (h c).2.1.trans (A c).2.1, (h c).2.2.1.trans (A c).2.2.1, (h c).2.2.2.1.trans (A c).2.2.2.1, (h c).2.2.2.2.1.trans (A c).2.2.2.2.1, (h c).2.2.2.2.2.1.trans (A c).2.2.2.2.2.1, (h c).2.2.2.2.2.2.1.trans (A c).2.2.2.2.2.2.1, (h c).2.2.2.2.2.2.2.1.trans (A c).2.2.2.2.2.2.2, (h c).2.2.2.2.2.2.2.2⟩)
      (ProjKernelIdeal.Hand.run_blocks m ρ),
      (θ_run _ _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩)
        (ProjReferenceIdeal.Hand.run_values m' ρ')⟩
    all_goals obtain ⟨h0, h1, h2, h3, h4, h5, h6, h7, h8, h9, h10, h11⟩ := hag c
    · rw [h0, h1, h2, h3, h4, h5, h6, h7, h8, h9, h10, h11]
    · rw [h0, h1, h2, h3, h4, h5, h6, h7, h8, h9, h10, h11]
    · rw [h0, h1, h2, h3, h4, h8]
    · rw [h0, h2, h3, h5, h9]
    · rw [h0, h1, h2, h3, h4, h5, h6, h7, h8, h9, h10]
    · rw [h0, h1, h2, h3, h6, h8]
    · rw [h0, h2, h3, h7, h9]
    · rw [h0, h1, h2, h3, h4, h5, h6, h7, h8, h9, h10]

set_option maxHeartbeats 4000000 in
/-- The latent projections, forward: the kernel's arrays are the normed rows, the latents, the turned key and the heads. -/
theorem mla : Cert.algebraic_MlaKernelIdeal_MlaReferenceIdeal :=
  fun m ρ m' ρ' _ hag => by
    have A := fun c => MlaKernelIdeal.Hand.agree m c _ _ _ _ _ _ _ _ rfl rfl rfl rfl rfl rfl rfl rfl
    refine ⟨_, _, _, _, _, _, _, (θ_run _ _ _).mono
      (fun _ h c => ⟨(h c).1.trans (A c).1, (h c).2.1.trans (A c).2.1, (h c).2.2.1.trans (A c).2.2.1, (h c).2.2.2.1.trans (A c).2.2.2.1, (h c).2.2.2.2.1.trans (A c).2.2.2.2.1, (h c).2.2.2.2.2.1.trans (A c).2.2.2.2.2.1, (h c).2.2.2.2.2.2.1.trans (A c).2.2.2.2.2.2, (h c).2.2.2.2.2.2.2⟩)
      (MlaKernelIdeal.Value.run_blocks m ρ),
      (θ_run _ _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩)
        (MlaReferenceIdeal.Value.run m' ρ')⟩
    all_goals obtain ⟨h0, h1, h2, h3, h4, h5, h6, h7⟩ := hag c
    · rw [h0, h2]
      exact MlaReferenceIdeal.Read.val_main_v75_eq _ _
    · rw [h0, h2, h3]
      exact MlaReferenceIdeal.Read.val_main_v76_eq _ _ _
    · rw [h0, h2, h3, h4]
      exact MlaReferenceIdeal.Read.val_main_v77_eq _ _ _ _
    · rw [h0, h2, h3, h5]
      exact MlaReferenceIdeal.Read.val_main_v78_eq _ _ _ _
    · refine (MlaReferenceIdeal.Read.val_main_v79_eq _ _).trans ?_
      rw [h0, h1, h2, h3]
    · rw [h0, h2, h3, h4, h6]
      exact MlaReferenceIdeal.Read.val_main_v64_eq _ _ _ _ _
    · rw [h0, h2, h3, h5, h7]
      exact MlaReferenceIdeal.Read.val_main_v81_eq _ _ _ _ _

/-- The spatial gate, forward: the kernel's array is the gelu of the one half times the mixed layer norm of the other. -/
theorem gate : Cert.algebraic_GateKernelIdeal_GateReferenceIdeal :=
  fun m ρ m' ρ' _ hag => by
    have A := fun c => GateKernelIdeal.Hand.agree m c _ _ _ _ _ rfl rfl rfl rfl rfl
    refine ⟨_, (θ_run _ _ _).mono
      (fun _ h c => ⟨(h c).1.trans (A c), (h c).2⟩)
      (GateKernelIdeal.Value.run_blocks m ρ),
      (θ_run _ _ _).mono (fun _ h c => ⟨(h c).1.trans ?_, (h c).2⟩)
        (GateReferenceIdeal.Value.run m' ρ')⟩
    all_goals obtain ⟨h0, h1, h2, h3, h4⟩ := hag c
    · refine (GateReferenceIdeal.Read.val_main_v46_eq _ _).trans ?_
      rw [h0, h1, h2, h3, h4]

/-- The up projection with the squared ReLU, forward: the kernel's arrays are the square and its derivative. -/
theorem relu : Cert.algebraic_ReluKernelIdeal_ReluReferenceIdeal :=
  fun m ρ m' ρ' _ hag => by
    have A := fun c => ReluKernelIdeal.Hand.agree m c _ _ rfl rfl
    refine ⟨_, _, (θ_run _ _ _).mono
      (fun _ h c => ⟨(h c).1.trans (A c).1, (h c).2.1.trans (A c).2, (h c).2.2⟩)
      (ReluKernelIdeal.Value.run_blocks m ρ),
      (θ_run _ _ _).mono (fun _ h c => ⟨(h c).1.trans ?_, (h c).2.1.trans ?_, (h c).2.2⟩)
        (ReluReferenceIdeal.Value.run m' ρ')⟩
    all_goals obtain ⟨h0, h1⟩ := hag c
    · rw [h0, h1]
      exact ReluReferenceIdeal.Read.val_main_v8_eq _ _
    · rw [h0, h1]
      exact ReluReferenceIdeal.Read.val_main_v13_eq _ _

/-- The down projection with the residual and the next norm, forward: the kernel's arrays are the sums and their normed rows. -/
theorem down : Cert.algebraic_DownKernelIdeal_DownReferenceIdeal :=
  fun m ρ m' ρ' _ hag => by
    have A := fun c => DownKernelIdeal.Hand.agree m c _ _ _ _ _ rfl rfl rfl rfl rfl
    refine ⟨_, _, (θ_run _ _ _).mono
      (fun _ h c => ⟨(h c).1.trans (A c).1, (h c).2.1.trans (A c).2, (h c).2.2⟩)
      (DownKernelIdeal.Value.run_blocks m ρ),
      (θ_run _ _ _).mono (fun _ h c => ⟨(h c).1.trans ?_, (h c).2.1.trans ?_, (h c).2.2⟩)
        (DownReferenceIdeal.Value.run m' ρ')⟩
    all_goals obtain ⟨h0, h1, h2, h3, h4⟩ := hag c
    · rw [h0, h1, h2, h3]
      exact DownReferenceIdeal.Read.val_main_v4_eq _ _ _ _
    · rw [h0, h1, h2, h3, h4]
      exact DownReferenceIdeal.Read.val_main_v18_eq _ _ _ _ _

/-- The attention's output projection with the residual and the next norm, forward: the kernel's arrays are the sums and their normed rows. -/
theorem attnO : Cert.algebraic_AttnOKernelIdeal_AttnOReferenceIdeal :=
  fun m ρ m' ρ' _ hag => by
    have A := fun c => AttnOKernelIdeal.Hand.agree m c _ _ _ _ rfl rfl rfl rfl
    refine ⟨_, _, (θ_run _ _ _).mono
      (fun _ h c => ⟨(h c).1.trans (A c).1, (h c).2.1.trans (A c).2, (h c).2.2⟩)
      (AttnOKernelIdeal.Value.run_blocks m ρ),
      (θ_run _ _ _).mono (fun _ h c => ⟨(h c).1.trans ?_, (h c).2.1.trans ?_, (h c).2.2⟩)
        (AttnOReferenceIdeal.Value.run m' ρ')⟩
    all_goals obtain ⟨h0, h1, h2, h3⟩ := hag c
    · rw [h0, h1, h2]
      exact AttnOReferenceIdeal.Read.val_main_v1_eq _ _ _
    · rw [h0, h1, h2, h3]
      exact AttnOReferenceIdeal.Read.val_main_v15_eq _ _ _ _

/-- Every claim of the certificate. -/
theorem claim : Cert.Claim :=
  ⟨FfnDownKernel.Gen.facts, FfnDownKernelIdeal.Gen.facts, FfnDownReferenceIdeal.Gen.facts,
    FlashKernel.Gen.facts, FlashKernelIdeal.Gen.facts, FlashReferenceIdeal.Gen.facts,
    LossKernel.Gen.facts, LossKernelIdeal.Gen.facts, LossReferenceIdeal.Gen.facts,
    FfnUpKernel.Gen.facts, FfnUpKernelIdeal.Gen.facts, FfnUpReferenceIdeal.Gen.facts,
    SguKernel.Gen.facts, SguKernelIdeal.Gen.facts, SguReferenceIdeal.Gen.facts,
    MlaOKernel.Gen.facts, MlaOKernelIdeal.Gen.facts, MlaOReferenceIdeal.Gen.facts,
    ProjKernel.Gen.facts, ProjKernelIdeal.Gen.facts, ProjReferenceIdeal.Gen.facts,
    MlaKernel.Gen.facts, MlaKernelIdeal.Gen.facts, MlaReferenceIdeal.Gen.facts,
    GateKernel.Gen.facts, GateKernelIdeal.Gen.facts, GateReferenceIdeal.Gen.facts,
    ReluKernel.Gen.facts, ReluKernelIdeal.Gen.facts, ReluReferenceIdeal.Gen.facts,
    DownKernel.Gen.facts, DownKernelIdeal.Gen.facts, DownReferenceIdeal.Gen.facts,
    AttnOKernel.Gen.facts, AttnOKernelIdeal.Gen.facts, AttnOReferenceIdeal.Gen.facts,
    Pre_finite_flash.Gen.facts, Pre_finite_loss.Gen.facts, Pre_finite_ffnup.Gen.facts, Pre_finite_sgu.Gen.facts, Pre_finite_proj.Gen.facts,
    fun m ρ _ => FfnDownKernel.Gen.frame m ρ, fun m ρ _ => FfnDownKernelIdeal.Gen.frame m ρ,
    fun m ρ _ => (θ_run _ _ _).mono (fun r h => ⟨fun c => (h c).2, sem_eq_zero_of_no_sems (by decide) r.2⟩)
      (FfnDownReferenceIdeal.Value.run m ρ),
    fun m ρ _ => FlashKernel.Hand.frame m ρ, fun m ρ _ => FlashKernelIdeal.Hand.frame m ρ,
    fun m ρ _ => FlashKernelIdeal.Hand.frame m ρ,
    fun m ρ _ => (θ_run _ _ _).mono (fun r h => ⟨fun c => (h c).2.2.2, sem_eq_zero_of_no_sems (by decide) r.2⟩)
      (FlashReferenceIdeal.Value.run m ρ),
    fun m ρ _ => (θ_run _ _ _).mono (fun r h => ⟨fun c => (h c).2.2.2, sem_eq_zero_of_no_sems (by decide) r.2⟩)
      (FlashReferenceIdeal.Value.run m ρ),
    fun m ρ _ => LossKernel.Gen.frame m ρ,
    fun m ρ _ => LossKernelIdeal.Gen.frame m ρ,
    fun m ρ _ => LossKernelIdeal.Gen.frame m ρ,
    fun m ρ _ => (θ_run _ _ _).mono (fun r h => ⟨fun c => (h c).2.2.2.2, sem_eq_zero_of_no_sems (by decide) r.2⟩)
      (LossReferenceIdeal.Value.run m ρ),
    fun m ρ _ => (θ_run _ _ _).mono (fun r h => ⟨fun c => (h c).2.2.2.2, sem_eq_zero_of_no_sems (by decide) r.2⟩)
      (LossReferenceIdeal.Value.run m ρ),
    fun m ρ _ => FfnUpKernel.Gen.frame m ρ,
    fun m ρ _ => FfnUpKernelIdeal.Gen.frame m ρ,
    fun m ρ _ => FfnUpKernelIdeal.Gen.frame m ρ,
    fun m ρ _ => (θ_run _ _ _).mono (fun r h => ⟨fun c => (h c).2.2.2, sem_eq_zero_of_no_sems (by decide) r.2⟩)
      (FfnUpReferenceIdeal.Value.run m ρ),
    fun m ρ _ => (θ_run _ _ _).mono (fun r h => ⟨fun c => (h c).2.2.2, sem_eq_zero_of_no_sems (by decide) r.2⟩)
      (FfnUpReferenceIdeal.Value.run m ρ),
    fun m ρ _ => SguKernel.Gen.frame m ρ,
    fun m ρ _ => SguKernelIdeal.Gen.frame m ρ,
    fun m ρ _ => SguKernelIdeal.Gen.frame m ρ,
    fun m ρ _ => (θ_run _ _ _).mono (fun r h => ⟨fun c => (h c).2.2.2.2.2, sem_eq_zero_of_no_sems (by decide) r.2⟩)
      (SguReferenceIdeal.Value.run m ρ),
    fun m ρ _ => (θ_run _ _ _).mono (fun r h => ⟨fun c => (h c).2.2.2.2.2, sem_eq_zero_of_no_sems (by decide) r.2⟩)
      (SguReferenceIdeal.Value.run m ρ),
    fun m ρ _ => MlaOKernel.Gen.frame m ρ,
    fun m ρ _ => MlaOKernelIdeal.Gen.frame m ρ,
    fun m ρ _ => (θ_run _ _ _).mono (fun r h => ⟨fun c => (h c).2.2, sem_eq_zero_of_no_sems (by decide) r.2⟩)
      (MlaOReferenceIdeal.Value.run m ρ),
    fun m ρ _ => ProjKernel.Hand.frame m ρ,
    fun m ρ _ => ProjKernelIdeal.Hand.frame m ρ,
    fun m ρ _ => ProjKernelIdeal.Hand.frame m ρ,
    fun m ρ _ => (θ_run _ _ _).mono (fun r h => ⟨fun c => (h c).2.2.2.2.2.2.2.2, sem_eq_zero_of_no_sems (by decide) r.2⟩)
      (ProjReferenceIdeal.Value.run m ρ),
    fun m ρ _ => (θ_run _ _ _).mono (fun r h => ⟨fun c => (h c).2.2.2.2.2.2.2.2, sem_eq_zero_of_no_sems (by decide) r.2⟩)
      (ProjReferenceIdeal.Value.run m ρ),
    fun m ρ _ => MlaKernel.Gen.frame m ρ,
    fun m ρ _ => MlaKernelIdeal.Gen.frame m ρ,
    fun m ρ _ => (θ_run _ _ _).mono (fun r h => ⟨fun c => (h c).2.2.2.2.2.2.2, sem_eq_zero_of_no_sems (by decide) r.2⟩)
      (MlaReferenceIdeal.Value.run m ρ),
    fun m ρ _ => GateKernel.Gen.frame m ρ,
    fun m ρ _ => GateKernelIdeal.Gen.frame m ρ,
    fun m ρ _ => (θ_run _ _ _).mono (fun r h => ⟨fun c => (h c).2, sem_eq_zero_of_no_sems (by decide) r.2⟩)
      (GateReferenceIdeal.Value.run m ρ),
    fun m ρ _ => ReluKernel.Gen.frame m ρ,
    fun m ρ _ => ReluKernelIdeal.Gen.frame m ρ,
    fun m ρ _ => (θ_run _ _ _).mono (fun r h => ⟨fun c => (h c).2.2, sem_eq_zero_of_no_sems (by decide) r.2⟩)
      (ReluReferenceIdeal.Value.run m ρ),
    fun m ρ _ => DownKernel.Gen.frame m ρ,
    fun m ρ _ => DownKernelIdeal.Gen.frame m ρ,
    fun m ρ _ => (θ_run _ _ _).mono (fun r h => ⟨fun c => (h c).2.2, sem_eq_zero_of_no_sems (by decide) r.2⟩)
      (DownReferenceIdeal.Value.run m ρ),
    fun m ρ _ => AttnOKernel.Gen.frame m ρ,
    fun m ρ _ => AttnOKernelIdeal.Gen.frame m ρ,
    fun m ρ _ => (θ_run _ _ _).mono (fun r h => ⟨fun c => (h c).2.2, sem_eq_zero_of_no_sems (by decide) r.2⟩)
      (AttnOReferenceIdeal.Value.run m ρ),
    trivial, ffnDown, IdealRules.named_const.statement _ "inv_log2_scale" .f32 0x4119AC27#32 _ rfl, flash, trivial, loss, trivial, ffnUp, ⟨IdealRules.named_const.statement _ "rsqrt2" .f32 0x3F3504F3#32 _ rfl, IdealRules.named_const.statement _ "gauss" .f32 0x3ECC422A#32 _ rfl⟩, sgu, trivial, mlaO, trivial, proj, trivial, mla, IdealRules.named_const.statement _ "rsqrt2" .f32 0x3F3504F3#32 _ rfl, gate, trivial, relu, trivial, down, trivial, attnO⟩

end Cert.Proof
